-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_RefGdnInIdeal (m : (ℓ : Loc Cert.RefGdnInIdeal.nD Cert.RefGdnInIdeal.τ Cert.RefGdnInIdeal.sig) → Buf (Elt Ideal) ℓ) : Prop :=
  True

def Pre_GdnInBwd (m : (ℓ : Loc Cert.GdnInBwd.nD Cert.GdnInBwd.τ Cert.GdnInBwd.sig) → Buf (Elt Bits) ℓ) : Prop :=
  True

def Pre_GdnInBwdIdeal (m : (ℓ : Loc Cert.GdnInBwdIdeal.nD Cert.GdnInBwdIdeal.τ Cert.GdnInBwdIdeal.sig) → Buf (Elt Ideal) ℓ) : Prop :=
  True

def Pre_RefGdnInBwdIdeal (m : (ℓ : Loc Cert.RefGdnInBwdIdeal.nD Cert.RefGdnInBwdIdeal.τ Cert.RefGdnInBwdIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_RefFoxInIdeal (m : (ℓ : Loc Cert.RefFoxInIdeal.nD Cert.RefFoxInIdeal.τ Cert.RefFoxInIdeal.sig) → Buf (Elt Ideal) ℓ) : Prop :=
  True

def Pre_FoxInBwd (m : (ℓ : Loc Cert.FoxInBwd.nD Cert.FoxInBwd.τ Cert.FoxInBwd.sig) → Buf (Elt Bits) ℓ) : Prop :=
  True

def Pre_FoxInBwdIdeal (m : (ℓ : Loc Cert.FoxInBwdIdeal.nD Cert.FoxInBwdIdeal.τ Cert.FoxInBwdIdeal.sig) → Buf (Elt Ideal) ℓ) : Prop :=
  True

def Pre_RefFoxInBwdIdeal (m : (ℓ : Loc Cert.RefFoxInBwdIdeal.nD Cert.RefFoxInBwdIdeal.τ Cert.RefFoxInBwdIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_RefGdnOutIdeal (m : (ℓ : Loc Cert.RefGdnOutIdeal.nD Cert.RefGdnOutIdeal.τ Cert.RefGdnOutIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_AdamGdnIn (m : (ℓ : Loc Cert.AdamGdnIn.nD Cert.AdamGdnIn.τ Cert.AdamGdnIn.sig) → Buf (Elt Bits) ℓ) : Prop :=
  True

def Pre_AdamGdnInIdeal (m : (ℓ : Loc Cert.AdamGdnInIdeal.nD Cert.AdamGdnInIdeal.τ Cert.AdamGdnInIdeal.sig) → Buf (Elt Ideal) ℓ) : Prop :=
  True

def Pre_RefAdamGdnInIdeal (m : (ℓ : Loc Cert.RefAdamGdnInIdeal.nD Cert.RefAdamGdnInIdeal.τ Cert.RefAdamGdnInIdeal.sig) → Buf (Elt Ideal) ℓ) : Prop :=
  True

def Pre_AdamGdnOut (m : (ℓ : Loc Cert.AdamGdnOut.nD Cert.AdamGdnOut.τ Cert.AdamGdnOut.sig) → Buf (Elt Bits) ℓ) : Prop :=
  True

def Pre_AdamGdnOutIdeal (m : (ℓ : Loc Cert.AdamGdnOutIdeal.nD Cert.AdamGdnOutIdeal.τ Cert.AdamGdnOutIdeal.sig) → Buf (Elt Ideal) ℓ) : Prop :=
  True

def Pre_RefAdamGdnOutIdeal (m : (ℓ : Loc Cert.RefAdamGdnOutIdeal.nD Cert.RefAdamGdnOutIdeal.τ Cert.RefAdamGdnOutIdeal.sig) → Buf (Elt Ideal) ℓ) : Prop :=
  True

def Pre_AdamFoxIn (m : (ℓ : Loc Cert.AdamFoxIn.nD Cert.AdamFoxIn.τ Cert.AdamFoxIn.sig) → Buf (Elt Bits) ℓ) : Prop :=
  True

def Pre_AdamFoxInIdeal (m : (ℓ : Loc Cert.AdamFoxInIdeal.nD Cert.AdamFoxInIdeal.τ Cert.AdamFoxInIdeal.sig) → Buf (Elt Ideal) ℓ) : Prop :=
  True

def Pre_RefAdamFoxInIdeal (m : (ℓ : Loc Cert.RefAdamFoxInIdeal.nD Cert.RefAdamFoxInIdeal.τ Cert.RefAdamFoxInIdeal.sig) → Buf (Elt Ideal) ℓ) : Prop :=
  True

def Pre_AdamFoxOut (m : (ℓ : Loc Cert.AdamFoxOut.nD Cert.AdamFoxOut.τ Cert.AdamFoxOut.sig) → Buf (Elt Bits) ℓ) : Prop :=
  True

def Pre_AdamFoxOutIdeal (m : (ℓ : Loc Cert.AdamFoxOutIdeal.nD Cert.AdamFoxOutIdeal.τ Cert.AdamFoxOutIdeal.sig) → Buf (Elt Ideal) ℓ) : Prop :=
  True

def Pre_RefAdamFoxOutIdeal (m : (ℓ : Loc Cert.RefAdamFoxOutIdeal.nD Cert.RefAdamFoxOutIdeal.τ Cert.RefAdamFoxOutIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_RefAdamConvIdeal (m : (ℓ : Loc Cert.RefAdamConvIdeal.nD Cert.RefAdamConvIdeal.τ Cert.RefAdamConvIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_RefAdamAdaIdeal (m : (ℓ : Loc Cert.RefAdamAdaIdeal.nD Cert.RefAdamAdaIdeal.τ Cert.RefAdamAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2)
      ∧ r.2.mem ((c.tc : Thread Cert.GdnIn.nD Cert.GdnIn.τ).loc Cert.GdnIn.main_arg3) = m ((c.tc : Thread Cert.GdnIn.nD Cert.GdnIn.τ).loc Cert.GdnIn.main_arg3)
      ∧ r.2.mem ((c.tc : Thread Cert.GdnIn.nD Cert.GdnIn.τ).loc Cert.GdnIn.main_arg4) = m ((c.tc : Thread Cert.GdnIn.nD Cert.GdnIn.τ).loc Cert.GdnIn.main_arg4)
      ∧ r.2.mem ((c.tc : Thread Cert.GdnIn.nD Cert.GdnIn.τ).loc Cert.GdnIn.main_arg5) = m ((c.tc : Thread Cert.GdnIn.nD Cert.GdnIn.τ).loc Cert.GdnIn.main_arg5))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
      ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3)
      ∧ r.2.mem ((c.tc : Thread Cert.GdnInIdeal.nD Cert.GdnInIdeal.τ).loc Cert.GdnInIdeal.main_arg4) = m ((c.tc : Thread Cert.GdnInIdeal.nD Cert.GdnInIdeal.τ).loc Cert.GdnInIdeal.main_arg4)
      ∧ r.2.mem ((c.tc : Thread Cert.GdnInIdeal.nD Cert.GdnInIdeal.τ).loc Cert.GdnInIdeal.main_arg5) = m ((c.tc : Thread Cert.GdnInIdeal.nD Cert.GdnInIdeal.τ).loc Cert.GdnInIdeal.main_arg5))
      ∧ r.2.sem = fun _ => 0)

def quiescent_RefGdnInIdeal [hRefGdnInIdeal : Cert.RefGdnInIdeal.Facts] : Prop :=
  ∀ (m : (ℓ : Loc Cert.RefGdnInIdeal.nD Cert.RefGdnInIdeal.τ Cert.RefGdnInIdeal.sig) → Buf (Elt Ideal) ℓ) (g : Dev Cert.RefGdnInIdeal.nD → PrngReg), Pre_RefGdnInIdeal m →
    θ_run (Cert.RefGdnInIdeal.defs (F := Ideal)) (onTc (τ := Cert.RefGdnInIdeal.τ) (Cert.RefGdnInIdeal.main (F := Ideal))) ⟨m, fun _ => 0, g⟩ (fun r => (∀ c : Dev Cert.RefGdnInIdeal.nD,
      r.2.mem ((c.tc : Thread Cert.RefGdnInIdeal.nD Cert.RefGdnInIdeal.τ).loc Cert.RefGdnInIdeal.main_arg0) = m ((c.tc : Thread Cert.RefGdnInIdeal.nD Cert.RefGdnInIdeal.τ).loc Cert.RefGdnInIdeal.main_arg0)
      ∧ r.2.mem ((c.tc : Thread Cert.RefGdnInIdeal.nD Cert.RefGdnInIdeal.τ).loc Cert.RefGdnInIdeal.main_arg1) = m ((c.tc : Thread Cert.RefGdnInIdeal.nD Cert.RefGdnInIdeal.τ).loc Cert.RefGdnInIdeal.main_arg1)
      ∧ r.2.mem ((c.tc : Thread Cert.RefGdnInIdeal.nD Cert.RefGdnInIdeal.τ).loc Cert.RefGdnInIdeal.main_arg2) = m ((c.tc : Thread Cert.RefGdnInIdeal.nD Cert.RefGdnInIdeal.τ).loc Cert.RefGdnInIdeal.main_arg2)
      ∧ r.2.mem ((c.tc : Thread Cert.RefGdnInIdeal.nD Cert.RefGdnInIdeal.τ).loc Cert.RefGdnInIdeal.main_arg3) = m ((c.tc : Thread Cert.RefGdnInIdeal.nD Cert.RefGdnInIdeal.τ).loc Cert.RefGdnInIdeal.main_arg3)
      ∧ r.2.mem ((c.tc : Thread Cert.RefGdnInIdeal.nD Cert.RefGdnInIdeal.τ).loc Cert.RefGdnInIdeal.main_arg4) = m ((c.tc : Thread Cert.RefGdnInIdeal.nD Cert.RefGdnInIdeal.τ).loc Cert.RefGdnInIdeal.main_arg4)
      ∧ r.2.mem ((c.tc : Thread Cert.RefGdnInIdeal.nD Cert.RefGdnInIdeal.τ).loc Cert.RefGdnInIdeal.main_arg5) = m ((c.tc : Thread Cert.RefGdnInIdeal.nD Cert.RefGdnInIdeal.τ).loc Cert.RefGdnInIdeal.main_arg5))
      ∧ r.2.sem = fun _ => 0)

def quiescent_GdnInBwd [hGdnInBwd : Cert.GdnInBwd.Facts] : Prop :=
  ∀ (m : (ℓ : Loc Cert.GdnInBwd.nD Cert.GdnInBwd.τ Cert.GdnInBwd.sig) → Buf (Elt Bits) ℓ) (g : Dev Cert.GdnInBwd.nD → PrngReg), Pre_GdnInBwd m →
    θ_run (Cert.GdnInBwd.defs (F := Bits)) (onTc (τ := Cert.GdnInBwd.τ) (Cert.GdnInBwd.main (F := Bits))) ⟨m, fun _ => 0, g⟩ (fun r => (∀ c : Dev Cert.GdnInBwd.nD,
      r.2.mem ((c.tc : Thread Cert.GdnInBwd.nD Cert.GdnInBwd.τ).loc Cert.GdnInBwd.main_arg0) = m ((c.tc : Thread Cert.GdnInBwd.nD Cert.GdnInBwd.τ).loc Cert.GdnInBwd.main_arg0)
      ∧ r.2.mem ((c.tc : Thread Cert.GdnInBwd.nD Cert.GdnInBwd.τ).loc Cert.GdnInBwd.main_arg1) = m ((c.tc : Thread Cert.GdnInBwd.nD Cert.GdnInBwd.τ).loc Cert.GdnInBwd.main_arg1)
      ∧ r.2.mem ((c.tc : Thread Cert.GdnInBwd.nD Cert.GdnInBwd.τ).loc Cert.GdnInBwd.main_arg2) = m ((c.tc : Thread Cert.GdnInBwd.nD Cert.GdnInBwd.τ).loc Cert.GdnInBwd.main_arg2)
      ∧ r.2.mem ((c.tc : Thread Cert.GdnInBwd.nD Cert.GdnInBwd.τ).loc Cert.GdnInBwd.main_arg3) = m ((c.tc : Thread Cert.GdnInBwd.nD Cert.GdnInBwd.τ).loc Cert.GdnInBwd.main_arg3)
      ∧ r.2.mem ((c.tc : Thread Cert.GdnInBwd.nD Cert.GdnInBwd.τ).loc Cert.GdnInBwd.main_arg4) = m ((c.tc : Thread Cert.GdnInBwd.nD Cert.GdnInBwd.τ).loc Cert.GdnInBwd.main_arg4)
      ∧ r.2.mem ((c.tc : Thread Cert.GdnInBwd.nD Cert.GdnInBwd.τ).loc Cert.GdnInBwd.main_arg5) = m ((c.tc : Thread Cert.GdnInBwd.nD Cert.GdnInBwd.τ).loc Cert.GdnInBwd.main_arg5)
      ∧ r.2.mem ((c.tc : Thread Cert.GdnInBwd.nD Cert.GdnInBwd.τ).loc Cert.GdnInBwd.main_arg6) = m ((c.tc : Thread Cert.GdnInBwd.nD Cert.GdnInBwd.τ).loc Cert.GdnInBwd.main_arg6))
      ∧ r.2.sem = fun _ => 0)

def quiescent_GdnInBwdIdeal [hGdnInBwdIdeal : Cert.GdnInBwdIdeal.Facts] : Prop :=
  ∀ (m : (ℓ : Loc Cert.GdnInBwdIdeal.nD Cert.GdnInBwdIdeal.τ Cert.GdnInBwdIdeal.sig) → Buf (Elt Ideal) ℓ) (g : Dev Cert.GdnInBwdIdeal.nD → PrngReg), Pre_GdnInBwdIdeal m →
    θ_run (Cert.GdnInBwdIdeal.defs (F := Ideal)) (onTc (τ := Cert.GdnInBwdIdeal.τ) (Cert.GdnInBwdIdeal.main (F := Ideal))) ⟨m, fun _ => 0, g⟩ (fun r => (∀ c : Dev Cert.GdnInBwdIdeal.nD,
      r.2.mem ((c.tc : Thread Cert.GdnInBwdIdeal.nD Cert.GdnInBwdIdeal.τ).loc Cert.GdnInBwdIdeal.main_arg0) = m ((c.tc : Thread Cert.GdnInBwdIdeal.nD Cert.GdnInBwdIdeal.τ).loc Cert.GdnInBwdIdeal.main_arg0)
      ∧ r.2.mem ((c.tc : Thread Cert.GdnInBwdIdeal.nD Cert.GdnInBwdIdeal.τ).loc Cert.GdnInBwdIdeal.main_arg1) = m ((c.tc : Thread Cert.GdnInBwdIdeal.nD Cert.GdnInBwdIdeal.τ).loc Cert.GdnInBwdIdeal.main_arg1)
      ∧ r.2.mem ((c.tc : Thread Cert.GdnInBwdIdeal.nD Cert.GdnInBwdIdeal.τ).loc Cert.GdnInBwdIdeal.main_arg2) = m ((c.tc : Thread Cert.GdnInBwdIdeal.nD Cert.GdnInBwdIdeal.τ).loc Cert.GdnInBwdIdeal.main_arg2)
      ∧ r.2.mem ((c.tc : Thread Cert.GdnInBwdIdeal.nD Cert.GdnInBwdIdeal.τ).loc Cert.GdnInBwdIdeal.main_arg3) = m ((c.tc : Thread Cert.GdnInBwdIdeal.nD Cert.GdnInBwdIdeal.τ).loc Cert.GdnInBwdIdeal.main_arg3)
      ∧ r.2.mem ((c.tc : Thread Cert.GdnInBwdIdeal.nD Cert.GdnInBwdIdeal.τ).loc Cert.GdnInBwdIdeal.main_arg4) = m ((c.tc : Thread Cert.GdnInBwdIdeal.nD Cert.GdnInBwdIdeal.τ).loc Cert.GdnInBwdIdeal.main_arg4)
      ∧ r.2.mem ((c.tc : Thread Cert.GdnInBwdIdeal.nD Cert.GdnInBwdIdeal.τ).loc Cert.GdnInBwdIdeal.main_arg5) = m ((c.tc : Thread Cert.GdnInBwdIdeal.nD Cert.GdnInBwdIdeal.τ).loc Cert.GdnInBwdIdeal.main_arg5)
      ∧ r.2.mem ((c.tc : Thread Cert.GdnInBwdIdeal.nD Cert.GdnInBwdIdeal.τ).loc Cert.GdnInBwdIdeal.main_arg6) = m ((c.tc : Thread Cert.GdnInBwdIdeal.nD Cert.GdnInBwdIdeal.τ).loc Cert.GdnInBwdIdeal.main_arg6))
      ∧ r.2.sem = fun _ => 0)

def quiescent_RefGdnInBwdIdeal [hRefGdnInBwdIdeal : Cert.RefGdnInBwdIdeal.Facts] : Prop :=
  ∀ (m : (ℓ : Loc Cert.RefGdnInBwdIdeal.nD Cert.RefGdnInBwdIdeal.τ Cert.RefGdnInBwdIdeal.sig) → Buf (Elt Ideal) ℓ) (g : Dev Cert.RefGdnInBwdIdeal.nD → PrngReg), Pre_RefGdnInBwdIdeal m →
    θ_run (Cert.RefGdnInBwdIdeal.defs (F := Ideal)) (onTc (τ := Cert.RefGdnInBwdIdeal.τ) (Cert.RefGdnInBwdIdeal.main (F := Ideal))) ⟨m, fun _ => 0, g⟩ (fun r => (∀ c : Dev Cert.RefGdnInBwdIdeal.nD,
      r.2.mem ((c.tc : Thread Cert.RefGdnInBwdIdeal.nD Cert.RefGdnInBwdIdeal.τ).loc Cert.RefGdnInBwdIdeal.main_arg0) = m ((c.tc : Thread Cert.RefGdnInBwdIdeal.nD Cert.RefGdnInBwdIdeal.τ).loc Cert.RefGdnInBwdIdeal.main_arg0)
      ∧ r.2.mem ((c.tc : Thread Cert.RefGdnInBwdIdeal.nD Cert.RefGdnInBwdIdeal.τ).loc Cert.RefGdnInBwdIdeal.main_arg1) = m ((c.tc : Thread Cert.RefGdnInBwdIdeal.nD Cert.RefGdnInBwdIdeal.τ).loc Cert.RefGdnInBwdIdeal.main_arg1)
      ∧ r.2.mem ((c.tc : Thread Cert.RefGdnInBwdIdeal.nD Cert.RefGdnInBwdIdeal.τ).loc Cert.RefGdnInBwdIdeal.main_arg2) = m ((c.tc : Thread Cert.RefGdnInBwdIdeal.nD Cert.RefGdnInBwdIdeal.τ).loc Cert.RefGdnInBwdIdeal.main_arg2)
      ∧ r.2.mem ((c.tc : Thread Cert.RefGdnInBwdIdeal.nD Cert.RefGdnInBwdIdeal.τ).loc Cert.RefGdnInBwdIdeal.main_arg3) = m ((c.tc : Thread Cert.RefGdnInBwdIdeal.nD Cert.RefGdnInBwdIdeal.τ).loc Cert.RefGdnInBwdIdeal.main_arg3)
      ∧ r.2.mem ((c.tc : Thread Cert.RefGdnInBwdIdeal.nD Cert.RefGdnInBwdIdeal.τ).loc Cert.RefGdnInBwdIdeal.main_arg4) = m ((c.tc : Thread Cert.RefGdnInBwdIdeal.nD Cert.RefGdnInBwdIdeal.τ).loc Cert.RefGdnInBwdIdeal.main_arg4)
      ∧ r.2.mem ((c.tc : Thread Cert.RefGdnInBwdIdeal.nD Cert.RefGdnInBwdIdeal.τ).loc Cert.RefGdnInBwdIdeal.main_arg5) = m ((c.tc : Thread Cert.RefGdnInBwdIdeal.nD Cert.RefGdnInBwdIdeal.τ).loc Cert.RefGdnInBwdIdeal.main_arg5)
      ∧ r.2.mem ((c.tc : Thread Cert.RefGdnInBwdIdeal.nD Cert.RefGdnInBwdIdeal.τ).loc Cert.RefGdnInBwdIdeal.main_arg6) = m ((c.tc : Thread Cert.RefGdnInBwdIdeal.nD Cert.RefGdnInBwdIdeal.τ).loc Cert.RefGdnInBwdIdeal.main_arg6))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1)
      ∧ r.2.mem ((c.tc : Thread Cert.FoxIn.nD Cert.FoxIn.τ).loc Cert.FoxIn.main_arg2) = m ((c.tc : Thread Cert.FoxIn.nD Cert.FoxIn.τ).loc Cert.FoxIn.main_arg2)
      ∧ r.2.mem ((c.tc : Thread Cert.FoxIn.nD Cert.FoxIn.τ).loc Cert.FoxIn.main_arg3) = m ((c.tc : Thread Cert.FoxIn.nD Cert.FoxIn.τ).loc Cert.FoxIn.main_arg3)
      ∧ r.2.mem ((c.tc : Thread Cert.FoxIn.nD Cert.FoxIn.τ).loc Cert.FoxIn.main_arg4) = m ((c.tc : Thread Cert.FoxIn.nD Cert.FoxIn.τ).loc Cert.FoxIn.main_arg4)
      ∧ r.2.mem ((c.tc : Thread Cert.FoxIn.nD Cert.FoxIn.τ).loc Cert.FoxIn.main_arg5) = m ((c.tc : Thread Cert.FoxIn.nD Cert.FoxIn.τ).loc Cert.FoxIn.main_arg5))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1)
      ∧ r.2.mem ((c.tc : Thread Cert.FoxInIdeal.nD Cert.FoxInIdeal.τ).loc Cert.FoxInIdeal.main_arg2) = m ((c.tc : Thread Cert.FoxInIdeal.nD Cert.FoxInIdeal.τ).loc Cert.FoxInIdeal.main_arg2)
      ∧ r.2.mem ((c.tc : Thread Cert.FoxInIdeal.nD Cert.FoxInIdeal.τ).loc Cert.FoxInIdeal.main_arg3) = m ((c.tc : Thread Cert.FoxInIdeal.nD Cert.FoxInIdeal.τ).loc Cert.FoxInIdeal.main_arg3)
      ∧ r.2.mem ((c.tc : Thread Cert.FoxInIdeal.nD Cert.FoxInIdeal.τ).loc Cert.FoxInIdeal.main_arg4) = m ((c.tc : Thread Cert.FoxInIdeal.nD Cert.FoxInIdeal.τ).loc Cert.FoxInIdeal.main_arg4)
      ∧ r.2.mem ((c.tc : Thread Cert.FoxInIdeal.nD Cert.FoxInIdeal.τ).loc Cert.FoxInIdeal.main_arg5) = m ((c.tc : Thread Cert.FoxInIdeal.nD Cert.FoxInIdeal.τ).loc Cert.FoxInIdeal.main_arg5))
      ∧ r.2.sem = fun _ => 0)

def quiescent_RefFoxInIdeal [hRefFoxInIdeal : Cert.RefFoxInIdeal.Facts] : Prop :=
  ∀ (m : (ℓ : Loc Cert.RefFoxInIdeal.nD Cert.RefFoxInIdeal.τ Cert.RefFoxInIdeal.sig) → Buf (Elt Ideal) ℓ) (g : Dev Cert.RefFoxInIdeal.nD → PrngReg), Pre_RefFoxInIdeal m →
    θ_run (Cert.RefFoxInIdeal.defs (F := Ideal)) (onTc (τ := Cert.RefFoxInIdeal.τ) (Cert.RefFoxInIdeal.main (F := Ideal))) ⟨m, fun _ => 0, g⟩ (fun r => (∀ c : Dev Cert.RefFoxInIdeal.nD,
      r.2.mem ((c.tc : Thread Cert.RefFoxInIdeal.nD Cert.RefFoxInIdeal.τ).loc Cert.RefFoxInIdeal.main_arg0) = m ((c.tc : Thread Cert.RefFoxInIdeal.nD Cert.RefFoxInIdeal.τ).loc Cert.RefFoxInIdeal.main_arg0)
      ∧ r.2.mem ((c.tc : Thread Cert.RefFoxInIdeal.nD Cert.RefFoxInIdeal.τ).loc Cert.RefFoxInIdeal.main_arg1) = m ((c.tc : Thread Cert.RefFoxInIdeal.nD Cert.RefFoxInIdeal.τ).loc Cert.RefFoxInIdeal.main_arg1)
      ∧ r.2.mem ((c.tc : Thread Cert.RefFoxInIdeal.nD Cert.RefFoxInIdeal.τ).loc Cert.RefFoxInIdeal.main_arg2) = m ((c.tc : Thread Cert.RefFoxInIdeal.nD Cert.RefFoxInIdeal.τ).loc Cert.RefFoxInIdeal.main_arg2)
      ∧ r.2.mem ((c.tc : Thread Cert.RefFoxInIdeal.nD Cert.RefFoxInIdeal.τ).loc Cert.RefFoxInIdeal.main_arg3) = m ((c.tc : Thread Cert.RefFoxInIdeal.nD Cert.RefFoxInIdeal.τ).loc Cert.RefFoxInIdeal.main_arg3)
      ∧ r.2.mem ((c.tc : Thread Cert.RefFoxInIdeal.nD Cert.RefFoxInIdeal.τ).loc Cert.RefFoxInIdeal.main_arg4) = m ((c.tc : Thread Cert.RefFoxInIdeal.nD Cert.RefFoxInIdeal.τ).loc Cert.RefFoxInIdeal.main_arg4)
      ∧ r.2.mem ((c.tc : Thread Cert.RefFoxInIdeal.nD Cert.RefFoxInIdeal.τ).loc Cert.RefFoxInIdeal.main_arg5) = m ((c.tc : Thread Cert.RefFoxInIdeal.nD Cert.RefFoxInIdeal.τ).loc Cert.RefFoxInIdeal.main_arg5))
      ∧ r.2.sem = fun _ => 0)

def quiescent_FoxInBwd [hFoxInBwd : Cert.FoxInBwd.Facts] : Prop :=
  ∀ (m : (ℓ : Loc Cert.FoxInBwd.nD Cert.FoxInBwd.τ Cert.FoxInBwd.sig) → Buf (Elt Bits) ℓ) (g : Dev Cert.FoxInBwd.nD → PrngReg), Pre_FoxInBwd m →
    θ_run (Cert.FoxInBwd.defs (F := Bits)) (onTc (τ := Cert.FoxInBwd.τ) (Cert.FoxInBwd.main (F := Bits))) ⟨m, fun _ => 0, g⟩ (fun r => (∀ c : Dev Cert.FoxInBwd.nD,
      r.2.mem ((c.tc : Thread Cert.FoxInBwd.nD Cert.FoxInBwd.τ).loc Cert.FoxInBwd.main_arg0) = m ((c.tc : Thread Cert.FoxInBwd.nD Cert.FoxInBwd.τ).loc Cert.FoxInBwd.main_arg0)
      ∧ r.2.mem ((c.tc : Thread Cert.FoxInBwd.nD Cert.FoxInBwd.τ).loc Cert.FoxInBwd.main_arg1) = m ((c.tc : Thread Cert.FoxInBwd.nD Cert.FoxInBwd.τ).loc Cert.FoxInBwd.main_arg1)
      ∧ r.2.mem ((c.tc : Thread Cert.FoxInBwd.nD Cert.FoxInBwd.τ).loc Cert.FoxInBwd.main_arg2) = m ((c.tc : Thread Cert.FoxInBwd.nD Cert.FoxInBwd.τ).loc Cert.FoxInBwd.main_arg2)
      ∧ r.2.mem ((c.tc : Thread Cert.FoxInBwd.nD Cert.FoxInBwd.τ).loc Cert.FoxInBwd.main_arg3) = m ((c.tc : Thread Cert.FoxInBwd.nD Cert.FoxInBwd.τ).loc Cert.FoxInBwd.main_arg3)
      ∧ r.2.mem ((c.tc : Thread Cert.FoxInBwd.nD Cert.FoxInBwd.τ).loc Cert.FoxInBwd.main_arg4) = m ((c.tc : Thread Cert.FoxInBwd.nD Cert.FoxInBwd.τ).loc Cert.FoxInBwd.main_arg4)
      ∧ r.2.mem ((c.tc : Thread Cert.FoxInBwd.nD Cert.FoxInBwd.τ).loc Cert.FoxInBwd.main_arg5) = m ((c.tc : Thread Cert.FoxInBwd.nD Cert.FoxInBwd.τ).loc Cert.FoxInBwd.main_arg5)
      ∧ r.2.mem ((c.tc : Thread Cert.FoxInBwd.nD Cert.FoxInBwd.τ).loc Cert.FoxInBwd.main_arg6) = m ((c.tc : Thread Cert.FoxInBwd.nD Cert.FoxInBwd.τ).loc Cert.FoxInBwd.main_arg6))
      ∧ r.2.sem = fun _ => 0)

def quiescent_FoxInBwdIdeal [hFoxInBwdIdeal : Cert.FoxInBwdIdeal.Facts] : Prop :=
  ∀ (m : (ℓ : Loc Cert.FoxInBwdIdeal.nD Cert.FoxInBwdIdeal.τ Cert.FoxInBwdIdeal.sig) → Buf (Elt Ideal) ℓ) (g : Dev Cert.FoxInBwdIdeal.nD → PrngReg), Pre_FoxInBwdIdeal m →
    θ_run (Cert.FoxInBwdIdeal.defs (F := Ideal)) (onTc (τ := Cert.FoxInBwdIdeal.τ) (Cert.FoxInBwdIdeal.main (F := Ideal))) ⟨m, fun _ => 0, g⟩ (fun r => (∀ c : Dev Cert.FoxInBwdIdeal.nD,
      r.2.mem ((c.tc : Thread Cert.FoxInBwdIdeal.nD Cert.FoxInBwdIdeal.τ).loc Cert.FoxInBwdIdeal.main_arg0) = m ((c.tc : Thread Cert.FoxInBwdIdeal.nD Cert.FoxInBwdIdeal.τ).loc Cert.FoxInBwdIdeal.main_arg0)
      ∧ r.2.mem ((c.tc : Thread Cert.FoxInBwdIdeal.nD Cert.FoxInBwdIdeal.τ).loc Cert.FoxInBwdIdeal.main_arg1) = m ((c.tc : Thread Cert.FoxInBwdIdeal.nD Cert.FoxInBwdIdeal.τ).loc Cert.FoxInBwdIdeal.main_arg1)
      ∧ r.2.mem ((c.tc : Thread Cert.FoxInBwdIdeal.nD Cert.FoxInBwdIdeal.τ).loc Cert.FoxInBwdIdeal.main_arg2) = m ((c.tc : Thread Cert.FoxInBwdIdeal.nD Cert.FoxInBwdIdeal.τ).loc Cert.FoxInBwdIdeal.main_arg2)
      ∧ r.2.mem ((c.tc : Thread Cert.FoxInBwdIdeal.nD Cert.FoxInBwdIdeal.τ).loc Cert.FoxInBwdIdeal.main_arg3) = m ((c.tc : Thread Cert.FoxInBwdIdeal.nD Cert.FoxInBwdIdeal.τ).loc Cert.FoxInBwdIdeal.main_arg3)
      ∧ r.2.mem ((c.tc : Thread Cert.FoxInBwdIdeal.nD Cert.FoxInBwdIdeal.τ).loc Cert.FoxInBwdIdeal.main_arg4) = m ((c.tc : Thread Cert.FoxInBwdIdeal.nD Cert.FoxInBwdIdeal.τ).loc Cert.FoxInBwdIdeal.main_arg4)
      ∧ r.2.mem ((c.tc : Thread Cert.FoxInBwdIdeal.nD Cert.FoxInBwdIdeal.τ).loc Cert.FoxInBwdIdeal.main_arg5) = m ((c.tc : Thread Cert.FoxInBwdIdeal.nD Cert.FoxInBwdIdeal.τ).loc Cert.FoxInBwdIdeal.main_arg5)
      ∧ r.2.mem ((c.tc : Thread Cert.FoxInBwdIdeal.nD Cert.FoxInBwdIdeal.τ).loc Cert.FoxInBwdIdeal.main_arg6) = m ((c.tc : Thread Cert.FoxInBwdIdeal.nD Cert.FoxInBwdIdeal.τ).loc Cert.FoxInBwdIdeal.main_arg6))
      ∧ r.2.sem = fun _ => 0)

def quiescent_RefFoxInBwdIdeal [hRefFoxInBwdIdeal : Cert.RefFoxInBwdIdeal.Facts] : Prop :=
  ∀ (m : (ℓ : Loc Cert.RefFoxInBwdIdeal.nD Cert.RefFoxInBwdIdeal.τ Cert.RefFoxInBwdIdeal.sig) → Buf (Elt Ideal) ℓ) (g : Dev Cert.RefFoxInBwdIdeal.nD → PrngReg), Pre_RefFoxInBwdIdeal m →
    θ_run (Cert.RefFoxInBwdIdeal.defs (F := Ideal)) (onTc (τ := Cert.RefFoxInBwdIdeal.τ) (Cert.RefFoxInBwdIdeal.main (F := Ideal))) ⟨m, fun _ => 0, g⟩ (fun r => (∀ c : Dev Cert.RefFoxInBwdIdeal.nD,
      r.2.mem ((c.tc : Thread Cert.RefFoxInBwdIdeal.nD Cert.RefFoxInBwdIdeal.τ).loc Cert.RefFoxInBwdIdeal.main_arg0) = m ((c.tc : Thread Cert.RefFoxInBwdIdeal.nD Cert.RefFoxInBwdIdeal.τ).loc Cert.RefFoxInBwdIdeal.main_arg0)
      ∧ r.2.mem ((c.tc : Thread Cert.RefFoxInBwdIdeal.nD Cert.RefFoxInBwdIdeal.τ).loc Cert.RefFoxInBwdIdeal.main_arg1) = m ((c.tc : Thread Cert.RefFoxInBwdIdeal.nD Cert.RefFoxInBwdIdeal.τ).loc Cert.RefFoxInBwdIdeal.main_arg1)
      ∧ r.2.mem ((c.tc : Thread Cert.RefFoxInBwdIdeal.nD Cert.RefFoxInBwdIdeal.τ).loc Cert.RefFoxInBwdIdeal.main_arg2) = m ((c.tc : Thread Cert.RefFoxInBwdIdeal.nD Cert.RefFoxInBwdIdeal.τ).loc Cert.RefFoxInBwdIdeal.main_arg2)
      ∧ r.2.mem ((c.tc : Thread Cert.RefFoxInBwdIdeal.nD Cert.RefFoxInBwdIdeal.τ).loc Cert.RefFoxInBwdIdeal.main_arg3) = m ((c.tc : Thread Cert.RefFoxInBwdIdeal.nD Cert.RefFoxInBwdIdeal.τ).loc Cert.RefFoxInBwdIdeal.main_arg3)
      ∧ r.2.mem ((c.tc : Thread Cert.RefFoxInBwdIdeal.nD Cert.RefFoxInBwdIdeal.τ).loc Cert.RefFoxInBwdIdeal.main_arg4) = m ((c.tc : Thread Cert.RefFoxInBwdIdeal.nD Cert.RefFoxInBwdIdeal.τ).loc Cert.RefFoxInBwdIdeal.main_arg4)
      ∧ r.2.mem ((c.tc : Thread Cert.RefFoxInBwdIdeal.nD Cert.RefFoxInBwdIdeal.τ).loc Cert.RefFoxInBwdIdeal.main_arg5) = m ((c.tc : Thread Cert.RefFoxInBwdIdeal.nD Cert.RefFoxInBwdIdeal.τ).loc Cert.RefFoxInBwdIdeal.main_arg5)
      ∧ r.2.mem ((c.tc : Thread Cert.RefFoxInBwdIdeal.nD Cert.RefFoxInBwdIdeal.τ).loc Cert.RefFoxInBwdIdeal.main_arg6) = m ((c.tc : Thread Cert.RefFoxInBwdIdeal.nD Cert.RefFoxInBwdIdeal.τ).loc Cert.RefFoxInBwdIdeal.main_arg6))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4)
      ∧ r.2.mem ((c.tc : Thread Cert.GdnOut.nD Cert.GdnOut.τ).loc Cert.GdnOut.main_arg5) = m ((c.tc : Thread Cert.GdnOut.nD Cert.GdnOut.τ).loc Cert.GdnOut.main_arg5)
      ∧ r.2.mem ((c.tc : Thread Cert.GdnOut.nD Cert.GdnOut.τ).loc Cert.GdnOut.main_arg6) = m ((c.tc : Thread Cert.GdnOut.nD Cert.GdnOut.τ).loc Cert.GdnOut.main_arg6))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4)
      ∧ r.2.mem ((c.tc : Thread Cert.GdnOutIdeal.nD Cert.GdnOutIdeal.τ).loc Cert.GdnOutIdeal.main_arg5) = m ((c.tc : Thread Cert.GdnOutIdeal.nD Cert.GdnOutIdeal.τ).loc Cert.GdnOutIdeal.main_arg5)
      ∧ r.2.mem ((c.tc : Thread Cert.GdnOutIdeal.nD Cert.GdnOutIdeal.τ).loc Cert.GdnOutIdeal.main_arg6) = m ((c.tc : Thread Cert.GdnOutIdeal.nD Cert.GdnOutIdeal.τ).loc Cert.GdnOutIdeal.main_arg6))
      ∧ r.2.sem = fun _ => 0)

def quiescent_RefGdnOutIdeal [hRefGdnOutIdeal : Cert.RefGdnOutIdeal.Facts] : Prop :=
  ∀ (m : (ℓ : Loc Cert.RefGdnOutIdeal.nD Cert.RefGdnOutIdeal.τ Cert.RefGdnOutIdeal.sig) → Buf (Elt Ideal) ℓ) (g : Dev Cert.RefGdnOutIdeal.nD → PrngReg), Pre_RefGdnOutIdeal m →
    θ_run (Cert.RefGdnOutIdeal.defs (F := Ideal)) (onTc (τ := Cert.RefGdnOutIdeal.τ) (Cert.RefGdnOutIdeal.main (F := Ideal))) ⟨m, fun _ => 0, g⟩ (fun r => (∀ c : Dev Cert.RefGdnOutIdeal.nD,
      r.2.mem ((c.tc : Thread Cert.RefGdnOutIdeal.nD Cert.RefGdnOutIdeal.τ).loc Cert.RefGdnOutIdeal.main_arg0) = m ((c.tc : Thread Cert.RefGdnOutIdeal.nD Cert.RefGdnOutIdeal.τ).loc Cert.RefGdnOutIdeal.main_arg0)
      ∧ r.2.mem ((c.tc : Thread Cert.RefGdnOutIdeal.nD Cert.RefGdnOutIdeal.τ).loc Cert.RefGdnOutIdeal.main_arg1) = m ((c.tc : Thread Cert.RefGdnOutIdeal.nD Cert.RefGdnOutIdeal.τ).loc Cert.RefGdnOutIdeal.main_arg1)
      ∧ r.2.mem ((c.tc : Thread Cert.RefGdnOutIdeal.nD Cert.RefGdnOutIdeal.τ).loc Cert.RefGdnOutIdeal.main_arg2) = m ((c.tc : Thread Cert.RefGdnOutIdeal.nD Cert.RefGdnOutIdeal.τ).loc Cert.RefGdnOutIdeal.main_arg2)
      ∧ r.2.mem ((c.tc : Thread Cert.RefGdnOutIdeal.nD Cert.RefGdnOutIdeal.τ).loc Cert.RefGdnOutIdeal.main_arg3) = m ((c.tc : Thread Cert.RefGdnOutIdeal.nD Cert.RefGdnOutIdeal.τ).loc Cert.RefGdnOutIdeal.main_arg3)
      ∧ r.2.mem ((c.tc : Thread Cert.RefGdnOutIdeal.nD Cert.RefGdnOutIdeal.τ).loc Cert.RefGdnOutIdeal.main_arg4) = m ((c.tc : Thread Cert.RefGdnOutIdeal.nD Cert.RefGdnOutIdeal.τ).loc Cert.RefGdnOutIdeal.main_arg4)
      ∧ r.2.mem ((c.tc : Thread Cert.RefGdnOutIdeal.nD Cert.RefGdnOutIdeal.τ).loc Cert.RefGdnOutIdeal.main_arg5) = m ((c.tc : Thread Cert.RefGdnOutIdeal.nD Cert.RefGdnOutIdeal.τ).loc Cert.RefGdnOutIdeal.main_arg5)
      ∧ r.2.mem ((c.tc : Thread Cert.RefGdnOutIdeal.nD Cert.RefGdnOutIdeal.τ).loc Cert.RefGdnOutIdeal.main_arg6) = m ((c.tc : Thread Cert.RefGdnOutIdeal.nD Cert.RefGdnOutIdeal.τ).loc Cert.RefGdnOutIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2))
      ∧ r.2.sem = fun _ => 0)

def quiescent_AdamGdnIn [hAdamGdnIn : Cert.AdamGdnIn.Facts] : Prop :=
  ∀ (m : (ℓ : Loc Cert.AdamGdnIn.nD Cert.AdamGdnIn.τ Cert.AdamGdnIn.sig) → Buf (Elt Bits) ℓ) (g : Dev Cert.AdamGdnIn.nD → PrngReg), Pre_AdamGdnIn m →
    θ_run (Cert.AdamGdnIn.defs (F := Bits)) (onTc (τ := Cert.AdamGdnIn.τ) (Cert.AdamGdnIn.main (F := Bits))) ⟨m, fun _ => 0, g⟩ (fun r => (∀ c : Dev Cert.AdamGdnIn.nD,
      r.2.mem ((c.tc : Thread Cert.AdamGdnIn.nD Cert.AdamGdnIn.τ).loc Cert.AdamGdnIn.main_arg0) = m ((c.tc : Thread Cert.AdamGdnIn.nD Cert.AdamGdnIn.τ).loc Cert.AdamGdnIn.main_arg0)
      ∧ r.2.mem ((c.tc : Thread Cert.AdamGdnIn.nD Cert.AdamGdnIn.τ).loc Cert.AdamGdnIn.main_arg1) = m ((c.tc : Thread Cert.AdamGdnIn.nD Cert.AdamGdnIn.τ).loc Cert.AdamGdnIn.main_arg1)
      ∧ r.2.mem ((c.tc : Thread Cert.AdamGdnIn.nD Cert.AdamGdnIn.τ).loc Cert.AdamGdnIn.main_arg2) = m ((c.tc : Thread Cert.AdamGdnIn.nD Cert.AdamGdnIn.τ).loc Cert.AdamGdnIn.main_arg2)
      ∧ r.2.mem ((c.tc : Thread Cert.AdamGdnIn.nD Cert.AdamGdnIn.τ).loc Cert.AdamGdnIn.main_arg3) = m ((c.tc : Thread Cert.AdamGdnIn.nD Cert.AdamGdnIn.τ).loc Cert.AdamGdnIn.main_arg3))
      ∧ r.2.sem = fun _ => 0)

def quiescent_AdamGdnInIdeal [hAdamGdnInIdeal : Cert.AdamGdnInIdeal.Facts] : Prop :=
  ∀ (m : (ℓ : Loc Cert.AdamGdnInIdeal.nD Cert.AdamGdnInIdeal.τ Cert.AdamGdnInIdeal.sig) → Buf (Elt Ideal) ℓ) (g : Dev Cert.AdamGdnInIdeal.nD → PrngReg), Pre_AdamGdnInIdeal m →
    θ_run (Cert.AdamGdnInIdeal.defs (F := Ideal)) (onTc (τ := Cert.AdamGdnInIdeal.τ) (Cert.AdamGdnInIdeal.main (F := Ideal))) ⟨m, fun _ => 0, g⟩ (fun r => (∀ c : Dev Cert.AdamGdnInIdeal.nD,
      r.2.mem ((c.tc : Thread Cert.AdamGdnInIdeal.nD Cert.AdamGdnInIdeal.τ).loc Cert.AdamGdnInIdeal.main_arg0) = m ((c.tc : Thread Cert.AdamGdnInIdeal.nD Cert.AdamGdnInIdeal.τ).loc Cert.AdamGdnInIdeal.main_arg0)
      ∧ r.2.mem ((c.tc : Thread Cert.AdamGdnInIdeal.nD Cert.AdamGdnInIdeal.τ).loc Cert.AdamGdnInIdeal.main_arg1) = m ((c.tc : Thread Cert.AdamGdnInIdeal.nD Cert.AdamGdnInIdeal.τ).loc Cert.AdamGdnInIdeal.main_arg1)
      ∧ r.2.mem ((c.tc : Thread Cert.AdamGdnInIdeal.nD Cert.AdamGdnInIdeal.τ).loc Cert.AdamGdnInIdeal.main_arg2) = m ((c.tc : Thread Cert.AdamGdnInIdeal.nD Cert.AdamGdnInIdeal.τ).loc Cert.AdamGdnInIdeal.main_arg2)
      ∧ r.2.mem ((c.tc : Thread Cert.AdamGdnInIdeal.nD Cert.AdamGdnInIdeal.τ).loc Cert.AdamGdnInIdeal.main_arg3) = m ((c.tc : Thread Cert.AdamGdnInIdeal.nD Cert.AdamGdnInIdeal.τ).loc Cert.AdamGdnInIdeal.main_arg3))
      ∧ r.2.sem = fun _ => 0)

def quiescent_RefAdamGdnInIdeal [hRefAdamGdnInIdeal : Cert.RefAdamGdnInIdeal.Facts] : Prop :=
  ∀ (m : (ℓ : Loc Cert.RefAdamGdnInIdeal.nD Cert.RefAdamGdnInIdeal.τ Cert.RefAdamGdnInIdeal.sig) → Buf (Elt Ideal) ℓ) (g : Dev Cert.RefAdamGdnInIdeal.nD → PrngReg), Pre_RefAdamGdnInIdeal m →
    θ_run (Cert.RefAdamGdnInIdeal.defs (F := Ideal)) (onTc (τ := Cert.RefAdamGdnInIdeal.τ) (Cert.RefAdamGdnInIdeal.main (F := Ideal))) ⟨m, fun _ => 0, g⟩ (fun r => (∀ c : Dev Cert.RefAdamGdnInIdeal.nD,
      r.2.mem ((c.tc : Thread Cert.RefAdamGdnInIdeal.nD Cert.RefAdamGdnInIdeal.τ).loc Cert.RefAdamGdnInIdeal.main_arg0) = m ((c.tc : Thread Cert.RefAdamGdnInIdeal.nD Cert.RefAdamGdnInIdeal.τ).loc Cert.RefAdamGdnInIdeal.main_arg0)
      ∧ r.2.mem ((c.tc : Thread Cert.RefAdamGdnInIdeal.nD Cert.RefAdamGdnInIdeal.τ).loc Cert.RefAdamGdnInIdeal.main_arg1) = m ((c.tc : Thread Cert.RefAdamGdnInIdeal.nD Cert.RefAdamGdnInIdeal.τ).loc Cert.RefAdamGdnInIdeal.main_arg1)
      ∧ r.2.mem ((c.tc : Thread Cert.RefAdamGdnInIdeal.nD Cert.RefAdamGdnInIdeal.τ).loc Cert.RefAdamGdnInIdeal.main_arg2) = m ((c.tc : Thread Cert.RefAdamGdnInIdeal.nD Cert.RefAdamGdnInIdeal.τ).loc Cert.RefAdamGdnInIdeal.main_arg2)
      ∧ r.2.mem ((c.tc : Thread Cert.RefAdamGdnInIdeal.nD Cert.RefAdamGdnInIdeal.τ).loc Cert.RefAdamGdnInIdeal.main_arg3) = m ((c.tc : Thread Cert.RefAdamGdnInIdeal.nD Cert.RefAdamGdnInIdeal.τ).loc Cert.RefAdamGdnInIdeal.main_arg3))
      ∧ r.2.sem = fun _ => 0)

def quiescent_AdamGdnOut [hAdamGdnOut : Cert.AdamGdnOut.Facts] : Prop :=
  ∀ (m : (ℓ : Loc Cert.AdamGdnOut.nD Cert.AdamGdnOut.τ Cert.AdamGdnOut.sig) → Buf (Elt Bits) ℓ) (g : Dev Cert.AdamGdnOut.nD → PrngReg), Pre_AdamGdnOut m →
    θ_run (Cert.AdamGdnOut.defs (F := Bits)) (onTc (τ := Cert.AdamGdnOut.τ) (Cert.AdamGdnOut.main (F := Bits))) ⟨m, fun _ => 0, g⟩ (fun r => (∀ c : Dev Cert.AdamGdnOut.nD,
      r.2.mem ((c.tc : Thread Cert.AdamGdnOut.nD Cert.AdamGdnOut.τ).loc Cert.AdamGdnOut.main_arg0) = m ((c.tc : Thread Cert.AdamGdnOut.nD Cert.AdamGdnOut.τ).loc Cert.AdamGdnOut.main_arg0)
      ∧ r.2.mem ((c.tc : Thread Cert.AdamGdnOut.nD Cert.AdamGdnOut.τ).loc Cert.AdamGdnOut.main_arg1) = m ((c.tc : Thread Cert.AdamGdnOut.nD Cert.AdamGdnOut.τ).loc Cert.AdamGdnOut.main_arg1)
      ∧ r.2.mem ((c.tc : Thread Cert.AdamGdnOut.nD Cert.AdamGdnOut.τ).loc Cert.AdamGdnOut.main_arg2) = m ((c.tc : Thread Cert.AdamGdnOut.nD Cert.AdamGdnOut.τ).loc Cert.AdamGdnOut.main_arg2)
      ∧ r.2.mem ((c.tc : Thread Cert.AdamGdnOut.nD Cert.AdamGdnOut.τ).loc Cert.AdamGdnOut.main_arg3) = m ((c.tc : Thread Cert.AdamGdnOut.nD Cert.AdamGdnOut.τ).loc Cert.AdamGdnOut.main_arg3))
      ∧ r.2.sem = fun _ => 0)

def quiescent_AdamGdnOutIdeal [hAdamGdnOutIdeal : Cert.AdamGdnOutIdeal.Facts] : Prop :=
  ∀ (m : (ℓ : Loc Cert.AdamGdnOutIdeal.nD Cert.AdamGdnOutIdeal.τ Cert.AdamGdnOutIdeal.sig) → Buf (Elt Ideal) ℓ) (g : Dev Cert.AdamGdnOutIdeal.nD → PrngReg), Pre_AdamGdnOutIdeal m →
    θ_run (Cert.AdamGdnOutIdeal.defs (F := Ideal)) (onTc (τ := Cert.AdamGdnOutIdeal.τ) (Cert.AdamGdnOutIdeal.main (F := Ideal))) ⟨m, fun _ => 0, g⟩ (fun r => (∀ c : Dev Cert.AdamGdnOutIdeal.nD,
      r.2.mem ((c.tc : Thread Cert.AdamGdnOutIdeal.nD Cert.AdamGdnOutIdeal.τ).loc Cert.AdamGdnOutIdeal.main_arg0) = m ((c.tc : Thread Cert.AdamGdnOutIdeal.nD Cert.AdamGdnOutIdeal.τ).loc Cert.AdamGdnOutIdeal.main_arg0)
      ∧ r.2.mem ((c.tc : Thread Cert.AdamGdnOutIdeal.nD Cert.AdamGdnOutIdeal.τ).loc Cert.AdamGdnOutIdeal.main_arg1) = m ((c.tc : Thread Cert.AdamGdnOutIdeal.nD Cert.AdamGdnOutIdeal.τ).loc Cert.AdamGdnOutIdeal.main_arg1)
      ∧ r.2.mem ((c.tc : Thread Cert.AdamGdnOutIdeal.nD Cert.AdamGdnOutIdeal.τ).loc Cert.AdamGdnOutIdeal.main_arg2) = m ((c.tc : Thread Cert.AdamGdnOutIdeal.nD Cert.AdamGdnOutIdeal.τ).loc Cert.AdamGdnOutIdeal.main_arg2)
      ∧ r.2.mem ((c.tc : Thread Cert.AdamGdnOutIdeal.nD Cert.AdamGdnOutIdeal.τ).loc Cert.AdamGdnOutIdeal.main_arg3) = m ((c.tc : Thread Cert.AdamGdnOutIdeal.nD Cert.AdamGdnOutIdeal.τ).loc Cert.AdamGdnOutIdeal.main_arg3))
      ∧ r.2.sem = fun _ => 0)

def quiescent_RefAdamGdnOutIdeal [hRefAdamGdnOutIdeal : Cert.RefAdamGdnOutIdeal.Facts] : Prop :=
  ∀ (m : (ℓ : Loc Cert.RefAdamGdnOutIdeal.nD Cert.RefAdamGdnOutIdeal.τ Cert.RefAdamGdnOutIdeal.sig) → Buf (Elt Ideal) ℓ) (g : Dev Cert.RefAdamGdnOutIdeal.nD → PrngReg), Pre_RefAdamGdnOutIdeal m →
    θ_run (Cert.RefAdamGdnOutIdeal.defs (F := Ideal)) (onTc (τ := Cert.RefAdamGdnOutIdeal.τ) (Cert.RefAdamGdnOutIdeal.main (F := Ideal))) ⟨m, fun _ => 0, g⟩ (fun r => (∀ c : Dev Cert.RefAdamGdnOutIdeal.nD,
      r.2.mem ((c.tc : Thread Cert.RefAdamGdnOutIdeal.nD Cert.RefAdamGdnOutIdeal.τ).loc Cert.RefAdamGdnOutIdeal.main_arg0) = m ((c.tc : Thread Cert.RefAdamGdnOutIdeal.nD Cert.RefAdamGdnOutIdeal.τ).loc Cert.RefAdamGdnOutIdeal.main_arg0)
      ∧ r.2.mem ((c.tc : Thread Cert.RefAdamGdnOutIdeal.nD Cert.RefAdamGdnOutIdeal.τ).loc Cert.RefAdamGdnOutIdeal.main_arg1) = m ((c.tc : Thread Cert.RefAdamGdnOutIdeal.nD Cert.RefAdamGdnOutIdeal.τ).loc Cert.RefAdamGdnOutIdeal.main_arg1)
      ∧ r.2.mem ((c.tc : Thread Cert.RefAdamGdnOutIdeal.nD Cert.RefAdamGdnOutIdeal.τ).loc Cert.RefAdamGdnOutIdeal.main_arg2) = m ((c.tc : Thread Cert.RefAdamGdnOutIdeal.nD Cert.RefAdamGdnOutIdeal.τ).loc Cert.RefAdamGdnOutIdeal.main_arg2)
      ∧ r.2.mem ((c.tc : Thread Cert.RefAdamGdnOutIdeal.nD Cert.RefAdamGdnOutIdeal.τ).loc Cert.RefAdamGdnOutIdeal.main_arg3) = m ((c.tc : Thread Cert.RefAdamGdnOutIdeal.nD Cert.RefAdamGdnOutIdeal.τ).loc Cert.RefAdamGdnOutIdeal.main_arg3))
      ∧ r.2.sem = fun _ => 0)

def quiescent_AdamFoxIn [hAdamFoxIn : Cert.AdamFoxIn.Facts] : Prop :=
  ∀ (m : (ℓ : Loc Cert.AdamFoxIn.nD Cert.AdamFoxIn.τ Cert.AdamFoxIn.sig) → Buf (Elt Bits) ℓ) (g : Dev Cert.AdamFoxIn.nD → PrngReg), Pre_AdamFoxIn m →
    θ_run (Cert.AdamFoxIn.defs (F := Bits)) (onTc (τ := Cert.AdamFoxIn.τ) (Cert.AdamFoxIn.main (F := Bits))) ⟨m, fun _ => 0, g⟩ (fun r => (∀ c : Dev Cert.AdamFoxIn.nD,
      r.2.mem ((c.tc : Thread Cert.AdamFoxIn.nD Cert.AdamFoxIn.τ).loc Cert.AdamFoxIn.main_arg0) = m ((c.tc : Thread Cert.AdamFoxIn.nD Cert.AdamFoxIn.τ).loc Cert.AdamFoxIn.main_arg0)
      ∧ r.2.mem ((c.tc : Thread Cert.AdamFoxIn.nD Cert.AdamFoxIn.τ).loc Cert.AdamFoxIn.main_arg1) = m ((c.tc : Thread Cert.AdamFoxIn.nD Cert.AdamFoxIn.τ).loc Cert.AdamFoxIn.main_arg1)
      ∧ r.2.mem ((c.tc : Thread Cert.AdamFoxIn.nD Cert.AdamFoxIn.τ).loc Cert.AdamFoxIn.main_arg2) = m ((c.tc : Thread Cert.AdamFoxIn.nD Cert.AdamFoxIn.τ).loc Cert.AdamFoxIn.main_arg2)
      ∧ r.2.mem ((c.tc : Thread Cert.AdamFoxIn.nD Cert.AdamFoxIn.τ).loc Cert.AdamFoxIn.main_arg3) = m ((c.tc : Thread Cert.AdamFoxIn.nD Cert.AdamFoxIn.τ).loc Cert.AdamFoxIn.main_arg3))
      ∧ r.2.sem = fun _ => 0)

def quiescent_AdamFoxInIdeal [hAdamFoxInIdeal : Cert.AdamFoxInIdeal.Facts] : Prop :=
  ∀ (m : (ℓ : Loc Cert.AdamFoxInIdeal.nD Cert.AdamFoxInIdeal.τ Cert.AdamFoxInIdeal.sig) → Buf (Elt Ideal) ℓ) (g : Dev Cert.AdamFoxInIdeal.nD → PrngReg), Pre_AdamFoxInIdeal m →
    θ_run (Cert.AdamFoxInIdeal.defs (F := Ideal)) (onTc (τ := Cert.AdamFoxInIdeal.τ) (Cert.AdamFoxInIdeal.main (F := Ideal))) ⟨m, fun _ => 0, g⟩ (fun r => (∀ c : Dev Cert.AdamFoxInIdeal.nD,
      r.2.mem ((c.tc : Thread Cert.AdamFoxInIdeal.nD Cert.AdamFoxInIdeal.τ).loc Cert.AdamFoxInIdeal.main_arg0) = m ((c.tc : Thread Cert.AdamFoxInIdeal.nD Cert.AdamFoxInIdeal.τ).loc Cert.AdamFoxInIdeal.main_arg0)
      ∧ r.2.mem ((c.tc : Thread Cert.AdamFoxInIdeal.nD Cert.AdamFoxInIdeal.τ).loc Cert.AdamFoxInIdeal.main_arg1) = m ((c.tc : Thread Cert.AdamFoxInIdeal.nD Cert.AdamFoxInIdeal.τ).loc Cert.AdamFoxInIdeal.main_arg1)
      ∧ r.2.mem ((c.tc : Thread Cert.AdamFoxInIdeal.nD Cert.AdamFoxInIdeal.τ).loc Cert.AdamFoxInIdeal.main_arg2) = m ((c.tc : Thread Cert.AdamFoxInIdeal.nD Cert.AdamFoxInIdeal.τ).loc Cert.AdamFoxInIdeal.main_arg2)
      ∧ r.2.mem ((c.tc : Thread Cert.AdamFoxInIdeal.nD Cert.AdamFoxInIdeal.τ).loc Cert.AdamFoxInIdeal.main_arg3) = m ((c.tc : Thread Cert.AdamFoxInIdeal.nD Cert.AdamFoxInIdeal.τ).loc Cert.AdamFoxInIdeal.main_arg3))
      ∧ r.2.sem = fun _ => 0)

def quiescent_RefAdamFoxInIdeal [hRefAdamFoxInIdeal : Cert.RefAdamFoxInIdeal.Facts] : Prop :=
  ∀ (m : (ℓ : Loc Cert.RefAdamFoxInIdeal.nD Cert.RefAdamFoxInIdeal.τ Cert.RefAdamFoxInIdeal.sig) → Buf (Elt Ideal) ℓ) (g : Dev Cert.RefAdamFoxInIdeal.nD → PrngReg), Pre_RefAdamFoxInIdeal m →
    θ_run (Cert.RefAdamFoxInIdeal.defs (F := Ideal)) (onTc (τ := Cert.RefAdamFoxInIdeal.τ) (Cert.RefAdamFoxInIdeal.main (F := Ideal))) ⟨m, fun _ => 0, g⟩ (fun r => (∀ c : Dev Cert.RefAdamFoxInIdeal.nD,
      r.2.mem ((c.tc : Thread Cert.RefAdamFoxInIdeal.nD Cert.RefAdamFoxInIdeal.τ).loc Cert.RefAdamFoxInIdeal.main_arg0) = m ((c.tc : Thread Cert.RefAdamFoxInIdeal.nD Cert.RefAdamFoxInIdeal.τ).loc Cert.RefAdamFoxInIdeal.main_arg0)
      ∧ r.2.mem ((c.tc : Thread Cert.RefAdamFoxInIdeal.nD Cert.RefAdamFoxInIdeal.τ).loc Cert.RefAdamFoxInIdeal.main_arg1) = m ((c.tc : Thread Cert.RefAdamFoxInIdeal.nD Cert.RefAdamFoxInIdeal.τ).loc Cert.RefAdamFoxInIdeal.main_arg1)
      ∧ r.2.mem ((c.tc : Thread Cert.RefAdamFoxInIdeal.nD Cert.RefAdamFoxInIdeal.τ).loc Cert.RefAdamFoxInIdeal.main_arg2) = m ((c.tc : Thread Cert.RefAdamFoxInIdeal.nD Cert.RefAdamFoxInIdeal.τ).loc Cert.RefAdamFoxInIdeal.main_arg2)
      ∧ r.2.mem ((c.tc : Thread Cert.RefAdamFoxInIdeal.nD Cert.RefAdamFoxInIdeal.τ).loc Cert.RefAdamFoxInIdeal.main_arg3) = m ((c.tc : Thread Cert.RefAdamFoxInIdeal.nD Cert.RefAdamFoxInIdeal.τ).loc Cert.RefAdamFoxInIdeal.main_arg3))
      ∧ r.2.sem = fun _ => 0)

def quiescent_AdamFoxOut [hAdamFoxOut : Cert.AdamFoxOut.Facts] : Prop :=
  ∀ (m : (ℓ : Loc Cert.AdamFoxOut.nD Cert.AdamFoxOut.τ Cert.AdamFoxOut.sig) → Buf (Elt Bits) ℓ) (g : Dev Cert.AdamFoxOut.nD → PrngReg), Pre_AdamFoxOut m →
    θ_run (Cert.AdamFoxOut.defs (F := Bits)) (onTc (τ := Cert.AdamFoxOut.τ) (Cert.AdamFoxOut.main (F := Bits))) ⟨m, fun _ => 0, g⟩ (fun r => (∀ c : Dev Cert.AdamFoxOut.nD,
      r.2.mem ((c.tc : Thread Cert.AdamFoxOut.nD Cert.AdamFoxOut.τ).loc Cert.AdamFoxOut.main_arg0) = m ((c.tc : Thread Cert.AdamFoxOut.nD Cert.AdamFoxOut.τ).loc Cert.AdamFoxOut.main_arg0)
      ∧ r.2.mem ((c.tc : Thread Cert.AdamFoxOut.nD Cert.AdamFoxOut.τ).loc Cert.AdamFoxOut.main_arg1) = m ((c.tc : Thread Cert.AdamFoxOut.nD Cert.AdamFoxOut.τ).loc Cert.AdamFoxOut.main_arg1)
      ∧ r.2.mem ((c.tc : Thread Cert.AdamFoxOut.nD Cert.AdamFoxOut.τ).loc Cert.AdamFoxOut.main_arg2) = m ((c.tc : Thread Cert.AdamFoxOut.nD Cert.AdamFoxOut.τ).loc Cert.AdamFoxOut.main_arg2)
      ∧ r.2.mem ((c.tc : Thread Cert.AdamFoxOut.nD Cert.AdamFoxOut.τ).loc Cert.AdamFoxOut.main_arg3) = m ((c.tc : Thread Cert.AdamFoxOut.nD Cert.AdamFoxOut.τ).loc Cert.AdamFoxOut.main_arg3))
      ∧ r.2.sem = fun _ => 0)

def quiescent_AdamFoxOutIdeal [hAdamFoxOutIdeal : Cert.AdamFoxOutIdeal.Facts] : Prop :=
  ∀ (m : (ℓ : Loc Cert.AdamFoxOutIdeal.nD Cert.AdamFoxOutIdeal.τ Cert.AdamFoxOutIdeal.sig) → Buf (Elt Ideal) ℓ) (g : Dev Cert.AdamFoxOutIdeal.nD → PrngReg), Pre_AdamFoxOutIdeal m →
    θ_run (Cert.AdamFoxOutIdeal.defs (F := Ideal)) (onTc (τ := Cert.AdamFoxOutIdeal.τ) (Cert.AdamFoxOutIdeal.main (F := Ideal))) ⟨m, fun _ => 0, g⟩ (fun r => (∀ c : Dev Cert.AdamFoxOutIdeal.nD,
      r.2.mem ((c.tc : Thread Cert.AdamFoxOutIdeal.nD Cert.AdamFoxOutIdeal.τ).loc Cert.AdamFoxOutIdeal.main_arg0) = m ((c.tc : Thread Cert.AdamFoxOutIdeal.nD Cert.AdamFoxOutIdeal.τ).loc Cert.AdamFoxOutIdeal.main_arg0)
      ∧ r.2.mem ((c.tc : Thread Cert.AdamFoxOutIdeal.nD Cert.AdamFoxOutIdeal.τ).loc Cert.AdamFoxOutIdeal.main_arg1) = m ((c.tc : Thread Cert.AdamFoxOutIdeal.nD Cert.AdamFoxOutIdeal.τ).loc Cert.AdamFoxOutIdeal.main_arg1)
      ∧ r.2.mem ((c.tc : Thread Cert.AdamFoxOutIdeal.nD Cert.AdamFoxOutIdeal.τ).loc Cert.AdamFoxOutIdeal.main_arg2) = m ((c.tc : Thread Cert.AdamFoxOutIdeal.nD Cert.AdamFoxOutIdeal.τ).loc Cert.AdamFoxOutIdeal.main_arg2)
      ∧ r.2.mem ((c.tc : Thread Cert.AdamFoxOutIdeal.nD Cert.AdamFoxOutIdeal.τ).loc Cert.AdamFoxOutIdeal.main_arg3) = m ((c.tc : Thread Cert.AdamFoxOutIdeal.nD Cert.AdamFoxOutIdeal.τ).loc Cert.AdamFoxOutIdeal.main_arg3))
      ∧ r.2.sem = fun _ => 0)

def quiescent_RefAdamFoxOutIdeal [hRefAdamFoxOutIdeal : Cert.RefAdamFoxOutIdeal.Facts] : Prop :=
  ∀ (m : (ℓ : Loc Cert.RefAdamFoxOutIdeal.nD Cert.RefAdamFoxOutIdeal.τ Cert.RefAdamFoxOutIdeal.sig) → Buf (Elt Ideal) ℓ) (g : Dev Cert.RefAdamFoxOutIdeal.nD → PrngReg), Pre_RefAdamFoxOutIdeal m →
    θ_run (Cert.RefAdamFoxOutIdeal.defs (F := Ideal)) (onTc (τ := Cert.RefAdamFoxOutIdeal.τ) (Cert.RefAdamFoxOutIdeal.main (F := Ideal))) ⟨m, fun _ => 0, g⟩ (fun r => (∀ c : Dev Cert.RefAdamFoxOutIdeal.nD,
      r.2.mem ((c.tc : Thread Cert.RefAdamFoxOutIdeal.nD Cert.RefAdamFoxOutIdeal.τ).loc Cert.RefAdamFoxOutIdeal.main_arg0) = m ((c.tc : Thread Cert.RefAdamFoxOutIdeal.nD Cert.RefAdamFoxOutIdeal.τ).loc Cert.RefAdamFoxOutIdeal.main_arg0)
      ∧ r.2.mem ((c.tc : Thread Cert.RefAdamFoxOutIdeal.nD Cert.RefAdamFoxOutIdeal.τ).loc Cert.RefAdamFoxOutIdeal.main_arg1) = m ((c.tc : Thread Cert.RefAdamFoxOutIdeal.nD Cert.RefAdamFoxOutIdeal.τ).loc Cert.RefAdamFoxOutIdeal.main_arg1)
      ∧ r.2.mem ((c.tc : Thread Cert.RefAdamFoxOutIdeal.nD Cert.RefAdamFoxOutIdeal.τ).loc Cert.RefAdamFoxOutIdeal.main_arg2) = m ((c.tc : Thread Cert.RefAdamFoxOutIdeal.nD Cert.RefAdamFoxOutIdeal.τ).loc Cert.RefAdamFoxOutIdeal.main_arg2)
      ∧ r.2.mem ((c.tc : Thread Cert.RefAdamFoxOutIdeal.nD Cert.RefAdamFoxOutIdeal.τ).loc Cert.RefAdamFoxOutIdeal.main_arg3) = m ((c.tc : Thread Cert.RefAdamFoxOutIdeal.nD Cert.RefAdamFoxOutIdeal.τ).loc Cert.RefAdamFoxOutIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_RefAdamConvIdeal [hRefAdamConvIdeal : Cert.RefAdamConvIdeal.Facts] : Prop :=
  ∀ (m : (ℓ : Loc Cert.RefAdamConvIdeal.nD Cert.RefAdamConvIdeal.τ Cert.RefAdamConvIdeal.sig) → Buf (Elt Ideal) ℓ) (g : Dev Cert.RefAdamConvIdeal.nD → PrngReg), Pre_RefAdamConvIdeal m →
    θ_run (Cert.RefAdamConvIdeal.defs (F := Ideal)) (onTc (τ := Cert.RefAdamConvIdeal.τ) (Cert.RefAdamConvIdeal.main (F := Ideal))) ⟨m, fun _ => 0, g⟩ (fun r => (∀ c : Dev Cert.RefAdamConvIdeal.nD,
      r.2.mem ((c.tc : Thread Cert.RefAdamConvIdeal.nD Cert.RefAdamConvIdeal.τ).loc Cert.RefAdamConvIdeal.main_arg0) = m ((c.tc : Thread Cert.RefAdamConvIdeal.nD Cert.RefAdamConvIdeal.τ).loc Cert.RefAdamConvIdeal.main_arg0)
      ∧ r.2.mem ((c.tc : Thread Cert.RefAdamConvIdeal.nD Cert.RefAdamConvIdeal.τ).loc Cert.RefAdamConvIdeal.main_arg1) = m ((c.tc : Thread Cert.RefAdamConvIdeal.nD Cert.RefAdamConvIdeal.τ).loc Cert.RefAdamConvIdeal.main_arg1)
      ∧ r.2.mem ((c.tc : Thread Cert.RefAdamConvIdeal.nD Cert.RefAdamConvIdeal.τ).loc Cert.RefAdamConvIdeal.main_arg2) = m ((c.tc : Thread Cert.RefAdamConvIdeal.nD Cert.RefAdamConvIdeal.τ).loc Cert.RefAdamConvIdeal.main_arg2)
      ∧ r.2.mem ((c.tc : Thread Cert.RefAdamConvIdeal.nD Cert.RefAdamConvIdeal.τ).loc Cert.RefAdamConvIdeal.main_arg3) = m ((c.tc : Thread Cert.RefAdamConvIdeal.nD Cert.RefAdamConvIdeal.τ).loc Cert.RefAdamConvIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_RefAdamAdaIdeal [hRefAdamAdaIdeal : Cert.RefAdamAdaIdeal.Facts] : Prop :=
  ∀ (m : (ℓ : Loc Cert.RefAdamAdaIdeal.nD Cert.RefAdamAdaIdeal.τ Cert.RefAdamAdaIdeal.sig) → Buf (Elt Ideal) ℓ) (g : Dev Cert.RefAdamAdaIdeal.nD → PrngReg), Pre_RefAdamAdaIdeal m →
    θ_run (Cert.RefAdamAdaIdeal.defs (F := Ideal)) (onTc (τ := Cert.RefAdamAdaIdeal.τ) (Cert.RefAdamAdaIdeal.main (F := Ideal))) ⟨m, fun _ => 0, g⟩ (fun r => (∀ c : Dev Cert.RefAdamAdaIdeal.nD,
      r.2.mem ((c.tc : Thread Cert.RefAdamAdaIdeal.nD Cert.RefAdamAdaIdeal.τ).loc Cert.RefAdamAdaIdeal.main_arg0) = m ((c.tc : Thread Cert.RefAdamAdaIdeal.nD Cert.RefAdamAdaIdeal.τ).loc Cert.RefAdamAdaIdeal.main_arg0)
      ∧ r.2.mem ((c.tc : Thread Cert.RefAdamAdaIdeal.nD Cert.RefAdamAdaIdeal.τ).loc Cert.RefAdamAdaIdeal.main_arg1) = m ((c.tc : Thread Cert.RefAdamAdaIdeal.nD Cert.RefAdamAdaIdeal.τ).loc Cert.RefAdamAdaIdeal.main_arg1)
      ∧ r.2.mem ((c.tc : Thread Cert.RefAdamAdaIdeal.nD Cert.RefAdamAdaIdeal.τ).loc Cert.RefAdamAdaIdeal.main_arg2) = m ((c.tc : Thread Cert.RefAdamAdaIdeal.nD Cert.RefAdamAdaIdeal.τ).loc Cert.RefAdamAdaIdeal.main_arg2)
      ∧ r.2.mem ((c.tc : Thread Cert.RefAdamAdaIdeal.nD Cert.RefAdamAdaIdeal.τ).loc Cert.RefAdamAdaIdeal.main_arg3) = m ((c.tc : Thread Cert.RefAdamAdaIdeal.nD Cert.RefAdamAdaIdeal.τ).loc Cert.RefAdamAdaIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v45)) (v3 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_v50) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GdnIn_GdnInIdeal : Prop :=
  True

def algebraic_GdnInIdeal_RefGdnInIdeal [hGdnInIdeal : Cert.GdnInIdeal.Facts] [hRefGdnInIdeal : Cert.RefGdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.RefGdnInIdeal.nD Cert.RefGdnInIdeal.τ Cert.RefGdnInIdeal.sig) → Buf (Elt Ideal) ℓ) (g' : Dev Cert.RefGdnInIdeal.nD → PrngReg), Pre_GdnInIdeal m →
    (∀ c : Dev Cert.GdnInIdeal.nD,
      m' ((c.tc : Thread Cert.RefGdnInIdeal.nD Cert.RefGdnInIdeal.τ).loc Cert.RefGdnInIdeal.main_arg0) = m ((c.tc : Thread Cert.GdnInIdeal.nD Cert.GdnInIdeal.τ).loc Cert.GdnInIdeal.main_arg0)
      ∧ m' ((c.tc : Thread Cert.RefGdnInIdeal.nD Cert.RefGdnInIdeal.τ).loc Cert.RefGdnInIdeal.main_arg1) = m ((c.tc : Thread Cert.GdnInIdeal.nD Cert.GdnInIdeal.τ).loc Cert.GdnInIdeal.main_arg1)
      ∧ m' ((c.tc : Thread Cert.RefGdnInIdeal.nD Cert.RefGdnInIdeal.τ).loc Cert.RefGdnInIdeal.main_arg2) = m ((c.tc : Thread Cert.GdnInIdeal.nD Cert.GdnInIdeal.τ).loc Cert.GdnInIdeal.main_arg2)
      ∧ m' ((c.tc : Thread Cert.RefGdnInIdeal.nD Cert.RefGdnInIdeal.τ).loc Cert.RefGdnInIdeal.main_arg3) = m ((c.tc : Thread Cert.GdnInIdeal.nD Cert.GdnInIdeal.τ).loc Cert.GdnInIdeal.main_arg3)
      ∧ m' ((c.tc : Thread Cert.RefGdnInIdeal.nD Cert.RefGdnInIdeal.τ).loc Cert.RefGdnInIdeal.main_arg4) = m ((c.tc : Thread Cert.GdnInIdeal.nD Cert.GdnInIdeal.τ).loc Cert.GdnInIdeal.main_arg4)
      ∧ m' ((c.tc : Thread Cert.RefGdnInIdeal.nD Cert.RefGdnInIdeal.τ).loc Cert.RefGdnInIdeal.main_arg5) = m ((c.tc : Thread Cert.GdnInIdeal.nD Cert.GdnInIdeal.τ).loc Cert.GdnInIdeal.main_arg5)) →
    ∃ (v0 : (c : Dev Cert.GdnInIdeal.nD) → Buf (Elt Ideal) ((c.tc : Thread Cert.GdnInIdeal.nD Cert.GdnInIdeal.τ).loc Cert.GdnInIdeal.main_v2_0)) (v1 : (c : Dev Cert.GdnInIdeal.nD) → Buf (Elt Ideal) ((c.tc : Thread Cert.GdnInIdeal.nD Cert.GdnInIdeal.τ).loc Cert.GdnInIdeal.main_v3)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v2_0) = v0 c
          ∧ r.2.mem ((c.tc : Thread Cert.GdnInIdeal.nD Cert.GdnInIdeal.τ).loc Cert.GdnInIdeal.main_v3) = v1 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
          ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3)
          ∧ r.2.mem ((c.tc : Thread Cert.GdnInIdeal.nD Cert.GdnInIdeal.τ).loc Cert.GdnInIdeal.main_arg4) = m ((c.tc : Thread Cert.GdnInIdeal.nD Cert.GdnInIdeal.τ).loc Cert.GdnInIdeal.main_arg4)
          ∧ r.2.mem ((c.tc : Thread Cert.GdnInIdeal.nD Cert.GdnInIdeal.τ).loc Cert.GdnInIdeal.main_arg5) = m ((c.tc : Thread Cert.GdnInIdeal.nD Cert.GdnInIdeal.τ).loc Cert.GdnInIdeal.main_arg5))
      ∧ θ_run (Cert.RefGdnInIdeal.defs (F := Ideal)) (onTc (τ := Cert.RefGdnInIdeal.τ) (Cert.RefGdnInIdeal.main (F := Ideal))) ⟨m', fun _ => 0, g'⟩ (fun r => ∀ c : Dev Cert.RefGdnInIdeal.nD,
          r.2.mem ((c.tc : Thread Cert.RefGdnInIdeal.nD Cert.RefGdnInIdeal.τ).loc Cert.RefGdnInIdeal.main_v19) = v0 c
          ∧ r.2.mem ((c.tc : Thread Cert.RefGdnInIdeal.nD Cert.RefGdnInIdeal.τ).loc Cert.RefGdnInIdeal.main_v21) = v1 c
          ∧ r.2.mem ((c.tc : Thread Cert.RefGdnInIdeal.nD Cert.RefGdnInIdeal.τ).loc Cert.RefGdnInIdeal.main_arg0) = m' ((c.tc : Thread Cert.RefGdnInIdeal.nD Cert.RefGdnInIdeal.τ).loc Cert.RefGdnInIdeal.main_arg0)
          ∧ r.2.mem ((c.tc : Thread Cert.RefGdnInIdeal.nD Cert.RefGdnInIdeal.τ).loc Cert.RefGdnInIdeal.main_arg1) = m' ((c.tc : Thread Cert.RefGdnInIdeal.nD Cert.RefGdnInIdeal.τ).loc Cert.RefGdnInIdeal.main_arg1)
          ∧ r.2.mem ((c.tc : Thread Cert.RefGdnInIdeal.nD Cert.RefGdnInIdeal.τ).loc Cert.RefGdnInIdeal.main_arg2) = m' ((c.tc : Thread Cert.RefGdnInIdeal.nD Cert.RefGdnInIdeal.τ).loc Cert.RefGdnInIdeal.main_arg2)
          ∧ r.2.mem ((c.tc : Thread Cert.RefGdnInIdeal.nD Cert.RefGdnInIdeal.τ).loc Cert.RefGdnInIdeal.main_arg3) = m' ((c.tc : Thread Cert.RefGdnInIdeal.nD Cert.RefGdnInIdeal.τ).loc Cert.RefGdnInIdeal.main_arg3)
          ∧ r.2.mem ((c.tc : Thread Cert.RefGdnInIdeal.nD Cert.RefGdnInIdeal.τ).loc Cert.RefGdnInIdeal.main_arg4) = m' ((c.tc : Thread Cert.RefGdnInIdeal.nD Cert.RefGdnInIdeal.τ).loc Cert.RefGdnInIdeal.main_arg4)
          ∧ r.2.mem ((c.tc : Thread Cert.RefGdnInIdeal.nD Cert.RefGdnInIdeal.τ).loc Cert.RefGdnInIdeal.main_arg5) = m' ((c.tc : Thread Cert.RefGdnInIdeal.nD Cert.RefGdnInIdeal.τ).loc Cert.RefGdnInIdeal.main_arg5))

def preserves_GdnInBwd_GdnInBwdIdeal : Prop :=
  True

def algebraic_GdnInBwdIdeal_RefGdnInBwdIdeal [hGdnInBwdIdeal : Cert.GdnInBwdIdeal.Facts] [hRefGdnInBwdIdeal : Cert.RefGdnInBwdIdeal.Facts] : Prop :=
  ∀ (m : (ℓ : Loc Cert.GdnInBwdIdeal.nD Cert.GdnInBwdIdeal.τ Cert.GdnInBwdIdeal.sig) → Buf (Elt Ideal) ℓ) (g : Dev Cert.GdnInBwdIdeal.nD → PrngReg)
    (m' : (ℓ : Loc Cert.RefGdnInBwdIdeal.nD Cert.RefGdnInBwdIdeal.τ Cert.RefGdnInBwdIdeal.sig) → Buf (Elt Ideal) ℓ) (g' : Dev Cert.RefGdnInBwdIdeal.nD → PrngReg), Pre_GdnInBwdIdeal m →
    (∀ c : Dev Cert.GdnInBwdIdeal.nD,
      m' ((c.tc : Thread Cert.RefGdnInBwdIdeal.nD Cert.RefGdnInBwdIdeal.τ).loc Cert.RefGdnInBwdIdeal.main_arg0) = m ((c.tc : Thread Cert.GdnInBwdIdeal.nD Cert.GdnInBwdIdeal.τ).loc Cert.GdnInBwdIdeal.main_arg0)
      ∧ m' ((c.tc : Thread Cert.RefGdnInBwdIdeal.nD Cert.RefGdnInBwdIdeal.τ).loc Cert.RefGdnInBwdIdeal.main_arg1) = m ((c.tc : Thread Cert.GdnInBwdIdeal.nD Cert.GdnInBwdIdeal.τ).loc Cert.GdnInBwdIdeal.main_arg1)
      ∧ m' ((c.tc : Thread Cert.RefGdnInBwdIdeal.nD Cert.RefGdnInBwdIdeal.τ).loc Cert.RefGdnInBwdIdeal.main_arg2) = m ((c.tc : Thread Cert.GdnInBwdIdeal.nD Cert.GdnInBwdIdeal.τ).loc Cert.GdnInBwdIdeal.main_arg2)
      ∧ m' ((c.tc : Thread Cert.RefGdnInBwdIdeal.nD Cert.RefGdnInBwdIdeal.τ).loc Cert.RefGdnInBwdIdeal.main_arg3) = m ((c.tc : Thread Cert.GdnInBwdIdeal.nD Cert.GdnInBwdIdeal.τ).loc Cert.GdnInBwdIdeal.main_arg3)
      ∧ m' ((c.tc : Thread Cert.RefGdnInBwdIdeal.nD Cert.RefGdnInBwdIdeal.τ).loc Cert.RefGdnInBwdIdeal.main_arg4) = m ((c.tc : Thread Cert.GdnInBwdIdeal.nD Cert.GdnInBwdIdeal.τ).loc Cert.GdnInBwdIdeal.main_arg4)
      ∧ m' ((c.tc : Thread Cert.RefGdnInBwdIdeal.nD Cert.RefGdnInBwdIdeal.τ).loc Cert.RefGdnInBwdIdeal.main_arg5) = m ((c.tc : Thread Cert.GdnInBwdIdeal.nD Cert.GdnInBwdIdeal.τ).loc Cert.GdnInBwdIdeal.main_arg5)
      ∧ m' ((c.tc : Thread Cert.RefGdnInBwdIdeal.nD Cert.RefGdnInBwdIdeal.τ).loc Cert.RefGdnInBwdIdeal.main_arg6) = m ((c.tc : Thread Cert.GdnInBwdIdeal.nD Cert.GdnInBwdIdeal.τ).loc Cert.GdnInBwdIdeal.main_arg6)) →
    ∃ (v0 : (c : Dev Cert.GdnInBwdIdeal.nD) → Buf (Elt Ideal) ((c.tc : Thread Cert.GdnInBwdIdeal.nD Cert.GdnInBwdIdeal.τ).loc Cert.GdnInBwdIdeal.main_v2_0)) (v1 : (c : Dev Cert.GdnInBwdIdeal.nD) → Buf (Elt Ideal) ((c.tc : Thread Cert.GdnInBwdIdeal.nD Cert.GdnInBwdIdeal.τ).loc Cert.GdnInBwdIdeal.main_v3)) (v2 : (c : Dev Cert.GdnInBwdIdeal.nD) → Buf (Elt Ideal) ((c.tc : Thread Cert.GdnInBwdIdeal.nD Cert.GdnInBwdIdeal.τ).loc Cert.GdnInBwdIdeal.main_v2_2)) (v3 : (c : Dev Cert.GdnInBwdIdeal.nD) → Buf (Elt Ideal) ((c.tc : Thread Cert.GdnInBwdIdeal.nD Cert.GdnInBwdIdeal.τ).loc Cert.GdnInBwdIdeal.main_v2_3)),
      θ_run (Cert.GdnInBwdIdeal.defs (F := Ideal)) (onTc (τ := Cert.GdnInBwdIdeal.τ) (Cert.GdnInBwdIdeal.main (F := Ideal))) ⟨m, fun _ => 0, g⟩ (fun r => ∀ c : Dev Cert.GdnInBwdIdeal.nD,
          r.2.mem ((c.tc : Thread Cert.GdnInBwdIdeal.nD Cert.GdnInBwdIdeal.τ).loc Cert.GdnInBwdIdeal.main_v2_0) = v0 c
          ∧ r.2.mem ((c.tc : Thread Cert.GdnInBwdIdeal.nD Cert.GdnInBwdIdeal.τ).loc Cert.GdnInBwdIdeal.main_v3) = v1 c
          ∧ r.2.mem ((c.tc : Thread Cert.GdnInBwdIdeal.nD Cert.GdnInBwdIdeal.τ).loc Cert.GdnInBwdIdeal.main_v2_2) = v2 c
          ∧ r.2.mem ((c.tc : Thread Cert.GdnInBwdIdeal.nD Cert.GdnInBwdIdeal.τ).loc Cert.GdnInBwdIdeal.main_v2_3) = v3 c
          ∧ r.2.mem ((c.tc : Thread Cert.GdnInBwdIdeal.nD Cert.GdnInBwdIdeal.τ).loc Cert.GdnInBwdIdeal.main_arg0) = m ((c.tc : Thread Cert.GdnInBwdIdeal.nD Cert.GdnInBwdIdeal.τ).loc Cert.GdnInBwdIdeal.main_arg0)
          ∧ r.2.mem ((c.tc : Thread Cert.GdnInBwdIdeal.nD Cert.GdnInBwdIdeal.τ).loc Cert.GdnInBwdIdeal.main_arg1) = m ((c.tc : Thread Cert.GdnInBwdIdeal.nD Cert.GdnInBwdIdeal.τ).loc Cert.GdnInBwdIdeal.main_arg1)
          ∧ r.2.mem ((c.tc : Thread Cert.GdnInBwdIdeal.nD Cert.GdnInBwdIdeal.τ).loc Cert.GdnInBwdIdeal.main_arg2) = m ((c.tc : Thread Cert.GdnInBwdIdeal.nD Cert.GdnInBwdIdeal.τ).loc Cert.GdnInBwdIdeal.main_arg2)
          ∧ r.2.mem ((c.tc : Thread Cert.GdnInBwdIdeal.nD Cert.GdnInBwdIdeal.τ).loc Cert.GdnInBwdIdeal.main_arg3) = m ((c.tc : Thread Cert.GdnInBwdIdeal.nD Cert.GdnInBwdIdeal.τ).loc Cert.GdnInBwdIdeal.main_arg3)
          ∧ r.2.mem ((c.tc : Thread Cert.GdnInBwdIdeal.nD Cert.GdnInBwdIdeal.τ).loc Cert.GdnInBwdIdeal.main_arg4) = m ((c.tc : Thread Cert.GdnInBwdIdeal.nD Cert.GdnInBwdIdeal.τ).loc Cert.GdnInBwdIdeal.main_arg4)
          ∧ r.2.mem ((c.tc : Thread Cert.GdnInBwdIdeal.nD Cert.GdnInBwdIdeal.τ).loc Cert.GdnInBwdIdeal.main_arg5) = m ((c.tc : Thread Cert.GdnInBwdIdeal.nD Cert.GdnInBwdIdeal.τ).loc Cert.GdnInBwdIdeal.main_arg5)
          ∧ r.2.mem ((c.tc : Thread Cert.GdnInBwdIdeal.nD Cert.GdnInBwdIdeal.τ).loc Cert.GdnInBwdIdeal.main_arg6) = m ((c.tc : Thread Cert.GdnInBwdIdeal.nD Cert.GdnInBwdIdeal.τ).loc Cert.GdnInBwdIdeal.main_arg6))
      ∧ θ_run (Cert.RefGdnInBwdIdeal.defs (F := Ideal)) (onTc (τ := Cert.RefGdnInBwdIdeal.τ) (Cert.RefGdnInBwdIdeal.main (F := Ideal))) ⟨m', fun _ => 0, g'⟩ (fun r => ∀ c : Dev Cert.RefGdnInBwdIdeal.nD,
          r.2.mem ((c.tc : Thread Cert.RefGdnInBwdIdeal.nD Cert.RefGdnInBwdIdeal.τ).loc Cert.RefGdnInBwdIdeal.main_v51) = v0 c
          ∧ r.2.mem ((c.tc : Thread Cert.RefGdnInBwdIdeal.nD Cert.RefGdnInBwdIdeal.τ).loc Cert.RefGdnInBwdIdeal.main_v36) = v1 c
          ∧ r.2.mem ((c.tc : Thread Cert.RefGdnInBwdIdeal.nD Cert.RefGdnInBwdIdeal.τ).loc Cert.RefGdnInBwdIdeal.main_v28) = v2 c
          ∧ r.2.mem ((c.tc : Thread Cert.RefGdnInBwdIdeal.nD Cert.RefGdnInBwdIdeal.τ).loc Cert.RefGdnInBwdIdeal.main_v25) = v3 c
          ∧ r.2.mem ((c.tc : Thread Cert.RefGdnInBwdIdeal.nD Cert.RefGdnInBwdIdeal.τ).loc Cert.RefGdnInBwdIdeal.main_arg0) = m' ((c.tc : Thread Cert.RefGdnInBwdIdeal.nD Cert.RefGdnInBwdIdeal.τ).loc Cert.RefGdnInBwdIdeal.main_arg0)
          ∧ r.2.mem ((c.tc : Thread Cert.RefGdnInBwdIdeal.nD Cert.RefGdnInBwdIdeal.τ).loc Cert.RefGdnInBwdIdeal.main_arg1) = m' ((c.tc : Thread Cert.RefGdnInBwdIdeal.nD Cert.RefGdnInBwdIdeal.τ).loc Cert.RefGdnInBwdIdeal.main_arg1)
          ∧ r.2.mem ((c.tc : Thread Cert.RefGdnInBwdIdeal.nD Cert.RefGdnInBwdIdeal.τ).loc Cert.RefGdnInBwdIdeal.main_arg2) = m' ((c.tc : Thread Cert.RefGdnInBwdIdeal.nD Cert.RefGdnInBwdIdeal.τ).loc Cert.RefGdnInBwdIdeal.main_arg2)
          ∧ r.2.mem ((c.tc : Thread Cert.RefGdnInBwdIdeal.nD Cert.RefGdnInBwdIdeal.τ).loc Cert.RefGdnInBwdIdeal.main_arg3) = m' ((c.tc : Thread Cert.RefGdnInBwdIdeal.nD Cert.RefGdnInBwdIdeal.τ).loc Cert.RefGdnInBwdIdeal.main_arg3)
          ∧ r.2.mem ((c.tc : Thread Cert.RefGdnInBwdIdeal.nD Cert.RefGdnInBwdIdeal.τ).loc Cert.RefGdnInBwdIdeal.main_arg4) = m' ((c.tc : Thread Cert.RefGdnInBwdIdeal.nD Cert.RefGdnInBwdIdeal.τ).loc Cert.RefGdnInBwdIdeal.main_arg4)
          ∧ r.2.mem ((c.tc : Thread Cert.RefGdnInBwdIdeal.nD Cert.RefGdnInBwdIdeal.τ).loc Cert.RefGdnInBwdIdeal.main_arg5) = m' ((c.tc : Thread Cert.RefGdnInBwdIdeal.nD Cert.RefGdnInBwdIdeal.τ).loc Cert.RefGdnInBwdIdeal.main_arg5)
          ∧ r.2.mem ((c.tc : Thread Cert.RefGdnInBwdIdeal.nD Cert.RefGdnInBwdIdeal.τ).loc Cert.RefGdnInBwdIdeal.main_arg6) = m' ((c.tc : Thread Cert.RefGdnInBwdIdeal.nD Cert.RefGdnInBwdIdeal.τ).loc Cert.RefGdnInBwdIdeal.main_arg6))

def preserves_FoxIn_FoxInIdeal : Prop :=
  True

def algebraic_FoxInIdeal_RefFoxInIdeal [hFoxInIdeal : Cert.FoxInIdeal.Facts] [hRefFoxInIdeal : Cert.RefFoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.RefFoxInIdeal.nD Cert.RefFoxInIdeal.τ Cert.RefFoxInIdeal.sig) → Buf (Elt Ideal) ℓ) (g' : Dev Cert.RefFoxInIdeal.nD → PrngReg), Pre_FoxInIdeal m →
    (∀ c : Dev Cert.FoxInIdeal.nD,
      m' ((c.tc : Thread Cert.RefFoxInIdeal.nD Cert.RefFoxInIdeal.τ).loc Cert.RefFoxInIdeal.main_arg0) = m ((c.tc : Thread Cert.FoxInIdeal.nD Cert.FoxInIdeal.τ).loc Cert.FoxInIdeal.main_arg0)
      ∧ m' ((c.tc : Thread Cert.RefFoxInIdeal.nD Cert.RefFoxInIdeal.τ).loc Cert.RefFoxInIdeal.main_arg1) = m ((c.tc : Thread Cert.FoxInIdeal.nD Cert.FoxInIdeal.τ).loc Cert.FoxInIdeal.main_arg1)
      ∧ m' ((c.tc : Thread Cert.RefFoxInIdeal.nD Cert.RefFoxInIdeal.τ).loc Cert.RefFoxInIdeal.main_arg2) = m ((c.tc : Thread Cert.FoxInIdeal.nD Cert.FoxInIdeal.τ).loc Cert.FoxInIdeal.main_arg2)
      ∧ m' ((c.tc : Thread Cert.RefFoxInIdeal.nD Cert.RefFoxInIdeal.τ).loc Cert.RefFoxInIdeal.main_arg3) = m ((c.tc : Thread Cert.FoxInIdeal.nD Cert.FoxInIdeal.τ).loc Cert.FoxInIdeal.main_arg3)
      ∧ m' ((c.tc : Thread Cert.RefFoxInIdeal.nD Cert.RefFoxInIdeal.τ).loc Cert.RefFoxInIdeal.main_arg4) = m ((c.tc : Thread Cert.FoxInIdeal.nD Cert.FoxInIdeal.τ).loc Cert.FoxInIdeal.main_arg4)
      ∧ m' ((c.tc : Thread Cert.RefFoxInIdeal.nD Cert.RefFoxInIdeal.τ).loc Cert.RefFoxInIdeal.main_arg5) = m ((c.tc : Thread Cert.FoxInIdeal.nD Cert.FoxInIdeal.τ).loc Cert.FoxInIdeal.main_arg5)) →
    ∃ (v0 : (c : Dev Cert.FoxInIdeal.nD) → Buf (Elt Ideal) ((c.tc : Thread Cert.FoxInIdeal.nD Cert.FoxInIdeal.τ).loc Cert.FoxInIdeal.main_v2_0)) (v1 : (c : Dev Cert.FoxInIdeal.nD) → Buf (Elt Ideal) ((c.tc : Thread Cert.FoxInIdeal.nD Cert.FoxInIdeal.τ).loc Cert.FoxInIdeal.main_v3)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v2_0) = v0 c
          ∧ r.2.mem ((c.tc : Thread Cert.FoxInIdeal.nD Cert.FoxInIdeal.τ).loc Cert.FoxInIdeal.main_v3) = v1 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1)
          ∧ r.2.mem ((c.tc : Thread Cert.FoxInIdeal.nD Cert.FoxInIdeal.τ).loc Cert.FoxInIdeal.main_arg2) = m ((c.tc : Thread Cert.FoxInIdeal.nD Cert.FoxInIdeal.τ).loc Cert.FoxInIdeal.main_arg2)
          ∧ r.2.mem ((c.tc : Thread Cert.FoxInIdeal.nD Cert.FoxInIdeal.τ).loc Cert.FoxInIdeal.main_arg3) = m ((c.tc : Thread Cert.FoxInIdeal.nD Cert.FoxInIdeal.τ).loc Cert.FoxInIdeal.main_arg3)
          ∧ r.2.mem ((c.tc : Thread Cert.FoxInIdeal.nD Cert.FoxInIdeal.τ).loc Cert.FoxInIdeal.main_arg4) = m ((c.tc : Thread Cert.FoxInIdeal.nD Cert.FoxInIdeal.τ).loc Cert.FoxInIdeal.main_arg4)
          ∧ r.2.mem ((c.tc : Thread Cert.FoxInIdeal.nD Cert.FoxInIdeal.τ).loc Cert.FoxInIdeal.main_arg5) = m ((c.tc : Thread Cert.FoxInIdeal.nD Cert.FoxInIdeal.τ).loc Cert.FoxInIdeal.main_arg5))
      ∧ θ_run (Cert.RefFoxInIdeal.defs (F := Ideal)) (onTc (τ := Cert.RefFoxInIdeal.τ) (Cert.RefFoxInIdeal.main (F := Ideal))) ⟨m', fun _ => 0, g'⟩ (fun r => ∀ c : Dev Cert.RefFoxInIdeal.nD,
          r.2.mem ((c.tc : Thread Cert.RefFoxInIdeal.nD Cert.RefFoxInIdeal.τ).loc Cert.RefFoxInIdeal.main_v19) = v0 c
          ∧ r.2.mem ((c.tc : Thread Cert.RefFoxInIdeal.nD Cert.RefFoxInIdeal.τ).loc Cert.RefFoxInIdeal.main_v21) = v1 c
          ∧ r.2.mem ((c.tc : Thread Cert.RefFoxInIdeal.nD Cert.RefFoxInIdeal.τ).loc Cert.RefFoxInIdeal.main_arg0) = m' ((c.tc : Thread Cert.RefFoxInIdeal.nD Cert.RefFoxInIdeal.τ).loc Cert.RefFoxInIdeal.main_arg0)
          ∧ r.2.mem ((c.tc : Thread Cert.RefFoxInIdeal.nD Cert.RefFoxInIdeal.τ).loc Cert.RefFoxInIdeal.main_arg1) = m' ((c.tc : Thread Cert.RefFoxInIdeal.nD Cert.RefFoxInIdeal.τ).loc Cert.RefFoxInIdeal.main_arg1)
          ∧ r.2.mem ((c.tc : Thread Cert.RefFoxInIdeal.nD Cert.RefFoxInIdeal.τ).loc Cert.RefFoxInIdeal.main_arg2) = m' ((c.tc : Thread Cert.RefFoxInIdeal.nD Cert.RefFoxInIdeal.τ).loc Cert.RefFoxInIdeal.main_arg2)
          ∧ r.2.mem ((c.tc : Thread Cert.RefFoxInIdeal.nD Cert.RefFoxInIdeal.τ).loc Cert.RefFoxInIdeal.main_arg3) = m' ((c.tc : Thread Cert.RefFoxInIdeal.nD Cert.RefFoxInIdeal.τ).loc Cert.RefFoxInIdeal.main_arg3)
          ∧ r.2.mem ((c.tc : Thread Cert.RefFoxInIdeal.nD Cert.RefFoxInIdeal.τ).loc Cert.RefFoxInIdeal.main_arg4) = m' ((c.tc : Thread Cert.RefFoxInIdeal.nD Cert.RefFoxInIdeal.τ).loc Cert.RefFoxInIdeal.main_arg4)
          ∧ r.2.mem ((c.tc : Thread Cert.RefFoxInIdeal.nD Cert.RefFoxInIdeal.τ).loc Cert.RefFoxInIdeal.main_arg5) = m' ((c.tc : Thread Cert.RefFoxInIdeal.nD Cert.RefFoxInIdeal.τ).loc Cert.RefFoxInIdeal.main_arg5))

def preserves_FoxInBwd_FoxInBwdIdeal : Prop :=
  True

def algebraic_FoxInBwdIdeal_RefFoxInBwdIdeal [hFoxInBwdIdeal : Cert.FoxInBwdIdeal.Facts] [hRefFoxInBwdIdeal : Cert.RefFoxInBwdIdeal.Facts] : Prop :=
  ∀ (m : (ℓ : Loc Cert.FoxInBwdIdeal.nD Cert.FoxInBwdIdeal.τ Cert.FoxInBwdIdeal.sig) → Buf (Elt Ideal) ℓ) (g : Dev Cert.FoxInBwdIdeal.nD → PrngReg)
    (m' : (ℓ : Loc Cert.RefFoxInBwdIdeal.nD Cert.RefFoxInBwdIdeal.τ Cert.RefFoxInBwdIdeal.sig) → Buf (Elt Ideal) ℓ) (g' : Dev Cert.RefFoxInBwdIdeal.nD → PrngReg), Pre_FoxInBwdIdeal m →
    (∀ c : Dev Cert.FoxInBwdIdeal.nD,
      m' ((c.tc : Thread Cert.RefFoxInBwdIdeal.nD Cert.RefFoxInBwdIdeal.τ).loc Cert.RefFoxInBwdIdeal.main_arg0) = m ((c.tc : Thread Cert.FoxInBwdIdeal.nD Cert.FoxInBwdIdeal.τ).loc Cert.FoxInBwdIdeal.main_arg0)
      ∧ m' ((c.tc : Thread Cert.RefFoxInBwdIdeal.nD Cert.RefFoxInBwdIdeal.τ).loc Cert.RefFoxInBwdIdeal.main_arg1) = m ((c.tc : Thread Cert.FoxInBwdIdeal.nD Cert.FoxInBwdIdeal.τ).loc Cert.FoxInBwdIdeal.main_arg1)
      ∧ m' ((c.tc : Thread Cert.RefFoxInBwdIdeal.nD Cert.RefFoxInBwdIdeal.τ).loc Cert.RefFoxInBwdIdeal.main_arg2) = m ((c.tc : Thread Cert.FoxInBwdIdeal.nD Cert.FoxInBwdIdeal.τ).loc Cert.FoxInBwdIdeal.main_arg2)
      ∧ m' ((c.tc : Thread Cert.RefFoxInBwdIdeal.nD Cert.RefFoxInBwdIdeal.τ).loc Cert.RefFoxInBwdIdeal.main_arg3) = m ((c.tc : Thread Cert.FoxInBwdIdeal.nD Cert.FoxInBwdIdeal.τ).loc Cert.FoxInBwdIdeal.main_arg3)
      ∧ m' ((c.tc : Thread Cert.RefFoxInBwdIdeal.nD Cert.RefFoxInBwdIdeal.τ).loc Cert.RefFoxInBwdIdeal.main_arg4) = m ((c.tc : Thread Cert.FoxInBwdIdeal.nD Cert.FoxInBwdIdeal.τ).loc Cert.FoxInBwdIdeal.main_arg4)
      ∧ m' ((c.tc : Thread Cert.RefFoxInBwdIdeal.nD Cert.RefFoxInBwdIdeal.τ).loc Cert.RefFoxInBwdIdeal.main_arg5) = m ((c.tc : Thread Cert.FoxInBwdIdeal.nD Cert.FoxInBwdIdeal.τ).loc Cert.FoxInBwdIdeal.main_arg5)
      ∧ m' ((c.tc : Thread Cert.RefFoxInBwdIdeal.nD Cert.RefFoxInBwdIdeal.τ).loc Cert.RefFoxInBwdIdeal.main_arg6) = m ((c.tc : Thread Cert.FoxInBwdIdeal.nD Cert.FoxInBwdIdeal.τ).loc Cert.FoxInBwdIdeal.main_arg6)) →
    ∃ (v0 : (c : Dev Cert.FoxInBwdIdeal.nD) → Buf (Elt Ideal) ((c.tc : Thread Cert.FoxInBwdIdeal.nD Cert.FoxInBwdIdeal.τ).loc Cert.FoxInBwdIdeal.main_v2_0)) (v1 : (c : Dev Cert.FoxInBwdIdeal.nD) → Buf (Elt Ideal) ((c.tc : Thread Cert.FoxInBwdIdeal.nD Cert.FoxInBwdIdeal.τ).loc Cert.FoxInBwdIdeal.main_v3)) (v2 : (c : Dev Cert.FoxInBwdIdeal.nD) → Buf (Elt Ideal) ((c.tc : Thread Cert.FoxInBwdIdeal.nD Cert.FoxInBwdIdeal.τ).loc Cert.FoxInBwdIdeal.main_v2_2)) (v3 : (c : Dev Cert.FoxInBwdIdeal.nD) → Buf (Elt Ideal) ((c.tc : Thread Cert.FoxInBwdIdeal.nD Cert.FoxInBwdIdeal.τ).loc Cert.FoxInBwdIdeal.main_v2_3)),
      θ_run (Cert.FoxInBwdIdeal.defs (F := Ideal)) (onTc (τ := Cert.FoxInBwdIdeal.τ) (Cert.FoxInBwdIdeal.main (F := Ideal))) ⟨m, fun _ => 0, g⟩ (fun r => ∀ c : Dev Cert.FoxInBwdIdeal.nD,
          r.2.mem ((c.tc : Thread Cert.FoxInBwdIdeal.nD Cert.FoxInBwdIdeal.τ).loc Cert.FoxInBwdIdeal.main_v2_0) = v0 c
          ∧ r.2.mem ((c.tc : Thread Cert.FoxInBwdIdeal.nD Cert.FoxInBwdIdeal.τ).loc Cert.FoxInBwdIdeal.main_v3) = v1 c
          ∧ r.2.mem ((c.tc : Thread Cert.FoxInBwdIdeal.nD Cert.FoxInBwdIdeal.τ).loc Cert.FoxInBwdIdeal.main_v2_2) = v2 c
          ∧ r.2.mem ((c.tc : Thread Cert.FoxInBwdIdeal.nD Cert.FoxInBwdIdeal.τ).loc Cert.FoxInBwdIdeal.main_v2_3) = v3 c
          ∧ r.2.mem ((c.tc : Thread Cert.FoxInBwdIdeal.nD Cert.FoxInBwdIdeal.τ).loc Cert.FoxInBwdIdeal.main_arg0) = m ((c.tc : Thread Cert.FoxInBwdIdeal.nD Cert.FoxInBwdIdeal.τ).loc Cert.FoxInBwdIdeal.main_arg0)
          ∧ r.2.mem ((c.tc : Thread Cert.FoxInBwdIdeal.nD Cert.FoxInBwdIdeal.τ).loc Cert.FoxInBwdIdeal.main_arg1) = m ((c.tc : Thread Cert.FoxInBwdIdeal.nD Cert.FoxInBwdIdeal.τ).loc Cert.FoxInBwdIdeal.main_arg1)
          ∧ r.2.mem ((c.tc : Thread Cert.FoxInBwdIdeal.nD Cert.FoxInBwdIdeal.τ).loc Cert.FoxInBwdIdeal.main_arg2) = m ((c.tc : Thread Cert.FoxInBwdIdeal.nD Cert.FoxInBwdIdeal.τ).loc Cert.FoxInBwdIdeal.main_arg2)
          ∧ r.2.mem ((c.tc : Thread Cert.FoxInBwdIdeal.nD Cert.FoxInBwdIdeal.τ).loc Cert.FoxInBwdIdeal.main_arg3) = m ((c.tc : Thread Cert.FoxInBwdIdeal.nD Cert.FoxInBwdIdeal.τ).loc Cert.FoxInBwdIdeal.main_arg3)
          ∧ r.2.mem ((c.tc : Thread Cert.FoxInBwdIdeal.nD Cert.FoxInBwdIdeal.τ).loc Cert.FoxInBwdIdeal.main_arg4) = m ((c.tc : Thread Cert.FoxInBwdIdeal.nD Cert.FoxInBwdIdeal.τ).loc Cert.FoxInBwdIdeal.main_arg4)
          ∧ r.2.mem ((c.tc : Thread Cert.FoxInBwdIdeal.nD Cert.FoxInBwdIdeal.τ).loc Cert.FoxInBwdIdeal.main_arg5) = m ((c.tc : Thread Cert.FoxInBwdIdeal.nD Cert.FoxInBwdIdeal.τ).loc Cert.FoxInBwdIdeal.main_arg5)
          ∧ r.2.mem ((c.tc : Thread Cert.FoxInBwdIdeal.nD Cert.FoxInBwdIdeal.τ).loc Cert.FoxInBwdIdeal.main_arg6) = m ((c.tc : Thread Cert.FoxInBwdIdeal.nD Cert.FoxInBwdIdeal.τ).loc Cert.FoxInBwdIdeal.main_arg6))
      ∧ θ_run (Cert.RefFoxInBwdIdeal.defs (F := Ideal)) (onTc (τ := Cert.RefFoxInBwdIdeal.τ) (Cert.RefFoxInBwdIdeal.main (F := Ideal))) ⟨m', fun _ => 0, g'⟩ (fun r => ∀ c : Dev Cert.RefFoxInBwdIdeal.nD,
          r.2.mem ((c.tc : Thread Cert.RefFoxInBwdIdeal.nD Cert.RefFoxInBwdIdeal.τ).loc Cert.RefFoxInBwdIdeal.main_v51) = v0 c
          ∧ r.2.mem ((c.tc : Thread Cert.RefFoxInBwdIdeal.nD Cert.RefFoxInBwdIdeal.τ).loc Cert.RefFoxInBwdIdeal.main_v36) = v1 c
          ∧ r.2.mem ((c.tc : Thread Cert.RefFoxInBwdIdeal.nD Cert.RefFoxInBwdIdeal.τ).loc Cert.RefFoxInBwdIdeal.main_v28) = v2 c
          ∧ r.2.mem ((c.tc : Thread Cert.RefFoxInBwdIdeal.nD Cert.RefFoxInBwdIdeal.τ).loc Cert.RefFoxInBwdIdeal.main_v25) = v3 c
          ∧ r.2.mem ((c.tc : Thread Cert.RefFoxInBwdIdeal.nD Cert.RefFoxInBwdIdeal.τ).loc Cert.RefFoxInBwdIdeal.main_arg0) = m' ((c.tc : Thread Cert.RefFoxInBwdIdeal.nD Cert.RefFoxInBwdIdeal.τ).loc Cert.RefFoxInBwdIdeal.main_arg0)
          ∧ r.2.mem ((c.tc : Thread Cert.RefFoxInBwdIdeal.nD Cert.RefFoxInBwdIdeal.τ).loc Cert.RefFoxInBwdIdeal.main_arg1) = m' ((c.tc : Thread Cert.RefFoxInBwdIdeal.nD Cert.RefFoxInBwdIdeal.τ).loc Cert.RefFoxInBwdIdeal.main_arg1)
          ∧ r.2.mem ((c.tc : Thread Cert.RefFoxInBwdIdeal.nD Cert.RefFoxInBwdIdeal.τ).loc Cert.RefFoxInBwdIdeal.main_arg2) = m' ((c.tc : Thread Cert.RefFoxInBwdIdeal.nD Cert.RefFoxInBwdIdeal.τ).loc Cert.RefFoxInBwdIdeal.main_arg2)
          ∧ r.2.mem ((c.tc : Thread Cert.RefFoxInBwdIdeal.nD Cert.RefFoxInBwdIdeal.τ).loc Cert.RefFoxInBwdIdeal.main_arg3) = m' ((c.tc : Thread Cert.RefFoxInBwdIdeal.nD Cert.RefFoxInBwdIdeal.τ).loc Cert.RefFoxInBwdIdeal.main_arg3)
          ∧ r.2.mem ((c.tc : Thread Cert.RefFoxInBwdIdeal.nD Cert.RefFoxInBwdIdeal.τ).loc Cert.RefFoxInBwdIdeal.main_arg4) = m' ((c.tc : Thread Cert.RefFoxInBwdIdeal.nD Cert.RefFoxInBwdIdeal.τ).loc Cert.RefFoxInBwdIdeal.main_arg4)
          ∧ r.2.mem ((c.tc : Thread Cert.RefFoxInBwdIdeal.nD Cert.RefFoxInBwdIdeal.τ).loc Cert.RefFoxInBwdIdeal.main_arg5) = m' ((c.tc : Thread Cert.RefFoxInBwdIdeal.nD Cert.RefFoxInBwdIdeal.τ).loc Cert.RefFoxInBwdIdeal.main_arg5)
          ∧ r.2.mem ((c.tc : Thread Cert.RefFoxInBwdIdeal.nD Cert.RefFoxInBwdIdeal.τ).loc Cert.RefFoxInBwdIdeal.main_arg6) = m' ((c.tc : Thread Cert.RefFoxInBwdIdeal.nD Cert.RefFoxInBwdIdeal.τ).loc Cert.RefFoxInBwdIdeal.main_arg6))

def preserves_GdnOut_GdnOutIdeal : Prop :=
  True

def algebraic_GdnOutIdeal_RefGdnOutIdeal [hGdnOutIdeal : Cert.GdnOutIdeal.Facts] [hRefGdnOutIdeal : Cert.RefGdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.RefGdnOutIdeal.nD Cert.RefGdnOutIdeal.τ Cert.RefGdnOutIdeal.sig) → Buf (Elt Ideal) ℓ) (g' : Dev Cert.RefGdnOutIdeal.nD → PrngReg), Pre_GdnOutIdeal m →
    (∀ c : Dev Cert.GdnOutIdeal.nD,
      m' ((c.tc : Thread Cert.RefGdnOutIdeal.nD Cert.RefGdnOutIdeal.τ).loc Cert.RefGdnOutIdeal.main_arg0) = m ((c.tc : Thread Cert.GdnOutIdeal.nD Cert.GdnOutIdeal.τ).loc Cert.GdnOutIdeal.main_arg0)
      ∧ m' ((c.tc : Thread Cert.RefGdnOutIdeal.nD Cert.RefGdnOutIdeal.τ).loc Cert.RefGdnOutIdeal.main_arg1) = m ((c.tc : Thread Cert.GdnOutIdeal.nD Cert.GdnOutIdeal.τ).loc Cert.GdnOutIdeal.main_arg1)
      ∧ m' ((c.tc : Thread Cert.RefGdnOutIdeal.nD Cert.RefGdnOutIdeal.τ).loc Cert.RefGdnOutIdeal.main_arg2) = m ((c.tc : Thread Cert.GdnOutIdeal.nD Cert.GdnOutIdeal.τ).loc Cert.GdnOutIdeal.main_arg2)
      ∧ m' ((c.tc : Thread Cert.RefGdnOutIdeal.nD Cert.RefGdnOutIdeal.τ).loc Cert.RefGdnOutIdeal.main_arg3) = m ((c.tc : Thread Cert.GdnOutIdeal.nD Cert.GdnOutIdeal.τ).loc Cert.GdnOutIdeal.main_arg3)
      ∧ m' ((c.tc : Thread Cert.RefGdnOutIdeal.nD Cert.RefGdnOutIdeal.τ).loc Cert.RefGdnOutIdeal.main_arg4) = m ((c.tc : Thread Cert.GdnOutIdeal.nD Cert.GdnOutIdeal.τ).loc Cert.GdnOutIdeal.main_arg4)
      ∧ m' ((c.tc : Thread Cert.RefGdnOutIdeal.nD Cert.RefGdnOutIdeal.τ).loc Cert.RefGdnOutIdeal.main_arg5) = m ((c.tc : Thread Cert.GdnOutIdeal.nD Cert.GdnOutIdeal.τ).loc Cert.GdnOutIdeal.main_arg5)
      ∧ m' ((c.tc : Thread Cert.RefGdnOutIdeal.nD Cert.RefGdnOutIdeal.τ).loc Cert.RefGdnOutIdeal.main_arg6) = m ((c.tc : Thread Cert.GdnOutIdeal.nD Cert.GdnOutIdeal.τ).loc Cert.GdnOutIdeal.main_arg6)) →
    ∃ (v0 : (c : Dev Cert.GdnOutIdeal.nD) → Buf (Elt Ideal) ((c.tc : Thread Cert.GdnOutIdeal.nD Cert.GdnOutIdeal.τ).loc Cert.GdnOutIdeal.main_v2_0)) (v1 : (c : Dev Cert.GdnOutIdeal.nD) → Buf (Elt Ideal) ((c.tc : Thread Cert.GdnOutIdeal.nD Cert.GdnOutIdeal.τ).loc Cert.GdnOutIdeal.main_v5)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v2_0) = v0 c
          ∧ r.2.mem ((c.tc : Thread Cert.GdnOutIdeal.nD Cert.GdnOutIdeal.τ).loc Cert.GdnOutIdeal.main_v5) = v1 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4)
          ∧ r.2.mem ((c.tc : Thread Cert.GdnOutIdeal.nD Cert.GdnOutIdeal.τ).loc Cert.GdnOutIdeal.main_arg5) = m ((c.tc : Thread Cert.GdnOutIdeal.nD Cert.GdnOutIdeal.τ).loc Cert.GdnOutIdeal.main_arg5)
          ∧ r.2.mem ((c.tc : Thread Cert.GdnOutIdeal.nD Cert.GdnOutIdeal.τ).loc Cert.GdnOutIdeal.main_arg6) = m ((c.tc : Thread Cert.GdnOutIdeal.nD Cert.GdnOutIdeal.τ).loc Cert.GdnOutIdeal.main_arg6))
      ∧ θ_run (Cert.RefGdnOutIdeal.defs (F := Ideal)) (onTc (τ := Cert.RefGdnOutIdeal.τ) (Cert.RefGdnOutIdeal.main (F := Ideal))) ⟨m', fun _ => 0, g'⟩ (fun r => ∀ c : Dev Cert.RefGdnOutIdeal.nD,
          r.2.mem ((c.tc : Thread Cert.RefGdnOutIdeal.nD Cert.RefGdnOutIdeal.τ).loc Cert.RefGdnOutIdeal.main_v22) = v0 c
          ∧ r.2.mem ((c.tc : Thread Cert.RefGdnOutIdeal.nD Cert.RefGdnOutIdeal.τ).loc Cert.RefGdnOutIdeal.main_v26) = v1 c
          ∧ r.2.mem ((c.tc : Thread Cert.RefGdnOutIdeal.nD Cert.RefGdnOutIdeal.τ).loc Cert.RefGdnOutIdeal.main_arg0) = m' ((c.tc : Thread Cert.RefGdnOutIdeal.nD Cert.RefGdnOutIdeal.τ).loc Cert.RefGdnOutIdeal.main_arg0)
          ∧ r.2.mem ((c.tc : Thread Cert.RefGdnOutIdeal.nD Cert.RefGdnOutIdeal.τ).loc Cert.RefGdnOutIdeal.main_arg1) = m' ((c.tc : Thread Cert.RefGdnOutIdeal.nD Cert.RefGdnOutIdeal.τ).loc Cert.RefGdnOutIdeal.main_arg1)
          ∧ r.2.mem ((c.tc : Thread Cert.RefGdnOutIdeal.nD Cert.RefGdnOutIdeal.τ).loc Cert.RefGdnOutIdeal.main_arg2) = m' ((c.tc : Thread Cert.RefGdnOutIdeal.nD Cert.RefGdnOutIdeal.τ).loc Cert.RefGdnOutIdeal.main_arg2)
          ∧ r.2.mem ((c.tc : Thread Cert.RefGdnOutIdeal.nD Cert.RefGdnOutIdeal.τ).loc Cert.RefGdnOutIdeal.main_arg3) = m' ((c.tc : Thread Cert.RefGdnOutIdeal.nD Cert.RefGdnOutIdeal.τ).loc Cert.RefGdnOutIdeal.main_arg3)
          ∧ r.2.mem ((c.tc : Thread Cert.RefGdnOutIdeal.nD Cert.RefGdnOutIdeal.τ).loc Cert.RefGdnOutIdeal.main_arg4) = m' ((c.tc : Thread Cert.RefGdnOutIdeal.nD Cert.RefGdnOutIdeal.τ).loc Cert.RefGdnOutIdeal.main_arg4)
          ∧ r.2.mem ((c.tc : Thread Cert.RefGdnOutIdeal.nD Cert.RefGdnOutIdeal.τ).loc Cert.RefGdnOutIdeal.main_arg5) = m' ((c.tc : Thread Cert.RefGdnOutIdeal.nD Cert.RefGdnOutIdeal.τ).loc Cert.RefGdnOutIdeal.main_arg5)
          ∧ r.2.mem ((c.tc : Thread Cert.RefGdnOutIdeal.nD Cert.RefGdnOutIdeal.τ).loc Cert.RefGdnOutIdeal.main_arg6) = m' ((c.tc : Thread Cert.RefGdnOutIdeal.nD Cert.RefGdnOutIdeal.τ).loc Cert.RefGdnOutIdeal.main_arg6))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)
      ∧ m' ((c.tc : Thread Cert.RefLossIdeal.nD Cert.RefLossIdeal.τ).loc Cert.RefLossIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v4) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v24) = v0 c
          ∧ r.2.mem ((c.tc : Thread Cert.RefLossIdeal.nD Cert.RefLossIdeal.τ).loc Cert.RefLossIdeal.main_v50) = v1 c
          ∧ r.2.mem ((c.tc : Thread Cert.RefLossIdeal.nD Cert.RefLossIdeal.τ).loc Cert.RefLossIdeal.main_v36) = v2 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1)
          ∧ r.2.mem ((c.tc : Thread Cert.RefLossIdeal.nD Cert.RefLossIdeal.τ).loc Cert.RefLossIdeal.main_arg2) = m' ((c.tc : Thread Cert.RefLossIdeal.nD Cert.RefLossIdeal.τ).loc Cert.RefLossIdeal.main_arg2))

def preserves_AdamGdnIn_AdamGdnInIdeal : Prop :=
  IdealRules.named_const.Statement Cert.AdamGdnInIdeal.κ "debias_m" .f32 0x3FC48605#32 (((5463681 / 8388608)⁻¹ : ℝ) : EReal)
  ∧ IdealRules.named_const.Statement Cert.AdamGdnInIdeal.κ "debias_v" .f32 0x42C8E6D3#32 (((2672307 / 268435456)⁻¹ : ℝ) : EReal)

def algebraic_AdamGdnInIdeal_RefAdamGdnInIdeal [hAdamGdnInIdeal : Cert.AdamGdnInIdeal.Facts] [hRefAdamGdnInIdeal : Cert.RefAdamGdnInIdeal.Facts] : Prop :=
  ∀ (m : (ℓ : Loc Cert.AdamGdnInIdeal.nD Cert.AdamGdnInIdeal.τ Cert.AdamGdnInIdeal.sig) → Buf (Elt Ideal) ℓ) (g : Dev Cert.AdamGdnInIdeal.nD → PrngReg)
    (m' : (ℓ : Loc Cert.RefAdamGdnInIdeal.nD Cert.RefAdamGdnInIdeal.τ Cert.RefAdamGdnInIdeal.sig) → Buf (Elt Ideal) ℓ) (g' : Dev Cert.RefAdamGdnInIdeal.nD → PrngReg), Pre_AdamGdnInIdeal m →
    (∀ c : Dev Cert.AdamGdnInIdeal.nD,
      m' ((c.tc : Thread Cert.RefAdamGdnInIdeal.nD Cert.RefAdamGdnInIdeal.τ).loc Cert.RefAdamGdnInIdeal.main_arg0) = m ((c.tc : Thread Cert.AdamGdnInIdeal.nD Cert.AdamGdnInIdeal.τ).loc Cert.AdamGdnInIdeal.main_arg0)
      ∧ m' ((c.tc : Thread Cert.RefAdamGdnInIdeal.nD Cert.RefAdamGdnInIdeal.τ).loc Cert.RefAdamGdnInIdeal.main_arg1) = m ((c.tc : Thread Cert.AdamGdnInIdeal.nD Cert.AdamGdnInIdeal.τ).loc Cert.AdamGdnInIdeal.main_arg1)
      ∧ m' ((c.tc : Thread Cert.RefAdamGdnInIdeal.nD Cert.RefAdamGdnInIdeal.τ).loc Cert.RefAdamGdnInIdeal.main_arg2) = m ((c.tc : Thread Cert.AdamGdnInIdeal.nD Cert.AdamGdnInIdeal.τ).loc Cert.AdamGdnInIdeal.main_arg2)
      ∧ m' ((c.tc : Thread Cert.RefAdamGdnInIdeal.nD Cert.RefAdamGdnInIdeal.τ).loc Cert.RefAdamGdnInIdeal.main_arg3) = m ((c.tc : Thread Cert.AdamGdnInIdeal.nD Cert.AdamGdnInIdeal.τ).loc Cert.AdamGdnInIdeal.main_arg3)) →
    ∃ (v0 : (c : Dev Cert.AdamGdnInIdeal.nD) → Buf (Elt Ideal) ((c.tc : Thread Cert.AdamGdnInIdeal.nD Cert.AdamGdnInIdeal.τ).loc Cert.AdamGdnInIdeal.main_v0_0)) (v1 : (c : Dev Cert.AdamGdnInIdeal.nD) → Buf (Elt Ideal) ((c.tc : Thread Cert.AdamGdnInIdeal.nD Cert.AdamGdnInIdeal.τ).loc Cert.AdamGdnInIdeal.main_v0_1)) (v2 : (c : Dev Cert.AdamGdnInIdeal.nD) → Buf (Elt Ideal) ((c.tc : Thread Cert.AdamGdnInIdeal.nD Cert.AdamGdnInIdeal.τ).loc Cert.AdamGdnInIdeal.main_v0_2)) (v3 : (c : Dev Cert.AdamGdnInIdeal.nD) → Buf (Elt Ideal) ((c.tc : Thread Cert.AdamGdnInIdeal.nD Cert.AdamGdnInIdeal.τ).loc Cert.AdamGdnInIdeal.main_v0_3)),
      θ_run (Cert.AdamGdnInIdeal.defs (F := Ideal)) (onTc (τ := Cert.AdamGdnInIdeal.τ) (Cert.AdamGdnInIdeal.main (F := Ideal))) ⟨m, fun _ => 0, g⟩ (fun r => ∀ c : Dev Cert.AdamGdnInIdeal.nD,
          r.2.mem ((c.tc : Thread Cert.AdamGdnInIdeal.nD Cert.AdamGdnInIdeal.τ).loc Cert.AdamGdnInIdeal.main_v0_0) = v0 c
          ∧ r.2.mem ((c.tc : Thread Cert.AdamGdnInIdeal.nD Cert.AdamGdnInIdeal.τ).loc Cert.AdamGdnInIdeal.main_v0_1) = v1 c
          ∧ r.2.mem ((c.tc : Thread Cert.AdamGdnInIdeal.nD Cert.AdamGdnInIdeal.τ).loc Cert.AdamGdnInIdeal.main_v0_2) = v2 c
          ∧ r.2.mem ((c.tc : Thread Cert.AdamGdnInIdeal.nD Cert.AdamGdnInIdeal.τ).loc Cert.AdamGdnInIdeal.main_v0_3) = v3 c
          ∧ r.2.mem ((c.tc : Thread Cert.AdamGdnInIdeal.nD Cert.AdamGdnInIdeal.τ).loc Cert.AdamGdnInIdeal.main_arg0) = m ((c.tc : Thread Cert.AdamGdnInIdeal.nD Cert.AdamGdnInIdeal.τ).loc Cert.AdamGdnInIdeal.main_arg0)
          ∧ r.2.mem ((c.tc : Thread Cert.AdamGdnInIdeal.nD Cert.AdamGdnInIdeal.τ).loc Cert.AdamGdnInIdeal.main_arg1) = m ((c.tc : Thread Cert.AdamGdnInIdeal.nD Cert.AdamGdnInIdeal.τ).loc Cert.AdamGdnInIdeal.main_arg1)
          ∧ r.2.mem ((c.tc : Thread Cert.AdamGdnInIdeal.nD Cert.AdamGdnInIdeal.τ).loc Cert.AdamGdnInIdeal.main_arg2) = m ((c.tc : Thread Cert.AdamGdnInIdeal.nD Cert.AdamGdnInIdeal.τ).loc Cert.AdamGdnInIdeal.main_arg2)
          ∧ r.2.mem ((c.tc : Thread Cert.AdamGdnInIdeal.nD Cert.AdamGdnInIdeal.τ).loc Cert.AdamGdnInIdeal.main_arg3) = m ((c.tc : Thread Cert.AdamGdnInIdeal.nD Cert.AdamGdnInIdeal.τ).loc Cert.AdamGdnInIdeal.main_arg3))
      ∧ θ_run (Cert.RefAdamGdnInIdeal.defs (F := Ideal)) (onTc (τ := Cert.RefAdamGdnInIdeal.τ) (Cert.RefAdamGdnInIdeal.main (F := Ideal))) ⟨m', fun _ => 0, g'⟩ (fun r => ∀ c : Dev Cert.RefAdamGdnInIdeal.nD,
          r.2.mem ((c.tc : Thread Cert.RefAdamGdnInIdeal.nD Cert.RefAdamGdnInIdeal.τ).loc Cert.RefAdamGdnInIdeal.main_v1) = v0 c
          ∧ r.2.mem ((c.tc : Thread Cert.RefAdamGdnInIdeal.nD Cert.RefAdamGdnInIdeal.τ).loc Cert.RefAdamGdnInIdeal.main_v25) = v1 c
          ∧ r.2.mem ((c.tc : Thread Cert.RefAdamGdnInIdeal.nD Cert.RefAdamGdnInIdeal.τ).loc Cert.RefAdamGdnInIdeal.main_v6) = v2 c
          ∧ r.2.mem ((c.tc : Thread Cert.RefAdamGdnInIdeal.nD Cert.RefAdamGdnInIdeal.τ).loc Cert.RefAdamGdnInIdeal.main_v12) = v3 c
          ∧ r.2.mem ((c.tc : Thread Cert.RefAdamGdnInIdeal.nD Cert.RefAdamGdnInIdeal.τ).loc Cert.RefAdamGdnInIdeal.main_arg0) = m' ((c.tc : Thread Cert.RefAdamGdnInIdeal.nD Cert.RefAdamGdnInIdeal.τ).loc Cert.RefAdamGdnInIdeal.main_arg0)
          ∧ r.2.mem ((c.tc : Thread Cert.RefAdamGdnInIdeal.nD Cert.RefAdamGdnInIdeal.τ).loc Cert.RefAdamGdnInIdeal.main_arg1) = m' ((c.tc : Thread Cert.RefAdamGdnInIdeal.nD Cert.RefAdamGdnInIdeal.τ).loc Cert.RefAdamGdnInIdeal.main_arg1)
          ∧ r.2.mem ((c.tc : Thread Cert.RefAdamGdnInIdeal.nD Cert.RefAdamGdnInIdeal.τ).loc Cert.RefAdamGdnInIdeal.main_arg2) = m' ((c.tc : Thread Cert.RefAdamGdnInIdeal.nD Cert.RefAdamGdnInIdeal.τ).loc Cert.RefAdamGdnInIdeal.main_arg2)
          ∧ r.2.mem ((c.tc : Thread Cert.RefAdamGdnInIdeal.nD Cert.RefAdamGdnInIdeal.τ).loc Cert.RefAdamGdnInIdeal.main_arg3) = m' ((c.tc : Thread Cert.RefAdamGdnInIdeal.nD Cert.RefAdamGdnInIdeal.τ).loc Cert.RefAdamGdnInIdeal.main_arg3))

def preserves_AdamGdnOut_AdamGdnOutIdeal : Prop :=
  IdealRules.named_const.Statement Cert.AdamGdnOutIdeal.κ "debias_m" .f32 0x3FC48605#32 (((5463681 / 8388608)⁻¹ : ℝ) : EReal)
  ∧ IdealRules.named_const.Statement Cert.AdamGdnOutIdeal.κ "debias_v" .f32 0x42C8E6D3#32 (((2672307 / 268435456)⁻¹ : ℝ) : EReal)

def algebraic_AdamGdnOutIdeal_RefAdamGdnOutIdeal [hAdamGdnOutIdeal : Cert.AdamGdnOutIdeal.Facts] [hRefAdamGdnOutIdeal : Cert.RefAdamGdnOutIdeal.Facts] : Prop :=
  ∀ (m : (ℓ : Loc Cert.AdamGdnOutIdeal.nD Cert.AdamGdnOutIdeal.τ Cert.AdamGdnOutIdeal.sig) → Buf (Elt Ideal) ℓ) (g : Dev Cert.AdamGdnOutIdeal.nD → PrngReg)
    (m' : (ℓ : Loc Cert.RefAdamGdnOutIdeal.nD Cert.RefAdamGdnOutIdeal.τ Cert.RefAdamGdnOutIdeal.sig) → Buf (Elt Ideal) ℓ) (g' : Dev Cert.RefAdamGdnOutIdeal.nD → PrngReg), Pre_AdamGdnOutIdeal m →
    (∀ c : Dev Cert.AdamGdnOutIdeal.nD,
      m' ((c.tc : Thread Cert.RefAdamGdnOutIdeal.nD Cert.RefAdamGdnOutIdeal.τ).loc Cert.RefAdamGdnOutIdeal.main_arg0) = m ((c.tc : Thread Cert.AdamGdnOutIdeal.nD Cert.AdamGdnOutIdeal.τ).loc Cert.AdamGdnOutIdeal.main_arg0)
      ∧ m' ((c.tc : Thread Cert.RefAdamGdnOutIdeal.nD Cert.RefAdamGdnOutIdeal.τ).loc Cert.RefAdamGdnOutIdeal.main_arg1) = m ((c.tc : Thread Cert.AdamGdnOutIdeal.nD Cert.AdamGdnOutIdeal.τ).loc Cert.AdamGdnOutIdeal.main_arg1)
      ∧ m' ((c.tc : Thread Cert.RefAdamGdnOutIdeal.nD Cert.RefAdamGdnOutIdeal.τ).loc Cert.RefAdamGdnOutIdeal.main_arg2) = m ((c.tc : Thread Cert.AdamGdnOutIdeal.nD Cert.AdamGdnOutIdeal.τ).loc Cert.AdamGdnOutIdeal.main_arg2)
      ∧ m' ((c.tc : Thread Cert.RefAdamGdnOutIdeal.nD Cert.RefAdamGdnOutIdeal.τ).loc Cert.RefAdamGdnOutIdeal.main_arg3) = m ((c.tc : Thread Cert.AdamGdnOutIdeal.nD Cert.AdamGdnOutIdeal.τ).loc Cert.AdamGdnOutIdeal.main_arg3)) →
    ∃ (v0 : (c : Dev Cert.AdamGdnOutIdeal.nD) → Buf (Elt Ideal) ((c.tc : Thread Cert.AdamGdnOutIdeal.nD Cert.AdamGdnOutIdeal.τ).loc Cert.AdamGdnOutIdeal.main_v0_0)) (v1 : (c : Dev Cert.AdamGdnOutIdeal.nD) → Buf (Elt Ideal) ((c.tc : Thread Cert.AdamGdnOutIdeal.nD Cert.AdamGdnOutIdeal.τ).loc Cert.AdamGdnOutIdeal.main_v0_1)) (v2 : (c : Dev Cert.AdamGdnOutIdeal.nD) → Buf (Elt Ideal) ((c.tc : Thread Cert.AdamGdnOutIdeal.nD Cert.AdamGdnOutIdeal.τ).loc Cert.AdamGdnOutIdeal.main_v0_2)) (v3 : (c : Dev Cert.AdamGdnOutIdeal.nD) → Buf (Elt Ideal) ((c.tc : Thread Cert.AdamGdnOutIdeal.nD Cert.AdamGdnOutIdeal.τ).loc Cert.AdamGdnOutIdeal.main_v0_3)),
      θ_run (Cert.AdamGdnOutIdeal.defs (F := Ideal)) (onTc (τ := Cert.AdamGdnOutIdeal.τ) (Cert.AdamGdnOutIdeal.main (F := Ideal))) ⟨m, fun _ => 0, g⟩ (fun r => ∀ c : Dev Cert.AdamGdnOutIdeal.nD,
          r.2.mem ((c.tc : Thread Cert.AdamGdnOutIdeal.nD Cert.AdamGdnOutIdeal.τ).loc Cert.AdamGdnOutIdeal.main_v0_0) = v0 c
          ∧ r.2.mem ((c.tc : Thread Cert.AdamGdnOutIdeal.nD Cert.AdamGdnOutIdeal.τ).loc Cert.AdamGdnOutIdeal.main_v0_1) = v1 c
          ∧ r.2.mem ((c.tc : Thread Cert.AdamGdnOutIdeal.nD Cert.AdamGdnOutIdeal.τ).loc Cert.AdamGdnOutIdeal.main_v0_2) = v2 c
          ∧ r.2.mem ((c.tc : Thread Cert.AdamGdnOutIdeal.nD Cert.AdamGdnOutIdeal.τ).loc Cert.AdamGdnOutIdeal.main_v0_3) = v3 c
          ∧ r.2.mem ((c.tc : Thread Cert.AdamGdnOutIdeal.nD Cert.AdamGdnOutIdeal.τ).loc Cert.AdamGdnOutIdeal.main_arg0) = m ((c.tc : Thread Cert.AdamGdnOutIdeal.nD Cert.AdamGdnOutIdeal.τ).loc Cert.AdamGdnOutIdeal.main_arg0)
          ∧ r.2.mem ((c.tc : Thread Cert.AdamGdnOutIdeal.nD Cert.AdamGdnOutIdeal.τ).loc Cert.AdamGdnOutIdeal.main_arg1) = m ((c.tc : Thread Cert.AdamGdnOutIdeal.nD Cert.AdamGdnOutIdeal.τ).loc Cert.AdamGdnOutIdeal.main_arg1)
          ∧ r.2.mem ((c.tc : Thread Cert.AdamGdnOutIdeal.nD Cert.AdamGdnOutIdeal.τ).loc Cert.AdamGdnOutIdeal.main_arg2) = m ((c.tc : Thread Cert.AdamGdnOutIdeal.nD Cert.AdamGdnOutIdeal.τ).loc Cert.AdamGdnOutIdeal.main_arg2)
          ∧ r.2.mem ((c.tc : Thread Cert.AdamGdnOutIdeal.nD Cert.AdamGdnOutIdeal.τ).loc Cert.AdamGdnOutIdeal.main_arg3) = m ((c.tc : Thread Cert.AdamGdnOutIdeal.nD Cert.AdamGdnOutIdeal.τ).loc Cert.AdamGdnOutIdeal.main_arg3))
      ∧ θ_run (Cert.RefAdamGdnOutIdeal.defs (F := Ideal)) (onTc (τ := Cert.RefAdamGdnOutIdeal.τ) (Cert.RefAdamGdnOutIdeal.main (F := Ideal))) ⟨m', fun _ => 0, g'⟩ (fun r => ∀ c : Dev Cert.RefAdamGdnOutIdeal.nD,
          r.2.mem ((c.tc : Thread Cert.RefAdamGdnOutIdeal.nD Cert.RefAdamGdnOutIdeal.τ).loc Cert.RefAdamGdnOutIdeal.main_v1) = v0 c
          ∧ r.2.mem ((c.tc : Thread Cert.RefAdamGdnOutIdeal.nD Cert.RefAdamGdnOutIdeal.τ).loc Cert.RefAdamGdnOutIdeal.main_v25) = v1 c
          ∧ r.2.mem ((c.tc : Thread Cert.RefAdamGdnOutIdeal.nD Cert.RefAdamGdnOutIdeal.τ).loc Cert.RefAdamGdnOutIdeal.main_v6) = v2 c
          ∧ r.2.mem ((c.tc : Thread Cert.RefAdamGdnOutIdeal.nD Cert.RefAdamGdnOutIdeal.τ).loc Cert.RefAdamGdnOutIdeal.main_v12) = v3 c
          ∧ r.2.mem ((c.tc : Thread Cert.RefAdamGdnOutIdeal.nD Cert.RefAdamGdnOutIdeal.τ).loc Cert.RefAdamGdnOutIdeal.main_arg0) = m' ((c.tc : Thread Cert.RefAdamGdnOutIdeal.nD Cert.RefAdamGdnOutIdeal.τ).loc Cert.RefAdamGdnOutIdeal.main_arg0)
          ∧ r.2.mem ((c.tc : Thread Cert.RefAdamGdnOutIdeal.nD Cert.RefAdamGdnOutIdeal.τ).loc Cert.RefAdamGdnOutIdeal.main_arg1) = m' ((c.tc : Thread Cert.RefAdamGdnOutIdeal.nD Cert.RefAdamGdnOutIdeal.τ).loc Cert.RefAdamGdnOutIdeal.main_arg1)
          ∧ r.2.mem ((c.tc : Thread Cert.RefAdamGdnOutIdeal.nD Cert.RefAdamGdnOutIdeal.τ).loc Cert.RefAdamGdnOutIdeal.main_arg2) = m' ((c.tc : Thread Cert.RefAdamGdnOutIdeal.nD Cert.RefAdamGdnOutIdeal.τ).loc Cert.RefAdamGdnOutIdeal.main_arg2)
          ∧ r.2.mem ((c.tc : Thread Cert.RefAdamGdnOutIdeal.nD Cert.RefAdamGdnOutIdeal.τ).loc Cert.RefAdamGdnOutIdeal.main_arg3) = m' ((c.tc : Thread Cert.RefAdamGdnOutIdeal.nD Cert.RefAdamGdnOutIdeal.τ).loc Cert.RefAdamGdnOutIdeal.main_arg3))

def preserves_AdamFoxIn_AdamFoxInIdeal : Prop :=
  IdealRules.named_const.Statement Cert.AdamFoxInIdeal.κ "debias_m" .f32 0x3FC48605#32 (((5463681 / 8388608)⁻¹ : ℝ) : EReal)
  ∧ IdealRules.named_const.Statement Cert.AdamFoxInIdeal.κ "debias_v" .f32 0x42C8E6D3#32 (((2672307 / 268435456)⁻¹ : ℝ) : EReal)

def algebraic_AdamFoxInIdeal_RefAdamFoxInIdeal [hAdamFoxInIdeal : Cert.AdamFoxInIdeal.Facts] [hRefAdamFoxInIdeal : Cert.RefAdamFoxInIdeal.Facts] : Prop :=
  ∀ (m : (ℓ : Loc Cert.AdamFoxInIdeal.nD Cert.AdamFoxInIdeal.τ Cert.AdamFoxInIdeal.sig) → Buf (Elt Ideal) ℓ) (g : Dev Cert.AdamFoxInIdeal.nD → PrngReg)
    (m' : (ℓ : Loc Cert.RefAdamFoxInIdeal.nD Cert.RefAdamFoxInIdeal.τ Cert.RefAdamFoxInIdeal.sig) → Buf (Elt Ideal) ℓ) (g' : Dev Cert.RefAdamFoxInIdeal.nD → PrngReg), Pre_AdamFoxInIdeal m →
    (∀ c : Dev Cert.AdamFoxInIdeal.nD,
      m' ((c.tc : Thread Cert.RefAdamFoxInIdeal.nD Cert.RefAdamFoxInIdeal.τ).loc Cert.RefAdamFoxInIdeal.main_arg0) = m ((c.tc : Thread Cert.AdamFoxInIdeal.nD Cert.AdamFoxInIdeal.τ).loc Cert.AdamFoxInIdeal.main_arg0)
      ∧ m' ((c.tc : Thread Cert.RefAdamFoxInIdeal.nD Cert.RefAdamFoxInIdeal.τ).loc Cert.RefAdamFoxInIdeal.main_arg1) = m ((c.tc : Thread Cert.AdamFoxInIdeal.nD Cert.AdamFoxInIdeal.τ).loc Cert.AdamFoxInIdeal.main_arg1)
      ∧ m' ((c.tc : Thread Cert.RefAdamFoxInIdeal.nD Cert.RefAdamFoxInIdeal.τ).loc Cert.RefAdamFoxInIdeal.main_arg2) = m ((c.tc : Thread Cert.AdamFoxInIdeal.nD Cert.AdamFoxInIdeal.τ).loc Cert.AdamFoxInIdeal.main_arg2)
      ∧ m' ((c.tc : Thread Cert.RefAdamFoxInIdeal.nD Cert.RefAdamFoxInIdeal.τ).loc Cert.RefAdamFoxInIdeal.main_arg3) = m ((c.tc : Thread Cert.AdamFoxInIdeal.nD Cert.AdamFoxInIdeal.τ).loc Cert.AdamFoxInIdeal.main_arg3)) →
    ∃ (v0 : (c : Dev Cert.AdamFoxInIdeal.nD) → Buf (Elt Ideal) ((c.tc : Thread Cert.AdamFoxInIdeal.nD Cert.AdamFoxInIdeal.τ).loc Cert.AdamFoxInIdeal.main_v0_0)) (v1 : (c : Dev Cert.AdamFoxInIdeal.nD) → Buf (Elt Ideal) ((c.tc : Thread Cert.AdamFoxInIdeal.nD Cert.AdamFoxInIdeal.τ).loc Cert.AdamFoxInIdeal.main_v0_1)) (v2 : (c : Dev Cert.AdamFoxInIdeal.nD) → Buf (Elt Ideal) ((c.tc : Thread Cert.AdamFoxInIdeal.nD Cert.AdamFoxInIdeal.τ).loc Cert.AdamFoxInIdeal.main_v0_2)) (v3 : (c : Dev Cert.AdamFoxInIdeal.nD) → Buf (Elt Ideal) ((c.tc : Thread Cert.AdamFoxInIdeal.nD Cert.AdamFoxInIdeal.τ).loc Cert.AdamFoxInIdeal.main_v0_3)),
      θ_run (Cert.AdamFoxInIdeal.defs (F := Ideal)) (onTc (τ := Cert.AdamFoxInIdeal.τ) (Cert.AdamFoxInIdeal.main (F := Ideal))) ⟨m, fun _ => 0, g⟩ (fun r => ∀ c : Dev Cert.AdamFoxInIdeal.nD,
          r.2.mem ((c.tc : Thread Cert.AdamFoxInIdeal.nD Cert.AdamFoxInIdeal.τ).loc Cert.AdamFoxInIdeal.main_v0_0) = v0 c
          ∧ r.2.mem ((c.tc : Thread Cert.AdamFoxInIdeal.nD Cert.AdamFoxInIdeal.τ).loc Cert.AdamFoxInIdeal.main_v0_1) = v1 c
          ∧ r.2.mem ((c.tc : Thread Cert.AdamFoxInIdeal.nD Cert.AdamFoxInIdeal.τ).loc Cert.AdamFoxInIdeal.main_v0_2) = v2 c
          ∧ r.2.mem ((c.tc : Thread Cert.AdamFoxInIdeal.nD Cert.AdamFoxInIdeal.τ).loc Cert.AdamFoxInIdeal.main_v0_3) = v3 c
          ∧ r.2.mem ((c.tc : Thread Cert.AdamFoxInIdeal.nD Cert.AdamFoxInIdeal.τ).loc Cert.AdamFoxInIdeal.main_arg0) = m ((c.tc : Thread Cert.AdamFoxInIdeal.nD Cert.AdamFoxInIdeal.τ).loc Cert.AdamFoxInIdeal.main_arg0)
          ∧ r.2.mem ((c.tc : Thread Cert.AdamFoxInIdeal.nD Cert.AdamFoxInIdeal.τ).loc Cert.AdamFoxInIdeal.main_arg1) = m ((c.tc : Thread Cert.AdamFoxInIdeal.nD Cert.AdamFoxInIdeal.τ).loc Cert.AdamFoxInIdeal.main_arg1)
          ∧ r.2.mem ((c.tc : Thread Cert.AdamFoxInIdeal.nD Cert.AdamFoxInIdeal.τ).loc Cert.AdamFoxInIdeal.main_arg2) = m ((c.tc : Thread Cert.AdamFoxInIdeal.nD Cert.AdamFoxInIdeal.τ).loc Cert.AdamFoxInIdeal.main_arg2)
          ∧ r.2.mem ((c.tc : Thread Cert.AdamFoxInIdeal.nD Cert.AdamFoxInIdeal.τ).loc Cert.AdamFoxInIdeal.main_arg3) = m ((c.tc : Thread Cert.AdamFoxInIdeal.nD Cert.AdamFoxInIdeal.τ).loc Cert.AdamFoxInIdeal.main_arg3))
      ∧ θ_run (Cert.RefAdamFoxInIdeal.defs (F := Ideal)) (onTc (τ := Cert.RefAdamFoxInIdeal.τ) (Cert.RefAdamFoxInIdeal.main (F := Ideal))) ⟨m', fun _ => 0, g'⟩ (fun r => ∀ c : Dev Cert.RefAdamFoxInIdeal.nD,
          r.2.mem ((c.tc : Thread Cert.RefAdamFoxInIdeal.nD Cert.RefAdamFoxInIdeal.τ).loc Cert.RefAdamFoxInIdeal.main_v1) = v0 c
          ∧ r.2.mem ((c.tc : Thread Cert.RefAdamFoxInIdeal.nD Cert.RefAdamFoxInIdeal.τ).loc Cert.RefAdamFoxInIdeal.main_v25) = v1 c
          ∧ r.2.mem ((c.tc : Thread Cert.RefAdamFoxInIdeal.nD Cert.RefAdamFoxInIdeal.τ).loc Cert.RefAdamFoxInIdeal.main_v6) = v2 c
          ∧ r.2.mem ((c.tc : Thread Cert.RefAdamFoxInIdeal.nD Cert.RefAdamFoxInIdeal.τ).loc Cert.RefAdamFoxInIdeal.main_v12) = v3 c
          ∧ r.2.mem ((c.tc : Thread Cert.RefAdamFoxInIdeal.nD Cert.RefAdamFoxInIdeal.τ).loc Cert.RefAdamFoxInIdeal.main_arg0) = m' ((c.tc : Thread Cert.RefAdamFoxInIdeal.nD Cert.RefAdamFoxInIdeal.τ).loc Cert.RefAdamFoxInIdeal.main_arg0)
          ∧ r.2.mem ((c.tc : Thread Cert.RefAdamFoxInIdeal.nD Cert.RefAdamFoxInIdeal.τ).loc Cert.RefAdamFoxInIdeal.main_arg1) = m' ((c.tc : Thread Cert.RefAdamFoxInIdeal.nD Cert.RefAdamFoxInIdeal.τ).loc Cert.RefAdamFoxInIdeal.main_arg1)
          ∧ r.2.mem ((c.tc : Thread Cert.RefAdamFoxInIdeal.nD Cert.RefAdamFoxInIdeal.τ).loc Cert.RefAdamFoxInIdeal.main_arg2) = m' ((c.tc : Thread Cert.RefAdamFoxInIdeal.nD Cert.RefAdamFoxInIdeal.τ).loc Cert.RefAdamFoxInIdeal.main_arg2)
          ∧ r.2.mem ((c.tc : Thread Cert.RefAdamFoxInIdeal.nD Cert.RefAdamFoxInIdeal.τ).loc Cert.RefAdamFoxInIdeal.main_arg3) = m' ((c.tc : Thread Cert.RefAdamFoxInIdeal.nD Cert.RefAdamFoxInIdeal.τ).loc Cert.RefAdamFoxInIdeal.main_arg3))

def preserves_AdamFoxOut_AdamFoxOutIdeal : Prop :=
  IdealRules.named_const.Statement Cert.AdamFoxOutIdeal.κ "debias_m" .f32 0x3FC48605#32 (((5463681 / 8388608)⁻¹ : ℝ) : EReal)
  ∧ IdealRules.named_const.Statement Cert.AdamFoxOutIdeal.κ "debias_v" .f32 0x42C8E6D3#32 (((2672307 / 268435456)⁻¹ : ℝ) : EReal)

def algebraic_AdamFoxOutIdeal_RefAdamFoxOutIdeal [hAdamFoxOutIdeal : Cert.AdamFoxOutIdeal.Facts] [hRefAdamFoxOutIdeal : Cert.RefAdamFoxOutIdeal.Facts] : Prop :=
  ∀ (m : (ℓ : Loc Cert.AdamFoxOutIdeal.nD Cert.AdamFoxOutIdeal.τ Cert.AdamFoxOutIdeal.sig) → Buf (Elt Ideal) ℓ) (g : Dev Cert.AdamFoxOutIdeal.nD → PrngReg)
    (m' : (ℓ : Loc Cert.RefAdamFoxOutIdeal.nD Cert.RefAdamFoxOutIdeal.τ Cert.RefAdamFoxOutIdeal.sig) → Buf (Elt Ideal) ℓ) (g' : Dev Cert.RefAdamFoxOutIdeal.nD → PrngReg), Pre_AdamFoxOutIdeal m →
    (∀ c : Dev Cert.AdamFoxOutIdeal.nD,
      m' ((c.tc : Thread Cert.RefAdamFoxOutIdeal.nD Cert.RefAdamFoxOutIdeal.τ).loc Cert.RefAdamFoxOutIdeal.main_arg0) = m ((c.tc : Thread Cert.AdamFoxOutIdeal.nD Cert.AdamFoxOutIdeal.τ).loc Cert.AdamFoxOutIdeal.main_arg0)
      ∧ m' ((c.tc : Thread Cert.RefAdamFoxOutIdeal.nD Cert.RefAdamFoxOutIdeal.τ).loc Cert.RefAdamFoxOutIdeal.main_arg1) = m ((c.tc : Thread Cert.AdamFoxOutIdeal.nD Cert.AdamFoxOutIdeal.τ).loc Cert.AdamFoxOutIdeal.main_arg1)
      ∧ m' ((c.tc : Thread Cert.RefAdamFoxOutIdeal.nD Cert.RefAdamFoxOutIdeal.τ).loc Cert.RefAdamFoxOutIdeal.main_arg2) = m ((c.tc : Thread Cert.AdamFoxOutIdeal.nD Cert.AdamFoxOutIdeal.τ).loc Cert.AdamFoxOutIdeal.main_arg2)
      ∧ m' ((c.tc : Thread Cert.RefAdamFoxOutIdeal.nD Cert.RefAdamFoxOutIdeal.τ).loc Cert.RefAdamFoxOutIdeal.main_arg3) = m ((c.tc : Thread Cert.AdamFoxOutIdeal.nD Cert.AdamFoxOutIdeal.τ).loc Cert.AdamFoxOutIdeal.main_arg3)) →
    ∃ (v0 : (c : Dev Cert.AdamFoxOutIdeal.nD) → Buf (Elt Ideal) ((c.tc : Thread Cert.AdamFoxOutIdeal.nD Cert.AdamFoxOutIdeal.τ).loc Cert.AdamFoxOutIdeal.main_v0_0)) (v1 : (c : Dev Cert.AdamFoxOutIdeal.nD) → Buf (Elt Ideal) ((c.tc : Thread Cert.AdamFoxOutIdeal.nD Cert.AdamFoxOutIdeal.τ).loc Cert.AdamFoxOutIdeal.main_v0_1)) (v2 : (c : Dev Cert.AdamFoxOutIdeal.nD) → Buf (Elt Ideal) ((c.tc : Thread Cert.AdamFoxOutIdeal.nD Cert.AdamFoxOutIdeal.τ).loc Cert.AdamFoxOutIdeal.main_v0_2)) (v3 : (c : Dev Cert.AdamFoxOutIdeal.nD) → Buf (Elt Ideal) ((c.tc : Thread Cert.AdamFoxOutIdeal.nD Cert.AdamFoxOutIdeal.τ).loc Cert.AdamFoxOutIdeal.main_v0_3)),
      θ_run (Cert.AdamFoxOutIdeal.defs (F := Ideal)) (onTc (τ := Cert.AdamFoxOutIdeal.τ) (Cert.AdamFoxOutIdeal.main (F := Ideal))) ⟨m, fun _ => 0, g⟩ (fun r => ∀ c : Dev Cert.AdamFoxOutIdeal.nD,
          r.2.mem ((c.tc : Thread Cert.AdamFoxOutIdeal.nD Cert.AdamFoxOutIdeal.τ).loc Cert.AdamFoxOutIdeal.main_v0_0) = v0 c
          ∧ r.2.mem ((c.tc : Thread Cert.AdamFoxOutIdeal.nD Cert.AdamFoxOutIdeal.τ).loc Cert.AdamFoxOutIdeal.main_v0_1) = v1 c
          ∧ r.2.mem ((c.tc : Thread Cert.AdamFoxOutIdeal.nD Cert.AdamFoxOutIdeal.τ).loc Cert.AdamFoxOutIdeal.main_v0_2) = v2 c
          ∧ r.2.mem ((c.tc : Thread Cert.AdamFoxOutIdeal.nD Cert.AdamFoxOutIdeal.τ).loc Cert.AdamFoxOutIdeal.main_v0_3) = v3 c
          ∧ r.2.mem ((c.tc : Thread Cert.AdamFoxOutIdeal.nD Cert.AdamFoxOutIdeal.τ).loc Cert.AdamFoxOutIdeal.main_arg0) = m ((c.tc : Thread Cert.AdamFoxOutIdeal.nD Cert.AdamFoxOutIdeal.τ).loc Cert.AdamFoxOutIdeal.main_arg0)
          ∧ r.2.mem ((c.tc : Thread Cert.AdamFoxOutIdeal.nD Cert.AdamFoxOutIdeal.τ).loc Cert.AdamFoxOutIdeal.main_arg1) = m ((c.tc : Thread Cert.AdamFoxOutIdeal.nD Cert.AdamFoxOutIdeal.τ).loc Cert.AdamFoxOutIdeal.main_arg1)
          ∧ r.2.mem ((c.tc : Thread Cert.AdamFoxOutIdeal.nD Cert.AdamFoxOutIdeal.τ).loc Cert.AdamFoxOutIdeal.main_arg2) = m ((c.tc : Thread Cert.AdamFoxOutIdeal.nD Cert.AdamFoxOutIdeal.τ).loc Cert.AdamFoxOutIdeal.main_arg2)
          ∧ r.2.mem ((c.tc : Thread Cert.AdamFoxOutIdeal.nD Cert.AdamFoxOutIdeal.τ).loc Cert.AdamFoxOutIdeal.main_arg3) = m ((c.tc : Thread Cert.AdamFoxOutIdeal.nD Cert.AdamFoxOutIdeal.τ).loc Cert.AdamFoxOutIdeal.main_arg3))
      ∧ θ_run (Cert.RefAdamFoxOutIdeal.defs (F := Ideal)) (onTc (τ := Cert.RefAdamFoxOutIdeal.τ) (Cert.RefAdamFoxOutIdeal.main (F := Ideal))) ⟨m', fun _ => 0, g'⟩ (fun r => ∀ c : Dev Cert.RefAdamFoxOutIdeal.nD,
          r.2.mem ((c.tc : Thread Cert.RefAdamFoxOutIdeal.nD Cert.RefAdamFoxOutIdeal.τ).loc Cert.RefAdamFoxOutIdeal.main_v1) = v0 c
          ∧ r.2.mem ((c.tc : Thread Cert.RefAdamFoxOutIdeal.nD Cert.RefAdamFoxOutIdeal.τ).loc Cert.RefAdamFoxOutIdeal.main_v25) = v1 c
          ∧ r.2.mem ((c.tc : Thread Cert.RefAdamFoxOutIdeal.nD Cert.RefAdamFoxOutIdeal.τ).loc Cert.RefAdamFoxOutIdeal.main_v6) = v2 c
          ∧ r.2.mem ((c.tc : Thread Cert.RefAdamFoxOutIdeal.nD Cert.RefAdamFoxOutIdeal.τ).loc Cert.RefAdamFoxOutIdeal.main_v12) = v3 c
          ∧ r.2.mem ((c.tc : Thread Cert.RefAdamFoxOutIdeal.nD Cert.RefAdamFoxOutIdeal.τ).loc Cert.RefAdamFoxOutIdeal.main_arg0) = m' ((c.tc : Thread Cert.RefAdamFoxOutIdeal.nD Cert.RefAdamFoxOutIdeal.τ).loc Cert.RefAdamFoxOutIdeal.main_arg0)
          ∧ r.2.mem ((c.tc : Thread Cert.RefAdamFoxOutIdeal.nD Cert.RefAdamFoxOutIdeal.τ).loc Cert.RefAdamFoxOutIdeal.main_arg1) = m' ((c.tc : Thread Cert.RefAdamFoxOutIdeal.nD Cert.RefAdamFoxOutIdeal.τ).loc Cert.RefAdamFoxOutIdeal.main_arg1)
          ∧ r.2.mem ((c.tc : Thread Cert.RefAdamFoxOutIdeal.nD Cert.RefAdamFoxOutIdeal.τ).loc Cert.RefAdamFoxOutIdeal.main_arg2) = m' ((c.tc : Thread Cert.RefAdamFoxOutIdeal.nD Cert.RefAdamFoxOutIdeal.τ).loc Cert.RefAdamFoxOutIdeal.main_arg2)
          ∧ r.2.mem ((c.tc : Thread Cert.RefAdamFoxOutIdeal.nD Cert.RefAdamFoxOutIdeal.τ).loc Cert.RefAdamFoxOutIdeal.main_arg3) = m' ((c.tc : Thread Cert.RefAdamFoxOutIdeal.nD Cert.RefAdamFoxOutIdeal.τ).loc Cert.RefAdamFoxOutIdeal.main_arg3))

def preserves_AdamConv_AdamConvIdeal : Prop :=
  IdealRules.named_const.Statement Cert.AdamConvIdeal.κ "debias_m" .f32 0x3FC48605#32 (((5463681 / 8388608)⁻¹ : ℝ) : EReal)
  ∧ IdealRules.named_const.Statement Cert.AdamConvIdeal.κ "debias_v" .f32 0x42C8E6D3#32 (((2672307 / 268435456)⁻¹ : ℝ) : EReal)

def algebraic_AdamConvIdeal_RefAdamConvIdeal [hAdamConvIdeal : Cert.AdamConvIdeal.Facts] [hRefAdamConvIdeal : Cert.RefAdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.RefAdamConvIdeal.nD Cert.RefAdamConvIdeal.τ Cert.RefAdamConvIdeal.sig) → Buf (Elt Ideal) ℓ) (g' : Dev Cert.RefAdamConvIdeal.nD → PrngReg), Pre_AdamConvIdeal m →
    (∀ c : Dev Cert.AdamConvIdeal.nD,
      m' ((c.tc : Thread Cert.RefAdamConvIdeal.nD Cert.RefAdamConvIdeal.τ).loc Cert.RefAdamConvIdeal.main_arg0) = m ((c.tc : Thread Cert.AdamConvIdeal.nD Cert.AdamConvIdeal.τ).loc Cert.AdamConvIdeal.main_arg0)
      ∧ m' ((c.tc : Thread Cert.RefAdamConvIdeal.nD Cert.RefAdamConvIdeal.τ).loc Cert.RefAdamConvIdeal.main_arg1) = m ((c.tc : Thread Cert.AdamConvIdeal.nD Cert.AdamConvIdeal.τ).loc Cert.AdamConvIdeal.main_arg1)
      ∧ m' ((c.tc : Thread Cert.RefAdamConvIdeal.nD Cert.RefAdamConvIdeal.τ).loc Cert.RefAdamConvIdeal.main_arg2) = m ((c.tc : Thread Cert.AdamConvIdeal.nD Cert.AdamConvIdeal.τ).loc Cert.AdamConvIdeal.main_arg2)
      ∧ m' ((c.tc : Thread Cert.RefAdamConvIdeal.nD Cert.RefAdamConvIdeal.τ).loc Cert.RefAdamConvIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.RefAdamConvIdeal.defs (F := Ideal)) (onTc (τ := Cert.RefAdamConvIdeal.τ) (Cert.RefAdamConvIdeal.main (F := Ideal))) ⟨m', fun _ => 0, g'⟩ (fun r => ∀ c : Dev Cert.RefAdamConvIdeal.nD,
          r.2.mem ((c.tc : Thread Cert.RefAdamConvIdeal.nD Cert.RefAdamConvIdeal.τ).loc Cert.RefAdamConvIdeal.main_v0) = v0 c
          ∧ r.2.mem ((c.tc : Thread Cert.RefAdamConvIdeal.nD Cert.RefAdamConvIdeal.τ).loc Cert.RefAdamConvIdeal.main_v24) = v1 c
          ∧ r.2.mem ((c.tc : Thread Cert.RefAdamConvIdeal.nD Cert.RefAdamConvIdeal.τ).loc Cert.RefAdamConvIdeal.main_v5) = v2 c
          ∧ r.2.mem ((c.tc : Thread Cert.RefAdamConvIdeal.nD Cert.RefAdamConvIdeal.τ).loc Cert.RefAdamConvIdeal.main_v11) = v3 c
          ∧ r.2.mem ((c.tc : Thread Cert.RefAdamConvIdeal.nD Cert.RefAdamConvIdeal.τ).loc Cert.RefAdamConvIdeal.main_arg0) = m' ((c.tc : Thread Cert.RefAdamConvIdeal.nD Cert.RefAdamConvIdeal.τ).loc Cert.RefAdamConvIdeal.main_arg0)
          ∧ r.2.mem ((c.tc : Thread Cert.RefAdamConvIdeal.nD Cert.RefAdamConvIdeal.τ).loc Cert.RefAdamConvIdeal.main_arg1) = m' ((c.tc : Thread Cert.RefAdamConvIdeal.nD Cert.RefAdamConvIdeal.τ).loc Cert.RefAdamConvIdeal.main_arg1)
          ∧ r.2.mem ((c.tc : Thread Cert.RefAdamConvIdeal.nD Cert.RefAdamConvIdeal.τ).loc Cert.RefAdamConvIdeal.main_arg2) = m' ((c.tc : Thread Cert.RefAdamConvIdeal.nD Cert.RefAdamConvIdeal.τ).loc Cert.RefAdamConvIdeal.main_arg2)
          ∧ r.2.mem ((c.tc : Thread Cert.RefAdamConvIdeal.nD Cert.RefAdamConvIdeal.τ).loc Cert.RefAdamConvIdeal.main_arg3) = m' ((c.tc : Thread Cert.RefAdamConvIdeal.nD Cert.RefAdamConvIdeal.τ).loc Cert.RefAdamConvIdeal.main_arg3))

def preserves_AdamSmall_AdamSmallIdeal : Prop :=
  IdealRules.named_const.Statement Cert.AdamSmallIdeal.κ "debias_m" .f32 0x3FC48605#32 (((5463681 / 8388608)⁻¹ : ℝ) : EReal)
  ∧ IdealRules.named_const.Statement Cert.AdamSmallIdeal.κ "debias_v" .f32 0x42C8E6D3#32 (((2672307 / 268435456)⁻¹ : ℝ) : EReal)

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v0) = v0 c
          ∧ r.2.mem ((c.tc : Thread Cert.RefAdamSmallIdeal.nD Cert.RefAdamSmallIdeal.τ).loc Cert.RefAdamSmallIdeal.main_v24) = v1 c
          ∧ r.2.mem ((c.tc : Thread Cert.RefAdamSmallIdeal.nD Cert.RefAdamSmallIdeal.τ).loc Cert.RefAdamSmallIdeal.main_v5) = v2 c
          ∧ r.2.mem ((c.tc : Thread Cert.RefAdamSmallIdeal.nD Cert.RefAdamSmallIdeal.τ).loc Cert.RefAdamSmallIdeal.main_v11) = v3 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3))

def preserves_AdamAda_AdamAdaIdeal : Prop :=
  IdealRules.named_const.Statement Cert.AdamAdaIdeal.κ "debias_m" .f32 0x3FC48605#32 (((5463681 / 8388608)⁻¹ : ℝ) : EReal)
  ∧ IdealRules.named_const.Statement Cert.AdamAdaIdeal.κ "debias_v" .f32 0x42C8E6D3#32 (((2672307 / 268435456)⁻¹ : ℝ) : EReal)

def algebraic_AdamAdaIdeal_RefAdamAdaIdeal [hAdamAdaIdeal : Cert.AdamAdaIdeal.Facts] [hRefAdamAdaIdeal : Cert.RefAdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.RefAdamAdaIdeal.nD Cert.RefAdamAdaIdeal.τ Cert.RefAdamAdaIdeal.sig) → Buf (Elt Ideal) ℓ) (g' : Dev Cert.RefAdamAdaIdeal.nD → PrngReg), Pre_AdamAdaIdeal m →
    (∀ c : Dev Cert.AdamAdaIdeal.nD,
      m' ((c.tc : Thread Cert.RefAdamAdaIdeal.nD Cert.RefAdamAdaIdeal.τ).loc Cert.RefAdamAdaIdeal.main_arg0) = m ((c.tc : Thread Cert.AdamAdaIdeal.nD Cert.AdamAdaIdeal.τ).loc Cert.AdamAdaIdeal.main_arg0)
      ∧ m' ((c.tc : Thread Cert.RefAdamAdaIdeal.nD Cert.RefAdamAdaIdeal.τ).loc Cert.RefAdamAdaIdeal.main_arg1) = m ((c.tc : Thread Cert.AdamAdaIdeal.nD Cert.AdamAdaIdeal.τ).loc Cert.AdamAdaIdeal.main_arg1)
      ∧ m' ((c.tc : Thread Cert.RefAdamAdaIdeal.nD Cert.RefAdamAdaIdeal.τ).loc Cert.RefAdamAdaIdeal.main_arg2) = m ((c.tc : Thread Cert.AdamAdaIdeal.nD Cert.AdamAdaIdeal.τ).loc Cert.AdamAdaIdeal.main_arg2)
      ∧ m' ((c.tc : Thread Cert.RefAdamAdaIdeal.nD Cert.RefAdamAdaIdeal.τ).loc Cert.RefAdamAdaIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.RefAdamAdaIdeal.defs (F := Ideal)) (onTc (τ := Cert.RefAdamAdaIdeal.τ) (Cert.RefAdamAdaIdeal.main (F := Ideal))) ⟨m', fun _ => 0, g'⟩ (fun r => ∀ c : Dev Cert.RefAdamAdaIdeal.nD,
          r.2.mem ((c.tc : Thread Cert.RefAdamAdaIdeal.nD Cert.RefAdamAdaIdeal.τ).loc Cert.RefAdamAdaIdeal.main_v0) = v0 c
          ∧ r.2.mem ((c.tc : Thread Cert.RefAdamAdaIdeal.nD Cert.RefAdamAdaIdeal.τ).loc Cert.RefAdamAdaIdeal.main_v24) = v1 c
          ∧ r.2.mem ((c.tc : Thread Cert.RefAdamAdaIdeal.nD Cert.RefAdamAdaIdeal.τ).loc Cert.RefAdamAdaIdeal.main_v5) = v2 c
          ∧ r.2.mem ((c.tc : Thread Cert.RefAdamAdaIdeal.nD Cert.RefAdamAdaIdeal.τ).loc Cert.RefAdamAdaIdeal.main_v11) = v3 c
          ∧ r.2.mem ((c.tc : Thread Cert.RefAdamAdaIdeal.nD Cert.RefAdamAdaIdeal.τ).loc Cert.RefAdamAdaIdeal.main_arg0) = m' ((c.tc : Thread Cert.RefAdamAdaIdeal.nD Cert.RefAdamAdaIdeal.τ).loc Cert.RefAdamAdaIdeal.main_arg0)
          ∧ r.2.mem ((c.tc : Thread Cert.RefAdamAdaIdeal.nD Cert.RefAdamAdaIdeal.τ).loc Cert.RefAdamAdaIdeal.main_arg1) = m' ((c.tc : Thread Cert.RefAdamAdaIdeal.nD Cert.RefAdamAdaIdeal.τ).loc Cert.RefAdamAdaIdeal.main_arg1)
          ∧ r.2.mem ((c.tc : Thread Cert.RefAdamAdaIdeal.nD Cert.RefAdamAdaIdeal.τ).loc Cert.RefAdamAdaIdeal.main_arg2) = m' ((c.tc : Thread Cert.RefAdamAdaIdeal.nD Cert.RefAdamAdaIdeal.τ).loc Cert.RefAdamAdaIdeal.main_arg2)
          ∧ r.2.mem ((c.tc : Thread Cert.RefAdamAdaIdeal.nD Cert.RefAdamAdaIdeal.τ).loc Cert.RefAdamAdaIdeal.main_arg3) = m' ((c.tc : Thread Cert.RefAdamAdaIdeal.nD Cert.RefAdamAdaIdeal.τ).loc Cert.RefAdamAdaIdeal.main_arg3))

def Claim : Prop :=
  ∃ (hKernel : Cert.Kernel.Facts) (hKernelIdeal : Cert.KernelIdeal.Facts) (hReferenceIdeal : Cert.ReferenceIdeal.Facts) (hGdnIn : Cert.GdnIn.Facts) (hGdnInIdeal : Cert.GdnInIdeal.Facts) (hRefGdnInIdeal : Cert.RefGdnInIdeal.Facts) (hGdnInBwd : Cert.GdnInBwd.Facts) (hGdnInBwdIdeal : Cert.GdnInBwdIdeal.Facts) (hRefGdnInBwdIdeal : Cert.RefGdnInBwdIdeal.Facts) (hFoxIn : Cert.FoxIn.Facts) (hFoxInIdeal : Cert.FoxInIdeal.Facts) (hRefFoxInIdeal : Cert.RefFoxInIdeal.Facts) (hFoxInBwd : Cert.FoxInBwd.Facts) (hFoxInBwdIdeal : Cert.FoxInBwdIdeal.Facts) (hRefFoxInBwdIdeal : Cert.RefFoxInBwdIdeal.Facts) (hGdnOut : Cert.GdnOut.Facts) (hGdnOutIdeal : Cert.GdnOutIdeal.Facts) (hRefGdnOutIdeal : Cert.RefGdnOutIdeal.Facts) (hLoss : Cert.Loss.Facts) (hLossIdeal : Cert.LossIdeal.Facts) (hRefLossIdeal : Cert.RefLossIdeal.Facts) (hAdamGdnIn : Cert.AdamGdnIn.Facts) (hAdamGdnInIdeal : Cert.AdamGdnInIdeal.Facts) (hRefAdamGdnInIdeal : Cert.RefAdamGdnInIdeal.Facts) (hAdamGdnOut : Cert.AdamGdnOut.Facts) (hAdamGdnOutIdeal : Cert.AdamGdnOutIdeal.Facts) (hRefAdamGdnOutIdeal : Cert.RefAdamGdnOutIdeal.Facts) (hAdamFoxIn : Cert.AdamFoxIn.Facts) (hAdamFoxInIdeal : Cert.AdamFoxInIdeal.Facts) (hRefAdamFoxInIdeal : Cert.RefAdamFoxInIdeal.Facts) (hAdamFoxOut : Cert.AdamFoxOut.Facts) (hAdamFoxOutIdeal : Cert.AdamFoxOutIdeal.Facts) (hRefAdamFoxOutIdeal : Cert.RefAdamFoxOutIdeal.Facts) (hAdamConv : Cert.AdamConv.Facts) (hAdamConvIdeal : Cert.AdamConvIdeal.Facts) (hRefAdamConvIdeal : Cert.RefAdamConvIdeal.Facts) (hAdamSmall : Cert.AdamSmall.Facts) (hAdamSmallIdeal : Cert.AdamSmallIdeal.Facts) (hRefAdamSmallIdeal : Cert.RefAdamSmallIdeal.Facts) (hAdamAda : Cert.AdamAda.Facts) (hAdamAdaIdeal : Cert.AdamAdaIdeal.Facts) (hRefAdamAdaIdeal : Cert.RefAdamAdaIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GdnIn (hGdnIn := hGdnIn)
    ∧ quiescent_GdnInIdeal (hGdnInIdeal := hGdnInIdeal)
    ∧ quiescent_RefGdnInIdeal (hRefGdnInIdeal := hRefGdnInIdeal)
    ∧ quiescent_GdnInBwd (hGdnInBwd := hGdnInBwd)
    ∧ quiescent_GdnInBwdIdeal (hGdnInBwdIdeal := hGdnInBwdIdeal)
    ∧ quiescent_RefGdnInBwdIdeal (hRefGdnInBwdIdeal := hRefGdnInBwdIdeal)
    ∧ quiescent_FoxIn (hFoxIn := hFoxIn)
    ∧ quiescent_FoxInIdeal (hFoxInIdeal := hFoxInIdeal)
    ∧ quiescent_RefFoxInIdeal (hRefFoxInIdeal := hRefFoxInIdeal)
    ∧ quiescent_FoxInBwd (hFoxInBwd := hFoxInBwd)
    ∧ quiescent_FoxInBwdIdeal (hFoxInBwdIdeal := hFoxInBwdIdeal)
    ∧ quiescent_RefFoxInBwdIdeal (hRefFoxInBwdIdeal := hRefFoxInBwdIdeal)
    ∧ quiescent_GdnOut (hGdnOut := hGdnOut)
    ∧ quiescent_GdnOutIdeal (hGdnOutIdeal := hGdnOutIdeal)
    ∧ quiescent_RefGdnOutIdeal (hRefGdnOutIdeal := hRefGdnOutIdeal)
    ∧ quiescent_Loss (hLoss := hLoss)
    ∧ quiescent_LossIdeal (hLossIdeal := hLossIdeal)
    ∧ quiescent_RefLossIdeal (hRefLossIdeal := hRefLossIdeal)
    ∧ quiescent_AdamGdnIn (hAdamGdnIn := hAdamGdnIn)
    ∧ quiescent_AdamGdnInIdeal (hAdamGdnInIdeal := hAdamGdnInIdeal)
    ∧ quiescent_RefAdamGdnInIdeal (hRefAdamGdnInIdeal := hRefAdamGdnInIdeal)
    ∧ quiescent_AdamGdnOut (hAdamGdnOut := hAdamGdnOut)
    ∧ quiescent_AdamGdnOutIdeal (hAdamGdnOutIdeal := hAdamGdnOutIdeal)
    ∧ quiescent_RefAdamGdnOutIdeal (hRefAdamGdnOutIdeal := hRefAdamGdnOutIdeal)
    ∧ quiescent_AdamFoxIn (hAdamFoxIn := hAdamFoxIn)
    ∧ quiescent_AdamFoxInIdeal (hAdamFoxInIdeal := hAdamFoxInIdeal)
    ∧ quiescent_RefAdamFoxInIdeal (hRefAdamFoxInIdeal := hRefAdamFoxInIdeal)
    ∧ quiescent_AdamFoxOut (hAdamFoxOut := hAdamFoxOut)
    ∧ quiescent_AdamFoxOutIdeal (hAdamFoxOutIdeal := hAdamFoxOutIdeal)
    ∧ quiescent_RefAdamFoxOutIdeal (hRefAdamFoxOutIdeal := hRefAdamFoxOutIdeal)
    ∧ quiescent_AdamConv (hAdamConv := hAdamConv)
    ∧ quiescent_AdamConvIdeal (hAdamConvIdeal := hAdamConvIdeal)
    ∧ quiescent_RefAdamConvIdeal (hRefAdamConvIdeal := hRefAdamConvIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_AdamAda (hAdamAda := hAdamAda)
    ∧ quiescent_AdamAdaIdeal (hAdamAdaIdeal := hAdamAdaIdeal)
    ∧ quiescent_RefAdamAdaIdeal (hRefAdamAdaIdeal := hRefAdamAdaIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GdnIn_GdnInIdeal
    ∧ algebraic_GdnInIdeal_RefGdnInIdeal (hGdnInIdeal := hGdnInIdeal) (hRefGdnInIdeal := hRefGdnInIdeal)
    ∧ preserves_GdnInBwd_GdnInBwdIdeal
    ∧ algebraic_GdnInBwdIdeal_RefGdnInBwdIdeal (hGdnInBwdIdeal := hGdnInBwdIdeal) (hRefGdnInBwdIdeal := hRefGdnInBwdIdeal)
    ∧ preserves_FoxIn_FoxInIdeal
    ∧ algebraic_FoxInIdeal_RefFoxInIdeal (hFoxInIdeal := hFoxInIdeal) (hRefFoxInIdeal := hRefFoxInIdeal)
    ∧ preserves_FoxInBwd_FoxInBwdIdeal
    ∧ algebraic_FoxInBwdIdeal_RefFoxInBwdIdeal (hFoxInBwdIdeal := hFoxInBwdIdeal) (hRefFoxInBwdIdeal := hRefFoxInBwdIdeal)
    ∧ preserves_GdnOut_GdnOutIdeal
    ∧ algebraic_GdnOutIdeal_RefGdnOutIdeal (hGdnOutIdeal := hGdnOutIdeal) (hRefGdnOutIdeal := hRefGdnOutIdeal)
    ∧ preserves_Loss_LossIdeal
    ∧ algebraic_LossIdeal_RefLossIdeal (hLossIdeal := hLossIdeal) (hRefLossIdeal := hRefLossIdeal)
    ∧ preserves_AdamGdnIn_AdamGdnInIdeal
    ∧ algebraic_AdamGdnInIdeal_RefAdamGdnInIdeal (hAdamGdnInIdeal := hAdamGdnInIdeal) (hRefAdamGdnInIdeal := hRefAdamGdnInIdeal)
    ∧ preserves_AdamGdnOut_AdamGdnOutIdeal
    ∧ algebraic_AdamGdnOutIdeal_RefAdamGdnOutIdeal (hAdamGdnOutIdeal := hAdamGdnOutIdeal) (hRefAdamGdnOutIdeal := hRefAdamGdnOutIdeal)
    ∧ preserves_AdamFoxIn_AdamFoxInIdeal
    ∧ algebraic_AdamFoxInIdeal_RefAdamFoxInIdeal (hAdamFoxInIdeal := hAdamFoxInIdeal) (hRefAdamFoxInIdeal := hRefAdamFoxInIdeal)
    ∧ preserves_AdamFoxOut_AdamFoxOutIdeal
    ∧ algebraic_AdamFoxOutIdeal_RefAdamFoxOutIdeal (hAdamFoxOutIdeal := hAdamFoxOutIdeal) (hRefAdamFoxOutIdeal := hRefAdamFoxOutIdeal)
    ∧ preserves_AdamConv_AdamConvIdeal
    ∧ algebraic_AdamConvIdeal_RefAdamConvIdeal (hAdamConvIdeal := hAdamConvIdeal) (hRefAdamConvIdeal := hRefAdamConvIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_AdamAda_AdamAdaIdeal
    ∧ algebraic_AdamAdaIdeal_RefAdamAdaIdeal (hAdamAdaIdeal := hAdamAdaIdeal) (hRefAdamAdaIdeal := hRefAdamAdaIdeal)
-- ==== Pre_finite.lean ====
abbrev S4096x16x64 : Shape := ⟨3, ![4096, 16, 64]⟩
abbrev S4096x16 : Shape := ⟨2, ![4096, 16]⟩
abbrev S_ : Shape := ⟨0, ![]⟩

class Facts : Prop where
  bcast_S_S4096x16x64 : S_.BroadcastsInDim S4096x16x64 (![] : Fin 0 → Fin S4096x16x64.rank)
  reducesTo_S4096x16x64_S_d0_1_2 : S4096x16x64.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16x64 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096x16x64 .f32 := Host.absf main_arg4
  let main_cst_6 : FVec F S_ .f32 := constant S_ .f32 0x7F800000#32
  let main_v20 : FVec F S4096x16x64 .f32 := broadcastInDim S4096x16x64 ![] bcast_S_S4096x16x64 main_cst_6
  let main_v21 : IVec S4096x16x64 1 := cmpf .olt main_v19 main_v20
  let main_c_7 : IVec S_ 1 := constantI S_ 1 1#1
  let main_v22 : IVec S_ 1 := (fun x v => Host.reduce IntOp.andi x v reducesTo_S4096x16x64_S_d0_1_2 h_S_) main_v21 main_c_7
  let main_v23 : IVec S_ 1 := andi main_v18 main_v22
  main_v23

def fn {F : FTy → Type} [FloatOps F] (main_arg0 : FVec F S4096x16x64 .f32) (main_arg1 : FVec F S4096x16x64 .f32) (main_arg2 : FVec F S4096x16x64 .f32) (main_arg3 : FVec F S4096x16 .f32) (main_arg4 : FVec F S4096x16x64 .f32) : IVec S_ 1 :=
  let main_v0 : FVec F S4096x16x64 .f32 := Host.absf main_arg0
  let main_cst : FVec F S_ .f32 := constant S_ .f32 0x7F800000#32
  let main_v1 : FVec F S4096x16x64 .f32 := broadcastInDim S4096x16x64 ![] bcast_S_S4096x16x64 main_cst
  let main_v2 : IVec S4096x16x64 1 := cmpf .olt main_v0 main_v1
  let main_c : IVec S_ 1 := constantI S_ 1 1#1
  let main_v3 : IVec S_ 1 := (fun x v => Host.reduce IntOp.andi x v reducesTo_S4096x16x64_S_d0_1_2 h_S_) main_v2 main_c
  let main_v4 : FVec F S4096x16x64 .f32 := Host.absf main_arg1
  let main_cst_0 : FVec F S_ .f32 := constant S_ .f32 0x7F800000#32
  let main_v5 : FVec F S4096x16x64 .f32 := broadcastInDim S4096x16x64 ![] bcast_S_S4096x16x64 main_cst_0
  let main_v6 : IVec S4096x16x64 1 := cmpf .olt main_v4 main_v5
  let main_c_1 : IVec S_ 1 := constantI S_ 1 1#1
  let main_v7 : IVec S_ 1 := (fun x v => Host.reduce IntOp.andi x v reducesTo_S4096x16x64_S_d0_1_2 h_S_) main_v6 main_c_1
  let main_v8 : IVec S_ 1 := andi main_v3 main_v7
  let main_v9 : FVec F S4096x16x64 .f32 := Host.absf main_arg2
  let main_cst_2 : FVec F S_ .f32 := constant S_ .f32 0x7F800000#32
  let main_v10 : FVec F S4096x16x64 .f32 := broadcastInDim S4096x16x64 ![] bcast_S_S4096x16x64 main_cst_2
  let main_v11 : IVec S4096x16x64 1 := cmpf .olt main_v9 main_v10
  let main_c_3 : IVec S_ 1 := constantI S_ 1 1#1
  let main_v12 : IVec S_ 1 := (fun x v => Host.reduce IntOp.andi x v reducesTo_S4096x16x64_S_d0_1_2 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4096x16x64 : Shape := ⟨3, ![4096, 16, 64]⟩
abbrev S4096x16 : Shape := ⟨2, ![4096, 16]⟩
abbrev S4096x16x1 : Shape := ⟨3, ![4096, 16, 1]⟩
abbrev S_ : Shape := ⟨0, ![]⟩
abbrev S4096x16x3 : Shape := ⟨3, ![4096, 16, 3]⟩
abbrev S4096x16x58 : Shape := ⟨3, ![4096, 16, 58]⟩
abbrev S4096x16x128 : Shape := ⟨3, ![4096, 16, 128]⟩
abbrev S4096x2048 : Shape := ⟨2, ![4096, 2048]⟩
abbrev S4096x16x63 : Shape := ⟨3, ![4096, 16, 63]⟩
abbrev S512x256 : Shape := ⟨2, ![512, 256]⟩
abbrev S4096x256 : Shape := ⟨2, ![4096, 256]⟩
abbrev S2x512x1 : Shape := ⟨3, ![2, 512, 1]⟩
abbrev S2x512x128 : Shape := ⟨3, ![2, 512, 128]⟩
abbrev S2x512x512 : Shape := ⟨3, ![2, 512, 512]⟩
abbrev S512x128 : Shape := ⟨2, ![512, 128]⟩
abbrev S512x512 : Shape := ⟨2, ![512, 512]⟩
abbrev S1x512x512 : Shape := ⟨3, ![1, 512, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩

abbrev nBuf : Space → Nat
  | .hbm => 64
  | .vmem => 27
  | .smem => 0
  | _ => 0

abbrev bufTy : (tb : Table) → Fin (tcTables nBuf tb) → BufTy
  | .hbm, ⟨0, _⟩ => ⟨S4096x16x64, .f32⟩
  | .hbm, ⟨1, _⟩ => ⟨S4096x16x64, .f32⟩
  | .hbm, ⟨2, _⟩ => ⟨S4096x16x64, .f32⟩
  | .hbm, ⟨3, _⟩ => ⟨S4096x16, .f32⟩
  | .hbm, ⟨4, _⟩ => ⟨S4096x16x64, .f32⟩
  | .hbm, ⟨5, _⟩ => ⟨S4096x16, .bf16⟩
  | .hbm, ⟨6, _⟩ => ⟨S4096x16, .f32⟩
  | .hbm, ⟨7, _⟩ => ⟨S4096x16, .f32⟩
  | .hbm, ⟨8, _⟩ => ⟨S4096x16, .bf16⟩
  | .hbm, ⟨9, _⟩ => ⟨S4096x16, .f32⟩
  | .hbm, ⟨10, _⟩ => ⟨S4096x16, .f32⟩
  | .hbm, ⟨11, _⟩ => ⟨S4096x16, .bf16⟩
  | .hbm, ⟨12, _⟩ => ⟨S4096x16, .f32⟩
  | .hbm, ⟨13, _⟩ => ⟨S4096x16x1, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x3, .f32⟩
  | .hbm, ⟨18, _⟩ => ⟨S_, .f32⟩
  | .hbm, ⟨19, _⟩ => ⟨S4096x16x58, .f32⟩
  | .hbm, ⟨20, _⟩ => ⟨S4096x16x128, .f32⟩
  | .hbm, ⟨21, _⟩ => ⟨S4096x2048, .f32⟩
  | .hbm, ⟨22, _⟩ => ⟨S4096x2048, .bf16⟩
  | .hbm, ⟨23, _⟩ => ⟨S4096x16x1, .f32⟩
  | .hbm, ⟨24, _⟩ => ⟨S4096x16x1, .f32⟩
  | .hbm, ⟨25, _⟩ => ⟨S4096x16x1, .f32⟩
  | .hbm, ⟨26, _⟩ => ⟨S_, .f32⟩
  | .hbm, ⟨27, _⟩ => ⟨S4096x16x58, .f32⟩
  | .hbm, ⟨28, _⟩ => ⟨S4096x16x128, .f32⟩
  | .hbm, ⟨29, _⟩ => ⟨S4096x2048, .f32⟩
  | .hbm, ⟨30, _⟩ => ⟨S4096x2048, .bf16⟩
  | .hbm, ⟨31, _⟩ => ⟨S4096x16x1, .f32⟩
  | .hbm, ⟨32, _⟩ => ⟨S_, .f32⟩
  | .hbm, ⟨33, _⟩ => ⟨S4096x16x63, .f32⟩
  | .hbm, ⟨34, _⟩ => ⟨S4096x16x128, .f32⟩
  | .hbm, ⟨35, _⟩ => ⟨S4096x2048, .f32⟩
  | .hbm, ⟨36, _⟩ => ⟨S4096x2048, .bf16⟩
  | .hbm, ⟨37, _⟩ => ⟨S4096x2048, .f32⟩
  | .hbm, ⟨38, _⟩ => ⟨S4096x16x128, .f32⟩
  | .hbm, ⟨39, _⟩ => ⟨S4096x16x64, .f32⟩
  | .hbm, ⟨40, _⟩ => ⟨S4096x16x64, .f32⟩
  | .hbm, ⟨41, _⟩ => ⟨S_, .f32⟩
  | .hbm, ⟨42, _⟩ => ⟨S4096x16, .f32⟩
  | .hbm, ⟨43, _⟩ => ⟨S4096x16x1, .f32⟩
  | .hbm, ⟨44, _⟩ => ⟨S4096x16x1, .f32⟩
  | .hbm, ⟨45, _⟩ => ⟨S_, .f32⟩
  | .hbm, ⟨46, _⟩ => ⟨S4096x16x63, .f32⟩
  | .hbm, ⟨47, _⟩ => ⟨S4096x16x128, .f32⟩
  | .hbm, ⟨48, _⟩ => ⟨S4096x2048, .f32⟩
  | .hbm, ⟨49, _⟩ => ⟨S4096x2048, .bf16⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x16x128, .f32⟩
  | .hbm, ⟨54, _⟩ => ⟨S4096x16x128, .f32⟩
  | .hbm, ⟨55, _⟩ => ⟨S4096x16x128, .f32⟩
  | .hbm, ⟨56, _⟩ => ⟨S4096x16x64, .f32⟩
  | .hbm, ⟨57, _⟩ => ⟨S4096x16x64, .f32⟩
  | .hbm, ⟨58, _⟩ => ⟨S4096x16x64, .f32⟩
  | .hbm, ⟨59, _⟩ => ⟨S4096x16x1, .f32⟩
  | .hbm, ⟨60, _⟩ => ⟨S4096x16, .f32⟩
  | .hbm, ⟨61, _⟩ => ⟨S4096x16x1, .f32⟩
  | .hbm, ⟨62, _⟩ => ⟨S4096x16, .f32⟩
  | .hbm, ⟨63, _⟩ => ⟨S4096x16, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .f32⟩
  | .local _ .vmem, ⟨7, _⟩ => ⟨S512x256, .f32⟩
  | .local _ .vmem, ⟨8, _⟩ => ⟨S2x512x1, .f32⟩
  | .local _ .vmem, ⟨9, _⟩ => ⟨S2x512x128, .f32⟩
  | .local _ .vmem, ⟨10, _⟩ => ⟨S2x512x512, .f32⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .f32⟩
  | .local _ .vmem, ⟨20, _⟩ => ⟨S4096x256, .f32⟩
  | .local _ .vmem, ⟨21, _⟩ => ⟨S4096x256, .f32⟩
  | .local _ .vmem, ⟨22, _⟩ => ⟨S4096x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
@[reducible] def k0_t1_loop (i : grid0.Coords) : Scf.Loop 32 :=
  let c0_i32_19 : BitVec 32 := 0#32
  let arg1 : BitVec 32 := BitVec.ofNat 32 (i 1).val
  let v27 : BitVec 32 := Scalar.subi arg1 c0_i32_19
  let c1_i32 : BitVec 32 := 1#32
  let v29 : BitVec 32 := Scalar.divsi v27 c1_i32
  let v30 : BitVec 32 := Scalar.muli v29 c1_i32
  let v31 : BitVec 32 := Scalar.addi c0_i32_19 v30
  let c1_i32_20 : BitVec 32 := 1#32
  ⟨c0_i32_19, v31, c1_i32_20⟩
def k0_mult2 (i : grid0.Coords) (k0_t1 : Fin (k0_t1_loop i).trips) : BitVec 32 :=
  let c0_i32_19 : BitVec 32 := 0#32
  let c1_i32_20 : BitVec 32 := 1#32
  let arg9 : BitVec 32 := Scf.iv c0_i32_19 c1_i32_20 k0_t1
  let c512_i32_77 : BitVec 32 := 512#32
  let v131 : BitVec 32 := Scalar.muli arg9 c512_i32_77
  v131
def k0_mult3 (i : grid0.Coords) (k0_t1 : Fin (k0_t1_loop i).trips) : BitVec 32 :=
  let c0_i32_19 : BitVec 32 := 0#32
  let c1_i32_20 : BitVec 32 := 1#32
  let arg9 : BitVec 32 := Scf.iv c0_i32_19 c1_i32_20 k0_t1
  let c1_i32_84 : BitVec 32 := 1#32
  let v137 : BitVec 32 := Scalar.addi arg9 c1_i32_84
  let c512_i32_85 : BitVec 32 := 512#32
  let v138 : BitVec 32 := Scalar.muli v137 c512_i32_85
  v138
def k0_off1 (i : grid0.Coords) (k0_t1 : Fin (k0_t1_loop i).trips) : Fin 2 → Nat :=
  let c0_i32_19 : BitVec 32 := 0#32
  let c1_i32_20 : BitVec 32 := 1#32
  let arg9 : BitVec 32 := Scf.iv c0_i32_19 c1_i32_20 k0_t1
  let c1_i32_84 : BitVec 32 := 1#32
  let v137 : BitVec 32 := Scalar.addi arg9 c1_i32_84
  let c512_i32_85 : BitVec 32 := 512#32
  let v138 : BitVec 32 := Scalar.muli v137 c512_i32_85
  let v139 : BitVec 32 := v138
  let v140 : Index := Scalar.indexCast v139
  let c0_86 : Index := 0#32
  ![v140.toNat, 0]
def k0_off2 (i : grid0.Coords) (k0_t1 : Fin (k0_t1_loop i).trips) : Fin 2 → Nat :=
  let c0_i32_19 : BitVec 32 := 0#32
  let c1_i32_20 : BitVec 32 := 1#32
  let arg9 : BitVec 32 := Scf.iv c0_i32_19 c1_i32_20 k0_t1
  let c1_i32_84 : BitVec 32 := 1#32
  let v137 : BitVec 32 := Scalar.addi arg9 c1_i32_84
  let c512_i32_85 : BitVec 32 := 512#32
  let v138 : BitVec 32 := Scalar.muli v137 c512_i32_85
  let v139 : BitVec 32 := v138
  let v144 : Index := Scalar.indexCast v139
  let c128_88 : Index := 128#32
  ![v144.toNat, 128]
def k0_off3 (i : grid0.Coords) (k0_t1 : Fin (k0_t1_loop i).trips) : Fin 2 → Nat :=
  let c0_i32_19 : BitVec 32 := 0#32
  let c1_i32_20 : BitVec 32 := 1#32
  let arg9 : BitVec 32 := Scf.iv c0_i32_19 c1_i32_20 k0_t1
  let c512_i32_77 : BitVec 32 := 512#32
  let v131 : BitVec 32 := Scalar.muli arg9 c512_i32_77
  let v132 : BitVec 32 := v131
  let v164 : Index := Scalar.indexCast v132
  let c0_98 : Index := 0#32
  ![v164.toNat, 0]
def k0_off4 (i : grid0.Coords) (k0_t1 : Fin (k0_t1_loop i).trips) : Fin 2 → Nat :=
  let c0_i32_19 : BitVec 32 := 0#32
  let c1_i32_20 : BitVec 32 := 1#32
  let arg9 : BitVec 32 := Scf.iv c0_i32_19 c1_i32_20 k0_t1
  let c512_i32_77 : BitVec 32 := 512#32
  let v131 : BitVec 32 := Scalar.muli arg9 c512_i32_77
  let v132 : BitVec 32 := v131
  let v169 : Index := Scalar.indexCast v132
  let c128_100 : Index := 128#32
  ![v169.toNat, 128]
@[reducible] def k0_t2_loop (i : grid0.Coords) : Scf.Loop 32 :=
  let c0_i32_19 : BitVec 32 := 0#32
  let arg1 : BitVec 32 := BitVec.ofNat 32 (i 1).val
  let v27 : BitVec 32 := Scalar.subi arg1 c0_i32_19
  let c1_i32 : BitVec 32 := 1#32
  let v29 : BitVec 32 := Scalar.divsi v27 c1_i32
  let v30 : BitVec 32 := Scalar.muli v29 c1_i32
  let v31 : BitVec 32 := Scalar.addi c0_i32_19 v30
  let v28 : BitVec 32 := Scalar.addi c0_i32_19 v27
  let c1_i32_21 : BitVec 32 := 1#32
  ⟨v31, v28, c1_i32_21⟩
def k0_mult4 (i : grid0.Coords) (k0_t2 : Fin (k0_t2_loop i).trips) : BitVec 32 :=
  let c0_i32_19 : BitVec 32 := 0#32
  let arg1 : BitVec 32 := BitVec.ofNat 32 (i 1).val
  let v27 : BitVec 32 := Scalar.subi arg1 c0_i32_19
  let c1_i32 : BitVec 32 := 1#32
  let v29 : BitVec 32 := Scalar.divsi v27 c1_i32
  let v30 : BitVec 32 := Scalar.muli v29 c1_i32
  let v31 : BitVec 32 := Scalar.addi c0_i32_19 v30
  let c1_i32_21 : BitVec 32 := 1#32
  let arg9 : BitVec 32 := Scf.iv v31 c1_i32_21 k0_t2
  let c512_i32_77 : BitVec 32 := 512#32
  let v131 : BitVec 32 := Scalar.muli arg9 c512_i32_77
  v131
def k0_mult5 (i : grid0.Coords) (k0_t2 : Fin (k0_t2_loop i).trips) : BitVec 32 :=
  let c0_i32_19 : BitVec 32 := 0#32
  let arg1 : BitVec 32 := BitVec.ofNat 32 (i 1).val
  let v27 : BitVec 32 := Scalar.subi arg1 c0_i32_19
  let c1_i32 : BitVec 32 := 1#32
  let v29 : BitVec 32 := Scalar.divsi v27 c1_i32
  let v30 : BitVec 32 := Scalar.muli v29 c1_i32
  let v31 : BitVec 32 := Scalar.addi c0_i32_19 v30
  let c1_i32_21 : BitVec 32 := 1#32
  let arg9 : BitVec 32 := Scf.iv v31 c1_i32_21 k0_t2
  let c1_i32_84 : BitVec 32 := 1#32
  let v137 : BitVec 32 := Scalar.addi arg9 c1_i32_84
  let c512_i32_85 : BitVec 32 := 512#32
  let v138 : BitVec 32 := Scalar.muli v137 c512_i32_85
  v138
def k0_off5 (i : grid0.Coords) (k0_t2 : Fin (k0_t2_loop i).trips) : Fin 2 → Nat :=
  let c0_i32_19 : BitVec 32 := 0#32
  let arg1 : BitVec 32 := BitVec.ofNat 32 (i 1).val
  let v27 : BitVec 32 := Scalar.subi arg1 c0_i32_19
  let c1_i32 : BitVec 32 := 1#32
  let v29 : BitVec 32 := Scalar.divsi v27 c1_i32
  let v30 : BitVec 32 := Scalar.muli v29 c1_i32
  let v31 : BitVec 32 := Scalar.addi c0_i32_19 v30
  let c1_i32_21 : BitVec 32 := 1#32
  let arg9 : BitVec 32 := Scf.iv v31 c1_i32_21 k0_t2
  let c1_i32_84 : BitVec 32 := 1#32
  let v137 : BitVec 32 := Scalar.addi arg9 c1_i32_84
  let c512_i32_85 : BitVec 32 := 512#32
  let v138 : BitVec 32 := Scalar.muli v137 c512_i32_85
  let v139 : BitVec 32 := v138
  let v140 : Index := Scalar.indexCast v139
  let c0_86 : Index := 0#32
  ![v140.toNat, 0]
def k0_off6 (i : grid0.Coords) (k0_t2 : Fin (k0_t2_loop i).trips) : Fin 2 → Nat :=
  let c0_i32_19 : BitVec 32 := 0#32
  let arg1 : BitVec 32 := BitVec.ofNat 32 (i 1).val
  let v27 : BitVec 32 := Scalar.subi arg1 c0_i32_19
  let c1_i32 : BitVec 32 := 1#32
  let v29 : BitVec 32 := Scalar.divsi v27 c1_i32
  let v30 : BitVec 32 := Scalar.muli v29 c1_i32
  let v31 : BitVec 32 := Scalar.addi c0_i32_19 v30
  let c1_i32_21 : BitVec 32 := 1#32
  let arg9 : BitVec 32 := Scf.iv v31 c1_i32_21 k0_t2
  let c1_i32_84 : BitVec 32 := 1#32
  let v137 : BitVec 32 := Scalar.addi arg9 c1_i32_84
  let c512_i32_85 : BitVec 32 := 512#32
  let v138 : BitVec 32 := Scalar.muli v137 c512_i32_85
  let v139 : BitVec 32 := v138
  let v144 : Index := Scalar.indexCast v139
  let c128_88 : Index := 128#32
  ![v144.toNat, 128]
def k0_off7 (i : grid0.Coords) (k0_t2 : Fin (k0_t2_loop i).trips) : Fin 2 → Nat :=
  let c0_i32_19 : BitVec 32 := 0#32
  let arg1 : BitVec 32 := BitVec.ofNat 32 (i 1).val
  let v27 : BitVec 32 := Scalar.subi arg1 c0_i32_19
  let c1_i32 : BitVec 32 := 1#32
  let v29 : BitVec 32 := Scalar.divsi v27 c1_i32
  let v30 : BitVec 32 := Scalar.muli v29 c1_i32
  let v31 : BitVec 32 := Scalar.addi c0_i32_19 v30
  let c1_i32_21 : BitVec 32 := 1#32
  let arg9 : BitVec 32 := Scf.iv v31 c1_i32_21 k0_t2
  let c512_i32_77 : BitVec 32 := 512#32
  let v131 : BitVec 32 := Scalar.muli arg9 c512_i32_77
  let v132 : BitVec 32 := v131
  let v164 : Index := Scalar.indexCast v132
  let c0_98 : Index := 0#32
  ![v164.toNat, 0]
def k0_off8 (i : grid0.Coords) (k0_t2 : Fin (k0_t2_loop i).trips) : Fin 2 → Nat :=
  let c0_i32_19 : BitVec 32 := 0#32
  let arg1 : BitVec 32 := BitVec.ofNat 32 (i 1).val
  let v27 : BitVec 32 := Scalar.subi arg1 c0_i32_19
  let c1_i32 : BitVec 32 := 1#32
  let v29 : BitVec 32 := Scalar.divsi v27 c1_i32
  let v30 : BitVec 32 := Scalar.muli v29 c1_i32
  let v31 : BitVec 32 := Scalar.addi c0_i32_19 v30
  let c1_i32_21 : BitVec 32 := 1#32
  let arg9 : BitVec 32 := Scf.iv v31 c1_i32_21 k0_t2
  let c512_i32_77 : BitVec 32 := 512#32
  let v131 : BitVec 32 := Scalar.muli arg9 c512_i32_77
  let v132 : BitVec 32 := v131
  let v169 : Index := Scalar.indexCast v132
  let c128_100 : Index := 128#32
  ![v169.toNat, 128]
def k0_mult6 (i : grid0.Coords) : BitVec 32 :=
  let arg1 : BitVec 32 := BitVec.ofNat 32 (i 1).val
  let c512_i32 : BitVec 32 := 512#32
  let v32 : BitVec 32 := Scalar.muli arg1 c512_i32
  v32
def k0_off9 (i : grid0.Coords) : Fin 2 → Nat :=
  let arg1 : BitVec 32 := BitVec.ofNat 32 (i 1).val
  let c512_i32 : BitVec 32 := 512#32
  let v32 : BitVec 32 := Scalar.muli arg1 c512_i32
  let v33 : BitVec 32 := v32
  let v64 : Index := Scalar.indexCast v33
  let c0_38 : Index := 0#32
  ![v64.toNat, 0]
def k0_off10 (i : grid0.Coords) : Fin 2 → Nat :=
  let arg1 : BitVec 32 := BitVec.ofNat 32 (i 1).val
  let c512_i32 : BitVec 32 := 512#32
  let v32 : BitVec 32 := Scalar.muli arg1 c512_i32
  let v33 : BitVec 32 := v32
  let v69 : Index := Scalar.indexCast v33
  let c128_40 : Index := 128#32
  ![v69.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v15 : BitVec 32 := Scalar.muli arg1 c512_i32
  v15
def k1_off1 (i : grid1.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_12 : Index := 0#32
  ![v17.toNat, 0]
def k1_off2 (i : grid1.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c128_13 : Index := 128#32
  ![v20.toNat, 128]
def k1_off3 (i : grid1.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v30 : Index := Scalar.indexCast v16
  let c64 : Index := 64#32
  ![v30.toNat, 64]
def k1_off4 (i : grid1.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v36 : Index := Scalar.indexCast v16
  let c192 : Index := 192#32
  ![v36.toNat, 192]
@[reducible] def k1_t1_loop (i : grid1.Coords) : Scf.Loop 32 :=
  let arg1 : BitVec 32 := BitVec.ofNat 32 (i 1).val
  let c1_i32 : BitVec 32 := 1#32
  let v95 : BitVec 32 := Scalar.addi arg1 c1_i32
  let c8_i32 : BitVec 32 := 8#32
  let v96 : BitVec 32 := Scalar.subi c8_i32 v95
  let c1_i32_49 : BitVec 32 := 1#32
  let v98 : BitVec 32 := Scalar.divsi v96 c1_i32_49
  let v99 : BitVec 32 := Scalar.muli v98 c1_i32_49
  let v100 : BitVec 32 := Scalar.addi v95 v99
  let c1_i32_50 : BitVec 32 := 1#32
  ⟨v95, v100, c1_i32_50⟩
def k1_mult2 (i : grid1.Coords) (k1_t1 : Fin (k1_t1_loop i).trips) : BitVec 32 :=
  let arg1 : BitVec 32 := BitVec.ofNat 32 (i 1).val
  let c1_i32 : BitVec 32 := 1#32
  let v95 : BitVec 32 := Scalar.addi arg1 c1_i32
  let c1_i32_50 : BitVec 32 := 1#32
  let arg10 : BitVec 32 := Scf.iv v95 c1_i32_50 k1_t1
  let c512_i32_52 : BitVec 32 := 512#32
  let v101 : BitVec 32 := Scalar.muli arg10 c512_i32_52
  v101
def k1_off5 (i : grid1.Coords) (k1_t1 : Fin (k1_t1_loop i).trips) : Fin 2 → Nat :=
  let arg1 : BitVec 32 := BitVec.ofNat 32 (i 1).val
  let c1_i32 : BitVec 32 := 1#32
  let v95 : BitVec 32 := Scalar.addi arg1 c1_i32
  let c1_i32_50 : BitVec 32 := 1#32
  let arg10 : BitVec 32 := Scf.iv v95 c1_i32_50 k1_t1
  let c512_i32_52 : BitVec 32 := 512#32
  let v101 : BitVec 32 := Scalar.muli arg10 c512_i32_52
  let v102 : BitVec 32 := v101
  let v103 : Index := Scalar.indexCast v102
  let c0_53 : Index := 0#32
  ![v103.toNat, 0]
def k1_off6 (i : grid1.Coords) (k1_t1 : Fin (k1_t1_loop i).trips) : Fin 2 → Nat :=
  let arg1 : BitVec 32 := BitVec.ofNat 32 (i 1).val
  let c1_i32 : BitVec 32 := 1#32
  let v95 : BitVec 32 := Scalar.addi arg1 c1_i32
  let c1_i32_50 : BitVec 32 := 1#32
  let arg10 : BitVec 32 := Scf.iv v95 c1_i32_50 k1_t1
  let c512_i32_52 : BitVec 32 := 512#32
  let v101 : BitVec 32 := Scalar.muli arg10 c512_i32_52
  let v102 : BitVec 32 := v101
  let v106 : Index := Scalar.indexCast v102
  let c128_54 : Index := 128#32
  ![v106.toNat, 128]
def k1_off7 (i : grid1.Coords) (k1_t1 : Fin (k1_t1_loop i).trips) : Fin 2 → Nat :=
  let arg1 : BitVec 32 := BitVec.ofNat 32 (i 1).val
  let c1_i32 : BitVec 32 := 1#32
  let v95 : BitVec 32 := Scalar.addi arg1 c1_i32
  let c1_i32_50 : BitVec 32 := 1#32
  let arg10 : BitVec 32 := Scf.iv v95 c1_i32_50 k1_t1
  let c512_i32_52 : BitVec 32 := 512#32
  let v101 : BitVec 32 := Scalar.muli arg10 c512_i32_52
  let v102 : BitVec 32 := v101
  let v116 : Index := Scalar.indexCast v102
  let c64_58 : Index := 64#32
  ![v116.toNat, 64]
def k1_off8 (i : grid1.Coords) (k1_t1 : Fin (k1_t1_loop i).trips) : Fin 2 → Nat :=
  let arg1 : BitVec 32 := BitVec.ofNat 32 (i 1).val
  let c1_i32 : BitVec 32 := 1#32
  let v95 : BitVec 32 := Scalar.addi arg1 c1_i32
  let c1_i32_50 : BitVec 32 := 1#32
  let arg10 : BitVec 32 := Scf.iv v95 c1_i32_50 k1_t1
  let c512_i32_52 : BitVec 32 := 512#32
  let v101 : BitVec 32 := Scalar.muli arg10 c512_i32_52
  let v102 : BitVec 32 := v101
  let v122 : Index := Scalar.indexCast v102
  let c192_60 : Index := 192#32
  ![v122.toNat, 192]
@[reducible] def k1_t2_loop (i : grid1.Coords) : Scf.Loop 32 :=
  let arg1 : BitVec 32 := BitVec.ofNat 32 (i 1).val
  let c1_i32 : BitVec 32 := 1#32
  let v95 : BitVec 32 := Scalar.addi arg1 c1_i32
  let c8_i32 : BitVec 32 := 8#32
  let v96 : BitVec 32 := Scalar.subi c8_i32 v95
  let c1_i32_49 : BitVec 32 := 1#32
  let v98 : BitVec 32 := Scalar.divsi v96 c1_i32_49
  let v99 : BitVec 32 := Scalar.muli v98 c1_i32_49
  let v100 : BitVec 32 := Scalar.addi v95 v99
  let v97 : BitVec 32 := Scalar.addi v95 v96
  let c1_i32_51 : BitVec 32 := 1#32
  ⟨v100, v97, c1_i32_51⟩
def k1_mult3 (i : grid1.Coords) (k1_t2 : Fin (k1_t2_loop i).trips) : BitVec 32 :=
  let arg1 : BitVec 32 := BitVec.ofNat 32 (i 1).val
  let c1_i32 : BitVec 32 := 1#32
  let v95 : BitVec 32 := Scalar.addi arg1 c1_i32
  let c8_i32 : BitVec 32 := 8#32
  let v96 : BitVec 32 := Scalar.subi c8_i32 v95
  let c1_i32_49 : BitVec 32 := 1#32
  let v98 : BitVec 32 := Scalar.divsi v96 c1_i32_49
  let v99 : BitVec 32 := Scalar.muli v98 c1_i32_49
  let v100 : BitVec 32 := Scalar.addi v95 v99
  let c1_i32_51 : BitVec 32 := 1#32
  let arg10 : BitVec 32 := Scf.iv v100 c1_i32_51 k1_t2
  let c512_i32_52 : BitVec 32 := 512#32
  let v101 : BitVec 32 := Scalar.muli arg10 c512_i32_52
  v101
def k1_off9 (i : grid1.Coords) (k1_t2 : Fin (k1_t2_loop i).trips) : Fin 2 → Nat :=
  let arg1 : BitVec 32 := BitVec.ofNat 32 (i 1).val
  let c1_i32 : BitVec 32 := 1#32
  let v95 : BitVec 32 := Scalar.addi arg1 c1_i32
  let c8_i32 : BitVec 32 := 8#32
  let v96 : BitVec 32 := Scalar.subi c8_i32 v95
  let c1_i32_49 : BitVec 32 := 1#32
  let v98 : BitVec 32 := Scalar.divsi v96 c1_i32_49
  let v99 : BitVec 32 := Scalar.muli v98 c1_i32_49
  let v100 : BitVec 32 := Scalar.addi v95 v99
  let c1_i32_51 : BitVec 32 := 1#32
  let arg10 : BitVec 32 := Scf.iv v100 c1_i32_51 k1_t2
  let c512_i32_52 : BitVec 32 := 512#32
  let v101 : BitVec 32 := Scalar.muli arg10 c512_i32_52
  let v102 : BitVec 32 := v101
  let v103 : Index := Scalar.indexCast v102
  let c0_53 : Index := 0#32
  ![v103.toNat, 0]
def k1_off10 (i : grid1.Coords) (k1_t2 : Fin (k1_t2_loop i).trips) : Fin 2 → Nat :=
  let arg1 : BitVec 32 := BitVec.ofNat 32 (i 1).val
  let c1_i32 : BitVec 32 := 1#32
  let v95 : BitVec 32 := Scalar.addi arg1 c1_i32
  let c8_i32 : BitVec 32 := 8#32
  let v96 : BitVec 32 := Scalar.subi c8_i32 v95
  let c1_i32_49 : BitVec 32 := 1#32
  let v98 : BitVec 32 := Scalar.divsi v96 c1_i32_49
  let v99 : BitVec 32 := Scalar.muli v98 c1_i32_49
  let v100 : BitVec 32 := Scalar.addi v95 v99
  let c1_i32_51 : BitVec 32 := 1#32
  let arg10 : BitVec 32 := Scf.iv v100 c1_i32_51 k1_t2
  let c512_i32_52 : BitVec 32 := 512#32
  let v101 : BitVec 32 := Scalar.muli arg10 c512_i32_52
  let v102 : BitVec 32 := v101
  let v106 : Index := Scalar.indexCast v102
  let c128_54 : Index := 128#32
  ![v106.toNat, 128]
def k1_off11 (i : grid1.Coords) (k1_t2 : Fin (k1_t2_loop i).trips) : Fin 2 → Nat :=
  let arg1 : BitVec 32 := BitVec.ofNat 32 (i 1).val
  let c1_i32 : BitVec 32 := 1#32
  let v95 : BitVec 32 := Scalar.addi arg1 c1_i32
  let c8_i32 : BitVec 32 := 8#32
  let v96 : BitVec 32 := Scalar.subi c8_i32 v95
  let c1_i32_49 : BitVec 32 := 1#32
  let v98 : BitVec 32 := Scalar.divsi v96 c1_i32_49
  let v99 : BitVec 32 := Scalar.muli v98 c1_i32_49
  let v100 : BitVec 32 := Scalar.addi v95 v99
  let c1_i32_51 : BitVec 32 := 1#32
  let arg10 : BitVec 32 := Scf.iv v100 c1_i32_51 k1_t2
  let c512_i32_52 : BitVec 32 := 512#32
  let v101 : BitVec 32 := Scalar.muli arg10 c512_i32_52
  let v102 : BitVec 32 := v101
  let v116 : Index := Scalar.indexCast v102
  let c64_58 : Index := 64#32
  ![v116.toNat, 64]
def k1_off12 (i : grid1.Coords) (k1_t2 : Fin (k1_t2_loop i).trips) : Fin 2 → Nat :=
  let arg1 : BitVec 32 := BitVec.ofNat 32 (i 1).val
  let c1_i32 : BitVec 32 := 1#32
  let v95 : BitVec 32 := Scalar.addi arg1 c1_i32
  let c8_i32 : BitVec 32 := 8#32
  let v96 : BitVec 32 := Scalar.subi c8_i32 v95
  let c1_i32_49 : BitVec 32 := 1#32
  let v98 : BitVec 32 := Scalar.divsi v96 c1_i32_49
  let v99 : BitVec 32 := Scalar.muli v98 c1_i32_49
  let v100 : BitVec 32 := Scalar.addi v95 v99
  let c1_i32_51 : BitVec 32 := 1#32
  let arg10 : BitVec 32 := Scf.iv v100 c1_i32_51 k1_t2
  let c512_i32_52 : BitVec 32 := 512#32
  let v101 : BitVec 32 := Scalar.muli arg10 c512_i32_52
  let v102 : BitVec 32 := v101
  let v122 : Index := Scalar.indexCast v102
  let c192_60 : Index := 192#32
  ![v122.toNat, 192]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S4096x16x64 : Shape := ⟨3, ![4096, 16, 64]⟩
abbrev S4096x16 : Shape := ⟨2, ![4096, 16]⟩
abbrev S4096 : Shape := ⟨1, ![4096]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x64x4096 : Shape := ⟨3, ![16, 64, 4096]⟩
abbrev S16x4096x64 : Shape := ⟨3, ![16, 4096, 64]⟩

abbrev nBuf : Space → Nat
  | .hbm => 104
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S4096x16x64, .f32⟩
  | .hbm, ⟨2, _⟩ => ⟨S4096x16x64, .f32⟩
  | .hbm, ⟨3, _⟩ => ⟨S4096x16, .f32⟩
  | .hbm, ⟨4, _⟩ => ⟨S4096x16x64, .f32⟩
  | .hbm, ⟨5, _⟩ => ⟨S4096, .i32⟩
  | .hbm, ⟨6, _⟩ => ⟨S16x4096, .f32⟩
  | .hbm, ⟨7, _⟩ => ⟨S16x4096x4096, .f32⟩
  | .hbm, ⟨8, _⟩ => ⟨S16x4096x1, .f32⟩
  | .hbm, ⟨9, _⟩ => ⟨S16x1x4096, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S16x4096x4096, .i1⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096x4096, .f32⟩
  | .hbm, ⟨26, _⟩ => ⟨S_, .f32⟩
  | .hbm, ⟨27, _⟩ => ⟨S16x4096, .f32⟩
  | .hbm, ⟨28, _⟩ => ⟨S16x4096x1, .f32⟩
  | .hbm, ⟨29, _⟩ => ⟨S16x4096x4096, .f32⟩
  | .hbm, ⟨30, _⟩ => ⟨S16x4096x4096, .i1⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S_, .f32⟩
  | .hbm, ⟨35, _⟩ => ⟨S16x4096, .f32⟩
  | .hbm, ⟨36, _⟩ => ⟨S16x4096, .f32⟩
  | .hbm, ⟨37, _⟩ => ⟨S_, .f32⟩
  | .hbm, ⟨38, _⟩ => ⟨S16x4096, .f32⟩
  | .hbm, ⟨39, _⟩ => ⟨S16x4096, .i1⟩
  | .hbm, ⟨40, _⟩ => ⟨S_, .f32⟩
  | .hbm, ⟨41, _⟩ => ⟨S16x4096, .f32⟩
  | .hbm, ⟨42, _⟩ => ⟨S16x4096, .i1⟩
  | .hbm, ⟨43, _⟩ => ⟨S_, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S16x4096, .f32⟩
  | .hbm, ⟨50, _⟩ => ⟨S16x4096, .f32⟩
  | .hbm, ⟨51, _⟩ => ⟨S16x4096x1, .f32⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S_, .f32⟩
  | .hbm, ⟨56, _⟩ => ⟨S16x4096, .f32⟩
  | .hbm, ⟨57, _⟩ => ⟨S16x4096x1, .f32⟩
  | .hbm, ⟨58, _⟩ => ⟨S16x4096x4096, .f32⟩
  | .hbm, ⟨59, _⟩ => ⟨S16x4096x4096, .f32⟩
  | .hbm, ⟨60, _⟩ => ⟨S16x4096x1, .f32⟩
  | .hbm, ⟨61, _⟩ => ⟨S_, .f32⟩
  | .hbm, ⟨62, _⟩ => ⟨S16x4096x1, .f32⟩
  | .hbm, ⟨63, _⟩ => ⟨S16x4096x1, .f32⟩
  | .hbm, ⟨64, _⟩ => ⟨S16x64x4096, .f32⟩
  | .hbm, ⟨65, _⟩ => ⟨S4096x16x64, .f32⟩
  | .hbm, ⟨66, _⟩ => ⟨S16x64x4096, .f32⟩
  | .hbm, ⟨67, _⟩ => ⟨S16x4096x4096, .f32⟩
  | .hbm, ⟨68, _⟩ => ⟨S16x64x4096, .f32⟩
  | .hbm, ⟨69, _⟩ => ⟨S4096x16x64, .f32⟩
  | .hbm, ⟨70, _⟩ => ⟨S16x4096x4096, .f32⟩
  | .hbm, ⟨71, _⟩ => ⟨S16x4096x4096, .f32⟩
  | .hbm, ⟨72, _⟩ => ⟨S16x4096x4096, .f32⟩
  | .hbm, ⟨73, _⟩ => ⟨S_, .f32⟩
  | .hbm, ⟨74, _⟩ => ⟨S16x4096, .f32⟩
  | .hbm, ⟨75, _⟩ => ⟨S16x4096x1, .f32⟩
  | .hbm, ⟨76, _⟩ => ⟨S16x4096x1, .f32⟩
  | .hbm, ⟨77, _⟩ => ⟨S16x4096x4096, .f32⟩
  | .hbm, ⟨78, _⟩ => ⟨S16x4096x4096, .f32⟩
  | .hbm, ⟨79, _⟩ => ⟨S_, .f32⟩
  | .hbm, ⟨80, _⟩ => ⟨S16x4096, .f32⟩
  | .hbm, ⟨81, _⟩ => ⟨S16x4096x4096, .f32⟩
  | .hbm, ⟨82, _⟩ => ⟨S16x4096x4096, .f32⟩
  | .hbm, ⟨83, _⟩ => ⟨S16x4096x4096, .f32⟩
  | .hbm, ⟨84, _⟩ => ⟨S_, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x1, .f32⟩
  | .hbm, ⟨90, _⟩ => ⟨S16x4096x4096, .f32⟩
  | .hbm, ⟨91, _⟩ => ⟨S_, .f32⟩
  | .hbm, ⟨92, _⟩ => ⟨S16x4096, .f32⟩
  | .hbm, ⟨93, _⟩ => ⟨S16x1x4096, .f32⟩
  | .hbm, ⟨94, _⟩ => ⟨S_, .f32⟩
  | .hbm, ⟨95, _⟩ => ⟨S16x4096, .f32⟩
  | .hbm, ⟨96, _⟩ => ⟨S_, .f32⟩
  | .hbm, ⟨97, _⟩ => ⟨S16x4096, .f32⟩
  | .hbm, ⟨98, _⟩ => ⟨S16x4096, .f32⟩
  | .hbm, ⟨99, _⟩ => ⟨S16x4096x64, .f32⟩
  | .hbm, ⟨100, _⟩ => ⟨S4096x16x64, .f32⟩
  | .hbm, ⟨101, _⟩ => ⟨S16x4096x64, .f32⟩
  | .hbm, ⟨102, _⟩ => ⟨S4096x16x64, .f32⟩
  | .hbm, ⟨103, _⟩ => ⟨S4096x16, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== GdnIn.lean ====
abbrev S4096x1024 : Shape := ⟨2, ![4096, 1024]⟩
abbrev S1024 : Shape := ⟨1, ![1024]⟩
abbrev S1x1024 : Shape := ⟨2, ![1, 1024]⟩
abbrev S1024x6400 : Shape := ⟨2, ![1024, 6400]⟩
abbrev S4096x6400 : Shape := ⟨2, ![4096, 6400]⟩
abbrev S1024x1024 : Shape := ⟨2, ![1024, 1024]⟩
abbrev S1024x1280 : Shape := ⟨2, ![1024, 1280]⟩
abbrev S1024x1 : Shape := ⟨2, ![1024, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6400, .f32⟩
  | .hbm, ⟨5, _⟩ => ⟨S4096x6400, .f32⟩
  | .hbm, ⟨6, _⟩ => ⟨S1x1024, .f32⟩
  | .hbm, ⟨7, _⟩ => ⟨S1024x6400, .bf16⟩
  | .hbm, ⟨8, _⟩ => ⟨S4096x6400, .f32⟩
  | .hbm, ⟨9, _⟩ => ⟨S4096x1024, .bf16⟩
  | .hbm, ⟨10, _⟩ => ⟨S1024x6400, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1280, .bf16⟩
  | .local _ .vmem, ⟨6, _⟩ => ⟨S1024x1280, .bf16⟩
  | .local _ .vmem, ⟨7, _⟩ => ⟨S1024x1280, .f32⟩
  | .local _ .vmem, ⟨8, _⟩ => ⟨S1024x1280, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1280, .f32⟩
  | .local _ .vmem, ⟨14, _⟩ => ⟨S1024x1280, .f32⟩
  | .local _ .vmem, ⟨15, _⟩ => ⟨S1024x1280, .f32⟩
  | .local _ .vmem, ⟨16, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![4, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![5, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== RefGdnInIdeal.lean ====
abbrev S4096x1024 : Shape := ⟨2, ![4096, 1024]⟩
abbrev S1024 : Shape := ⟨1, ![1024]⟩
abbrev S1x1024 : Shape := ⟨2, ![1, 1024]⟩
abbrev S1024x6400 : Shape := ⟨2, ![1024, 6400]⟩
abbrev S4096x6400 : Shape := ⟨2, ![4096, 6400]⟩
abbrev S_ : Shape := ⟨0, ![]⟩
abbrev S4096 : Shape := ⟨1, ![4096]⟩
abbrev S4096x1 : Shape := ⟨2, ![4096, 1]⟩
abbrev S6400x1024 : Shape := ⟨2, ![6400, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6400, .f32⟩
  | .hbm, ⟨5, _⟩ => ⟨S4096x6400, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x6400, .f32⟩
  | .hbm, ⟨30, _⟩ => ⟨S6400x1024, .f32⟩
  | .hbm, ⟨31, _⟩ => ⟨S1024x6400, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== GdnInBwd.lean ====
abbrev S4096x1024 : Shape := ⟨2, ![4096, 1024]⟩
abbrev S1024 : Shape := ⟨1, ![1024]⟩
abbrev S1x1024 : Shape := ⟨2, ![1, 1024]⟩
abbrev S1024x6400 : Shape := ⟨2, ![1024, 6400]⟩
abbrev S4096x6400 : Shape := ⟨2, ![4096, 6400]⟩
abbrev S1024x1024 : Shape := ⟨2, ![1024, 1024]⟩
abbrev S1024x1280 : Shape := ⟨2, ![1024, 1280]⟩
abbrev S1024x1 : Shape := ⟨2, ![1024, 1]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6400, .f32⟩
  | .hbm, ⟨5, _⟩ => ⟨S4096x6400, .f32⟩
  | .hbm, ⟨6, _⟩ => ⟨S4096x1024, .f32⟩
  | .hbm, ⟨7, _⟩ => ⟨S1x1024, .f32⟩
  | .hbm, ⟨8, _⟩ => ⟨S1024x6400, .bf16⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1280, .bf16⟩
  | .local _ .vmem, ⟨6, _⟩ => ⟨S1024x1280, .bf16⟩
  | .local _ .vmem, ⟨7, _⟩ => ⟨S1024x1280, .f32⟩
  | .local _ .vmem, ⟨8, _⟩ => ⟨S1024x1280, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== RefGdnInBwdIdeal.lean ====
abbrev S4096x1024 : Shape := ⟨2, ![4096, 1024]⟩
abbrev S1024 : Shape := ⟨1, ![1024]⟩
abbrev S1x1024 : Shape := ⟨2, ![1, 1024]⟩
abbrev S1024x6400 : Shape := ⟨2, ![1024, 6400]⟩
abbrev S4096x6400 : Shape := ⟨2, ![4096, 6400]⟩
abbrev S_ : Shape := ⟨0, ![]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6400, .f32⟩
  | .hbm, ⟨5, _⟩ => ⟨S4096x6400, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x6400, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== FoxIn.lean ====
abbrev S4096x1024 : Shape := ⟨2, ![4096, 1024]⟩
abbrev S1024 : Shape := ⟨1, ![1024]⟩
abbrev S1x1024 : Shape := ⟨2, ![1, 1024]⟩
abbrev S1024x4224 : Shape := ⟨2, ![1024, 4224]⟩
abbrev S4096x4224 : Shape := ⟨2, ![4096, 4224]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x4224, .f32⟩
  | .hbm, ⟨5, _⟩ => ⟨S4096x4224, .f32⟩
  | .hbm, ⟨6, _⟩ => ⟨S1x1024, .f32⟩
  | .hbm, ⟨7, _⟩ => ⟨S1024x4224, .bf16⟩
  | .hbm, ⟨8, _⟩ => ⟨S4096x4224, .f32⟩
  | .hbm, ⟨9, _⟩ => ⟨S4096x1024, .bf16⟩
  | .hbm, ⟨10, _⟩ => ⟨S1024x4224, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .f32⟩
  | .local _ .vmem, ⟨8, _⟩ => ⟨S1024x1408, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1408, .f32⟩
  | .local _ .vmem, ⟨14, _⟩ => ⟨S1024x1408, .f32⟩
  | .local _ .vmem, ⟨15, _⟩ => ⟨S1024x1408, .f32⟩
  | .local _ .vmem, ⟨16, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![3, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== RefFoxInIdeal.lean ====
abbrev S4096x1024 : Shape := ⟨2, ![4096, 1024]⟩
abbrev S1024 : Shape := ⟨1, ![1024]⟩
abbrev S1x1024 : Shape := ⟨2, ![1, 1024]⟩
abbrev S1024x4224 : Shape := ⟨2, ![1024, 4224]⟩
abbrev S4096x4224 : Shape := ⟨2, ![4096, 4224]⟩
abbrev S_ : Shape := ⟨0, ![]⟩
abbrev S4096 : Shape := ⟨1, ![4096]⟩
abbrev S4096x1 : Shape := ⟨2, ![4096, 1]⟩
abbrev S4224x1024 : Shape := ⟨2, ![4224, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x4224, .f32⟩
  | .hbm, ⟨5, _⟩ => ⟨S4096x4224, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x4224, .f32⟩
  | .hbm, ⟨30, _⟩ => ⟨S4224x1024, .f32⟩
  | .hbm, ⟨31, _⟩ => ⟨S1024x4224, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== FoxInBwd.lean ====
abbrev S4096x1024 : Shape := ⟨2, ![4096, 1024]⟩
abbrev S1024 : Shape := ⟨1, ![1024]⟩
abbrev S1x1024 : Shape := ⟨2, ![1, 1024]⟩
abbrev S1024x4224 : Shape := ⟨2, ![1024, 4224]⟩
abbrev S4096x4224 : Shape := ⟨2, ![4096, 4224]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x4224, .f32⟩
  | .hbm, ⟨5, _⟩ => ⟨S4096x4224, .f32⟩
  | .hbm, ⟨6, _⟩ => ⟨S4096x1024, .f32⟩
  | .hbm, ⟨7, _⟩ => ⟨S1x1024, .f32⟩
  | .hbm, ⟨8, _⟩ => ⟨S1024x4224, .bf16⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .f32⟩
  | .local _ .vmem, ⟨8, _⟩ => ⟨S1024x1408, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v18 : BitVec 1 := Scalar.cmpi .eq arg1 c2_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== RefFoxInBwdIdeal.lean ====
abbrev S4096x1024 : Shape := ⟨2, ![4096, 1024]⟩
abbrev S1024 : Shape := ⟨1, ![1024]⟩
abbrev S1x1024 : Shape := ⟨2, ![1, 1024]⟩
abbrev S1024x4224 : Shape := ⟨2, ![1024, 4224]⟩
abbrev S4096x4224 : Shape := ⟨2, ![4096, 4224]⟩
abbrev S_ : Shape := ⟨0, ![]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x4224, .f32⟩
  | .hbm, ⟨5, _⟩ => ⟨S4096x4224, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x4224, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== GdnOut.lean ====
abbrev S4096x2048 : Shape := ⟨2, ![4096, 2048]⟩
abbrev S4096x6400 : Shape := ⟨2, ![4096, 6400]⟩
abbrev S128 : Shape := ⟨1, ![128]⟩
abbrev S2048x1024 : Shape := ⟨2, ![2048, 1024]⟩
abbrev S4096x1024 : Shape := ⟨2, ![4096, 1024]⟩
abbrev S1x1024 : Shape := ⟨2, ![1, 1024]⟩
abbrev S1x128 : Shape := ⟨2, ![1, 128]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 15
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x6400, .f32⟩
  | .hbm, ⟨2, _⟩ => ⟨S128, .f32⟩
  | .hbm, ⟨3, _⟩ => ⟨S2048x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x128, .f32⟩
  | .hbm, ⟨8, _⟩ => ⟨S2048x1024, .bf16⟩
  | .hbm, ⟨9, _⟩ => ⟨S4096x1024, .f32⟩
  | .hbm, ⟨10, _⟩ => ⟨S4096x1024, .f32⟩
  | .hbm, ⟨11, _⟩ => ⟨S4096x2048, .bf16⟩
  | .hbm, ⟨12, _⟩ => ⟨S4096x1024, .f32⟩
  | .hbm, ⟨13, _⟩ => ⟨S4096x1024, .f32⟩
  | .hbm, ⟨14, _⟩ => ⟨S2048x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x128, .f32⟩
  | .local _ .vmem, ⟨5, _⟩ => ⟨S2048x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x512, .f32⟩
  | .local _ .vmem, ⟨18, _⟩ => ⟨S1024x512, .f32⟩
  | .local _ .vmem, ⟨19, _⟩ => ⟨S2048x512, .f32⟩
  | .local _ .vmem, ⟨20, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== RefGdnOutIdeal.lean ====
abbrev S4096x2048 : Shape := ⟨2, ![4096, 2048]⟩
abbrev S4096x6400 : Shape := ⟨2, ![4096, 6400]⟩
abbrev S128 : Shape := ⟨1, ![128]⟩
abbrev S2048x1024 : Shape := ⟨2, ![2048, 1024]⟩
abbrev S4096x1024 : Shape := ⟨2, ![4096, 1024]⟩
abbrev S1x1024 : Shape := ⟨2, ![1, 1024]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩
abbrev S1024x2048 : Shape := ⟨2, ![1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6400, .f32⟩
  | .hbm, ⟨2, _⟩ => ⟨S128, .f32⟩
  | .hbm, ⟨3, _⟩ => ⟨S2048x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x2048, .f32⟩
  | .hbm, ⟨8, _⟩ => ⟨S4096x16x128, .f32⟩
  | .hbm, ⟨9, _⟩ => ⟨S4096x16x128, .f32⟩
  | .hbm, ⟨10, _⟩ => ⟨S4096x16x128, .f32⟩
  | .hbm, ⟨11, _⟩ => ⟨S_, .f32⟩
  | .hbm, ⟨12, _⟩ => ⟨S4096x16x128, .f32⟩
  | .hbm, ⟨13, _⟩ => ⟨S4096x16x128, .f32⟩
  | .hbm, ⟨14, _⟩ => ⟨S_, .f32⟩
  | .hbm, ⟨15, _⟩ => ⟨S4096x16x128, .f32⟩
  | .hbm, ⟨16, _⟩ => ⟨S4096x16x128, .f32⟩
  | .hbm, ⟨17, _⟩ => ⟨S4096x16x128, .f32⟩
  | .hbm, ⟨18, _⟩ => ⟨S4096x16x128, .f32⟩
  | .hbm, ⟨19, _⟩ => ⟨S4096x16x128, .f32⟩
  | .hbm, ⟨20, _⟩ => ⟨S_, .f32⟩
  | .hbm, ⟨21, _⟩ => ⟨S4096x16, .f32⟩
  | .hbm, ⟨22, _⟩ => ⟨S4096x16x1, .f32⟩
  | .hbm, ⟨23, _⟩ => ⟨S_, .f32⟩
  | .hbm, ⟨24, _⟩ => ⟨S4096x16x1, .f32⟩
  | .hbm, ⟨25, _⟩ => ⟨S4096x16x1, .f32⟩
  | .hbm, ⟨26, _⟩ => ⟨S_, .f32⟩
  | .hbm, ⟨27, _⟩ => ⟨S4096x16x1, .f32⟩
  | .hbm, ⟨28, _⟩ => ⟨S4096x16x1, .f32⟩
  | .hbm, ⟨29, _⟩ => ⟨S4096x16x1, .f32⟩
  | .hbm, ⟨30, _⟩ => ⟨S4096x16x128, .f32⟩
  | .hbm, ⟨31, _⟩ => ⟨S4096x16x128, .f32⟩
  | .hbm, ⟨32, _⟩ => ⟨S1x1x128, .f32⟩
  | .hbm, ⟨33, _⟩ => ⟨S4096x16x128, .f32⟩
  | .hbm, ⟨34, _⟩ => ⟨S4096x16x128, .f32⟩
  | .hbm, ⟨35, _⟩ => ⟨S4096x16x128, .f32⟩
  | .hbm, ⟨36, _⟩ => ⟨S4096x2048, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1024x2048, .f32⟩
  | .hbm, ⟨44, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .hbm, ⟨7, _⟩ => ⟨S1x1, .f32⟩
  | .hbm, ⟨8, _⟩ => ⟨S_, .f32⟩
  | .hbm, ⟨9, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefLossIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== AdamGdnIn.lean ====
abbrev S8x2048x772 : Shape := ⟨3, ![8, 2048, 772]⟩
abbrev S2048x772 : Shape := ⟨2, ![2048, 772]⟩
abbrev S8x256x772 : Shape := ⟨3, ![8, 256, 772]⟩
abbrev S256x772 : Shape := ⟨2, ![256, 772]⟩
abbrev S1x256x772 : Shape := ⟨3, ![1, 256, 772]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x772, .bf16⟩
  | .hbm, ⟨1, _⟩ => ⟨S2048x772, .f32⟩
  | .hbm, ⟨2, _⟩ => ⟨S2048x772, .f32⟩
  | .hbm, ⟨3, _⟩ => ⟨S2048x772, .f32⟩
  | .hbm, ⟨4, _⟩ => ⟨S2048x772, .f32⟩
  | .hbm, ⟨5, _⟩ => ⟨S2048x772, .f32⟩
  | .hbm, ⟨6, _⟩ => ⟨S2048x772, .f32⟩
  | .hbm, ⟨7, _⟩ => ⟨S2048x772, .f32⟩
  | .local _ .vmem, ⟨0, _⟩ => ⟨S8x256x772, .bf16⟩
  | .local _ .vmem, ⟨1, _⟩ => ⟨S8x256x772, .bf16⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | .local _ .vmem, ⟨14, _⟩ => ⟨S256x772, .f32⟩
  | .local _ .vmem, ⟨15, _⟩ => ⟨S256x772, .f32⟩
  | _, _ => ⟨S8x2048x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGdnInIdeal.lean ====
abbrev S8x2048x772 : Shape := ⟨3, ![8, 2048, 772]⟩
abbrev S2048x772 : Shape := ⟨2, ![2048, 772]⟩
abbrev S8x256x772 : Shape := ⟨3, ![8, 256, 772]⟩
abbrev S256x772 : Shape := ⟨2, ![256, 772]⟩
abbrev S1x256x772 : Shape := ⟨3, ![1, 256, 772]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x772, .bf16⟩
  | .hbm, ⟨1, _⟩ => ⟨S2048x772, .f32⟩
  | .hbm, ⟨2, _⟩ => ⟨S2048x772, .f32⟩
  | .hbm, ⟨3, _⟩ => ⟨S2048x772, .f32⟩
  | .hbm, ⟨4, _⟩ => ⟨S2048x772, .f32⟩
  | .hbm, ⟨5, _⟩ => ⟨S2048x772, .f32⟩
  | .hbm, ⟨6, _⟩ => ⟨S2048x772, .f32⟩
  | .hbm, ⟨7, _⟩ => ⟨S2048x772, .f32⟩
  | .local _ .vmem, ⟨0, _⟩ => ⟨S8x256x772, .bf16⟩
  | .local _ .vmem, ⟨1, _⟩ => ⟨S8x256x772, .bf16⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | .local _ .vmem, ⟨14, _⟩ => ⟨S256x772, .f32⟩
  | .local _ .vmem, ⟨15, _⟩ => ⟨S256x772, .f32⟩
  | _, _ => ⟨S8x2048x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "debias_m" => some (((5463681 / 8388608)⁻¹ : ℝ) : EReal)
  | "debias_v" => some (((2672307 / 268435456)⁻¹ : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamGdnInIdeal.lean ====
abbrev S8x2048x772 : Shape := ⟨3, ![8, 2048, 772]⟩
abbrev S2048x772 : Shape := ⟨2, ![2048, 772]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x772, .bf16⟩
  | .hbm, ⟨1, _⟩ => ⟨S2048x772, .f32⟩
  | .hbm, ⟨2, _⟩ => ⟨S2048x772, .f32⟩
  | .hbm, ⟨3, _⟩ => ⟨S2048x772, .f32⟩
  | .hbm, ⟨4, _⟩ => ⟨S8x2048x772, .f32⟩
  | .hbm, ⟨5, _⟩ => ⟨S_, .f32⟩
  | .hbm, ⟨6, _⟩ => ⟨S2048x772, .f32⟩
  | .hbm, ⟨7, _⟩ => ⟨S_, .f32⟩
  | .hbm, ⟨8, _⟩ => ⟨S2048x772, .f32⟩
  | .hbm, ⟨9, _⟩ => ⟨S2048x772, .f32⟩
  | .hbm, ⟨10, _⟩ => ⟨S_, .f32⟩
  | .hbm, ⟨11, _⟩ => ⟨S2048x772, .f32⟩
  | .hbm, ⟨12, _⟩ => ⟨S2048x772, .f32⟩
  | .hbm, ⟨13, _⟩ => ⟨S2048x772, .f32⟩
  | .hbm, ⟨14, _⟩ => ⟨S_, .f32⟩
  | .hbm, ⟨15, _⟩ => ⟨S2048x772, .f32⟩
  | .hbm, ⟨16, _⟩ => ⟨S2048x772, .f32⟩
  | .hbm, ⟨17, _⟩ => ⟨S2048x772, .f32⟩
  | .hbm, ⟨18, _⟩ => ⟨S_, .f32⟩
  | .hbm, ⟨19, _⟩ => ⟨S2048x772, .f32⟩
  | .hbm, ⟨20, _⟩ => ⟨S2048x772, .f32⟩
  | .hbm, ⟨21, _⟩ => ⟨S2048x772, .f32⟩
  | .hbm, ⟨22, _⟩ => ⟨S_, .f32⟩
  | .hbm, ⟨23, _⟩ => ⟨S2048x772, .f32⟩
  | .hbm, ⟨24, _⟩ => ⟨S2048x772, .f32⟩
  | .hbm, ⟨25, _⟩ => ⟨S_, .f32⟩
  | .hbm, ⟨26, _⟩ => ⟨S2048x772, .f32⟩
  | .hbm, ⟨27, _⟩ => ⟨S2048x772, .f32⟩
  | .hbm, ⟨28, _⟩ => ⟨S2048x772, .f32⟩
  | .hbm, ⟨29, _⟩ => ⟨S_, .f32⟩
  | .hbm, ⟨30, _⟩ => ⟨S2048x772, .f32⟩
  | .hbm, ⟨31, _⟩ => ⟨S2048x772, .f32⟩
  | .hbm, ⟨32, _⟩ => ⟨S2048x772, .f32⟩
  | .hbm, ⟨33, _⟩ => ⟨S_, .f32⟩
  | .hbm, ⟨34, _⟩ => ⟨S2048x772, .f32⟩
  | .hbm, ⟨35, _⟩ => ⟨S2048x772, .f32⟩
  | .hbm, ⟨36, _⟩ => ⟨S2048x772, .f32⟩
  | .hbm, ⟨37, _⟩ => ⟨S_, .f32⟩
  | .hbm, ⟨38, _⟩ => ⟨S2048x772, .f32⟩
  | .hbm, ⟨39, _⟩ => ⟨S2048x772, .f32⟩
  | _, _ => ⟨S8x2048x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGdnOut.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGdnOutIdeal.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "debias_m" => some (((5463681 / 8388608)⁻¹ : ℝ) : EReal)
  | "debias_v" => some (((2672307 / 268435456)⁻¹ : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamGdnOutIdeal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFoxIn.lean ====
abbrev S8x2048x514 : Shape := ⟨3, ![8, 2048, 514]⟩
abbrev S2048x514 : Shape := ⟨2, ![2048, 514]⟩
abbrev S8x256x514 : Shape := ⟨3, ![8, 256, 514]⟩
abbrev S256x514 : Shape := ⟨2, ![256, 514]⟩
abbrev S1x256x514 : Shape := ⟨3, ![1, 256, 514]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x514, .bf16⟩
  | .hbm, ⟨1, _⟩ => ⟨S2048x514, .f32⟩
  | .hbm, ⟨2, _⟩ => ⟨S2048x514, .f32⟩
  | .hbm, ⟨3, _⟩ => ⟨S2048x514, .f32⟩
  | .hbm, ⟨4, _⟩ => ⟨S2048x514, .f32⟩
  | .hbm, ⟨5, _⟩ => ⟨S2048x514, .f32⟩
  | .hbm, ⟨6, _⟩ => ⟨S2048x514, .f32⟩
  | .hbm, ⟨7, _⟩ => ⟨S2048x514, .f32⟩
  | .local _ .vmem, ⟨0, _⟩ => ⟨S8x256x514, .bf16⟩
  | .local _ .vmem, ⟨1, _⟩ => ⟨S8x256x514, .bf16⟩
  | .local _ .vmem, ⟨2, _⟩ => ⟨S256x514, .f32⟩
  | .local _ .vmem, ⟨3, _⟩ => ⟨S256x514, .f32⟩
  | .local _ .vmem, ⟨4, _⟩ => ⟨S256x514, .f32⟩
  | .local _ .vmem, ⟨5, _⟩ => ⟨S256x514, .f32⟩
  | .local _ .vmem, ⟨6, _⟩ => ⟨S256x514, .f32⟩
  | .local _ .vmem, ⟨7, _⟩ => ⟨S256x514, .f32⟩
  | .local _ .vmem, ⟨8, _⟩ => ⟨S256x514, .f32⟩
  | .local _ .vmem, ⟨9, _⟩ => ⟨S256x514, .f32⟩
  | .local _ .vmem, ⟨10, _⟩ => ⟨S256x514, .f32⟩
  | .local _ .vmem, ⟨11, _⟩ => ⟨S256x514, .f32⟩
  | .local _ .vmem, ⟨12, _⟩ => ⟨S256x514, .f32⟩
  | .local _ .vmem, ⟨13, _⟩ => ⟨S256x514, .f32⟩
  | .local _ .vmem, ⟨14, _⟩ => ⟨S256x514, .f32⟩
  | .local _ .vmem, ⟨15, _⟩ => ⟨S256x514, .f32⟩
  | _, _ => ⟨S8x2048x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFoxInIdeal.lean ====
abbrev S8x2048x514 : Shape := ⟨3, ![8, 2048, 514]⟩
abbrev S2048x514 : Shape := ⟨2, ![2048, 514]⟩
abbrev S8x256x514 : Shape := ⟨3, ![8, 256, 514]⟩
abbrev S256x514 : Shape := ⟨2, ![256, 514]⟩
abbrev S1x256x514 : Shape := ⟨3, ![1, 256, 514]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x514, .bf16⟩
  | .hbm, ⟨1, _⟩ => ⟨S2048x514, .f32⟩
  | .hbm, ⟨2, _⟩ => ⟨S2048x514, .f32⟩
  | .hbm, ⟨3, _⟩ => ⟨S2048x514, .f32⟩
  | .hbm, ⟨4, _⟩ => ⟨S2048x514, .f32⟩
  | .hbm, ⟨5, _⟩ => ⟨S2048x514, .f32⟩
  | .hbm, ⟨6, _⟩ => ⟨S2048x514, .f32⟩
  | .hbm, ⟨7, _⟩ => ⟨S2048x514, .f32⟩
  | .local _ .vmem, ⟨0, _⟩ => ⟨S8x256x514, .bf16⟩
  | .local _ .vmem, ⟨1, _⟩ => ⟨S8x256x514, .bf16⟩
  | .local _ .vmem, ⟨2, _⟩ => ⟨S256x514, .f32⟩
  | .local _ .vmem, ⟨3, _⟩ => ⟨S256x514, .f32⟩
  | .local _ .vmem, ⟨4, _⟩ => ⟨S256x514, .f32⟩
  | .local _ .vmem, ⟨5, _⟩ => ⟨S256x514, .f32⟩
  | .local _ .vmem, ⟨6, _⟩ => ⟨S256x514, .f32⟩
  | .local _ .vmem, ⟨7, _⟩ => ⟨S256x514, .f32⟩
  | .local _ .vmem, ⟨8, _⟩ => ⟨S256x514, .f32⟩
  | .local _ .vmem, ⟨9, _⟩ => ⟨S256x514, .f32⟩
  | .local _ .vmem, ⟨10, _⟩ => ⟨S256x514, .f32⟩
  | .local _ .vmem, ⟨11, _⟩ => ⟨S256x514, .f32⟩
  | .local _ .vmem, ⟨12, _⟩ => ⟨S256x514, .f32⟩
  | .local _ .vmem, ⟨13, _⟩ => ⟨S256x514, .f32⟩
  | .local _ .vmem, ⟨14, _⟩ => ⟨S256x514, .f32⟩
  | .local _ .vmem, ⟨15, _⟩ => ⟨S256x514, .f32⟩
  | _, _ => ⟨S8x2048x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "debias_m" => some (((5463681 / 8388608)⁻¹ : ℝ) : EReal)
  | "debias_v" => some (((2672307 / 268435456)⁻¹ : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamFoxInIdeal.lean ====
abbrev S8x2048x514 : Shape := ⟨3, ![8, 2048, 514]⟩
abbrev S2048x514 : Shape := ⟨2, ![2048, 514]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x514, .bf16⟩
  | .hbm, ⟨1, _⟩ => ⟨S2048x514, .f32⟩
  | .hbm, ⟨2, _⟩ => ⟨S2048x514, .f32⟩
  | .hbm, ⟨3, _⟩ => ⟨S2048x514, .f32⟩
  | .hbm, ⟨4, _⟩ => ⟨S8x2048x514, .f32⟩
  | .hbm, ⟨5, _⟩ => ⟨S_, .f32⟩
  | .hbm, ⟨6, _⟩ => ⟨S2048x514, .f32⟩
  | .hbm, ⟨7, _⟩ => ⟨S_, .f32⟩
  | .hbm, ⟨8, _⟩ => ⟨S2048x514, .f32⟩
  | .hbm, ⟨9, _⟩ => ⟨S2048x514, .f32⟩
  | .hbm, ⟨10, _⟩ => ⟨S_, .f32⟩
  | .hbm, ⟨11, _⟩ => ⟨S2048x514, .f32⟩
  | .hbm, ⟨12, _⟩ => ⟨S2048x514, .f32⟩
  | .hbm, ⟨13, _⟩ => ⟨S2048x514, .f32⟩
  | .hbm, ⟨14, _⟩ => ⟨S_, .f32⟩
  | .hbm, ⟨15, _⟩ => ⟨S2048x514, .f32⟩
  | .hbm, ⟨16, _⟩ => ⟨S2048x514, .f32⟩
  | .hbm, ⟨17, _⟩ => ⟨S2048x514, .f32⟩
  | .hbm, ⟨18, _⟩ => ⟨S_, .f32⟩
  | .hbm, ⟨19, _⟩ => ⟨S2048x514, .f32⟩
  | .hbm, ⟨20, _⟩ => ⟨S2048x514, .f32⟩
  | .hbm, ⟨21, _⟩ => ⟨S2048x514, .f32⟩
  | .hbm, ⟨22, _⟩ => ⟨S_, .f32⟩
  | .hbm, ⟨23, _⟩ => ⟨S2048x514, .f32⟩
  | .hbm, ⟨24, _⟩ => ⟨S2048x514, .f32⟩
  | .hbm, ⟨25, _⟩ => ⟨S_, .f32⟩
  | .hbm, ⟨26, _⟩ => ⟨S2048x514, .f32⟩
  | .hbm, ⟨27, _⟩ => ⟨S2048x514, .f32⟩
  | .hbm, ⟨28, _⟩ => ⟨S2048x514, .f32⟩
  | .hbm, ⟨29, _⟩ => ⟨S_, .f32⟩
  | .hbm, ⟨30, _⟩ => ⟨S2048x514, .f32⟩
  | .hbm, ⟨31, _⟩ => ⟨S2048x514, .f32⟩
  | .hbm, ⟨32, _⟩ => ⟨S2048x514, .f32⟩
  | .hbm, ⟨33, _⟩ => ⟨S_, .f32⟩
  | .hbm, ⟨34, _⟩ => ⟨S2048x514, .f32⟩
  | .hbm, ⟨35, _⟩ => ⟨S2048x514, .f32⟩
  | .hbm, ⟨36, _⟩ => ⟨S2048x514, .f32⟩
  | .hbm, ⟨37, _⟩ => ⟨S_, .f32⟩
  | .hbm, ⟨38, _⟩ => ⟨S2048x514, .f32⟩
  | .hbm, ⟨39, _⟩ => ⟨S2048x514, .f32⟩
  | _, _ => ⟨S8x2048x514, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFoxOut.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamFoxOutIdeal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "debias_m" => some (((5463681 / 8388608)⁻¹ : ℝ) : EReal)
  | "debias_v" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdamFoxOutIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S8x8x512 : Shape := ⟨3, ![8, 8, 512]⟩
abbrev S8x512 : Shape := ⟨2, ![8, 512]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S8x512, .f32⟩
  | .local _ .vmem, ⟨0, _⟩ => ⟨S8x8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | _, _ => ⟨S8x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
abbrev S8x8x512 : Shape := ⟨3, ![8, 8, 512]⟩
abbrev S8x512 : Shape := ⟨2, ![8, 512]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S8x512, .f32⟩
  | .local _ .vmem, ⟨0, _⟩ => ⟨S8x8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | _, _ => ⟨S8x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "debias_m" => some (((5463681 / 8388608)⁻¹ : ℝ) : EReal)
  | "debias_v" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdamConvIdeal.lean ====
abbrev S8x8x512 : Shape := ⟨3, ![8, 8, 512]⟩
abbrev S8x512 : Shape := ⟨2, ![8, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S_, .f32⟩
  | .hbm, ⟨10, _⟩ => ⟨S8x512, .f32⟩
  | .hbm, ⟨11, _⟩ => ⟨S8x512, .f32⟩
  | .hbm, ⟨12, _⟩ => ⟨S8x512, .f32⟩
  | .hbm, ⟨13, _⟩ => ⟨S_, .f32⟩
  | .hbm, ⟨14, _⟩ => ⟨S8x512, .f32⟩
  | .hbm, ⟨15, _⟩ => ⟨S8x512, .f32⟩
  | .hbm, ⟨16, _⟩ => ⟨S8x512, .f32⟩
  | .hbm, ⟨17, _⟩ => ⟨S_, .f32⟩
  | .hbm, ⟨18, _⟩ => ⟨S8x512, .f32⟩
  | .hbm, ⟨19, _⟩ => ⟨S8x512, .f32⟩
  | .hbm, ⟨20, _⟩ => ⟨S8x512, .f32⟩
  | .hbm, ⟨21, _⟩ => ⟨S_, .f32⟩
  | .hbm, ⟨22, _⟩ => ⟨S8x512, .f32⟩
  | .hbm, ⟨23, _⟩ => ⟨S8x512, .f32⟩
  | .hbm, ⟨24, _⟩ => ⟨S_, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S_, .f32⟩
  | .hbm, ⟨29, _⟩ => ⟨S8x512, .f32⟩
  | .hbm, ⟨30, _⟩ => ⟨S8x512, .f32⟩
  | .hbm, ⟨31, _⟩ => ⟨S8x512, .f32⟩
  | .hbm, ⟨32, _⟩ => ⟨S_, .f32⟩
  | .hbm, ⟨33, _⟩ => ⟨S8x512, .f32⟩
  | .hbm, ⟨34, _⟩ => ⟨S8x512, .f32⟩
  | .hbm, ⟨35, _⟩ => ⟨S8x512, .f32⟩
  | .hbm, ⟨36, _⟩ => ⟨S_, .f32⟩
  | .hbm, ⟨37, _⟩ => ⟨S8x512, .f32⟩
  | .hbm, ⟨38, _⟩ => ⟨S8x512, .f32⟩
  | _, _ => ⟨S8x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S8x144x128 : Shape := ⟨3, ![8, 144, 128]⟩
abbrev S144x128 : Shape := ⟨2, ![144, 128]⟩
abbrev S1x144x128 : Shape := ⟨3, ![1, 144, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S144x128, .f32⟩
  | .hbm, ⟨5, _⟩ => ⟨S144x128, .f32⟩
  | .hbm, ⟨6, _⟩ => ⟨S144x128, .f32⟩
  | .hbm, ⟨7, _⟩ => ⟨S144x128, .f32⟩
  | .local _ .vmem, ⟨0, _⟩ => ⟨S8x144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | .local _ .vmem, ⟨7, _⟩ => ⟨S144x128, .f32⟩
  | _, _ => ⟨S8x144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
variable {F : FTy → Type} [FloatOps F] [Named F]
def κ : String → Option EReal := fun
  | "debias_m" => some (((5463681 / 8388608)⁻¹ : ℝ) : EReal)
  | "debias_v" => some (((2672307 / 268435456)⁻¹ : ℝ) : EReal)
  | _ => none
-- ==== RefAdamSmallIdeal.lean ====
abbrev S8x144x128 : Shape := ⟨3, ![8, 144, 128]⟩
abbrev S144x128 : Shape := ⟨2, ![144, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S_, .f32⟩
  | .hbm, ⟨5, _⟩ => ⟨S144x128, .f32⟩
  | .hbm, ⟨6, _⟩ => ⟨S_, .f32⟩
  | .hbm, ⟨7, _⟩ => ⟨S144x128, .f32⟩
  | .hbm, ⟨8, _⟩ => ⟨S144x128, .f32⟩
  | .hbm, ⟨9, _⟩ => ⟨S_, .f32⟩
  | .hbm, ⟨10, _⟩ => ⟨S144x128, .f32⟩
  | .hbm, ⟨11, _⟩ => ⟨S144x128, .f32⟩
  | .hbm, ⟨12, _⟩ => ⟨S144x128, .f32⟩
  | .hbm, ⟨13, _⟩ => ⟨S_, .f32⟩
  | .hbm, ⟨14, _⟩ => ⟨S144x128, .f32⟩
  | .hbm, ⟨15, _⟩ => ⟨S144x128, .f32⟩
  | .hbm, ⟨16, _⟩ => ⟨S144x128, .f32⟩
  | .hbm, ⟨17, _⟩ => ⟨S_, .f32⟩
  | .hbm, ⟨18, _⟩ => ⟨S144x128, .f32⟩
  | .hbm, ⟨19, _⟩ => ⟨S144x128, .f32⟩
  | .hbm, ⟨20, _⟩ => ⟨S144x128, .f32⟩
  | .hbm, ⟨21, _⟩ => ⟨S_, .f32⟩
  | .hbm, ⟨22, _⟩ => ⟨S144x128, .f32⟩
  | .hbm, ⟨23, _⟩ => ⟨S144x128, .f32⟩
  | .hbm, ⟨24, _⟩ => ⟨S_, .f32⟩
  | .hbm, ⟨25, _⟩ => ⟨S144x128, .f32⟩
  | .hbm, ⟨26, _⟩ => ⟨S144x128, .f32⟩
  | .hbm, ⟨27, _⟩ => ⟨S144x128, .f32⟩
  | .hbm, ⟨28, _⟩ => ⟨S_, .f32⟩
  | .hbm, ⟨29, _⟩ => ⟨S144x128, .f32⟩
  | .hbm, ⟨30, _⟩ => ⟨S144x128, .f32⟩
  | .hbm, ⟨31, _⟩ => ⟨S144x128, .f32⟩
  | .hbm, ⟨32, _⟩ => ⟨S_, .f32⟩
  | .hbm, ⟨33, _⟩ => ⟨S144x128, .f32⟩
  | .hbm, ⟨34, _⟩ => ⟨S144x128, .f32⟩
  | .hbm, ⟨35, _⟩ => ⟨S144x128, .f32⟩
  | .hbm, ⟨36, _⟩ => ⟨S_, .f32⟩
  | .hbm, ⟨37, _⟩ => ⟨S144x128, .f32⟩
  | .hbm, ⟨38, _⟩ => ⟨S144x128, .f32⟩
  | _, _ => ⟨S8x144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAda.lean ====
abbrev S1x4096x384 : Shape := ⟨3, ![1, 4096, 384]⟩
abbrev S4096x384 : Shape := ⟨2, ![4096, 384]⟩
abbrev S1x512x384 : Shape := ⟨3, ![1, 512, 384]⟩
abbrev S512x384 : Shape := ⟨2, ![512, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .local _ .vmem, ⟨0, _⟩ => ⟨S1x512x384, .f32⟩
  | .local _ .vmem, ⟨1, _⟩ => ⟨S1x512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S1x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
variable {F : FTy → Type} [FloatOps F] [Named F]
def κ : String → Option EReal := fun
  | "debias_m" => some (((5463681 / 8388608)⁻¹ : ℝ) : EReal)
  | "debias_v" => some (((2672307 / 268435456)⁻¹ : ℝ) : EReal)
  | _ => none
-- ==== RefAdamAdaIdeal.lean ====
abbrev S1x4096x384 : Shape := ⟨3, ![1, 4096, 384]⟩
abbrev S4096x384 : Shape := ⟨2, ![4096, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S_, .f32⟩
  | .hbm, ⟨5, _⟩ => ⟨S4096x384, .f32⟩
  | .hbm, ⟨6, _⟩ => ⟨S_, .f32⟩
  | .hbm, ⟨7, _⟩ => ⟨S4096x384, .f32⟩
  | .hbm, ⟨8, _⟩ => ⟨S4096x384, .f32⟩
  | .hbm, ⟨9, _⟩ => ⟨S_, .f32⟩
  | .hbm, ⟨10, _⟩ => ⟨S4096x384, .f32⟩
  | .hbm, ⟨11, _⟩ => ⟨S4096x384, .f32⟩
  | .hbm, ⟨12, _⟩ => ⟨S4096x384, .f32⟩
  | .hbm, ⟨13, _⟩ => ⟨S_, .f32⟩
  | .hbm, ⟨14, _⟩ => ⟨S4096x384, .f32⟩
  | .hbm, ⟨15, _⟩ => ⟨S4096x384, .f32⟩
  | .hbm, ⟨16, _⟩ => ⟨S4096x384, .f32⟩
  | .hbm, ⟨17, _⟩ => ⟨S_, .f32⟩
  | .hbm, ⟨18, _⟩ => ⟨S4096x384, .f32⟩
  | .hbm, ⟨19, _⟩ => ⟨S4096x384, .f32⟩
  | .hbm, ⟨20, _⟩ => ⟨S4096x384, .f32⟩
  | .hbm, ⟨21, _⟩ => ⟨S_, .f32⟩
  | .hbm, ⟨22, _⟩ => ⟨S4096x384, .f32⟩
  | .hbm, ⟨23, _⟩ => ⟨S4096x384, .f32⟩
  | .hbm, ⟨24, _⟩ => ⟨S_, .f32⟩
  | .hbm, ⟨25, _⟩ => ⟨S4096x384, .f32⟩
  | .hbm, ⟨26, _⟩ => ⟨S4096x384, .f32⟩
  | .hbm, ⟨27, _⟩ => ⟨S4096x384, .f32⟩
  | .hbm, ⟨28, _⟩ => ⟨S_, .f32⟩
  | .hbm, ⟨29, _⟩ => ⟨S4096x384, .f32⟩
  | .hbm, ⟨30, _⟩ => ⟨S4096x384, .f32⟩
  | .hbm, ⟨31, _⟩ => ⟨S4096x384, .f32⟩
  | .hbm, ⟨32, _⟩ => ⟨S_, .f32⟩
  | .hbm, ⟨33, _⟩ => ⟨S4096x384, .f32⟩
  | .hbm, ⟨34, _⟩ => ⟨S4096x384, .f32⟩
  | .hbm, ⟨35, _⟩ => ⟨S4096x384, .f32⟩
  | .hbm, ⟨36, _⟩ => ⟨S_, .f32⟩
  | .hbm, ⟨37, _⟩ => ⟨S4096x384, .f32⟩
  | .hbm, ⟨38, _⟩ => ⟨S4096x384, .f32⟩
  | _, _ => ⟨S1x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Bwd1.lean ====
/- The backward attention call, one grid point: what one pass of its loop over query tiles leaves in the three
   gradient buffers, as plain functions of what those buffers and the inputs held before. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.ValueIdx
public import Idealize.ShloMosaic.Lib.LoopRemainder

@[expose] public section

set_option maxRecDepth 8192

noncomputable section

namespace Cert.KernelIdeal.Bwd

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F] [Named F]

local notation "𝕄" => MT nD τ sig Unit (Elt F) ℕ (UR sig nD τ) ℕ

/-- The three gradient buffers of a grid point: `dq` whole, `dk` and `dv` by head (the left and the right half of a
    block's lanes). -/
structure St (F : FTy → Type) where
  dq : Vec F S4096x256 .f32
  dk0 : Vec F S512x128 .f32
  dk1 : Vec F S512x128 .f32
  dv0 : Vec F S512x128 .f32
  dv1 : Vec F S512x128 .f32

/-- The left half of a block. -/
abbrev lft {e : EltTy} (x : Vec F S512x256 e) : Vec F S512x128 e := window x ![0, 0] S512x128.size inb_S512x256_S512x128_0_0
/-- The right half of a block. -/
abbrev rgt {e : EltTy} (x : Vec F S512x256 e) : Vec F S512x128 e := window x ![0, 128] S512x128.size inb_S512x256_S512x128_0_128

/-- A load at a rectangle is a window of what the view reads. -/
theorem readAt_window {sp : Space} {S : Shape} {e : EltTy} (v : View sig .tc sp S e) (f : v.ty.Contents (Elt F)) {off size : Fin S.rank → ℕ}
    (inb : ∀ a, off a + size a ≤ S.size a) :
    v.readAt (Elt F) (Rect.unit off size inb).toLoadRect f = window (v.read (Elt F) f) off size inb := rfl

/-- After a store to the left half and then one to the right half, whatever was stored before, the left half is what was stored there. -/
theorem lft_read_two {sp : Space} {e : EltTy} (v : View sig .tc sp S512x256 e) (f : v.ty.Contents (Elt F)) (a b : Vec F S512x128 e) (L : List (View.Piece (Elt F) S512x256 e)) :
    lft (v.read (Elt F) (v.writes (Elt F) f (⟨Rect.unit ![0, 128] S512x128.size inb_S512x256_S512x128_0_128, b⟩ :: ⟨Rect.unit ![0, 0] S512x128.size inb_S512x256_S512x128_0_0, a⟩ :: L))) = a := by
  rw [View.read_writes_cons_put v f _ _ _ rfl, View.read_writes_cons_put v f _ _ _ rfl, lft, window_put_of_disjoint _ _ _ _ _ _ _ (1 : Fin 2) (by decide), window_put_same]

/-- After a store to the left half and then one to the right half, whatever was stored before, the right half is what was stored there. -/
theorem rgt_read_two {sp : Space} {e : EltTy} (v : View sig .tc sp S512x256 e) (f : v.ty.Contents (Elt F)) (a b : Vec F S512x128 e) (L : List (View.Piece (Elt F) S512x256 e)) :
    rgt (v.read (Elt F) (v.writes (Elt F) f (⟨Rect.unit ![0, 128] S512x128.size inb_S512x256_S512x128_0_128, b⟩ :: ⟨Rect.unit ![0, 0] S512x128.size inb_S512x256_S512x128_0_0, a⟩ :: L))) = b := by
  rw [View.read_writes_cons_put v f _ _ _ rfl, rgt, window_put_same]

/-- The left half of a block stored whole is the left half of what was stored. -/
theorem readCov_lft {sp : Space} {e : EltTy} (v : View sig .tc sp S512x256 e) (w : Vec F S512x256 e) (L : List (View.Piece (Elt F) S512x256 e)) :
    v.readCov (⟨Rect.unit ![0, 0] S512x256.size inb_S512x256_S512x256_0_0, w⟩ :: L) (Rect.unit (s := S512x256) ![0, 0] S512x128.size inb_S512x256_S512x128_0_0).toLoadRect = lft w := by
  rw [View.readCov, readAt_window, View.read_writes_full]

/-- The right half of a block stored whole, its left half stored over since, is the right half of what was stored first. -/
theorem readCov_rgt {sp : Space} {e : EltTy} (v : View sig .tc sp S512x256 e) (w : Vec F S512x256 e) (a : Vec F S512x128 e) (L : List (View.Piece (Elt F) S512x256 e)) :
    v.readCov (⟨Rect.unit ![0, 0] S512x128.size inb_S512x256_S512x128_0_0, a⟩ :: ⟨Rect.unit ![0, 0] S512x256.size inb_S512x256_S512x256_0_0, w⟩ :: L)
      (Rect.unit (s := S512x256) ![0, 128] S512x128.size inb_S512x256_S512x128_0_128).toLoadRect = rgt w := by
  rw [View.readCov, readAt_window, View.read_writes_cons_put v _ _ _ _ rfl, View.read_writes_full, window_put_of_disjoint _ _ _ _ _ _ _ (1 : Fin 2) (by decide)]

/-- A block from its two halves. -/
def both {e : EltTy} (a b : Vec F S512x128 e) : Vec F S512x256 e := fun y =>
  if h : (y 1).val < 128 then a (ix2 (n0 := 512) (n1 := 128) ⟨(y 0).val, idx2_lt0 y⟩ ⟨(y 1).val, h⟩) else b (ix2 (n0 := 512) (n1 := 128) ⟨(y 0).val, idx2_lt0 y⟩ ⟨(y 1).val - 128, by have := idx2_lt1 y; omega⟩)

/-- A block is its two halves. -/
theorem both_lft_rgt {e : EltTy} (x : Vec F S512x256 e) : both (lft x) (rgt x) = x := by
  funext y
  unfold both
  split
  · refine congrArg x (funext fun a => Fin.ext ?_)
    match a with
    | ⟨0, _⟩ => show 0 + 1 * (y 0).val = (y 0).val; omega
    | ⟨1, _⟩ => show 0 + 1 * (y 1).val = (y 1).val; omega
  · refine congrArg x (funext fun a => Fin.ext ?_)
    match a with
    | ⟨0, _⟩ => show 0 + 1 * (y 0).val = (y 0).val; omega
    | ⟨1, _⟩ => show 128 + 1 * ((y 1).val - 128) = (y 1).val; omega

/-- One pass of the loop over query tiles: tile `k` after the diagonal one. -/
def pass (i : grid1.Coords) (v8 v10 v12 v14 : FVec F S512x128 .bf16) (xq xdo : Vec F S4096x256 .bf16) (xo : Vec F S4096x256 .f32)
    (k : Fin (k1_t1_loop i).trips) (s : St F) : St F where
  dq := put (put s.dq (k1_off5 i k) S512x128.size
      (k1_pay8 (k1_pay30 v8 v12 (window xq (k1_off5 i k) S512x128.size (k1_off5_inb i k)) (window xdo (k1_off5 i k) S512x128.size (k1_off5_inb i k)) (window xo (k1_off7 i k) S512x1.size (k1_off7_inb i k)))
        (window s.dq (k1_off5 i k) S512x128.size (k1_off5_inb i k))))
    (k1_off6 i k) S512x128.size
      (k1_pay11 (k1_pay31 v10 v14 (window xq (k1_off6 i k) S512x128.size (k1_off6_inb i k)) (window xdo (k1_off6 i k) S512x128.size (k1_off6_inb i k)) (window xo (k1_off8 i k) S512x1.size (k1_off8_inb i k)))
        (window s.dq (k1_off6 i k) S512x128.size (k1_off6_inb i k)))
  dk0 := k1_pay7 (k1_pay28 v8 v12 (window xq (k1_off5 i k) S512x128.size (k1_off5_inb i k)) (window xdo (k1_off5 i k) S512x128.size (k1_off5_inb i k)) (window xo (k1_off7 i k) S512x1.size (k1_off7_inb i k))) s.dk0
  dk1 := k1_pay10 (k1_pay29 v10 v14 (window xq (k1_off6 i k) S512x128.size (k1_off6_inb i k)) (window xdo (k1_off6 i k) S512x128.size (k1_off6_inb i k)) (window xo (k1_off8 i k) S512x1.size (k1_off8_inb i k))) s.dk1
  dv0 := k1_pay6 (k1_pay24 v8 (window xq (k1_off5 i k) S512x128.size (k1_off5_inb i k)) (window xdo (k1_off5 i k) S512x128.size (k1_off5_inb i k)) (window xo (k1_off7 i k) S512x1.size (k1_off7_inb i k))) s.dv0
  dv1 := k1_pay9 (k1_pay25 v10 (window xq (k1_off6 i k) S512x128.size (k1_off6_inb i k)) (window xdo (k1_off6 i k) S512x128.size (k1_off6_inb i k)) (window xo (k1_off8 i k) S512x1.size (k1_off8_inb i k))) s.dv1

/-- The buffers before pass `k` (after the last pass, as that pass left them). -/
def passes (i : grid1.Coords) (v8 v10 v12 v14 : FVec F S512x128 .bf16) (xq xdo : Vec F S4096x256 .bf16) (xo : Vec F S4096x256 .f32) (s : St F) : ℕ → St F
  | 0 => s
  | k + 1 => if h : k < (k1_t1_loop i).trips then pass i v8 v10 v12 v14 xq xdo xo ⟨k, h⟩ (passes i v8 v10 v12 v14 xq xdo xo s k) else passes i v8 v10 v12 v14 xq xdo xo s k

theorem passes_succ (i : grid1.Coords) (v8 v10 v12 v14 : FVec F S512x128 .bf16) (xq xdo : Vec F S4096x256 .bf16) (xo : Vec F S4096x256 .f32) (s : St F)
    (k : Fin (k1_t1_loop i).trips) :
    passes i v8 v10 v12 v14 xq xdo xo s (k.val + 1) = pass i v8 v10 v12 v14 xq xdo xo k (passes i v8 v10 v12 v14 xq xdo xo s k.val) :=
  dif_pos k.isLt

/-- Before pass `k` of the loop over query tiles: inputs as they were, the gradient buffers at `passes`. -/
def inv (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S512x256 .f32) (harg8 : arg8.IsWhole) (arg9 : Memref sig .tc .vmem S512x256 .f32) (harg9 : arg9.IsWhole)
    (v8 v10 v12 v14 : FVec F S512x128 .bf16) (xq xdo : Vec F S4096x256 .bf16) (xo : Vec F S4096x256 .f32) (s : St F) (k : ℕ) (_ : Unit) : sProp 𝕄 :=
  iprop((arg4.view.loc (c : Thread nD τ) ↦[arg4.view.set]{fullShare} harg4.unread xq) ∗ (arg5.view.loc (c : Thread nD τ) ↦[arg5.view.set]{fullShare} harg5.unread xdo) ∗ (arg6.view.loc (c : Thread nD τ) ↦[arg6.view.set]{fullShare} harg6.unread xo)
    ∗ (∃ f, (arg7.view.loc (c : Thread nD τ) ↦[arg7.view.set]{fullShare} f) ∗ ⌜arg7.view.read (Elt F) f = (passes i v8 v10 v12 v14 xq xdo xo s k).dq⌝)
    ∗ (∃ f, (arg8.view.loc (c : Thread nD τ) ↦[arg8.view.set]{fullShare} f) ∗ ⌜lft (arg8.view.read (Elt F) f) = (passes i v8 v10 v12 v14 xq xdo xo s k).dk0 ∧ rgt (arg8.view.read (Elt F) f) = (passes i v8 v10 v12 v14 xq xdo xo s k).dk1⌝)
    ∗ (∃ f, (arg9.view.loc (c : Thread nD τ) ↦[arg9.view.set]{fullShare} f) ∗ ⌜lft (arg9.view.read (Elt F) f) = (passes i v8 v10 v12 v14 xq xdo xo s k).dv0 ∧ rgt (arg9.view.read (Elt F) f) = (passes i v8 v10 v12 v14 xq xdo xo s k).dv1⌝))

set_option maxHeartbeats 2000000 in
/-- One pass keeps it. -/
theorem inv_step (𝒱 : Variants) (c : Dev nD) (bd : Option 𝒱.V) (E : Set ℕ) (i : grid1.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S512x256 .f32) (harg8 : arg8.IsWhole) (arg9 : Memref sig .tc .vmem S512x256 .f32) (harg9 : arg9.IsWhole)
    (v8 v10 v12 v14 : FVec F S512x128 .bf16) (v95 : BitVec 32) (xq xdo : Vec F S4096x256 .bf16) (xo : Vec F S4096x256 .f32) (s : St F)
    (k : Fin (k1_t1_loop i).trips) (acc : Unit) :
    inv c i arg2 harg2 arg3 harg3 arg4 harg4 arg5 harg5 arg6 harg6 arg7 harg7 arg8 harg8 arg9 harg9 v8 v10 v12 v14 xq xdo xo s k.val acc
      ⊢ wp Idealize.ShloMosaic.frame (wpE (defs₀ (F := F)) 𝒱 (c : Thread nD τ) bd) E (k1_t1_body (F := F) i arg2 harg2 arg3 harg3 arg4 harg4 arg5 harg5 arg6 harg6 arg7 harg7 arg8 harg8 arg9 harg9 v8 v10 v12 v14 v95 k acc)
          (inv c i arg2 harg2 arg3 harg3 arg4 harg4 arg5 harg5 arg6 harg6 arg7 harg7 arg8 harg8 arg9 harg9 v8 v10 v12 v14 xq xdo xo s (k.val + 1)) := by
  unfold inv
  rw [passes_succ]
  generalize passes i v8 v10 v12 v14 xq xdo xo s k.val = s'
  unfold k1_t1_body
  iintro ⟨H4, H5, H6, ⟨%f7, H7, %h7⟩, ⟨%f8, H8, %h8⟩, ⟨%f9, H9, %h9⟩⟩
  sl_exec
  sl_step
  isplitl [H4]; · iexact H4
  isplitl [H5]; · iexact H5
  isplitl [H6]; · iexact H6
  isplitl [H7]
  · iexists _; isplitl [H7]; · iexact H7
    ipureintro
    dsimp only [pass]
    rw [← h7, View.read_writes_cons_put arg7.view f7 _ _ _ rfl, View.read_writes_cons_put arg7.view f7 _ _ _ rfl, View.writes_nil]
    sl_unfold_run_names
    simp only [readAt_window, Memref.IsWhole.read_unread]
    rfl
  isplitl [H8]
  · iexists _; isplitl [H8]; · iexact H8
    ipureintro
    refine ⟨?_, ?_⟩
    · dsimp only [pass]
      rw [← h8.1, lft_read_two]
      sl_unfold_run_names
      simp only [readAt_window, Memref.IsWhole.read_unread]
      rfl
    · dsimp only [pass]
      rw [← h8.2, rgt_read_two]
      sl_unfold_run_names
      simp only [readAt_window, Memref.IsWhole.read_unread]
      rfl
  iexists _; isplitl [H9]; · iexact H9
  ipureintro
  refine ⟨?_, ?_⟩
  · dsimp only [pass]
    rw [← h9.1, lft_read_two]
    sl_unfold_run_names
    simp only [readAt_window, Memref.IsWhole.read_unread]
    rfl
  · dsimp only [pass]
    rw [← h9.2, rgt_read_two]
    sl_unfold_run_names
    simp only [readAt_window, Memref.IsWhole.read_unread]
    rfl

end Cert.KernelIdeal.Bwd
end
-- ==== Proof.BwdBody.lean ====
/- The backward attention call, one grid point: what its body leaves in the three gradient buffers. -/
module

public import proofs.«01_k».proof.Proof.Bwd1

@[expose] public section

set_option maxRecDepth 8192

noncomputable section

namespace Cert.KernelIdeal.Bwd

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F] [Named F]

local notation "𝕄" => MT nD τ sig Unit (Elt F) ℕ (UR sig nD τ) ℕ

/-- A store puts its payload over what was there. -/
theorem read_writes_put {sp : Space} {S : Shape} {e : EltTy} (v : View sig .tc sp S e) (f : v.ty.Contents (Elt F)) {off size : Fin S.rank → ℕ}
    (inb : ∀ a, off a + size a ≤ S.size a) (w : (Rect.unit off size inb).shape.Idx → Elt F e) (L : List (View.Piece (Elt F) S e)) :
    v.read (Elt F) (v.writes (Elt F) f (⟨Rect.unit off size inb, w⟩ :: L)) = put (v.read (Elt F) (v.writes (Elt F) f L)) off size w :=
  View.read_writes_cons_put v f inb w L rfl

/-- The diagonal tile of the second head is not touched by a store to that of the first. -/
theorem window_put_off (i : grid1.Coords) (x : Vec F S4096x256 .f32) (w : Vec F S512x128 .f32) :
    window (put x (k1_off1 i) S512x128.size w) (k1_off2 i) S512x128.size (k1_off2_inb i) = window x (k1_off2 i) S512x128.size (k1_off2_inb i) :=
  window_put_of_disjoint _ _ _ _ _ _ _ (1 : Fin 2) (Or.inr (show 0 + 128 ≤ 128 by decide))

/-- A store of the whole buffer replaces it. -/
theorem put_full (x w : Vec F S4096x256 .f32) : put x ![0, 0] S4096x256.size w = w := by
  funext y
  have h : ∀ a, ![0, 0] a ≤ (y a).val ∧ (y a).val < ![0, 0] a + S4096x256.size a := fun a => by
    match a with
    | ⟨0, _⟩ => exact ⟨Nat.zero_le _, by have := idx2_lt0 y; show (y 0).val < 0 + 4096; omega⟩
    | ⟨1, _⟩ => exact ⟨Nat.zero_le _, by have := idx2_lt1 y; show (y 1).val < 0 + 256; omega⟩
  rw [put, dif_pos h]
  refine congrArg w (funext fun a => Fin.ext ?_)
  match a with
  | ⟨0, _⟩ => exact Nat.sub_zero _
  | ⟨1, _⟩ => exact Nat.sub_zero _

/-- Whether a grid point is the first of its pair of heads: the one that clears the buffer of `dq`. -/
abbrev isFirst (i : grid1.Coords) : Prop := (Scalar.cmpi .ne (Scalar.extui (Scalar.cmpi .eq (BitVec.ofNat 32 (i 1).val) 0#32)) 0#32) = 1#1

/-- What the diagonal tile leaves in the three buffers, `dq` before it at the given contents and `dk`, `dv` at zero. -/
def diag (i : grid1.Coords) (xk xv : Vec F S512x256 .bf16) (xq xdo : Vec F S4096x256 .bf16) (xo dq : Vec F S4096x256 .f32) : St F where
  dq := put (put dq (k1_off1 i) S512x128.size
      (k1_pay2 (k1_pay65 (k1_pay49 (lft xk)) (k1_pay51 (lft xv)) (k1_pay55 (window xdo (k1_off1 i) S512x128.size (k1_off1_inb i))) (k1_pay57 (lft xk) (window xq (k1_off1 i) S512x128.size (k1_off1_inb i))) (window xo (k1_off3 i) S512x1.size (k1_off3_inb i))) (window dq (k1_off1 i) S512x128.size (k1_off1_inb i))))
    (k1_off2 i) S512x128.size
      (k1_pay5 (k1_pay66 (k1_pay50 (rgt xk)) (k1_pay52 (rgt xv)) (k1_pay54 (window xq (k1_off2 i) S512x128.size (k1_off2_inb i))) (k1_pay56 (window xdo (k1_off2 i) S512x128.size (k1_off2_inb i))) (window xo (k1_off4 i) S512x1.size (k1_off4_inb i))) (window dq (k1_off2 i) S512x128.size (k1_off2_inb i)))
  dk0 := k1_pay1 (k1_pay63 (k1_pay51 (lft xv)) (k1_pay53 (window xq (k1_off1 i) S512x128.size (k1_off1_inb i))) (k1_pay55 (window xdo (k1_off1 i) S512x128.size (k1_off1_inb i))) (k1_pay57 (lft xk) (window xq (k1_off1 i) S512x128.size (k1_off1_inb i))) (window xo (k1_off3 i) S512x1.size (k1_off3_inb i))) (k1_pay68 (lft k1_pay47))
  dk1 := k1_pay4 (k1_pay64 (k1_pay50 (rgt xk)) (k1_pay52 (rgt xv)) (k1_pay54 (window xq (k1_off2 i) S512x128.size (k1_off2_inb i))) (k1_pay56 (window xdo (k1_off2 i) S512x128.size (k1_off2_inb i))) (window xo (k1_off4 i) S512x1.size (k1_off4_inb i))) (rgt k1_pay47)
  dv0 := k1_pay67 (k1_pay55 (window xdo (k1_off1 i) S512x128.size (k1_off1_inb i))) (k1_pay57 (lft xk) (window xq (k1_off1 i) S512x128.size (k1_off1_inb i))) (window xo (k1_off3 i) S512x1.size (k1_off3_inb i)) (lft k1_pay48)
  dv1 := k1_pay3 (k1_pay60 (k1_pay50 (rgt xk)) (k1_pay54 (window xq (k1_off2 i) S512x128.size (k1_off2_inb i))) (k1_pay56 (window xdo (k1_off2 i) S512x128.size (k1_off2_inb i))) (window xo (k1_off4 i) S512x1.size (k1_off4_inb i))) (rgt k1_pay48)

/-- What a grid point leaves in the three buffers, `dq` before it at the given contents. -/
def point (i : grid1.Coords) (xk xv : Vec F S512x256 .bf16) (xq xdo : Vec F S4096x256 .bf16) (xo dq : Vec F S4096x256 .f32) : St F :=
  passes i (k1_pay49 (lft xk)) (k1_pay50 (rgt xk)) (k1_pay51 (lft xv)) (k1_pay52 (rgt xv)) xq xdo xo (diag i xk xv xq xdo xo dq) (k1_t1_loop i).trips

set_option maxHeartbeats 2000000 in
/-- The body at a grid point that is not the first of its pair of heads. -/
theorem body_rest (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S512x256 .f32) (harg8 : arg8.IsWhole) (arg9 : Memref sig .tc .vmem S512x256 .f32) (harg9 : arg9.IsWhole) (hc : ¬ isFirst i)
    (xk xv : Vec F S512x256 .bf16) (xq xdo : Vec F S4096x256 .bf16) (xo dq : Vec F S4096x256 .f32) (E : Set ℕ) (K : PUnit → sProp 𝕄) :
    iprop(owns (c : Thread nD τ) arg2 fullShare xk ∗ owns (c : Thread nD τ) arg3 fullShare xv ∗ owns (c : Thread nD τ) arg4 fullShare xq ∗ owns (c : Thread nD τ) arg5 fullShare xdo ∗ owns (c : Thread nD τ) arg6 fullShare xo
        ∗ owns (c : Thread nD τ) arg7 fullShare dq ∗ (∃ d, owns (c : Thread nD τ) arg8 fullShare d) ∗ (∃ d, owns (c : Thread nD τ) arg9 fullShare d)
        ∗ (iprop(owns (c : Thread nD τ) arg2 fullShare xk ∗ owns (c : Thread nD τ) arg3 fullShare xv ∗ owns (c : Thread nD τ) arg4 fullShare xq ∗ owns (c : Thread nD τ) arg5 fullShare xdo ∗ owns (c : Thread nD τ) arg6 fullShare xo
          ∗ owns (c : Thread nD τ) arg7 fullShare (point i xk xv xq xdo xo dq).dq ∗ owns (c : Thread nD τ) arg8 fullShare (both (point i xk xv xq xdo xo dq).dk0 (point i xk xv xq xdo xo dq).dk1) ∗ owns (c : Thread nD τ) arg9 fullShare (both (point i xk xv xq xdo xo dq).dv0 (point i xk xv xq xdo xo dq).dv1)) -∗ K ⟨⟩))
      ⊢ wp Idealize.ShloMosaic.frame (wpE (defs₀ (F := F)) Variants.none (c : Thread nD τ) none) E (cc1_fox_attn_bwd i arg2 harg2 arg3 harg3 arg4 harg4 arg5 harg5 arg6 harg6 arg7 harg7 arg8 harg8 arg9 harg9) K := by
  simp only [cc1_fox_attn_bwd_eq_skeleton]; unfold cc1_fox_attn_bwd_skel
  simp only [k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_for (inv c i arg2 harg2 arg3 harg3 arg4 harg4 arg5 harg5 arg6 harg6 arg7 harg7 arg8 harg8 arg9 harg9 (k1_pay49 (lft xk)) (k1_pay50 (rgt xk)) (k1_pay51 (lft xv)) (k1_pay52 (rgt xv)) xq xdo xo (diag i xk xv xq xdo xo dq)) $$ [H2 H3 H4 H5 H6 H7]
  case region =>
    intro k acc
    sl_unfold_run_names
    simp only [readAt_window, Memref.IsWhole.read_unread]
    exact inv_step Variants.none c none E i arg2 harg2 arg3 harg3 arg4 harg4 arg5 harg5 arg6 harg6 arg7 harg7 arg8 harg8 arg9 harg9 _ _ _ _ _ xq xdo xo _ k acc
  · unfold inv
    isplitl [H2]; · iexact H2
    isplitl [H3]; · iexact H3
    isplitl [H4]; · iexact H4
    isplitl [H5]
    · iexists _; isplitl [H5]; · iexact H5
      ipureintro
      rw [passes]; dsimp only [diag]
      sl_unfold_run_names
      rw [View.read_writes_cons_put arg7.view _ _ _ _ rfl, View.read_writes_cons_put arg7.view _ _ _ _ rfl, View.writes_nil]
      simp only [readAt_window, Memref.IsWhole.read_unread]
    isplitl [H6]
    · iexists _; isplitl [H6]; · iexact H6
      ipureintro
      rw [passes]; dsimp only [diag]
      sl_unfold_run_names
      refine ⟨?_, ?_⟩
      · rw [lft_read_two]
        simp only [readAt_window, Memref.IsWhole.read_unread]
        rw [readCov_lft]
      · rw [rgt_read_two]
        simp only [readAt_window, Memref.IsWhole.read_unread]
        rw [readCov_rgt]
    iexists _; isplitl [H7]; · iexact H7
    ipureintro
    rw [passes]; dsimp only [diag]
    sl_unfold_run_names
    refine ⟨?_, ?_⟩
    · rw [lft_read_two]
      simp only [readAt_window, Memref.IsWhole.read_unread]
      rw [readCov_lft]
    · rw [rgt_read_two]
      simp only [readAt_window, Memref.IsWhole.read_unread]
      rw [readCov_rgt]
  unfold inv
  iintro %_ ⟨H2, H3, H4, ⟨%f7, H5, %h5⟩, ⟨%f8, H6, %h6⟩, ⟨%f9, H7, %h7⟩⟩
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact h5
    iexact H5
  isplitl [H6]
  · iexists _; isplitr; · ipureintro; exact (both_lft_rgt _).symm.trans (congrArg₂ both h6.1 h6.2)
    iexact H6
  iexists _; isplitr; · ipureintro; exact (both_lft_rgt _).symm.trans (congrArg₂ both h7.1 h7.2)
  iexact H7

set_option maxHeartbeats 2000000 in
/-- The body at a grid point that is the first of its pair of heads: it clears the buffer of `dq`. -/
theorem body_first (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S512x256 .f32) (harg8 : arg8.IsWhole) (arg9 : Memref sig .tc .vmem S512x256 .f32) (harg9 : arg9.IsWhole) (hc : isFirst i)
    (xk xv : Vec F S512x256 .bf16) (xq xdo : Vec F S4096x256 .bf16) (xo : Vec F S4096x256 .f32) (E : Set ℕ) (K : PUnit → sProp 𝕄) :
    iprop(owns (c : Thread nD τ) arg2 fullShare xk ∗ owns (c : Thread nD τ) arg3 fullShare xv ∗ owns (c : Thread nD τ) arg4 fullShare xq ∗ owns (c : Thread nD τ) arg5 fullShare xdo ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare xk ∗ owns (c : Thread nD τ) arg3 fullShare xv ∗ owns (c : Thread nD τ) arg4 fullShare xq ∗ owns (c : Thread nD τ) arg5 fullShare xdo ∗ owns (c : Thread nD τ) arg6 fullShare xo
          ∗ owns (c : Thread nD τ) arg7 fullShare (point i xk xv xq xdo xo k1_pay46).dq ∗ owns (c : Thread nD τ) arg8 fullShare (both (point i xk xv xq xdo xo k1_pay46).dk0 (point i xk xv xq xdo xo k1_pay46).dk1) ∗ owns (c : Thread nD τ) arg9 fullShare (both (point i xk xv xq xdo xo k1_pay46).dv0 (point i xk xv xq xdo xo k1_pay46).dv1)) -∗ K ⟨⟩))
      ⊢ wp Idealize.ShloMosaic.frame (wpE (defs₀ (F := F)) Variants.none (c : Thread nD τ) none) E (cc1_fox_attn_bwd i arg2 harg2 arg3 harg3 arg4 harg4 arg5 harg5 arg6 harg6 arg7 harg7 arg8 harg8 arg9 harg9) K := by
  simp only [cc1_fox_attn_bwd_eq_skeleton]; unfold cc1_fox_attn_bwd_skel
  simp only [k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_for (inv c i arg2 harg2 arg3 harg3 arg4 harg4 arg5 harg5 arg6 harg6 arg7 harg7 arg8 harg8 arg9 harg9 (k1_pay49 (lft xk)) (k1_pay50 (rgt xk)) (k1_pay51 (lft xv)) (k1_pay52 (rgt xv)) xq xdo xo (diag i xk xv xq xdo xo k1_pay46)) $$ [H2 H3 H4 H5 H6 H7]
  case region =>
    intro k acc
    sl_unfold_run_names
    simp only [readAt_window, Memref.IsWhole.read_unread]
    exact inv_step Variants.none c none E i arg2 harg2 arg3 harg3 arg4 harg4 arg5 harg5 arg6 harg6 arg7 harg7 arg8 harg8 arg9 harg9 _ _ _ _ _ xq xdo xo _ k acc
  · unfold inv
    isplitl [H2]; · iexact H2
    isplitl [H3]; · iexact H3
    isplitl [H4]; · iexact H4
    isplitl [H5]
    · iexists _; isplitl [H5]; · iexact H5
      ipureintro
      rw [passes]; dsimp only [diag]
      sl_unfold_run_names
      simp only [read_writes_put, readAt_window, Memref.IsWhole.read_unread]
      rw [window_put_off, put_full]
    isplitl [H6]
    · iexists _; isplitl [H6]; · iexact H6
      ipureintro
      rw [passes]; dsimp only [diag]
      sl_unfold_run_names
      refine ⟨?_, ?_⟩
      · rw [lft_read_two]
        simp only [readAt_window, Memref.IsWhole.read_unread]
        rw [readCov_lft]
      · rw [rgt_read_two]
        simp only [readAt_window, Memref.IsWhole.read_unread]
        rw [readCov_rgt]
    iexists _; isplitl [H7]; · iexact H7
    ipureintro
    rw [passes]; dsimp only [diag]
    sl_unfold_run_names
    refine ⟨?_, ?_⟩
    · rw [lft_read_two]
      simp only [readAt_window, Memref.IsWhole.read_unread]
      rw [readCov_lft]
    · rw [rgt_read_two]
      simp only [readAt_window, Memref.IsWhole.read_unread]
      rw [readCov_rgt]
  unfold inv
  iintro %_ ⟨H2, H3, H4, ⟨%f7, H5, %h5⟩, ⟨%f8, H6, %h6⟩, ⟨%f9, H7, %h7⟩⟩
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact h5
    iexact H5
  isplitl [H6]
  · iexists _; isplitr; · ipureintro; exact (both_lft_rgt _).symm.trans (congrArg₂ both h6.1 h6.2)
    iexact H6
  iexists _; isplitr; · ipureintro; exact (both_lft_rgt _).symm.trans (congrArg₂ both h7.1 h7.2)
  iexact H7

end Cert.KernelIdeal.Bwd
end
-- ==== Proof.Fwd0.lean ====
/- The forward attention call, one grid point: what its loop over key tiles leaves in the running maxima, the running sums and
   the score buffer of each of its two heads. -/
module

public import proofs.«01_k».proof.Proof.BwdBody

@[expose] public section

set_option maxRecDepth 8192

noncomputable section

namespace Cert.KernelIdeal.Fwd

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx
open Cert.KernelIdeal.Bwd (readAt_window read_writes_put lft rgt both both_lft_rgt lft_read_two rgt_read_two)

variable {F : FTy → Type} [FloatOps F] [Named F]

local notation "𝕄" => MT nD τ sig Unit (Elt F) ℕ (UR sig nD τ) ℕ

/-- A head's three buffers: the running maximum, the running sum and the scores of the next key tile. -/
structure St (F : FTy → Type) where
  m : Vec F S1x512x1 .f32
  a : Vec F S1x512x128 .f32
  s : Vec F S1x512x512 .f32

/-- One pass of the loop over key tiles, of a head: the scores at hand are those of the tile whose values are `v`; those of
    the next tile, of keys `kn`, are put in their place. -/
def step (q : FVec F S512x128 .bf16) (kn v : Vec F S512x128 .bf16) (s : St F) : St F where
  m := k0_pay15 (k0_pay9 s.s s.m)
  a := k0_pay14 (k0_pay7 s.m) (k0_pay9 s.s s.m) (k0_pay12 v) (k0_pay13 s.s s.m) s.a
  s := k0_pay16 (k0_pay5 q kn)

/-- The first head's part of a buffer is not touched by a store to the second's. -/
theorem window0_put1_1 (x : Vec F S2x512x1 .f32) (w : Vec F S1x512x1 .f32) :
    window (put x ![1, 0, 0] S1x512x1.size w) ![0, 0, 0] S1x512x1.size inb_S2x512x1_S1x512x1_0_0_0 = (window x ![0, 0, 0] S1x512x1.size inb_S2x512x1_S1x512x1_0_0_0) :=
  window_put_of_disjoint _ _ _ _ _ _ _ (0 : Fin 3) (by decide)
/-- The second head's part of a buffer is not touched by a store to the first's. -/
theorem window1_put0_1 (x : Vec F S2x512x1 .f32) (w : Vec F S1x512x1 .f32) :
    window (put x ![0, 0, 0] S1x512x1.size w) ![1, 0, 0] S1x512x1.size inb_S2x512x1_S1x512x1_1_0_0 = (window x ![1, 0, 0] S1x512x1.size inb_S2x512x1_S1x512x1_1_0_0) :=
  window_put_of_disjoint _ _ _ _ _ _ _ (0 : Fin 3) (by decide)
/-- After a store to either head's part, the first head's part. -/
theorem read0_two_1 {sp : Space} (v : View sig .tc sp S2x512x1 .f32) (f : v.ty.Contents (Elt F)) (a b : Vec F S1x512x1 .f32) (L : List (View.Piece (Elt F) S2x512x1 .f32)) :
    window (v.read (Elt F) (v.writes (Elt F) f (⟨Rect.unit ![1, 0, 0] S1x512x1.size inb_S2x512x1_S1x512x1_1_0_0, b⟩ :: ⟨Rect.unit ![0, 0, 0] S1x512x1.size inb_S2x512x1_S1x512x1_0_0_0, a⟩ :: L)))
      ![0, 0, 0] S1x512x1.size inb_S2x512x1_S1x512x1_0_0_0 = a := by
  rw [View.read_writes_cons_put v f _ _ _ rfl, View.read_writes_cons_put v f _ _ _ rfl, window0_put1_1, window_put_same]
/-- After a store to either head's part, the second head's part. -/
theorem read1_two_1 {sp : Space} (v : View sig .tc sp S2x512x1 .f32) (f : v.ty.Contents (Elt F)) (b : Vec F S1x512x1 .f32) (L : List (View.Piece (Elt F) S2x512x1 .f32)) :
    window (v.read (Elt F) (v.writes (Elt F) f (⟨Rect.unit ![1, 0, 0] S1x512x1.size inb_S2x512x1_S1x512x1_1_0_0, b⟩ :: L)))
      ![1, 0, 0] S1x512x1.size inb_S2x512x1_S1x512x1_1_0_0 = b := by
  rw [View.read_writes_cons_put v f _ _ _ rfl, window_put_same]

/-- The first head's part of a buffer is not touched by a store to the second's. -/
theorem window0_put1_128 (x : Vec F S2x512x128 .f32) (w : Vec F S1x512x128 .f32) :
    window (put x ![1, 0, 0] S1x512x128.size w) ![0, 0, 0] S1x512x128.size inb_S2x512x128_S1x512x128_0_0_0 = (window x ![0, 0, 0] S1x512x128.size inb_S2x512x128_S1x512x128_0_0_0) :=
  window_put_of_disjoint _ _ _ _ _ _ _ (0 : Fin 3) (by decide)
/-- The second head's part of a buffer is not touched by a store to the first's. -/
theorem window1_put0_128 (x : Vec F S2x512x128 .f32) (w : Vec F S1x512x128 .f32) :
    window (put x ![0, 0, 0] S1x512x128.size w) ![1, 0, 0] S1x512x128.size inb_S2x512x128_S1x512x128_1_0_0 = (window x ![1, 0, 0] S1x512x128.size inb_S2x512x128_S1x512x128_1_0_0) :=
  window_put_of_disjoint _ _ _ _ _ _ _ (0 : Fin 3) (by decide)
/-- After a store to either head's part, the first head's part. -/
theorem read0_two_128 {sp : Space} (v : View sig .tc sp S2x512x128 .f32) (f : v.ty.Contents (Elt F)) (a b : Vec F S1x512x128 .f32) (L : List (View.Piece (Elt F) S2x512x128 .f32)) :
    window (v.read (Elt F) (v.writes (Elt F) f (⟨Rect.unit ![1, 0, 0] S1x512x128.size inb_S2x512x128_S1x512x128_1_0_0, b⟩ :: ⟨Rect.unit ![0, 0, 0] S1x512x128.size inb_S2x512x128_S1x512x128_0_0_0, a⟩ :: L)))
      ![0, 0, 0] S1x512x128.size inb_S2x512x128_S1x512x128_0_0_0 = a := by
  rw [View.read_writes_cons_put v f _ _ _ rfl, View.read_writes_cons_put v f _ _ _ rfl, window0_put1_128, window_put_same]
/-- After a store to either head's part, the second head's part. -/
theorem read1_two_128 {sp : Space} (v : View sig .tc sp S2x512x128 .f32) (f : v.ty.Contents (Elt F)) (b : Vec F S1x512x128 .f32) (L : List (View.Piece (Elt F) S2x512x128 .f32)) :
    window (v.read (Elt F) (v.writes (Elt F) f (⟨Rect.unit ![1, 0, 0] S1x512x128.size inb_S2x512x128_S1x512x128_1_0_0, b⟩ :: L)))
      ![1, 0, 0] S1x512x128.size inb_S2x512x128_S1x512x128_1_0_0 = b := by
  rw [View.read_writes_cons_put v f _ _ _ rfl, window_put_same]

/-- The first head's part of a buffer is not touched by a store to the second's. -/
theorem window0_put1_512 (x : Vec F S2x512x512 .f32) (w : Vec F S1x512x512 .f32) :
    window (put x ![1, 0, 0] S1x512x512.size w) ![0, 0, 0] S1x512x512.size inb_S2x512x512_S1x512x512_0_0_0 = (window x ![0, 0, 0] S1x512x512.size inb_S2x512x512_S1x512x512_0_0_0) :=
  window_put_of_disjoint _ _ _ _ _ _ _ (0 : Fin 3) (by decide)
/-- The second head's part of a buffer is not touched by a store to the first's. -/
theorem window1_put0_512 (x : Vec F S2x512x512 .f32) (w : Vec F S1x512x512 .f32) :
    window (put x ![0, 0, 0] S1x512x512.size w) ![1, 0, 0] S1x512x512.size inb_S2x512x512_S1x512x512_1_0_0 = (window x ![1, 0, 0] S1x512x512.size inb_S2x512x512_S1x512x512_1_0_0) :=
  window_put_of_disjoint _ _ _ _ _ _ _ (0 : Fin 3) (by decide)
/-- After a store to either head's part, the first head's part. -/
theorem read0_two_512 {sp : Space} (v : View sig .tc sp S2x512x512 .f32) (f : v.ty.Contents (Elt F)) (a b : Vec F S1x512x512 .f32) (L : List (View.Piece (Elt F) S2x512x512 .f32)) :
    window (v.read (Elt F) (v.writes (Elt F) f (⟨Rect.unit ![1, 0, 0] S1x512x512.size inb_S2x512x512_S1x512x512_1_0_0, b⟩ :: ⟨Rect.unit ![0, 0, 0] S1x512x512.size inb_S2x512x512_S1x512x512_0_0_0, a⟩ :: L)))
      ![0, 0, 0] S1x512x512.size inb_S2x512x512_S1x512x512_0_0_0 = a := by
  rw [View.read_writes_cons_put v f _ _ _ rfl, View.read_writes_cons_put v f _ _ _ rfl, window0_put1_512, window_put_same]
/-- After a store to either head's part, the second head's part. -/
theorem read1_two_512 {sp : Space} (v : View sig .tc sp S2x512x512 .f32) (f : v.ty.Contents (Elt F)) (b : Vec F S1x512x512 .f32) (L : List (View.Piece (Elt F) S2x512x512 .f32)) :
    window (v.read (Elt F) (v.writes (Elt F) f (⟨Rect.unit ![1, 0, 0] S1x512x512.size inb_S2x512x512_S1x512x512_1_0_0, b⟩ :: L)))
      ![1, 0, 0] S1x512x512.size inb_S2x512x512_S1x512x512_1_0_0 = b := by
  rw [View.read_writes_cons_put v f _ _ _ rfl, window_put_same]

/-- The first head's buffers before pass `k` (after the last pass, as that pass left them). -/
def passes0 (i : grid0.Coords) (v1 : FVec F S512x128 .bf16) (xk xv : Vec F S4096x256 .bf16) (s : St F) : ℕ → St F
  | 0 => s
  | n + 1 => if h : n < (k0_t1_loop i).trips then
      (fun k => step v1 (window xk (k0_off1 i k) S512x128.size (k0_off1_inb i k)) (window xv (k0_off3 i k) S512x128.size (k0_off3_inb i k)) (passes0 i v1 xk xv s n)) (⟨n, h⟩ : Fin (k0_t1_loop i).trips)
    else passes0 i v1 xk xv s n

/-- The second head's. -/
def passes1 (i : grid0.Coords) (v3 : FVec F S512x128 .bf16) (xk xv : Vec F S4096x256 .bf16) (s : St F) : ℕ → St F
  | 0 => s
  | n + 1 => if h : n < (k0_t1_loop i).trips then
      (fun k => step v3 (window xk (k0_off2 i k) S512x128.size (k0_off2_inb i k)) (window xv (k0_off4 i k) S512x128.size (k0_off4_inb i k)) (passes1 i v3 xk xv s n)) (⟨n, h⟩ : Fin (k0_t1_loop i).trips)
    else passes1 i v3 xk xv s n

theorem passes0_succ (i : grid0.Coords) (v1 : FVec F S512x128 .bf16) (xk xv : Vec F S4096x256 .bf16) (s : St F) (k : Fin (k0_t1_loop i).trips) :
    passes0 i v1 xk xv s (k.val + 1) = step v1 (window xk (k0_off1 i k) S512x128.size (k0_off1_inb i k)) (window xv (k0_off3 i k) S512x128.size (k0_off3_inb i k)) (passes0 i v1 xk xv s k.val) := dif_pos k.isLt

theorem passes1_succ (i : grid0.Coords) (v3 : FVec F S512x128 .bf16) (xk xv : Vec F S4096x256 .bf16) (s : St F) (k : Fin (k0_t1_loop i).trips) :
    passes1 i v3 xk xv s (k.val + 1) = step v3 (window xk (k0_off2 i k) S512x128.size (k0_off2_inb i k)) (window xv (k0_off4 i k) S512x128.size (k0_off4_inb i k)) (passes1 i v3 xk xv s k.val) := dif_pos k.isLt

/-- Before pass `k` of the loop over key tiles: inputs as they were, each head's buffers as said above. -/
def inv (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .f32) (harg5 : arg5.IsWhole) (arg6 : Memref sig .tc .vmem S2x512x1 .f32) (harg6 : arg6.IsWhole) (arg7 : Memref sig .tc .vmem S2x512x128 .f32) (harg7 : arg7.IsWhole) (arg8 : Memref sig .tc .vmem S2x512x512 .f32) (harg8 : arg8.IsWhole)
    (v1 v3 : FVec F S512x128 .bf16) (xk xv : Vec F S4096x256 .bf16) (s0 s1 : St F) (k : ℕ) (_ : Unit) : sProp 𝕄 :=
  iprop((arg3.view.loc (c : Thread nD τ) ↦[arg3.view.set]{fullShare} harg3.unread xk) ∗ (arg4.view.loc (c : Thread nD τ) ↦[arg4.view.set]{fullShare} harg4.unread xv)
    ∗ (∃ f, (arg6.view.loc (c : Thread nD τ) ↦[arg6.view.set]{fullShare} f) ∗ ⌜(window (arg6.view.read (Elt F) f) ![0, 0, 0] S1x512x1.size inb_S2x512x1_S1x512x1_0_0_0) = (passes0 i v1 xk xv s0 k).m ∧ (window (arg6.view.read (Elt F) f) ![1, 0, 0] S1x512x1.size inb_S2x512x1_S1x512x1_1_0_0) = (passes1 i v3 xk xv s1 k).m⌝)
    ∗ (∃ f, (arg7.view.loc (c : Thread nD τ) ↦[arg7.view.set]{fullShare} f) ∗ ⌜(window (arg7.view.read (Elt F) f) ![0, 0, 0] S1x512x128.size inb_S2x512x128_S1x512x128_0_0_0) = (passes0 i v1 xk xv s0 k).a ∧ (window (arg7.view.read (Elt F) f) ![1, 0, 0] S1x512x128.size inb_S2x512x128_S1x512x128_1_0_0) = (passes1 i v3 xk xv s1 k).a⌝)
    ∗ (∃ f, (arg8.view.loc (c : Thread nD τ) ↦[arg8.view.set]{fullShare} f) ∗ ⌜(window (arg8.view.read (Elt F) f) ![0, 0, 0] S1x512x512.size inb_S2x512x512_S1x512x512_0_0_0) = (passes0 i v1 xk xv s0 k).s ∧ (window (arg8.view.read (Elt F) f) ![1, 0, 0] S1x512x512.size inb_S2x512x512_S1x512x512_1_0_0) = (passes1 i v3 xk xv s1 k).s⌝))

set_option maxHeartbeats 2000000 in
/-- One pass keeps it. -/
theorem inv_step (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .f32) (harg5 : arg5.IsWhole) (arg6 : Memref sig .tc .vmem S2x512x1 .f32) (harg6 : arg6.IsWhole) (arg7 : Memref sig .tc .vmem S2x512x128 .f32) (harg7 : arg7.IsWhole) (arg8 : Memref sig .tc .vmem S2x512x512 .f32) (harg8 : arg8.IsWhole)
    (arg1 : BitVec 32) (v1 v3 : FVec F S512x128 .bf16) (c0 v27 : BitVec 32) (xk xv : Vec F S4096x256 .bf16) (s0 s1 : St F)
    (k : Fin (k0_t1_loop i).trips) (acc : Unit) :
    inv c i arg2 harg2 arg3 harg3 arg4 harg4 arg5 harg5 arg6 harg6 arg7 harg7 arg8 harg8 v1 v3 xk xv s0 s1 k.val acc
      ⊢ wp Idealize.ShloMosaic.frame (wpE (defs₀ (F := F)) 𝒱 (c : Thread nD τ) bd) E (k0_t1_body (F := F) i arg2 harg2 arg3 harg3 arg4 harg4 arg5 harg5 arg6 harg6 arg7 harg7 arg8 harg8 arg1 v1 v3 c0 v27 k acc)
          (inv c i arg2 harg2 arg3 harg3 arg4 harg4 arg5 harg5 arg6 harg6 arg7 harg7 arg8 harg8 v1 v3 xk xv s0 s1 (k.val + 1)) := by
  unfold inv
  rw [passes0_succ, passes1_succ]
  generalize passes0 i v1 xk xv s0 k.val = t0
  generalize passes1 i v3 xk xv s1 k.val = t1
  unfold k0_t1_body
  iintro ⟨H3, H4, ⟨%f6, H6, %h6⟩, ⟨%f7, H7, %h7⟩, ⟨%f8, H8, %h8⟩⟩
  sl_exec
  sl_step
  isplitl [H3]; · iexact H3
  isplitl [H4]; · iexact H4
  isplitl [H6]
  · iexists _; isplitl [H6]; · iexact H6
    ipureintro
    refine ⟨?_, ?_⟩
    · dsimp only [step]
      rw [← h6.1, ← h8.1, read0_two_1]
      sl_unfold_run_names
      rfl
    · dsimp only [step]
      rw [← h6.2, ← h8.2, read1_two_1]
      sl_unfold_run_names
      rfl
  isplitl [H7]
  · iexists _; isplitl [H7]; · iexact H7
    ipureintro
    refine ⟨?_, ?_⟩
    · dsimp only [step]
      rw [← h6.1, ← h7.1, ← h8.1, read0_two_128]
      sl_unfold_run_names
      simp only [readAt_window, Memref.IsWhole.read_unread]
      rfl
    · dsimp only [step]
      rw [← h6.2, ← h7.2, ← h8.2, read1_two_128]
      sl_unfold_run_names
      simp only [readAt_window, Memref.IsWhole.read_unread]
      rfl
  iexists _; isplitl [H8]; · iexact H8
  ipureintro
  refine ⟨?_, ?_⟩
  · dsimp only [step]
    rw [read0_two_512]
    sl_unfold_run_names
    simp only [readAt_window, Memref.IsWhole.read_unread]
    rfl
  · dsimp only [step]
    rw [read1_two_512]
    sl_unfold_run_names
    simp only [readAt_window, Memref.IsWhole.read_unread]
    rfl

end Cert.KernelIdeal.Fwd
end
-- ==== Proof.FwdBody.lean ====
/- The forward attention call, one grid point: what its body leaves in the output block. -/
module

public import proofs.«01_k».proof.Proof.Fwd0

@[expose] public section

set_option maxRecDepth 8192

noncomputable section

namespace Cert.KernelIdeal.Fwd

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx
open Cert.KernelIdeal.Bwd (readAt_window read_writes_put lft rgt both both_lft_rgt lft_read_two rgt_read_two)

variable {F : FTy → Type} [FloatOps F] [Named F]

local notation "𝕄" => MT nD τ sig Unit (Elt F) ℕ (UR sig nD τ) ℕ

/-- A head's output at a grid point: the diagonal tile with its mask, and the division. -/
def fin (vd : Vec F S512x128 .bf16) (s : St F) : FVec F S512x128 .f32 :=
  k0_pay1 (iota .tc S512x128 32 [1] iota_S512x128_d1_w32) (k0_pay51 (k0_pay45 s.m) (k0_pay47 s.s s.m) (k0_pay49 s.s s.m) vd s.a) (k0_pay52 (k0_pay47 s.s s.m))

/-- The first head's buffers before the loop. -/
def init0 (xq : Vec F S512x256 .bf16) (xk : Vec F S4096x256 .bf16) : St F where
  m := (window k0_pay35 ![0, 0, 0] S1x512x1.size inb_S2x512x1_S1x512x1_0_0_0)
  a := (window k0_pay36 ![0, 0, 0] S1x512x128.size inb_S2x512x128_S1x512x128_0_0_0)
  s := k0_pay37 (lft xq) (window xk ![0, 0] S512x128.size inb_S4096x256_S512x128_0_0)

/-- The second head's. -/
def init1 (xq : Vec F S512x256 .bf16) (xk : Vec F S4096x256 .bf16) : St F where
  m := (window k0_pay35 ![1, 0, 0] S1x512x1.size inb_S2x512x1_S1x512x1_1_0_0)
  a := (window k0_pay36 ![1, 0, 0] S1x512x128.size inb_S2x512x128_S1x512x128_1_0_0)
  s := k0_pay37 (rgt xq) (window xk ![0, 128] S512x128.size inb_S4096x256_S512x128_0_128)

/-- The first head's output at a grid point. -/
def out0 (i : grid0.Coords) (xq : Vec F S512x256 .bf16) (xk xv : Vec F S4096x256 .bf16) : FVec F S512x128 .f32 :=
  fin (window xv (k0_off9 i) S512x128.size (k0_off9_inb i)) (passes0 i (k0_pay33 (lft xq)) xk xv (init0 xq xk) (k0_t1_loop i).trips)

/-- The second head's. -/
def out1 (i : grid0.Coords) (xq : Vec F S512x256 .bf16) (xk xv : Vec F S4096x256 .bf16) : FVec F S512x128 .f32 :=
  fin (window xv (k0_off10 i) S512x128.size (k0_off10_inb i)) (passes1 i (k0_pay34 (rgt xq)) xk xv (init1 xq xk) (k0_t1_loop i).trips)

/-- The first head's part of a buffer both of whose parts were stored. -/
theorem readCov0_1 {sp : Space} (v : View sig .tc sp S2x512x1 .f32) (a b : Vec F S1x512x1 .f32) (L : List (View.Piece (Elt F) S2x512x1 .f32)) :
    v.readCov (⟨Rect.unit ![1, 0, 0] S1x512x1.size inb_S2x512x1_S1x512x1_1_0_0, b⟩ :: ⟨Rect.unit ![0, 0, 0] S1x512x1.size inb_S2x512x1_S1x512x1_0_0_0, a⟩ :: L)
      (Rect.unit (s := S2x512x1) ![0, 0, 0] S1x512x1.size inb_S2x512x1_S1x512x1_0_0_0).toLoadRect = a := by
  rw [View.readCov, readAt_window, read0_two_1]

/-- The second head's. -/
theorem readCov1_1 {sp : Space} (v : View sig .tc sp S2x512x1 .f32) (b : Vec F S1x512x1 .f32) (L : List (View.Piece (Elt F) S2x512x1 .f32)) :
    v.readCov (⟨Rect.unit ![1, 0, 0] S1x512x1.size inb_S2x512x1_S1x512x1_1_0_0, b⟩ :: L)
      (Rect.unit (s := S2x512x1) ![1, 0, 0] S1x512x1.size inb_S2x512x1_S1x512x1_1_0_0).toLoadRect = b := by
  rw [View.readCov, readAt_window, read1_two_1]

/-- The first head's part of a buffer both of whose parts were stored. -/
theorem readCov0_128 {sp : Space} (v : View sig .tc sp S2x512x128 .f32) (a b : Vec F S1x512x128 .f32) (L : List (View.Piece (Elt F) S2x512x128 .f32)) :
    v.readCov (⟨Rect.unit ![1, 0, 0] S1x512x128.size inb_S2x512x128_S1x512x128_1_0_0, b⟩ :: ⟨Rect.unit ![0, 0, 0] S1x512x128.size inb_S2x512x128_S1x512x128_0_0_0, a⟩ :: L)
      (Rect.unit (s := S2x512x128) ![0, 0, 0] S1x512x128.size inb_S2x512x128_S1x512x128_0_0_0).toLoadRect = a := by
  rw [View.readCov, readAt_window, read0_two_128]

/-- The second head's. -/
theorem readCov1_128 {sp : Space} (v : View sig .tc sp S2x512x128 .f32) (b : Vec F S1x512x128 .f32) (L : List (View.Piece (Elt F) S2x512x128 .f32)) :
    v.readCov (⟨Rect.unit ![1, 0, 0] S1x512x128.size inb_S2x512x128_S1x512x128_1_0_0, b⟩ :: L)
      (Rect.unit (s := S2x512x128) ![1, 0, 0] S1x512x128.size inb_S2x512x128_S1x512x128_1_0_0).toLoadRect = b := by
  rw [View.readCov, readAt_window, read1_two_128]

set_option maxHeartbeats 2000000 in
/-- The body at a grid point. -/
theorem body (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .f32) (harg5 : arg5.IsWhole) (arg6 : Memref sig .tc .vmem S2x512x1 .f32) (harg6 : arg6.IsWhole) (arg7 : Memref sig .tc .vmem S2x512x128 .f32) (harg7 : arg7.IsWhole) (arg8 : Memref sig .tc .vmem S2x512x512 .f32) (harg8 : arg8.IsWhole)
    (xq : Vec F S512x256 .bf16) (xk xv : Vec F S4096x256 .bf16) (E : Set ℕ) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xq ∗ owns (c : Thread nD τ) arg3 fullShare xk ∗ owns (c : Thread nD τ) arg4 fullShare xv
          ∗ owns (c : Thread nD τ) arg5 fullShare (both (out0 i xq xk xv) (out1 i xq xk xv)) ∗ (∃ d, owns (c : Thread nD τ) arg6 fullShare d) ∗ (∃ d, owns (c : Thread nD τ) arg7 fullShare d) ∗ (∃ d, owns (c : Thread nD τ) arg8 fullShare d)) -∗ K ⟨⟩))
      ⊢ wp Idealize.ShloMosaic.frame (wpE (defs₀ (F := F)) Variants.none (c : Thread nD τ) none) E (cc0_fox_attn_fwd i arg2 harg2 arg3 harg3 arg4 harg4 arg5 harg5 arg6 harg6 arg7 harg7 arg8 harg8) K := by
  simp only [cc0_fox_attn_fwd_eq_skeleton]; unfold cc0_fox_attn_fwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec
  sl_for (inv c i arg2 harg2 arg3 harg3 arg4 harg4 arg5 harg5 arg6 harg6 arg7 harg7 arg8 harg8 (k0_pay33 (lft xq)) (k0_pay34 (rgt xq)) xk xv (init0 xq xk) (init1 xq xk)) $$ [H1 H2 HS0 HS1 HS2]
  case region =>
    intro k acc
    sl_unfold_run_names
    simp only [readAt_window, Memref.IsWhole.read_unread]
    exact inv_step Variants.none c none E i arg2 harg2 arg3 harg3 arg4 harg4 arg5 harg5 arg6 harg6 arg7 harg7 arg8 harg8 _ _ _ _ _ xk xv _ _ k acc
  · unfold inv
    isplitl [H1]; · iexact H1
    isplitl [H2]; · iexact H2
    isplitl [HS0]
    · iexists _; isplitl [HS0]; · iexact HS0
      ipureintro
      rw [passes0, passes1]; dsimp only [init0, init1]
      sl_unfold_run_names
      rw [View.read_writes_full]
      exact ⟨rfl, rfl⟩
    isplitl [HS1]
    · iexists _; isplitl [HS1]; · iexact HS1
      ipureintro
      rw [passes0, passes1]; dsimp only [init0, init1]
      sl_unfold_run_names
      rw [View.read_writes_full]
      exact ⟨rfl, rfl⟩
    iexists _; isplitl [HS2]; · iexact HS2
    ipureintro
    rw [passes0, passes1]; dsimp only [init0, init1]
    sl_unfold_run_names
    simp only [readAt_window, Memref.IsWhole.read_unread]
    refine ⟨?_, ?_⟩
    · rw [read0_two_512]
    · rw [read1_two_512]; rfl
  unfold inv
  iintro %_ ⟨H1, H2, ⟨%f6, HS0, %h6⟩, ⟨%f7, HS1, %h7⟩, ⟨%f8, HS2, %h8⟩⟩
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (both_lft_rgt _).symm.trans (congrArg₂ both ?_ ?_)
    · rw [out0, fin, ← h6.1, ← h7.1, ← h8.1]
      sl_unfold_run_names
      rw [lft_read_two, readCov0_1, readCov0_128]
      simp only [readAt_window, Memref.IsWhole.read_unread]
    · rw [out1, fin, ← h6.2, ← h7.2, ← h8.2]
      sl_unfold_run_names
      rw [rgt_read_two, readCov1_1, readCov1_128]
      simp only [readAt_window, Memref.IsWhole.read_unread]
      rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Fwd
end
-- ==== Proof.Run0.lean ====
/- The forward attention call inside the program: its blocks point by point, what each point leaves, and that its body does it. -/
module

public import proofs.«01_k».proof.Proof.FwdBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- what the core's buffers hold when the call is entered
variable (V : (c : Dev nD) → (b : Ref sig .tc) → Buf (Elt F) ((c : Thread nD τ).loc b))

/-- The block of window `w` at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]) t d).trans
    (by unfold Dat.fetched Dat.blockOf iblk0; rw [hA]; rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]) t d).trans
    (by unfold Dat.fetched Dat.blockOf iblk0; rw [hA]; rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]) t d).trans
    (by unfold Dat.fetched Dat.blockOf iblk0; rw [hA]; rfl)

/-- The scratch operands. -/
abbrev scM0_0 : Memref sig .tc .vmem S2x512x1 .f32 := Memref.whole cc0_scratch0
abbrev scM0_1 : Memref sig .tc .vmem S2x512x128 .f32 := Memref.whole cc0_scratch1
abbrev scM0_2 : Memref sig .tc .vmem S2x512x512 .f32 := Memref.whole cc0_scratch2

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)

/-- What the call leaves alone, with the scratch operands as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f)) ∗ (∃ r, prngReg c r)) := by
  unfold Pipeline.ΦA; rw [scopedRest0_eq]; simp only [scM0_0, scM0_1, scM0_2, owns_whole]; try rfl

/-- What the output block holds after point `t`. -/
def outsAt0 (c : Dev nD) (t : Fin cfg0.N) : Vec F S512x256 .f32 :=
  Bwd.both (Fwd.out0 (grid0.coords t) (iblk0 V c 0 t) (iblk0 V c 1 t) (iblk0 V c 2 t)) (Fwd.out1 (grid0.coords t) (iblk0 V c 0 t) (iblk0 V c 1 t) (iblk0 V c 2 t))

/-- The pipeline of the call: arrays as found, blocks as said above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  iintro ⟨⟨⟨HS0, HS1, HS2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩⟩
  iapply (Fwd.body c (grid0.coords t) _ _ _ _ _ _ _ _ _ _ _ _ _ _ (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 HR3 HR4 HR5 HR6 HR7 HR8 HR9 HR10 HR11 HR12 HR13 HR14 HR15 HR16 HR17 HR18 Hg]
  · isplitl [HS0 HS1 HS2 HR3 HR4 HR5 HR6 HR7 HR8 HR9 HR10 HR11 HR12 HR13 HR14 HR15 HR16 HR17 HR18]
    · isplitl [HS0]
      · iexact HS0
      isplitl [HS1]
      · iexact HS1
      isplitl [HS2]
      · iexact HS2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      iexact HR18
    iexact Hg
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run
end
-- ==== Proof.Run1.lean ====
/- The backward attention call inside the program: its blocks point by point, what each point leaves, and that its body does it. -/
module

public import proofs.«01_k».proof.Proof.BwdBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- what the core's buffers hold when the call is entered
variable (V : (c : Dev nD) → (b : Ref sig .tc) → Buf (Elt F) ((c : Thread nD τ).loc b))

/-- The block of window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]) t d).trans
    (by unfold Dat.fetched Dat.blockOf iblk1; rw [hA]; rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]) t d).trans
    (by unfold Dat.fetched Dat.blockOf iblk1; rw [hA]; rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]) t d).trans
    (by unfold Dat.fetched Dat.blockOf iblk1; rw [hA]; rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]) t d).trans
    (by unfold Dat.fetched Dat.blockOf iblk1; rw [hA]; rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]) t d).trans
    (by unfold Dat.fetched Dat.blockOf iblk1; rw [hA]; rfl)

/-- The first point of a pair of heads. -/
theorem hcond1_0 : ∀ t : Fin cfg1.N, Bwd.isFirst (grid1.coords t) ↔ t.val % 8 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [Bwd.isFirst, e0, e1]
    word_cmp
   : ∀ t : Fin grid1.N, Bwd.isFirst (grid1.coords t) ↔ t.val % 8 = 0)

abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x256 .f32 := win1_7.stage (cfg1.slots t 7)
abbrev hs1_7 (t : Fin cfg1.N) : (ms1_7 t).IsWhole := hstage1_7 ((cfg1.slots t 7).cast nbuf1_7)

/-- What the three output blocks hold after the body at point `t`, over what the query gradient's block held. -/
def pointAt (c : Dev nD) (t : Fin cfg1.N) (dq : Vec F S4096x256 .f32) : Bwd.St F :=
  Bwd.point (grid1.coords t) (iblk1 V c 0 t) (iblk1 V c 1 t) (iblk1 V c 2 t) (iblk1 V c 3 t) (iblk1 V c 4 t) dq

/-- What they hold after point `n`: the query gradient's block gathers over the eight points of a pair of heads. -/
def stAt (c : Dev nD) : (n : ℕ) → n < cfg1.N → Bwd.St F
  | 0, hn => pointAt V c ⟨0, hn⟩ k1_pay46
  | n + 1, hn => if (n + 1) % 8 = 0 then pointAt V c ⟨n + 1, hn⟩ k1_pay46
      else pointAt V c ⟨n + 1, hn⟩ (stAt c n (Nat.lt_of_succ_lt hn)).dq

theorem stAt_first (c : Dev nD) (t : Fin cfg1.N) (h0 : t.val % 8 = 0) : stAt V c t.val t.isLt = pointAt V c t k1_pay46 := by
  obtain ⟨n, hn⟩ := t
  cases n with
  | zero => rfl
  | succ n => exact (if_pos h0).trans rfl

theorem stAt_rest (c : Dev nD) (t : Fin cfg1.N) (h0 : ¬t.val % 8 = 0) :
    stAt V c t.val t.isLt = pointAt V c t (stAt V c (t.val - 1) (Nat.lt_of_le_of_lt (Nat.sub_le _ _) t.isLt)).dq := by
  obtain ⟨n, hn⟩ := t
  cases n with
  | zero => exact absurd (Nat.zero_mod _) h0
  | succ n => exact (if_neg h0).trans rfl

/-- The pipeline of the call: arrays as found, blocks as said above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (stAt V c t.val t.isLt).dq
    | ⟨6, _⟩ => Bwd.both (stAt V c t.val t.isLt).dk0 (stAt V c t.val t.isLt).dk1
    | ⟨7, _⟩ => Bwd.both (stAt V c t.val t.isLt).dv0 (stAt V c t.val t.isLt).dv1
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (stAt V c t.val t.isLt).dq := by dsimp only [dat1]
theorem after1_6 (c : Dev nD) (t : Fin cfg1.N) : (dat1 V c).after 6 t = Bwd.both (stAt V c t.val t.isLt).dk0 (stAt V c t.val t.isLt).dk1 := by dsimp only [dat1]
theorem after1_7 (c : Dev nD) (t : Fin cfg1.N) : (dat1 V c).after 7 t = Bwd.both (stAt V c t.val t.isLt).dv0 (stAt V c t.val t.isLt).dv1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5_B (c : Dev nD) (t : Fin cfg1.N) (h0 : ¬t.val % 8 = 0) (d) :
    (dat1 V c).before 5 t d = (stAt V c (t.val - 1) (Nat.lt_of_le_of_lt (Nat.sub_le _ _) t.isLt)).dq := by
  have hN : t.val < 64 := lt_of_lt_of_eq t.isLt (show cfg1.N = 64 from N_1)
  rw [Dat.before_out_kept _ 5 rfl t (by omega) (Bool.eq_false_iff.mpr fun h => by have := (flush1_5 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 64 := lt_of_lt_of_eq t.isLt (show cfg1.N = 64 from N_1)
  by_cases h0 : t.val % 8 = 0
  · rw [stAt_first V c t h0, pointAt]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (Bwd.body_first c (grid1.coords t) _ _ _ _ _ _ _ _ _ _ _ _ _ _ _ _ ((hcond1_0 t).mpr h0) (iblk1 V c 0 t) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [stAt_rest V c t h0, pointAt]
    simp only [before1_5_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (Bwd.body_rest c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run
end
-- ==== Proof.Run.lean ====
/- The whole program run: what every buffer holds at the end, from any memory, and that it ends with every counter at zero. -/
module

public import proofs.«01_k».proof.Proof.Run0
public import proofs.«01_k».proof.Proof.Run1

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9, main_v10, main_cst, main_v11, main_cst_0, main_v12, main_v13, main_v14, main_v15, main_v16, main_v17, main_v18, main_cst_1, main_v19, main_v20, main_v21, main_v22, main_v23, main_cst_2, main_v24, main_v25, main_v26, main_v27]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v29, main_v30, main_v31, main_cst_3, main_v32, main_v33, main_v34, main_cst_4, main_v35, main_v36, main_v37, main_v38]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v40, main_v41, main_v42, main_v43, main_v44, main_v45, main_v46, main_v47, main_v48, main_v49, main_v50]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- The call as a step of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a step of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory the program ends, every buffer of the core at the last of the contents above and every counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame of the program: it ends, its arguments unchanged and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun _ h => ⟨fun c =>
    ⟨(h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c)⟩, h.2⟩) (run_main m ρ)

end Cert.KernelIdeal.Run
end
-- ==== Proof.Frames.lean ====
/- The frames of the two forms of the kernel, from the one run: the printed program is the idealized one with every named constant
   read as the word it stands for. -/
module

public import proofs.«01_k».proof.Defs
public import proofs.«01_k».proof.Proof.Run
public import proofs.«01_k».proof.Proof.Gen.ReferenceIdeal.Run
public import proofs.«01_k».proof.Proof.Gen.Kernel
public import proofs.«01_k».proof.Proof.Gen.Pre_finite

@[expose] public section

noncomputable section

namespace Cert.Frames

open Idealize.ShloMosaic Idealize.SL.Sem

/-- Over bit patterns a named constant is the word written in the program. -/
local instance : Named Bits where
  named _ _ {φ} b := Scalar.ofBits φ b

open Cert.Kernel in
/-- What the frame of the printed kernel says. -/
def Says : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0)

open Cert.KernelIdeal in
/-- What the frame of the idealized kernel says over bit patterns. -/
def SaysIdeal : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0)

/-- The two say the same: the texts agree up to the named constant. -/
theorem says_eq : Says = SaysIdeal := by sl_kernel_rfl

/-- The printed kernel ends, arguments unchanged and counters at zero. -/
theorem kernel : Cert.quiescent_Kernel := fun m ρ _ =>
  (cast says_eq.symm (fun m ρ => Cert.KernelIdeal.Run.frame (F := Bits) m ρ : SaysIdeal) : Says) m ρ

/-- The idealized kernel ends, arguments unchanged and counters at zero. -/
theorem kernelIdeal : Cert.quiescent_KernelIdeal := fun m ρ _ => Cert.KernelIdeal.Run.frame (F := Ideal) m ρ

/-- The same under the precondition. -/
theorem kernelIdeal_pre : Cert.quiescent_KernelIdeal_pre_finite := fun m ρ _ => Cert.KernelIdeal.Run.frame (F := Ideal) m ρ

/-- The constant named `mask` is the word it replaces up to the value the table gives it. -/
theorem preserves : Cert.preserves_Kernel_KernelIdeal := by
  exact ⟨rfl, fun _ => rfl, rfl⟩

/-- The reference ends, arguments unchanged and counters at zero. -/
theorem reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The same under the precondition. -/
theorem reference_pre : Cert.quiescent_ReferenceIdeal_pre_finite := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Frames

end
-- ==== Proof.Val0.lean ====
/- Arrays of real numbers: that a matrix over the extended reals holds given reals, and what the vector operations do to them. -/
module

public import proofs.«01_k».proof.Proof.Fwd0
public import Idealize.ShloMosaic.PureOps.Ideal.Laws
public import Idealize.ShloMosaic.Lib.MatmulPlain
public import Idealize.ShloMosaic.Lib.ValueLayout
public import Idealize.ShloMosaic.Lib.ValueLayoutCasts
public import Idealize.ShloMosaic.Lib.ValueIdxCoords

@[expose] public section

set_option maxRecDepth 8192

noncomputable section

namespace Cert.Val

open Idealize.ShloMosaic Idealize.ShloMosaic.VecWindow Idealize.ShloMosaic.ValueIdx
open Cert.KernelIdeal Cert.KernelIdeal.Gen
open scoped BigOperators

/-- The matrix `x` holds the reals `f`, entry by entry. -/
def Is (R C : ℕ) (x : (⟨2, ![R, C]⟩ : Shape).Idx → EReal) (f : ℕ → ℕ → ℝ) : Prop :=
  ∀ (a : Fin R) (b : Fin C), x (ix2 a b) = ((f a b : ℝ) : EReal)

/-- The same matrix holds any reals equal to those inside its bounds. -/
theorem Is.congr {R C : ℕ} {x : (⟨2, ![R, C]⟩ : Shape).Idx → EReal} {f g : ℕ → ℕ → ℝ} (h : Is R C x f)
    (e : ∀ a b, a < R → b < C → f a b = g a b) : Is R C x g := fun a b => by rw [h a b, e a b a.isLt b.isLt]

/-- An entry at an index. -/
theorem Is.at {R C : ℕ} {x : (⟨2, ![R, C]⟩ : Shape).Idx → EReal} {f : ℕ → ℕ → ℝ} (h : Is R C x f) (y : (⟨2, ![R, C]⟩ : Shape).Idx) :
    x y = ((f (y 0).val (y 1).val : ℝ) : EReal) := by
  have := h (y 0) (y 1)
  rw [← this]
  refine congrArg x (funext fun a => ?_)
  match a with
  | ⟨0, _⟩ => rfl
  | ⟨1, _⟩ => rfl

/-- A sum of reals is the same sum over the extended reals. -/
theorem coe_sum {ι : Type} (s : Finset ι) (f : ι → ℝ) : ∑ i ∈ s, ((f i : ℝ) : EReal) = ((∑ i ∈ s, f i : ℝ) : EReal) := by
  classical
  refine Finset.induction_on s (by simp) fun a t ha ih => ?_
  rw [Finset.sum_insert ha, Finset.sum_insert ha, EReal.coe_add, ih]

/-- A sum over the positions of an axis, as one over a range. -/
theorem coe_sum_fin (n : ℕ) (f : ℕ → ℝ) : ∑ i : Fin n, ((f i : ℝ) : EReal) = ((∑ i ∈ Finset.range n, f i : ℝ) : EReal) := by
  rw [coe_sum, Finset.sum_range]

/-- A window of a matrix of reals. -/
theorem Is.window {R C R' C' r0 c0 : ℕ} {x : (⟨2, ![R, C]⟩ : Shape).Idx → EReal} {f : ℕ → ℕ → ℝ} (h : Is R C x f)
    (off : Fin 2 → ℕ) (inb : ∀ a : Fin 2, off a + (![R', C'] : Fin 2 → ℕ) a ≤ (![R, C] : Fin 2 → ℕ) a) (e : off = ![r0, c0]) :
    Is R' C' (window (s := ⟨2, ![R, C]⟩) x off ![R', C'] inb) (fun a b => f (r0 + a) (c0 + b)) := by
  subst e
  intro a b
  show x _ = _
  rw [h.at]
  have e0 : ((Rect.unit (s := ⟨2, ![R, C]⟩) ![r0, c0] ![R', C'] inb).emb (ix2 a b) 0).val = r0 + a.val := by
    show r0 + 1 * a.val = _; omega
  have e1 : ((Rect.unit (s := ⟨2, ![R, C]⟩) ![r0, c0] ![R', C'] inb).emb (ix2 a b) 1).val = c0 + b.val := by
    show c0 + 1 * b.val = _; omega
  rw [e0, e1]

/-- A matrix of reals with another put over a window of it. -/
theorem Is.put {R C R' C' r0 c0 : ℕ} {x : (⟨2, ![R, C]⟩ : Shape).Idx → EReal} {w : (⟨2, ![R', C']⟩ : Shape).Idx → EReal} {f g : ℕ → ℕ → ℝ}
    (h : Is R C x f) (hw : Is R' C' w g) (off : Fin 2 → ℕ) (e : off = ![r0, c0]) :
    Is R C (put (s := ⟨2, ![R, C]⟩) x off ![R', C'] w)
      (fun a b => if r0 ≤ a ∧ a < r0 + R' ∧ c0 ≤ b ∧ b < c0 + C' then g (a - r0) (b - c0) else f a b) := by
  subst e
  intro a b
  unfold VecWindow.put
  by_cases hc : r0 ≤ a.val ∧ a.val < r0 + R' ∧ c0 ≤ b.val ∧ b.val < c0 + C'
  · have hall : ∀ ax : Fin 2, (![r0, c0] : Fin 2 → ℕ) ax ≤ (ix2 a b ax).val ∧ (ix2 a b ax).val < (![r0, c0] : Fin 2 → ℕ) ax + (![R', C'] : Fin 2 → ℕ) ax := by
      intro ax
      match ax with
      | ⟨0, _⟩ => exact ⟨hc.1, hc.2.1⟩
      | ⟨1, _⟩ => exact ⟨hc.2.2.1, hc.2.2.2⟩
    beta_reduce
    rw [dif_pos hall, if_pos hc]
    exact hw.at _
  · beta_reduce
    rw [if_neg hc, dif_neg, h a b]
    intro hall
    exact hc ⟨(hall 0).1, (hall 0).2, (hall 1).1, (hall 1).2⟩

/-! ## The three products -/

theorem nt_apply (lhs : FVec Ideal S512x128 .bf16) (rhs : FVec Ideal S512x128 .bf16) (acc : FVec Ideal S512x512 .f32) (r c : Fin 512) :
    matmul dot_S512x128_S512x128_S512x512_1_1_0_0_n_n none lhs rhs acc (ix2 r c) = acc (ix2 r c) + ∑ k : Fin 128, lhs (ix2 r k) * rhs (ix2 c k) :=
  Ideal.matmul_transposedRhs_apply none lhs rhs acc r c

theorem nn_apply (lhs : FVec Ideal S512x512 .bf16) (rhs : FVec Ideal S512x128 .bf16) (acc : FVec Ideal S512x128 .f32) (r : Fin 512) (c : Fin 128) :
    matmul dot_S512x512_S512x128_S512x128_1_0_0_1_n_n none lhs rhs acc (ix2 r c) = acc (ix2 r c) + ∑ k : Fin 512, lhs (ix2 r k) * rhs (ix2 k c) :=
  Ideal.matmul_plain_apply none lhs rhs acc r c

theorem tn_apply (lhs : FVec Ideal S512x512 .bf16) (rhs : FVec Ideal S512x128 .bf16) (acc : FVec Ideal S512x128 .f32) (r : Fin 512) (c : Fin 128) :
    matmul dot_S512x512_S512x128_S512x128_0_0_1_1_n_n none lhs rhs acc (ix2 r c) = acc (ix2 r c) + ∑ k : Fin 512, lhs (ix2 k r) * rhs (ix2 k c) := by
  have hr : (dot_S512x512_S512x128_S512x128_0_0_1_1_n_n).contr.rank = 1 := rfl
  have hs : (dot_S512x512_S512x128_S512x128_0_0_1_1_n_n).contr.size ⟨0, by rw [hr]; exact Nat.one_pos⟩ = 512 := rfl
  show FloatOps.matmul _ _ _ _ _ _ = _
  rw [Ideal.matmul_apply, ← Equiv.sum_comp (contrEquiv1 _ 512 hr hs).symm]
  refine congrArg (acc (ix2 r c) + ·) (Finset.sum_congr rfl fun k _ => ?_)
  have hk := contrEquiv1_symm_val _ 512 hr hs k
  have el : (dot_S512x512_S512x128_S512x128_0_0_1_1_n_n).lhsIdx (ix2 r c) ((contrEquiv1 _ 512 hr hs).symm k) = ix2 k r := by
    funext a; apply Fin.ext
    match a with
    | ⟨0, _⟩ => exact hk
    | ⟨1, _⟩ => rfl
  have er : (dot_S512x512_S512x128_S512x128_0_0_1_1_n_n).rhsIdx (ix2 r c) ((contrEquiv1 _ 512 hr hs).symm k) = ix2 k c := by
    funext a; apply Fin.ext
    match a with
    | ⟨0, _⟩ => exact hk
    | ⟨1, _⟩ => rfl
  rw [el, er]

/-- The zero word reads zero. -/
theorem zero_f32 : (Ideal.ofBits .f32 0x00000000#32 : EReal) = 0 := by simp [Ideal.ofBits, Ideal.ieee]

theorem Is.nt {x y : FVec Ideal S512x128 .bf16} {f g : ℕ → ℕ → ℝ} (hx : Is 512 128 x f) (hy : Is 512 128 y g) :
    Is 512 512 (matmul dot_S512x128_S512x128_S512x512_1_1_0_0_n_n none x y (constant S512x512 .f32 0x00000000#32))
      (fun a b => ∑ l ∈ Finset.range 128, f a l * g b l) := by
  intro a b
  rw [nt_apply, ← coe_sum_fin]
  show Ideal.ofBits .f32 0x00000000#32 + _ = _
  rw [zero_f32, zero_add]
  exact Finset.sum_congr rfl fun l _ => by rw [hx a l, hy b l, EReal.coe_mul]

theorem Is.nn {x : FVec Ideal S512x512 .bf16} {y : FVec Ideal S512x128 .bf16} {f g : ℕ → ℕ → ℝ} (hx : Is 512 512 x f) (hy : Is 512 128 y g) :
    Is 512 128 (matmul dot_S512x512_S512x128_S512x128_1_0_0_1_n_n none x y (constant S512x128 .f32 0x00000000#32))
      (fun a b => ∑ l ∈ Finset.range 512, f a l * g l b) := by
  intro a b
  rw [nn_apply, ← coe_sum_fin]
  show Ideal.ofBits .f32 0x00000000#32 + _ = _
  rw [zero_f32, zero_add]
  exact Finset.sum_congr rfl fun l _ => by rw [hx a l, hy l b, EReal.coe_mul]

theorem Is.tn {x : FVec Ideal S512x512 .bf16} {y : FVec Ideal S512x128 .bf16} {f g : ℕ → ℕ → ℝ} (hx : Is 512 512 x f) (hy : Is 512 128 y g) :
    Is 512 128 (matmul dot_S512x512_S512x128_S512x128_0_0_1_1_n_n none x y (constant S512x128 .f32 0x00000000#32))
      (fun a b => ∑ l ∈ Finset.range 512, f l a * g l b) := by
  intro a b
  rw [tn_apply, ← coe_sum_fin]
  show Ideal.ofBits .f32 0x00000000#32 + _ = _
  rw [zero_f32, zero_add]
  exact Finset.sum_congr rfl fun l _ => by rw [hx l a, hy l b, EReal.coe_mul]

/-! ## Entry by entry -/

/-- One column spread over the lanes. -/
theorem spread_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem Is.spread {a b : ℕ} {v : (⟨2, ![a, 1]⟩ : Shape).Idx → EReal} {f : ℕ → ℕ → ℝ} (hv : Is a 1 v f) (h : (⟨2, ![a, 1]⟩ : Shape).Broadcasts ⟨2, ![a, b]⟩) :
    Is a b (broadcastTo ⟨2, ![a, b]⟩ v h) (fun r _ => f r 0) := fun r c => by rw [spread_apply, hv r 0]; rfl

section
variable {R C : ℕ} {φ : FTy} {x y : FVec Ideal ⟨2, ![R, C]⟩ φ} {f g : ℕ → ℕ → ℝ}

theorem Is.sub (hx : Is R C x f) (hy : Is R C y g) : Is R C (subf x y) (fun a b => f a b - g a b) := fun a b => by
  show x (ix2 a b) - y (ix2 a b) = _
  rw [hx a b, hy a b, ← EReal.coe_sub]
theorem Is.add (hx : Is R C x f) (hy : Is R C y g) : Is R C (addf x y) (fun a b => f a b + g a b) := fun a b => by
  show x (ix2 a b) + y (ix2 a b) = _
  rw [hx a b, hy a b, ← EReal.coe_add]
theorem Is.mul (hx : Is R C x f) (hy : Is R C y g) : Is R C (mulf x y) (fun a b => f a b * g a b) := fun a b => by
  show x (ix2 a b) * y (ix2 a b) = _
  rw [hx a b, hy a b, ← EReal.coe_mul]
theorem Is.exp (hx : Is R C x f) : Is R C (exp x) (fun a b => Real.exp (f a b)) := fun a b => by
  show Ideal.exp (x (ix2 a b)) = _
  rw [hx a b, Ideal.exp_coe]
end

/-- A narrowing of the format keeps the reals. -/
theorem Is.trunc {R C : ℕ} {x : FVec Ideal ⟨2, ![R, C]⟩ .f32} {f : ℕ → ℕ → ℝ} (hx : Is R C x f) :
    Is R C (truncf .bf16 x bitsLt_bf16_f32) f := fun a b => hx a b

end Cert.Val
-- ==== Proof.ValHost.lean ====
/- The padded arrays the program makes from its arguments, in reals. -/
module

public import proofs.«01_k».proof.Proof.Val0
public import Idealize.ShloMosaic.Lib.Pipeline.Value
public import Idealize.ShloMosaic.Lib.IdealHost

@[expose] public section

set_option maxRecDepth 8192

noncomputable section

namespace Cert.Val

open Idealize.ShloMosaic Idealize.ShloMosaic.ValueIdx
open Cert.KernelIdeal Cert.KernelIdeal.Gen
open scoped BigOperators

/-- The array of rank three `x` holds the reals `f`. -/
def IsT (A B C : ℕ) (x : (⟨3, ![A, B, C]⟩ : Shape).Idx → EReal) (f : ℕ → ℕ → ℕ → ℝ) : Prop :=
  ∀ (a : Fin A) (b : Fin B) (c : Fin C), x (ix3 a b c) = ((f a b c : ℝ) : EReal)

section Terms
variable (x : FVec Ideal S4096x16x64 .f32) (u : FVec Ideal S4096x16 .f32)

/-- The three parts a sum is split into. -/
abbrev part (u : FVec Ideal S4096x16 .f32) : FVec Ideal S4096x16 .f32 := extf .f32 (truncf .bf16 u bitsLt_bf16_f32) bitsLt_bf16_f32
abbrev rest1 (u : FVec Ideal S4096x16 .f32) : FVec Ideal S4096x16 .f32 := subf u (part u)
abbrev rest2 (u : FVec Ideal S4096x16 .f32) : FVec Ideal S4096x16 .f32 := subf (rest1 u) (part (rest1 u))
abbrev col (u : FVec Ideal S4096x16 .f32) : FVec Ideal S4096x16x1 .f32 := broadcastInDim S4096x16x1 ![0, 1] bcast_S4096x16_S4096x16x1_0_1 u
abbrev ones : FVec Ideal S4096x16x3 .f32 := broadcastInDim S4096x16x3 ![] bcast_S_S4096x16x3 (constant S_ .f32 0x3F800000#32)
abbrev zeros58 : FVec Ideal S4096x16x58 .f32 := broadcastInDim S4096x16x58 ![] bcast_S_S4096x16x58 (constant S_ .f32 0x00000000#32)
abbrev zeros63 : FVec Ideal S4096x16x63 .f32 := broadcastInDim S4096x16x63 ![] bcast_S_S4096x16x63 (constant S_ .f32 0x00000000#32)
abbrev flat (y : FVec Ideal S4096x16x128 .f32) : FVec Ideal S4096x2048 .bf16 := truncf .bf16 (shapeCast S4096x2048 y shapeCasts_S4096x16x128_S4096x2048) bitsLt_bf16_f32

/-- The queries, the parts of the running sum, and ones. -/
def packQ : FVec Ideal S4096x2048 .bf16 := flat
  (concatenate S4096x16x128 2 [⟨S4096x16x64, x⟩, ⟨S4096x16x1, col (part u)⟩, ⟨S4096x16x1, col (part (rest1 u))⟩, ⟨S4096x16x1, col (part (rest2 u))⟩, ⟨S4096x16x3, ones⟩, ⟨S4096x16x58, zeros58⟩]
    concatenates_S4096x16x64_S4096x16x1_S4096x16x1_S4096x16x1_S4096x16x3_S4096x16x58_S4096x16x128_d2)
/-- The keys, ones, and the parts negated. -/
def packK : FVec Ideal S4096x2048 .bf16 := flat
  (concatenate S4096x16x128 2 [⟨S4096x16x64, x⟩, ⟨S4096x16x3, ones⟩, ⟨S4096x16x1, Host.negf (col (part u))⟩, ⟨S4096x16x1, Host.negf (col (part (rest1 u)))⟩, ⟨S4096x16x1, Host.negf (col (part (rest2 u)))⟩, ⟨S4096x16x58, zeros58⟩]
    concatenates_S4096x16x64_S4096x16x3_S4096x16x1_S4096x16x1_S4096x16x1_S4096x16x58_S4096x16x128_d2)
/-- The values and a one. -/
def packV : FVec Ideal S4096x2048 .bf16 := flat
  (concatenate S4096x16x128 2 [⟨S4096x16x64, x⟩, ⟨S4096x16x1, extractStridedSlice S4096x16x1 ![0, 0, 0] ones slices_S4096x16x3_S4096x16x1_0_0_0⟩, ⟨S4096x16x63, zeros63⟩]
    concatenates_S4096x16x64_S4096x16x1_S4096x16x63_S4096x16x128_d2)
/-- An array of rank three's first 64 lanes. -/
abbrev heads (O : FVec Ideal S4096x2048 .f32) : FVec Ideal S4096x16x128 .f32 := shapeCast S4096x16x128 O shapeCasts_S4096x2048_S4096x16x128
abbrev lanes (O : FVec Ideal S4096x2048 .f32) : FVec Ideal S4096x16x64 .f32 := extractStridedSlice S4096x16x64 ![0, 0, 0] (heads O) slices_S4096x16x128_S4096x16x64_0_0_0
/-- The incoming gradient, and its products with the output summed and negated. -/
def packD (O : FVec Ideal S4096x2048 .f32) : FVec Ideal S4096x2048 .bf16 := flat
  (concatenate S4096x16x128 2 [⟨S4096x16x64, x⟩, ⟨S4096x16x1, Host.negf (col (Host.reduceAdd (mulf x (lanes O)) (constant (F := Ideal) S_ .f32 0x00000000#32) reducesTo_S4096x16x64_S4096x16_d2 h_S_))⟩, ⟨S4096x16x63, zeros63⟩]
    concatenates_S4096x16x64_S4096x16x1_S4096x16x63_S4096x16x128_d2)
end Terms

/-- A concatenation of lanes, read in its piece number `k`. -/
theorem cat_at {α : Type} (xs : List ((s : Shape) × (s.Idx → α))) (h : Shape.Concatenates (xs.map (·.1)) S4096x16x128 2) (t : Fin 4096) (hh : Fin 16) (l : Fin 128)
    (k : ℕ) (hk : k < xs.length) (n : ℕ) (x₁ : (⟨3, ![4096, 16, n]⟩ : Shape).Idx → α) (hxk : xs[k] = ⟨⟨3, ![4096, 16, n]⟩, x₁⟩) (pre : ℕ)
    (hpre : (((xs.take k).map (·.1)).map fun s => if h : s.rank = S4096x16x128.rank then s.size ((2 : Fin S4096x16x128.rank).cast h.symm) else 0).sum = pre)
    (d : Fin n) (hd : pre + d.val = l.val) : concatenate S4096x16x128 2 xs h (ix3 t hh l) = x₁ (ix3 t hh d) :=
  concatenate_apply_piece 2 xs h (ix3 t hh l) k hk _ x₁ hxk rfl pre hpre (ix3 t hh d)
    (fun b hb => by
      match b, hb with
      | ⟨0, _⟩, _ => rfl
      | ⟨1, _⟩, _ => rfl
      | ⟨2, _⟩, hb => exact absurd rfl hb) hd

/-- Heads laid side by side. -/
theorem flat_apply (y : FVec Ideal S4096x16x128 .f32) (t : Fin 4096) (B : Fin 2048) :
    flat y (ix2 t B) = y (ix3 t (⟨B.val / 128, by omega⟩ : Fin 16) (⟨B.val % 128, by omega⟩ : Fin 128)) := by
  show shapeCast S4096x2048 y shapeCasts_S4096x16x128_S4096x2048 (ix2 t B) = _
  refine shapeCast_apply y _ _ _ ?_
  rw [Shape.rowMajor_val_three, Shape.rowMajor_val_two]
  show (t.val * 16 + B.val / 128) * 128 + B.val % 128 = t.val * 2048 + B.val
  omega

/-- And back. -/
theorem heads_apply (O : FVec Ideal S4096x2048 .f32) (t : Fin 4096) (h : Fin 16) (l : Fin 128) :
    heads O (ix3 t h l) = O (ix2 t (⟨128 * h.val + l.val, by omega⟩ : Fin 2048)) := by
  refine shapeCast_apply O _ _ _ ?_
  rw [Shape.rowMajor_val_three, Shape.rowMajor_val_two]
  show t.val * 2048 + (128 * h.val + l.val) = (t.val * 16 + h.val) * 128 + l.val
  omega

theorem lanes_apply (O : FVec Ideal S4096x2048 .f32) (t : Fin 4096) (h : Fin 16) (d : Fin 64) :
    lanes O (ix3 t h d) = O (ix2 t (⟨128 * h.val + d.val, by omega⟩ : Fin 2048)) := by
  have : lanes O (ix3 t h d) = heads O (ix3 t h (⟨d.val, by omega⟩ : Fin 128)) :=
    extractStridedSlice_apply _ _ _ _ _ (fun ax => by
      match ax with
      | ⟨0, _⟩ => exact (Nat.zero_add _).symm
      | ⟨1, _⟩ => exact (Nat.zero_add _).symm
      | ⟨2, _⟩ => exact (Nat.zero_add _).symm)
  rw [this, heads_apply]

/-- A lane of a padded array, sliced and laid in columns. -/
theorem lane64 (X : FVec Ideal S4096x2048 .f32) (t : Fin 4096) (h : Fin 16) :
    shapeCast S4096x16 (extractStridedSlice S4096x16x1 ![0, 0, 64] (heads X) slices_S4096x16x128_S4096x16x1_0_0_64) shapeCasts_S4096x16x1_S4096x16 (ix2 t h)
      = X (ix2 t (⟨128 * h.val + 64, by omega⟩ : Fin 2048)) := by
  refine (shapeCast_apply _ _ (ix2 t h) (ix3 t h (0 : Fin 1)) ?_).trans ?_
  · rw [Shape.rowMajor_val_three, Shape.rowMajor_val_two]
    show (t.val * 16 + h.val) * 1 + 0 = t.val * 16 + h.val
    omega
  · exact (extractStridedSlice_apply _ _ _ _ (ix3 t h (⟨64, by omega⟩ : Fin 128)) (fun ax => by
      match ax with
      | ⟨0, _⟩ => exact (Nat.zero_add _).symm
      | ⟨1, _⟩ => exact (Nat.zero_add _).symm
      | ⟨2, _⟩ => rfl)).trans (heads_apply X t h _)
theorem lane67 (X : FVec Ideal S4096x2048 .f32) (t : Fin 4096) (h : Fin 16) :
    shapeCast S4096x16 (extractStridedSlice S4096x16x1 ![0, 0, 67] (heads X) slices_S4096x16x128_S4096x16x1_0_0_67) shapeCasts_S4096x16x1_S4096x16 (ix2 t h)
      = X (ix2 t (⟨128 * h.val + 67, by omega⟩ : Fin 2048)) := by
  refine (shapeCast_apply _ _ (ix2 t h) (ix3 t h (0 : Fin 1)) ?_).trans ?_
  · rw [Shape.rowMajor_val_three, Shape.rowMajor_val_two]
    show (t.val * 16 + h.val) * 1 + 0 = t.val * 16 + h.val
    omega
  · exact (extractStridedSlice_apply _ _ _ _ (ix3 t h (⟨67, by omega⟩ : Fin 128)) (fun ax => by
      match ax with
      | ⟨0, _⟩ => exact (Nat.zero_add _).symm
      | ⟨1, _⟩ => exact (Nat.zero_add _).symm
      | ⟨2, _⟩ => rfl)).trans (heads_apply X t h _)

theorem col_apply (u : FVec Ideal S4096x16 .f32) (t : Fin 4096) (h : Fin 16) (z : Fin 1) : col u (ix3 t h z) = u (ix2 t h) :=
  broadcastInDim_apply _ _ _ _ _ (fun a => by
    match a with
    | ⟨0, _⟩ => rfl
    | ⟨1, _⟩ => rfl)

theorem ones_apply (i : S4096x16x3.Idx) : ones i = ((1 : ℝ) : EReal) :=
  (broadcastInDim_scalar_apply bcast_S_S4096x16x3 _ i).trans (Ideal.ofBits_one_f32.trans EReal.coe_one.symm)
theorem zeros58_apply (i : S4096x16x58.Idx) : zeros58 i = ((0 : ℝ) : EReal) :=
  (broadcastInDim_scalar_apply bcast_S_S4096x16x58 _ i).trans (by rw [EReal.coe_zero]; exact zero_f32)
theorem zeros63_apply (i : S4096x16x63.Idx) : zeros63 i = ((0 : ℝ) : EReal) :=
  (broadcastInDim_scalar_apply bcast_S_S4096x16x63 _ i).trans (by rw [EReal.coe_zero]; exact zero_f32)

section Reals
variable {x : FVec Ideal S4096x16x64 .f32} {u : FVec Ideal S4096x16 .f32} {f : ℕ → ℕ → ℕ → ℝ} {w : ℕ → ℕ → ℝ}

theorem part_at (hu : Is 4096 16 u w) (t : Fin 4096) (h : Fin 16) : part u (ix2 t h) = ((w t h : ℝ) : EReal) := hu t h
theorem rest1_at (hu : Is 4096 16 u w) : Is 4096 16 (rest1 u) (fun _ _ => 0) := fun t h => by
  show u (ix2 t h) - u (ix2 t h) = _
  rw [hu t h, ← EReal.coe_sub, sub_self]
theorem rest2_at (hu : Is 4096 16 u w) : Is 4096 16 (rest2 u) (fun _ _ => 0) := fun t h => by
  show rest1 u (ix2 t h) - rest1 u (ix2 t h) = _
  rw [rest1_at hu t h, ← EReal.coe_sub, sub_self]

/-- The padded arrays' entries. -/
def qP (f : ℕ → ℕ → ℕ → ℝ) (w : ℕ → ℕ → ℝ) (t B : ℕ) : ℝ :=
  if B % 128 < 64 then f t (B / 128) (B % 128) else if B % 128 < 65 then w t (B / 128) else if B % 128 < 67 then 0 else if B % 128 < 70 then 1 else 0
def kP (f : ℕ → ℕ → ℕ → ℝ) (w : ℕ → ℕ → ℝ) (t B : ℕ) : ℝ :=
  if B % 128 < 64 then f t (B / 128) (B % 128) else if B % 128 < 67 then 1 else if B % 128 < 68 then - w t (B / 128) else 0
def vP (f : ℕ → ℕ → ℕ → ℝ) (w : ℕ → ℕ → ℝ) (t B : ℕ) : ℝ :=
  if B % 128 < 64 then f t (B / 128) (B % 128) else if B % 128 < 65 then w t (B / 128) else 0

theorem packQ_is (hx : IsT 4096 16 64 x f) (hu : Is 4096 16 u w) : Is 4096 2048 (packQ x u) (qP f w) := by
  intro t B
  unfold packQ
  rw [flat_apply]
  unfold qP
  by_cases h0 : B.val % 128 < 64
  · rw [if_pos h0]
    exact (cat_at _ _ t _ _ 0 (by simp) 64 x rfl 0 rfl ⟨B.val % 128, h0⟩ (Nat.zero_add _)).trans (hx t _ _)
  rw [if_neg h0]
  by_cases h1 : B.val % 128 < 65
  · rw [if_pos h1]
    exact (cat_at _ _ t _ _ 1 (by simp) 1 (col (part u)) rfl 64 rfl ⟨B.val % 128 - 64, by omega⟩ (by show 64 + (B.val % 128 - 64) = B.val % 128; omega)).trans ((col_apply _ _ _ _).trans (hu t _))
  rw [if_neg h1]
  by_cases h2 : B.val % 128 < 66
  · rw [if_pos (by omega)]
    exact (cat_at _ _ t _ _ 2 (by simp) 1 (col (part (rest1 u))) rfl 65 rfl ⟨B.val % 128 - 65, by omega⟩ (by show 65 + (B.val % 128 - 65) = B.val % 128; omega)).trans ((col_apply _ _ _ _).trans (rest1_at hu t _))
  by_cases h3 : B.val % 128 < 67
  · rw [if_pos h3]
    exact (cat_at _ _ t _ _ 3 (by simp) 1 (col (part (rest2 u))) rfl 66 rfl ⟨B.val % 128 - 66, by omega⟩ (by show 66 + (B.val % 128 - 66) = B.val % 128; omega)).trans ((col_apply _ _ _ _).trans (rest2_at hu t _))
  rw [if_neg h3]
  by_cases h4 : B.val % 128 < 70
  · rw [if_pos h4]
    exact (cat_at _ _ t _ _ 4 (by simp) 3 ones rfl 67 rfl ⟨B.val % 128 - 67, by omega⟩ (by show 67 + (B.val % 128 - 67) = B.val % 128; omega)).trans (ones_apply _)
  rw [if_neg h4]
  exact (cat_at _ _ t _ _ 5 (by simp) 58 zeros58 rfl 70 rfl ⟨B.val % 128 - 70, by omega⟩ (by show 70 + (B.val % 128 - 70) = B.val % 128; omega)).trans (zeros58_apply _)

theorem neg_at (y : FVec Ideal S4096x16x1 .f32) (i : S4096x16x1.Idx) (r : ℝ) (h : y i = (r : EReal)) : Host.negf y i = ((- r : ℝ) : EReal) := by
  show - (y i) = _
  rw [h, EReal.coe_neg]

theorem packK_is (hx : IsT 4096 16 64 x f) (hu : Is 4096 16 u w) : Is 4096 2048 (packK x u) (kP f w) := by
  intro t B
  unfold packK
  rw [flat_apply]
  unfold kP
  by_cases h0 : B.val % 128 < 64
  · rw [if_pos h0]
    exact (cat_at _ _ t _ _ 0 (by simp) 64 x rfl 0 rfl ⟨B.val % 128, h0⟩ (Nat.zero_add _)).trans (hx t _ _)
  rw [if_neg h0]
  by_cases h1 : B.val % 128 < 67
  · rw [if_pos h1]
    exact (cat_at _ _ t _ _ 1 (by simp) 3 ones rfl 64 rfl ⟨B.val % 128 - 64, by omega⟩ (by show 64 + (B.val % 128 - 64) = B.val % 128; omega)).trans (ones_apply _)
  rw [if_neg h1]
  by_cases h2 : B.val % 128 < 68
  · rw [if_pos h2]
    exact (cat_at _ _ t _ _ 2 (by simp) 1 (Host.negf (col (part u))) rfl 67 rfl ⟨B.val % 128 - 67, by omega⟩ (by show 67 + (B.val % 128 - 67) = B.val % 128; omega)).trans (neg_at _ _ _ ((col_apply _ _ _ _).trans (hu t _)))
  rw [if_neg h2]
  by_cases h3 : B.val % 128 < 69
  · exact (cat_at _ _ t _ _ 3 (by simp) 1 (Host.negf (col (part (rest1 u)))) rfl 68 rfl ⟨B.val % 128 - 68, by omega⟩ (by show 68 + (B.val % 128 - 68) = B.val % 128; omega)).trans ((neg_at _ _ _ ((col_apply _ _ _ _).trans (rest1_at hu t _))).trans (by rw [neg_zero]))
  by_cases h4 : B.val % 128 < 70
  · exact (cat_at _ _ t _ _ 4 (by simp) 1 (Host.negf (col (part (rest2 u)))) rfl 69 rfl ⟨B.val % 128 - 69, by omega⟩ (by show 69 + (B.val % 128 - 69) = B.val % 128; omega)).trans ((neg_at _ _ _ ((col_apply _ _ _ _).trans (rest2_at hu t _))).trans (by rw [neg_zero]))
  exact (cat_at _ _ t _ _ 5 (by simp) 58 zeros58 rfl 70 rfl ⟨B.val % 128 - 70, by omega⟩ (by show 70 + (B.val % 128 - 70) = B.val % 128; omega)).trans (zeros58_apply _)

theorem packV_is (hx : IsT 4096 16 64 x f) : Is 4096 2048 (packV x) (vP f fun _ _ => 1) := by
  intro t B
  unfold packV
  rw [flat_apply]
  unfold vP
  by_cases h0 : B.val % 128 < 64
  · rw [if_pos h0]
    exact (cat_at _ _ t _ _ 0 (by simp) 64 x rfl 0 rfl ⟨B.val % 128, h0⟩ (Nat.zero_add _)).trans (hx t _ _)
  rw [if_neg h0]
  by_cases h1 : B.val % 128 < 65
  · rw [if_pos h1]
    exact (cat_at _ _ t _ _ 1 (by simp) 1 (extractStridedSlice S4096x16x1 ![0, 0, 0] ones slices_S4096x16x3_S4096x16x1_0_0_0) rfl 64 rfl ⟨B.val % 128 - 64, by omega⟩ (by show 64 + (B.val % 128 - 64) = B.val % 128; omega)).trans (by unfold extractStridedSlice; exact ones_apply _)
  rw [if_neg h1]
  exact (cat_at _ _ t _ _ 2 (by simp) 63 zeros63 rfl 65 rfl ⟨B.val % 128 - 65, by omega⟩ (by show 65 + (B.val % 128 - 65) = B.val % 128; omega)).trans (zeros63_apply _)

/-- The products summed over the lanes. -/
theorem sum_lanes (y : FVec Ideal S4096x16x64 .f32) {g : ℕ → ℕ → ℕ → ℝ} (hy : IsT 4096 16 64 y g) (t : Fin 4096) (h : Fin 16) :
    Host.reduceAdd y (constant (F := Ideal) S_ .f32 0x00000000#32) reducesTo_S4096x16x64_S4096x16_d2 h_S_ (ix2 t h) = ((∑ d ∈ Finset.range 64, g t h d : ℝ) : EReal) := by
  simp only [Host.reduceAdd, Ideal.hostReduceAdd_def]
  rw [Ideal.hostReduceAdd_single reducesTo_S4096x16x64_S4096x16_d2 (by decide)]
  rw [show (constant (F := Ideal) S_ .f32 0x00000000#32) (Shape.Idx.first h_S_) = (0 : EReal) from zero_f32, zero_add]
  rw [← coe_sum_fin]
  refine Finset.sum_congr rfl fun d _ => ?_
  refine Eq.trans (congrArg y (funext fun a => Fin.ext ?_)) (hy t h d)
  match a with
  | ⟨0, _⟩ => rfl
  | ⟨1, _⟩ => rfl
  | ⟨2, _⟩ => rfl

theorem packD_is (hx : IsT 4096 16 64 x f) {O : FVec Ideal S4096x2048 .f32} {o : ℕ → ℕ → ℝ} (ho : Is 4096 2048 O o) :
    Is 4096 2048 (packD x O) (vP f fun t h => - ∑ d ∈ Finset.range 64, f t h d * o t (128 * h + d)) := by
  intro t B
  have hy : IsT 4096 16 64 (mulf x (lanes O)) (fun t h d => f t h d * o t (128 * h + d)) := fun t h d => by
    show x (ix3 t h d) * lanes O (ix3 t h d) = _
    rw [hx t h d, lanes_apply, ho, ← EReal.coe_mul]
  unfold packD
  rw [flat_apply]
  unfold vP
  by_cases h0 : B.val % 128 < 64
  · rw [if_pos h0]
    exact (cat_at _ _ t _ _ 0 (by simp) 64 x rfl 0 rfl ⟨B.val % 128, h0⟩ (Nat.zero_add _)).trans (hx t _ _)
  rw [if_neg h0]
  by_cases h1 : B.val % 128 < 65
  · rw [if_pos h1]
    exact (cat_at _ _ t _ _ 1 (by simp) 1 (Host.negf (col (Host.reduceAdd (mulf x (lanes O)) (constant (F := Ideal) S_ .f32 0x00000000#32) reducesTo_S4096x16x64_S4096x16_d2 h_S_))) rfl 64 rfl ⟨B.val % 128 - 64, by omega⟩ (by show 64 + (B.val % 128 - 64) = B.val % 128; omega)).trans
      (neg_at _ _ _ ((col_apply _ _ _ _).trans (sum_lanes _ hy t _)))
  rw [if_neg h1]
  exact (cat_at _ _ t _ _ 2 (by simp) 63 zeros63 rfl 65 rfl ⟨B.val % 128 - 65, by omega⟩ (by show 65 + (B.val % 128 - 65) = B.val % 128; omega)).trans (zeros63_apply _)
end Reals

end Cert.Val
-- ==== Proof.Ref1.lean ====
module

public import proofs.«01_k».proof.Proof.Gen.ReferenceIdeal.Read
public import proofs.«01_k».proof.Proof.Val0
public import Idealize.ShloMosaic.Lib.IdealHost

/-! The reference read over the reals, first half: the causal weights of the attention, stage by stage. -/

@[expose] public section

set_option maxRecDepth 8192

noncomputable section

namespace Cert.Ref

open Idealize.ShloMosaic Idealize.ShloMosaic.ValueIdx
open Cert.ReferenceIdeal Cert.ReferenceIdeal.Gen Cert.ReferenceIdeal.Read
open Cert.Val (coe_sum coe_sum_fin zero_f32)
open scoped BigOperators

/-- The pattern of minus infinity. -/
theorem bot_f32 : (Ideal.ofBits .f32 0xFF800000#32 : EReal) = ⊥ := by simp [Ideal.ofBits, Ideal.ieee]

/-- The matrix `x` holds the reals `f` at every index. -/
def A2 {a b : ℕ} (x : (⟨2, ![a, b]⟩ : Shape).Idx → EReal) (f : ℕ → ℕ → ℝ) : Prop :=
  ∀ i, x i = ((f (i 0).val (i 1).val : ℝ) : EReal)

/-- The same of an array with three axes. -/
def A3 {a b c : ℕ} (x : (⟨3, ![a, b, c]⟩ : Shape).Idx → EReal) (f : ℕ → ℕ → ℕ → ℝ) : Prop :=
  ∀ i, x i = ((f (i 0).val (i 1).val (i 2).val : ℝ) : EReal)

/-- The logit of head `h` for query `t` and key `s`. -/
def L (q k : ℕ → ℕ → ℕ → ℝ) (w : ℕ → ℕ → ℝ) (h t s : ℕ) : ℝ :=
  (∑ d ∈ Finset.range 64, q t h d * k s h d) + (w t h - w s h)

/-- The exponential of the logit, where the key is not after the query. -/
def E (q k : ℕ → ℕ → ℕ → ℝ) (w : ℕ → ℕ → ℝ) (h t s : ℕ) : ℝ := if s ≤ t then Real.exp (L q k w h t s) else 0

/-- The sum of the exponentials of a row. -/
def Zr (q k : ℕ → ℕ → ℕ → ℝ) (w : ℕ → ℕ → ℝ) (h t : ℕ) : ℝ := ∑ s ∈ Finset.range 4096, E q k w h t s

/-- A row has at least its diagonal, so its sum is positive. -/
theorem Zr_pos (q k : ℕ → ℕ → ℕ → ℝ) (w : ℕ → ℕ → ℝ) (h t : ℕ) (ht : t < 4096) : 0 < Zr q k w h t := by
  refine Finset.sum_pos' (fun s _ => ?_) ⟨t, Finset.mem_range.2 ht, ?_⟩
  · unfold E; split
    · exact (Real.exp_pos _).le
    · exact le_rfl
  · unfold E; rw [if_pos le_rfl]; exact Real.exp_pos _

/-- A running maximum over extended reals below `⊤`, of which one is above `⊥`, is a real. -/
theorem foldl_max_real {ι : Type} (f : ι → EReal) (l : List ι) (a : EReal) (ha : a ≠ ⊤) (hf : ∀ n, f n ≠ ⊤)
    (h : a ≠ ⊥ ∨ ∃ n ∈ l, f n ≠ ⊥) : ∃ r : ℝ, l.foldl (fun r n => max r (f n)) a = (r : EReal) := by
  induction l generalizing a with
  | nil =>
    rcases h with h | ⟨n, hn, _⟩
    · exact ⟨a.toReal, (EReal.coe_toReal ha h).symm⟩
    · exact absurd hn (by simp)
  | cons b l ih =>
    rw [List.foldl_cons]
    refine ih _ (ne_of_lt (max_lt (lt_top_iff_ne_top.2 ha) (lt_top_iff_ne_top.2 (hf b)))) ?_
    rcases h with h | ⟨n, hn, hb⟩
    · exact Or.inl (ne_of_gt (lt_of_lt_of_le (bot_lt_iff_ne_bot.2 h) (le_max_left _ _)))
    · rcases List.mem_cons.1 hn with rfl | hn
      · exact Or.inl (ne_of_gt (lt_of_lt_of_le (bot_lt_iff_ne_bot.2 hb) (le_max_right _ _)))
      · exact Or.inr ⟨n, hn, hb⟩

section

variable {x0 x1 : FVec Ideal S4096x16x64 .f32} {x3 : FVec Ideal S4096x16 .f32}
  {q k : ℕ → ℕ → ℕ → ℝ} {w : ℕ → ℕ → ℝ}

/-- The products of queries and keys. -/
theorem v2_at (hq : A3 x0 q) (hk : A3 x1 k) :
    A3 (val_main_v2 (F := Ideal) x0 x1) (fun h t s => ∑ d ∈ Finset.range 64, q t h d * k s h d) := by
  intro i
  rw [val_main_v2_apply]
  refine Eq.trans (Finset.sum_congr rfl fun z _ => ?_) (coe_sum_fin 64 (fun d => q (i 1).val (i 0).val d * k (i 2).val (i 0).val d))
  rw [hq, hk]
  exact (EReal.coe_mul _ _).symm

theorem v1_at (hw : A2 x3 w) : A2 (val_main_v1 (F := Ideal) x3) (fun h t => w t h) := by
  intro i
  rw [val_main_v1_apply, hw]
theorem v5_at (hw : A2 x3 w) : A3 (val_main_v5 (F := Ideal) x3) (fun h t _ => w t h) := by
  intro i
  rw [val_main_v5_apply, val_main_v3_apply, v1_at hw]
theorem v6_at (hw : A2 x3 w) : A3 (val_main_v6 (F := Ideal) x3) (fun h _ s => w s h) := by
  intro i
  rw [val_main_v6_apply, val_main_v4_apply, v1_at hw]

/-- The logits. -/
theorem v8_at (hq : A3 x0 q) (hk : A3 x1 k) (hw : A2 x3 w) : A3 (val_main_v8 (F := Ideal) x0 x1 x3) (L q k w) := by
  intro i
  rw [val_main_v8_apply, val_main_v7_apply, v2_at hq hk, v5_at hw, v6_at hw]
  rfl

/-- The causal mask. -/
theorem mask_at (i : S16x4096x4096.Idx) :
    val_main_v14_1 (F := Ideal) i = if (i 2).val ≤ (i 1).val then 1#1 else 0#1 := by
  have h1 : (i 1).val < 4096 := (i 1).isLt
  have h2 : (i 2).val < 4096 := (i 2).isLt
  rw [val_main_v14_1_apply, val_main_v13_apply, val_main_v11_apply, val_main_v12_apply, val_main_v9_apply, val_main_v10_apply,
    val_main_v0_apply, val_main_v0_apply]
  show IntOp.cmpi .sle (BitVec.ofNat 32 (i 2).val) (BitVec.ofNat 32 (i 1).val) = _
  have e : (BitVec.ofNat 32 (i 2).val).sle (BitVec.ofNat 32 (i 1).val) = decide ((i 2).val ≤ (i 1).val) := by
    rw [BitVec.sle_eq_decide]
    congr 1
    erw [BitVec.toInt_ofNat, BitVec.toInt_ofNat]
    rw [Int.bmod_eq_of_le (by omega) (by omega), Int.bmod_eq_of_le (by omega) (by omega)]
    exact propext Int.ofNat_le
  show BitVec.ofBool ((BitVec.ofNat 32 (i 2).val).sle (BitVec.ofNat 32 (i 1).val)) = _
  rw [e]
  by_cases h : (i 2).val ≤ (i 1).val
  · rw [if_pos h, decide_eq_true h]; rfl
  · rw [if_neg h, decide_eq_false h]; rfl

/-- The masked logits. -/
theorem v14_at (hq : A3 x0 q) (hk : A3 x1 k) (hw : A2 x3 w) (i : S16x4096x4096.Idx) :
    val_main_v14_0 (F := Ideal) x0 x1 x3 i
      = if (i 2).val ≤ (i 1).val then ((L q k w (i 0).val (i 1).val (i 2).val : ℝ) : EReal) else ⊥ := by
  rw [val_main_v14_0_apply, mask_at, v8_at hq hk hw, val_main_call0_v2_apply, val_main_call0_v0_apply, val_main_cst_apply]
  by_cases h : (i 2).val ≤ (i 1).val
  · rw [if_pos h, if_pos h]; rfl
  · rw [if_neg h, if_neg h]; exact bot_f32

/-- The maximum of a row is a real. -/
theorem v15_real (hq : A3 x0 q) (hk : A3 x1 k) (hw : A2 x3 w) (h : Fin 16) (t : Fin 4096) :
    ∃ r : ℝ, val_main_v15 (F := Ideal) x0 x1 x3 (ix2 h t) = (r : EReal) := by
  unfold val_main_v15
  rw [Host.reduce_eq_foldl]
  refine foldl_max_real _ _ _ ?_ (fun n => ?_) (Or.inr ?_)
  · rw [val_main_cst_0_apply]
    exact fun e => absurd (bot_f32.symm.trans e) bot_ne_top
  · rw [v14_at hq hk hw]; split
    · exact EReal.coe_ne_top _
    · exact bot_ne_top
  · refine ⟨ix3 h t (⟨0, by omega⟩ : Fin 4096), ?_, ?_⟩
    · rw [List.mem_filter]
      refine ⟨List.mem_map.2 ⟨S16x4096x4096.rowMajor _, List.mem_finRange _, Equiv.symm_apply_apply _ _⟩, ?_⟩
      refine decide_eq_true (funext fun z => ?_)
      match z with
      | ⟨0, _⟩ => rfl
      | ⟨1, _⟩ => rfl
    · rw [v14_at hq hk hw, if_pos (Nat.zero_le _)]
      exact EReal.coe_ne_bot _

/-- The row maxima as reals. -/
theorem v22_real (hq : A3 x0 q) (hk : A3 x1 k) (hw : A2 x3 w) : ∃ M : ℕ → ℕ → ℝ, A2 (val_main_v22 (F := Ideal) x0 x1 x3) M := by
  choose g hg using v15_real hq hk hw
  refine ⟨fun h t => if e : h < 16 ∧ t < 4096 then g ⟨h, e.1⟩ ⟨t, e.2⟩ else 0, fun i => ?_⟩
  beta_reduce
  rw [dif_pos ⟨(i 0).isLt, (i 1).isLt⟩, val_main_v22_apply, val_main_v21_apply, val_main_cst_2_apply]
  have e : i = ix2 (⟨(i 0).val, (i 0).isLt⟩ : Fin 16) (⟨(i 1).val, (i 1).isLt⟩ : Fin 4096) :=
    funext fun z => by match z with | ⟨0, _⟩ => rfl | ⟨1, _⟩ => rfl
  refine Eq.trans ?_ (hg ⟨(i 0).val, (i 0).isLt⟩ ⟨(i 1).val, (i 1).isLt⟩)
  rw [← e]
  exact (congrArg₂ (max (α := EReal)) bot_f32 rfl).trans (max_eq_right bot_le)

variable {M : ℕ → ℕ → ℝ}

/-- The shifted exponentials. -/
theorem v35_at (hq : A3 x0 q) (hk : A3 x1 k) (hw : A2 x3 w) (hM : A2 (val_main_v22 (F := Ideal) x0 x1 x3) M) :
    A3 (val_main_v35 (F := Ideal) x0 x1 x3) (fun h t s => E q k w h t s * Real.exp (-M h t)) := by
  intro i
  rw [val_main_v35_apply, val_main_v34_apply, v14_at hq hk hw, val_main_v33_apply, val_main_v32_apply, hM]
  show Ideal.exp ((if (i 2).val ≤ (i 1).val then ((L q k w (i 0).val (i 1).val (i 2).val : ℝ) : EReal) else ⊥)
    - ((M (i 0).val (i 1).val : ℝ) : EReal)) = _
  unfold E
  beta_reduce
  by_cases h : (i 2).val ≤ (i 1).val
  · rw [if_pos h, if_pos h, ← EReal.coe_sub, Ideal.exp_coe, sub_eq_add_neg, Real.exp_add]
  · rw [if_neg h, if_neg h, EReal.bot_sub, Ideal.exp_bot, zero_mul, EReal.coe_zero]

/-- Their sums along a row. -/
theorem v36_at (hq : A3 x0 q) (hk : A3 x1 k) (hw : A2 x3 w) (hM : A2 (val_main_v22 (F := Ideal) x0 x1 x3) M) :
    A2 (val_main_v36 (F := Ideal) x0 x1 x3) (fun h t => Zr q k w h t * Real.exp (-M h t)) := by
  intro i
  rw [val_main_v36_apply, val_main_cst_8_apply]
  refine (congrArg₂ (· + ·) zero_f32 (Finset.sum_congr rfl fun z _ => v35_at hq hk hw hM _)).trans ?_
  rw [zero_add]
  refine (coe_sum_fin 4096 (fun s => E q k w (i 0).val (i 1).val s * Real.exp (-M (i 0).val (i 1).val))).trans ?_
  rw [← Finset.sum_mul]; rfl

theorem v37_at (hq : A3 x0 q) (hk : A3 x1 k) (hw : A2 x3 w) (hM : A2 (val_main_v22 (F := Ideal) x0 x1 x3) M) :
    A3 (val_main_v37 (F := Ideal) x0 x1 x3) (fun h t _ => Zr q k w h t * Real.exp (-M h t)) := by
  intro i
  rw [val_main_v37_apply, v36_at hq hk hw hM]

/-- The normalised weights. -/
theorem v39_at (hq : A3 x0 q) (hk : A3 x1 k) (hw : A2 x3 w) (hM : A2 (val_main_v22 (F := Ideal) x0 x1 x3) M) :
    A3 (val_main_v39 (F := Ideal) x0 x1 x3) (fun h t s => E q k w h t s / Zr q k w h t) := by
  intro i
  have hz := Zr_pos q k w (i 0).val (i 1).val (i 1).isLt
  have hy := Real.exp_pos (-M (i 0).val (i 1).val)
  rw [val_main_v39_apply, val_main_v38_apply, v35_at hq hk hw hM, v37_at hq hk hw hM]
  refine (Ideal.div_coe (mul_pos hz hy).ne' _).trans ?_
  rw [← EReal.coe_mul]
  refine congrArg _ ?_
  field_simp

/-- One over the square of a row's sum. -/
theorem v42_at (hq : A3 x0 q) (hk : A3 x1 k) (hw : A2 x3 w) (hM : A2 (val_main_v22 (F := Ideal) x0 x1 x3) M) :
    A3 (val_main_v42 (F := Ideal) x0 x1 x3) (fun h t _ => 1 / ((Zr q k w h t * Real.exp (-M h t)) * (Zr q k w h t * Real.exp (-M h t)))) := by
  intro i
  have hz := Zr_pos q k w (i 0).val (i 1).val (i 1).isLt
  have hy := Real.exp_pos (-M (i 0).val (i 1).val)
  rw [val_main_v42_apply, val_main_v40_apply, v37_at hq hk hw hM, val_main_v41_apply, val_main_cst_9_apply]
  refine (congrArg₂ Ideal.div (Ideal.ofBits_one_f32.trans EReal.coe_one.symm) (EReal.coe_mul _ _).symm).trans ?_
  refine (Ideal.div_coe (mul_pos (mul_pos hz hy) (mul_pos hz hy)).ne' _).trans ?_
  rw [← EReal.coe_mul, one_mul]

end

end Cert.Ref
-- ==== Proof.Pre.lean ====
module

public import proofs.«01_k».proof.Proof.Gen.Pre_finite
public import proofs.«01_k».proof.Proof.ValHost
public import proofs.«01_k».proof.Proof.Ref1
public import Idealize.ShloMosaic.Lib.ReduceAll

/-! The precondition, read: every entry of every argument is a real. -/

@[expose] public section

set_option maxRecDepth 8192

noncomputable section

namespace Cert.Pre

open Idealize.ShloMosaic Idealize.ShloMosaic.ValueIdx
open Cert.Pre_finite Cert.Pre_finite.Facts
open Cert.Val (Is IsT)
open Cert.Ref (A2 A3)

/-- The pattern of plus infinity. -/
theorem top_f32 : (Ideal.ofBits .f32 0x7F800000#32 : EReal) = ⊤ := by simp [Ideal.ofBits, Ideal.ieee]

/-- An extended real whose absolute value is below plus infinity is a real. -/
theorem real_of_abs (a : EReal) (h : Ideal.cmp .olt (max a (-a)) (Ideal.ofBits .f32 0x7F800000#32) = 1#1) : a = ((a.toReal : ℝ) : EReal) := by
  rw [top_f32] at h
  have h' : max a (-a) < ⊤ := by
    by_contra hn
    simp [Ideal.cmp, hn] at h
  refine (EReal.coe_toReal ?_ ?_).symm
  · rintro rfl; simp at h'
  · rintro rfl; simp at h'

instance : Subsingleton S_.Idx := ⟨fun a b => funext fun i => i.elim0⟩

variable [Facts]

/-- What the test of one argument says. -/
theorem all_real {s : Shape} {axes : List (Fin s.rank)} (x : FVec Ideal s .f32) (bc : S_.BroadcastsInDim s (![] : Fin 0 → Fin s.rank)) (h : s.ReducesTo axes S_) (j : S_.Idx)
    (e : Host.reduce IntOp.andi (cmpf .olt (Host.absf x) (broadcastInDim s ![] bc (constant (F := Ideal) S_ .f32 0x7F800000#32))) (constantI S_ 1 1#1) h h_S_ j = 1#1) (i : s.Idx) :
    x i = ((EReal.toReal (x i) : ℝ) : EReal) := by
  have := Host.reduce_andi_all _ _ h h_S_ j e i
  refine real_of_abs _ ?_
  refine Eq.trans ?_ this
  show _ = Ideal.cmp .olt _ _
  rw [broadcastInDim_scalar_apply bc]
  rfl

/-- The precondition holds only of arguments all of whose entries are reals. -/
theorem reals {x0 x1 x2 x4 : FVec Ideal S4096x16x64 .f32} {x3 : FVec Ideal S4096x16 .f32} (h : fn (F := Ideal) x0 x1 x2 x3 x4 = fun _ => 1#1) :
    (∀ i, x0 i = ((EReal.toReal (x0 i) : ℝ) : EReal)) ∧ (∀ i, x1 i = ((EReal.toReal (x1 i) : ℝ) : EReal)) ∧ (∀ i, x2 i = ((EReal.toReal (x2 i) : ℝ) : EReal))
      ∧ (∀ i, x3 i = ((EReal.toReal (x3 i) : ℝ) : EReal)) ∧ (∀ i, x4 i = ((EReal.toReal (x4 i) : ℝ) : EReal)) := by
  have h0 := congrFun h (Shape.Idx.first h_S_)
  unfold fn fn_part1 at h0
  obtain ⟨h3, e4⟩ := IntOp.andi_eq_one.1 h0
  obtain ⟨h2, e3⟩ := IntOp.andi_eq_one.1 h3
  obtain ⟨h1, e2⟩ := IntOp.andi_eq_one.1 h2
  obtain ⟨e0, e1⟩ := IntOp.andi_eq_one.1 h1
  exact ⟨all_real x0 _ _ _ e0, all_real x1 _ _ _ e1, all_real x2 _ _ _ e2, all_real x3 _ _ _ e3, all_real x4 _ _ _ e4⟩

/-- An array of reals, as a function of the coordinates. -/
theorem exists3 (x : FVec Ideal S4096x16x64 .f32) (h : ∀ i, x i = ((EReal.toReal (x i) : ℝ) : EReal)) :
    ∃ f : ℕ → ℕ → ℕ → ℝ, IsT 4096 16 64 x f ∧ A3 x f := by
  let f : ℕ → ℕ → ℕ → ℝ := fun a b c => if e : a < 4096 ∧ b < 16 ∧ c < 64 then EReal.toReal (x (ix3 (⟨a, e.1⟩ : Fin 4096) (⟨b, e.2.1⟩ : Fin 16) (⟨c, e.2.2⟩ : Fin 64))) else 0
  have hf : IsT 4096 16 64 x f := fun a b c => by
    refine (h _).trans (congrArg _ ?_)
    show _ = dite _ _ _
    rw [dif_pos ⟨a.isLt, b.isLt, c.isLt⟩]
  refine ⟨f, hf, fun i => ?_⟩
  refine Eq.trans (congrArg x (funext fun z => ?_)) (hf ⟨(i 0).val, (i 0).isLt⟩ ⟨(i 1).val, (i 1).isLt⟩ ⟨(i 2).val, (i 2).isLt⟩)
  match z with
  | ⟨0, _⟩ => rfl
  | ⟨1, _⟩ => rfl
  | ⟨2, _⟩ => rfl

theorem exists2 (x : FVec Ideal S4096x16 .f32) (h : ∀ i, x i = ((EReal.toReal (x i) : ℝ) : EReal)) :
    ∃ f : ℕ → ℕ → ℝ, Is 4096 16 x f ∧ A2 x f := by
  let f : ℕ → ℕ → ℝ := fun a b => if e : a < 4096 ∧ b < 16 then EReal.toReal (x (ix2 (⟨a, e.1⟩ : Fin 4096) (⟨b, e.2⟩ : Fin 16))) else 0
  have hf : Is 4096 16 x f := fun a b => by
    refine (h _).trans (congrArg _ ?_)
    show _ = dite _ _ _
    rw [dif_pos ⟨a.isLt, b.isLt⟩]
  exact ⟨f, hf, fun i => hf.at i⟩

end Cert.Pre
-- ==== Proof.ValRun.lean ====
module

public import proofs.«01_k».proof.Proof.Run
public import proofs.«01_k».proof.Proof.ValHost

/-! What the operations around the two kernels write: the padded arrays, and the results read from the padded gradients. -/

@[expose] public section

set_option maxRecDepth 8192

noncomputable section

namespace Cert.Val

open Idealize.ShloMosaic Idealize.ShloMosaic.TcCoe Idealize.ShloMosaic.ValueIdx
open Cert.KernelIdeal Cert.KernelIdeal.Gen Cert.KernelIdeal.Run

variable (m : (ℓ : Loc nD τ sig) → Buf (Elt Ideal) ℓ) (ρ : Dev nD → PrngReg) (c : Dev nD)

/-- The gradient of the cumulative decay, from the padded gradients' lanes 64 and 67. -/
def diff (Q K : FVec Ideal S4096x2048 .f32) : FVec Ideal S4096x16 .f32 :=
  subf (shapeCast S4096x16 (extractStridedSlice S4096x16x1 ![0, 0, 64] (heads Q) slices_S4096x16x128_S4096x16x1_0_0_64) shapeCasts_S4096x16x1_S4096x16)
    (shapeCast S4096x16 (extractStridedSlice S4096x16x1 ![0, 0, 67] (heads K) slices_S4096x16x128_S4096x16x1_0_0_67) shapeCasts_S4096x16x1_S4096x16)

/-- The queries as the kernels read them. -/
theorem V1_Q : V1 m ρ c main_v15 = packQ (W0 m ρ c main_arg0) (W0 m ρ c main_arg3) := by
  show StableHlo.after hostOps0 (W0 m ρ c) _ = _
  after_results
  rfl

/-- The keys. -/
theorem V1_K : V1 m ρ c main_v22 = packK (W0 m ρ c main_arg1) (W0 m ρ c main_arg3) := by
  show StableHlo.after hostOps0 (W0 m ρ c) _ = _
  after_results
  rfl

/-- The values. -/
theorem V1_V : V1 m ρ c main_v27 = packV (W0 m ρ c main_arg2) := by
  show StableHlo.after hostOps0 (W0 m ρ c) _ = _
  after_results
  rfl

/-- The incoming gradient. -/
theorem V3_D : V3 m ρ c main_v38 = packD (W2 m ρ c main_arg4) (W2 m ρ c main_v28) := by
  show StableHlo.after hostOps1 (W2 m ρ c) _ = _
  after_results
  rfl

theorem W5_q : W5 m ρ c main_v43 = lanes (W4 m ρ c main_v39_0) := by
  show StableHlo.after hostOps2 (W4 m ρ c) _ = _
  after_results
  rfl
theorem W5_k : W5 m ρ c main_v44 = lanes (W4 m ρ c main_v39_1) := by
  show StableHlo.after hostOps2 (W4 m ρ c) _ = _
  after_results
  rfl
theorem W5_v : W5 m ρ c main_v45 = lanes (W4 m ρ c main_v39_2) := by
  show StableHlo.after hostOps2 (W4 m ρ c) _ = _
  after_results
  rfl
theorem W5_w : W5 m ρ c main_v50 = diff (W4 m ρ c main_v39_0) (W4 m ρ c main_v39_1) := by
  show StableHlo.after hostOps2 (W4 m ρ c) _ = _
  after_results
  rfl

end Cert.Val
-- ==== Proof.ValBwd1.lean ====
/- The backward attention call, one tile of one head: what its products leave, in reals. -/
module

public import proofs.«01_k».proof.Proof.Val0
public import Idealize.ShloMosaic.Lib.Pipeline.Value

@[expose] public section

set_option maxRecDepth 8192

noncomputable section

namespace Cert.Val

open Idealize.ShloMosaic Idealize.ShloMosaic.VecWindow Idealize.ShloMosaic.ValueIdx
open Cert.KernelIdeal Cert.KernelIdeal.Gen
open scoped BigOperators

/-- A small number's word, read as a signed integer, is the number. -/
theorem toInt_word (n : ℕ) (h : n < 2 ^ 31) : (BitVec.ofNat 32 n).toInt = (n : ℤ) := by
  rw [BitVec.toInt_eq_toNat_of_lt] <;> rw [BitVec.toNat_ofNat, Nat.mod_eq_of_lt (by omega)]
  omega

/-- Comparing the words of small numbers compares the numbers. -/
theorem sle_word (m n : ℕ) (hm : m < 2 ^ 31) (hn : n < 2 ^ 31) :
    IntOp.cmpi .sle (BitVec.ofNat 32 m) (BitVec.ofNat 32 n) = if m ≤ n then 1#1 else 0#1 := by
  show BitVec.ofBool ((BitVec.ofNat 32 m).sle (BitVec.ofNat 32 n)) = _
  rw [BitVec.sle_eq_decide, toInt_word m hm, toInt_word n hn]
  by_cases h : m ≤ n
  · rw [if_pos h, decide_eq_true (by exact_mod_cast h)]; rfl
  · rw [if_neg h, decide_eq_false (by exact_mod_cast h)]; rfl

/-- The mask stands for negative infinity. -/
theorem mask_bot : (Named.named (F := Ideal) κ "mask" (φ := .f32) 0xF149F2CA#32 : EReal) = ⊥ := rfl

/-- A select on the diagonal tile takes its first operand on and below the diagonal. -/
theorem diagonal {α : Type} (x y : S512x512.Idx → α) (a b : Fin 512) :
    select (cmpi .sle (iota .tc S512x512 32 [1] iota_S512x512_d1_w32) (iota .tc S512x512 32 [0] iota_S512x512_d0_w32)) x y (ix2 a b)
      = if b.val ≤ a.val then x (ix2 a b) else y (ix2 a b) := by
  have e : cmpi .sle (iota .tc S512x512 32 [1] iota_S512x512_d1_w32) (iota .tc S512x512 32 [0] iota_S512x512_d0_w32) (ix2 a b)
      = if b.val ≤ a.val then 1#1 else 0#1 := by
    show IntOp.cmpi .sle (iota .tc S512x512 32 [1] iota_S512x512_d1_w32 (ix2 a b)) (iota .tc S512x512 32 [0] iota_S512x512_d0_w32 (ix2 a b)) = _
    rw [iota_single_apply, iota_single_apply]
    exact sle_word b.val a.val (by omega) (by omega)
  rw [select_apply, e]
  by_cases h : b.val ≤ a.val
  · rw [if_pos h, if_pos h]; rfl
  · rw [if_neg h, if_neg h]; rfl

section
variable {k v q d : FVec Ideal S512x128 .bf16} {o : Vec Ideal S512x1 .f32} {fk fv fq fd fo : ℕ → ℕ → ℝ}

/-- The scores of a tile: queries by keys. -/
def sco (fq fk : ℕ → ℕ → ℝ) (a b : ℕ) : ℝ := ∑ l ∈ Finset.range 128, fq a l * fk b l
/-- The weights of a tile off the diagonal. -/
def wgt (fq fk fo : ℕ → ℕ → ℝ) (a b : ℕ) : ℝ := Real.exp (sco fq fk a b - fo a 0)
/-- The weights of the tile on the diagonal. -/
def wgtD (fq fk fo : ℕ → ℕ → ℝ) (a b : ℕ) : ℝ := if b ≤ a then Real.exp (sco fq fk a b - fo a 0) else 0

theorem pay22 (hk : Is 512 128 k fk) (hq : Is 512 128 q fq) (ho : Is 512 1 o fo) : Is 512 512 (k1_pay22 k q o) (wgt fq fk fo) := by
  unfold k1_pay22 k1_pay18
  simp only [shapeCast_self]
  exact ((hq.nt hk).sub (ho.spread _)).exp
theorem pay24 (hk : Is 512 128 k fk) (hq : Is 512 128 q fq) (hd : Is 512 128 d fd) (ho : Is 512 1 o fo) :
    Is 512 128 (k1_pay24 k q d o) (fun a b => ∑ l ∈ Finset.range 512, wgt fq fk fo l a * fd l b) := by
  unfold k1_pay24 k1_pay20
  simp only [shapeCast_self]
  exact (pay22 hk hq ho).trunc.tn hd
theorem pay26 (hk : Is 512 128 k fk) (hv : Is 512 128 v fv) (hq : Is 512 128 q fq) (hd : Is 512 128 d fd) (ho : Is 512 1 o fo) :
    Is 512 512 (k1_pay26 k v q d o) (fun a b => wgt fq fk fo a b * sco fd fv a b) := by
  unfold k1_pay26 k1_pay20
  simp only [shapeCast_self]
  exact ((pay22 hk hq ho).mul (hd.nt hv)).trunc
theorem pay28 (hk : Is 512 128 k fk) (hv : Is 512 128 v fv) (hq : Is 512 128 q fq) (hd : Is 512 128 d fd) (ho : Is 512 1 o fo) :
    Is 512 128 (k1_pay28 k v q d o) (fun a b => ∑ l ∈ Finset.range 512, (wgt fq fk fo l a * sco fd fv l a) * fq l b) := by
  unfold k1_pay28 k1_pay18
  simp only [shapeCast_self]
  exact (pay26 hk hv hq hd ho).tn hq
theorem pay30 (hk : Is 512 128 k fk) (hv : Is 512 128 v fv) (hq : Is 512 128 q fq) (hd : Is 512 128 d fd) (ho : Is 512 1 o fo) :
    Is 512 128 (k1_pay30 k v q d o) (fun a b => ∑ l ∈ Finset.range 512, (wgt fq fk fo a l * sco fd fv a l) * fk l b) := by
  unfold k1_pay30
  exact (pay26 hk hv hq hd ho).nn hk
theorem pay25 (hk : Is 512 128 k fk) (hq : Is 512 128 q fq) (hd : Is 512 128 d fd) (ho : Is 512 1 o fo) :
    Is 512 128 (k1_pay25 k q d o) (fun a b => ∑ l ∈ Finset.range 512, wgt fq fk fo l a * fd l b) := pay24 hk hq hd ho
theorem pay29 (hk : Is 512 128 k fk) (hv : Is 512 128 v fv) (hq : Is 512 128 q fq) (hd : Is 512 128 d fd) (ho : Is 512 1 o fo) :
    Is 512 128 (k1_pay29 k v q d o) (fun a b => ∑ l ∈ Finset.range 512, (wgt fq fk fo l a * sco fd fv l a) * fq l b) := pay28 hk hv hq hd ho
theorem pay31 (hk : Is 512 128 k fk) (hv : Is 512 128 v fv) (hq : Is 512 128 q fq) (hd : Is 512 128 d fd) (ho : Is 512 1 o fo) :
    Is 512 128 (k1_pay31 k v q d o) (fun a b => ∑ l ∈ Finset.range 512, (wgt fq fk fo a l * sco fd fv a l) * fk l b) := pay30 hk hv hq hd ho

/-! ## The tile on the diagonal -/

theorem pay59 (hk : Is 512 128 k fk) (hq : Is 512 128 q fq) (ho : Is 512 1 o fo) : Is 512 512 (k1_pay59 k q o) (wgtD fq fk fo) := by
  intro a b
  unfold k1_pay59
  simp only [shapeCast_self]
  show Ideal.exp (select _ _ _ (ix2 a b)) = _
  rw [diagonal, wgtD]
  by_cases h : b.val ≤ a.val
  · rw [if_pos h, if_pos h, (hq.nt hk).sub (ho.spread _) a b, Ideal.exp_coe]; rfl
  · rw [if_neg h, if_neg h]
    show Ideal.exp (Named.named (F := Ideal) κ "mask" (φ := .f32) 0xF149F2CA#32) = _
    rw [mask_bot]; exact Ideal.exp_bot
theorem pay60 (hk : Is 512 128 k fk) (hq : Is 512 128 q fq) (hd : Is 512 128 d fd) (ho : Is 512 1 o fo) :
    Is 512 128 (k1_pay60 k q d o) (fun a b => ∑ l ∈ Finset.range 512, wgtD fq fk fo l a * fd l b) := by
  unfold k1_pay60
  exact (pay59 hk hq ho).trunc.tn hd
theorem pay62 (hk : Is 512 128 k fk) (hv : Is 512 128 v fv) (hq : Is 512 128 q fq) (hd : Is 512 128 d fd) (ho : Is 512 1 o fo) :
    Is 512 512 (k1_pay62 k v q d o) (fun a b => wgtD fq fk fo a b * sco fd fv a b) := by
  unfold k1_pay62
  exact ((pay59 hk hq ho).mul (hd.nt hv)).trunc
theorem pay64 (hk : Is 512 128 k fk) (hv : Is 512 128 v fv) (hq : Is 512 128 q fq) (hd : Is 512 128 d fd) (ho : Is 512 1 o fo) :
    Is 512 128 (k1_pay64 k v q d o) (fun a b => ∑ l ∈ Finset.range 512, (wgtD fq fk fo l a * sco fd fv l a) * fq l b) := by
  unfold k1_pay64
  exact (pay62 hk hv hq hd ho).tn hq
theorem pay66 (hk : Is 512 128 k fk) (hv : Is 512 128 v fv) (hq : Is 512 128 q fq) (hd : Is 512 128 d fd) (ho : Is 512 1 o fo) :
    Is 512 128 (k1_pay66 k v q d o) (fun a b => ∑ l ∈ Finset.range 512, (wgtD fq fk fo a l * sco fd fv a l) * fk l b) := by
  unfold k1_pay66
  exact (pay62 hk hv hq hd ho).nn hk
theorem pay63 (hk : Is 512 128 k fk) (hv : Is 512 128 v fv) (hq : Is 512 128 q fq) (hd : Is 512 128 d fd) (ho : Is 512 1 o fo) :
    Is 512 128 (k1_pay63 (k1_pay51 v) (k1_pay53 q) (k1_pay55 d) (k1_pay57 k q) o) (fun a b => ∑ l ∈ Finset.range 512, (wgtD fq fk fo l a * sco fd fv l a) * fq l b) := by
  have e : k1_pay63 (k1_pay51 v) (k1_pay53 q) (k1_pay55 d) (k1_pay57 k q) o = k1_pay64 k v q d o := by
    unfold k1_pay63 k1_pay61 k1_pay58 k1_pay57 k1_pay64 k1_pay62 k1_pay59 k1_pay51 k1_pay53 k1_pay55 k1_pay49
    simp only [shapeCast_self]
  rw [e]; exact pay64 hk hv hq hd ho
theorem pay65 (hk : Is 512 128 k fk) (hv : Is 512 128 v fv) (hq : Is 512 128 q fq) (hd : Is 512 128 d fd) (ho : Is 512 1 o fo) :
    Is 512 128 (k1_pay65 (k1_pay49 k) (k1_pay51 v) (k1_pay55 d) (k1_pay57 k q) o) (fun a b => ∑ l ∈ Finset.range 512, (wgtD fq fk fo a l * sco fd fv a l) * fk l b) := by
  have e : k1_pay65 (k1_pay49 k) (k1_pay51 v) (k1_pay55 d) (k1_pay57 k q) o = k1_pay66 k v q d o := by
    unfold k1_pay65 k1_pay61 k1_pay58 k1_pay57 k1_pay66 k1_pay62 k1_pay59 k1_pay51 k1_pay53 k1_pay55 k1_pay49
    simp only [shapeCast_self]
  rw [e]; exact pay66 hk hv hq hd ho
theorem pay67 {w : FVec Ideal S512x128 .f32} {fw : ℕ → ℕ → ℝ} (hk : Is 512 128 k fk) (hq : Is 512 128 q fq) (hd : Is 512 128 d fd) (ho : Is 512 1 o fo) (hw : Is 512 128 w fw) :
    Is 512 128 (k1_pay67 (k1_pay55 d) (k1_pay57 k q) o w) (fun a b => fw a b + ∑ l ∈ Finset.range 512, wgtD fq fk fo l a * fd l b) := by
  have e : k1_pay67 (k1_pay55 d) (k1_pay57 k q) o w = addf w (k1_pay60 k q d o) := by
    unfold k1_pay67 k1_pay58 k1_pay57 k1_pay60 k1_pay59 k1_pay55 k1_pay53 k1_pay49
    simp only [shapeCast_self]
  rw [e]; exact hw.add (pay60 hk hq hd ho)
end

/-- An accumulation: the old contents and the contribution. -/
theorem pay6 {x w : FVec Ideal S512x128 .f32} {fx fw : ℕ → ℕ → ℝ} (hx : Is 512 128 x fx) (hw : Is 512 128 w fw) :
    Is 512 128 (k1_pay6 x w) (fun a b => fw a b + fx a b) := by
  unfold k1_pay6
  simp only [shapeCast_self]
  exact hw.add hx
theorem pay1 {x w : FVec Ideal S512x128 .f32} {fx fw : ℕ → ℕ → ℝ} (hx : Is 512 128 x fx) (hw : Is 512 128 w fw) :
    Is 512 128 (k1_pay1 x (k1_pay68 w)) (fun a b => fw a b + fx a b) := by
  unfold k1_pay1 k1_pay68
  simp only [shapeCast_self]
  exact hw.add hx

/-- The zero blocks the sums start from. -/
theorem pay46 : Is 4096 256 (k1_pay46 (F := Ideal)) (fun _ _ => 0) := fun a b => by
  show Ideal.ofBits .f32 0x00000000#32 = _
  rw [zero_f32]; rfl
theorem pay47 : Is 512 256 (k1_pay47 (F := Ideal)) (fun _ _ => 0) := fun a b => by
  show Ideal.ofBits .f32 0x00000000#32 = _
  rw [zero_f32]; rfl
theorem pay48 : Is 512 256 (k1_pay48 (F := Ideal)) (fun _ _ => 0) := pay47

end Cert.Val
-- ==== Proof.ValBwd2.lean ====
/- The backward attention call, one grid point: what its loop over query tiles leaves in the three gradient buffers, in reals. -/
module

public import proofs.«01_k».proof.Proof.ValBwd1

@[expose] public section

set_option maxRecDepth 8192

noncomputable section

namespace Cert.Val

open Idealize.ShloMosaic Idealize.ShloMosaic.VecWindow Idealize.ShloMosaic.ValueIdx
open Cert.KernelIdeal Cert.KernelIdeal.Gen Cert.KernelIdeal.Bwd
open scoped BigOperators

/-- The score of query row `t` and key row `s` in the head whose lanes begin at `c`. -/
def S (qf kf : ℕ → ℕ → ℝ) (c t s : ℕ) : ℝ := ∑ l ∈ Finset.range 128, qf t (c + l) * kf s (c + l)
/-- The attention weight: the exponential of the score less the row's logarithm of the sum, below the diagonal. -/
def P (qf kf of : ℕ → ℕ → ℝ) (c t s : ℕ) : ℝ := if s ≤ t then Real.exp (S qf kf c t s - of t (c + 64)) else 0
/-- The gradient of the score. -/
def D (qf kf vf df of : ℕ → ℕ → ℝ) (c t s : ℕ) : ℝ := P qf kf of c t s * S df vf c t s
/-- The first lane of the head that lane `b` lies in. -/
def hd (b : ℕ) : ℕ := 128 * (b / 128)

theorem hd_lo (b : ℕ) (h : b < 128) : hd (0 + b) = 0 := by unfold hd; omega
theorem hd_hi (b : ℕ) (h : b < 128) : hd (128 + b) = 128 := by unfold hd; omega

section Tile
variable {k v q d : FVec Ideal S512x128 .bf16} {o : Vec Ideal S512x1 .f32} {qf kf vf df of : ℕ → ℕ → ℝ} {U T c oc : ℕ}

theorem wgt_eq (hoc : oc = c + 64) (a b : ℕ) (h : U + b ≤ T + a) :
    wgt (fun a b => qf (T + a) (c + b)) (fun a b => kf (U + a) (c + b)) (fun a b => of (T + a) (oc + b)) a b = P qf kf of c (T + a) (U + b) := by
  subst hoc; unfold wgt P; rw [if_pos h]; rfl
theorem wgtD_eq (hoc : oc = c + 64) (a b : ℕ) :
    wgtD (fun a b => qf (U + a) (c + b)) (fun a b => kf (U + a) (c + b)) (fun a b => of (U + a) (oc + b)) a b = P qf kf of c (U + a) (U + b) := by
  subst hoc; unfold wgtD P
  by_cases h : b ≤ a
  · rw [if_pos h, if_pos (by omega)]; rfl
  · rw [if_neg h, if_neg (by omega)]

variable (hoc : oc = c + 64) (hk : Is 512 128 k (fun a b => kf (U + a) (c + b))) (hv : Is 512 128 v (fun a b => vf (U + a) (c + b)))
  (hq : Is 512 128 q (fun a b => qf (T + a) (c + b))) (hd : Is 512 128 d (fun a b => df (T + a) (c + b))) (ho : Is 512 1 o (fun a b => of (T + a) (oc + b)))
include hoc hk hv hq hd ho

theorem tile_dq (h : U + 512 ≤ T) : Is 512 128 (k1_pay30 k v q d o) (fun a b => ∑ l ∈ Finset.range 512, D qf kf vf df of c (T + a) (U + l) * kf (U + l) (c + b)) :=
  (pay30 hk hv hq hd ho).congr fun a b _ _ => Finset.sum_congr rfl fun l hl => by
    have := Finset.mem_range.1 hl
    rw [wgt_eq hoc a l (by omega)]; rfl
theorem tile_dk (h : U + 512 ≤ T) : Is 512 128 (k1_pay28 k v q d o) (fun a b => ∑ l ∈ Finset.range 512, D qf kf vf df of c (T + l) (U + a) * qf (T + l) (c + b)) :=
  (pay28 hk hv hq hd ho).congr fun a b ha _ => Finset.sum_congr rfl fun l hl => by
    rw [wgt_eq hoc l a (by omega)]; rfl
theorem tile_dv (h : U + 512 ≤ T) : Is 512 128 (k1_pay24 k q d o) (fun a b => ∑ l ∈ Finset.range 512, P qf kf of c (T + l) (U + a) * df (T + l) (c + b)) :=
  (pay24 hk hq hd ho).congr fun a b ha _ => Finset.sum_congr rfl fun l hl => by
    rw [wgt_eq hoc l a (by omega)]
theorem tileD_dq (h : T = U) : Is 512 128 (k1_pay66 k v q d o) (fun a b => ∑ l ∈ Finset.range 512, D qf kf vf df of c (T + a) (U + l) * kf (U + l) (c + b)) := by
  subst h
  exact (pay66 hk hv hq hd ho).congr fun a b _ _ => Finset.sum_congr rfl fun l hl => by rw [wgtD_eq hoc a l]; rfl
theorem tileD_dk (h : T = U) : Is 512 128 (k1_pay64 k v q d o) (fun a b => ∑ l ∈ Finset.range 512, D qf kf vf df of c (T + l) (U + a) * qf (T + l) (c + b)) := by
  subst h
  exact (pay64 hk hv hq hd ho).congr fun a b ha _ => Finset.sum_congr rfl fun l hl => by rw [wgtD_eq hoc l a]; rfl
theorem tileD_dv (h : T = U) : Is 512 128 (k1_pay60 k q d o) (fun a b => ∑ l ∈ Finset.range 512, P qf kf of c (T + l) (U + a) * df (T + l) (c + b)) := by
  subst h
  exact (pay60 hk hq hd ho).congr fun a b ha _ => Finset.sum_congr rfl fun l hl => by rw [wgtD_eq hoc l a]
theorem tileD_dq' (h : T = U) : Is 512 128 (k1_pay65 (k1_pay49 k) (k1_pay51 v) (k1_pay55 d) (k1_pay57 k q) o) (fun a b => ∑ l ∈ Finset.range 512, D qf kf vf df of c (T + a) (U + l) * kf (U + l) (c + b)) := by
  subst h
  exact (pay65 hk hv hq hd ho).congr fun a b _ _ => Finset.sum_congr rfl fun l hl => by rw [wgtD_eq hoc a l]; rfl
theorem tileD_dk' (h : T = U) : Is 512 128 (k1_pay63 (k1_pay51 v) (k1_pay53 q) (k1_pay55 d) (k1_pay57 k q) o) (fun a b => ∑ l ∈ Finset.range 512, D qf kf vf df of c (T + l) (U + a) * qf (T + l) (c + b)) := by
  subst h
  exact (pay63 hk hv hq hd ho).congr fun a b ha _ => Finset.sum_congr rfl fun l hl => by rw [wgtD_eq hoc l a]; rfl
theorem tileD_dv' {w : FVec Ideal S512x128 .f32} {fw : ℕ → ℕ → ℝ} (hw : Is 512 128 w fw) (h : T = U) :
    Is 512 128 (k1_pay67 (k1_pay55 d) (k1_pay57 k q) o w) (fun a b => fw a b + ∑ l ∈ Finset.range 512, P qf kf of c (T + l) (U + a) * df (T + l) (c + b)) := by
  subst h
  exact (pay67 hk hq hd ho hw).congr fun a b ha _ => congrArg _ (Finset.sum_congr rfl fun l hl => by rw [wgtD_eq hoc l a])
end Tile

/-- The three gradient buffers hold the given reals. -/
structure Holds (s : St Ideal) (dq dk dv : ℕ → ℕ → ℝ) : Prop where
  dq : Is 4096 256 s.dq dq
  dk0 : Is 512 128 s.dk0 (fun a b => dk a (0 + b))
  dk1 : Is 512 128 s.dk1 (fun a b => dk a (128 + b))
  dv0 : Is 512 128 s.dv0 (fun a b => dv a (0 + b))
  dv1 : Is 512 128 s.dv1 (fun a b => dv a (128 + b))

theorem Holds.congr {s : St Ideal} {dq dk dv dq' dk' dv' : ℕ → ℕ → ℝ} (h : Holds s dq dk dv) (eq : ∀ t b, t < 4096 → b < 256 → dq t b = dq' t b)
    (ek : ∀ a b, a < 512 → b < 256 → dk a b = dk' a b) (ev : ∀ a b, a < 512 → b < 256 → dv a b = dv' a b) : Holds s dq' dk' dv' where
  dq := h.dq.congr eq
  dk0 := h.dk0.congr fun a b ha hb => ek a _ ha (by omega)
  dk1 := h.dk1.congr fun a b ha hb => ek a _ ha (by omega)
  dv0 := h.dv0.congr fun a b ha hb => ev a _ ha (by omega)
  dv1 := h.dv1.congr fun a b ha hb => ev a _ ha (by omega)

/-- Two stores to the two halves of a run of 512 rows. -/
theorem put_two {x : Vec Ideal S4096x256 .f32} {w0 w1 : Vec Ideal S512x128 .f32} {f g : ℕ → ℕ → ℝ} {T : ℕ} {off off' : Fin 2 → ℕ}
    (hx : Is 4096 256 x f) (e : off = ![T, 0]) (e' : off' = ![T, 128])
    (h0 : Is 512 128 w0 (fun a b => f (T + a) (0 + b) + g (T + a) (0 + b))) (h1 : Is 512 128 w1 (fun a b => f (T + a) (128 + b) + g (T + a) (128 + b))) :
    Is 4096 256 (put (put x off S512x128.size w0) off' S512x128.size w1) (fun t b => if T ≤ t ∧ t < T + 512 then f t b + g t b else f t b) := by
  refine Is.congr (Is.put (Is.put hx h0 off e) h1 off' e') fun t b ht hb => ?_
  beta_reduce
  by_cases hT : T ≤ t ∧ t < T + 512
  · rw [if_pos hT]
    by_cases hb' : b < 128
    · rw [if_neg (by omega), if_pos (by omega), show T + (t - T) = t by omega, show 0 + (b - 0) = b by omega]
    · rw [if_pos (by omega), show T + (t - T) = t by omega, show 128 + (b - 128) = b by omega]
  · rw [if_neg hT, if_neg (by omega), if_neg (by omega)]

section Pass
variable (i : grid1.Coords) {xk xv : Vec Ideal S512x256 .bf16} {xq xdo : Vec Ideal S4096x256 .bf16} {xo : Vec Ideal S4096x256 .f32}
  {v8 v10 v12 v14 : FVec Ideal S512x128 .bf16} {qf kf vf df of : ℕ → ℕ → ℝ} {j : ℕ}

/-- What one pass adds. -/
theorem pass_holds (hj : (i 1).val = j) (k : Fin (k1_t1_loop i).trips)
    (h8 : Is 512 128 v8 (fun a b => kf (512 * j + a) (0 + b))) (h10 : Is 512 128 v10 (fun a b => kf (512 * j + a) (128 + b)))
    (h12 : Is 512 128 v12 (fun a b => vf (512 * j + a) (0 + b))) (h14 : Is 512 128 v14 (fun a b => vf (512 * j + a) (128 + b)))
    (hq : Is 4096 256 xq qf) (hdo : Is 4096 256 xdo df) (ho : Is 4096 256 xo of)
    {s : St Ideal} {dq dk dv : ℕ → ℕ → ℝ} (h : Holds s dq dk dv) :
    Holds (pass i v8 v10 v12 v14 xq xdo xo k s)
      (fun t b => if 512 * j + 512 * k.val + 512 ≤ t ∧ t < 512 * j + 512 * k.val + 512 + 512 then dq t b + ∑ l ∈ Finset.range 512, D qf kf vf df of (hd b) t (512 * j + l) * kf (512 * j + l) b else dq t b)
      (fun a b => dk a b + ∑ l ∈ Finset.range 512, D qf kf vf df of (hd b) (512 * j + 512 * k.val + 512 + l) (512 * j + a) * qf (512 * j + 512 * k.val + 512 + l) b)
      (fun a b => dv a b + ∑ l ∈ Finset.range 512, P qf kf of (hd b) (512 * j + 512 * k.val + 512 + l) (512 * j + a) * df (512 * j + 512 * k.val + 512 + l) b) := by
  subst hj
  have q0 := hq.window (R' := 512) (C' := 128) _ (k1_off5_inb i k) (k1_off5_eq i k)
  have q1 := hq.window (R' := 512) (C' := 128) _ (k1_off6_inb i k) (k1_off6_eq i k)
  have d0 := hdo.window (R' := 512) (C' := 128) _ (k1_off5_inb i k) (k1_off5_eq i k)
  have d1 := hdo.window (R' := 512) (C' := 128) _ (k1_off6_inb i k) (k1_off6_eq i k)
  have o0 := ho.window (R' := 512) (C' := 1) _ (k1_off7_inb i k) (k1_off7_eq i k)
  have o1 := ho.window (R' := 512) (C' := 1) _ (k1_off8_inb i k) (k1_off8_eq i k)
  have w0 := h.dq.window (R' := 512) (C' := 128) _ (k1_off5_inb i k) (k1_off5_eq i k)
  have w1 := h.dq.window (R' := 512) (C' := 128) _ (k1_off6_inb i k) (k1_off6_eq i k)
  constructor
  · dsimp only [pass]
    refine put_two (g := fun t b => ∑ l ∈ Finset.range 512, D qf kf vf df of (hd b) t (512 * (i 1).val + l) * kf (512 * (i 1).val + l) b) h.dq (k1_off5_eq i k) (k1_off6_eq i k) ?_ ?_
    · refine Is.congr (pay6 (tile_dq rfl h8 h12 q0 d0 o0 (by omega)) w0) fun a b ha hb => ?_
      beta_reduce; rw [hd_lo b hb]
    · refine Is.congr (pay6 (tile_dq rfl h10 h14 q1 d1 o1 (by omega)) w1) fun a b ha hb => ?_
      beta_reduce; rw [hd_hi b hb]
  · refine Is.congr (pay6 (tile_dk rfl h8 h12 q0 d0 o0 (by omega)) h.dk0) fun a b ha hb => ?_
    beta_reduce; rw [hd_lo b hb]
  · refine Is.congr (pay6 (tile_dk rfl h10 h14 q1 d1 o1 (by omega)) h.dk1) fun a b ha hb => ?_
    beta_reduce; rw [hd_hi b hb]
  · refine Is.congr (pay6 (tile_dv rfl h8 h12 q0 d0 o0 (by omega)) h.dv0) fun a b ha hb => ?_
    beta_reduce; rw [hd_lo b hb]
  · refine Is.congr (pay6 (tile_dv rfl h10 h14 q1 d1 o1 (by omega)) h.dv1) fun a b ha hb => ?_
    beta_reduce; rw [hd_hi b hb]

/-- What the tile on the diagonal leaves. -/
theorem diag_holds (hj : (i 1).val = j)
    (hk : Is 512 256 xk (fun a b => kf (512 * j + a) b)) (hv : Is 512 256 xv (fun a b => vf (512 * j + a) b))
    (hq : Is 4096 256 xq qf) (hdo : Is 4096 256 xdo df) (ho : Is 4096 256 xo of)
    {x : Vec Ideal S4096x256 .f32} {dq : ℕ → ℕ → ℝ} (h : Is 4096 256 x dq) :
    Holds (diag i xk xv xq xdo xo x)
      (fun t b => if 512 * j ≤ t ∧ t < 512 * j + 512 then dq t b + ∑ l ∈ Finset.range 512, D qf kf vf df of (hd b) t (512 * j + l) * kf (512 * j + l) b else dq t b)
      (fun a b => ∑ l ∈ Finset.range 512, D qf kf vf df of (hd b) (512 * j + l) (512 * j + a) * qf (512 * j + l) b)
      (fun a b => ∑ l ∈ Finset.range 512, P qf kf of (hd b) (512 * j + l) (512 * j + a) * df (512 * j + l) b) := by
  subst hj
  have k0 : Is 512 128 (lft xk) (fun a b => kf (512 * (i 1).val + a) (0 + b)) := (hk.window (R' := 512) (C' := 128) _ inb_S512x256_S512x128_0_0 rfl).congr fun a b _ _ => by simp only [Nat.zero_add]
  have k1 : Is 512 128 (rgt xk) (fun a b => kf (512 * (i 1).val + a) (128 + b)) := (hk.window (R' := 512) (C' := 128) _ inb_S512x256_S512x128_0_128 rfl).congr fun a b _ _ => by simp only [Nat.zero_add]
  have v0 : Is 512 128 (lft xv) (fun a b => vf (512 * (i 1).val + a) (0 + b)) := (hv.window (R' := 512) (C' := 128) _ inb_S512x256_S512x128_0_0 rfl).congr fun a b _ _ => by simp only [Nat.zero_add]
  have v1 : Is 512 128 (rgt xv) (fun a b => vf (512 * (i 1).val + a) (128 + b)) := (hv.window (R' := 512) (C' := 128) _ inb_S512x256_S512x128_0_128 rfl).congr fun a b _ _ => by simp only [Nat.zero_add]
  have z0 : Is 512 128 (lft (F := Ideal) (e := .f32) (k1_pay47 (F := Ideal))) (fun a b => 0) := (pay47.window (R' := 512) (C' := 128) _ inb_S512x256_S512x128_0_0 rfl)
  have z1 : Is 512 128 (rgt (F := Ideal) (e := .f32) (k1_pay47 (F := Ideal))) (fun a b => 0) := (pay47.window (R' := 512) (C' := 128) _ inb_S512x256_S512x128_0_128 rfl)
  have q0 := hq.window (R' := 512) (C' := 128) _ (k1_off1_inb i) (k1_off1_eq i)
  have q1 := hq.window (R' := 512) (C' := 128) _ (k1_off2_inb i) (k1_off2_eq i)
  have d0 := hdo.window (R' := 512) (C' := 128) _ (k1_off1_inb i) (k1_off1_eq i)
  have d1 := hdo.window (R' := 512) (C' := 128) _ (k1_off2_inb i) (k1_off2_eq i)
  have o0 := ho.window (R' := 512) (C' := 1) _ (k1_off3_inb i) (k1_off3_eq i)
  have o1 := ho.window (R' := 512) (C' := 1) _ (k1_off4_inb i) (k1_off4_eq i)
  have w0 := h.window (R' := 512) (C' := 128) _ (k1_off1_inb i) (k1_off1_eq i)
  have w1 := h.window (R' := 512) (C' := 128) _ (k1_off2_inb i) (k1_off2_eq i)
  have e50 : ∀ x : FVec Ideal S512x128 .bf16, k1_pay50 x = x := fun x => by unfold k1_pay50; exact shapeCast_self _ _
  have e52 : ∀ x : FVec Ideal S512x128 .bf16, k1_pay52 x = x := fun x => by unfold k1_pay52; exact shapeCast_self _ _
  have e54 : ∀ x : FVec Ideal S512x128 .bf16, k1_pay54 x = x := fun x => by unfold k1_pay54; exact shapeCast_self _ _
  have e56 : ∀ x : FVec Ideal S512x128 .bf16, k1_pay56 x = x := fun x => by unfold k1_pay56; exact shapeCast_self _ _
  constructor
  · dsimp only [diag]
    rw [e50, e52, e54, e56]
    refine put_two (g := fun t b => ∑ l ∈ Finset.range 512, D qf kf vf df of (hd b) t (512 * (i 1).val + l) * kf (512 * (i 1).val + l) b) h (k1_off1_eq i) (k1_off2_eq i) ?_ ?_
    · refine Is.congr (pay6 (tileD_dq' rfl k0 v0 q0 d0 o0 rfl) w0) fun a b ha hb => ?_
      beta_reduce; rw [hd_lo b hb]
    · refine Is.congr (pay6 (tileD_dq rfl k1 v1 q1 d1 o1 rfl) w1) fun a b ha hb => ?_
      beta_reduce; rw [hd_hi b hb]
  · refine Is.congr (pay1 (tileD_dk' rfl k0 v0 q0 d0 o0 rfl) z0) fun a b ha hb => ?_
    beta_reduce; rw [hd_lo b hb, zero_add]
  · dsimp only [diag]
    rw [e50, e52, e54, e56]
    refine Is.congr (pay6 (tileD_dk rfl k1 v1 q1 d1 o1 rfl) z1) fun a b ha hb => ?_
    beta_reduce; rw [hd_hi b hb, zero_add]
  · refine Is.congr (tileD_dv' rfl k0 v0 q0 d0 o0 z0 rfl) fun a b ha hb => ?_
    beta_reduce; rw [hd_lo b hb, zero_add]
  · dsimp only [diag]
    rw [e50, e54, e56]
    refine Is.congr (pay6 (tileD_dv rfl k1 v1 q1 d1 o1 rfl) z1) fun a b ha hb => ?_
    beta_reduce; rw [hd_hi b hb, zero_add]

/-- The number of passes. -/
theorem trips1 : ∀ i : grid1.Coords, (k1_t1_loop i).trips = 7 - (i 1).val := by decide +kernel

/-- The buffers before pass `n`. -/
theorem passes_holds (hj : (i 1).val = j)
    (hk : Is 512 256 xk (fun a b => kf (512 * j + a) b)) (hv : Is 512 256 xv (fun a b => vf (512 * j + a) b))
    (hq : Is 4096 256 xq qf) (hdo : Is 4096 256 xdo df) (ho : Is 4096 256 xo of)
    {x : Vec Ideal S4096x256 .f32} {dq : ℕ → ℕ → ℝ} (h : Is 4096 256 x dq) (n : ℕ) (hn : n ≤ (k1_t1_loop i).trips) :
    Holds (passes i (k1_pay49 (lft xk)) (k1_pay50 (rgt xk)) (k1_pay51 (lft xv)) (k1_pay52 (rgt xv)) xq xdo xo (diag i xk xv xq xdo xo x) n)
      (fun t b => if 512 * j ≤ t ∧ t < 512 * j + 512 * n + 512 then dq t b + ∑ l ∈ Finset.range 512, D qf kf vf df of (hd b) t (512 * j + l) * kf (512 * j + l) b else dq t b)
      (fun a b => ∑ l ∈ Finset.range (512 * n + 512), D qf kf vf df of (hd b) (512 * j + l) (512 * j + a) * qf (512 * j + l) b)
      (fun a b => ∑ l ∈ Finset.range (512 * n + 512), P qf kf of (hd b) (512 * j + l) (512 * j + a) * df (512 * j + l) b) := by
  induction n with
  | zero => exact diag_holds i hj hk hv hq hdo ho h
  | succ n ih =>
    have k0 : Is 512 128 (k1_pay49 (lft xk)) (fun a b => kf (512 * j + a) (0 + b)) := by
      unfold k1_pay49; rw [shapeCast_self]
      exact (hk.window (R' := 512) (C' := 128) _ inb_S512x256_S512x128_0_0 rfl).congr fun a b _ _ => by simp only [Nat.zero_add]
    have k1 : Is 512 128 (k1_pay50 (rgt xk)) (fun a b => kf (512 * j + a) (128 + b)) := by
      unfold k1_pay50; rw [shapeCast_self]
      exact (hk.window (R' := 512) (C' := 128) _ inb_S512x256_S512x128_0_128 rfl).congr fun a b _ _ => by simp only [Nat.zero_add]
    have v0 : Is 512 128 (k1_pay51 (lft xv)) (fun a b => vf (512 * j + a) (0 + b)) := by
      unfold k1_pay51; rw [shapeCast_self]
      exact (hv.window (R' := 512) (C' := 128) _ inb_S512x256_S512x128_0_0 rfl).congr fun a b _ _ => by simp only [Nat.zero_add]
    have v1 : Is 512 128 (k1_pay52 (rgt xv)) (fun a b => vf (512 * j + a) (128 + b)) := by
      unfold k1_pay52; rw [shapeCast_self]
      exact (hv.window (R' := 512) (C' := 128) _ inb_S512x256_S512x128_0_128 rfl).congr fun a b _ _ => by simp only [Nat.zero_add]
    have hlt : n < (k1_t1_loop i).trips := hn
    rw [passes_succ (i := i) (k := ⟨n, hlt⟩)]
    refine (pass_holds i hj ⟨n, hlt⟩ k0 k1 v0 v1 hq hdo ho (ih (by omega))).congr ?_ ?_ ?_
    · intro t b ht hb
      beta_reduce
      by_cases h1 : 512 * j + 512 * n + 512 ≤ t ∧ t < 512 * j + 512 * n + 512 + 512
      · rw [if_pos h1, if_neg (by omega), if_pos (by omega)]
      · rw [if_neg h1]
        by_cases h2 : 512 * j ≤ t ∧ t < 512 * j + 512 * n + 512
        · rw [if_pos h2, if_pos (by omega)]
        · rw [if_neg h2, if_neg (by omega)]
    · intro a b ha hb
      beta_reduce
      rw [show 512 * (n + 1) + 512 = (512 * n + 512) + 512 by ring, Finset.sum_range_add _ (512 * n + 512) 512]
      simp only [Nat.add_assoc]
    · intro a b ha hb
      beta_reduce
      rw [show 512 * (n + 1) + 512 = (512 * n + 512) + 512 by ring, Finset.sum_range_add _ (512 * n + 512) 512]
      simp only [Nat.add_assoc]

/-- A grid point: `dq` gains this key tile's part, `dk` and `dv` are the sums over all query rows. -/
theorem point_holds (hj : (i 1).val = j)
    (hk : Is 512 256 xk (fun a b => kf (512 * j + a) b)) (hv : Is 512 256 xv (fun a b => vf (512 * j + a) b))
    (hq : Is 4096 256 xq qf) (hdo : Is 4096 256 xdo df) (ho : Is 4096 256 xo of)
    {x : Vec Ideal S4096x256 .f32} {dq : ℕ → ℕ → ℝ} (h : Is 4096 256 x dq) :
    Holds (point i xk xv xq xdo xo x)
      (fun t b => dq t b + ∑ l ∈ Finset.range 512, D qf kf vf df of (hd b) t (512 * j + l) * kf (512 * j + l) b)
      (fun a b => ∑ t ∈ Finset.range 4096, D qf kf vf df of (hd b) t (512 * j + a) * qf t b)
      (fun a b => ∑ t ∈ Finset.range 4096, P qf kf of (hd b) t (512 * j + a) * df t b) := by
  have hj8 : j < 8 := hj ▸ (i 1).isLt
  have hP : ∀ c t s, t < s → P qf kf of c t s = 0 := fun c t s hts => if_neg (by omega)
  have hD : ∀ c t s, t < s → D qf kf vf df of c t s = 0 := fun c t s hts => by unfold D; rw [hP c t s hts, zero_mul]
  have ht : (k1_t1_loop i).trips = 7 - j := by rw [trips1, hj]
  have key : ∀ f : ℕ → ℝ, (∀ t, t < 512 * j → f t = 0) → ∑ l ∈ Finset.range (512 * (7 - j) + 512), f (512 * j + l) = ∑ t ∈ Finset.range 4096, f t := by
    intro f hf
    rw [show 4096 = 512 * j + (512 * (7 - j) + 512) by omega, Finset.sum_range_add f (512 * j), Finset.sum_eq_zero (fun t ht => hf t (Finset.mem_range.1 ht)), zero_add]
  unfold point
  refine (passes_holds i hj hk hv hq hdo ho h _ le_rfl).congr ?_ ?_ ?_
  · intro t b htl hb
    beta_reduce
    rw [ht]
    by_cases h1 : 512 * j ≤ t
    · rw [if_pos (by omega)]
    · rw [if_neg (by omega), Finset.sum_eq_zero, add_zero]
      intro l _
      rw [hD _ _ _ (by omega), zero_mul]
  · intro a b ha hb
    beta_reduce
    rw [ht]
    exact key (fun t => D qf kf vf df of (hd b) t (512 * j + a) * qf t b) fun t h => by beta_reduce; rw [hD _ _ _ (by omega), zero_mul]
  · intro a b ha hb
    beta_reduce
    rw [ht]
    exact key (fun t => P qf kf of (hd b) t (512 * j + a) * df t b) fun t h => by beta_reduce; rw [hP _ _ _ (by omega), zero_mul]
end Pass

end Cert.Val
-- ==== Proof.ValFwd1.lean ====
/- The forward attention call, one tile of one head: the running maximum, the running sum and the scores, in reals. -/
module

public import proofs.«01_k».proof.Proof.ValBwd2
public import proofs.«01_k».proof.Proof.FwdBody

@[expose] public section

set_option maxRecDepth 8192

noncomputable section

namespace Cert.Val

open Idealize.ShloMosaic Idealize.ShloMosaic.VecWindow Idealize.ShloMosaic.ValueIdx
open Cert.KernelIdeal Cert.KernelIdeal.Gen
open scoped BigOperators

/-- The same of an array with a leading axis of one. -/
def Is3 (R C : ℕ) (x : (⟨3, ![1, R, C]⟩ : Shape).Idx → EReal) (f : ℕ → ℕ → ℝ) : Prop :=
  ∀ (a : Fin R) (b : Fin C), x (ix3 (0 : Fin 1) a b) = ((f a b : ℝ) : EReal)

theorem Is3.drop {R C : ℕ} {x : (⟨3, ![1, R, C]⟩ : Shape).Idx → EReal} {f : ℕ → ℕ → ℝ} (h : Is3 R C x f)
    (hc : (⟨3, ![1, R, C]⟩ : Shape).ShapeCasts ⟨2, ![R, C]⟩) : Is R C (shapeCast ⟨2, ![R, C]⟩ x hc) f := fun a b => by
  rw [shapeCast_1ab_ab_apply]; exact h a b
theorem Is.lead {R C : ℕ} {x : (⟨2, ![R, C]⟩ : Shape).Idx → EReal} {f : ℕ → ℕ → ℝ} (h : Is R C x f)
    (hc : (⟨2, ![R, C]⟩ : Shape).ShapeCasts ⟨3, ![1, R, C]⟩) : Is3 R C (shapeCast ⟨3, ![1, R, C]⟩ x hc) f := fun a b => by
  rw [shapeCast_ab_1ab_apply]; exact h a b

/-- The word of negative infinity. -/
theorem bot_f32 : (Ideal.ofBits .f32 0xFF800000#32 : EReal) = ⊥ := by simp [Ideal.ofBits, Ideal.ieee]

/-- An extended real that is neither infinity is a real. -/
theorem real_of {x : EReal} (h0 : x ≠ ⊥) (h1 : x ≠ ⊤) : ∃ r : ℝ, x = (r : EReal) := ⟨x.toReal, (EReal.coe_toReal h1 h0).symm⟩

/-- The greatest entry of a row one of whose entries is a real and none is infinity. -/
theorem rowMax_real (X : FVec Ideal S512x512 .f32) (a : Fin 512) (b : Fin 512) (h0 : X (ix2 a b) ≠ ⊥) (h : ∀ i, X i ≠ ⊤) :
    ∃ r : ℝ, multiReduction .maximumf [1] S512 X 0xFF800000#32 reduces_S512x512_S512 (.inl rfl) rfl (ix1 a) = (r : EReal) := by
  have e := multiReduction_maximumf_eq_fold X 0xFF800000#32 reduces_S512x512_S512 (.inl rfl) rfl (ix1 a)
  have e' : multiReduction .maximumf [1] S512 X 0xFF800000#32 reduces_S512x512_S512 (.inl rfl) rfl (ix1 a)
      = (Finset.univ.filter fun i => reduces_S512x512_S512.drop i = ix1 a).fold max (⊥ : EReal) X := by
    rw [e, ← bot_f32]; rfl
  rw [e']
  refine real_of ?_ ?_
  · refine ne_of_gt ((Finset.lt_fold_max _).2 (Or.inr ⟨ix2 a b, ?_, bot_lt_iff_ne_bot.2 h0⟩))
    refine Finset.mem_filter.2 ⟨Finset.mem_univ _, ?_⟩
    funext z
    match z with
    | ⟨0, _⟩ => rfl
  · exact ne_of_lt ((Finset.fold_max_lt _).2 ⟨bot_lt_top, fun i _ => lt_top_iff_ne_top.2 (h i)⟩)

section Core
variable {X : FVec Ideal S512x512 .f32} {M : FVec Ideal S512x1 .f32} {A : FVec Ideal S512x128 .f32} {v : FVec Ideal S512x128 .bf16}
  {p : ℕ → ℕ → Prop} [∀ a b, Decidable (p a b)] {sc fa fv : ℕ → ℕ → ℝ} {x : ℕ → ℝ}

/-- The new running maximum. -/
def newMax (X : FVec Ideal S512x512 .f32) (M : FVec Ideal S512x1 .f32) : FVec Ideal S512x1 .f32 :=
  maximumf M (shapeCast S512x1 (multiReduction .maximumf [1] S512 X 0xFF800000#32 reduces_S512x512_S512 (.inl rfl) rfl) shapeCasts_S512_S512x1)
/-- The exponentials of the scores less the new maximum. -/
def newExp (X : FVec Ideal S512x512 .f32) (M : FVec Ideal S512x1 .f32) : FVec Ideal S512x512 .f32 :=
  exp (subf X (broadcastTo S512x512 (newMax X M) broadcasts_S512x1_S512x512))
/-- The new running sum. -/
def newSum (X : FVec Ideal S512x512 .f32) (M : FVec Ideal S512x1 .f32) (A : FVec Ideal S512x128 .f32) (v : FVec Ideal S512x128 .bf16) : FVec Ideal S512x128 .f32 :=
  addf (mulf A (broadcastTo S512x128 (exp (subf M (newMax X M))) broadcasts_S512x1_S512x128))
    (matmul dot_S512x512_S512x128_S512x128_1_0_0_1_n_n none (truncf .bf16 (newExp X M) bitsLt_bf16_f32) v (constant S512x128 .f32 0x00000000#32))

/-- The new maximum is a real in every row. -/
theorem newMax_real (hX : ∀ a b : Fin 512, X (ix2 a b) = if p a b then ((sc a b : ℝ) : EReal) else ⊥) (hp : ∀ a, p a 0)
    (hM : ∀ a : Fin 512, M (ix2 a (0 : Fin 1)) ≠ ⊤) : ∃ x' : ℕ → ℝ, ∀ a : Fin 512, newMax X M (ix2 a (0 : Fin 1)) = ((x' a : ℝ) : EReal) := by
  have hr : ∀ a : Fin 512, ∃ r : ℝ, newMax X M (ix2 a (0 : Fin 1)) = (r : EReal) := by
    intro a
    obtain ⟨r, hr⟩ := rowMax_real X a ⟨0, by omega⟩ (by rw [hX, if_pos (hp _)]; exact EReal.coe_ne_bot _) (fun i => by
      have : X i = X (ix2 (⟨(i 0).val, idx2_lt0 i⟩ : Fin 512) (⟨(i 1).val, idx2_lt1 i⟩ : Fin 512)) := congrArg X (funext fun z => by match z with | ⟨0, _⟩ => rfl | ⟨1, _⟩ => rfl)
      rw [this, hX]; split
      · exact EReal.coe_ne_top _
      · exact bot_ne_top)
    have e : newMax X M (ix2 a (0 : Fin 1)) = max (M (ix2 a (0 : Fin 1))) (r : EReal) := by
      show max (M (ix2 a (0 : Fin 1))) (shapeCast S512x1 _ shapeCasts_S512_S512x1 (ix2 a (0 : Fin 1))) = _
      rw [shapeCast_a_a1_apply, hr]
    rw [e]
    refine real_of ?_ ?_
    · exact ne_of_gt (lt_of_lt_of_le (EReal.bot_lt_coe r) (le_max_right _ _))
    · exact ne_of_lt (max_lt (lt_top_iff_ne_top.2 (hM a)) (EReal.coe_lt_top r))
  choose g hg using hr
  refine ⟨fun a => if h : a < 512 then g ⟨a, h⟩ else 0, fun a => ?_⟩
  beta_reduce
  rw [hg a, dif_pos a.isLt]

/-- One pass, of a head: the sums against the old maximum become sums against the new one, and the tile at hand is added. -/
theorem newSum_real (hX : ∀ a b : Fin 512, X (ix2 a b) = if p a b then ((sc a b : ℝ) : EReal) else ⊥) (hp : ∀ a, p a 0)
    (hM : ∀ a : Fin 512, M (ix2 a (0 : Fin 1)) = ((x a : ℝ) : EReal) ∨ (M (ix2 a (0 : Fin 1)) = ⊥ ∧ ∀ d, fa a d = 0))
    (hA : Is 512 128 A fa) (hv : Is 512 128 v fv) :
    ∃ x' : ℕ → ℝ, (∀ a : Fin 512, newMax X M (ix2 a (0 : Fin 1)) = ((x' a : ℝ) : EReal))
      ∧ Is 512 128 (newSum X M A v) (fun a d => fa a d * Real.exp (x a - x' a) + ∑ l ∈ Finset.range 512, (if p a l then Real.exp (sc a l - x' a) else 0) * fv l d) := by
  obtain ⟨x', hx'⟩ := newMax_real (M := M) hX hp (fun a => by
    rcases hM a with h | ⟨h, -⟩ <;> rw [h]
    · exact EReal.coe_ne_top _
    · exact bot_ne_top)
  refine ⟨x', hx', ?_⟩
  have hE : Is 512 512 (newExp X M) (fun a l => if p a l then Real.exp (sc a l - x' a) else 0) := by
    intro a b
    show Ideal.exp (X (ix2 a b) - broadcastTo S512x512 (newMax X M) broadcasts_S512x1_S512x512 (ix2 a b)) = _
    rw [spread_apply, hx', hX]
    beta_reduce
    by_cases h : p a b
    · rw [if_pos h, if_pos h, ← EReal.coe_sub, Ideal.exp_coe]
    · rw [if_neg h, if_neg h, EReal.bot_sub]; exact Ideal.exp_bot
  have hW := hE.trunc.nn hv
  intro a d
  show A (ix2 a d) * broadcastTo S512x128 (exp (subf M (newMax X M))) broadcasts_S512x1_S512x128 (ix2 a d) + _ = _
  rw [spread_apply, hW a d, hA a d]
  show ((fa a d : ℝ) : EReal) * Ideal.exp (M (ix2 a (0 : Fin 1)) - newMax X M (ix2 a (0 : Fin 1))) + _ = _
  rw [hx']
  rcases hM a with h | ⟨h, h0⟩
  · rw [h, ← EReal.coe_sub, Ideal.exp_coe, ← EReal.coe_mul, ← EReal.coe_add]
  · rw [h, EReal.bot_sub, Ideal.exp_bot, mul_zero, zero_add]
    beta_reduce
    rw [h0 d, zero_mul, zero_add]
end Core

end Cert.Val
-- ==== Proof.ValFwd2.lean ====
/- The forward attention call, one grid point: its loop over key tiles and what it writes out, in reals. -/
module

public import proofs.«01_k».proof.Proof.ValFwd1

@[expose] public section

set_option maxRecDepth 8192

noncomputable section

namespace Cert.Val

open Idealize.ShloMosaic Idealize.ShloMosaic.VecWindow Idealize.ShloMosaic.ValueIdx
open Cert.KernelIdeal Cert.KernelIdeal.Gen Cert.KernelIdeal.Fwd
open Cert.KernelIdeal.Bwd (lft rgt)
open scoped BigOperators

section Head
variable {qf kf vf : ℕ → ℕ → ℝ} {c r0 : ℕ}

/-- A head's buffers before pass `n`: the scores of key tile `n`, the sums over the earlier tiles against a maximum `x`, and that maximum (nothing yet before the first pass). -/
structure FInv (qf kf vf : ℕ → ℕ → ℝ) (c r0 n : ℕ) (s : St Ideal) (x : ℕ → ℝ) : Prop where
  scores : Is3 512 512 s.s (fun a b => S qf kf c (r0 + a) (512 * n + b))
  sums : Is3 512 128 s.a (fun a d => ∑ u ∈ Finset.range (512 * n), Real.exp (S qf kf c (r0 + a) u - x a) * vf u (c + d))
  top : ∀ a : Fin 512, s.m (ix3 (0 : Fin 1) a (0 : Fin 1)) = ((x a : ℝ) : EReal) ∨ (s.m (ix3 (0 : Fin 1) a (0 : Fin 1)) = ⊥ ∧ n = 0)

theorem exp_shift (y x x' : ℝ) : Real.exp (y - x) * Real.exp (x - x') = Real.exp (y - x') := by
  rw [← Real.exp_add]; congr 1; ring

/-- A masked tile added to the sums so far. -/
theorem add_tile {n : ℕ} {s : St Ideal} {x : ℕ → ℝ} (h : FInv qf kf vf c r0 n s x) {X : FVec Ideal S512x512 .f32} {v : FVec Ideal S512x128 .bf16}
    {p : ℕ → ℕ → Prop} [∀ a b, Decidable (p a b)]
    (hX : ∀ a b : Fin 512, X (ix2 a b) = if p a b then ((S qf kf c (r0 + a) (512 * n + b) : ℝ) : EReal) else ⊥) (hp : ∀ a, p a 0)
    (hv : Is 512 128 v (fun a b => vf (512 * n + a) (c + b))) :
    ∃ x' : ℕ → ℝ, (∀ a : Fin 512, newMax X (shapeCast S512x1 s.m shapeCasts_S1x512x1_S512x1) (ix2 a (0 : Fin 1)) = ((x' a : ℝ) : EReal))
      ∧ Is 512 128 (newSum X (shapeCast S512x1 s.m shapeCasts_S1x512x1_S512x1) (shapeCast S512x128 s.a shapeCasts_S1x512x128_S512x128) v)
          (fun a d => (∑ u ∈ Finset.range (512 * n), Real.exp (S qf kf c (r0 + a) u - x' a) * vf u (c + d))
            + ∑ l ∈ Finset.range 512, (if p a l then Real.exp (S qf kf c (r0 + a) (512 * n + l) - x' a) else 0) * vf (512 * n + l) (c + d)) := by
  obtain ⟨x', h1, h2⟩ := newSum_real (x := x) (sc := fun a b => S qf kf c (r0 + a) (512 * n + b)) (M := shapeCast S512x1 s.m shapeCasts_S1x512x1_S512x1) hX hp
    (fun a => by
      rw [shapeCast_1ab_ab_apply]
      rcases h.top a with h | ⟨h, hn⟩
      · exact Or.inl h
      · exact Or.inr ⟨h, fun d => by subst hn; simp⟩)
    (h.sums.drop shapeCasts_S1x512x128_S512x128) hv
  refine ⟨x', h1, h2.congr fun a d _ _ => ?_⟩
  beta_reduce
  congr 1
  rw [Finset.sum_mul]
  refine Finset.sum_congr rfl fun u _ => ?_
  rw [mul_right_comm, exp_shift]

/-- One pass. -/
theorem step_holds {n : ℕ} {s : St Ideal} {x : ℕ → ℝ} (h : FInv qf kf vf c r0 n s x) {q kn v : FVec Ideal S512x128 .bf16}
    (hq : Is 512 128 q (fun a b => qf (r0 + a) (c + b))) (hk : Is 512 128 kn (fun a b => kf (512 * (n + 1) + a) (c + b)))
    (hv : Is 512 128 v (fun a b => vf (512 * n + a) (c + b))) : ∃ x', FInv qf kf vf c r0 (n + 1) (step q kn v s) x' := by
  obtain ⟨x', h1, h2⟩ := add_tile (X := k0_pay3 s.s) (p := fun _ _ => True) h (fun a b => by
    rw [if_pos trivial]; exact h.scores.drop shapeCasts_S1x512x512_S512x512 a b) (fun _ => trivial) hv
  refine ⟨x', ?_, ?_, ?_⟩
  · have e : (step q kn v s).s = shapeCast S1x512x512 (matmul dot_S512x128_S512x128_S512x512_1_1_0_0_n_n none q kn (constant S512x512 .f32 0x00000000#32)) shapeCasts_S512x512_S1x512x512 := by
      dsimp only [step]; unfold k0_pay16 k0_pay5; rw [shapeCast_self]
    rw [e]; exact (hq.nt hk).lead _
  · have e : (step q kn v s).a = shapeCast S1x512x128 (newSum (k0_pay3 s.s) (shapeCast S512x1 s.m shapeCasts_S1x512x1_S512x1) (shapeCast S512x128 s.a shapeCasts_S1x512x128_S512x128) v) shapeCasts_S512x128_S1x512x128 := by
      dsimp only [step]; unfold k0_pay14 k0_pay12; rw [shapeCast_self]; rfl
    rw [e]
    refine Is.lead (h2.congr fun a d _ _ => ?_) _
    beta_reduce
    simp only [if_true]
    rw [show 512 * (n + 1) = 512 * n + 512 by ring, Finset.sum_range_add _ (512 * n) 512]
  · intro a
    refine Or.inl ?_
    rw [← h1 a]
    show shapeCast S1x512x1 (newMax (k0_pay3 s.s) (shapeCast S512x1 s.m shapeCasts_S1x512x1_S512x1)) shapeCasts_S512x1_S1x512x1 (ix3 (0 : Fin 1) a (0 : Fin 1)) = _
    rw [shapeCast_ab_1ab_apply]

/-- The sum of the exponentials of a row's scores. -/
def Z (qf kf : ℕ → ℕ → ℝ) (c t : ℕ) : ℝ := ∑ u ∈ Finset.range (t + 1), Real.exp (S qf kf c t u)
/-- A row of the output: the weighted mean of the values, and in lane 64 the logarithm of the sum. -/
def O (qf kf vf : ℕ → ℕ → ℝ) (c t d : ℕ) : ℝ :=
  if d = 64 then Real.log (Z qf kf c t) else (∑ u ∈ Finset.range (t + 1), Real.exp (S qf kf c t u) * vf u (c + d)) / Z qf kf c t

theorem Z_pos (qf kf : ℕ → ℕ → ℝ) (c t : ℕ) : 0 < Z qf kf c t :=
  Finset.sum_pos (fun u _ => Real.exp_pos _) ⟨0, Finset.mem_range.2 (by omega)⟩

/-- What is written out: the sums over all rows up to the query's, divided by lane 64's. -/
theorem fin_holds {I : ℕ} {s : St Ideal} {x : ℕ → ℝ} (h : FInv qf kf vf c (512 * I) I s x) {v : FVec Ideal S512x128 .bf16}
    (hv : Is 512 128 v (fun a b => vf (512 * I + a) (c + b))) (hone : ∀ u, u < 512 * I + 512 → vf u (c + 64) = 1) :
    Is 512 128 (fin v s) (fun a d => O qf kf vf c (512 * I + a) d) := by
  obtain ⟨x', h1, h2⟩ := add_tile (X := k0_pay43 s.s) (p := fun a b => b ≤ a) h (fun a b => by
    unfold k0_pay43
    show select _ _ _ (ix2 a b) = _
    rw [diagonal]
    by_cases hab : b.val ≤ a.val
    · rw [if_pos hab, if_pos hab]; exact h.scores.drop shapeCasts_S1x512x512_S512x512 a b
    · rw [if_neg hab, if_neg hab]; exact mask_bot) (fun _ => Nat.zero_le _) hv
  have h3 : Is 512 128 (newSum (k0_pay43 s.s) (shapeCast S512x1 s.m shapeCasts_S1x512x1_S512x1) (shapeCast S512x128 s.a shapeCasts_S1x512x128_S512x128) v)
      (fun a d => (∑ u ∈ Finset.range (512 * I + a + 1), Real.exp (S qf kf c (512 * I + a) u) * vf u (c + d)) * Real.exp (- x' a)) := by
    refine h2.congr fun a d ha _ => ?_
    beta_reduce
    have e1 : ∑ l ∈ Finset.range 512, (if l ≤ a then Real.exp (S qf kf c (512 * I + a) (512 * I + l) - x' a) else 0) * vf (512 * I + l) (c + d)
        = ∑ l ∈ Finset.range (a + 1), Real.exp (S qf kf c (512 * I + a) (512 * I + l) - x' a) * vf (512 * I + l) (c + d) := by
      rw [show 512 = (a + 1) + (511 - a) by omega, Finset.sum_range_add _ (a + 1) (511 - a)]
      rw [show (a + 1) + (511 - a) = 512 by omega]
      have e0 : ∑ l ∈ Finset.range (511 - a), (if a + 1 + l ≤ a then Real.exp (S qf kf c (512 * I + a) (512 * I + (a + 1 + l)) - x' a) else 0) * vf (512 * I + (a + 1 + l)) (c + d) = 0 :=
        Finset.sum_eq_zero fun l _ => by rw [if_neg (by omega), zero_mul]
      rw [e0, add_zero]
      exact Finset.sum_congr rfl fun l hl => by
        have := Finset.mem_range.1 hl
        rw [if_pos (by omega)]
    rw [e1, ← Finset.sum_range_add (fun u => Real.exp (S qf kf c (512 * I + a) u - x' a) * vf u (c + d)) (512 * I) (a + 1), Finset.sum_mul, Nat.add_assoc]
    refine Finset.sum_congr rfl fun u _ => ?_
    rw [mul_right_comm, ← Real.exp_add]; rfl
  have hz : ∀ a, a < 512 → (∑ u ∈ Finset.range (512 * I + a + 1), Real.exp (S qf kf c (512 * I + a) u) * vf u (c + 64)) = Z qf kf c (512 * I + a) := fun a ha =>
    Finset.sum_congr rfl fun u hu => by
      have := Finset.mem_range.1 hu
      rw [hone u (by omega), mul_one]
  have e : fin v s = k0_pay1 (iota .tc S512x128 32 [1] iota_S512x128_d1_w32)
      (shapeCast S1x512x128 (newSum (k0_pay43 s.s) (shapeCast S512x1 s.m shapeCasts_S1x512x1_S512x1) (shapeCast S512x128 s.a shapeCasts_S1x512x128_S512x128) v) shapeCasts_S512x128_S1x512x128)
      (shapeCast S1x512x1 (newMax (k0_pay43 s.s) (shapeCast S512x1 s.m shapeCasts_S1x512x1_S512x1)) shapeCasts_S512x1_S1x512x1) := by
    unfold fin k0_pay51; rw [shapeCast_self]; rfl
  rw [e]
  generalize newSum (k0_pay43 s.s) (shapeCast S512x1 s.m shapeCasts_S1x512x1_S512x1) (shapeCast S512x128 s.a shapeCasts_S1x512x128_S512x128) v = A at h3
  generalize newMax (k0_pay43 s.s) (shapeCast S512x1 s.m shapeCasts_S1x512x1_S512x1) = M at h1
  intro a d
  have hZ := Z_pos qf kf c (512 * I + a)
  have h64 : A (ix2 a (⟨64, by omega⟩ : Fin 128)) = ((Z qf kf c (512 * I + a) * Real.exp (- x' a) : ℝ) : EReal) := by
    rw [h3 a ⟨64, by omega⟩]; beta_reduce; rw [← hz a a.isLt]
  have hs : extractStridedSlice S512x1 ![0, 64] A slices_S512x128_o0_64_S512x1 (ix2 a (0 : Fin 1)) = ((Z qf kf c (512 * I + a) * Real.exp (- x' a) : ℝ) : EReal) := by
    rw [slice2_axis1_apply 64 A slices_S512x128_o0_64_S512x1 a (0 : Fin 1) (⟨64, by omega⟩ : Fin 128) rfl, h64]
  have hpos : 0 < Z qf kf c (512 * I + a) * Real.exp (- x' a) := mul_pos hZ (Real.exp_pos _)
  unfold k0_pay1
  dsimp only
  rw [shapeCast_shapeCast, shapeCast_shapeCast, shapeCast_self]
  rw [select_apply]
  have ec : cmpi .eq (iota .tc S512x128 32 [1] iota_S512x128_d1_w32) (broadcast S512x128 64#32) (ix2 a d) = if d.val = 64 then 1#1 else 0#1 := by
    show IntOp.cmpi .eq (iota .tc S512x128 32 [1] iota_S512x128_d1_w32 (ix2 a d)) 64#32 = _
    rw [iota_single_apply]
    show BitVec.ofBool (BitVec.ofNat 32 d.val == 64#32) = _
    have := d.isLt
    by_cases hd : d.val = 64
    · rw [if_pos hd, hd]; rfl
    · rw [if_neg hd, beq_eq_false_iff_ne.2]; · rfl
      intro hh
      have := congrArg BitVec.toNat hh
      rw [BitVec.toNat_ofNat] at this
      change d.val % 2 ^ 32 = 64 at this
      omega
  rw [ec]
  unfold O
  by_cases hd : d.val = 64
  · rw [if_pos hd, if_pos hd]
    show broadcastTo S512x128 (addf M (log (extractStridedSlice S512x1 ![0, 64] A slices_S512x128_o0_64_S512x1))) broadcasts_S512x1_S512x128 (ix2 a d) = _
    rw [spread_apply]
    show M (ix2 a (0 : Fin 1)) + Ideal.log (extractStridedSlice S512x1 ![0, 64] A slices_S512x128_o0_64_S512x1 (ix2 a (0 : Fin 1))) = _
    rw [hs, h1, Ideal.log_coe, if_neg (not_le.2 hpos), ← EReal.coe_add, Real.log_mul (ne_of_gt hZ) (ne_of_gt (Real.exp_pos _)), Real.log_exp]
    congr 1; ring
  · rw [if_neg hd, if_neg hd]
    show Ideal.div (A (ix2 a d)) (broadcastTo S512x128 (extractStridedSlice S512x1 ![0, 64] A slices_S512x128_o0_64_S512x1) broadcasts_S512x1_S512x128 (ix2 a d)) = _
    rw [spread_apply, hs, Ideal.div_coe (ne_of_gt hpos), h3 a d, ← EReal.coe_mul]
    beta_reduce
    congr 1
    have := Real.exp_pos (- x' a)
    field_simp
end Head

end Cert.Val
-- ==== Proof.ValFwd3.lean ====
/- The forward attention call, one grid point: the whole loop, and both heads' output. -/
module

public import proofs.«01_k».proof.Proof.ValFwd2

@[expose] public section

set_option maxRecDepth 8192

noncomputable section

namespace Cert.Val

open Idealize.ShloMosaic Idealize.ShloMosaic.VecWindow Idealize.ShloMosaic.ValueIdx
open Cert.KernelIdeal Cert.KernelIdeal.Gen Cert.KernelIdeal.Fwd
open Cert.KernelIdeal.Bwd (lft rgt both)
open scoped BigOperators

section Point
variable {qf kf vf : ℕ → ℕ → ℝ} {I : ℕ} (i : grid0.Coords) {xq : Vec Ideal S512x256 .bf16} {xk xv : Vec Ideal S4096x256 .bf16}

/-- The loop runs over the key tiles before the query's. -/
theorem trips0 : ∀ i : grid0.Coords, (k0_t1_loop i).trips = (i 1).val := by decide +kernel

/-- The fresh buffers, with the first tile's scores. -/
theorem init_holds {c : ℕ} {q kn : FVec Ideal S512x128 .bf16} {m : Vec Ideal S1x512x1 .f32} {a : Vec Ideal S1x512x128 .f32}
    (hm : ∀ a : Fin 512, m (ix3 (0 : Fin 1) a (0 : Fin 1)) = (⊥ : EReal)) (ha : Is3 512 128 a (fun _ _ => 0))
    (hq : Is 512 128 q (fun a b => qf (512 * I + a) (c + b))) (hk : Is 512 128 kn (fun a b => kf a (c + b))) :
    FInv qf kf vf c (512 * I) 0
      { m := m, a := a, s := shapeCast S1x512x512 (matmul dot_S512x128_S512x128_S512x512_1_1_0_0_n_n none q kn (constant S512x512 .f32 0x00000000#32)) shapeCasts_S512x512_S1x512x512 }
      (fun _ => 0) := by
  refine ⟨?_, ?_, fun a => Or.inr ⟨hm a, rfl⟩⟩
  · refine Is.lead ((hq.nt hk).congr fun a b _ _ => ?_) _
    beta_reduce
    rw [Nat.mul_zero, Nat.zero_add]; rfl
  · intro x d
    refine (ha x d).trans ?_
    simp

theorem lft_q (hq : Is 512 256 xq (fun a b => qf (512 * I + a) b)) : Is 512 128 (k0_pay33 (lft xq)) (fun a b => qf (512 * I + a) (0 + b)) := by
  unfold k0_pay33; rw [shapeCast_self]
  exact (hq.window (R' := 512) (C' := 128) _ inb_S512x256_S512x128_0_0 rfl).congr fun a b _ _ => by simp only [Nat.zero_add]

theorem rgt_q (hq : Is 512 256 xq (fun a b => qf (512 * I + a) b)) : Is 512 128 (k0_pay34 (rgt xq)) (fun a b => qf (512 * I + a) (128 + b)) := by
  unfold k0_pay34; rw [shapeCast_self]
  exact (hq.window (R' := 512) (C' := 128) _ inb_S512x256_S512x128_0_128 rfl).congr fun a b _ _ => by simp only [Nat.zero_add]

theorem init0_holds (hq : Is 512 256 xq (fun a b => qf (512 * I + a) b)) (hk : Is 4096 256 xk kf) :
    FInv qf kf vf 0 (512 * I) 0 (init0 xq xk) (fun _ => 0) := by
  have e : (init0 xq xk).s = shapeCast S1x512x512 (matmul (φ₂ := .bf16) dot_S512x128_S512x128_S512x512_1_1_0_0_n_n none (k0_pay33 (lft xq)) (window xk ![0, 0] S512x128.size inb_S4096x256_S512x128_0_0 : FVec Ideal S512x128 .bf16) (constant S512x512 .f32 0x00000000#32)) shapeCasts_S512x512_S1x512x512 := by
    dsimp only [init0]; unfold k0_pay37; rw [shapeCast_self]
  have h := init_holds (kf := kf) (vf := vf) (I := I) (m := (init0 xq xk).m) (a := (init0 xq xk).a) (fun a => mask_bot) (fun a b => by
    show Ideal.ofBits .f32 0#32 = _
    exact zero_f32) (lft_q hq) ((hk.window (R' := 512) (C' := 128) ![0, 0] inb_S4096x256_S512x128_0_0 rfl).congr fun a b _ _ => by simp only [Nat.zero_add])
  rw [← e] at h
  exact h

theorem init1_holds (hq : Is 512 256 xq (fun a b => qf (512 * I + a) b)) (hk : Is 4096 256 xk kf) :
    FInv qf kf vf 128 (512 * I) 0 (init1 xq xk) (fun _ => 0) := by
  have e : (init1 xq xk).s = shapeCast S1x512x512 (matmul (φ₂ := .bf16) dot_S512x128_S512x128_S512x512_1_1_0_0_n_n none (k0_pay34 (rgt xq)) (window xk ![0, 128] S512x128.size inb_S4096x256_S512x128_0_128 : FVec Ideal S512x128 .bf16) (constant S512x512 .f32 0x00000000#32)) shapeCasts_S512x512_S1x512x512 := by
    dsimp only [init1]; unfold k0_pay37; rw [shapeCast_self]; rfl
  have h := init_holds (kf := kf) (vf := vf) (I := I) (m := (init1 xq xk).m) (a := (init1 xq xk).a) (fun a => mask_bot) (fun a b => by
    show Ideal.ofBits .f32 0#32 = _
    exact zero_f32) (rgt_q hq) ((hk.window (R' := 512) (C' := 128) ![0, 128] inb_S4096x256_S512x128_0_128 rfl).congr fun a b _ _ => by simp only [Nat.zero_add])
  rw [← e] at h
  exact h

/-- The first head before pass `n`. -/
theorem passes0_holds (hi : (i 1).val = I) (hq : Is 512 256 xq (fun a b => qf (512 * I + a) b)) (hk : Is 4096 256 xk kf) (hv : Is 4096 256 xv vf) (n : ℕ) (hn : n ≤ (k0_t1_loop i).trips) :
    ∃ x, FInv qf kf vf 0 (512 * I) n (passes0 i (k0_pay33 (lft xq)) xk xv (init0 xq xk) n) x := by
  induction n with
  | zero => exact ⟨_, init0_holds hq hk⟩
  | succ n ih =>
    obtain ⟨x, h⟩ := ih (by omega)
    rw [passes0_succ i _ xk xv _ ⟨n, by omega⟩]
    refine step_holds h (lft_q hq) ?_ ?_
    · exact (hk.window (R' := 512) (C' := 128) _ (k0_off1_inb i ⟨n, by omega⟩) (k0_off1_eq i ⟨n, by omega⟩)).congr fun a b _ _ => by simp only [Nat.mul_succ]
    · exact hv.window (R' := 512) (C' := 128) _ (k0_off3_inb i ⟨n, by omega⟩) (k0_off3_eq i ⟨n, by omega⟩)

/-- The second head's. -/
theorem passes1_holds (hi : (i 1).val = I) (hq : Is 512 256 xq (fun a b => qf (512 * I + a) b)) (hk : Is 4096 256 xk kf) (hv : Is 4096 256 xv vf) (n : ℕ) (hn : n ≤ (k0_t1_loop i).trips) :
    ∃ x, FInv qf kf vf 128 (512 * I) n (passes1 i (k0_pay34 (rgt xq)) xk xv (init1 xq xk) n) x := by
  induction n with
  | zero => exact ⟨_, init1_holds hq hk⟩
  | succ n ih =>
    obtain ⟨x, h⟩ := ih (by omega)
    rw [passes1_succ i _ xk xv _ ⟨n, by omega⟩]
    refine step_holds h (rgt_q hq) ?_ ?_
    · exact (hk.window (R' := 512) (C' := 128) _ (k0_off2_inb i ⟨n, by omega⟩) (k0_off2_eq i ⟨n, by omega⟩)).congr fun a b _ _ => by simp only [Nat.mul_succ]
    · exact hv.window (R' := 512) (C' := 128) _ (k0_off4_inb i ⟨n, by omega⟩) (k0_off4_eq i ⟨n, by omega⟩)

theorem out0_holds (hi : (i 1).val = I) (hq : Is 512 256 xq (fun a b => qf (512 * I + a) b)) (hk : Is 4096 256 xk kf) (hv : Is 4096 256 xv vf)
    (hone : ∀ u, u < 4096 → vf u 64 = 1) : Is 512 128 (out0 i xq xk xv) (fun a d => O qf kf vf 0 (512 * I + a) d) := by
  have hI : I < 8 := hi ▸ (i 1).isLt
  have ht := trips0 i
  obtain ⟨x, h⟩ := passes0_holds i hi hq hk hv _ le_rfl
  rw [ht, hi] at h
  have hw : Is 512 128 (window xv (k0_off9 i) S512x128.size (k0_off9_inb i)) (fun a b => vf (512 * I + a) (0 + b)) :=
    hv.window (R' := 512) (C' := 128) _ (k0_off9_inb i) (by rw [k0_off9_eq, hi])
  have := fin_holds h hw (fun u hu => by rw [Nat.zero_add]; exact hone u (by omega))
  unfold out0
  rw [ht, hi]
  exact this

theorem out1_holds (hi : (i 1).val = I) (hq : Is 512 256 xq (fun a b => qf (512 * I + a) b)) (hk : Is 4096 256 xk kf) (hv : Is 4096 256 xv vf)
    (hone : ∀ u, u < 4096 → vf u (128 + 64) = 1) : Is 512 128 (out1 i xq xk xv) (fun a d => O qf kf vf 128 (512 * I + a) d) := by
  have hI : I < 8 := hi ▸ (i 1).isLt
  have ht := trips0 i
  obtain ⟨x, h⟩ := passes1_holds i hi hq hk hv _ le_rfl
  rw [ht, hi] at h
  have hw : Is 512 128 (window xv (k0_off10 i) S512x128.size (k0_off10_inb i)) (fun a b => vf (512 * I + a) (128 + b)) :=
    hv.window (R' := 512) (C' := 128) _ (k0_off10_inb i) (by rw [k0_off10_eq, hi])
  have := fin_holds h hw (fun u hu => hone u (by omega))
  unfold out1
  rw [ht, hi]
  exact this

/-- Two heads side by side. -/
theorem both_holds {a b : Vec Ideal S512x128 .f32} {f : ℕ → ℕ → ℝ} (ha : Is 512 128 a (fun x y => f x (0 + y))) (hb : Is 512 128 b (fun x y => f x (128 + y))) :
    Is 512 256 (both (F := Ideal) (e := .f32) a b) f := by
  intro x y
  unfold both
  show (if h : y.val < 128 then _ else _) = _
  split
  · rename_i h
    refine (ha _ _).trans ?_
    beta_reduce
    rw [Nat.zero_add]
  · rename_i h
    refine (hb _ _).trans ?_
    beta_reduce
    rw [show 128 + (y.val - 128) = y.val by omega]

/-- A grid point's output block. -/
theorem outs_holds (hi : (i 1).val = I) (hq : Is 512 256 xq (fun a b => qf (512 * I + a) b)) (hk : Is 4096 256 xk kf) (hv : Is 4096 256 xv vf)
    (hone : ∀ u, u < 4096 → vf u 64 = 1 ∧ vf u (128 + 64) = 1) :
    Is 512 256 (both (F := Ideal) (e := .f32) (out0 i xq xk xv) (out1 i xq xk xv)) (fun a b => O qf kf vf (hd b) (512 * I + a) (b - hd b)) := by
  refine both_holds ((out0_holds i hi hq hk hv fun u hu => (hone u hu).1).congr fun a d _ hd' => ?_) ((out1_holds i hi hq hk hv fun u hu => (hone u hu).2).congr fun a d _ hd' => ?_)
  · beta_reduce
    rw [hd_lo d hd', Nat.zero_add, Nat.sub_zero]
  · beta_reduce
    rw [hd_hi d hd', Nat.add_sub_cancel_left]
end Point

end Cert.Val
-- ==== Proof.ValArr0.lean ====
/- The forward attention call's output array, in reals. -/
module

public import proofs.«01_k».proof.Proof.ValFwd3
public import proofs.«01_k».proof.Proof.Run0
public import Idealize.ShloMosaic.Lib.Pipeline.ValueKit

@[expose] public section

set_option maxRecDepth 8192

noncomputable section

namespace Cert.Val

open Idealize.ShloMosaic Idealize.ShloMosaic.VecWindow Idealize.ShloMosaic.ValueIdx Idealize.ShloMosaic.Tactic
open Idealize.SL Idealize.SL.RA
open Cert.KernelIdeal Cert.KernelIdeal.Gen
open scoped BigOperators

/-- Scores depend on a head's columns alone. -/
theorem S_shift (Qf Kf : ℕ → ℕ → ℝ) (p c t s : ℕ) : S (fun t b => Qf t (p + b)) (fun s b => Kf s (p + b)) c t s = S Qf Kf (p + c) t s := by
  unfold S; simp only [Nat.add_assoc]

theorem Z_shift (Qf Kf : ℕ → ℕ → ℝ) (p c t : ℕ) : Z (fun t b => Qf t (p + b)) (fun s b => Kf s (p + b)) c t = Z Qf Kf (p + c) t := by
  unfold Z; simp only [S_shift]

theorem O_shift (Qf Kf Vf : ℕ → ℕ → ℝ) (p c t d : ℕ) :
    O (fun t b => Qf t (p + b)) (fun s b => Kf s (p + b)) (fun s b => Vf s (p + b)) c t d = O Qf Kf Vf (p + c) t d := by
  unfold O; simp only [S_shift, Z_shift, Nat.add_assoc]

/-- A column's head, counted from a pair's first column. -/
theorem hd_pair (p b : ℕ) : hd (256 * p + b) = 256 * p + hd b := by unfold hd; omega

variable (V : (c : Dev nD) → (b : Ref sig .tc) → Buf (Elt Ideal) (c.tc.loc b))

theorem idx0_0 : ∀ t : Fin cfg0.N, win0_0.index t = ![t.val % 8, t.val / 8] := (by decide +kernel : ∀ t : Fin grid0.N, _)
theorem idx0_1 : ∀ t : Fin cfg0.N, win0_1.index t = ![0, t.val / 8] := (by decide +kernel : ∀ t : Fin grid0.N, _)
theorem idx0_2 : ∀ t : Fin cfg0.N, win0_2.index t = ![0, t.val / 8] := (by decide +kernel : ∀ t : Fin grid0.N, _)
theorem idx0_3 : ∀ t : Fin cfg0.N, win0_3.index t = ![t.val % 8, t.val / 8] := (by decide +kernel : ∀ t : Fin grid0.N, _)
theorem tile0 : ∀ t : Fin cfg0.N, (grid0.coords t 1).val = t.val % 8 := (by decide +kernel : ∀ t : Fin grid0.N, _)

section Arr
variable {Qf Kf Vf : ℕ → ℕ → ℝ} (c : Dev nD)

theorem blk0_0 (hQ : Is 4096 2048 (V c main_v15) Qf) (t : Fin cfg0.N) :
    Is 512 256 (Run.iblk0 (F := Ideal) V c 0 t) (fun a b => Qf (512 * (t.val % 8) + a) (256 * (t.val / 8) + b)) := by
  intro a b
  blk_simp [Run.iblk0]
  refine (hQ.at _).trans ?_
  blk_simp [idx0_0 t]
  congr 2 <;> first | rfl | (simp; omega)

theorem blk0_1 (hK : Is 4096 2048 (V c main_v22) Kf) (t : Fin cfg0.N) :
    Is 4096 256 (Run.iblk0 (F := Ideal) V c 1 t) (fun a b => Kf a (256 * (t.val / 8) + b)) := by
  intro a b
  blk_simp [Run.iblk0]
  refine (hK.at _).trans ?_
  blk_simp [idx0_1 t]
  congr 2 <;> first | rfl | (simp; omega)

theorem blk0_2 (hV : Is 4096 2048 (V c main_v27) Vf) (t : Fin cfg0.N) :
    Is 4096 256 (Run.iblk0 (F := Ideal) V c 2 t) (fun a b => Vf a (256 * (t.val / 8) + b)) := by
  intro a b
  blk_simp [Run.iblk0]
  refine (hV.at _).trans ?_
  blk_simp [idx0_2 t]
  congr 2 <;> first | rfl | (simp; omega)

/-- The output array after the call. -/
theorem arr0_3 (hQ : Is 4096 2048 (V c main_v15) Qf) (hK : Is 4096 2048 (V c main_v22) Kf) (hV : Is 4096 2048 (V c main_v27) Vf)
    (hone : ∀ u h, Vf u (128 * h + 64) = 1) :
    (Run.dat0 (F := Ideal) V c).arrAt 3 cfg0.N = fun i => ((O Qf Kf Vf (hd (i 1).val) (i 0).val ((i 1).val - hd (i 1).val) : ℝ) : EReal) := by
  refine (Run.dat0 (F := Ideal) V c).arrAt_eq_of_covers 3 _ (by decide +kernel) fun t hf y => ?_
  blk_simp
  rw [Run.after0_3]
  have h := outs_holds (qf := fun a b => Qf a (256 * (t.val / 8) + b)) (kf := fun a b => Kf a (256 * (t.val / 8) + b)) (vf := fun a b => Vf a (256 * (t.val / 8) + b)) (grid0.coords t) (tile0 t) (blk0_0 V c hQ t) (blk0_1 V c hK t) (blk0_2 V c hV t)
    (fun u _ => ⟨by
      have := hone u (2 * (t.val / 8))
      rw [← this]; congr 1; omega, by
      have := hone u (2 * (t.val / 8) + 1)
      rw [← this]; congr 1; omega⟩)
  refine (h.at y).trans ?_
  beta_reduce
  rw [O_shift]
  blk_simp [idx0_3 t]
  show _ = ((O Qf Kf Vf (hd ((t.val / 8) * 256 + (y 1).val)) ((t.val % 8) * 512 + (y 0).val) ((t.val / 8) * 256 + (y 1).val - hd ((t.val / 8) * 256 + (y 1).val)) : ℝ) : EReal)
  rw [Nat.mul_comm (t.val / 8), hd_pair, Nat.mul_comm (t.val % 8), Nat.add_sub_add_left]
end Arr

end Cert.Val
-- ==== Proof.ValArr1.lean ====
/- The backward attention call's output arrays, in reals. -/
module

public import proofs.«01_k».proof.Proof.ValArr0
public import proofs.«01_k».proof.Proof.Run1

@[expose] public section

set_option maxRecDepth 8192

noncomputable section

namespace Cert.Val

open Idealize.ShloMosaic Idealize.ShloMosaic.VecWindow Idealize.ShloMosaic.ValueIdx Idealize.ShloMosaic.Tactic
open Idealize.SL Idealize.SL.RA
open Cert.KernelIdeal Cert.KernelIdeal.Gen
open scoped BigOperators

theorem P_shift (Qf Kf Of : ℕ → ℕ → ℝ) (p c t s : ℕ) :
    P (fun t b => Qf t (p + b)) (fun s b => Kf s (p + b)) (fun t b => Of t (p + b)) c t s = P Qf Kf Of (p + c) t s := by
  unfold P; simp only [S_shift, Nat.add_assoc]

theorem D_shift (Qf Kf Vf Df Of : ℕ → ℕ → ℝ) (p c t s : ℕ) :
    D (fun t b => Qf t (p + b)) (fun s b => Kf s (p + b)) (fun s b => Vf s (p + b)) (fun t b => Df t (p + b)) (fun t b => Of t (p + b)) c t s
      = D Qf Kf Vf Df Of (p + c) t s := by
  unfold D; simp only [S_shift, P_shift]

variable (V : (c : Dev nD) → (b : Ref sig .tc) → Buf (Elt Ideal) (c.tc.loc b))

theorem idx1_0 : ∀ t : Fin cfg1.N, win1_0.index t = ![t.val % 8, t.val / 8] := (by decide +kernel : ∀ t : Fin grid1.N, _)
theorem idx1_1 : ∀ t : Fin cfg1.N, win1_1.index t = ![t.val % 8, t.val / 8] := (by decide +kernel : ∀ t : Fin grid1.N, _)
theorem idx1_2 : ∀ t : Fin cfg1.N, win1_2.index t = ![0, t.val / 8] := (by decide +kernel : ∀ t : Fin grid1.N, _)
theorem idx1_3 : ∀ t : Fin cfg1.N, win1_3.index t = ![0, t.val / 8] := (by decide +kernel : ∀ t : Fin grid1.N, _)
theorem idx1_4 : ∀ t : Fin cfg1.N, win1_4.index t = ![0, t.val / 8] := (by decide +kernel : ∀ t : Fin grid1.N, _)
theorem idx1_5 : ∀ t : Fin cfg1.N, win1_5.index t = ![0, t.val / 8] := (by decide +kernel : ∀ t : Fin grid1.N, _)
theorem idx1_6 : ∀ t : Fin cfg1.N, win1_6.index t = ![t.val % 8, t.val / 8] := (by decide +kernel : ∀ t : Fin grid1.N, _)
theorem idx1_7 : ∀ t : Fin cfg1.N, win1_7.index t = ![t.val % 8, t.val / 8] := (by decide +kernel : ∀ t : Fin grid1.N, _)
theorem tile1 : ∀ t : Fin cfg1.N, (grid1.coords t 1).val = t.val % 8 := (by decide +kernel : ∀ t : Fin grid1.N, _)
theorem last1 : ∀ t : Fin cfg1.N, win1_5.flush t = true → t.val % 8 = 7 := (by decide +kernel : ∀ t : Fin grid1.N, _)

section Arr
variable {Qf Kf Vf Df Of : ℕ → ℕ → ℝ} (c : Dev nD)

theorem blk1_0 (hK : Is 4096 2048 (V c main_v22) Kf) (t : Fin cfg1.N) :
    Is 512 256 (Run.iblk1 (F := Ideal) V c 0 t) (fun a b => Kf (512 * (t.val % 8) + a) (256 * (t.val / 8) + b)) := by
  intro a b
  blk_simp [Run.iblk1]
  refine (hK.at _).trans ?_
  blk_simp [idx1_0 t]
  congr 2 <;> first | rfl | (simp; omega)

theorem blk1_1 (hV : Is 4096 2048 (V c main_v27) Vf) (t : Fin cfg1.N) :
    Is 512 256 (Run.iblk1 (F := Ideal) V c 1 t) (fun a b => Vf (512 * (t.val % 8) + a) (256 * (t.val / 8) + b)) := by
  intro a b
  blk_simp [Run.iblk1]
  refine (hV.at _).trans ?_
  blk_simp [idx1_1 t]
  congr 2 <;> first | rfl | (simp; omega)

theorem blk1_2 (hQ : Is 4096 2048 (V c main_v15) Qf) (t : Fin cfg1.N) :
    Is 4096 256 (Run.iblk1 (F := Ideal) V c 2 t) (fun a b => Qf a (256 * (t.val / 8) + b)) := by
  intro a b
  blk_simp [Run.iblk1]
  refine (hQ.at _).trans ?_
  blk_simp [idx1_2 t]
  congr 2 <;> first | rfl | (simp; omega)

theorem blk1_3 (hD : Is 4096 2048 (V c main_v38) Df) (t : Fin cfg1.N) :
    Is 4096 256 (Run.iblk1 (F := Ideal) V c 3 t) (fun a b => Df a (256 * (t.val / 8) + b)) := by
  intro a b
  blk_simp [Run.iblk1]
  refine (hD.at _).trans ?_
  blk_simp [idx1_3 t]
  congr 2 <;> first | rfl | (simp; omega)

theorem blk1_4 (hO : Is 4096 2048 (V c main_v28) Of) (t : Fin cfg1.N) :
    Is 4096 256 (Run.iblk1 (F := Ideal) V c 4 t) (fun a b => Of a (256 * (t.val / 8) + b)) := by
  intro a b
  blk_simp [Run.iblk1]
  refine (hO.at _).trans ?_
  blk_simp [idx1_4 t]
  congr 2 <;> first | rfl | (simp; omega)

/-- The three gradients, at a column of the whole arrays. -/
def gQ (Qf Kf Vf Df Of : ℕ → ℕ → ℝ) (n t B : ℕ) : ℝ := ∑ s ∈ Finset.range n, D Qf Kf Vf Df Of (hd B) t s * Kf s B
def gK (Qf Kf Vf Df Of : ℕ → ℕ → ℝ) (s B : ℕ) : ℝ := ∑ t ∈ Finset.range 4096, D Qf Kf Vf Df Of (hd B) t s * Qf t B
def gV (Qf Kf Df Of : ℕ → ℕ → ℝ) (s B : ℕ) : ℝ := ∑ t ∈ Finset.range 4096, P Qf Kf Of (hd B) t s * Df t B

/-- One grid point, over whole-array columns. -/
theorem pointAt_holds (hQ : Is 4096 2048 (V c main_v15) Qf) (hK : Is 4096 2048 (V c main_v22) Kf) (hV : Is 4096 2048 (V c main_v27) Vf)
    (hD : Is 4096 2048 (V c main_v38) Df) (hO : Is 4096 2048 (V c main_v28) Of) (t : Fin cfg1.N) {x : Vec Ideal S4096x256 .f32}
    (h : Is 4096 256 x (fun a b => gQ Qf Kf Vf Df Of (512 * (t.val % 8)) a (256 * (t.val / 8) + b))) :
    Holds (Run.pointAt (F := Ideal) V c t x) (fun a b => gQ Qf Kf Vf Df Of (512 * (t.val % 8 + 1)) a (256 * (t.val / 8) + b))
      (fun a b => gK Qf Kf Vf Df Of (512 * (t.val % 8) + a) (256 * (t.val / 8) + b))
      (fun a b => gV Qf Kf Df Of (512 * (t.val % 8) + a) (256 * (t.val / 8) + b)) := by
  have hp := point_holds (qf := fun a b => Qf a (256 * (t.val / 8) + b)) (kf := fun a b => Kf a (256 * (t.val / 8) + b)) (vf := fun a b => Vf a (256 * (t.val / 8) + b))
    (df := fun a b => Df a (256 * (t.val / 8) + b)) (of := fun a b => Of a (256 * (t.val / 8) + b)) (grid1.coords t) (tile1 t)
    (blk1_0 V c hK t) (blk1_1 V c hV t) (blk1_2 V c hQ t) (blk1_3 V c hD t) (blk1_4 V c hO t) h
  unfold Run.pointAt
  refine hp.congr ?_ ?_ ?_
  · intro a b _ _
    beta_reduce
    unfold gQ
    simp only [D_shift, hd_pair]
    rw [show 512 * (t.val % 8 + 1) = 512 * (t.val % 8) + 512 by ring, Finset.sum_range_add _ (512 * (t.val % 8)) 512]
  · intro a b _ _
    beta_reduce
    unfold gK
    simp only [D_shift, hd_pair]
  · intro a b _ _
    beta_reduce
    unfold gV
    simp only [P_shift, hd_pair]

/-- What the blocks hold after a grid point. -/
theorem stAt_holds (hQ : Is 4096 2048 (V c main_v15) Qf) (hK : Is 4096 2048 (V c main_v22) Kf) (hV : Is 4096 2048 (V c main_v27) Vf)
    (hD : Is 4096 2048 (V c main_v38) Df) (hO : Is 4096 2048 (V c main_v28) Of) (n : ℕ) : ∀ t : Fin cfg1.N, t.val = n →
    Holds (Run.stAt (F := Ideal) V c t.val t.isLt) (fun a b => gQ Qf Kf Vf Df Of (512 * (t.val % 8 + 1)) a (256 * (t.val / 8) + b))
      (fun a b => gK Qf Kf Vf Df Of (512 * (t.val % 8) + a) (256 * (t.val / 8) + b))
      (fun a b => gV Qf Kf Df Of (512 * (t.val % 8) + a) (256 * (t.val / 8) + b)) := by
  induction n using Nat.strong_induction_on with
  | _ n ih =>
    intro t ht
    by_cases h0 : t.val % 8 = 0
    · rw [Run.stAt_first V c t h0]
      refine pointAt_holds V c hQ hK hV hD hO t (pay46.congr fun a b _ _ => ?_)
      beta_reduce
      rw [h0]; unfold gQ; simp
    · rw [Run.stAt_rest V c t h0]
      have := (ih (t.val - 1) (by omega) ⟨t.val - 1, Nat.lt_of_le_of_lt (Nat.sub_le _ _) t.isLt⟩ rfl).dq
      refine pointAt_holds V c hQ hK hV hD hO t (this.congr fun a b _ _ => ?_)
      beta_reduce
      rw [show (t.val - 1) % 8 + 1 = t.val % 8 by omega, show (t.val - 1) / 8 = t.val / 8 by omega]

variable (hQ : Is 4096 2048 (V c main_v15) Qf) (hK : Is 4096 2048 (V c main_v22) Kf) (hV : Is 4096 2048 (V c main_v27) Vf)
    (hD : Is 4096 2048 (V c main_v38) Df) (hO : Is 4096 2048 (V c main_v28) Of)
include hQ hK hV hD hO

theorem arr1_5 : (Run.dat1 (F := Ideal) V c).arrAt 5 cfg1.N = fun i => ((gQ Qf Kf Vf Df Of 4096 (i 0).val (i 1).val : ℝ) : EReal) := by
  refine (Run.dat1 (F := Ideal) V c).arrAt_eq_of_covers 5 _ (by decide +kernel) fun t hf y => ?_
  have h7 := last1 t hf
  blk_simp
  rw [Run.after1_5]
  refine ((stAt_holds V c hQ hK hV hD hO t.val t rfl).dq.at y).trans ?_
  beta_reduce
  blk_simp [idx1_5 t]
  rw [h7]
  show _ = ((gQ Qf Kf Vf Df Of 4096 (y 0).val ((t.val / 8) * 256 + (y 1).val) : ℝ) : EReal)
  rw [Nat.mul_comm (t.val / 8)]

theorem arr1_6 : (Run.dat1 (F := Ideal) V c).arrAt 6 cfg1.N = fun i => ((gK Qf Kf Vf Df Of (i 0).val (i 1).val : ℝ) : EReal) := by
  refine (Run.dat1 (F := Ideal) V c).arrAt_eq_of_covers 6 _ (by decide +kernel) fun t hf y => ?_
  blk_simp
  rw [Run.after1_6]
  have h := stAt_holds V c hQ hK hV hD hO t.val t rfl
  refine ((both_holds (f := fun a b => gK Qf Kf Vf Df Of (512 * (t.val % 8) + a) (256 * (t.val / 8) + b)) h.dk0 h.dk1).at y).trans ?_
  beta_reduce
  blk_simp [idx1_6 t]
  show _ = ((gK Qf Kf Vf Df Of ((t.val % 8) * 512 + (y 0).val) ((t.val / 8) * 256 + (y 1).val) : ℝ) : EReal)
  rw [Nat.mul_comm (t.val / 8), Nat.mul_comm (t.val % 8)]

theorem arr1_7 : (Run.dat1 (F := Ideal) V c).arrAt 7 cfg1.N = fun i => ((gV Qf Kf Df Of (i 0).val (i 1).val : ℝ) : EReal) := by
  refine (Run.dat1 (F := Ideal) V c).arrAt_eq_of_covers 7 _ (by decide +kernel) fun t hf y => ?_
  blk_simp
  rw [Run.after1_7]
  have h := stAt_holds V c hQ hK hV hD hO t.val t rfl
  refine ((both_holds (f := fun a b => gV Qf Kf Df Of (512 * (t.val % 8) + a) (256 * (t.val / 8) + b)) h.dv0 h.dv1).at y).trans ?_
  beta_reduce
  blk_simp [idx1_7 t]
  show _ = ((gV Qf Kf Df Of ((t.val % 8) * 512 + (y 0).val) ((t.val / 8) * 256 + (y 1).val) : ℝ) : EReal)
  rw [Nat.mul_comm (t.val / 8), Nat.mul_comm (t.val % 8)]
end Arr

end Cert.Val
-- ==== Proof.Ref2.lean ====
module

public import proofs.«01_k».proof.Proof.Ref1

/-! The reference read over the reals, second half: the gradients. -/

@[expose] public section

set_option maxRecDepth 8192

noncomputable section

namespace Cert.Ref

open Idealize.ShloMosaic Idealize.ShloMosaic.ValueIdx
open Cert.ReferenceIdeal Cert.ReferenceIdeal.Gen Cert.ReferenceIdeal.Read
open Cert.Val (coe_sum coe_sum_fin zero_f32)
open scoped BigOperators

/-- The attention weight: the share of key `s` in the row of query `t`. -/
def p (q k : ℕ → ℕ → ℕ → ℝ) (w : ℕ → ℕ → ℝ) (h t s : ℕ) : ℝ := E q k w h t s / Zr q k w h t

/-- The gradient of the weight: the products of the cotangent and the values. -/
def dp (v g : ℕ → ℕ → ℕ → ℝ) (h t s : ℕ) : ℝ := ∑ d ∈ Finset.range 64, g t h d * v s h d

/-- The gradient of the logit. -/
def ds (q k v : ℕ → ℕ → ℕ → ℝ) (w : ℕ → ℕ → ℝ) (g : ℕ → ℕ → ℕ → ℝ) (h t s : ℕ) : ℝ :=
  p q k w h t s * (dp v g h t s - ∑ u ∈ Finset.range 4096, p q k w h t u * dp v g h t u)

section

variable {x0 x1 x2 x4 : FVec Ideal S4096x16x64 .f32} {x3 : FVec Ideal S4096x16 .f32}
  {q k v g : ℕ → ℕ → ℕ → ℝ} {w M : ℕ → ℕ → ℝ}

theorem v45_at (hg : A3 x4 g) : A3 (val_main_v45 (F := Ideal) x4) (fun h d t => g t h d) := by
  intro i
  rw [val_main_v45_apply, hg]

theorem v46_at (hv : A3 x2 v) (hg : A3 x4 g) : A3 (val_main_v46 (F := Ideal) x2 x4) (dp v g) := by
  intro i
  rw [val_main_v46_apply]
  refine Eq.trans (Finset.sum_congr rfl fun z _ => ?_) (coe_sum_fin 64 (fun d => g (i 1).val (i 0).val d * v (i 2).val (i 0).val d))
  rw [v45_at hg, hv]
  exact (EReal.coe_mul _ _).symm

/-- The gradient of the values. -/
theorem v48_at (hq : A3 x0 q) (hk : A3 x1 k) (hw : A2 x3 w) (hM : A2 (val_main_v22 (F := Ideal) x0 x1 x3) M) (hg : A3 x4 g) :
    A3 (val_main_v48 (F := Ideal) x0 x1 x3 x4) (fun s h d => ∑ t ∈ Finset.range 4096, g t h d * p q k w h t s) := by
  intro i
  rw [val_main_v48_apply, val_main_v47_apply]
  refine Eq.trans (Finset.sum_congr rfl fun z _ => ?_)
    (coe_sum_fin 4096 (fun t => g t (i 1).val (i 2).val * p q k w (i 1).val t (i 0).val))
  rw [v45_at hg, v39_at hq hk hw hM]
  exact (EReal.coe_mul _ _).symm

/-- The products whose sum over a row is the gradient of the row's normaliser. -/
theorem v51_at (hq : A3 x0 q) (hk : A3 x1 k) (hv : A3 x2 v) (hw : A2 x3 w) (hM : A2 (val_main_v22 (F := Ideal) x0 x1 x3) M) (hg : A3 x4 g) :
    A3 (val_main_v51 (F := Ideal) x0 x1 x2 x3 x4)
      (fun h t s => p q k w h t s * dp v g h t s * (1 / (Zr q k w h t * Real.exp (-M h t)))) := by
  intro i
  have hz := Zr_pos q k w (i 0).val (i 1).val (i 1).isLt
  have hy := Real.exp_pos (-M (i 0).val (i 1).val)
  rw [val_main_v51_apply, val_main_v50_apply, v46_at hv hg, val_main_v49_apply, v42_at hq hk hw hM, v35_at hq hk hw hM]
  refine (congrArg₂ (· * ·) (EReal.coe_mul _ _).symm rfl).trans ?_
  refine (EReal.coe_mul _ _).symm.trans (congrArg _ ?_)
  unfold p
  show dp v g (i 0).val (i 1).val (i 2).val * (1 / ((Zr q k w (i 0).val (i 1).val * Real.exp (-M (i 0).val (i 1).val)) * (Zr q k w (i 0).val (i 1).val * Real.exp (-M (i 0).val (i 1).val)))) * (E q k w (i 0).val (i 1).val (i 2).val * Real.exp (-M (i 0).val (i 1).val)) = _
  field_simp

/-- The weighted mean of the weights' gradients in a row. -/
def mean (q k v : ℕ → ℕ → ℕ → ℝ) (w : ℕ → ℕ → ℝ) (g : ℕ → ℕ → ℕ → ℝ) (h t : ℕ) : ℝ :=
  ∑ u ∈ Finset.range 4096, p q k w h t u * dp v g h t u

theorem v52_at (hq : A3 x0 q) (hk : A3 x1 k) (hv : A3 x2 v) (hw : A2 x3 w) (hM : A2 (val_main_v22 (F := Ideal) x0 x1 x3) M) (hg : A3 x4 g) :
    A2 (val_main_v52 (F := Ideal) x0 x1 x2 x3 x4)
      (fun h t => mean q k v w g h t * (1 / (Zr q k w h t * Real.exp (-M h t)))) := by
  intro i
  rw [val_main_v52_apply, val_main_cst_10_apply]
  refine (congrArg₂ (· + ·) zero_f32 (Finset.sum_congr rfl fun z _ => v51_at hq hk hv hw hM hg _)).trans ?_
  rw [zero_add]
  refine (coe_sum_fin 4096 (fun s => p q k w (i 0).val (i 1).val s * dp v g (i 0).val (i 1).val s
    * (1 / (Zr q k w (i 0).val (i 1).val * Real.exp (-M (i 0).val (i 1).val))))).trans ?_
  rw [← Finset.sum_mul]; rfl

/-- A sum over an axis of one position. -/
theorem sum_one (f : Fin 1 → EReal) : ∑ z : Fin 1, f z = f 0 := by simp

theorem v57_at (hq : A3 x0 q) (hk : A3 x1 k) (hv : A3 x2 v) (hw : A2 x3 w) (hM : A2 (val_main_v22 (F := Ideal) x0 x1 x3) M) (hg : A3 x4 g) :
    A2 (val_main_v57 (F := Ideal) x0 x1 x2 x3 x4)
      (fun h t => -(mean q k v w g h t * (1 / (Zr q k w h t * Real.exp (-M h t))))) := by
  intro i
  have h0 : (i 0).val < 16 := (i 0).isLt
  have h1 : (i 1).val < 4096 := (i 1).isLt
  rw [val_main_v57_apply, val_main_cst_11_apply]
  refine (congrArg₂ (· + ·) zero_f32 (sum_one _)).trans ?_
  rw [zero_add, val_main_v54_apply, val_main_v53_apply, v52_at hq hk hv hw hM hg]
  refine (EReal.coe_neg _).symm.trans (congrArg _ ?_)
  have e0 : (((i 0).val * 4096 + (i 1).val) * 1 + 0) / 4096 = (i 0).val := by omega
  have e1 : (((i 0).val * 4096 + (i 1).val) * 1 + 0) % 4096 = (i 1).val := by omega
  show -(mean q k v w g ((((i 0).val * 4096 + (i 1).val) * 1 + 0) / 4096) ((((i 0).val * 4096 + (i 1).val) * 1 + 0) % 4096) * (1 / (Zr q k w ((((i 0).val * 4096 + (i 1).val) * 1 + 0) / 4096) ((((i 0).val * 4096 + (i 1).val) * 1 + 0) % 4096) * Real.exp (-M ((((i 0).val * 4096 + (i 1).val) * 1 + 0) / 4096) ((((i 0).val * 4096 + (i 1).val) * 1 + 0) % 4096))))) = _
  rw [e0, e1]

/-- The gradient of the logits. -/
theorem v61_at (hq : A3 x0 q) (hk : A3 x1 k) (hv : A3 x2 v) (hw : A2 x3 w) (hM : A2 (val_main_v22 (F := Ideal) x0 x1 x3) M) (hg : A3 x4 g) :
    A3 (val_main_v61 (F := Ideal) x0 x1 x2 x3 x4) (ds q k v w g) := by
  intro i
  have hz := Zr_pos q k w (i 0).val (i 1).val (i 1).isLt
  have hy := Real.exp_pos (-M (i 0).val (i 1).val)
  rw [val_main_v61_apply, mask_at]
  by_cases h : (i 2).val ≤ (i 1).val
  · rw [if_pos h, val_main_v60_apply, val_main_v59_apply, val_main_v56_apply, val_main_v55_apply, val_main_v58_apply,
      v46_at hv hg, v37_at hq hk hw hM, v57_at hq hk hv hw hM hg, v35_at hq hk hw hM]
    refine (congrArg₂ (· * ·) (congrArg₂ (· + ·) ((Ideal.div_coe (mul_pos hz hy).ne' _).trans (EReal.coe_mul _ _).symm) rfl) rfl).trans ?_
    refine (congrArg₂ (· * ·) (EReal.coe_add _ _).symm rfl).trans ?_
    refine (EReal.coe_mul _ _).symm.trans (congrArg _ ?_)
    show (dp v g (i 0).val (i 1).val (i 2).val * (1 / (Zr q k w (i 0).val (i 1).val * Real.exp (-M (i 0).val (i 1).val)))
      + -(mean q k v w g (i 0).val (i 1).val * (1 / (Zr q k w (i 0).val (i 1).val * Real.exp (-M (i 0).val (i 1).val)))))
      * (E q k w (i 0).val (i 1).val (i 2).val * Real.exp (-M (i 0).val (i 1).val))
      = p q k w (i 0).val (i 1).val (i 2).val * (dp v g (i 0).val (i 1).val (i 2).val - mean q k v w g (i 0).val (i 1).val)
    unfold p
    field_simp
    ring
  · rw [if_neg h, val_main_call1_v0_apply, val_main_call1_cst_apply]
    refine Eq.trans (b := (0 : EReal)) zero_f32 ?_
    rw [← EReal.coe_zero]
    refine congrArg _ ?_
    unfold ds p E
    rw [if_neg h, zero_div, zero_mul]

/-- The gradient of the queries. -/
theorem v73_at (hq : A3 x0 q) (hk : A3 x1 k) (hv : A3 x2 v) (hw : A2 x3 w) (hM : A2 (val_main_v22 (F := Ideal) x0 x1 x3) M) (hg : A3 x4 g) :
    A3 (val_main_v73 (F := Ideal) x0 x1 x2 x3 x4) (fun t h d => ∑ s ∈ Finset.range 4096, ds q k v w g h t s * k s h d) := by
  intro i
  rw [val_main_v73_apply, val_main_v72_apply]
  refine Eq.trans (Finset.sum_congr rfl fun z _ => ?_)
    (coe_sum_fin 4096 (fun s => ds q k v w g (i 1).val (i 0).val s * k s (i 1).val (i 2).val))
  rw [v61_at hq hk hv hw hM hg, hk]
  exact (EReal.coe_mul _ _).symm

/-- The gradient of the keys. -/
theorem v71_at (hq : A3 x0 q) (hk : A3 x1 k) (hv : A3 x2 v) (hw : A2 x3 w) (hM : A2 (val_main_v22 (F := Ideal) x0 x1 x3) M) (hg : A3 x4 g) :
    A3 (val_main_v71 (F := Ideal) x0 x1 x2 x3 x4) (fun s h d => ∑ t ∈ Finset.range 4096, ds q k v w g h t s * q t h d) := by
  intro i
  rw [val_main_v71_apply, val_main_v70_apply]
  refine Eq.trans (Finset.sum_congr rfl fun z _ => ?_)
    (coe_sum_fin 4096 (fun t => ds q k v w g (i 1).val t (i 0).val * q t (i 1).val (i 2).val))
  rw [v61_at hq hk hv hw hM hg, hq]
  exact (EReal.coe_mul _ _).symm

/-- The sums of the logits' gradients along a row. -/
theorem v68_at (hq : A3 x0 q) (hk : A3 x1 k) (hv : A3 x2 v) (hw : A2 x3 w) (hM : A2 (val_main_v22 (F := Ideal) x0 x1 x3) M) (hg : A3 x4 g) :
    A2 (val_main_v68 (F := Ideal) x0 x1 x2 x3 x4) (fun h t => ∑ s ∈ Finset.range 4096, ds q k v w g h t s) := by
  intro i
  have h0 : (i 0).val < 16 := (i 0).isLt
  have h1 : (i 1).val < 4096 := (i 1).isLt
  rw [val_main_v68_apply, val_main_cst_15_apply]
  refine (congrArg₂ (· + ·) zero_f32 (sum_one _)).trans ?_
  rw [zero_add, val_main_v63_apply, val_main_v62_apply, val_main_cst_12_apply]
  refine (congrArg₂ (· + ·) zero_f32 (Finset.sum_congr rfl fun z _ => v61_at hq hk hv hw hM hg _)).trans ?_
  rw [zero_add]
  have e0 : (((i 0).val * 4096 + (i 1).val) * 1 + 0) / 4096 = (i 0).val := by omega
  have e1 : (((i 0).val * 4096 + (i 1).val) * 1 + 0) % 4096 = (i 1).val := by omega
  refine (coe_sum_fin 4096 (fun s => ds q k v w g ((((i 0).val * 4096 + (i 1).val) * 1 + 0) / 4096)
    ((((i 0).val * 4096 + (i 1).val) * 1 + 0) % 4096) s)).trans ?_
  rw [e0, e1]

/-- The negated sums along a column. -/
theorem v67_at (hq : A3 x0 q) (hk : A3 x1 k) (hv : A3 x2 v) (hw : A2 x3 w) (hM : A2 (val_main_v22 (F := Ideal) x0 x1 x3) M) (hg : A3 x4 g) :
    A2 (val_main_v67 (F := Ideal) x0 x1 x2 x3 x4) (fun h s => -∑ t ∈ Finset.range 4096, ds q k v w g h t s) := by
  intro i
  have h0 : (i 0).val < 16 := (i 0).isLt
  have h1 : (i 1).val < 4096 := (i 1).isLt
  rw [val_main_v67_apply, val_main_cst_14_apply]
  refine (congrArg₂ (· + ·) zero_f32 (sum_one _)).trans ?_
  rw [zero_add, val_main_v66_apply, val_main_v65_apply, val_main_cst_13_apply]
  refine (congrArg₂ (· + ·) zero_f32 (Finset.sum_congr rfl fun z _ =>
    (val_main_v64_apply _ _ _ _ _ _).trans ((congrArg _ (v61_at hq hk hv hw hM hg _)).trans (EReal.coe_neg _).symm))).trans ?_
  rw [zero_add]
  have e0 : (((i 0).val * 1 + 0) * 4096 + (i 1).val) / 4096 = (i 0).val := by omega
  have e1 : (((i 0).val * 1 + 0) * 4096 + (i 1).val) % 4096 = (i 1).val := by omega
  refine (coe_sum_fin 4096 (fun t => -ds q k v w g ((((i 0).val * 1 + 0) * 4096 + (i 1).val) / 4096) t
    ((((i 0).val * 1 + 0) * 4096 + (i 1).val) % 4096))).trans ?_
  rw [e0, e1, Finset.sum_neg_distrib]

/-- The gradient of the cumulative log decay. -/
theorem v74_at (hq : A3 x0 q) (hk : A3 x1 k) (hv : A3 x2 v) (hw : A2 x3 w) (hM : A2 (val_main_v22 (F := Ideal) x0 x1 x3) M) (hg : A3 x4 g) :
    A2 (val_main_v74 (F := Ideal) x0 x1 x2 x3 x4) (fun t h =>
      ∑ s ∈ Finset.range 4096, ds q k v w g h t s - ∑ s ∈ Finset.range 4096, ds q k v w g h s t) := by
  intro i
  rw [val_main_v74_apply, val_main_v69_apply, v67_at hq hk hv hw hM hg, v68_at hq hk hv hw hM hg]
  refine (EReal.coe_add _ _).symm.trans (congrArg _ ?_)
  exact neg_add_eq_sub _ _

end

end Cert.Ref
-- ==== Proof.ValMath.lean ====
module

public import proofs.«01_k».proof.Proof.ValArr1
public import proofs.«01_k».proof.Proof.ValArr0
public import proofs.«01_k».proof.Proof.ValHost
public import proofs.«01_k».proof.Proof.Ref2

/-! The two programs' gradients are the same reals: the padded lanes carry the running sum, the logarithm of the row's sum and the row's
    correction, and what the padded products add is what the reference writes out. -/

@[expose] public section

noncomputable section

namespace Cert.Val

open Cert.Ref (L E Zr p dp ds mean Zr_pos)
open scoped BigOperators

variable (q k v g : ℕ → ℕ → ℕ → ℝ) (w : ℕ → ℕ → ℝ)

/-- The arrays the kernels read and write, padded. -/
abbrev Qf : ℕ → ℕ → ℝ := qP q w
abbrev Kf : ℕ → ℕ → ℝ := kP k w
abbrev Vf : ℕ → ℕ → ℝ := vP v fun _ _ => 1
abbrev Of : ℕ → ℕ → ℝ := fun t B => O (Qf q w) (Kf k w) (Vf v) (hd B) t (B - hd B)
abbrev Df : ℕ → ℕ → ℝ := vP g fun t h => - ∑ d ∈ Finset.range 64, g t h d * Of q k v w t (128 * h + d)

theorem div_lane (h l : ℕ) (hl : l < 128) : (128 * h + l) / 128 = h := by omega
theorem mod_lane (h l : ℕ) (hl : l < 128) : (128 * h + l) % 128 = l := by omega
theorem hd_lane (h l : ℕ) (hl : l < 128) : hd (128 * h + l) = 128 * h := by unfold hd; omega

theorem qP_at (h t l : ℕ) (hl : l < 128) : Qf q w t (128 * h + l) =
    if l < 64 then q t h l else if l < 65 then w t h else if l < 67 then 0 else if l < 70 then 1 else 0 := by
  unfold Qf qP; rw [div_lane h l hl, mod_lane h l hl]
theorem kP_at (h t l : ℕ) (hl : l < 128) : Kf k w t (128 * h + l) =
    if l < 64 then k t h l else if l < 67 then 1 else if l < 68 then - w t h else 0 := by
  unfold Kf kP; rw [div_lane h l hl, mod_lane h l hl]
theorem vP_at (h t l : ℕ) (hl : l < 128) : vP v w t (128 * h + l) =
    if l < 64 then v t h l else if l < 65 then w t h else 0 := by
  unfold vP; rw [div_lane h l hl, mod_lane h l hl]

theorem Vf_at (h t l : ℕ) (hl : l < 128) : Vf v t (128 * h + l) = if l < 64 then v t h l else if l < 65 then 1 else 0 := vP_at v (fun _ _ => 1) h t l hl
theorem Df_at (h t l : ℕ) (hl : l < 64) : Df q k v g w t (128 * h + l) = g t h l := by
  unfold Df; rw [vP_at g _ h t l (by omega), if_pos hl]

/-- A sum over 128 lanes of which those from 70 on are zero. -/
theorem sum_split (f : ℕ → ℝ) (h0 : ∀ l, 70 ≤ l → l < 128 → f l = 0) :
    ∑ l ∈ Finset.range 128, f l = ∑ l ∈ Finset.range 64, f l + (f 64 + f 65 + f 66 + f 67 + f 68 + f 69) := by
  have e1 : ∑ l ∈ Finset.range (70 + 58), f l = ∑ l ∈ Finset.range 70, f l + ∑ l ∈ Finset.range 58, f (70 + l) := Finset.sum_range_add f 70 58
  have e2 : ∑ l ∈ Finset.range 58, f (70 + l) = 0 :=
    Finset.sum_eq_zero fun l hl => h0 _ (by omega) (by have := Finset.mem_range.1 hl; omega)
  have e3 : ∑ l ∈ Finset.range (64 + 6), f l = ∑ l ∈ Finset.range 64, f l + ∑ l ∈ Finset.range 6, f (64 + l) := Finset.sum_range_add f 64 6
  rw [show (128 : ℕ) = 70 + 58 from rfl, e1, e2, add_zero, show (70 : ℕ) = 64 + 6 from rfl, e3]
  simp [Finset.sum_range_succ]

/-- The padded score is the logit. -/
theorem S_qk (h t s : ℕ) : S (Qf q w) (Kf k w) (128 * h) t s = L q k w h t s := by
  unfold S
  rw [sum_split]
  · unfold L
    rw [Finset.sum_congr rfl fun l hl => by
      have := Finset.mem_range.1 hl
      rw [qP_at q w h t l (by omega), kP_at k w h s l (by omega), if_pos this, if_pos this]]
    congr 1
    rw [qP_at q w h t 64 (by omega), qP_at q w h t 65 (by omega), qP_at q w h t 66 (by omega), qP_at q w h t 67 (by omega),
      qP_at q w h t 68 (by omega), qP_at q w h t 69 (by omega), kP_at k w h s 64 (by omega), kP_at k w h s 65 (by omega),
      kP_at k w h s 66 (by omega), kP_at k w h s 67 (by omega), kP_at k w h s 68 (by omega), kP_at k w h s 69 (by omega)]
    norm_num
    ring
  · intro l h0 h1
    rw [kP_at k w h s l h1, if_neg (by omega), if_neg (by omega), if_neg (by omega), mul_zero]

/-- The padded product of a cotangent and the values. -/
theorem S_dv (u : ℕ → ℕ → ℝ) (h t s : ℕ) : S (vP g u) (Vf v) (128 * h) t s = dp v g h t s + u t h := by
  unfold S
  rw [sum_split]
  · unfold dp
    rw [Finset.sum_congr rfl fun l hl => by
      have := Finset.mem_range.1 hl
      rw [vP_at g u h t l (by omega), Vf_at v h s l (by omega), if_pos this, if_pos this]]
    congr 1
    rw [vP_at g u h t 64 (by omega), vP_at g u h t 65 (by omega), vP_at g u h t 66 (by omega), vP_at g u h t 67 (by omega),
      vP_at g u h t 68 (by omega), vP_at g u h t 69 (by omega), Vf_at v h s 64 (by omega)]
    norm_num
  · intro l h0 h1
    rw [Vf_at v h s l h1, if_neg (by omega), if_neg (by omega), mul_zero]

/-- A sum over the causal part of a row is one over the whole row. -/
theorem sum_causal (f : ℕ → ℝ) (h t : ℕ) (ht : t < 4096) :
    ∑ u ∈ Finset.range (t + 1), Real.exp (L q k w h t u) * f u = ∑ u ∈ Finset.range 4096, E q k w h t u * f u := by
  have e : ∀ u ∈ Finset.range (t + 1), Real.exp (L q k w h t u) * f u = E q k w h t u * f u := fun u hu => by
    unfold E; rw [if_pos (by have := Finset.mem_range.1 hu; omega)]
  rw [Finset.sum_congr rfl e]
  refine Finset.sum_subset (Finset.range_mono (by omega)) fun u _ hu => ?_
  unfold E
  rw [if_neg (by intro hh; exact hu (Finset.mem_range.2 (by omega))), zero_mul]

theorem Z_eq (h t : ℕ) (ht : t < 4096) : Z (Qf q w) (Kf k w) (128 * h) t = Zr q k w h t := by
  unfold Z Zr
  have := sum_causal q k w (fun _ => 1) h t ht
  simp only [mul_one] at this
  rw [← this]
  exact Finset.sum_congr rfl fun u _ => by rw [S_qk]

/-- The output's lane 64. -/
theorem Of_log (h t : ℕ) (ht : t < 4096) : Of q k v w t (128 * h + 64) = Real.log (Zr q k w h t) := by
  unfold Of O
  rw [hd_lane h 64 (by omega), if_pos (by omega), Z_eq q k w h t ht]

/-- The output's lanes below 64. -/
theorem Of_out (h t d : ℕ) (ht : t < 4096) (hd' : d < 64) :
    Of q k v w t (128 * h + d) = ∑ u ∈ Finset.range 4096, p q k w h t u * v u h d := by
  unfold Of O
  rw [hd_lane h d (by omega), if_neg (by omega), show 128 * h + d - 128 * h = d by omega, Z_eq q k w h t ht]
  have e := sum_causal q k w (fun u => v u h d) h t ht
  rw [Finset.sum_congr rfl fun u _ => by rw [S_qk q k w, Vf_at v h u d (by omega), if_pos hd'], e, Finset.sum_div]
  exact Finset.sum_congr rfl fun u _ => by unfold p; ring

/-- The row's correction is minus the weighted mean. -/
theorem corr (h t : ℕ) (ht : t < 4096) :
    - ∑ d ∈ Finset.range 64, g t h d * Of q k v w t (128 * h + d) = - mean q k v w g h t := by
  congr 1
  rw [Finset.sum_congr rfl fun d hd' => by rw [Of_out q k v w h t d ht (Finset.mem_range.1 hd'), Finset.mul_sum]]
  rw [Finset.sum_comm]
  unfold mean dp
  exact Finset.sum_congr rfl fun u _ => by
    rw [Finset.mul_sum]; exact Finset.sum_congr rfl fun d _ => by ring

/-- The recomputed weight. -/
theorem P_eq (h t s : ℕ) (ht : t < 4096) : P (Qf q w) (Kf k w) (Of q k v w) (128 * h) t s = p q k w h t s := by
  unfold P p E
  by_cases e : s ≤ t
  · rw [if_pos e, if_pos e, S_qk, Of_log q k v w h t ht, Real.exp_sub, Real.exp_log (Zr_pos q k w h t ht)]
  · rw [if_neg e, if_neg e, zero_div]

/-- The gradient of the score. -/
theorem D_eq (h t s : ℕ) (ht : t < 4096) :
    D (Qf q w) (Kf k w) (Vf v) (Df q k v g w) (Of q k v w) (128 * h) t s = ds q k v w g h t s := by
  unfold D
  rw [P_eq q k v w h t s ht, S_dv, corr q k v g w h t ht, ← sub_eq_add_neg]
  rfl

/-- The queries' gradient. -/
theorem gQ_eq (h t d : ℕ) (ht : t < 4096) (hd' : d < 64) :
    gQ (Qf q w) (Kf k w) (Vf v) (Df q k v g w) (Of q k v w) 4096 t (128 * h + d)
      = ∑ s ∈ Finset.range 4096, ds q k v w g h t s * k s h d := by
  unfold gQ
  rw [hd_lane h d (by omega)]
  exact Finset.sum_congr rfl fun s _ => by rw [D_eq q k v g w h t s ht, kP_at k w h s d (by omega), if_pos hd']

/-- The keys' gradient. -/
theorem gK_eq (h s d : ℕ) (hd' : d < 64) :
    gK (Qf q w) (Kf k w) (Vf v) (Df q k v g w) (Of q k v w) s (128 * h + d)
      = ∑ t ∈ Finset.range 4096, ds q k v w g h t s * q t h d := by
  unfold gK
  rw [hd_lane h d (by omega)]
  exact Finset.sum_congr rfl fun t ht => by
    rw [D_eq q k v g w h t s (Finset.mem_range.1 ht), qP_at q w h t d (by omega), if_pos hd']

/-- The values' gradient. -/
theorem gV_eq (h s d : ℕ) (hd' : d < 64) :
    gV (Qf q w) (Kf k w) (Df q k v g w) (Of q k v w) s (128 * h + d) = ∑ t ∈ Finset.range 4096, g t h d * p q k w h t s := by
  unfold gV
  rw [hd_lane h d (by omega)]
  exact Finset.sum_congr rfl fun t ht => by
    rw [P_eq q k v w h t s (Finset.mem_range.1 ht), Df_at q k v g w h t d hd', mul_comm]

/-- The running sum's gradient, of which one half lies in lane 64 of the queries' and the other in lane 67 of the keys'. -/
theorem gW_eq (h t : ℕ) (ht : t < 4096) :
    gQ (Qf q w) (Kf k w) (Vf v) (Df q k v g w) (Of q k v w) 4096 t (128 * h + 64)
      - gK (Qf q w) (Kf k w) (Vf v) (Df q k v g w) (Of q k v w) t (128 * h + 67)
      = ∑ s ∈ Finset.range 4096, ds q k v w g h t s - ∑ s ∈ Finset.range 4096, ds q k v w g h s t := by
  unfold gQ gK
  rw [hd_lane h 64 (by omega), hd_lane h 67 (by omega)]
  congr 1
  · exact Finset.sum_congr rfl fun s _ => by
      rw [D_eq q k v g w h t s ht, kP_at k w h s 64 (by omega), if_neg (by omega), if_pos (by omega), mul_one]
  · exact Finset.sum_congr rfl fun s hs => by
      rw [D_eq q k v g w h s t (Finset.mem_range.1 hs), qP_at q w h s 67 (by omega), if_neg (by omega), if_neg (by omega), if_neg (by omega),
        if_pos (by omega), mul_one]

end Cert.Val
-- ==== Proof.ValRes.lean ====
module

public import proofs.«01_k».proof.Proof.ValRun
public import proofs.«01_k».proof.Proof.ValMath

/-! The kernel program's four results, in reals. -/

@[expose] public section

set_option maxRecDepth 8192

noncomputable section

namespace Cert.Val

open Idealize.ShloMosaic hiding ix2 ix3
open Idealize.ShloMosaic.TcCoe Idealize.ShloMosaic.ValueIdx
open Cert.KernelIdeal Cert.KernelIdeal.Gen Cert.KernelIdeal.Run
open Cert.Ref (ds p)

variable (m : (ℓ : Loc nD τ sig) → Buf (Elt Ideal) ℓ) (ρ : Dev nD → PrngReg) (c : Dev nD)
variable {q k v g : ℕ → ℕ → ℕ → ℝ} {w : ℕ → ℕ → ℝ}

theorem vP_one (u h : ℕ) : Vf v u (128 * h + 64) = 1 := by
  rw [Vf_at v h u 64 (by omega), if_neg (by omega), if_pos (by omega)]

variable (hq : IsT 4096 16 64 (m ((c.tc : Thread nD τ).loc main_arg0)) q) (hk : IsT 4096 16 64 (m ((c.tc : Thread nD τ).loc main_arg1)) k)
  (hv : IsT 4096 16 64 (m ((c.tc : Thread nD τ).loc main_arg2)) v) (hw : Is 4096 16 (m ((c.tc : Thread nD τ).loc main_arg3)) w)
  (hg : IsT 4096 16 64 (m ((c.tc : Thread nD τ).loc main_arg4)) g)

include hq hw in
theorem Q1 : Is 4096 2048 (V1 m ρ c main_v15) (Qf q w) := by rw [V1_Q]; exact packQ_is hq hw
include hk hw in
theorem K1 : Is 4096 2048 (V1 m ρ c main_v22) (Kf k w) := by rw [V1_K]; exact packK_is hk hw
include hv in
theorem Va1 : Is 4096 2048 (V1 m ρ c main_v27) (Vf v) := by rw [V1_V]; exact packV_is hv

include hq hk hv hw in
/-- The output array of the forward kernel. -/
theorem O2 : Is 4096 2048 (W2 m ρ c main_v28) (Of q k v w) := by
  have e := (W2_arr m ρ c 3).trans (arr0_3 (V1 m ρ) c (Q1 m ρ c hq hw) (K1 m ρ c hk hw) (Va1 m ρ c hv) (vP_one (v := v)))
  exact fun t B => congrFun e (ix2 t B)

include hq hw in
theorem Q3 : Is 4096 2048 (V3 m ρ c main_v15) (Qf q w) := by
  have e : V3 m ρ c main_v15 = V1 m ρ c main_v15 :=
    (W3_of m ρ c main_v15 (by decide)).trans (W2_of m ρ c main_v15 (by decide))
  rw [e]; exact Q1 m ρ c hq hw
include hk hw in
theorem K3 : Is 4096 2048 (V3 m ρ c main_v22) (Kf k w) := by
  have e : V3 m ρ c main_v22 = V1 m ρ c main_v22 :=
    (W3_of m ρ c main_v22 (by decide)).trans (W2_of m ρ c main_v22 (by decide))
  rw [e]; exact K1 m ρ c hk hw
include hv in
theorem Va3 : Is 4096 2048 (V3 m ρ c main_v27) (Vf v) := by
  have e : V3 m ρ c main_v27 = V1 m ρ c main_v27 :=
    (W3_of m ρ c main_v27 (by decide)).trans (W2_of m ρ c main_v27 (by decide))
  rw [e]; exact Va1 m ρ c hv
include hq hk hv hw in
theorem O3 : Is 4096 2048 (V3 m ρ c main_v28) (Of q k v w) := by
  have e : V3 m ρ c main_v28 = W2 m ρ c main_v28 := W3_of m ρ c main_v28 (by decide)
  rw [e]; exact O2 m ρ c hq hk hv hw
include hq hk hv hw hg in
/-- The incoming gradient, with the row's correction beside it. -/
theorem D3 : Is 4096 2048 (V3 m ρ c main_v38) (Df q k v g w) := by
  rw [V3_D, W2_args m ρ c main_arg4 (by decide)]
  exact packD_is hg (O2 m ρ c hq hk hv hw)

include hq hk hv hw hg

/-- The gradient of the queries. -/
theorem res_q : IsT 4096 16 64 (W5 m ρ c main_v43) (fun t h d => ∑ s ∈ Finset.range 4096, ds q k v w g h t s * k s h d) := by
  intro t h d
  have e := (W4_arr m ρ c 5).trans (arr1_5 (V3 m ρ) c (Q3 m ρ c hq hw) (K3 m ρ c hk hw) (Va3 m ρ c hv) (D3 m ρ c hq hk hv hw hg) (O3 m ρ c hq hk hv hw))
  rw [W5_q, lanes_apply]
  refine (congrFun e _).trans (congrArg _ ?_)
  exact gQ_eq q k v g w h.val t.val d.val t.isLt d.isLt

/-- The gradient of the keys. -/
theorem res_k : IsT 4096 16 64 (W5 m ρ c main_v44) (fun s h d => ∑ t ∈ Finset.range 4096, ds q k v w g h t s * q t h d) := by
  intro t h d
  have e := (W4_arr m ρ c 6).trans (arr1_6 (V3 m ρ) c (Q3 m ρ c hq hw) (K3 m ρ c hk hw) (Va3 m ρ c hv) (D3 m ρ c hq hk hv hw hg) (O3 m ρ c hq hk hv hw))
  rw [W5_k, lanes_apply]
  refine (congrFun e _).trans (congrArg _ ?_)
  exact gK_eq q k v g w h.val t.val d.val d.isLt

/-- The gradient of the values. -/
theorem res_v : IsT 4096 16 64 (W5 m ρ c main_v45) (fun s h d => ∑ t ∈ Finset.range 4096, g t h d * p q k w h t s) := by
  intro t h d
  have e := (W4_arr m ρ c 7).trans (arr1_7 (V3 m ρ) c (Q3 m ρ c hq hw) (K3 m ρ c hk hw) (Va3 m ρ c hv) (D3 m ρ c hq hk hv hw hg) (O3 m ρ c hq hk hv hw))
  rw [W5_v, lanes_apply]
  refine (congrFun e _).trans (congrArg _ ?_)
  exact gV_eq q k v g w h.val t.val d.val d.isLt

/-- The gradient of the cumulative log decay. -/
theorem res_w : Is 4096 16 (W5 m ρ c main_v50) (fun t h =>
    ∑ s ∈ Finset.range 4096, ds q k v w g h t s - ∑ s ∈ Finset.range 4096, ds q k v w g h s t) := by
  intro t h
  have e5 := (W4_arr m ρ c 5).trans (arr1_5 (V3 m ρ) c (Q3 m ρ c hq hw) (K3 m ρ c hk hw) (Va3 m ρ c hv) (D3 m ρ c hq hk hv hw hg) (O3 m ρ c hq hk hv hw))
  have e6 := (W4_arr m ρ c 6).trans (arr1_6 (V3 m ρ) c (Q3 m ρ c hq hw) (K3 m ρ c hk hw) (Va3 m ρ c hv) (D3 m ρ c hq hk hv hw hg) (O3 m ρ c hq hk hv hw))
  rw [W5_w]
  unfold diff
  refine (congrArg₂ (fun a b : EReal => a - b) ((lane64 _ t h).trans (congrFun e5 _)) ((lane67 _ t h).trans (congrFun e6 _))).trans ?_
  refine (EReal.coe_sub _ _).symm.trans (congrArg _ ?_)
  exact gW_eq q k v g w h.val t.val t.isLt

end Cert.Val
-- ==== Proof.Algebraic.lean ====
module

public import proofs.«01_k».proof.Defs
public import proofs.«01_k».proof.Proof.Pre
public import proofs.«01_k».proof.Proof.ValRes

/-! The two programs compute the same gradients. -/

@[expose] public section

set_option maxRecDepth 8192

noncomputable section

namespace Cert.Algebraic

open Idealize.ShloMosaic hiding ix2 ix3
open Idealize.ShloMosaic.TcCoe Idealize.ShloMosaic.ValueIdx Idealize.SL.Sem
open Cert.Val (Is IsT)
open Cert.Ref (A2 A3)

attribute [local instance] Cert.KernelIdeal.Gen.facts Cert.ReferenceIdeal.Gen.facts Cert.Pre_finite.Gen.facts

/-- Two arrays that hold the same reals are equal. -/
theorem eq3 {x y : (⟨3, ![4096, 16, 64]⟩ : Shape).Idx → EReal} {f : ℕ → ℕ → ℕ → ℝ} (hx : A3 x f) (hy : IsT 4096 16 64 y f) : x = y := by
  funext i
  refine (hx i).trans ((hy ⟨(i 0).val, (i 0).isLt⟩ ⟨(i 1).val, (i 1).isLt⟩ ⟨(i 2).val, (i 2).isLt⟩).symm.trans (congrArg y (funext fun z => ?_)))
  match z with
  | ⟨0, _⟩ => rfl
  | ⟨1, _⟩ => rfl
  | ⟨2, _⟩ => rfl
theorem eq2 {x y : (⟨2, ![4096, 16]⟩ : Shape).Idx → EReal} {f : ℕ → ℕ → ℝ} (hx : A2 x f) (hy : Is 4096 16 y f) : x = y := by
  funext i
  exact (hx i).trans (hy.at i).symm

open Cert.KernelIdeal Cert.ReferenceIdeal.Read

/-- The reference's results are the kernel program's, device by device. -/
theorem results (m : (ℓ : Loc nD τ sig) → Buf (Elt Ideal) ℓ) (g : Dev nD → PrngReg)
    (hp : Cert.Pre_KernelIdeal_finite m) (c : Dev nD) :
    val_main_v73 (F := Ideal) (m (c.tc.loc main_arg0)) (m (c.tc.loc main_arg1)) (m (c.tc.loc main_arg2)) (m (c.tc.loc main_arg3)) (m (c.tc.loc main_arg4))
        = Run.W5 m g c main_v43
    ∧ val_main_v71 (F := Ideal) (m (c.tc.loc main_arg0)) (m (c.tc.loc main_arg1)) (m (c.tc.loc main_arg2)) (m (c.tc.loc main_arg3)) (m (c.tc.loc main_arg4))
        = Run.W5 m g c main_v44
    ∧ val_main_v48 (F := Ideal) (m (c.tc.loc main_arg0)) (m (c.tc.loc main_arg1)) (m (c.tc.loc main_arg3)) (m (c.tc.loc main_arg4))
        = Run.W5 m g c main_v45
    ∧ val_main_v74 (F := Ideal) (m (c.tc.loc main_arg0)) (m (c.tc.loc main_arg1)) (m (c.tc.loc main_arg2)) (m (c.tc.loc main_arg3)) (m (c.tc.loc main_arg4))
        = Run.W5 m g c main_v50 := by
  obtain ⟨r0, r1, r2, r3, r4⟩ := Cert.Pre.reals (hp c)
  obtain ⟨q, hq, hq'⟩ := Cert.Pre.exists3 _ r0
  obtain ⟨k, hk, hk'⟩ := Cert.Pre.exists3 _ r1
  obtain ⟨v, hv, hv'⟩ := Cert.Pre.exists3 _ r2
  obtain ⟨w, hw, hw'⟩ := Cert.Pre.exists2 _ r3
  obtain ⟨d, hd, hd'⟩ := Cert.Pre.exists3 _ r4
  obtain ⟨M, hM⟩ := Cert.Ref.v22_real hq' hk' hw'
  exact ⟨eq3 (Cert.Ref.v73_at hq' hk' hv' hw' hM hd') (Cert.Val.res_q m g c hq hk hv hw hd),
    eq3 (Cert.Ref.v71_at hq' hk' hv' hw' hM hd') (Cert.Val.res_k m g c hq hk hv hw hd),
    eq3 (Cert.Ref.v48_at hq' hk' hw' hM hd') (Cert.Val.res_v m g c hq hk hv hw hd),
    eq2 (Cert.Ref.v74_at hq' hk' hv' hw' hM hd') (Cert.Val.res_w m g c hq hk hv hw hd)⟩

/-- Kernel and reference end with equal results, the arguments unchanged. -/
theorem algebraic : Cert.algebraic_KernelIdeal_ReferenceIdeal_pre_finite := by
  intro m g m' g' hp hm
  refine ⟨fun c => Run.W5 m g c main_v43, fun c => Run.W5 m g c main_v44,
    fun c => Run.W5 m g c main_v45, fun c => Run.W5 m g c main_v50, ?_, ?_⟩
  · refine (θ_run defs _ _).mono (fun r h c => ?_) (Run.run_main (F := Ideal) m g)
    exact ⟨h.1 c _ (Run.mem_uc _ (by decide)), h.1 c _ (Run.mem_uc _ (by decide)),
      h.1 c _ (Run.mem_uc _ (by decide)), h.1 c _ (Run.mem_uc _ (by decide)),
      (h.1 c _ (Run.mem_uc _ (by decide))).trans (Run.W5_main_arg0 m g c),
      (h.1 c _ (Run.mem_uc _ (by decide))).trans (Run.W5_main_arg1 m g c),
      (h.1 c _ (Run.mem_uc _ (by decide))).trans (Run.W5_main_arg2 m g c),
      (h.1 c _ (Run.mem_uc _ (by decide))).trans (Run.W5_main_arg3 m g c),
      (h.1 c _ (Run.mem_uc _ (by decide))).trans (Run.W5_main_arg4 m g c)⟩
  · refine (θ_run Cert.ReferenceIdeal.defs _ _).mono (fun r h c => ?_) (Cert.ReferenceIdeal.Value.run (F := Ideal) m' g')
    obtain ⟨e0, e1, e2, e3, e4⟩ := hm c
    obtain ⟨s0, s1, s2, s3⟩ := results m g hp c
    obtain ⟨h0, h1, h2, h3, h4⟩ := h c
    refine ⟨h0.trans ?_, h1.trans ?_, h2.trans ?_, h3.trans ?_, h4⟩
    · rw [val_main_v73_eq, e0, e1, e2, e3, e4]; exact s0
    · rw [val_main_v71_eq, e0, e1, e2, e3, e4]; exact s1
    · rw [val_main_v48_eq, e0, e1, e3, e4]; exact s2
    · rw [val_main_v74_eq, e0, e1, e2, e3, e4]; exact s3

end Cert.Algebraic
-- ==== Proof.GdnBody.lean ====
/- The two calls of the delta-net input projection, one grid point each: what the body leaves in the blocks it writes, from
   what the blocks it reads hold. -/
module

public import proofs.«01_k».proof.Proof.Gen.GdnInIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 8192

noncomputable section

namespace Cert.GdnInIdeal.Run

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Cert.GdnInIdeal.Gen

variable {F : FTy → Type} [FloatOps F]

local notation "𝕄" => MT nD τ sig Unit (Elt F) ℕ (UR sig nD τ) ℕ

/-- The first row tile of a column tile. -/
abbrev isFirst1 (i : grid1.Coords) : Prop := (Scalar.cmpi .ne (Scalar.extui (Scalar.cmpi .eq (BitVec.ofNat 32 (i 1).val) 0#32)) 0#32) = 1#1

set_option maxHeartbeats 1600000 in
/-- The projection's body at the first column tile of a row tile: it normalises and modulates the rows, keeps them, and multiplies them by the weight tile. -/
theorem body0_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1024x1280 .f32) (harg7 : arg7.IsWhole) (arg8 : Memref sig .tc .vmem S1024x1024 .bf16) (harg8 : arg8.IsWhole) (hc : k0_cond1 i = 1#1)
    (x : Vec F S1024x1024 .f32) (nw sc sh : Vec F S1x1024 .f32) (w : Vec F S1024x1280 .bf16) (E : Set ℕ) (K : PUnit → sProp 𝕄) :
    iprop(owns (c : Thread nD τ) arg2 fullShare x ∗ owns (c : Thread nD τ) arg3 fullShare nw ∗ owns (c : Thread nD τ) arg4 fullShare sc ∗ owns (c : Thread nD τ) arg5 fullShare sh ∗ owns (c : Thread nD τ) arg6 fullShare w ∗ (∃ d, owns (c : Thread nD τ) arg7 fullShare d) ∗ (∃ d, owns (c : Thread nD τ) arg8 fullShare d)
        ∗ (iprop(owns (c : Thread nD τ) arg2 fullShare x ∗ owns (c : Thread nD τ) arg3 fullShare nw ∗ owns (c : Thread nD τ) arg4 fullShare sc ∗ owns (c : Thread nD τ) arg5 fullShare sh ∗ owns (c : Thread nD τ) arg6 fullShare w ∗ owns (c : Thread nD τ) arg7 fullShare (k0_pay2 (k0_pay1 x nw sc sh) w) ∗ owns (c : Thread nD τ) arg8 fullShare (k0_pay1 x nw sc sh)) -∗ K ⟨⟩))
      ⊢ wp Idealize.ShloMosaic.frame (wpE (defs₀ (F := F)) Variants.none (c : Thread nD τ) none) E (cc0_gdn_inproj i arg2 harg2 arg3 harg3 arg4 harg4 arg5 harg5 arg6 harg6 arg7 harg7 arg8 harg8) K := by
  simp only [cc0_gdn_inproj_eq_skeleton]; unfold cc0_gdn_inproj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_full]
    repeat first | rw [View.readCov_full] | rw [View.readAt_full]
    simp only [Memref.IsWhole.read_unread]
  iexists _; isplitr; swap; · iexact H8
  ipureintro
  sl_unfold_run_names
  rw [View.read_writes_full]
  repeat first | rw [View.readCov_full] | rw [View.readAt_full]
  simp only [Memref.IsWhole.read_unread]

set_option maxHeartbeats 1600000 in
/-- The projection's body at a later column tile: the kept rows times the weight tile. -/
theorem body0_rest (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1024x1280 .f32) (harg7 : arg7.IsWhole) (arg8 : Memref sig .tc .vmem S1024x1024 .bf16) (harg8 : arg8.IsWhole) (hc : ¬ k0_cond1 i = 1#1)
    (x : Vec F S1024x1024 .f32) (nw sc sh : Vec F S1x1024 .f32) (w : Vec F S1024x1280 .bf16) (h : Vec F S1024x1024 .bf16) (E : Set ℕ) (K : PUnit → sProp 𝕄) :
    iprop(owns (c : Thread nD τ) arg2 fullShare x ∗ owns (c : Thread nD τ) arg3 fullShare nw ∗ owns (c : Thread nD τ) arg4 fullShare sc ∗ owns (c : Thread nD τ) arg5 fullShare sh ∗ owns (c : Thread nD τ) arg6 fullShare w ∗ (∃ d, owns (c : Thread nD τ) arg7 fullShare d) ∗ owns (c : Thread nD τ) arg8 fullShare h
        ∗ (iprop(owns (c : Thread nD τ) arg2 fullShare x ∗ owns (c : Thread nD τ) arg3 fullShare nw ∗ owns (c : Thread nD τ) arg4 fullShare sc ∗ owns (c : Thread nD τ) arg5 fullShare sh ∗ owns (c : Thread nD τ) arg6 fullShare w ∗ owns (c : Thread nD τ) arg7 fullShare (k0_pay2 h w) ∗ owns (c : Thread nD τ) arg8 fullShare h) -∗ K ⟨⟩))
      ⊢ wp Idealize.ShloMosaic.frame (wpE (defs₀ (F := F)) Variants.none (c : Thread nD τ) none) E (cc0_gdn_inproj i arg2 harg2 arg3 harg3 arg4 harg4 arg5 harg5 arg6 harg6 arg7 harg7 arg8 harg8) K := by
  simp only [cc0_gdn_inproj_eq_skeleton]; unfold cc0_gdn_inproj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_full]
    repeat first | rw [View.readCov_full] | rw [View.readAt_full]
    simp only [Memref.IsWhole.read_unread]
  iexists _; isplitr; · ipureintro; exact harg8.read_unread _
  iexact H8

set_option maxHeartbeats 1600000 in
/-- The weight gradient's body at the first row tile: its product added to zeros. -/
theorem body1_first (c : Dev nD) (i : grid1.Coords) (arg2 : Memref sig .tc .vmem S1024x1024 .bf16) (harg2 : arg2.IsWhole) (arg3 : Memref sig .tc .vmem S1024x1280 .f32) (harg3 : arg3.IsWhole) (arg4 : Memref sig .tc .vmem S1024x1280 .f32) (harg4 : arg4.IsWhole) (hc : isFirst1 i)
    (h : Vec F S1024x1024 .bf16) (dp : Vec F S1024x1280 .f32) (E : Set ℕ) (K : PUnit → sProp 𝕄) :
    iprop(owns (c : Thread nD τ) arg2 fullShare h ∗ owns (c : Thread nD τ) arg3 fullShare dp ∗ (∃ d, owns (c : Thread nD τ) arg4 fullShare d)
        ∗ (iprop(owns (c : Thread nD τ) arg2 fullShare h ∗ owns (c : Thread nD τ) arg3 fullShare dp ∗ owns (c : Thread nD τ) arg4 fullShare (k1_pay2 k1_pay1 h dp)) -∗ K ⟨⟩))
      ⊢ wp Idealize.ShloMosaic.frame (wpE (defs₀ (F := F)) Variants.none (c : Thread nD τ) none) E (cc1_gdn_dwin i arg2 harg2 arg3 harg3 arg4 harg4) K := by
  simp only [cc1_gdn_dwin_eq_skeleton]; unfold cc1_gdn_dwin_skel
  unfold owns
  iintro ⟨⟨%f2, %hf2, H2⟩, ⟨%f3, %hf3, H3⟩, ⟨%d4, %f4, -, H4⟩, Hk⟩
  obtain rfl := harg2.eq_unread hf2; obtain rfl := harg3.eq_unread hf3
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  sl_unfold_run_names
  rw [View.read_writes_full]
  repeat first | rw [View.readCov_full] | rw [View.readAt_full]
  simp only [Memref.IsWhole.read_unread]

set_option maxHeartbeats 1600000 in
/-- The weight gradient's body at a later row tile: its product added to what is held. -/
theorem body1_rest (c : Dev nD) (i : grid1.Coords) (arg2 : Memref sig .tc .vmem S1024x1024 .bf16) (harg2 : arg2.IsWhole) (arg3 : Memref sig .tc .vmem S1024x1280 .f32) (harg3 : arg3.IsWhole) (arg4 : Memref sig .tc .vmem S1024x1280 .f32) (harg4 : arg4.IsWhole) (hc : ¬ isFirst1 i)
    (h : Vec F S1024x1024 .bf16) (dp : Vec F S1024x1280 .f32) (o : Vec F S1024x1280 .f32) (E : Set ℕ) (K : PUnit → sProp 𝕄) :
    iprop(owns (c : Thread nD τ) arg2 fullShare h ∗ owns (c : Thread nD τ) arg3 fullShare dp ∗ owns (c : Thread nD τ) arg4 fullShare o
        ∗ (iprop(owns (c : Thread nD τ) arg2 fullShare h ∗ owns (c : Thread nD τ) arg3 fullShare dp ∗ owns (c : Thread nD τ) arg4 fullShare (k1_pay2 o h dp)) -∗ K ⟨⟩))
      ⊢ wp Idealize.ShloMosaic.frame (wpE (defs₀ (F := F)) Variants.none (c : Thread nD τ) none) E (cc1_gdn_dwin i arg2 harg2 arg3 harg3 arg4 harg4) K := by
  simp only [cc1_gdn_dwin_eq_skeleton]; unfold cc1_gdn_dwin_skel
  unfold owns
  iintro ⟨⟨%f2, %hf2, H2⟩, ⟨%f3, %hf3, H3⟩, ⟨%f4, %hf4, H4⟩, Hk⟩
  obtain rfl := harg2.eq_unread hf2; obtain rfl := harg3.eq_unread hf3; obtain rfl := harg4.eq_unread hf4
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  sl_unfold_run_names
  rw [View.read_writes_full]
  repeat first | rw [View.readCov_full] | rw [View.readAt_full]
  simp only [Memref.IsWhole.read_unread]

end Cert.GdnInIdeal.Run
end
-- ==== Proof.GdnRun0.lean ====
/- The forward call of the delta-net input projection inside the program: its blocks point by point, what each point leaves, and that its body does it. -/
module

public import proofs.«01_k».proof.Proof.GdnBody
public import proofs.«01_k».proof.Proof.Gen.GdnInIdeal.Launch
public import proofs.«01_k».proof.Proof.Gen.GdnInIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.WordCmp
public import Idealize.ShloMosaic.Lib.ValueIdx
public import Idealize.ShloMosaic.Lib.Pipeline.TableIdle

@[expose] public section

set_option maxRecDepth 16384

noncomputable section

namespace Cert.GdnInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.GdnInIdeal.Gen

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-- The block of window `w` at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]) t d).trans
    (by unfold Dat.fetched Dat.blockOf iblk0; rw [hA]; rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]) t d).trans
    (by unfold Dat.fetched Dat.blockOf iblk0; rw [hA]; rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]) t d).trans
    (by unfold Dat.fetched Dat.blockOf iblk0; rw [hA]; rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]) t d).trans
    (by unfold Dat.fetched Dat.blockOf iblk0; rw [hA]; rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]) t d).trans
    (by unfold Dat.fetched Dat.blockOf iblk0; rw [hA]; rfl)

/-- The first column tile of a row tile. -/
theorem hcond0_0 : ∀ t : Fin cfg0.N, k0_cond1 (grid0.coords t) = 1#1 ↔ t.val % 5 = 0 :=
  (fun t => by
    have ht : t.val < 20 := Nat.lt_of_lt_of_eq t.isLt N_0
    have e0 : (grid0.coords t 0).val = t.val / 5 % 4 := Pipeline.Grid.coords_val t 0 (by decide) rfl
    have e1 : (grid0.coords t 1).val = t.val / 1 % 5 := Pipeline.Grid.coords_val t 1 (by decide) rfl
    simp only [k0_cond1, e0, e1]
    word_cmp
   : ∀ t : Fin grid0.N, k0_cond1 (grid0.coords t) = 1#1 ↔ t.val % 5 = 0)

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1280 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)

/-- The normalised, modulated rows held at point `n`: made at the first column tile of a row tile, kept after. -/
def hAt (c : Dev nD) : (n : ℕ) → n < cfg0.N → Vec F S1024x1024 .bf16
  | 0, hn => k0_pay1 (iblk0 V c 0 ⟨0, hn⟩) (iblk0 V c 1 ⟨0, hn⟩) (iblk0 V c 2 ⟨0, hn⟩) (iblk0 V c 3 ⟨0, hn⟩)
  | n + 1, hn => if (n + 1) % 5 = 0 then k0_pay1 (iblk0 V c 0 ⟨n + 1, hn⟩) (iblk0 V c 1 ⟨n + 1, hn⟩) (iblk0 V c 2 ⟨n + 1, hn⟩) (iblk0 V c 3 ⟨n + 1, hn⟩)
      else (hAt c n (Nat.lt_of_succ_lt hn))

theorem hAt_first (c : Dev nD) (t : Fin cfg0.N) (h0 : t.val % 5 = 0) : hAt V c t.val t.isLt = k0_pay1 (iblk0 V c 0 t) (iblk0 V c 1 t) (iblk0 V c 2 t) (iblk0 V c 3 t) := by
  obtain ⟨n, hn⟩ := t
  cases n with
  | zero => rfl
  | succ n => exact (if_pos h0).trans rfl

theorem hAt_rest (c : Dev nD) (t : Fin cfg0.N) (h0 : ¬t.val % 5 = 0) :
    hAt V c t.val t.isLt = (hAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The pipeline of the call: arrays as found, blocks as said above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (hAt V c t.val t.isLt) (iblk0 V c 4 t)
    | ⟨6, _⟩ => hAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (hAt V c t.val t.isLt) (iblk0 V c 4 t) := by dsimp only [dat0]
theorem after0_6 (c : Dev nD) (t : Fin cfg0.N) : (dat0 V c).after 6 t = hAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem idle0_6 (t : Fin cfg0.N) (h0 : ¬t.val % 5 = 0) : cfg0.idle 6 (cfg0.grid.coords t) = true := by
  show (!(k0_cond1 (grid0.coords t) == 1#1)) = true
  rw [Bool.not_eq_true', beq_eq_false_iff_ne]
  exact fun h => h0 ((hcond0_0 t).mp h)
theorem live0_6 (t : Fin cfg0.N) (h0 : t.val % 5 = 0) : cfg0.idle 6 (cfg0.grid.coords t) = false := by
  show (!(k0_cond1 (grid0.coords t) == 1#1)) = false
  rw [Bool.not_eq_false', beq_iff_eq]
  exact (hcond0_0 t).mpr h0
/-- Nothing kept yet exactly at the first column tile of a row tile. -/
theorem fresh0_6 : ∀ n, n < cfg0.N → cfg0.fresh 6 n = decide (n % 5 = 0)
  | 0, _ => rfl
  | n + 1, hn => by
    have hn' : n < cfg0.N := Nat.lt_of_succ_lt hn
    rw [Pipeline.Cfg.fresh_succ cfg0 6 n hn', fresh0_6 n hn']
    by_cases hf : n % 5 = 4
    · rw [(flush0_6 ⟨n, hn'⟩).mpr hf, Bool.true_or, eq_comm, decide_eq_true_eq]; omega
    · rw [Bool.eq_false_iff.mpr fun h => hf ((flush0_6 ⟨n, hn'⟩).mp h), Bool.false_or]
      have e : decide ((n + 1) % 5 = 0) = false := decide_eq_false (by omega)
      rw [e]
      by_cases h0 : n % 5 = 0
      · rw [live0_6 ⟨n, hn'⟩ h0, Bool.false_and]
      · rw [decide_eq_false h0, Bool.and_false]
theorem before0_6_B (c : Dev nD) (t : Fin cfg0.N) (h0 : ¬t.val % 5 = 0) (d) : (dat0 V c).before 6 t d = hAt V c t.val t.isLt := by
  rw [(dat0 V c).before_out_traj 6 rfl (fun _ _ => rfl) (fun t' ht hi hf => ?_) t.val t rfl d, fresh0_6 t.val t.isLt, if_neg (by simpa using h0), hAt_rest V c t h0]
  · dsimp only [dat0]
  · rw [fresh0_6 t'.val t'.isLt] at hf
    have h1 : ¬t'.val % 5 = 0 := by simpa using hf
    rw [after0_6, hAt_rest V c t' h1, after0_6]

/-- At a later column tile the rows are left as they were found. -/
theorem leaves0_6 (c : Dev nD) (t : Fin cfg0.N) (h0 : ¬t.val % 5 = 0) :
    owns (c : Thread nD τ) (ms0_6 t) fullShare (hAt V c t.val t.isLt) ⊢ ((dat0 V c).leavesExact 6 t : sProp 𝕄) := by
  cases hf : (cfg0.win 6).flush t
  · rw [(dat0 V c).leavesExact_idle 6 t (idle0_6 t h0) hf]
    iintro H
    iexists (hAt V c t.val t.isLt)
    rw [before0_6_B V c t h0]
    iexact H
  · unfold Dat.leavesExact
    rw [idle0_6 t h0, hf, after0_6]
theorem leavesLive0_6 (c : Dev nD) (t : Fin cfg0.N) (h0 : t.val % 5 = 0) :
    ((dat0 V c).leavesExact 6 t : sProp 𝕄) = owns (c : Thread nD τ) (ms0_6 t) fullShare (hAt V c t.val t.isLt) := by
  unfold Dat.leavesExact; rw [live0_6 t h0, after0_6]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ (dat0 V c).leavesExact 6 t)

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 20 := lt_of_lt_of_eq t.isLt (show cfg0.N = 20 from N_0)
  by_cases h0 : t.val % 5 = 0
  · rw [leavesLive0_6 V c t h0, hAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body0_first c (grid0.coords t) _ _ _ _ _ _ _ _ _ _ _ _ _ _ ((hcond0_0 t).mpr h0) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body0_rest c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves0_6 V c t h0); iexact H6

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.GdnInIdeal.Run
end
-- ==== Proof.GdnRun1.lean ====
/- The weight-gradient call of the delta-net input projection inside the program: its blocks point by point, what each point leaves, and that its body does it. -/
module

public import proofs.«01_k».proof.Proof.GdnBody
public import proofs.«01_k».proof.Proof.Gen.GdnInIdeal.Launch
public import proofs.«01_k».proof.Proof.Gen.GdnInIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.WordCmp
public import Idealize.ShloMosaic.Lib.ValueIdx
public import Idealize.ShloMosaic.Lib.Pipeline.TableIdle

@[expose] public section

set_option maxRecDepth 16384

noncomputable section

namespace Cert.GdnInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.GdnInIdeal.Gen

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-- The block of window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]) t d).trans
    (by unfold Dat.fetched Dat.blockOf iblk1; rw [hA]; rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]) t d).trans
    (by unfold Dat.fetched Dat.blockOf iblk1; rw [hA]; rfl)

/-- The first row tile of a column tile. -/
theorem hcond1_0 : ∀ t : Fin cfg1.N, isFirst1 (grid1.coords t) ↔ t.val % 4 = 0 :=
  (fun t => by
    have ht : t.val < 20 := Nat.lt_of_lt_of_eq t.isLt N_1
    have e0 : (grid1.coords t 0).val = t.val / 4 % 5 := Pipeline.Grid.coords_val t 0 (by decide) rfl
    have e1 : (grid1.coords t 1).val = t.val / 1 % 4 := Pipeline.Grid.coords_val t 1 (by decide) rfl
    simp only [isFirst1, e0, e1]
    word_cmp
   : ∀ t : Fin grid1.N, isFirst1 (grid1.coords t) ↔ t.val % 4 = 0)

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1280 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1280 .f32 := win1_2.stage (cfg1.slots t 2)
abbrev hs1_2 (t : Fin cfg1.N) : (ms1_2 t).IsWhole := hstage1_2 ((cfg1.slots t 2).cast nbuf1_2)

/-- The weight gradient's block after point `n`: gathered over the four row tiles of a column tile. -/
def gAt (c : Dev nD) : (n : ℕ) → n < cfg1.N → Vec F S1024x1280 .f32
  | 0, hn => k1_pay2 k1_pay1 (iblk1 V c 0 ⟨0, hn⟩) (iblk1 V c 1 ⟨0, hn⟩)
  | n + 1, hn => if (n + 1) % 4 = 0 then k1_pay2 k1_pay1 (iblk1 V c 0 ⟨n + 1, hn⟩) (iblk1 V c 1 ⟨n + 1, hn⟩)
      else k1_pay2 (gAt c n (Nat.lt_of_succ_lt hn)) (iblk1 V c 0 ⟨n + 1, hn⟩) (iblk1 V c 1 ⟨n + 1, hn⟩)

theorem gAt_first (c : Dev nD) (t : Fin cfg1.N) (h0 : t.val % 4 = 0) : gAt V c t.val t.isLt = k1_pay2 k1_pay1 (iblk1 V c 0 t) (iblk1 V c 1 t) := by
  obtain ⟨n, hn⟩ := t
  cases n with
  | zero => rfl
  | succ n => exact (if_pos h0).trans rfl

theorem gAt_rest (c : Dev nD) (t : Fin cfg1.N) (h0 : ¬t.val % 4 = 0) :
    gAt V c t.val t.isLt = k1_pay2 (gAt V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-- The pipeline of the call: arrays as found, blocks as said above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2_B (c : Dev nD) (t : Fin cfg1.N) (h0 : ¬t.val % 4 = 0) (d) :
    (dat1 V c).before 2 t d = gAt V c (t.val - 1) (Nat.lt_of_le_of_lt (Nat.sub_le _ _) t.isLt) := by
  have hN : t.val < 20 := lt_of_lt_of_eq t.isLt (show cfg1.N = 20 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 20 := lt_of_lt_of_eq t.isLt (show cfg1.N = 20 from N_1)
  by_cases h0 : t.val % 4 = 0
  · rw [gAt_first V c t h0]
    iintro ⟨HΦ, Ho, ⟨%d0, H0⟩, ⟨%d1, H1⟩, ⟨%d2, H2⟩⟩
    iapply (body1_first c (grid1.coords t) _ _ _ _ _ _ ((hcond1_0 t).mpr h0) (iblk1 V c 0 t) (iblk1 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [gAt_rest V c t h0]
    simp only [before1_2_B V c t h0]
    iintro ⟨HΦ, Ho, ⟨%d0, H0⟩, ⟨%d1, H1⟩, ⟨%d2, H2⟩⟩
    iapply (body1_rest c (grid1.coords t) _ _ _ _ _ _ (fun h => h0 ((hcond1_0 t).mp h)) (iblk1 V c 0 t) (iblk1 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.GdnInIdeal.Run
end
-- ==== Proof.GdnRun.lean ====
/- The delta-net input projection, the whole program run: what every buffer holds at the end, from any memory, and that it ends with every counter at zero. -/
module

public import proofs.«01_k».proof.Proof.GdnRun0
public import proofs.«01_k».proof.Proof.GdnRun1

@[expose] public section

set_option maxRecDepth 16384

noncomputable section

namespace Cert.GdnInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.GdnInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- The call as a step of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a step of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory the program ends, every buffer of the core at the last of the contents above and every counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame of the program: it ends, its arguments unchanged and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  (θ_run defs _ _).mono (fun _ h => ⟨fun c =>
    have a := fun q hq => h.1 c _ (mem_uc q hq)
    ⟨(a main_arg0 (by decide)).trans (W3_main_arg0 m ρ c),
     (a main_arg1 (by decide)).trans (W3_main_arg1 m ρ c),
     (a main_arg2 (by decide)).trans (W3_main_arg2 m ρ c),
     (a main_arg3 (by decide)).trans (W3_main_arg3 m ρ c),
     (a main_arg4 (by decide)).trans (W3_main_arg4 m ρ c),
     (a main_arg5 (by decide)).trans (W3_main_arg5 m ρ c)⟩, h.2⟩) (run_main m ρ)

end Cert.GdnInIdeal.Run
end
-- ==== Proof.GdnFrames.lean ====
/- The delta-net input projection and the gradient of its weight: the frames of the programs. -/
module

public import proofs.«01_k».proof.Defs
public import proofs.«01_k».proof.Proof.GdnRun
public import proofs.«01_k».proof.Proof.Gen.GdnIn
public import proofs.«01_k».proof.Proof.Gen.RefGdnInIdeal.Run

@[expose] public section

noncomputable section

namespace Cert.GdnFrames

open Idealize.ShloMosaic Idealize.SL.Sem

open Cert.GdnIn in
/-- What the frame of the printed kernel says. -/
def Says : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0)

open Cert.GdnInIdeal in
/-- What the frame of the idealized kernel says over bit patterns. -/
def SaysIdeal : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0)

/-- The two say the same: the texts agree. -/
theorem says_eq : Says = SaysIdeal := by sl_kernel_rfl

/-- The printed kernel ends, arguments unchanged and counters at zero. -/
theorem kernel : Cert.quiescent_GdnIn := fun m ρ _ =>
  (cast says_eq.symm (fun m ρ => Cert.GdnInIdeal.Run.frame (F := Bits) m ρ : SaysIdeal) : Says) m ρ

/-- The idealized kernel ends, arguments unchanged and counters at zero. -/
theorem kernelIdeal : Cert.quiescent_GdnInIdeal := fun m ρ _ => Cert.GdnInIdeal.Run.frame (F := Ideal) m ρ

/-- No operation was rewritten. -/
theorem preserves : Cert.preserves_GdnIn_GdnInIdeal := trivial

/-- The reference ends, arguments unchanged and counters at zero. -/
theorem reference : Cert.quiescent_RefGdnInIdeal := fun m ρ _ =>
  (θ_run Cert.RefGdnInIdeal.defs _ _).mono (fun r h => ⟨fun c => (h c).2.2, sem_eq_zero_of_no_sems (by decide) r.2⟩)
    (Cert.RefGdnInIdeal.Value.run (F := Ideal) m ρ)

end Cert.GdnFrames

end
-- ==== Proof.In.lean ====
/- Matrices over the extended reals, what the vector operations do to them, and the modulated norm. -/
module

public import Idealize.ShloMosaic.PureOps.Ideal.Laws
public import Idealize.ShloMosaic.Lib.MatmulPlain
public import Idealize.ShloMosaic.Lib.ValueLayout
public import Idealize.ShloMosaic.Lib.ValueLayoutCasts
public import Idealize.ShloMosaic.Lib.ValueIdxCoords

@[expose] public section

set_option maxRecDepth 8192

noncomputable section

namespace Cert.In

open Idealize.ShloMosaic Idealize.ShloMosaic.ValueIdx
open scoped BigOperators

/-- The matrix `x` holds `f`, entry by entry. -/
def Has {R C : ℕ} (x : (⟨2, ![R, C]⟩ : Shape).Idx → EReal) (f : ℕ → ℕ → EReal) : Prop :=
  ∀ i, x i = f (i 0).val (i 1).val

/-- It is enough to look at rows and columns. -/
theorem Has.of {R C : ℕ} {x : (⟨2, ![R, C]⟩ : Shape).Idx → EReal} {f : ℕ → ℕ → EReal} (h : ∀ (a : Fin R) (b : Fin C), x (ix2 a b) = f a.val b.val) :
    Has x f := fun i => by
  have := h (i 0) (i 1)
  rw [← this]
  refine congrArg x (funext fun a => ?_)
  match a with
  | ⟨0, _⟩ => rfl
  | ⟨1, _⟩ => rfl

/-- The same matrix holds any entries equal to its own inside its bounds. -/
theorem Has.congr {R C : ℕ} {x : (⟨2, ![R, C]⟩ : Shape).Idx → EReal} {f g : ℕ → ℕ → EReal} (h : Has x f)
    (e : ∀ a b, a < R → b < C → f a b = g a b) : Has x g := fun i => (h i).trans (e _ _ (i 0).isLt (i 1).isLt)

/-- Two matrices that hold the same entries are equal. -/
theorem Has.eq {R C : ℕ} {x y : (⟨2, ![R, C]⟩ : Shape).Idx → EReal} {f : ℕ → ℕ → EReal} (hx : Has x f) (hy : Has y f) : x = y :=
  funext fun i => (hx i).trans (hy i).symm

/-- Every matrix holds something. -/
theorem exists_has {R C : ℕ} (x : (⟨2, ![R, C]⟩ : Shape).Idx → EReal) : ∃ f, Has x f := by
  classical
  refine ⟨fun a b => if h : a < R ∧ b < C then x (ix2 ⟨a, h.1⟩ ⟨b, h.2⟩) else 0, Has.of fun a b => ?_⟩
  rw [dif_pos ⟨a.isLt, b.isLt⟩]

/-- Every vector holds something. -/
theorem exists_row {C : ℕ} (x : (⟨1, ![C]⟩ : Shape).Idx → EReal) : ∃ f : ℕ → EReal, ∀ i, x i = f (i 0).val := by
  classical
  refine ⟨fun b => if h : b < C then x (ix1 ⟨b, h⟩) else 0, fun i => ?_⟩
  beta_reduce
  rw [dif_pos (show (i 0).val < C from (i 0).isLt)]
  refine congrArg x (funext fun a => ?_)
  match a with
  | ⟨0, _⟩ => rfl

/-- A matrix with one row holds something that does not read the row's number. -/
theorem exists_one {C : ℕ} (x : (⟨2, ![1, C]⟩ : Shape).Idx → EReal) : ∃ f : ℕ → EReal, Has x (fun _ b => f b) := by
  obtain ⟨f, hf⟩ := exists_has x
  refine ⟨f 0, fun i => (hf i).trans ?_⟩
  have : (i 0).val = 0 := by have : (i 0).val < 1 := (i 0).isLt; omega
  rw [this]

/-- The zero word reads zero. -/
theorem zero_f32 : (Ideal.ofBits .f32 0x00000000#32 : EReal) = 0 := by simp [Ideal.ofBits, Ideal.ieee]

/-! ## Entry by entry -/

section
variable {R C : ℕ} {φ : FTy} {x y : FVec Ideal ⟨2, ![R, C]⟩ φ} {f g : ℕ → ℕ → EReal}

theorem Has.mul (hx : Has x f) (hy : Has y g) : Has (mulf x y) (fun a b => f a b * g a b) := fun i => by
  show x i * y i = _
  rw [hx i, hy i]
theorem Has.add (hx : Has x f) (hy : Has y g) : Has (addf x y) (fun a b => f a b + g a b) := fun i => by
  show x i + y i = _
  rw [hx i, hy i]
theorem Has.div (hx : Has x f) (hy : Has y g) : Has (divf x y) (fun a b => Ideal.div (f a b) (g a b)) := fun i => by
  show Ideal.div (x i) (y i) = _
  rw [hx i, hy i]
theorem Has.rsqrt (hx : Has x f) : Has (rsqrt x) (fun a b => Ideal.rsqrt (f a b)) := fun i => by
  show Ideal.rsqrt (x i) = _
  rw [hx i]
/-- A number spread over a matrix. -/
theorem has_splat (w : EReal) : Has (R := R) (C := C) (broadcast ⟨2, ![R, C]⟩ (w : Ideal φ)) (fun _ _ => w) := fun _ => rfl
/-- A cast to the same shape. -/
theorem Has.cast (hx : Has x f) (h : (⟨2, ![R, C]⟩ : Shape).ShapeCasts ⟨2, ![R, C]⟩) : Has (shapeCast ⟨2, ![R, C]⟩ x h) f := by
  rw [shapeCast_self]; exact hx
end

/-- A narrowing of the format keeps the entries. -/
theorem Has.trunc {R C : ℕ} {x : FVec Ideal ⟨2, ![R, C]⟩ .f32} {f : ℕ → ℕ → EReal} (hx : Has x f) (h : FTy.bf16.bits < FTy.f32.bits) :
    Has (truncf .bf16 x h) f := fun i => hx i

/-- One column spread over the lanes. -/
theorem Has.col {R C : ℕ} {x : (⟨2, ![R, 1]⟩ : Shape).Idx → EReal} {f : ℕ → ℕ → EReal} (hx : Has x f) (h : (⟨2, ![R, 1]⟩ : Shape).Broadcasts ⟨2, ![R, C]⟩) :
    Has (broadcastTo ⟨2, ![R, C]⟩ x h) (fun a _ => f a 0) := Has.of fun p c => by
  refine (broadcastTo_apply x h (ix2 p c) (ix2 p (0 : Fin 1)) fun ax => ?_).trans (hx _)
  match ax with
  | ⟨0, _⟩ =>
    show p.val = if R = 1 then 0 else p.val
    split
    · have := p.isLt; omega
    · rfl
  | ⟨1, _⟩ => rfl

/-- One row spread over the rows. -/
theorem Has.row {R C : ℕ} {x : (⟨2, ![1, C]⟩ : Shape).Idx → EReal} {f : ℕ → ℕ → EReal} (hx : Has x f) (h : (⟨2, ![1, C]⟩ : Shape).Broadcasts ⟨2, ![R, C]⟩) :
    Has (broadcastTo ⟨2, ![R, C]⟩ x h) (fun _ b => f 0 b) := Has.of fun p c => by
  refine (broadcastTo_apply x h (ix2 p c) (ix2 (0 : Fin 1) c) fun ax => ?_).trans (hx _)
  match ax with
  | ⟨0, _⟩ => rfl
  | ⟨1, _⟩ =>
    show c.val = if C = 1 then 0 else c.val
    split
    · have := c.isLt; omega
    · rfl

/-- The sum along the lanes, as a column. -/
theorem Has.rowSum {R C : ℕ} {x : FVec Ideal ⟨2, ![R, C]⟩ .f32} {f : ℕ → ℕ → EReal} (hx : Has x f) (acc : BitVec FTy.f32.bits)
    (h : (⟨2, ![R, C]⟩ : Shape).Reduces [1] ⟨1, ![R]⟩) (hφ : FKind.Formats .f32) (hacc : acc = FKind.add.neutral .f32 hφ)
    (hc : (⟨1, ![R]⟩ : Shape).ShapeCasts ⟨2, ![R, 1]⟩) :
    Has (shapeCast ⟨2, ![R, 1]⟩ (multiReduction .add [1] ⟨1, ![R]⟩ x acc h hφ hacc) hc) (fun a _ => ∑ k ∈ Finset.range C, f a k) := Has.of fun p c => by
  have hc0 : c = 0 := Fin.ext (by have := c.isLt; omega)
  subst hc0
  rw [shapeCast_a_a1_apply, Ideal.multiReduction_add_single, Finset.sum_range]
  refine Finset.sum_congr rfl fun k _ => (hx _).trans ?_
  rfl

/-- The sum down the rows, as a row. -/
theorem Has.colSum {R C : ℕ} {x : FVec Ideal ⟨2, ![R, C]⟩ .f32} {f : ℕ → ℕ → EReal} (hx : Has x f) (acc : BitVec FTy.f32.bits)
    (h : (⟨2, ![R, C]⟩ : Shape).Reduces [0] ⟨1, ![C]⟩) (hφ : FKind.Formats .f32) (hacc : acc = FKind.add.neutral .f32 hφ)
    (hc : (⟨1, ![C]⟩ : Shape).ShapeCasts ⟨2, ![1, C]⟩) :
    Has (shapeCast ⟨2, ![1, C]⟩ (multiReduction .add [0] ⟨1, ![C]⟩ x acc h hφ hacc) hc) (fun _ b => ∑ k ∈ Finset.range R, f k b) := Has.of fun p c => by
  have hp0 : p = 0 := Fin.ext (by have := p.isLt; omega)
  subst hp0
  rw [shapeCast_a_1a_apply, Ideal.multiReduction_add_single, Finset.sum_range]
  refine Finset.sum_congr rfl fun k _ => (hx _).trans ?_
  rfl

/-! ## The modulated norm -/

/-- The reciprocal of the root of a row's mean square. -/
def rinv (x : ℕ → ℕ → EReal) (t : ℕ) : EReal :=
  Ideal.rsqrt (Ideal.div (∑ k ∈ Finset.range 1024, x t k * x t k) (Ideal.ofBits .f32 0x44800000#32) + Ideal.ofBits .f32 0x358637BD#32)

/-- A row normed, weighted, scaled and shifted. -/
def hid (x : ℕ → ℕ → EReal) (nw sc sh : ℕ → EReal) (t k : ℕ) : EReal :=
  x t k * rinv x t * nw k * (Ideal.ofBits .f32 0x3F800000#32 + sc k) + sh k

/-- Rows of `f` against columns of `g`. -/
def rowCol (n : ℕ) (f g : ℕ → ℕ → EReal) (a b : ℕ) : EReal := ∑ k ∈ Finset.range n, f a k * g k b

/-- Columns of `f` against columns of `g`. -/
def colCol (n : ℕ) (f g : ℕ → ℕ → EReal) (a b : ℕ) : EReal := ∑ k ∈ Finset.range n, f k a * g k b

/-- The norm of a row reads that row alone. -/
theorem hid_shift (x : ℕ → ℕ → EReal) (nw sc sh : ℕ → EReal) (p t k : ℕ) : hid (fun a b => x (p + a) b) nw sc sh t k = hid x nw sc sh (p + t) k := rfl

/-- The sum over all rows, tile by tile. -/
theorem sum_tiles (f : ℕ → EReal) (n m : ℕ) : (∑ k ∈ Finset.range (m * n), f k) + ∑ k ∈ Finset.range m, f (m * n + k) = ∑ k ∈ Finset.range (m * (n + 1)), f k := by
  rw [Nat.mul_succ, Finset.sum_range_add]

end Cert.In

end
-- ==== Proof.GdnVal.lean ====
/- The delta-net input projection and the gradient of its weight: what the two calls leave in their arrays. -/
module

public import proofs.«01_k».proof.Proof.In
public import proofs.«01_k».proof.Proof.GdnRun
public import Idealize.ShloMosaic.Lib.Pipeline.ValueKit

@[expose] public section

set_option maxRecDepth 8192

noncomputable section

namespace Cert.GdnInIdeal.Val

open Idealize.ShloMosaic hiding ix2
open Idealize.ShloMosaic.TcCoe Idealize.ShloMosaic.ValueIdx Idealize.ShloMosaic.Tactic
open Idealize.SL Idealize.SL.RA
open Cert.GdnInIdeal Cert.GdnInIdeal.Gen Cert.In
open scoped BigOperators

/-! ## The two products -/

theorem nn_apply (lhs : FVec Ideal S1024x1024 .bf16) (rhs : FVec Ideal S1024x1280 .bf16) (acc : FVec Ideal S1024x1280 .f32) (r : Fin 1024) (c : Fin 1280) :
    matmul dot_S1024x1024_S1024x1280_S1024x1280_1_0_0_1_n_n none lhs rhs acc (ix2 r c) = acc (ix2 r c) + ∑ k : Fin 1024, lhs (ix2 r k) * rhs (ix2 k c) :=
  Ideal.matmul_plain_apply none lhs rhs acc r c

theorem tn_apply (lhs : FVec Ideal S1024x1024 .bf16) (rhs : FVec Ideal S1024x1280 .bf16) (acc : FVec Ideal S1024x1280 .f32) (r : Fin 1024) (c : Fin 1280) :
    matmul dot_S1024x1024_S1024x1280_S1024x1280_0_0_1_1_n_n none lhs rhs acc (ix2 r c) = acc (ix2 r c) + ∑ k : Fin 1024, lhs (ix2 k r) * rhs (ix2 k c) := by
  have hr : (dot_S1024x1024_S1024x1280_S1024x1280_0_0_1_1_n_n).contr.rank = 1 := rfl
  have hs : (dot_S1024x1024_S1024x1280_S1024x1280_0_0_1_1_n_n).contr.size ⟨0, by rw [hr]; exact Nat.one_pos⟩ = 1024 := rfl
  show FloatOps.matmul _ _ _ _ _ _ = _
  rw [Ideal.matmul_apply, ← Equiv.sum_comp (contrEquiv1 _ 1024 hr hs).symm]
  refine congrArg (acc (ix2 r c) + ·) (Finset.sum_congr rfl fun k _ => ?_)
  have hk := contrEquiv1_symm_val _ 1024 hr hs k
  have el : (dot_S1024x1024_S1024x1280_S1024x1280_0_0_1_1_n_n).lhsIdx (ix2 r c) ((contrEquiv1 _ 1024 hr hs).symm k) = ix2 k r := by
    funext a; apply Fin.ext
    match a with
    | ⟨0, _⟩ => exact hk
    | ⟨1, _⟩ => rfl
  have er : (dot_S1024x1024_S1024x1280_S1024x1280_0_0_1_1_n_n).rhsIdx (ix2 r c) ((contrEquiv1 _ 1024 hr hs).symm k) = ix2 k c := by
    funext a; apply Fin.ext
    match a with
    | ⟨0, _⟩ => exact hk
    | ⟨1, _⟩ => rfl
  rw [el, er]

/-! ## What a grid point computes -/

/-- A tile normed, weighted, scaled and shifted. -/
theorem pay1_has {x : FVec Ideal S1024x1024 .f32} {n s h : FVec Ideal S1x1024 .f32} {X : ℕ → ℕ → EReal} {nw sc sh : ℕ → EReal}
    (hx : Has x X) (hn : Has n (fun _ b => nw b)) (hs : Has s (fun _ b => sc b)) (hh : Has h (fun _ b => sh b)) :
    Has (k0_pay1 (F := Ideal) x n s h) (hid X nw sc sh) :=
  ((((hx.mul (((((hx.mul hx).rowSum _ reduces_S1024x1024_S1024 (.inl rfl) rfl shapeCasts_S1024_S1024x1).div (has_splat _)).add (has_splat _)).rsqrt.col broadcasts_S1024x1_S1024x1024)).mul
    ((hn.cast shapeCasts_S1x1024_S1x1024).row broadcasts_S1x1024_S1024x1024)).mul (((has_splat _).add hs).row broadcasts_S1x1024_S1024x1024)).add (hh.row broadcasts_S1x1024_S1024x1024)).trunc bitsLt_bf16_f32

/-- A tile of the projection. -/
theorem pay2_has {x : FVec Ideal S1024x1024 .bf16} {y : FVec Ideal S1024x1280 .bf16} {f g : ℕ → ℕ → EReal} (hx : Has x f) (hy : Has y g) :
    Has (k0_pay2 (F := Ideal) x y) (fun a b => ∑ k ∈ Finset.range 1024, f a k * g k b) := Has.of fun a b => by
  unfold k0_pay2
  rw [shapeCast_self, shapeCast_self, nn_apply, Finset.sum_range]
  show Ideal.ofBits .f32 0x00000000#32 + _ = _
  rw [zero_f32, zero_add]
  exact Finset.sum_congr rfl fun k _ => by rw [hx, hy]

/-- One tile of rows added to the gradient of the weight. -/
theorem add_has {acc : FVec Ideal S1024x1280 .f32} {x : FVec Ideal S1024x1024 .bf16} {y : FVec Ideal S1024x1280 .f32} {e f g : ℕ → ℕ → EReal} (ha : Has acc e) (hx : Has x f) (hy : Has y g) :
    Has (k1_pay2 (F := Ideal) acc x y) (fun a b => e a b + ∑ k ∈ Finset.range 1024, f k a * g k b) := Has.of fun a b => by
  unfold k1_pay2
  rw [shapeCast_self, shapeCast_self]
  show acc (ix2 a b) + matmul dot_S1024x1024_S1024x1280_S1024x1280_0_0_1_1_n_n none x (truncf .bf16 y bitsLt_bf16_f32) _ (ix2 a b) = _
  rw [tn_apply, Finset.sum_range, ha]
  refine congrArg (e a b + ·) ?_
  show Ideal.ofBits .f32 0x00000000#32 + _ = _
  rw [zero_f32, zero_add]
  refine Finset.sum_congr rfl fun k _ => ?_
  show x (ix2 k a) * y (ix2 k b) = _
  rw [hx, hy]

/-- The gradient of the weight begins at zero. -/
theorem pay1_zero : Has (k1_pay1 (F := Ideal)) (fun _ _ => 0) := fun i => zero_f32

/-! ## The arrays of the first call -/

variable (V : (c : Dev nD) → (b : Ref sig .tc) → Buf (Elt Ideal) (c.tc.loc b))

theorem idx0_0 : ∀ t : Fin cfg0.N, win0_0.index t = ![t.val / 5, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, t.val % 5] := (by decide +kernel : ∀ t : Fin grid0.N, _)
theorem idx0_5 : ∀ t : Fin cfg0.N, win0_5.index t = ![t.val / 5, t.val % 5] := (by decide +kernel : ∀ t : Fin grid0.N, _)
theorem idx0_6 : ∀ t : Fin cfg0.N, win0_6.index t = ![t.val / 5, 0] := (by decide +kernel : ∀ t : Fin grid0.N, _)
theorem idx1_0 : ∀ t : Fin cfg1.N, win1_0.index t = ![t.val % 4, 0] := (by decide +kernel : ∀ t : Fin grid1.N, _)
theorem idx1_1 : ∀ t : Fin cfg1.N, win1_1.index t = ![t.val % 4, t.val / 4] := (by decide +kernel : ∀ t : Fin grid1.N, _)
theorem idx1_2 : ∀ t : Fin cfg1.N, win1_2.index t = ![0, t.val / 4] := (by decide +kernel : ∀ t : Fin grid1.N, _)
theorem last1 : ∀ t : Fin cfg1.N, win1_2.flush t = true → t.val % 4 = 3 := (by decide +kernel : ∀ t : Fin grid1.N, _)

section First
variable {X W : ℕ → ℕ → EReal} {nw sc sh : ℕ → EReal} (c : Dev nD)

theorem blk0_0 (hX : Has (R := 4096) (C := 1024) (V c main_arg0) X) (t : Fin cfg0.N) :
    Has (R := 1024) (C := 1024) (Run.iblk0 (F := Ideal) V c 0 t) (fun a b => X (1024 * (t.val / 5) + a) b) := Has.of fun a b => by
  blk_simp [Run.iblk0]
  refine (hX _).trans ?_
  blk_simp [idx0_0 t]
  congr 1 <;> first | rfl | (simp; omega)
theorem blk0_1 (h : Has (R := 1) (C := 1024) (V c main_v0) (fun _ b => nw b)) (t : Fin cfg0.N) :
    Has (R := 1) (C := 1024) (Run.iblk0 (F := Ideal) V c 1 t) (fun _ b => nw b) := Has.of fun a b => by
  blk_simp [Run.iblk0]
  refine (h _).trans ?_
  blk_simp [idx0_1 t]
theorem blk0_2 (h : Has (R := 1) (C := 1024) (V c main_arg2) (fun _ b => sc b)) (t : Fin cfg0.N) :
    Has (R := 1) (C := 1024) (Run.iblk0 (F := Ideal) V c 2 t) (fun _ b => sc b) := Has.of fun a b => by
  blk_simp [Run.iblk0]
  refine (h _).trans ?_
  blk_simp [idx0_2 t]
theorem blk0_3 (h : Has (R := 1) (C := 1024) (V c main_arg3) (fun _ b => sh b)) (t : Fin cfg0.N) :
    Has (R := 1) (C := 1024) (Run.iblk0 (F := Ideal) V c 3 t) (fun _ b => sh b) := Has.of fun a b => by
  blk_simp [Run.iblk0]
  refine (h _).trans ?_
  blk_simp [idx0_3 t]
theorem blk0_4 (hW : Has (R := 1024) (C := 6400) (V c main_v1) W) (t : Fin cfg0.N) :
    Has (R := 1024) (C := 1280) (Run.iblk0 (F := Ideal) V c 4 t) (fun a b => W a (1280 * (t.val % 5) + b)) := Has.of fun a b => by
  blk_simp [Run.iblk0]
  refine (hW _).trans ?_
  blk_simp [idx0_4 t]
  congr 1 <;> first | rfl | (simp; omega)

variable (hX : Has (R := 4096) (C := 1024) (V c main_arg0) X) (hn : Has (R := 1) (C := 1024) (V c main_v0) (fun _ b => nw b))
  (hs : Has (R := 1) (C := 1024) (V c main_arg2) (fun _ b => sc b)) (hh : Has (R := 1) (C := 1024) (V c main_arg3) (fun _ b => sh b))
include hX hn hs hh

/-- The normed rows kept through a tile of rows. -/
theorem hAt_has : ∀ (n : ℕ) (h : n < cfg0.N), Has (R := 1024) (C := 1024) (Run.hAt (F := Ideal) V c n h) (fun a b => hid X nw sc sh (1024 * (n / 5) + a) b) := by
  intro n
  induction n with
  | zero =>
    intro h
    have e := Run.hAt_first (F := Ideal) V c ⟨0, h⟩ rfl
    dsimp only at e
    rw [e]
    exact pay1_has (blk0_0 V c hX ⟨0, h⟩) (blk0_1 V c hn ⟨0, h⟩) (blk0_2 V c hs ⟨0, h⟩) (blk0_3 V c hh ⟨0, h⟩)
  | succ n ih =>
    intro h
    by_cases h0 : (n + 1) % 5 = 0
    · have e := Run.hAt_first (F := Ideal) V c ⟨n + 1, h⟩ h0
      dsimp only at e
      rw [e]
      exact pay1_has (blk0_0 V c hX ⟨n + 1, h⟩) (blk0_1 V c hn ⟨n + 1, h⟩) (blk0_2 V c hs ⟨n + 1, h⟩) (blk0_3 V c hh ⟨n + 1, h⟩)
    · have e := Run.hAt_rest (F := Ideal) V c ⟨n + 1, h⟩ h0
      dsimp only [Nat.add_sub_cancel] at e
      rw [e]
      refine (ih (by omega)).congr fun a b _ _ => ?_
      rw [show n / 5 = (n + 1) / 5 by omega]

/-- The normed rows after the call. -/
theorem arr0_6 : Has (R := 4096) (C := 1024) ((Run.dat0 (F := Ideal) V c).arrAt 6 cfg0.N) (hid X nw sc sh) := by
  refine congrFun ((Run.dat0 (F := Ideal) V c).arrAt_eq_of_covers 6 (fun i : S4096x1024.Idx => hid X nw sc sh (i 0).val (i 1).val) (by decide +kernel) fun t hf y => ?_)
  blk_simp
  rw [Run.after0_6]
  refine (hAt_has V c hX hn hs hh t.val t.isLt y).trans ?_
  beta_reduce
  blk_simp [idx0_6 t]
  congr 1 <;> first | rfl | (simp; omega)

/-- The projection after the call. -/
theorem arr0_5 (hW : Has (R := 1024) (C := 6400) (V c main_v1) W) :
    Has (R := 4096) (C := 6400) ((Run.dat0 (F := Ideal) V c).arrAt 5 cfg0.N) (rowCol 1024 (hid X nw sc sh) W) := by
  refine congrFun ((Run.dat0 (F := Ideal) V c).arrAt_eq_of_covers 5 (fun i : S4096x6400.Idx => rowCol 1024 (hid X nw sc sh) W (i 0).val (i 1).val) (by decide +kernel) fun t hf y => ?_)
  blk_simp
  rw [Run.after0_5]
  refine (pay2_has (hAt_has V c hX hn hs hh t.val t.isLt) (blk0_4 V c hW t) y).trans ?_
  beta_reduce
  blk_simp [idx0_5 t]
  unfold rowCol
  refine Finset.sum_congr rfl fun k _ => ?_
  congr 2 <;> first | rfl | (simp; omega)
end First

/-! ## The array of the second call -/

section Second
variable {H G : ℕ → ℕ → EReal} (c : Dev nD)

theorem blk1_0 (hH : Has (R := 4096) (C := 1024) (V c main_v2_1) H) (t : Fin cfg1.N) :
    Has (R := 1024) (C := 1024) (Run.iblk1 (F := Ideal) V c 0 t) (fun a b => H (1024 * (t.val % 4) + a) b) := Has.of fun a b => by
  blk_simp [Run.iblk1]
  refine (hH _).trans ?_
  blk_simp [idx1_0 t]
  congr 1 <;> first | rfl | (simp; omega)
theorem blk1_1 (hG : Has (R := 4096) (C := 6400) (V c main_arg5) G) (t : Fin cfg1.N) :
    Has (R := 1024) (C := 1280) (Run.iblk1 (F := Ideal) V c 1 t) (fun a b => G (1024 * (t.val % 4) + a) (1280 * (t.val / 4) + b)) := Has.of fun a b => by
  blk_simp [Run.iblk1]
  refine (hG _).trans ?_
  blk_simp [idx1_1 t]
  congr 1 <;> first | rfl | (simp; omega)

variable (hH : Has (R := 4096) (C := 1024) (V c main_v2_1) H) (hG : Has (R := 4096) (C := 6400) (V c main_arg5) G)
include hH hG

/-- The tiles of rows gathered so far. -/
theorem gAt_has : ∀ (n : ℕ) (h : n < cfg1.N), Has (R := 1024) (C := 1280) (Run.gAt (F := Ideal) V c n h)
    (fun a b => ∑ k ∈ Finset.range (1024 * (n % 4 + 1)), H k a * G k (1280 * (n / 4) + b)) := by
  intro n
  induction n with
  | zero =>
    intro h
    have e := Run.gAt_first (F := Ideal) V c ⟨0, h⟩ rfl
    dsimp only at e
    rw [e]
    refine (add_has pay1_zero (blk1_0 V c hH ⟨0, h⟩) (blk1_1 V c hG ⟨0, h⟩)).congr fun a b _ _ => ?_
    rw [zero_add]
    refine Finset.sum_congr rfl fun k _ => ?_
    congr 2 <;> simp
  | succ n ih =>
    intro h
    by_cases h0 : (n + 1) % 4 = 0
    · have e := Run.gAt_first (F := Ideal) V c ⟨n + 1, h⟩ h0
      dsimp only at e
      rw [e]
      refine (add_has pay1_zero (blk1_0 V c hH ⟨n + 1, h⟩) (blk1_1 V c hG ⟨n + 1, h⟩)).congr fun a b _ _ => ?_
      dsimp only
      rw [zero_add, h0]
      refine Finset.sum_congr rfl fun k _ => ?_
      congr 2 <;> simp
    · have e := Run.gAt_rest (F := Ideal) V c ⟨n + 1, h⟩ h0
      dsimp only [Nat.add_sub_cancel] at e
      rw [e]
      refine (add_has (ih (by omega)) (blk1_0 V c hH ⟨n + 1, h⟩) (blk1_1 V c hG ⟨n + 1, h⟩)).congr fun a b _ _ => ?_
      dsimp only
      rw [show (n + 1) % 4 = n % 4 + 1 by omega, show (n + 1) / 4 = n / 4 by omega]
      exact sum_tiles (fun k => H k a * G k (1280 * (n / 4) + b)) (n % 4 + 1) 1024

/-- The gradient of the weight after the call. -/
theorem arr1_2 : Has (R := 1024) (C := 6400) ((Run.dat1 (F := Ideal) V c).arrAt 2 cfg1.N) (colCol 4096 H G) := by
  refine congrFun ((Run.dat1 (F := Ideal) V c).arrAt_eq_of_covers 2 (fun i : S1024x6400.Idx => colCol 4096 H G (i 0).val (i 1).val) (by decide +kernel) fun t hf y => ?_)
  have h3 := last1 t hf
  blk_simp
  rw [Run.after1_2]
  refine (gAt_has V c hH hG t.val t.isLt y).trans ?_
  beta_reduce
  rw [h3]
  blk_simp [idx1_2 t]
  unfold colCol
  refine Finset.sum_congr rfl fun k _ => ?_
  congr 2 <;> first | rfl | (simp; omega)
end Second

end Cert.GdnInIdeal.Val

end
-- ==== Proof.GdnRef.lean ====
/- The reference of the delta-net input projection, operation by operation. -/
module

public import proofs.«01_k».proof.Proof.In
public import proofs.«01_k».proof.Proof.Gen.RefGdnInIdeal.Read

@[expose] public section

set_option maxRecDepth 8192

noncomputable section

namespace Cert.RefGdnInIdeal.At

open Idealize.ShloMosaic Idealize.ShloMosaic.ValueIdx
open Cert.RefGdnInIdeal Cert.RefGdnInIdeal.Gen Cert.RefGdnInIdeal.Read Cert.In
open scoped BigOperators

variable {x0 : FVec Ideal S4096x1024 .f32} {x1 : FVec Ideal S1024 .f32} {x2 x3 : FVec Ideal S1x1024 .f32} {x4 : FVec Ideal S1024x6400 .f32} {x5 : FVec Ideal S4096x6400 .f32}
  {X W G : ℕ → ℕ → EReal} {nw sc sh : ℕ → EReal}

/-- The reciprocal of the root of each row's mean square. -/
theorem v8_at (hX : Has x0 X) : Has (val_main_v8 (F := Ideal) x0) (fun a _ => rinv X a) := by
  intro i
  rw [val_main_v8_apply, val_main_v7_apply, val_main_v6_apply, val_main_v4_apply, val_main_v2_apply, val_main_v1_apply]
  show Ideal.rsqrt (Ideal.div (Ideal.ofBits .f32 0x00000000#32 + _) (Ideal.ofBits .f32 0x44800000#32) + Ideal.ofBits .f32 0x358637BD#32) = _
  rw [zero_f32, zero_add]
  beta_reduce
  unfold rinv
  rw [Finset.sum_range]
  congr 3
  refine Finset.sum_congr rfl fun k _ => ?_
  rw [val_main_v0_apply, hX]
  rfl

/-- The normed rows. -/
theorem v18_at (hX : Has x0 X) (hn : ∀ i, x1 i = nw (i 0).val) (hs : Has x2 (fun _ b => sc b)) (hh : Has x3 (fun _ b => sh b)) :
    Has (val_main_v18 (F := Ideal) x0 x1 x2 x3) (hid X nw sc sh) := by
  intro i
  rw [val_main_v18_apply, val_main_v16_apply, val_main_v12_apply, val_main_v9_apply, v8_at hX, val_main_v11_apply, val_main_v10_apply,
    val_main_v15_apply, val_main_v14_apply, val_main_v17_apply, hX, hn, hs, hh]
  rfl

/-- The projection. -/
theorem v19_at (hX : Has x0 X) (hn : ∀ i, x1 i = nw (i 0).val) (hs : Has x2 (fun _ b => sc b)) (hh : Has x3 (fun _ b => sh b)) (hW : Has x4 W) :
    Has (val_main_v19 (F := Ideal) x0 x1 x2 x3 x4) (rowCol 1024 (hid X nw sc sh) W) := by
  intro i
  rw [val_main_v19_apply]
  unfold rowCol
  rw [Finset.sum_range]
  refine Finset.sum_congr rfl fun k _ => ?_
  rw [v18_at hX hn hs hh, hW]

/-- The gradient of the weight. -/
theorem v21_at (hX : Has x0 X) (hn : ∀ i, x1 i = nw (i 0).val) (hs : Has x2 (fun _ b => sc b)) (hh : Has x3 (fun _ b => sh b)) (hG : Has x5 G) :
    Has (val_main_v21 (F := Ideal) x0 x1 x2 x3 x5) (colCol 4096 (hid X nw sc sh) G) := by
  intro i
  rw [val_main_v21_apply, val_main_v20_apply]
  unfold colCol
  rw [Finset.sum_range]
  refine Finset.sum_congr rfl fun k _ => ?_
  rw [v18_at hX hn hs hh, hG, mul_comm]

end Cert.RefGdnInIdeal.At

end
-- ==== Proof.GdnAlgebraic.lean ====
/- The delta-net input projection and the gradient of its weight: kernel and reference compute the same. -/
module

public import proofs.«01_k».proof.Defs
public import proofs.«01_k».proof.Proof.GdnVal
public import proofs.«01_k».proof.Proof.GdnRef
public import proofs.«01_k».proof.Proof.Gen.GdnInIdeal

@[expose] public section

set_option maxRecDepth 8192

noncomputable section

namespace Cert.GdnInIdeal.Val

open Idealize.ShloMosaic hiding ix1 ix2
open Idealize.ShloMosaic.TcCoe Idealize.ShloMosaic.ValueIdx Idealize.ShloMosaic.Tactic
open Cert.GdnInIdeal Cert.GdnInIdeal.Gen Cert.GdnInIdeal.Run Cert.In

section
variable (m : (ℓ : Loc nD τ sig) → Buf (Elt Ideal) ℓ) (ρ : Dev nD → PrngReg) (c : Dev nD)
variable {X W G : ℕ → ℕ → EReal} {nw sc sh : ℕ → EReal}

/-- The norm's weight as the call reads it: one row. -/
theorem V1_n (hn : ∀ i : S1024.Idx, (m (c.tc.loc main_arg1)) i = nw (i 0).val) : Has (R := 1) (C := 1024) (V1 m ρ c main_v0) (fun _ b => nw b) := by
  have e : V1 m ρ c main_v0 = broadcastInDim S1x1024 ![1] bcast_S1024_S1x1024_1 (m (c.tc.loc main_arg1)) := by
    show StableHlo.after hostOps0 (W0 m ρ c) _ = _
    after_results
  rw [e]
  refine Has.of fun a b => ?_
  refine (broadcastInDim_apply _ bcast_S1024_S1x1024_1 _ (ix2 a b) (ix1 b) (fun z => ?_)).trans (hn _)
  match z with
  | ⟨0, _⟩ => show b.val = if (1024 : Nat) = 1 then 0 else b.val; rw [if_neg (by decide)]

/-- The weight as the call reads it: narrowed, its entries kept. -/
theorem V1_W (hW : Has (R := 1024) (C := 6400) (m (c.tc.loc main_arg4)) W) : Has (R := 1024) (C := 6400) (V1 m ρ c main_v1) W := by
  have e : V1 m ρ c main_v1 = truncf (F := Ideal) .bf16 (m (c.tc.loc main_arg4)) bitsLt_bf16_f32 := by
    show StableHlo.after hostOps0 (W0 m ρ c) _ = _
    after_results
  rw [e]
  exact hW

variable (hX : Has (R := 4096) (C := 1024) (m (c.tc.loc main_arg0)) X) (hn : ∀ i : S1024.Idx, (m (c.tc.loc main_arg1)) i = nw (i 0).val)
  (hs : Has (R := 1) (C := 1024) (m (c.tc.loc main_arg2)) (fun _ b => sc b)) (hh : Has (R := 1) (C := 1024) (m (c.tc.loc main_arg3)) (fun _ b => sh b))
include hX hn hs hh

theorem V1_x : Has (R := 4096) (C := 1024) (V1 m ρ c main_arg0) X := by rw [show V1 m ρ c main_arg0 = _ from W1_args m ρ c main_arg0 (by decide)]; exact hX
theorem V1_s : Has (R := 1) (C := 1024) (V1 m ρ c main_arg2) (fun _ b => sc b) := by rw [show V1 m ρ c main_arg2 = _ from W1_args m ρ c main_arg2 (by decide)]; exact hs
theorem V1_h : Has (R := 1) (C := 1024) (V1 m ρ c main_arg3) (fun _ b => sh b) := by rw [show V1 m ρ c main_arg3 = _ from W1_args m ρ c main_arg3 (by decide)]; exact hh

/-- The projection at the end of the program. -/
theorem res_proj (hW : Has (R := 1024) (C := 6400) (m (c.tc.loc main_arg4)) W) :
    Has (R := 4096) (C := 6400) (W3 m ρ c main_v2_0) (rowCol 1024 (hid X nw sc sh) W) := by
  have e := (W3_of m ρ c main_v2_0 (by decide)).trans (W2_arr m ρ c 5)
  exact fun i => (congrFun e i).trans (arr0_5 (V1 m ρ) c (V1_x m ρ c hX hn hs hh) (V1_n m ρ c hn) (V1_s m ρ c hX hn hs hh) (V1_h m ρ c hX hn hs hh) (V1_W m ρ c hW) i)

/-- The gradient of the weight at the end of the program. -/
theorem res_dW (hG : Has (R := 4096) (C := 6400) (m (c.tc.loc main_arg5)) G) :
    Has (R := 1024) (C := 6400) (W3 m ρ c main_v3) (colCol 4096 (hid X nw sc sh) G) := by
  have e6 := W2_arr m ρ c 6
  have h6 : Has (R := 4096) (C := 1024) (V2 m ρ c main_v2_1) (hid X nw sc sh) := fun i => (congrFun e6 i).trans
    (arr0_6 (V1 m ρ) c (V1_x m ρ c hX hn hs hh) (V1_n m ρ c hn) (V1_s m ρ c hX hn hs hh) (V1_h m ρ c hX hn hs hh) i)
  have h5 : Has (R := 4096) (C := 6400) (V2 m ρ c main_arg5) G := by
    rw [show V2 m ρ c main_arg5 = _ from W2_args m ρ c main_arg5 (by decide)]; exact hG
  exact fun i => (congrFun (W3_arr m ρ c 2) i).trans (arr1_2 (V2 m ρ) c h6 h5 i)
end

end Cert.GdnInIdeal.Val

namespace Cert.GdnAlgebraic

open Idealize.ShloMosaic hiding ix1 ix2
open Idealize.ShloMosaic.TcCoe Idealize.ShloMosaic.ValueIdx Idealize.SL.Sem
open Cert.In

attribute [local instance] Cert.GdnInIdeal.Gen.facts Cert.RefGdnInIdeal.Gen.facts

open Cert.GdnInIdeal Cert.RefGdnInIdeal.Read

/-- The reference's results are the kernel program's, device by device. -/
theorem results (m : (ℓ : Loc nD τ sig) → Buf (Elt Ideal) ℓ) (g : Dev nD → PrngReg) (c : Dev nD) :
    val_main_v19 (F := Ideal) (m (c.tc.loc main_arg0)) (m (c.tc.loc main_arg1)) (m (c.tc.loc main_arg2)) (m (c.tc.loc main_arg3)) (m (c.tc.loc main_arg4))
        = Run.W3 m g c main_v2_0
    ∧ val_main_v21 (F := Ideal) (m (c.tc.loc main_arg0)) (m (c.tc.loc main_arg1)) (m (c.tc.loc main_arg2)) (m (c.tc.loc main_arg3)) (m (c.tc.loc main_arg5))
        = Run.W3 m g c main_v3 := by
  obtain ⟨X, hX⟩ := exists_has (R := 4096) (C := 1024) (m (c.tc.loc main_arg0))
  obtain ⟨nw, hn⟩ := exists_row (C := 1024) (m (c.tc.loc main_arg1))
  obtain ⟨sc, hs⟩ := exists_one (C := 1024) (m (c.tc.loc main_arg2))
  obtain ⟨sh, hh⟩ := exists_one (C := 1024) (m (c.tc.loc main_arg3))
  obtain ⟨W, hW⟩ := exists_has (R := 1024) (C := 6400) (m (c.tc.loc main_arg4))
  obtain ⟨G, hG⟩ := exists_has (R := 4096) (C := 6400) (m (c.tc.loc main_arg5))
  exact ⟨(Cert.RefGdnInIdeal.At.v19_at hX hn hs hh hW).eq (Cert.GdnInIdeal.Val.res_proj m g c hX hn hs hh hW),
    (Cert.RefGdnInIdeal.At.v21_at hX hn hs hh hG).eq (Cert.GdnInIdeal.Val.res_dW m g c hX hn hs hh hG)⟩

/-- Kernel and reference end with equal results, the arguments unchanged. -/
theorem algebraic : Cert.algebraic_GdnInIdeal_RefGdnInIdeal := by
  intro m g m' g' hp hm
  refine ⟨fun c => Run.W3 m g c main_v2_0, fun c => Run.W3 m g c main_v3, ?_, ?_⟩
  · refine (θ_run defs _ _).mono (fun r h c => ?_) (Run.run_main (F := Ideal) m g)
    have a := fun q hq => h.1 c _ (Run.mem_uc q hq)
    exact ⟨a _ (by decide), a _ (by decide),
      (a _ (by decide)).trans (Run.W3_main_arg0 m g c),
      (a _ (by decide)).trans (Run.W3_main_arg1 m g c),
      (a _ (by decide)).trans (Run.W3_main_arg2 m g c),
      (a _ (by decide)).trans (Run.W3_main_arg3 m g c),
      (a _ (by decide)).trans (Run.W3_main_arg4 m g c),
      (a _ (by decide)).trans (Run.W3_main_arg5 m g c)⟩
  · refine (θ_run Cert.RefGdnInIdeal.defs _ _).mono (fun r h c => ?_) (Cert.RefGdnInIdeal.Value.run (F := Ideal) m' g')
    obtain ⟨e0, e1, e2, e3, e4, e5⟩ := hm c
    obtain ⟨s0, s1⟩ := results m g c
    obtain ⟨h0, h1, h2⟩ := h c
    refine ⟨h0.trans ?_, h1.trans ?_, h2⟩
    · rw [val_main_v19_eq, e0, e1, e2, e3, e4]; exact s0
    · rw [val_main_v21_eq, e0, e1, e2, e3, e5]; exact s1

end Cert.GdnAlgebraic

end
-- ==== Proof.GdnBwdFrames.lean ====
/- The gradients through the delta-net input projection: the frames of the programs. -/
module

public import proofs.«01_k».proof.Defs
public import proofs.«01_k».proof.Proof.Gen.GdnInBwd
public import proofs.«01_k».proof.Proof.Gen.GdnInBwdIdeal.Frame
public import proofs.«01_k».proof.Proof.Gen.RefGdnInBwdIdeal.Run

@[expose] public section

noncomputable section

namespace Cert.GdnBwdFrames

open Idealize.ShloMosaic Idealize.SL.Sem

open Cert.GdnInBwd in
/-- What the frame of the printed kernel says. -/
def Says : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0)

open Cert.GdnInBwdIdeal in
/-- What the frame of the idealized kernel says over bit patterns. -/
def SaysIdeal : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0)

/-- The two say the same: the texts agree. -/
theorem says_eq : Says = SaysIdeal := by sl_kernel_rfl

/-- The printed kernel ends, arguments unchanged and counters at zero. -/
theorem kernel : Cert.quiescent_GdnInBwd := fun m ρ _ =>
  (cast says_eq.symm (fun m ρ => Cert.GdnInBwdIdeal.Gen.frame (F := Bits) m ρ : SaysIdeal) : Says) m ρ

/-- The idealized kernel ends, arguments unchanged and counters at zero. -/
theorem kernelIdeal : Cert.quiescent_GdnInBwdIdeal := fun m ρ _ => Cert.GdnInBwdIdeal.Gen.frame (F := Ideal) m ρ

/-- No operation was rewritten. -/
theorem preserves : Cert.preserves_GdnInBwd_GdnInBwdIdeal := trivial

/-- The reference ends, arguments unchanged and counters at zero. -/
theorem reference : Cert.quiescent_RefGdnInBwdIdeal := fun m ρ _ =>
  (θ_run Cert.RefGdnInBwdIdeal.defs _ _).mono (fun r h => ⟨fun c => (h c).2.2.2.2, sem_eq_zero_of_no_sems (by decide) r.2⟩)
    (Cert.RefGdnInBwdIdeal.Value.run (F := Ideal) m ρ)

end Cert.GdnBwdFrames

end
-- ==== Proof.InBwd.lean ====
/- The gradients through the modulated norm and the product behind it, over the extended reals. -/
module

public import proofs.«01_k».proof.Proof.In

@[expose] public section

set_option maxRecDepth 8192

noncomputable section

namespace Cert.In

open Idealize.ShloMosaic Idealize.ShloMosaic.ValueIdx
open scoped BigOperators

/-- Rows of `f` against rows of `g`. -/
def rowRow (n : ℕ) (f g : ℕ → ℕ → EReal) (a b : ℕ) : EReal := ∑ k ∈ Finset.range n, f a k * g b k

/-- The mean square of a row, and the small constant. -/
def rms (x : ℕ → ℕ → EReal) (t : ℕ) : EReal :=
  Ideal.div (∑ k ∈ Finset.range 1024, x t k * x t k) (Ideal.ofBits .f32 0x44800000#32) + Ideal.ofBits .f32 0x358637BD#32

theorem rinv_eq (x : ℕ → ℕ → EReal) (t : ℕ) : rinv x t = Ideal.rsqrt (rms x t) := rfl

/-- A row over its root mean square. -/
def xn (x : ℕ → ℕ → EReal) (t k : ℕ) : EReal := x t k * rinv x t

/-- The gradient `d` of the modulated row, back through the scale. -/
def dy (d : ℕ → ℕ → EReal) (sc : ℕ → EReal) (t k : ℕ) : EReal := d t k * (Ideal.ofBits .f32 0x3F800000#32 + sc k)

/-- And back through the norm's weight. -/
def dv (d : ℕ → ℕ → EReal) (nw sc : ℕ → EReal) (t k : ℕ) : EReal := dy d sc t k * nw k

/-- What the mean square passes back to each entry of its row, but for the entry. -/
def corr (x d : ℕ → ℕ → EReal) (nw sc : ℕ → EReal) (t : ℕ) : EReal :=
  Ideal.div ((∑ k ∈ Finset.range 1024, x t k * dv d nw sc t k) * (Ideal.ofBits .f32 0xBF000000#32 * Ideal.div (rinv x t) (rms x t)))
    (Ideal.ofBits .f32 0x44800000#32)

/-- The gradient of the residual stream before the layer, `r` being that after it. -/
def dxOf (x d r : ℕ → ℕ → EReal) (nw sc : ℕ → EReal) (t k : ℕ) : EReal :=
  r t k + (dv d nw sc t k * rinv x t + x t k * corr x d nw sc t + corr x d nw sc t * x t k)

/-- The gradient of the norm's weight, from `n` rows. -/
def dnwOf (n : ℕ) (x d : ℕ → ℕ → EReal) (sc : ℕ → EReal) (k : ℕ) : EReal := ∑ t ∈ Finset.range n, xn x t k * dy d sc t k

/-- The gradient of the scale, from `n` rows. -/
def dscOf (n : ℕ) (x d : ℕ → ℕ → EReal) (nw : ℕ → EReal) (k : ℕ) : EReal := ∑ t ∈ Finset.range n, xn x t k * nw k * d t k

/-- The gradient of the shift, from `n` rows. -/
def dshOf (n : ℕ) (d : ℕ → ℕ → EReal) (k : ℕ) : EReal := ∑ t ∈ Finset.range n, d t k

/-- A tile of rows more. -/
theorem dnwOf_tile (n : ℕ) (x d : ℕ → ℕ → EReal) (sc : ℕ → EReal) (k : ℕ) :
    dnwOf (1024 * n) x d sc k + dnwOf 1024 (fun a b => x (1024 * n + a) b) (fun a b => d (1024 * n + a) b) sc k = dnwOf (1024 * (n + 1)) x d sc k :=
  sum_tiles (fun t => xn x t k * dy d sc t k) n 1024
theorem dscOf_tile (n : ℕ) (x d : ℕ → ℕ → EReal) (nw : ℕ → EReal) (k : ℕ) :
    dscOf (1024 * n) x d nw k + dscOf 1024 (fun a b => x (1024 * n + a) b) (fun a b => d (1024 * n + a) b) nw k = dscOf (1024 * (n + 1)) x d nw k :=
  sum_tiles (fun t => xn x t k * nw k * d t k) n 1024
theorem dshOf_tile (n : ℕ) (d : ℕ → ℕ → EReal) (k : ℕ) :
    dshOf (1024 * n) d k + dshOf 1024 (fun a b => d (1024 * n + a) b) k = dshOf (1024 * (n + 1)) d k :=
  sum_tiles (fun t => d t k) n 1024

/-- A row's gradient reads that row alone. -/
theorem dxOf_shift (x d r : ℕ → ℕ → EReal) (nw sc : ℕ → EReal) (p t k : ℕ) :
    dxOf (fun a b => x (p + a) b) (fun a b => d (p + a) b) (fun a b => r (p + a) b) nw sc t k = dxOf x d r nw sc (p + t) k := rfl

/-- Sums over tiles that do not count rows are rows of sums. -/
theorem rowRow_tile (s n : ℕ) (f g : ℕ → ℕ → EReal) (a b : ℕ) :
    rowRow (s * n) f g a b + ∑ k ∈ Finset.range s, f a (s * n + k) * g b (s * n + k) = rowRow (s * (n + 1)) f g a b :=
  sum_tiles (fun k => f a k * g b k) n s

end Cert.In

end
-- ==== Proof.GdnBwdPoint.lean ====
/- The gradients through the delta-net input projection: what a grid point computes. -/
module

public import proofs.«01_k».proof.Proof.InBwd
public import proofs.«01_k».proof.Proof.Gen.GdnInBwdIdeal.Frame
public import Idealize.ShloMosaic.Lib.Pipeline.ValueKit

@[expose] public section

set_option maxRecDepth 8192

noncomputable section

namespace Cert.GdnInBwdIdeal.Val

open Idealize.ShloMosaic hiding ix2
open Idealize.ShloMosaic.TcCoe Idealize.ShloMosaic.ValueIdx Idealize.ShloMosaic.Tactic
open Idealize.SL Idealize.SL.RA
open Cert.GdnInBwdIdeal Cert.GdnInBwdIdeal.Gen Cert.In
open scoped BigOperators

/-! ## What is computed from tiles -/

section Tiles
variable {x acc : FVec Ideal S1024x1024 .f32} {n s : FVec Ideal S1x1024 .f32} {X d : ℕ → ℕ → EReal} {nw sc : ℕ → EReal}

theorem pay11_has (hx : Has x X) : Has (k0_pay11 (F := Ideal) x) (fun a _ => rms X a) :=
  ((((hx.mul hx).rowSum _ reduces_S1024x1024_S1024 (.inl rfl) rfl shapeCasts_S1024_S1024x1).div (has_splat _)).add (has_splat _))

theorem pay12_has (hx : Has x X) : Has (k0_pay12 (F := Ideal) x) (fun a _ => rinv X a) := (pay11_has hx).rsqrt

theorem pay13_has (hx : Has x X) : Has (k0_pay13 (F := Ideal) x) (xn X) :=
  hx.mul ((pay12_has hx).col broadcasts_S1024x1_S1024x1024)

theorem pay14_has (ha : Has acc d) : Has (k0_pay14 (F := Ideal) acc) d := ha.cast shapeCasts_S1024x1024_S1024x1024

theorem pay15_has (ha : Has acc d) : Has (k0_pay15 (F := Ideal) acc) (fun _ b => dshOf 1024 d b) :=
  ha.colSum _ reduces_S1024x1024_S1024_2 (.inl rfl) rfl shapeCasts_S1024_S1x1024

theorem pay16_has (hx : Has x X) (hn : Has n (fun _ b => nw b)) (ha : Has acc d) :
    Has (k0_pay16 (F := Ideal) x n acc) (fun _ b => dscOf 1024 X d nw b) :=
  (((pay13_has hx).mul ((hn.cast shapeCasts_S1x1024_S1x1024).row broadcasts_S1x1024_S1024x1024)).mul (pay14_has ha)).colSum _ reduces_S1024x1024_S1024_2 (.inl rfl) rfl shapeCasts_S1024_S1x1024

theorem pay17_has (hs : Has s (fun _ b => sc b)) (ha : Has acc d) : Has (k0_pay17 (F := Ideal) s acc) (dy d sc) :=
  (pay14_has ha).mul (((has_splat _).add hs).row broadcasts_S1x1024_S1024x1024)

theorem pay18_has (hx : Has x X) (hs : Has s (fun _ b => sc b)) (ha : Has acc d) :
    Has (k0_pay18 (F := Ideal) x s acc) (fun _ b => dnwOf 1024 X d sc b) :=
  ((pay13_has hx).mul (pay17_has hs ha)).colSum _ reduces_S1024x1024_S1024_2 (.inl rfl) rfl shapeCasts_S1024_S1x1024

theorem pay19_has (hn : Has n (fun _ b => nw b)) (hs : Has s (fun _ b => sc b)) (ha : Has acc d) :
    Has (k0_pay19 (F := Ideal) n s acc) (dv d nw sc) :=
  (pay17_has hs ha).mul ((hn.cast shapeCasts_S1x1024_S1x1024).row broadcasts_S1x1024_S1024x1024)

theorem pay20_has (hx : Has x X) (hn : Has n (fun _ b => nw b)) (hs : Has s (fun _ b => sc b)) (ha : Has acc d) :
    Has (k0_pay20 (F := Ideal) x n s acc) (fun a b => dv d nw sc a b * rinv X a) :=
  (pay19_has hn hs ha).mul ((pay12_has hx).col broadcasts_S1024x1_S1024x1024)

theorem pay21_has (hx : Has x X) (hn : Has n (fun _ b => nw b)) (hs : Has s (fun _ b => sc b)) (ha : Has acc d) :
    Has (k0_pay21 (F := Ideal) x n s acc) (fun a _ => (∑ k ∈ Finset.range 1024, X a k * dv d nw sc a k) * (Ideal.ofBits .f32 0xBF000000#32 * Ideal.div (rinv X a) (rms X a))) :=
  ((hx.mul (pay19_has hn hs ha)).rowSum _ reduces_S1024x1024_S1024 (.inl rfl) rfl shapeCasts_S1024_S1024x1).mul ((has_splat _).mul ((pay12_has hx).div (pay11_has hx)))

theorem pay22_has : Has (k0_pay22 (F := Ideal)) (fun _ _ => Ideal.ofBits .f32 0x44800000#32) := has_splat _

/-- The correction of the mean square, spread over a row. -/
theorem spread_has {u w : FVec Ideal S1024x1 .f32} {f g : ℕ → EReal} (hu : Has u (fun a _ => f a)) (hw : Has w (fun a _ => g a)) :
    Has (broadcastTo S1024x1024 (shapeCast S1024x1 (multiReduction .add [1] S1024 (divf u w) 0x00000000#32 reduces_S1024x1_S1024 (.inl rfl) rfl) shapeCasts_S1024_S1024x1) broadcasts_S1024x1_S1024x1024)
      (fun a _ => Ideal.div (f a) (g a)) :=
  (((hu.div hw).rowSum _ reduces_S1024x1_S1024 (.inl rfl) rfl shapeCasts_S1024_S1024x1).col broadcasts_S1024x1_S1024x1024).congr fun a b _ _ => by
    beta_reduce
    rw [Finset.sum_range_one]

theorem pay6_has {r : FVec Ideal S1024x1024 .f32} {R : ℕ → ℕ → EReal} (hx : Has x X) (hn : Has n (fun _ b => nw b)) (hs : Has s (fun _ b => sc b)) (ha : Has acc d) (hr : Has r R) :
    Has (k0_pay6 (F := Ideal) x (k0_pay20 x n s acc) (k0_pay21 x n s acc) k0_pay22 r) (dxOf X d R nw sc) :=
  hr.add (((pay20_has hx hn hs ha).add (hx.mul (spread_has (pay21_has hx hn hs ha) pay22_has))).add ((spread_has (pay21_has hx hn hs ha) pay22_has).mul hx))

theorem pay7_has {v p : FVec Ideal S1x1024 .f32} {f g : ℕ → EReal} (hv : Has v (fun _ b => f b)) (hp : Has p (fun _ b => g b)) :
    Has (k0_pay7 (F := Ideal) v p) (fun _ b => g b + f b) := (hp.cast shapeCasts_S1x1024_S1x1024).add hv
theorem pay8_has {v p : FVec Ideal S1x1024 .f32} {f g : ℕ → EReal} (hv : Has v (fun _ b => f b)) (hp : Has p (fun _ b => g b)) :
    Has (k0_pay8 (F := Ideal) v p) (fun _ b => g b + f b) := (hp.cast shapeCasts_S1x1024_S1x1024).add hv
theorem pay9_has {v p : FVec Ideal S1x1024 .f32} {f g : ℕ → EReal} (hv : Has v (fun _ b => f b)) (hp : Has p (fun _ b => g b)) :
    Has (k0_pay9 (F := Ideal) v p) (fun _ b => g b + f b) := (hp.cast shapeCasts_S1x1024_S1x1024).add hv

theorem pay1_zero : Has (k0_pay1 (F := Ideal)) (fun _ _ => 0) := Has.cast (fun i => zero_f32) shapeCasts_S1024x1024_S1024x1024
theorem pay2_zero : Has (k0_pay2 (F := Ideal)) (fun _ _ => 0) := fun i => zero_f32
theorem pay3_zero : Has (k0_pay3 (F := Ideal)) (fun _ _ => 0) := fun i => zero_f32
theorem pay4_zero : Has (k0_pay4 (F := Ideal)) (fun _ _ => 0) := fun i => zero_f32

/-- One tile of columns added to the gradient of the modulated rows. -/
theorem pay5_has {g : FVec Ideal S1024x1280 .f32} {w : FVec Ideal S1024x1280 .bf16} {G W : ℕ → ℕ → EReal} (ha : Has acc d) (hg : Has g G) (hw : Has w W) :
    Has (k0_pay5 (F := Ideal) acc g w) (fun a b => d a b + ∑ k ∈ Finset.range 1280, G a k * W b k) := Has.of fun a b => by
  unfold k0_pay5
  rw [shapeCast_self, shapeCast_self]
  show acc (ix2 a b) + matmul dot_S1024x1280_S1024x1280_S1024x1024_1_1_0_0_n_n none (truncf .bf16 g bitsLt_bf16_f32) w _ (ix2 a b) = _
  rw [ha, Finset.sum_range]
  refine congrArg (d a b + ·) ?_
  refine (Ideal.matmul_transposedRhs_apply none (truncf .bf16 g bitsLt_bf16_f32) w _ a b).trans ?_
  show Ideal.ofBits .f32 0x00000000#32 + _ = _
  rw [zero_f32, zero_add]
  refine Finset.sum_congr rfl fun k _ => ?_
  show g (ix2 a k) * w (ix2 b k) = _
  rw [hg, hw]
end Tiles

/-! ## What a point leaves, from what the one before left -/

variable {F : FTy → Type} [FloatOps F] (m : (ℓ : Loc nD τ sig) → Buf (Elt F) ℓ) (c : Dev nD)

/-- What the point before `t` left. -/
abbrev prev (t : Fin cfg0.N) := outsAt0 m c (t.val - 1) (Nat.lt_of_le_of_lt (Nat.sub_le _ _) t.isLt)

/-- The scratch read back whole is what it holds. -/
theorem read_scratch (v : Vec F S1024x1024 .f32) : View.read (Elt F) (View.whole cc0_scratch0) ((Memref.isWhole_whole cc0_scratch0).unread v) = v :=
  (Memref.isWhole_whole cc0_scratch0).read_unread v

/-- The first point of a tile of rows begins the sum over columns anew. -/
theorem acc_first (t : Fin cfg0.N) (h : t.val % 5 = 0) : (outsAt0 m c t.val t.isLt).2.2.2.2 = k0_pay5 (k0_pay1 (F := F)) (iblk m c 5 t) (iblk m c 4 t) := by
  by_cases h1 : t.val % 20 = 0
  · rw [outsAt0_A m c t h h1 (by omega)]; frame_out
  · rw [outsAt0_D m c t h h1 (by omega)]; frame_out

/-- A later point adds its columns. -/
theorem acc_rest (t : Fin cfg0.N) (h : ¬t.val % 5 = 0) : (outsAt0 m c t.val t.isLt).2.2.2.2 = k0_pay5 (prev m c t).2.2.2.2 (iblk m c 5 t) (iblk m c 4 t) := by
  by_cases h2 : t.val % 5 = 4
  · rw [outsAt0_C m c t h (by omega) h2]; frame_out; rw [read_scratch]
  · rw [outsAt0_B m c t h (by omega) h2]; frame_out; rw [read_scratch]

theorem dnw_first (t : Fin cfg0.N) (h : t.val % 20 = 0) : (outsAt0 m c t.val t.isLt).2.1 = k0_pay2 (F := F) := by
  rw [outsAt0_A m c t (by omega) h (by omega)]; frame_out
theorem dnw_keep (t : Fin cfg0.N) (h : ¬t.val % 20 = 0) (h2 : ¬t.val % 5 = 4) : (outsAt0 m c t.val t.isLt).2.1 = (prev m c t).2.1 := by
  by_cases h0 : t.val % 5 = 0
  · rw [outsAt0_D m c t h0 h h2]; rfl
  · rw [outsAt0_B m c t h0 h h2]; rfl
theorem dnw_last (t : Fin cfg0.N) (h2 : t.val % 5 = 4) :
    (outsAt0 m c t.val t.isLt).2.1 = k0_pay7 (k0_pay18 (iblk m c 0 t) (iblk m c 2 t) (outsAt0 m c t.val t.isLt).2.2.2.2) (prev m c t).2.1 := by
  rw [acc_rest m c t (by omega), outsAt0_C m c t (by omega) (by omega) h2]; frame_out; rw [read_scratch]
theorem dsc_first (t : Fin cfg0.N) (h : t.val % 20 = 0) : (outsAt0 m c t.val t.isLt).2.2.1 = k0_pay3 (F := F) := by
  rw [outsAt0_A m c t (by omega) h (by omega)]; frame_out
theorem dsc_keep (t : Fin cfg0.N) (h : ¬t.val % 20 = 0) (h2 : ¬t.val % 5 = 4) : (outsAt0 m c t.val t.isLt).2.2.1 = (prev m c t).2.2.1 := by
  by_cases h0 : t.val % 5 = 0
  · rw [outsAt0_D m c t h0 h h2]; rfl
  · rw [outsAt0_B m c t h0 h h2]; rfl
theorem dsc_last (t : Fin cfg0.N) (h2 : t.val % 5 = 4) :
    (outsAt0 m c t.val t.isLt).2.2.1 = k0_pay8 (k0_pay16 (iblk m c 0 t) (iblk m c 1 t) (outsAt0 m c t.val t.isLt).2.2.2.2) (prev m c t).2.2.1 := by
  rw [acc_rest m c t (by omega), outsAt0_C m c t (by omega) (by omega) h2]; frame_out; rw [read_scratch]
theorem dsh_first (t : Fin cfg0.N) (h : t.val % 20 = 0) : (outsAt0 m c t.val t.isLt).2.2.2.1 = k0_pay4 (F := F) := by
  rw [outsAt0_A m c t (by omega) h (by omega)]; frame_out
theorem dsh_keep (t : Fin cfg0.N) (h : ¬t.val % 20 = 0) (h2 : ¬t.val % 5 = 4) : (outsAt0 m c t.val t.isLt).2.2.2.1 = (prev m c t).2.2.2.1 := by
  by_cases h0 : t.val % 5 = 0
  · rw [outsAt0_D m c t h0 h h2]; rfl
  · rw [outsAt0_B m c t h0 h h2]; rfl
theorem dsh_last (t : Fin cfg0.N) (h2 : t.val % 5 = 4) :
    (outsAt0 m c t.val t.isLt).2.2.2.1 = k0_pay9 (k0_pay15 (outsAt0 m c t.val t.isLt).2.2.2.2) (prev m c t).2.2.2.1 := by
  rw [acc_rest m c t (by omega), outsAt0_C m c t (by omega) (by omega) h2]; frame_out; rw [read_scratch]
/-- The last point of a tile of rows writes the tile's gradient. -/
theorem dx_last (t : Fin cfg0.N) (h2 : t.val % 5 = 4) :
    (outsAt0 m c t.val t.isLt).1 = k0_pay6 (iblk m c 0 t) (k0_pay20 (iblk m c 0 t) (iblk m c 1 t) (iblk m c 2 t) (outsAt0 m c t.val t.isLt).2.2.2.2)
      (k0_pay21 (iblk m c 0 t) (iblk m c 1 t) (iblk m c 2 t) (outsAt0 m c t.val t.isLt).2.2.2.2) (k0_pay22 (F := F)) (iblk m c 6 t) := by
  rw [acc_rest m c t (by omega), outsAt0_C m c t (by omega) (by omega) h2]; frame_out; rw [read_scratch]

end Cert.GdnInBwdIdeal.Val

end
-- ==== Proof.GdnBwdVal.lean ====
/- The gradients through the delta-net input projection: what the call leaves in its arrays. -/
module

public import proofs.«01_k».proof.Proof.GdnBwdPoint

@[expose] public section

set_option maxRecDepth 8192

noncomputable section

namespace Cert.GdnInBwdIdeal.Val

open Idealize.ShloMosaic hiding ix2
open Idealize.ShloMosaic.TcCoe Idealize.ShloMosaic.ValueIdx Idealize.ShloMosaic.Tactic
open Idealize.SL Idealize.SL.RA
open Cert.GdnInBwdIdeal Cert.GdnInBwdIdeal.Gen Cert.In
open scoped BigOperators

variable (m : (ℓ : Loc nD τ sig) → Buf (Elt Ideal) ℓ) (c : Dev nD)
variable {X R W G : ℕ → ℕ → EReal} {nw sc : ℕ → EReal}

theorem idx0_0 : ∀ t : Fin cfg0.N, win0_0.index t = ![t.val / 5, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_4 : ∀ t : Fin cfg0.N, win0_4.index t = ![0, t.val % 5] := (by decide +kernel : ∀ t : Fin grid0.N, _)
theorem idx0_5 : ∀ t : Fin cfg0.N, win0_5.index t = ![t.val / 5, t.val % 5] := (by decide +kernel : ∀ t : Fin grid0.N, _)
theorem idx0_6 : ∀ t : Fin cfg0.N, win0_6.index t = ![t.val / 5, 0] := (by decide +kernel : ∀ t : Fin grid0.N, _)
theorem idx0_7 : ∀ t : Fin cfg0.N, win0_7.index t = ![t.val / 5, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)

/-! ## The tiles a point reads -/

theorem blk0_0 (h : Has (R := 4096) (C := 1024) (V m c main_arg0) X) (t : Fin cfg0.N) :
    Has (R := 1024) (C := 1024) (iblk (F := Ideal) m c 0 t) (fun a b => X (1024 * (t.val / 5) + a) b) := Has.of fun a b => by
  blk_simp [iblk]
  refine (h _).trans ?_
  blk_simp [idx0_0 t]
  congr 1 <;> first | rfl | (simp; omega)
theorem blk0_1 (h : Has (R := 1) (C := 1024) (V m c main_v0) (fun _ b => nw b)) (t : Fin cfg0.N) :
    Has (R := 1) (C := 1024) (iblk (F := Ideal) m c 1 t) (fun _ b => nw b) := Has.of fun a b => by
  blk_simp [iblk]
  refine (h _).trans ?_
  blk_simp [idx0_1 t]
theorem blk0_2 (h : Has (R := 1) (C := 1024) (V m c main_arg2) (fun _ b => sc b)) (t : Fin cfg0.N) :
    Has (R := 1) (C := 1024) (iblk (F := Ideal) m c 2 t) (fun _ b => sc b) := Has.of fun a b => by
  blk_simp [iblk]
  refine (h _).trans ?_
  blk_simp [idx0_2 t]
theorem blk0_4 (h : Has (R := 1024) (C := 6400) (V m c main_v1) W) (t : Fin cfg0.N) :
    Has (R := 1024) (C := 1280) (iblk (F := Ideal) m c 4 t) (fun a b => W a (1280 * (t.val % 5) + b)) := Has.of fun a b => by
  blk_simp [iblk]
  refine (h _).trans ?_
  blk_simp [idx0_4 t]
  congr 1 <;> first | rfl | (simp; omega)
theorem blk0_5 (h : Has (R := 4096) (C := 6400) (V m c main_arg5) G) (t : Fin cfg0.N) :
    Has (R := 1024) (C := 1280) (iblk (F := Ideal) m c 5 t) (fun a b => G (1024 * (t.val / 5) + a) (1280 * (t.val % 5) + b)) := Has.of fun a b => by
  blk_simp [iblk]
  refine (h _).trans ?_
  blk_simp [idx0_5 t]
  congr 1 <;> first | rfl | (simp; omega)
theorem blk0_6 (h : Has (R := 4096) (C := 1024) (V m c main_arg6) R) (t : Fin cfg0.N) :
    Has (R := 1024) (C := 1024) (iblk (F := Ideal) m c 6 t) (fun a b => R (1024 * (t.val / 5) + a) b) := Has.of fun a b => by
  blk_simp [iblk]
  refine (h _).trans ?_
  blk_simp [idx0_6 t]
  congr 1 <;> first | rfl | (simp; omega)

/-! ## The gradient of the modulated rows -/

section Acc
variable (hW : Has (R := 1024) (C := 6400) (V m c main_v1) W) (hG : Has (R := 4096) (C := 6400) (V m c main_arg5) G)
include hW hG

/-- The tiles of columns gathered so far. -/
theorem accAt_has : ∀ (n : ℕ) (h : n < cfg0.N), Has (R := 1024) (C := 1024) (outsAt0 (F := Ideal) m c n h).2.2.2.2
    (fun a b => rowRow (1280 * (n % 5 + 1)) G W (1024 * (n / 5) + a) b) := by
  intro n
  induction n with
  | zero =>
    intro h
    have e := acc_first (F := Ideal) m c ⟨0, h⟩ rfl
    dsimp only at e
    rw [e]
    refine (pay5_has pay1_zero (blk0_5 m c hG ⟨0, h⟩) (blk0_4 m c hW ⟨0, h⟩)).congr fun a b _ _ => ?_
    dsimp only
    rw [zero_add]
    unfold rowRow
    refine Finset.sum_congr rfl fun k _ => ?_
    congr 2 <;> simp
  | succ n ih =>
    intro h
    by_cases h0 : (n + 1) % 5 = 0
    · have e := acc_first (F := Ideal) m c ⟨n + 1, h⟩ h0
      dsimp only at e
      rw [e]
      refine (pay5_has pay1_zero (blk0_5 m c hG ⟨n + 1, h⟩) (blk0_4 m c hW ⟨n + 1, h⟩)).congr fun a b _ _ => ?_
      dsimp only
      rw [zero_add, h0]
      unfold rowRow
      refine Finset.sum_congr rfl fun k _ => ?_
      congr 2 <;> simp
    · have e := acc_rest (F := Ideal) m c ⟨n + 1, h⟩ h0
      dsimp only [prev, Nat.add_sub_cancel] at e
      rw [e]
      refine (pay5_has (ih (by omega)) (blk0_5 m c hG ⟨n + 1, h⟩) (blk0_4 m c hW ⟨n + 1, h⟩)).congr fun a b _ _ => ?_
      dsimp only
      rw [show (n + 1) % 5 = n % 5 + 1 by omega, show (n + 1) / 5 = n / 5 by omega]
      exact rowRow_tile 1280 (n % 5 + 1) G W (1024 * (n / 5) + a) b

/-- At the last point of a tile of rows every column is in. -/
theorem accLast_has (t : Fin cfg0.N) (h : t.val % 5 = 4) : Has (R := 1024) (C := 1024) (outsAt0 (F := Ideal) m c t.val t.isLt).2.2.2.2
    (fun a b => rowRow 6400 G W (1024 * (t.val / 5) + a) b) := by
  refine (accAt_has m c hW hG t.val t.isLt).congr fun a b _ _ => ?_
  beta_reduce
  rw [h]
end Acc

/-! ## The gradients of the rows -/

section Rows
variable (hX : Has (R := 4096) (C := 1024) (V m c main_arg0) X) (hn : Has (R := 1) (C := 1024) (V m c main_v0) (fun _ b => nw b))
  (hs : Has (R := 1) (C := 1024) (V m c main_arg2) (fun _ b => sc b)) (hW : Has (R := 1024) (C := 6400) (V m c main_v1) W)
  (hG : Has (R := 4096) (C := 6400) (V m c main_arg5) G)

section
include hX hs hW hG

/-- The gradient of the norm's weight, from the tiles of rows done so far. -/
theorem dnwAt_has : ∀ (n : ℕ) (h : n < cfg0.N), Has (R := 1) (C := 1024) (outsAt0 (F := Ideal) m c n h).2.1
    (fun _ b => dnwOf (1024 * ((n + 1) / 5)) X (rowRow 6400 G W) sc b) := by
  intro n
  induction n with
  | zero =>
    intro h
    have e := dnw_first (F := Ideal) m c ⟨0, h⟩ rfl
    dsimp only at e
    rw [e]
    exact pay2_zero
  | succ n ih =>
    intro h
    have hN : n + 1 < 20 := Nat.lt_of_lt_of_eq h N_0
    by_cases h2 : (n + 1) % 5 = 4
    · have e := dnw_last (F := Ideal) m c ⟨n + 1, h⟩ h2
      dsimp only [prev, Nat.add_sub_cancel] at e
      rw [e]
      refine (pay7_has (pay18_has (blk0_0 m c hX ⟨n + 1, h⟩) (blk0_2 m c hs ⟨n + 1, h⟩) (accLast_has m c hW hG ⟨n + 1, h⟩ h2)) (ih (by omega))).congr fun a b _ _ => ?_
      dsimp only
      rw [show (n + 1) / 5 = n / 5 by omega, show (n + 1 + 1) / 5 = n / 5 + 1 by omega]
      exact dnwOf_tile (n / 5) X (rowRow 6400 G W) sc b
    · have e := dnw_keep (F := Ideal) m c ⟨n + 1, h⟩ (by dsimp only; omega) h2
      dsimp only [prev, Nat.add_sub_cancel] at e
      rw [e]
      refine (ih (by omega)).congr fun a b _ _ => ?_
      beta_reduce
      rw [show (n + 1 + 1) / 5 = (n + 1) / 5 by omega]

/-- The gradient of the norm's weight after the call. -/
theorem arr_dnw : Has (R := 1) (C := 1024) ((dats m 0 c).arrAt 8 cfg0.N) (fun _ b => dnwOf 4096 X (rowRow 6400 G W) sc b) := by
  refine congrFun ((dats m 0 c).arrAt_eq_of_covers 8 (fun i : S1x1024.Idx => dnwOf 4096 X (rowRow 6400 G W) sc (i 1).val) (by decide +kernel) fun t hf y => ?_)
  have h3 := (flush0_8 t).mp hf
  blk_simp
  rw [after0_8]
  refine (dnwAt_has m c hX hs hW hG t.val t.isLt y).trans ?_
  beta_reduce
  rw [show (t.val + 1) / 5 = 4 by have := Nat.lt_of_lt_of_eq t.isLt N_0; omega]
  blk_simp [idx0_8 t]
end

section
include hX hn hW hG

/-- The gradient of the scale, from the tiles of rows done so far. -/
theorem dscAt_has : ∀ (n : ℕ) (h : n < cfg0.N), Has (R := 1) (C := 1024) (outsAt0 (F := Ideal) m c n h).2.2.1
    (fun _ b => dscOf (1024 * ((n + 1) / 5)) X (rowRow 6400 G W) nw b) := by
  intro n
  induction n with
  | zero =>
    intro h
    have e := dsc_first (F := Ideal) m c ⟨0, h⟩ rfl
    dsimp only at e
    rw [e]
    exact pay3_zero
  | succ n ih =>
    intro h
    have hN : n + 1 < 20 := Nat.lt_of_lt_of_eq h N_0
    by_cases h2 : (n + 1) % 5 = 4
    · have e := dsc_last (F := Ideal) m c ⟨n + 1, h⟩ h2
      dsimp only [prev, Nat.add_sub_cancel] at e
      rw [e]
      refine (pay8_has (pay16_has (blk0_0 m c hX ⟨n + 1, h⟩) (blk0_1 m c hn ⟨n + 1, h⟩) (accLast_has m c hW hG ⟨n + 1, h⟩ h2)) (ih (by omega))).congr fun a b _ _ => ?_
      dsimp only
      rw [show (n + 1) / 5 = n / 5 by omega, show (n + 1 + 1) / 5 = n / 5 + 1 by omega]
      exact dscOf_tile (n / 5) X (rowRow 6400 G W) nw b
    · have e := dsc_keep (F := Ideal) m c ⟨n + 1, h⟩ (by dsimp only; omega) h2
      dsimp only [prev, Nat.add_sub_cancel] at e
      rw [e]
      refine (ih (by omega)).congr fun a b _ _ => ?_
      beta_reduce
      rw [show (n + 1 + 1) / 5 = (n + 1) / 5 by omega]

/-- The gradient of the scale after the call. -/
theorem arr_dsc : Has (R := 1) (C := 1024) ((dats m 0 c).arrAt 9 cfg0.N) (fun _ b => dscOf 4096 X (rowRow 6400 G W) nw b) := by
  refine congrFun ((dats m 0 c).arrAt_eq_of_covers 9 (fun i : S1x1024.Idx => dscOf 4096 X (rowRow 6400 G W) nw (i 1).val) (by decide +kernel) fun t hf y => ?_)
  have h3 := (flush0_9 t).mp hf
  blk_simp
  rw [after0_9]
  refine (dscAt_has m c hX hn hW hG t.val t.isLt y).trans ?_
  beta_reduce
  rw [show (t.val + 1) / 5 = 4 by have := Nat.lt_of_lt_of_eq t.isLt N_0; omega]
  blk_simp [idx0_9 t]
end

section
include hW hG

/-- The gradient of the shift, from the tiles of rows done so far. -/
theorem dshAt_has : ∀ (n : ℕ) (h : n < cfg0.N), Has (R := 1) (C := 1024) (outsAt0 (F := Ideal) m c n h).2.2.2.1
    (fun _ b => dshOf (1024 * ((n + 1) / 5)) (rowRow 6400 G W) b) := by
  intro n
  induction n with
  | zero =>
    intro h
    have e := dsh_first (F := Ideal) m c ⟨0, h⟩ rfl
    dsimp only at e
    rw [e]
    exact pay4_zero
  | succ n ih =>
    intro h
    have hN : n + 1 < 20 := Nat.lt_of_lt_of_eq h N_0
    by_cases h2 : (n + 1) % 5 = 4
    · have e := dsh_last (F := Ideal) m c ⟨n + 1, h⟩ h2
      dsimp only [prev, Nat.add_sub_cancel] at e
      rw [e]
      refine (pay9_has (pay15_has (accLast_has m c hW hG ⟨n + 1, h⟩ h2)) (ih (by omega))).congr fun a b _ _ => ?_
      dsimp only
      rw [show (n + 1) / 5 = n / 5 by omega, show (n + 1 + 1) / 5 = n / 5 + 1 by omega]
      exact dshOf_tile (n / 5) (rowRow 6400 G W) b
    · have e := dsh_keep (F := Ideal) m c ⟨n + 1, h⟩ (by dsimp only; omega) h2
      dsimp only [prev, Nat.add_sub_cancel] at e
      rw [e]
      refine (ih (by omega)).congr fun a b _ _ => ?_
      beta_reduce
      rw [show (n + 1 + 1) / 5 = (n + 1) / 5 by omega]

/-- The gradient of the shift after the call. -/
theorem arr_dsh : Has (R := 1) (C := 1024) ((dats m 0 c).arrAt 10 cfg0.N) (fun _ b => dshOf 4096 (rowRow 6400 G W) b) := by
  refine congrFun ((dats m 0 c).arrAt_eq_of_covers 10 (fun i : S1x1024.Idx => dshOf 4096 (rowRow 6400 G W) (i 1).val) (by decide +kernel) fun t hf y => ?_)
  have h3 := (flush0_10 t).mp hf
  blk_simp
  rw [after0_10]
  refine (dshAt_has m c hW hG t.val t.isLt y).trans ?_
  beta_reduce
  rw [show (t.val + 1) / 5 = 4 by have := Nat.lt_of_lt_of_eq t.isLt N_0; omega]
  blk_simp [idx0_10 t]
end

/-- The gradient of the residual stream after the call. -/
theorem arr_dx (hX : Has (R := 4096) (C := 1024) (V m c main_arg0) X) (hn : Has (R := 1) (C := 1024) (V m c main_v0) (fun _ b => nw b))
    (hs : Has (R := 1) (C := 1024) (V m c main_arg2) (fun _ b => sc b)) (hW : Has (R := 1024) (C := 6400) (V m c main_v1) W)
    (hG : Has (R := 4096) (C := 6400) (V m c main_arg5) G) (hR : Has (R := 4096) (C := 1024) (V m c main_arg6) R) :
    Has (R := 4096) (C := 1024) ((dats m 0 c).arrAt 7 cfg0.N) (dxOf X (rowRow 6400 G W) R nw sc) := by
  refine congrFun ((dats m 0 c).arrAt_eq_of_covers 7 (fun i : S4096x1024.Idx => dxOf X (rowRow 6400 G W) R nw sc (i 0).val (i 1).val) (by decide +kernel) fun t hf y => ?_)
  have h3 := (flush0_7 t).mp hf
  blk_simp
  rw [after0_7, dx_last (F := Ideal) m c t h3]
  refine (pay6_has (blk0_0 m c hX t) (blk0_1 m c hn t) (blk0_2 m c hs t) (accLast_has m c hW hG t h3) (blk0_6 m c hR t) y).trans ?_
  rw [dxOf_shift X (rowRow 6400 G W) R nw sc (1024 * (t.val / 5))]
  blk_simp [idx0_7 t]
  congr 1 <;> first | rfl | (simp; omega)
end Rows

end Cert.GdnInBwdIdeal.Val

end
-- ==== Proof.GdnBwdRef.lean ====
/- The reference of the gradients through the delta-net input projection, operation by operation. -/
module

public import proofs.«01_k».proof.Proof.InBwd
public import proofs.«01_k».proof.Proof.Gen.RefGdnInBwdIdeal.Read

@[expose] public section

set_option maxRecDepth 8192

noncomputable section

namespace Cert.RefGdnInBwdIdeal.At

open Idealize.ShloMosaic Idealize.ShloMosaic.ValueIdx
open Cert.RefGdnInBwdIdeal Cert.RefGdnInBwdIdeal.Gen Cert.RefGdnInBwdIdeal.Read Cert.In
open scoped BigOperators

variable {x0 x6 : FVec Ideal S4096x1024 .f32} {x1 : FVec Ideal S1024 .f32} {x2 : FVec Ideal S1x1024 .f32} {x4 : FVec Ideal S1024x6400 .f32} {x5 : FVec Ideal S4096x6400 .f32}
  {X R W G : ℕ → ℕ → EReal} {nw sc : ℕ → EReal}

/-- Each row's mean square, and the small constant. -/
theorem v6_at (hX : Has x0 X) : Has (val_main_v6 (F := Ideal) x0) (fun a _ => rms X a) := by
  intro i
  rw [val_main_v6_apply, val_main_v4_apply, val_main_v2_apply, val_main_v1_apply]
  show Ideal.div (Ideal.ofBits .f32 0x00000000#32 + _) (Ideal.ofBits .f32 0x44800000#32) + Ideal.ofBits .f32 0x358637BD#32 = _
  rw [zero_f32, zero_add]
  beta_reduce
  unfold rms
  rw [Finset.sum_range]
  congr 2
  refine Finset.sum_congr rfl fun k _ => ?_
  rw [val_main_v0_apply, hX]
  rfl

/-- The reciprocal of its root. -/
theorem v7_at (hX : Has x0 X) : Has (val_main_v7 (F := Ideal) x0) (fun a _ => rinv X a) := by
  intro i
  rw [val_main_v7_apply, v6_at hX]
  rfl

/-- The derivative of that reciprocal. -/
theorem v10_at (hX : Has x0 X) : Has (val_main_v10 (F := Ideal) x0) (fun a _ => Ideal.ofBits .f32 0xBF000000#32 * Ideal.div (rinv X a) (rms X a)) := by
  intro i
  rw [val_main_v10_apply, val_main_v8_apply, v7_at hX, v6_at hX]
  rfl

/-- The rows over their root mean squares. -/
theorem v12_at (hX : Has x0 X) : Has (val_main_v12 (F := Ideal) x0) (xn X) := by
  intro i
  rw [val_main_v12_apply, val_main_v11_apply, v7_at hX, hX]
  rfl

/-- The gradient of the modulated rows. -/
theorem v23_at (hW : Has x4 W) (hG : Has x5 G) : Has (val_main_v23 (F := Ideal) x4 x5) (rowRow 6400 G W) := by
  intro i
  rw [val_main_v23_apply]
  unfold rowRow
  rw [Finset.sum_range]
  refine Finset.sum_congr rfl fun k _ => ?_
  rw [hG, hW]

theorem col_25 (i : S1x1024.Idx) : (idx_main_v25 i 0).val = (i 1).val := by
  have h0 : (i 0).val < 1 := (i 0).isLt
  show (i 0).val * 1024 + (i 1).val = _
  omega
theorem col_28 (i : S1x1024.Idx) : (idx_main_v28 i 0).val = (i 1).val := col_25 i
theorem col_33 (i : S1x1024.Idx) : (idx_main_v33 i 0).val = (i 1).val := col_25 i

/-- The gradient of the shift. -/
theorem v25_at (hW : Has x4 W) (hG : Has x5 G) : Has (val_main_v25 (F := Ideal) x4 x5) (fun _ b => dshOf 4096 (rowRow 6400 G W) b) := by
  intro i
  rw [val_main_v25_apply, val_main_v24_apply]
  show Ideal.ofBits .f32 0x00000000#32 + _ = _
  rw [zero_f32, zero_add]
  beta_reduce
  unfold dshOf
  rw [Finset.sum_range]
  refine Finset.sum_congr rfl fun k _ => ?_
  rw [v23_at hW hG]
  exact congrArg (rowRow 6400 G W k.val) (col_25 i)

/-- The gradient of the scale. -/
theorem v28_at (hX : Has x0 X) (hn : ∀ i, x1 i = nw (i 0).val) (hW : Has x4 W) (hG : Has x5 G) :
    Has (val_main_v28 (F := Ideal) x0 x1 x4 x5) (fun _ b => dscOf 4096 X (rowRow 6400 G W) nw b) := by
  intro i
  rw [val_main_v28_apply, val_main_v27_apply]
  show Ideal.ofBits .f32 0x00000000#32 + _ = _
  rw [zero_f32, zero_add]
  beta_reduce
  unfold dscOf
  rw [Finset.sum_range]
  refine Finset.sum_congr rfl fun k _ => ?_
  rw [val_main_v26_apply, val_main_v15_apply, v12_at hX, val_main_v14_apply, val_main_v13_apply, v23_at hW hG, hn]
  show xn X k.val (idx_main_v28 i 0).val * nw (idx_main_v28 i 0).val * rowRow 6400 G W k.val (idx_main_v28 i 0).val = _
  rw [col_28]

/-- The gradient of the normed and weighted rows. -/
theorem v30_at (hs : Has x2 (fun _ b => sc b)) (hW : Has x4 W) (hG : Has x5 G) : Has (val_main_v30 (F := Ideal) x2 x4 x5) (dy (rowRow 6400 G W) sc) := by
  intro i
  rw [val_main_v30_apply, v23_at hW hG, val_main_v29_apply, val_main_v17_apply, hs]
  rfl

/-- The gradient of the norm's weight, as one row. -/
theorem v33_at (hX : Has x0 X) (hs : Has x2 (fun _ b => sc b)) (hW : Has x4 W) (hG : Has x5 G) :
    Has (val_main_v33 (F := Ideal) x0 x2 x4 x5) (fun _ b => dnwOf 4096 X (rowRow 6400 G W) sc b) := by
  intro i
  rw [val_main_v33_apply, val_main_v32_apply]
  show Ideal.ofBits .f32 0x00000000#32 + _ = _
  rw [zero_f32, zero_add]
  beta_reduce
  unfold dnwOf
  rw [Finset.sum_range]
  refine Finset.sum_congr rfl fun k _ => ?_
  rw [val_main_v31_apply, v12_at hX, v30_at hs hW hG]
  show xn X k.val (idx_main_v33 i 0).val * dy (rowRow 6400 G W) sc k.val (idx_main_v33 i 0).val = _
  rw [col_33]

/-- The gradient of the norm's weight. -/
theorem v36_at (hX : Has x0 X) (hs : Has x2 (fun _ b => sc b)) (hW : Has x4 W) (hG : Has x5 G) (i : S1024.Idx) :
    val_main_v36 (F := Ideal) x0 x2 x4 x5 i = dnwOf 4096 X (rowRow 6400 G W) sc (i 0).val := by
  rw [val_main_v36_apply]
  show Ideal.ofBits .f32 0x00000000#32 + _ = _
  rw [zero_f32, zero_add, Fin.sum_univ_one, v33_at hX hs hW hG]

/-- The gradient of the rows over their root mean squares. -/
theorem v35_at (hn : ∀ i, x1 i = nw (i 0).val) (hs : Has x2 (fun _ b => sc b)) (hW : Has x4 W) (hG : Has x5 G) :
    Has (val_main_v35 (F := Ideal) x1 x2 x4 x5) (dv (rowRow 6400 G W) nw sc) := by
  intro i
  rw [val_main_v35_apply, v30_at hs hW hG, val_main_v34_apply, val_main_v13_apply, hn]
  rfl

/-- What the mean square passes back. -/
theorem v47_at (hX : Has x0 X) (hn : ∀ i, x1 i = nw (i 0).val) (hs : Has x2 (fun _ b => sc b)) (hW : Has x4 W) (hG : Has x5 G) :
    Has (val_main_v47 (F := Ideal) x0 x1 x2 x4 x5) (fun a _ => corr X (rowRow 6400 G W) nw sc a) := by
  intro i
  rw [val_main_v47_apply, val_main_v46_apply]
  show Ideal.ofBits .f32 0x00000000#32 + _ = _
  rw [zero_f32, zero_add, Fin.sum_univ_one, val_main_v45_apply, val_main_v43_apply, v10_at hX, val_main_v39_apply, val_main_v38_apply]
  show Ideal.div ((Ideal.ofBits .f32 0x00000000#32 + _) * _) (Ideal.ofBits .f32 0x44800000#32) = _
  rw [zero_f32, zero_add]
  beta_reduce
  unfold corr
  rw [Finset.sum_range]
  congr 2
  refine Finset.sum_congr rfl fun k _ => ?_
  rw [val_main_v37_apply, hX, v35_at hn hs hW hG]
  have e : (idx_main_v39 (idx_main_v46 (idx_main_v47 i) 0) 0).val = (i 0).val := by
    show (i 0).val * 1 + 0 = _
    omega
  show X (idx_main_v39 (idx_main_v46 (idx_main_v47 i) 0) 0).val k.val * dv (rowRow 6400 G W) nw sc (idx_main_v39 (idx_main_v46 (idx_main_v47 i) 0) 0).val k.val = _
  rw [e]

/-- The gradient of the residual stream. -/
theorem v51_at (hX : Has x0 X) (hn : ∀ i, x1 i = nw (i 0).val) (hs : Has x2 (fun _ b => sc b)) (hW : Has x4 W) (hG : Has x5 G) (hR : Has x6 R) :
    Has (val_main_v51 (F := Ideal) x0 x1 x2 x4 x5 x6) (dxOf X (rowRow 6400 G W) R nw sc) := by
  intro i
  rw [val_main_v51_apply, val_main_v49_apply, val_main_v42_apply, val_main_v41_apply, val_main_v40_apply, val_main_v48_apply, val_main_v50_apply,
    v47_at hX hn hs hW hG, v35_at hn hs hW hG, v7_at hX, hX, hR]
  unfold dxOf
  rw [← add_assoc, ← add_assoc]
  rfl

end Cert.RefGdnInBwdIdeal.At

end
-- ==== Proof.GdnBwdAlgebraic.lean ====
/- The gradients through the delta-net input projection: kernel and reference compute the same. -/
module

public import proofs.«01_k».proof.Defs
public import proofs.«01_k».proof.Proof.GdnBwdVal
public import proofs.«01_k».proof.Proof.GdnBwdRef
public import proofs.«01_k».proof.Proof.Gen.GdnInBwdIdeal

@[expose] public section

set_option maxRecDepth 8192

noncomputable section

namespace Cert.GdnInBwdIdeal.Val

open Idealize.ShloMosaic hiding ix1 ix2
open Idealize.ShloMosaic.TcCoe Idealize.ShloMosaic.ValueIdx Idealize.ShloMosaic.Tactic
open Cert.GdnInBwdIdeal Cert.GdnInBwdIdeal.Gen Cert.In

section
variable (m : (ℓ : Loc nD τ sig) → Buf (Elt Ideal) ℓ) (c : Dev nD)
variable {X R W G : ℕ → ℕ → EReal} {nw sc : ℕ → EReal}

/-- The norm's weight as the call reads it: one row. -/
theorem V_n (hn : ∀ i : S1024.Idx, (m (c.tc.loc main_arg1)) i = nw (i 0).val) : Has (R := 1) (C := 1024) (V m c main_v0) (fun _ b => nw b) := by
  have e : V m c main_v0 = broadcastInDim S1x1024 ![1] bcast_S1024_S1x1024_1 (m (c.tc.loc main_arg1)) := by
    show StableHlo.after hostOps0 (fun b => m (c, b)) _ = _
    after_results
  rw [e]
  refine Has.of fun a b => ?_
  refine (broadcastInDim_apply _ bcast_S1024_S1x1024_1 _ (ix2 a b) (ix1 b) (fun z => ?_)).trans (hn _)
  match z with
  | ⟨0, _⟩ => show b.val = if (1024 : Nat) = 1 then 0 else b.val; rw [if_neg (by decide)]

/-- The weight as the call reads it: narrowed, its entries kept. -/
theorem V_W (hW : Has (R := 1024) (C := 6400) (m (c.tc.loc main_arg4)) W) : Has (R := 1024) (C := 6400) (V m c main_v1) W := by
  have e : V m c main_v1 = truncf (F := Ideal) .bf16 (m (c.tc.loc main_arg4)) bitsLt_bf16_f32 := by
    show StableHlo.after hostOps0 (fun b => m (c, b)) _ = _
    after_results
  rw [e]
  exact hW

/-- The gradient of the norm's weight at the end of the program: the row the call leaves, as a vector. -/
theorem tail_v3 : Pipeline.afterTail₀ cfgs (dats m) 0 (V0 m) [hostOps1] c main_v3
    = shapeCast S1024 ((dats m 0 c).arrAt 8 cfg0.N) shapeCasts_S1x1024_S1024 := by
  have e8 : Pipeline.withArrays (cfgs 0).spec c (V0 m c) (fun w => (dats m 0 c).arrAt w (cfgs 0).N) (Proc.devRef .tc main_v2_1) = (dats m 0 c).arrAt 8 cfg0.N :=
    Pipeline.withArrays_arr spec0 launch0.win.arr_inj c _ _ 8
  rw [← e8]
  show StableHlo.after hostOps1 _ _ = _
  after_results
  rfl

theorem row_of {v : FVec Ideal S1x1024 .f32} {f : ℕ → EReal} (h : Has v (fun _ b => f b)) (i : S1024.Idx) :
    shapeCast S1024 v shapeCasts_S1x1024_S1024 i = f (i 0).val :=
  (shapeCast_apply v shapeCasts_S1x1024_S1024 i (ix2 (0 : Fin 1) (⟨(i 0).val, (i 0).isLt⟩ : Fin 1024))
    (by rewrite [Shape.rowMajor_val_one, Shape.rowMajor_val_two]; show 0 * 1024 + (i 0).val = (i 0).val; omega)).trans (h _)
end

end Cert.GdnInBwdIdeal.Val

namespace Cert.GdnBwdAlgebraic

open Idealize.ShloMosaic hiding ix1 ix2
open Idealize.ShloMosaic.TcCoe Idealize.ShloMosaic.ValueIdx Idealize.SL.Sem
open Cert.In

attribute [local instance] Cert.GdnInBwdIdeal.Gen.facts Cert.RefGdnInBwdIdeal.Gen.facts

open Cert.GdnInBwdIdeal Cert.RefGdnInBwdIdeal.Read

/-- The reference's results are the kernel program's, device by device. -/
theorem results (m : (ℓ : Loc nD τ sig) → Buf (Elt Ideal) ℓ) (c : Dev nD) :
    val_main_v51 (F := Ideal) (m (c.tc.loc main_arg0)) (m (c.tc.loc main_arg1)) (m (c.tc.loc main_arg2)) (m (c.tc.loc main_arg4)) (m (c.tc.loc main_arg5)) (m (c.tc.loc main_arg6))
        = (Gen.dats m 0 c).arrAt 7 cfg0.N
    ∧ val_main_v36 (F := Ideal) (m (c.tc.loc main_arg0)) (m (c.tc.loc main_arg2)) (m (c.tc.loc main_arg4)) (m (c.tc.loc main_arg5))
        = Pipeline.afterTail₀ cfgs (Gen.dats m) 0 (Gen.V0 m) [Gen.hostOps1] c main_v3
    ∧ val_main_v28 (F := Ideal) (m (c.tc.loc main_arg0)) (m (c.tc.loc main_arg1)) (m (c.tc.loc main_arg4)) (m (c.tc.loc main_arg5))
        = (Gen.dats m 0 c).arrAt 9 cfg0.N
    ∧ val_main_v25 (F := Ideal) (m (c.tc.loc main_arg4)) (m (c.tc.loc main_arg5))
        = (Gen.dats m 0 c).arrAt 10 cfg0.N := by
  obtain ⟨X, hX⟩ := exists_has (R := 4096) (C := 1024) (m (c.tc.loc main_arg0))
  obtain ⟨n, hn⟩ := exists_row (C := 1024) (m (c.tc.loc main_arg1))
  obtain ⟨s, hs⟩ := exists_one (C := 1024) (m (c.tc.loc main_arg2))
  obtain ⟨W, hW⟩ := exists_has (R := 1024) (C := 6400) (m (c.tc.loc main_arg4))
  obtain ⟨G, hG⟩ := exists_has (R := 4096) (C := 6400) (m (c.tc.loc main_arg5))
  obtain ⟨R, hR⟩ := exists_has (R := 4096) (C := 1024) (m (c.tc.loc main_arg6))
  have kX : Has (R := 4096) (C := 1024) (Gen.V m c main_arg0) X := by rw [Gen.V_main_arg0 m c]; exact hX
  have ks : Has (R := 1) (C := 1024) (Gen.V m c main_arg2) (fun _ b => s b) := by rw [Gen.V_main_arg2 m c]; exact hs
  have kG : Has (R := 4096) (C := 6400) (Gen.V m c main_arg5) G := by rw [Gen.V_main_arg5 m c]; exact hG
  have kR : Has (R := 4096) (C := 1024) (Gen.V m c main_arg6) R := by rw [Gen.V_main_arg6 m c]; exact hR
  have kn := Cert.GdnInBwdIdeal.Val.V_n m c hn
  have kW := Cert.GdnInBwdIdeal.Val.V_W m c hW
  refine ⟨(Cert.RefGdnInBwdIdeal.At.v51_at hX hn hs hW hG hR).eq (Cert.GdnInBwdIdeal.Val.arr_dx m c kX kn ks kW kG kR), funext fun i => ?_,
    (Cert.RefGdnInBwdIdeal.At.v28_at hX hn hW hG).eq (Cert.GdnInBwdIdeal.Val.arr_dsc m c kX kn kW kG), (Cert.RefGdnInBwdIdeal.At.v25_at hW hG).eq (Cert.GdnInBwdIdeal.Val.arr_dsh m c kW kG)⟩
  rw [Cert.GdnInBwdIdeal.Val.tail_v3 m c]
  exact (Cert.RefGdnInBwdIdeal.At.v36_at hX hs hW hG i).trans (Cert.GdnInBwdIdeal.Val.row_of (Cert.GdnInBwdIdeal.Val.arr_dnw m c kX ks kW kG) i).symm

/-- Kernel and reference end with equal results, the arguments unchanged. -/
theorem algebraic : Cert.algebraic_GdnInBwdIdeal_RefGdnInBwdIdeal := by
  intro m g m' g' hp hm
  refine ⟨fun c => (Gen.dats m 0 c).arrAt 7 cfg0.N,
    fun c => Pipeline.afterTail₀ cfgs (Gen.dats m) 0 (Gen.V0 m) [Gen.hostOps1] c main_v3,
    fun c => (Gen.dats m 0 c).arrAt 9 cfg0.N, fun c => (Gen.dats m 0 c).arrAt 10 cfg0.N, ?_, ?_⟩
  · refine (θ_run defs _ _).mono (fun r h c => ?_) (Gen.run_main (F := Ideal) m g)
    exact ⟨(h c).1 7, (h c).2 main_v3 (Pipeline.mem_restRefs_of _ (by decide) (by decide)), (h c).1 9, (h c).1 10,
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c))),
      ((h c).1 3).trans (((Gen.dats m 0 c).arrAt_in 3 rfl _).trans ((Gen.A_eq m c 3).trans (Gen.V_main_arg3 m c))),
      ((h c).2 main_arg4 (Pipeline.mem_restRefs_of main_arg4 (by decide) (by decide))).trans (Gen.W_main_arg4 m (Gen.dats m) c),
      ((h c).1 5).trans (((Gen.dats m 0 c).arrAt_in 5 rfl _).trans ((Gen.A_eq m c 5).trans (Gen.V_main_arg5 m c))),
      ((h c).1 6).trans (((Gen.dats m 0 c).arrAt_in 6 rfl _).trans ((Gen.A_eq m c 6).trans (Gen.V_main_arg6 m c)))⟩
  · refine (θ_run Cert.RefGdnInBwdIdeal.defs _ _).mono (fun r h c => ?_) (Cert.RefGdnInBwdIdeal.Value.run (F := Ideal) m' g')
    obtain ⟨e0, e1, e2, e3, e4, e5, e6⟩ := hm c
    obtain ⟨s0, s1, s2, s3⟩ := results m c
    obtain ⟨h0, h1, h2, h3, h4⟩ := h c
    refine ⟨h0.trans ?_, h1.trans ?_, h2.trans ?_, h3.trans ?_, h4⟩
    · rw [val_main_v51_eq, e0, e1, e2, e4, e5, e6]; exact s0
    · rw [val_main_v36_eq, e0, e2, e4, e5]; exact s1
    · rw [val_main_v28_eq, e0, e1, e4, e5]; exact s2
    · rw [val_main_v25_eq, e4, e5]; exact s3

end Cert.GdnBwdAlgebraic

end
-- ==== Proof.FoxBody.lean ====
/- The two calls of the forgetting-attention input projection, one grid point each: what the body leaves in the blocks it writes, from
   what the blocks it reads hold. -/
module

public import proofs.«01_k».proof.Proof.Gen.FoxInIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 8192

noncomputable section

namespace Cert.FoxInIdeal.Run

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Cert.FoxInIdeal.Gen

variable {F : FTy → Type} [FloatOps F]

local notation "𝕄" => MT nD τ sig Unit (Elt F) ℕ (UR sig nD τ) ℕ

/-- The first row tile of a column tile. -/
abbrev isFirst1 (i : grid1.Coords) : Prop := (Scalar.cmpi .ne (Scalar.extui (Scalar.cmpi .eq (BitVec.ofNat 32 (i 1).val) 0#32)) 0#32) = 1#1

set_option maxHeartbeats 1600000 in
/-- The projection's body at the first column tile of a row tile: it normalises and modulates the rows, keeps them, and multiplies them by the weight tile. -/
theorem body0_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1408 .bf16) (harg6 : arg6.IsWhole) (arg7 : Memref sig .tc .vmem S1024x1408 .f32) (harg7 : arg7.IsWhole) (arg8 : Memref sig .tc .vmem S1024x1024 .bf16) (harg8 : arg8.IsWhole) (hc : k0_cond1 i = 1#1)
    (x : Vec F S1024x1024 .f32) (nw sc sh : Vec F S1x1024 .f32) (w : Vec F S1024x1408 .bf16) (E : Set ℕ) (K : PUnit → sProp 𝕄) :
    iprop(owns (c : Thread nD τ) arg2 fullShare x ∗ owns (c : Thread nD τ) arg3 fullShare nw ∗ owns (c : Thread nD τ) arg4 fullShare sc ∗ owns (c : Thread nD τ) arg5 fullShare sh ∗ owns (c : Thread nD τ) arg6 fullShare w ∗ (∃ d, owns (c : Thread nD τ) arg7 fullShare d) ∗ (∃ d, owns (c : Thread nD τ) arg8 fullShare d)
        ∗ (iprop(owns (c : Thread nD τ) arg2 fullShare x ∗ owns (c : Thread nD τ) arg3 fullShare nw ∗ owns (c : Thread nD τ) arg4 fullShare sc ∗ owns (c : Thread nD τ) arg5 fullShare sh ∗ owns (c : Thread nD τ) arg6 fullShare w ∗ owns (c : Thread nD τ) arg7 fullShare (k0_pay2 (k0_pay1 x nw sc sh) w) ∗ owns (c : Thread nD τ) arg8 fullShare (k0_pay1 x nw sc sh)) -∗ K ⟨⟩))
      ⊢ wp Idealize.ShloMosaic.frame (wpE (defs₀ (F := F)) Variants.none (c : Thread nD τ) none) E (cc0_fox_inproj i arg2 harg2 arg3 harg3 arg4 harg4 arg5 harg5 arg6 harg6 arg7 harg7 arg8 harg8) K := by
  simp only [cc0_fox_inproj_eq_skeleton]; unfold cc0_fox_inproj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_full]
    repeat first | rw [View.readCov_full] | rw [View.readAt_full]
    simp only [Memref.IsWhole.read_unread]
  iexists _; isplitr; swap; · iexact H8
  ipureintro
  sl_unfold_run_names
  rw [View.read_writes_full]
  repeat first | rw [View.readCov_full] | rw [View.readAt_full]
  simp only [Memref.IsWhole.read_unread]

set_option maxHeartbeats 1600000 in
/-- The projection's body at a later column tile: the kept rows times the weight tile. -/
theorem body0_rest (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1408 .bf16) (harg6 : arg6.IsWhole) (arg7 : Memref sig .tc .vmem S1024x1408 .f32) (harg7 : arg7.IsWhole) (arg8 : Memref sig .tc .vmem S1024x1024 .bf16) (harg8 : arg8.IsWhole) (hc : ¬ k0_cond1 i = 1#1)
    (x : Vec F S1024x1024 .f32) (nw sc sh : Vec F S1x1024 .f32) (w : Vec F S1024x1408 .bf16) (h : Vec F S1024x1024 .bf16) (E : Set ℕ) (K : PUnit → sProp 𝕄) :
    iprop(owns (c : Thread nD τ) arg2 fullShare x ∗ owns (c : Thread nD τ) arg3 fullShare nw ∗ owns (c : Thread nD τ) arg4 fullShare sc ∗ owns (c : Thread nD τ) arg5 fullShare sh ∗ owns (c : Thread nD τ) arg6 fullShare w ∗ (∃ d, owns (c : Thread nD τ) arg7 fullShare d) ∗ owns (c : Thread nD τ) arg8 fullShare h
        ∗ (iprop(owns (c : Thread nD τ) arg2 fullShare x ∗ owns (c : Thread nD τ) arg3 fullShare nw ∗ owns (c : Thread nD τ) arg4 fullShare sc ∗ owns (c : Thread nD τ) arg5 fullShare sh ∗ owns (c : Thread nD τ) arg6 fullShare w ∗ owns (c : Thread nD τ) arg7 fullShare (k0_pay2 h w) ∗ owns (c : Thread nD τ) arg8 fullShare h) -∗ K ⟨⟩))
      ⊢ wp Idealize.ShloMosaic.frame (wpE (defs₀ (F := F)) Variants.none (c : Thread nD τ) none) E (cc0_fox_inproj i arg2 harg2 arg3 harg3 arg4 harg4 arg5 harg5 arg6 harg6 arg7 harg7 arg8 harg8) K := by
  simp only [cc0_fox_inproj_eq_skeleton]; unfold cc0_fox_inproj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_full]
    repeat first | rw [View.readCov_full] | rw [View.readAt_full]
    simp only [Memref.IsWhole.read_unread]
  iexists _; isplitr; · ipureintro; exact harg8.read_unread _
  iexact H8

set_option maxHeartbeats 1600000 in
/-- The weight gradient's body at the first row tile: its product added to zeros. -/
theorem body1_first (c : Dev nD) (i : grid1.Coords) (arg2 : Memref sig .tc .vmem S1024x1024 .bf16) (harg2 : arg2.IsWhole) (arg3 : Memref sig .tc .vmem S1024x1408 .f32) (harg3 : arg3.IsWhole) (arg4 : Memref sig .tc .vmem S1024x1408 .f32) (harg4 : arg4.IsWhole) (hc : isFirst1 i)
    (h : Vec F S1024x1024 .bf16) (dp : Vec F S1024x1408 .f32) (E : Set ℕ) (K : PUnit → sProp 𝕄) :
    iprop(owns (c : Thread nD τ) arg2 fullShare h ∗ owns (c : Thread nD τ) arg3 fullShare dp ∗ (∃ d, owns (c : Thread nD τ) arg4 fullShare d)
        ∗ (iprop(owns (c : Thread nD τ) arg2 fullShare h ∗ owns (c : Thread nD τ) arg3 fullShare dp ∗ owns (c : Thread nD τ) arg4 fullShare (k1_pay2 k1_pay1 h dp)) -∗ K ⟨⟩))
      ⊢ wp Idealize.ShloMosaic.frame (wpE (defs₀ (F := F)) Variants.none (c : Thread nD τ) none) E (cc1_fox_dwin i arg2 harg2 arg3 harg3 arg4 harg4) K := by
  simp only [cc1_fox_dwin_eq_skeleton]; unfold cc1_fox_dwin_skel
  unfold owns
  iintro ⟨⟨%f2, %hf2, H2⟩, ⟨%f3, %hf3, H3⟩, ⟨%d4, %f4, -, H4⟩, Hk⟩
  obtain rfl := harg2.eq_unread hf2; obtain rfl := harg3.eq_unread hf3
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  sl_unfold_run_names
  rw [View.read_writes_full]
  repeat first | rw [View.readCov_full] | rw [View.readAt_full]
  simp only [Memref.IsWhole.read_unread]

set_option maxHeartbeats 1600000 in
/-- The weight gradient's body at a later row tile: its product added to what is held. -/
theorem body1_rest (c : Dev nD) (i : grid1.Coords) (arg2 : Memref sig .tc .vmem S1024x1024 .bf16) (harg2 : arg2.IsWhole) (arg3 : Memref sig .tc .vmem S1024x1408 .f32) (harg3 : arg3.IsWhole) (arg4 : Memref sig .tc .vmem S1024x1408 .f32) (harg4 : arg4.IsWhole) (hc : ¬ isFirst1 i)
    (h : Vec F S1024x1024 .bf16) (dp : Vec F S1024x1408 .f32) (o : Vec F S1024x1408 .f32) (E : Set ℕ) (K : PUnit → sProp 𝕄) :
    iprop(owns (c : Thread nD τ) arg2 fullShare h ∗ owns (c : Thread nD τ) arg3 fullShare dp ∗ owns (c : Thread nD τ) arg4 fullShare o
        ∗ (iprop(owns (c : Thread nD τ) arg2 fullShare h ∗ owns (c : Thread nD τ) arg3 fullShare dp ∗ owns (c : Thread nD τ) arg4 fullShare (k1_pay2 o h dp)) -∗ K ⟨⟩))
      ⊢ wp Idealize.ShloMosaic.frame (wpE (defs₀ (F := F)) Variants.none (c : Thread nD τ) none) E (cc1_fox_dwin i arg2 harg2 arg3 harg3 arg4 harg4) K := by
  simp only [cc1_fox_dwin_eq_skeleton]; unfold cc1_fox_dwin_skel
  unfold owns
  iintro ⟨⟨%f2, %hf2, H2⟩, ⟨%f3, %hf3, H3⟩, ⟨%f4, %hf4, H4⟩, Hk⟩
  obtain rfl := harg2.eq_unread hf2; obtain rfl := harg3.eq_unread hf3; obtain rfl := harg4.eq_unread hf4
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  sl_unfold_run_names
  rw [View.read_writes_full]
  repeat first | rw [View.readCov_full] | rw [View.readAt_full]
  simp only [Memref.IsWhole.read_unread]

end Cert.FoxInIdeal.Run
end
-- ==== Proof.FoxRun0.lean ====
/- The forward call of the forgetting-attention input projection inside the program: its blocks point by point, what each point leaves, and that its body does it. -/
module

public import proofs.«01_k».proof.Proof.FoxBody
public import proofs.«01_k».proof.Proof.Gen.FoxInIdeal.Launch
public import proofs.«01_k».proof.Proof.Gen.FoxInIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.WordCmp
public import Idealize.ShloMosaic.Lib.ValueIdx
public import Idealize.ShloMosaic.Lib.Pipeline.TableIdle

@[expose] public section

set_option maxRecDepth 16384

noncomputable section

namespace Cert.FoxInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.FoxInIdeal.Gen

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-- The block of window `w` at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]) t d).trans
    (by unfold Dat.fetched Dat.blockOf iblk0; rw [hA]; rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]) t d).trans
    (by unfold Dat.fetched Dat.blockOf iblk0; rw [hA]; rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]) t d).trans
    (by unfold Dat.fetched Dat.blockOf iblk0; rw [hA]; rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]) t d).trans
    (by unfold Dat.fetched Dat.blockOf iblk0; rw [hA]; rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]) t d).trans
    (by unfold Dat.fetched Dat.blockOf iblk0; rw [hA]; rfl)

/-- The first column tile of a row tile. -/
theorem hcond0_0 : ∀ t : Fin cfg0.N, k0_cond1 (grid0.coords t) = 1#1 ↔ t.val % 3 = 0 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [k0_cond1, e0, e1]
    word_cmp
   : ∀ t : Fin grid0.N, k0_cond1 (grid0.coords t) = 1#1 ↔ t.val % 3 = 0)

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1408 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)

/-- The normalised, modulated rows held at point `n`: made at the first column tile of a row tile, kept after. -/
def hAt (c : Dev nD) : (n : ℕ) → n < cfg0.N → Vec F S1024x1024 .bf16
  | 0, hn => k0_pay1 (iblk0 V c 0 ⟨0, hn⟩) (iblk0 V c 1 ⟨0, hn⟩) (iblk0 V c 2 ⟨0, hn⟩) (iblk0 V c 3 ⟨0, hn⟩)
  | n + 1, hn => if (n + 1) % 3 = 0 then k0_pay1 (iblk0 V c 0 ⟨n + 1, hn⟩) (iblk0 V c 1 ⟨n + 1, hn⟩) (iblk0 V c 2 ⟨n + 1, hn⟩) (iblk0 V c 3 ⟨n + 1, hn⟩)
      else (hAt c n (Nat.lt_of_succ_lt hn))

theorem hAt_first (c : Dev nD) (t : Fin cfg0.N) (h0 : t.val % 3 = 0) : hAt V c t.val t.isLt = k0_pay1 (iblk0 V c 0 t) (iblk0 V c 1 t) (iblk0 V c 2 t) (iblk0 V c 3 t) := by
  obtain ⟨n, hn⟩ := t
  cases n with
  | zero => rfl
  | succ n => exact (if_pos h0).trans rfl

theorem hAt_rest (c : Dev nD) (t : Fin cfg0.N) (h0 : ¬t.val % 3 = 0) :
    hAt V c t.val t.isLt = (hAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The pipeline of the call: arrays as found, blocks as said above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (hAt V c t.val t.isLt) (iblk0 V c 4 t)
    | ⟨6, _⟩ => hAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (hAt V c t.val t.isLt) (iblk0 V c 4 t) := by dsimp only [dat0]
theorem after0_6 (c : Dev nD) (t : Fin cfg0.N) : (dat0 V c).after 6 t = hAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem idle0_6 (t : Fin cfg0.N) (h0 : ¬t.val % 3 = 0) : cfg0.idle 6 (cfg0.grid.coords t) = true := by
  show (!(k0_cond1 (grid0.coords t) == 1#1)) = true
  rw [Bool.not_eq_true', beq_eq_false_iff_ne]
  exact fun h => h0 ((hcond0_0 t).mp h)
theorem live0_6 (t : Fin cfg0.N) (h0 : t.val % 3 = 0) : cfg0.idle 6 (cfg0.grid.coords t) = false := by
  show (!(k0_cond1 (grid0.coords t) == 1#1)) = false
  rw [Bool.not_eq_false', beq_iff_eq]
  exact (hcond0_0 t).mpr h0
/-- Nothing kept yet exactly at the first column tile of a row tile. -/
theorem fresh0_6 : ∀ n, n < cfg0.N → cfg0.fresh 6 n = decide (n % 3 = 0)
  | 0, _ => rfl
  | n + 1, hn => by
    have hn' : n < cfg0.N := Nat.lt_of_succ_lt hn
    rw [Pipeline.Cfg.fresh_succ cfg0 6 n hn', fresh0_6 n hn']
    by_cases hf : n % 3 = 2
    · rw [(flush0_6 ⟨n, hn'⟩).mpr hf, Bool.true_or, eq_comm, decide_eq_true_eq]; omega
    · rw [Bool.eq_false_iff.mpr fun h => hf ((flush0_6 ⟨n, hn'⟩).mp h), Bool.false_or]
      have e : decide ((n + 1) % 3 = 0) = false := decide_eq_false (by omega)
      rw [e]
      by_cases h0 : n % 3 = 0
      · rw [live0_6 ⟨n, hn'⟩ h0, Bool.false_and]
      · rw [decide_eq_false h0, Bool.and_false]
theorem before0_6_B (c : Dev nD) (t : Fin cfg0.N) (h0 : ¬t.val % 3 = 0) (d) : (dat0 V c).before 6 t d = hAt V c t.val t.isLt := by
  rw [(dat0 V c).before_out_traj 6 rfl (fun _ _ => rfl) (fun t' ht hi hf => ?_) t.val t rfl d, fresh0_6 t.val t.isLt, if_neg (by simpa using h0), hAt_rest V c t h0]
  · dsimp only [dat0]
  · rw [fresh0_6 t'.val t'.isLt] at hf
    have h1 : ¬t'.val % 3 = 0 := by simpa using hf
    rw [after0_6, hAt_rest V c t' h1, after0_6]

/-- At a later column tile the rows are left as they were found. -/
theorem leaves0_6 (c : Dev nD) (t : Fin cfg0.N) (h0 : ¬t.val % 3 = 0) :
    owns (c : Thread nD τ) (ms0_6 t) fullShare (hAt V c t.val t.isLt) ⊢ ((dat0 V c).leavesExact 6 t : sProp 𝕄) := by
  cases hf : (cfg0.win 6).flush t
  · rw [(dat0 V c).leavesExact_idle 6 t (idle0_6 t h0) hf]
    iintro H
    iexists (hAt V c t.val t.isLt)
    rw [before0_6_B V c t h0]
    iexact H
  · unfold Dat.leavesExact
    rw [idle0_6 t h0, hf, after0_6]
theorem leavesLive0_6 (c : Dev nD) (t : Fin cfg0.N) (h0 : t.val % 3 = 0) :
    ((dat0 V c).leavesExact 6 t : sProp 𝕄) = owns (c : Thread nD τ) (ms0_6 t) fullShare (hAt V c t.val t.isLt) := by
  unfold Dat.leavesExact; rw [live0_6 t h0, after0_6]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ (dat0 V c).leavesExact 6 t)

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 12 := lt_of_lt_of_eq t.isLt (show cfg0.N = 12 from N_0)
  by_cases h0 : t.val % 3 = 0
  · rw [leavesLive0_6 V c t h0, hAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body0_first c (grid0.coords t) _ _ _ _ _ _ _ _ _ _ _ _ _ _ ((hcond0_0 t).mpr h0) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body0_rest c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves0_6 V c t h0); iexact H6

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.FoxInIdeal.Run
end
-- ==== Proof.FoxRun1.lean ====
/- The weight-gradient call of the forgetting-attention input projection inside the program: its blocks point by point, what each point leaves, and that its body does it. -/
module

public import proofs.«01_k».proof.Proof.FoxBody
public import proofs.«01_k».proof.Proof.Gen.FoxInIdeal.Launch
public import proofs.«01_k».proof.Proof.Gen.FoxInIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.WordCmp
public import Idealize.ShloMosaic.Lib.ValueIdx
public import Idealize.ShloMosaic.Lib.Pipeline.TableIdle

@[expose] public section

set_option maxRecDepth 16384

noncomputable section

namespace Cert.FoxInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.FoxInIdeal.Gen

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-- The block of window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]) t d).trans
    (by unfold Dat.fetched Dat.blockOf iblk1; rw [hA]; rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]) t d).trans
    (by unfold Dat.fetched Dat.blockOf iblk1; rw [hA]; rfl)

/-- The first row tile of a column tile. -/
theorem hcond1_0 : ∀ t : Fin cfg1.N, isFirst1 (grid1.coords t) ↔ t.val % 4 = 0 :=
  (fun t => by
    have ht : t.val < 12 := Nat.lt_of_lt_of_eq t.isLt N_1
    have e0 : (grid1.coords t 0).val = t.val / 4 % 3 := Pipeline.Grid.coords_val t 0 (by decide) rfl
    have e1 : (grid1.coords t 1).val = t.val / 1 % 4 := Pipeline.Grid.coords_val t 1 (by decide) rfl
    simp only [isFirst1, e0, e1]
    word_cmp
   : ∀ t : Fin grid1.N, isFirst1 (grid1.coords t) ↔ t.val % 4 = 0)

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1408 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1408 .f32 := win1_2.stage (cfg1.slots t 2)
abbrev hs1_2 (t : Fin cfg1.N) : (ms1_2 t).IsWhole := hstage1_2 ((cfg1.slots t 2).cast nbuf1_2)

/-- The weight gradient's block after point `n`: gathered over the four row tiles of a column tile. -/
def gAt (c : Dev nD) : (n : ℕ) → n < cfg1.N → Vec F S1024x1408 .f32
  | 0, hn => k1_pay2 k1_pay1 (iblk1 V c 0 ⟨0, hn⟩) (iblk1 V c 1 ⟨0, hn⟩)
  | n + 1, hn => if (n + 1) % 4 = 0 then k1_pay2 k1_pay1 (iblk1 V c 0 ⟨n + 1, hn⟩) (iblk1 V c 1 ⟨n + 1, hn⟩)
      else k1_pay2 (gAt c n (Nat.lt_of_succ_lt hn)) (iblk1 V c 0 ⟨n + 1, hn⟩) (iblk1 V c 1 ⟨n + 1, hn⟩)

theorem gAt_first (c : Dev nD) (t : Fin cfg1.N) (h0 : t.val % 4 = 0) : gAt V c t.val t.isLt = k1_pay2 k1_pay1 (iblk1 V c 0 t) (iblk1 V c 1 t) := by
  obtain ⟨n, hn⟩ := t
  cases n with
  | zero => rfl
  | succ n => exact (if_pos h0).trans rfl

theorem gAt_rest (c : Dev nD) (t : Fin cfg1.N) (h0 : ¬t.val % 4 = 0) :
    gAt V c t.val t.isLt = k1_pay2 (gAt V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-- The pipeline of the call: arrays as found, blocks as said above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2_B (c : Dev nD) (t : Fin cfg1.N) (h0 : ¬t.val % 4 = 0) (d) :
    (dat1 V c).before 2 t d = gAt V c (t.val - 1) (Nat.lt_of_le_of_lt (Nat.sub_le _ _) t.isLt) := by
  have hN : t.val < 12 := lt_of_lt_of_eq t.isLt (show cfg1.N = 12 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 12 := lt_of_lt_of_eq t.isLt (show cfg1.N = 12 from N_1)
  by_cases h0 : t.val % 4 = 0
  · rw [gAt_first V c t h0]
    iintro ⟨HΦ, Ho, ⟨%d0, H0⟩, ⟨%d1, H1⟩, ⟨%d2, H2⟩⟩
    iapply (body1_first c (grid1.coords t) _ _ _ _ _ _ ((hcond1_0 t).mpr h0) (iblk1 V c 0 t) (iblk1 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [gAt_rest V c t h0]
    simp only [before1_2_B V c t h0]
    iintro ⟨HΦ, Ho, ⟨%d0, H0⟩, ⟨%d1, H1⟩, ⟨%d2, H2⟩⟩
    iapply (body1_rest c (grid1.coords t) _ _ _ _ _ _ (fun h => h0 ((hcond1_0 t).mp h)) (iblk1 V c 0 t) (iblk1 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.FoxInIdeal.Run
end
-- ==== Proof.FoxRun.lean ====
/- The forgetting-attention input projection, the whole program run: what every buffer holds at the end, from any memory, and that it ends with every counter at zero. -/
module

public import proofs.«01_k».proof.Proof.FoxRun0
public import proofs.«01_k».proof.Proof.FoxRun1

@[expose] public section

set_option maxRecDepth 16384

noncomputable section

namespace Cert.FoxInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.FoxInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- The call as a step of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a step of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory the program ends, every buffer of the core at the last of the contents above and every counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame of the program: it ends, its arguments unchanged and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  (θ_run defs _ _).mono (fun _ h => ⟨fun c =>
    have a := fun q hq => h.1 c _ (mem_uc q hq)
    ⟨(a main_arg0 (by decide)).trans (W3_main_arg0 m ρ c),
     (a main_arg1 (by decide)).trans (W3_main_arg1 m ρ c),
     (a main_arg2 (by decide)).trans (W3_main_arg2 m ρ c),
     (a main_arg3 (by decide)).trans (W3_main_arg3 m ρ c),
     (a main_arg4 (by decide)).trans (W3_main_arg4 m ρ c),
     (a main_arg5 (by decide)).trans (W3_main_arg5 m ρ c)⟩, h.2⟩) (run_main m ρ)

end Cert.FoxInIdeal.Run
end
-- ==== Proof.FoxFrames.lean ====
/- The forgetting-attention input projection and the gradient of its weight: the frames of the programs. -/
module

public import proofs.«01_k».proof.Defs
public import proofs.«01_k».proof.Proof.FoxRun
public import proofs.«01_k».proof.Proof.Gen.FoxIn
public import proofs.«01_k».proof.Proof.Gen.RefFoxInIdeal.Run

@[expose] public section

noncomputable section

namespace Cert.FoxFrames

open Idealize.ShloMosaic Idealize.SL.Sem

open Cert.FoxIn in
/-- What the frame of the printed kernel says. -/
def Says : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0)

open Cert.FoxInIdeal in
/-- What the frame of the idealized kernel says over bit patterns. -/
def SaysIdeal : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0)

/-- The two say the same: the texts agree. -/
theorem says_eq : Says = SaysIdeal := by sl_kernel_rfl

/-- The printed kernel ends, arguments unchanged and counters at zero. -/
theorem kernel : Cert.quiescent_FoxIn := fun m ρ _ =>
  (cast says_eq.symm (fun m ρ => Cert.FoxInIdeal.Run.frame (F := Bits) m ρ : SaysIdeal) : Says) m ρ

/-- The idealized kernel ends, arguments unchanged and counters at zero. -/
theorem kernelIdeal : Cert.quiescent_FoxInIdeal := fun m ρ _ => Cert.FoxInIdeal.Run.frame (F := Ideal) m ρ

/-- No operation was rewritten. -/
theorem preserves : Cert.preserves_FoxIn_FoxInIdeal := trivial

/-- The reference ends, arguments unchanged and counters at zero. -/
theorem reference : Cert.quiescent_RefFoxInIdeal := fun m ρ _ =>
  (θ_run Cert.RefFoxInIdeal.defs _ _).mono (fun r h => ⟨fun c => (h c).2.2, sem_eq_zero_of_no_sems (by decide) r.2⟩)
    (Cert.RefFoxInIdeal.Value.run (F := Ideal) m ρ)

end Cert.FoxFrames

end
-- ==== Proof.FoxVal.lean ====
/- The forgetting-attention input projection and the gradient of its weight: what the two calls leave in their arrays. -/
module

public import proofs.«01_k».proof.Proof.In
public import proofs.«01_k».proof.Proof.FoxRun
public import Idealize.ShloMosaic.Lib.Pipeline.ValueKit

@[expose] public section

set_option maxRecDepth 8192

noncomputable section

namespace Cert.FoxInIdeal.Val

open Idealize.ShloMosaic hiding ix2
open Idealize.ShloMosaic.TcCoe Idealize.ShloMosaic.ValueIdx Idealize.ShloMosaic.Tactic
open Idealize.SL Idealize.SL.RA
open Cert.FoxInIdeal Cert.FoxInIdeal.Gen Cert.In
open scoped BigOperators

/-! ## The two products -/

theorem nn_apply (lhs : FVec Ideal S1024x1024 .bf16) (rhs : FVec Ideal S1024x1408 .bf16) (acc : FVec Ideal S1024x1408 .f32) (r : Fin 1024) (c : Fin 1408) :
    matmul dot_S1024x1024_S1024x1408_S1024x1408_1_0_0_1_n_n none lhs rhs acc (ix2 r c) = acc (ix2 r c) + ∑ k : Fin 1024, lhs (ix2 r k) * rhs (ix2 k c) :=
  Ideal.matmul_plain_apply none lhs rhs acc r c

theorem tn_apply (lhs : FVec Ideal S1024x1024 .bf16) (rhs : FVec Ideal S1024x1408 .bf16) (acc : FVec Ideal S1024x1408 .f32) (r : Fin 1024) (c : Fin 1408) :
    matmul dot_S1024x1024_S1024x1408_S1024x1408_0_0_1_1_n_n none lhs rhs acc (ix2 r c) = acc (ix2 r c) + ∑ k : Fin 1024, lhs (ix2 k r) * rhs (ix2 k c) := by
  have hr : (dot_S1024x1024_S1024x1408_S1024x1408_0_0_1_1_n_n).contr.rank = 1 := rfl
  have hs : (dot_S1024x1024_S1024x1408_S1024x1408_0_0_1_1_n_n).contr.size ⟨0, by rw [hr]; exact Nat.one_pos⟩ = 1024 := rfl
  show FloatOps.matmul _ _ _ _ _ _ = _
  rw [Ideal.matmul_apply, ← Equiv.sum_comp (contrEquiv1 _ 1024 hr hs).symm]
  refine congrArg (acc (ix2 r c) + ·) (Finset.sum_congr rfl fun k _ => ?_)
  have hk := contrEquiv1_symm_val _ 1024 hr hs k
  have el : (dot_S1024x1024_S1024x1408_S1024x1408_0_0_1_1_n_n).lhsIdx (ix2 r c) ((contrEquiv1 _ 1024 hr hs).symm k) = ix2 k r := by
    funext a; apply Fin.ext
    match a with
    | ⟨0, _⟩ => exact hk
    | ⟨1, _⟩ => rfl
  have er : (dot_S1024x1024_S1024x1408_S1024x1408_0_0_1_1_n_n).rhsIdx (ix2 r c) ((contrEquiv1 _ 1024 hr hs).symm k) = ix2 k c := by
    funext a; apply Fin.ext
    match a with
    | ⟨0, _⟩ => exact hk
    | ⟨1, _⟩ => rfl
  rw [el, er]

/-! ## What a grid point computes -/

/-- A tile normed, weighted, scaled and shifted. -/
theorem pay1_has {x : FVec Ideal S1024x1024 .f32} {n s h : FVec Ideal S1x1024 .f32} {X : ℕ → ℕ → EReal} {nw sc sh : ℕ → EReal}
    (hx : Has x X) (hn : Has n (fun _ b => nw b)) (hs : Has s (fun _ b => sc b)) (hh : Has h (fun _ b => sh b)) :
    Has (k0_pay1 (F := Ideal) x n s h) (hid X nw sc sh) :=
  ((((hx.mul (((((hx.mul hx).rowSum _ reduces_S1024x1024_S1024 (.inl rfl) rfl shapeCasts_S1024_S1024x1).div (has_splat _)).add (has_splat _)).rsqrt.col broadcasts_S1024x1_S1024x1024)).mul
    ((hn.cast shapeCasts_S1x1024_S1x1024).row broadcasts_S1x1024_S1024x1024)).mul (((has_splat _).add hs).row broadcasts_S1x1024_S1024x1024)).add (hh.row broadcasts_S1x1024_S1024x1024)).trunc bitsLt_bf16_f32

/-- A tile of the projection. -/
theorem pay2_has {x : FVec Ideal S1024x1024 .bf16} {y : FVec Ideal S1024x1408 .bf16} {f g : ℕ → ℕ → EReal} (hx : Has x f) (hy : Has y g) :
    Has (k0_pay2 (F := Ideal) x y) (fun a b => ∑ k ∈ Finset.range 1024, f a k * g k b) := Has.of fun a b => by
  unfold k0_pay2
  rw [shapeCast_self, shapeCast_self, nn_apply, Finset.sum_range]
  show Ideal.ofBits .f32 0x00000000#32 + _ = _
  rw [zero_f32, zero_add]
  exact Finset.sum_congr rfl fun k _ => by rw [hx, hy]

/-- One tile of rows added to the gradient of the weight. -/
theorem add_has {acc : FVec Ideal S1024x1408 .f32} {x : FVec Ideal S1024x1024 .bf16} {y : FVec Ideal S1024x1408 .f32} {e f g : ℕ → ℕ → EReal} (ha : Has acc e) (hx : Has x f) (hy : Has y g) :
    Has (k1_pay2 (F := Ideal) acc x y) (fun a b => e a b + ∑ k ∈ Finset.range 1024, f k a * g k b) := Has.of fun a b => by
  unfold k1_pay2
  rw [shapeCast_self, shapeCast_self]
  show acc (ix2 a b) + matmul dot_S1024x1024_S1024x1408_S1024x1408_0_0_1_1_n_n none x (truncf .bf16 y bitsLt_bf16_f32) _ (ix2 a b) = _
  rw [tn_apply, Finset.sum_range, ha]
  refine congrArg (e a b + ·) ?_
  show Ideal.ofBits .f32 0x00000000#32 + _ = _
  rw [zero_f32, zero_add]
  refine Finset.sum_congr rfl fun k _ => ?_
  show x (ix2 k a) * y (ix2 k b) = _
  rw [hx, hy]

/-- The gradient of the weight begins at zero. -/
theorem pay1_zero : Has (k1_pay1 (F := Ideal)) (fun _ _ => 0) := fun i => zero_f32

/-! ## The arrays of the first call -/

variable (V : (c : Dev nD) → (b : Ref sig .tc) → Buf (Elt Ideal) (c.tc.loc b))

theorem idx0_0 : ∀ t : Fin cfg0.N, win0_0.index t = ![t.val / 3, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, t.val % 3] := (by decide +kernel : ∀ t : Fin grid0.N, _)
theorem idx0_5 : ∀ t : Fin cfg0.N, win0_5.index t = ![t.val / 3, t.val % 3] := (by decide +kernel : ∀ t : Fin grid0.N, _)
theorem idx0_6 : ∀ t : Fin cfg0.N, win0_6.index t = ![t.val / 3, 0] := (by decide +kernel : ∀ t : Fin grid0.N, _)
theorem idx1_0 : ∀ t : Fin cfg1.N, win1_0.index t = ![t.val % 4, 0] := (by decide +kernel : ∀ t : Fin grid1.N, _)
theorem idx1_1 : ∀ t : Fin cfg1.N, win1_1.index t = ![t.val % 4, t.val / 4] := (by decide +kernel : ∀ t : Fin grid1.N, _)
theorem idx1_2 : ∀ t : Fin cfg1.N, win1_2.index t = ![0, t.val / 4] := (by decide +kernel : ∀ t : Fin grid1.N, _)
theorem last1 : ∀ t : Fin cfg1.N, win1_2.flush t = true → t.val % 4 = 3 := (by decide +kernel : ∀ t : Fin grid1.N, _)

section First
variable {X W : ℕ → ℕ → EReal} {nw sc sh : ℕ → EReal} (c : Dev nD)

theorem blk0_0 (hX : Has (R := 4096) (C := 1024) (V c main_arg0) X) (t : Fin cfg0.N) :
    Has (R := 1024) (C := 1024) (Run.iblk0 (F := Ideal) V c 0 t) (fun a b => X (1024 * (t.val / 3) + a) b) := Has.of fun a b => by
  blk_simp [Run.iblk0]
  refine (hX _).trans ?_
  blk_simp [idx0_0 t]
  congr 1 <;> first | rfl | (simp; omega)
theorem blk0_1 (h : Has (R := 1) (C := 1024) (V c main_v0) (fun _ b => nw b)) (t : Fin cfg0.N) :
    Has (R := 1) (C := 1024) (Run.iblk0 (F := Ideal) V c 1 t) (fun _ b => nw b) := Has.of fun a b => by
  blk_simp [Run.iblk0]
  refine (h _).trans ?_
  blk_simp [idx0_1 t]
theorem blk0_2 (h : Has (R := 1) (C := 1024) (V c main_arg2) (fun _ b => sc b)) (t : Fin cfg0.N) :
    Has (R := 1) (C := 1024) (Run.iblk0 (F := Ideal) V c 2 t) (fun _ b => sc b) := Has.of fun a b => by
  blk_simp [Run.iblk0]
  refine (h _).trans ?_
  blk_simp [idx0_2 t]
theorem blk0_3 (h : Has (R := 1) (C := 1024) (V c main_arg3) (fun _ b => sh b)) (t : Fin cfg0.N) :
    Has (R := 1) (C := 1024) (Run.iblk0 (F := Ideal) V c 3 t) (fun _ b => sh b) := Has.of fun a b => by
  blk_simp [Run.iblk0]
  refine (h _).trans ?_
  blk_simp [idx0_3 t]
theorem blk0_4 (hW : Has (R := 1024) (C := 4224) (V c main_v1) W) (t : Fin cfg0.N) :
    Has (R := 1024) (C := 1408) (Run.iblk0 (F := Ideal) V c 4 t) (fun a b => W a (1408 * (t.val % 3) + b)) := Has.of fun a b => by
  blk_simp [Run.iblk0]
  refine (hW _).trans ?_
  blk_simp [idx0_4 t]
  congr 1 <;> first | rfl | (simp; omega)

variable (hX : Has (R := 4096) (C := 1024) (V c main_arg0) X) (hn : Has (R := 1) (C := 1024) (V c main_v0) (fun _ b => nw b))
  (hs : Has (R := 1) (C := 1024) (V c main_arg2) (fun _ b => sc b)) (hh : Has (R := 1) (C := 1024) (V c main_arg3) (fun _ b => sh b))
include hX hn hs hh

/-- The normed rows kept through a tile of rows. -/
theorem hAt_has : ∀ (n : ℕ) (h : n < cfg0.N), Has (R := 1024) (C := 1024) (Run.hAt (F := Ideal) V c n h) (fun a b => hid X nw sc sh (1024 * (n / 3) + a) b) := by
  intro n
  induction n with
  | zero =>
    intro h
    have e := Run.hAt_first (F := Ideal) V c ⟨0, h⟩ rfl
    dsimp only at e
    rw [e]
    exact pay1_has (blk0_0 V c hX ⟨0, h⟩) (blk0_1 V c hn ⟨0, h⟩) (blk0_2 V c hs ⟨0, h⟩) (blk0_3 V c hh ⟨0, h⟩)
  | succ n ih =>
    intro h
    by_cases h0 : (n + 1) % 3 = 0
    · have e := Run.hAt_first (F := Ideal) V c ⟨n + 1, h⟩ h0
      dsimp only at e
      rw [e]
      exact pay1_has (blk0_0 V c hX ⟨n + 1, h⟩) (blk0_1 V c hn ⟨n + 1, h⟩) (blk0_2 V c hs ⟨n + 1, h⟩) (blk0_3 V c hh ⟨n + 1, h⟩)
    · have e := Run.hAt_rest (F := Ideal) V c ⟨n + 1, h⟩ h0
      dsimp only [Nat.add_sub_cancel] at e
      rw [e]
      refine (ih (by omega)).congr fun a b _ _ => ?_
      rw [show n / 3 = (n + 1) / 3 by omega]

/-- The normed rows after the call. -/
theorem arr0_6 : Has (R := 4096) (C := 1024) ((Run.dat0 (F := Ideal) V c).arrAt 6 cfg0.N) (hid X nw sc sh) := by
  refine congrFun ((Run.dat0 (F := Ideal) V c).arrAt_eq_of_covers 6 (fun i : S4096x1024.Idx => hid X nw sc sh (i 0).val (i 1).val) (by decide +kernel) fun t hf y => ?_)
  blk_simp
  rw [Run.after0_6]
  refine (hAt_has V c hX hn hs hh t.val t.isLt y).trans ?_
  beta_reduce
  blk_simp [idx0_6 t]
  congr 1 <;> first | rfl | (simp; omega)

/-- The projection after the call. -/
theorem arr0_5 (hW : Has (R := 1024) (C := 4224) (V c main_v1) W) :
    Has (R := 4096) (C := 4224) ((Run.dat0 (F := Ideal) V c).arrAt 5 cfg0.N) (rowCol 1024 (hid X nw sc sh) W) := by
  refine congrFun ((Run.dat0 (F := Ideal) V c).arrAt_eq_of_covers 5 (fun i : S4096x4224.Idx => rowCol 1024 (hid X nw sc sh) W (i 0).val (i 1).val) (by decide +kernel) fun t hf y => ?_)
  blk_simp
  rw [Run.after0_5]
  refine (pay2_has (hAt_has V c hX hn hs hh t.val t.isLt) (blk0_4 V c hW t) y).trans ?_
  beta_reduce
  blk_simp [idx0_5 t]
  unfold rowCol
  refine Finset.sum_congr rfl fun k _ => ?_
  congr 2 <;> first | rfl | (simp; omega)
end First

/-! ## The array of the second call -/

section Second
variable {H G : ℕ → ℕ → EReal} (c : Dev nD)

theorem blk1_0 (hH : Has (R := 4096) (C := 1024) (V c main_v2_1) H) (t : Fin cfg1.N) :
    Has (R := 1024) (C := 1024) (Run.iblk1 (F := Ideal) V c 0 t) (fun a b => H (1024 * (t.val % 4) + a) b) := Has.of fun a b => by
  blk_simp [Run.iblk1]
  refine (hH _).trans ?_
  blk_simp [idx1_0 t]
  congr 1 <;> first | rfl | (simp; omega)
theorem blk1_1 (hG : Has (R := 4096) (C := 4224) (V c main_arg5) G) (t : Fin cfg1.N) :
    Has (R := 1024) (C := 1408) (Run.iblk1 (F := Ideal) V c 1 t) (fun a b => G (1024 * (t.val % 4) + a) (1408 * (t.val / 4) + b)) := Has.of fun a b => by
  blk_simp [Run.iblk1]
  refine (hG _).trans ?_
  blk_simp [idx1_1 t]
  congr 1 <;> first | rfl | (simp; omega)

variable (hH : Has (R := 4096) (C := 1024) (V c main_v2_1) H) (hG : Has (R := 4096) (C := 4224) (V c main_arg5) G)
include hH hG

/-- The tiles of rows gathered so far. -/
theorem gAt_has : ∀ (n : ℕ) (h : n < cfg1.N), Has (R := 1024) (C := 1408) (Run.gAt (F := Ideal) V c n h)
    (fun a b => ∑ k ∈ Finset.range (1024 * (n % 4 + 1)), H k a * G k (1408 * (n / 4) + b)) := by
  intro n
  induction n with
  | zero =>
    intro h
    have e := Run.gAt_first (F := Ideal) V c ⟨0, h⟩ rfl
    dsimp only at e
    rw [e]
    refine (add_has pay1_zero (blk1_0 V c hH ⟨0, h⟩) (blk1_1 V c hG ⟨0, h⟩)).congr fun a b _ _ => ?_
    rw [zero_add]
    refine Finset.sum_congr rfl fun k _ => ?_
    congr 2 <;> simp
  | succ n ih =>
    intro h
    by_cases h0 : (n + 1) % 4 = 0
    · have e := Run.gAt_first (F := Ideal) V c ⟨n + 1, h⟩ h0
      dsimp only at e
      rw [e]
      refine (add_has pay1_zero (blk1_0 V c hH ⟨n + 1, h⟩) (blk1_1 V c hG ⟨n + 1, h⟩)).congr fun a b _ _ => ?_
      dsimp only
      rw [zero_add, h0]
      refine Finset.sum_congr rfl fun k _ => ?_
      congr 2 <;> simp
    · have e := Run.gAt_rest (F := Ideal) V c ⟨n + 1, h⟩ h0
      dsimp only [Nat.add_sub_cancel] at e
      rw [e]
      refine (add_has (ih (by omega)) (blk1_0 V c hH ⟨n + 1, h⟩) (blk1_1 V c hG ⟨n + 1, h⟩)).congr fun a b _ _ => ?_
      dsimp only
      rw [show (n + 1) % 4 = n % 4 + 1 by omega, show (n + 1) / 4 = n / 4 by omega]
      exact sum_tiles (fun k => H k a * G k (1408 * (n / 4) + b)) (n % 4 + 1) 1024

/-- The gradient of the weight after the call. -/
theorem arr1_2 : Has (R := 1024) (C := 4224) ((Run.dat1 (F := Ideal) V c).arrAt 2 cfg1.N) (colCol 4096 H G) := by
  refine congrFun ((Run.dat1 (F := Ideal) V c).arrAt_eq_of_covers 2 (fun i : S1024x4224.Idx => colCol 4096 H G (i 0).val (i 1).val) (by decide +kernel) fun t hf y => ?_)
  have h3 := last1 t hf
  blk_simp
  rw [Run.after1_2]
  refine (gAt_has V c hH hG t.val t.isLt y).trans ?_
  beta_reduce
  rw [h3]
  blk_simp [idx1_2 t]
  unfold colCol
  refine Finset.sum_congr rfl fun k _ => ?_
  congr 2 <;> first | rfl | (simp; omega)
end Second

end Cert.FoxInIdeal.Val

end
-- ==== Proof.FoxRef.lean ====
/- The reference of the forgetting-attention input projection, operation by operation. -/
module

public import proofs.«01_k».proof.Proof.In
public import proofs.«01_k».proof.Proof.Gen.RefFoxInIdeal.Read

@[expose] public section

set_option maxRecDepth 8192

noncomputable section

namespace Cert.RefFoxInIdeal.At

open Idealize.ShloMosaic Idealize.ShloMosaic.ValueIdx
open Cert.RefFoxInIdeal Cert.RefFoxInIdeal.Gen Cert.RefFoxInIdeal.Read Cert.In
open scoped BigOperators

variable {x0 : FVec Ideal S4096x1024 .f32} {x1 : FVec Ideal S1024 .f32} {x2 x3 : FVec Ideal S1x1024 .f32} {x4 : FVec Ideal S1024x4224 .f32} {x5 : FVec Ideal S4096x4224 .f32}
  {X W G : ℕ → ℕ → EReal} {nw sc sh : ℕ → EReal}

/-- The reciprocal of the root of each row's mean square. -/
theorem v8_at (hX : Has x0 X) : Has (val_main_v8 (F := Ideal) x0) (fun a _ => rinv X a) := by
  intro i
  rw [val_main_v8_apply, val_main_v7_apply, val_main_v6_apply, val_main_v4_apply, val_main_v2_apply, val_main_v1_apply]
  show Ideal.rsqrt (Ideal.div (Ideal.ofBits .f32 0x00000000#32 + _) (Ideal.ofBits .f32 0x44800000#32) + Ideal.ofBits .f32 0x358637BD#32) = _
  rw [zero_f32, zero_add]
  beta_reduce
  unfold rinv
  rw [Finset.sum_range]
  congr 3
  refine Finset.sum_congr rfl fun k _ => ?_
  rw [val_main_v0_apply, hX]
  rfl

/-- The normed rows. -/
theorem v18_at (hX : Has x0 X) (hn : ∀ i, x1 i = nw (i 0).val) (hs : Has x2 (fun _ b => sc b)) (hh : Has x3 (fun _ b => sh b)) :
    Has (val_main_v18 (F := Ideal) x0 x1 x2 x3) (hid X nw sc sh) := by
  intro i
  rw [val_main_v18_apply, val_main_v16_apply, val_main_v12_apply, val_main_v9_apply, v8_at hX, val_main_v11_apply, val_main_v10_apply,
    val_main_v15_apply, val_main_v14_apply, val_main_v17_apply, hX, hn, hs, hh]
  rfl

/-- The projection. -/
theorem v19_at (hX : Has x0 X) (hn : ∀ i, x1 i = nw (i 0).val) (hs : Has x2 (fun _ b => sc b)) (hh : Has x3 (fun _ b => sh b)) (hW : Has x4 W) :
    Has (val_main_v19 (F := Ideal) x0 x1 x2 x3 x4) (rowCol 1024 (hid X nw sc sh) W) := by
  intro i
  rw [val_main_v19_apply]
  unfold rowCol
  rw [Finset.sum_range]
  refine Finset.sum_congr rfl fun k _ => ?_
  rw [v18_at hX hn hs hh, hW]

/-- The gradient of the weight. -/
theorem v21_at (hX : Has x0 X) (hn : ∀ i, x1 i = nw (i 0).val) (hs : Has x2 (fun _ b => sc b)) (hh : Has x3 (fun _ b => sh b)) (hG : Has x5 G) :
    Has (val_main_v21 (F := Ideal) x0 x1 x2 x3 x5) (colCol 4096 (hid X nw sc sh) G) := by
  intro i
  rw [val_main_v21_apply, val_main_v20_apply]
  unfold colCol
  rw [Finset.sum_range]
  refine Finset.sum_congr rfl fun k _ => ?_
  rw [v18_at hX hn hs hh, hG, mul_comm]

end Cert.RefFoxInIdeal.At

end
-- ==== Proof.FoxAlgebraic.lean ====
/- The forgetting-attention input projection and the gradient of its weight: kernel and reference compute the same. -/
module

public import proofs.«01_k».proof.Defs
public import proofs.«01_k».proof.Proof.FoxVal
public import proofs.«01_k».proof.Proof.FoxRef
public import proofs.«01_k».proof.Proof.Gen.FoxInIdeal

@[expose] public section

set_option maxRecDepth 8192

noncomputable section

namespace Cert.FoxInIdeal.Val

open Idealize.ShloMosaic hiding ix1 ix2
open Idealize.ShloMosaic.TcCoe Idealize.ShloMosaic.ValueIdx Idealize.ShloMosaic.Tactic
open Cert.FoxInIdeal Cert.FoxInIdeal.Gen Cert.FoxInIdeal.Run Cert.In

section
variable (m : (ℓ : Loc nD τ sig) → Buf (Elt Ideal) ℓ) (ρ : Dev nD → PrngReg) (c : Dev nD)
variable {X W G : ℕ → ℕ → EReal} {nw sc sh : ℕ → EReal}

/-- The norm's weight as the call reads it: one row. -/
theorem V1_n (hn : ∀ i : S1024.Idx, (m (c.tc.loc main_arg1)) i = nw (i 0).val) : Has (R := 1) (C := 1024) (V1 m ρ c main_v0) (fun _ b => nw b) := by
  have e : V1 m ρ c main_v0 = broadcastInDim S1x1024 ![1] bcast_S1024_S1x1024_1 (m (c.tc.loc main_arg1)) := by
    show StableHlo.after hostOps0 (W0 m ρ c) _ = _
    after_results
  rw [e]
  refine Has.of fun a b => ?_
  refine (broadcastInDim_apply _ bcast_S1024_S1x1024_1 _ (ix2 a b) (ix1 b) (fun z => ?_)).trans (hn _)
  match z with
  | ⟨0, _⟩ => show b.val = if (1024 : Nat) = 1 then 0 else b.val; rw [if_neg (by decide)]

/-- The weight as the call reads it: narrowed, its entries kept. -/
theorem V1_W (hW : Has (R := 1024) (C := 4224) (m (c.tc.loc main_arg4)) W) : Has (R := 1024) (C := 4224) (V1 m ρ c main_v1) W := by
  have e : V1 m ρ c main_v1 = truncf (F := Ideal) .bf16 (m (c.tc.loc main_arg4)) bitsLt_bf16_f32 := by
    show StableHlo.after hostOps0 (W0 m ρ c) _ = _
    after_results
  rw [e]
  exact hW

variable (hX : Has (R := 4096) (C := 1024) (m (c.tc.loc main_arg0)) X) (hn : ∀ i : S1024.Idx, (m (c.tc.loc main_arg1)) i = nw (i 0).val)
  (hs : Has (R := 1) (C := 1024) (m (c.tc.loc main_arg2)) (fun _ b => sc b)) (hh : Has (R := 1) (C := 1024) (m (c.tc.loc main_arg3)) (fun _ b => sh b))
include hX hn hs hh

theorem V1_x : Has (R := 4096) (C := 1024) (V1 m ρ c main_arg0) X := by rw [show V1 m ρ c main_arg0 = _ from W1_args m ρ c main_arg0 (by decide)]; exact hX
theorem V1_s : Has (R := 1) (C := 1024) (V1 m ρ c main_arg2) (fun _ b => sc b) := by rw [show V1 m ρ c main_arg2 = _ from W1_args m ρ c main_arg2 (by decide)]; exact hs
theorem V1_h : Has (R := 1) (C := 1024) (V1 m ρ c main_arg3) (fun _ b => sh b) := by rw [show V1 m ρ c main_arg3 = _ from W1_args m ρ c main_arg3 (by decide)]; exact hh

/-- The projection at the end of the program. -/
theorem res_proj (hW : Has (R := 1024) (C := 4224) (m (c.tc.loc main_arg4)) W) :
    Has (R := 4096) (C := 4224) (W3 m ρ c main_v2_0) (rowCol 1024 (hid X nw sc sh) W) := by
  have e := (W3_of m ρ c main_v2_0 (by decide)).trans (W2_arr m ρ c 5)
  exact fun i => (congrFun e i).trans (arr0_5 (V1 m ρ) c (V1_x m ρ c hX hn hs hh) (V1_n m ρ c hn) (V1_s m ρ c hX hn hs hh) (V1_h m ρ c hX hn hs hh) (V1_W m ρ c hW) i)

/-- The gradient of the weight at the end of the program. -/
theorem res_dW (hG : Has (R := 4096) (C := 4224) (m (c.tc.loc main_arg5)) G) :
    Has (R := 1024) (C := 4224) (W3 m ρ c main_v3) (colCol 4096 (hid X nw sc sh) G) := by
  have e6 := W2_arr m ρ c 6
  have h6 : Has (R := 4096) (C := 1024) (V2 m ρ c main_v2_1) (hid X nw sc sh) := fun i => (congrFun e6 i).trans
    (arr0_6 (V1 m ρ) c (V1_x m ρ c hX hn hs hh) (V1_n m ρ c hn) (V1_s m ρ c hX hn hs hh) (V1_h m ρ c hX hn hs hh) i)
  have h5 : Has (R := 4096) (C := 4224) (V2 m ρ c main_arg5) G := by
    rw [show V2 m ρ c main_arg5 = _ from W2_args m ρ c main_arg5 (by decide)]; exact hG
  exact fun i => (congrFun (W3_arr m ρ c 2) i).trans (arr1_2 (V2 m ρ) c h6 h5 i)
end

end Cert.FoxInIdeal.Val

namespace Cert.FoxAlgebraic

open Idealize.ShloMosaic hiding ix1 ix2
open Idealize.ShloMosaic.TcCoe Idealize.ShloMosaic.ValueIdx Idealize.SL.Sem
open Cert.In

attribute [local instance] Cert.FoxInIdeal.Gen.facts Cert.RefFoxInIdeal.Gen.facts

open Cert.FoxInIdeal Cert.RefFoxInIdeal.Read

/-- The reference's results are the kernel program's, device by device. -/
theorem results (m : (ℓ : Loc nD τ sig) → Buf (Elt Ideal) ℓ) (g : Dev nD → PrngReg) (c : Dev nD) :
    val_main_v19 (F := Ideal) (m (c.tc.loc main_arg0)) (m (c.tc.loc main_arg1)) (m (c.tc.loc main_arg2)) (m (c.tc.loc main_arg3)) (m (c.tc.loc main_arg4))
        = Run.W3 m g c main_v2_0
    ∧ val_main_v21 (F := Ideal) (m (c.tc.loc main_arg0)) (m (c.tc.loc main_arg1)) (m (c.tc.loc main_arg2)) (m (c.tc.loc main_arg3)) (m (c.tc.loc main_arg5))
        = Run.W3 m g c main_v3 := by
  obtain ⟨X, hX⟩ := exists_has (R := 4096) (C := 1024) (m (c.tc.loc main_arg0))
  obtain ⟨nw, hn⟩ := exists_row (C := 1024) (m (c.tc.loc main_arg1))
  obtain ⟨sc, hs⟩ := exists_one (C := 1024) (m (c.tc.loc main_arg2))
  obtain ⟨sh, hh⟩ := exists_one (C := 1024) (m (c.tc.loc main_arg3))
  obtain ⟨W, hW⟩ := exists_has (R := 1024) (C := 4224) (m (c.tc.loc main_arg4))
  obtain ⟨G, hG⟩ := exists_has (R := 4096) (C := 4224) (m (c.tc.loc main_arg5))
  exact ⟨(Cert.RefFoxInIdeal.At.v19_at hX hn hs hh hW).eq (Cert.FoxInIdeal.Val.res_proj m g c hX hn hs hh hW),
    (Cert.RefFoxInIdeal.At.v21_at hX hn hs hh hG).eq (Cert.FoxInIdeal.Val.res_dW m g c hX hn hs hh hG)⟩

/-- Kernel and reference end with equal results, the arguments unchanged. -/
theorem algebraic : Cert.algebraic_FoxInIdeal_RefFoxInIdeal := by
  intro m g m' g' hp hm
  refine ⟨fun c => Run.W3 m g c main_v2_0, fun c => Run.W3 m g c main_v3, ?_, ?_⟩
  · refine (θ_run defs _ _).mono (fun r h c => ?_) (Run.run_main (F := Ideal) m g)
    have a := fun q hq => h.1 c _ (Run.mem_uc q hq)
    exact ⟨a _ (by decide), a _ (by decide),
      (a _ (by decide)).trans (Run.W3_main_arg0 m g c),
      (a _ (by decide)).trans (Run.W3_main_arg1 m g c),
      (a _ (by decide)).trans (Run.W3_main_arg2 m g c),
      (a _ (by decide)).trans (Run.W3_main_arg3 m g c),
      (a _ (by decide)).trans (Run.W3_main_arg4 m g c),
      (a _ (by decide)).trans (Run.W3_main_arg5 m g c)⟩
  · refine (θ_run Cert.RefFoxInIdeal.defs _ _).mono (fun r h c => ?_) (Cert.RefFoxInIdeal.Value.run (F := Ideal) m' g')
    obtain ⟨e0, e1, e2, e3, e4, e5⟩ := hm c
    obtain ⟨s0, s1⟩ := results m g c
    obtain ⟨h0, h1, h2⟩ := h c
    refine ⟨h0.trans ?_, h1.trans ?_, h2⟩
    · rw [val_main_v19_eq, e0, e1, e2, e3, e4]; exact s0
    · rw [val_main_v21_eq, e0, e1, e2, e3, e5]; exact s1

end Cert.FoxAlgebraic

end
-- ==== Proof.FoxBwdFrames.lean ====
/- The gradients through the forgetting-attention input projection: the frames of the programs. -/
module

public import proofs.«01_k».proof.Defs
public import proofs.«01_k».proof.Proof.Gen.FoxInBwd
public import proofs.«01_k».proof.Proof.Gen.FoxInBwdIdeal.Frame
public import proofs.«01_k».proof.Proof.Gen.RefFoxInBwdIdeal.Run

@[expose] public section

noncomputable section

namespace Cert.FoxBwdFrames

open Idealize.ShloMosaic Idealize.SL.Sem

open Cert.FoxInBwd in
/-- What the frame of the printed kernel says. -/
def Says : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0)

open Cert.FoxInBwdIdeal in
/-- What the frame of the idealized kernel says over bit patterns. -/
def SaysIdeal : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0)

/-- The two say the same: the texts agree. -/
theorem says_eq : Says = SaysIdeal := by sl_kernel_rfl

/-- The printed kernel ends, arguments unchanged and counters at zero. -/
theorem kernel : Cert.quiescent_FoxInBwd := fun m ρ _ =>
  (cast says_eq.symm (fun m ρ => Cert.FoxInBwdIdeal.Gen.frame (F := Bits) m ρ : SaysIdeal) : Says) m ρ

/-- The idealized kernel ends, arguments unchanged and counters at zero. -/
theorem kernelIdeal : Cert.quiescent_FoxInBwdIdeal := fun m ρ _ => Cert.FoxInBwdIdeal.Gen.frame (F := Ideal) m ρ

/-- No operation was rewritten. -/
theorem preserves : Cert.preserves_FoxInBwd_FoxInBwdIdeal := trivial

/-- The reference ends, arguments unchanged and counters at zero. -/
theorem reference : Cert.quiescent_RefFoxInBwdIdeal := fun m ρ _ =>
  (θ_run Cert.RefFoxInBwdIdeal.defs _ _).mono (fun r h => ⟨fun c => (h c).2.2.2.2, sem_eq_zero_of_no_sems (by decide) r.2⟩)
    (Cert.RefFoxInBwdIdeal.Value.run (F := Ideal) m ρ)

end Cert.FoxBwdFrames

end
-- ==== Proof.FoxBwdPoint.lean ====
/- The gradients through the forgetting-attention input projection: what a grid point computes. -/
module

public import proofs.«01_k».proof.Proof.InBwd
public import proofs.«01_k».proof.Proof.Gen.FoxInBwdIdeal.Frame
public import Idealize.ShloMosaic.Lib.Pipeline.ValueKit

@[expose] public section

set_option maxRecDepth 8192

noncomputable section

namespace Cert.FoxInBwdIdeal.Val

open Idealize.ShloMosaic hiding ix2
open Idealize.ShloMosaic.TcCoe Idealize.ShloMosaic.ValueIdx Idealize.ShloMosaic.Tactic
open Idealize.SL Idealize.SL.RA
open Cert.FoxInBwdIdeal Cert.FoxInBwdIdeal.Gen Cert.In
open scoped BigOperators

/-! ## What is computed from tiles -/

section Tiles
variable {x acc : FVec Ideal S1024x1024 .f32} {n s : FVec Ideal S1x1024 .f32} {X d : ℕ → ℕ → EReal} {nw sc : ℕ → EReal}

theorem pay11_has (hx : Has x X) : Has (k0_pay11 (F := Ideal) x) (fun a _ => rms X a) :=
  ((((hx.mul hx).rowSum _ reduces_S1024x1024_S1024 (.inl rfl) rfl shapeCasts_S1024_S1024x1).div (has_splat _)).add (has_splat _))

theorem pay12_has (hx : Has x X) : Has (k0_pay12 (F := Ideal) x) (fun a _ => rinv X a) := (pay11_has hx).rsqrt

theorem pay13_has (hx : Has x X) : Has (k0_pay13 (F := Ideal) x) (xn X) :=
  hx.mul ((pay12_has hx).col broadcasts_S1024x1_S1024x1024)

theorem pay14_has (ha : Has acc d) : Has (k0_pay14 (F := Ideal) acc) d := ha.cast shapeCasts_S1024x1024_S1024x1024

theorem pay15_has (ha : Has acc d) : Has (k0_pay15 (F := Ideal) acc) (fun _ b => dshOf 1024 d b) :=
  ha.colSum _ reduces_S1024x1024_S1024_2 (.inl rfl) rfl shapeCasts_S1024_S1x1024

theorem pay16_has (hx : Has x X) (hn : Has n (fun _ b => nw b)) (ha : Has acc d) :
    Has (k0_pay16 (F := Ideal) x n acc) (fun _ b => dscOf 1024 X d nw b) :=
  (((pay13_has hx).mul ((hn.cast shapeCasts_S1x1024_S1x1024).row broadcasts_S1x1024_S1024x1024)).mul (pay14_has ha)).colSum _ reduces_S1024x1024_S1024_2 (.inl rfl) rfl shapeCasts_S1024_S1x1024

theorem pay17_has (hs : Has s (fun _ b => sc b)) (ha : Has acc d) : Has (k0_pay17 (F := Ideal) s acc) (dy d sc) :=
  (pay14_has ha).mul (((has_splat _).add hs).row broadcasts_S1x1024_S1024x1024)

theorem pay18_has (hx : Has x X) (hs : Has s (fun _ b => sc b)) (ha : Has acc d) :
    Has (k0_pay18 (F := Ideal) x s acc) (fun _ b => dnwOf 1024 X d sc b) :=
  ((pay13_has hx).mul (pay17_has hs ha)).colSum _ reduces_S1024x1024_S1024_2 (.inl rfl) rfl shapeCasts_S1024_S1x1024

theorem pay19_has (hn : Has n (fun _ b => nw b)) (hs : Has s (fun _ b => sc b)) (ha : Has acc d) :
    Has (k0_pay19 (F := Ideal) n s acc) (dv d nw sc) :=
  (pay17_has hs ha).mul ((hn.cast shapeCasts_S1x1024_S1x1024).row broadcasts_S1x1024_S1024x1024)

theorem pay20_has (hx : Has x X) (hn : Has n (fun _ b => nw b)) (hs : Has s (fun _ b => sc b)) (ha : Has acc d) :
    Has (k0_pay20 (F := Ideal) x n s acc) (fun a b => dv d nw sc a b * rinv X a) :=
  (pay19_has hn hs ha).mul ((pay12_has hx).col broadcasts_S1024x1_S1024x1024)

theorem pay21_has (hx : Has x X) (hn : Has n (fun _ b => nw b)) (hs : Has s (fun _ b => sc b)) (ha : Has acc d) :
    Has (k0_pay21 (F := Ideal) x n s acc) (fun a _ => (∑ k ∈ Finset.range 1024, X a k * dv d nw sc a k) * (Ideal.ofBits .f32 0xBF000000#32 * Ideal.div (rinv X a) (rms X a))) :=
  ((hx.mul (pay19_has hn hs ha)).rowSum _ reduces_S1024x1024_S1024 (.inl rfl) rfl shapeCasts_S1024_S1024x1).mul ((has_splat _).mul ((pay12_has hx).div (pay11_has hx)))

theorem pay22_has : Has (k0_pay22 (F := Ideal)) (fun _ _ => Ideal.ofBits .f32 0x44800000#32) := has_splat _

/-- The correction of the mean square, spread over a row. -/
theorem spread_has {u w : FVec Ideal S1024x1 .f32} {f g : ℕ → EReal} (hu : Has u (fun a _ => f a)) (hw : Has w (fun a _ => g a)) :
    Has (broadcastTo S1024x1024 (shapeCast S1024x1 (multiReduction .add [1] S1024 (divf u w) 0x00000000#32 reduces_S1024x1_S1024 (.inl rfl) rfl) shapeCasts_S1024_S1024x1) broadcasts_S1024x1_S1024x1024)
      (fun a _ => Ideal.div (f a) (g a)) :=
  (((hu.div hw).rowSum _ reduces_S1024x1_S1024 (.inl rfl) rfl shapeCasts_S1024_S1024x1).col broadcasts_S1024x1_S1024x1024).congr fun a b _ _ => by
    beta_reduce
    rw [Finset.sum_range_one]

theorem pay6_has {r : FVec Ideal S1024x1024 .f32} {R : ℕ → ℕ → EReal} (hx : Has x X) (hn : Has n (fun _ b => nw b)) (hs : Has s (fun _ b => sc b)) (ha : Has acc d) (hr : Has r R) :
    Has (k0_pay6 (F := Ideal) x (k0_pay20 x n s acc) (k0_pay21 x n s acc) k0_pay22 r) (dxOf X d R nw sc) :=
  hr.add (((pay20_has hx hn hs ha).add (hx.mul (spread_has (pay21_has hx hn hs ha) pay22_has))).add ((spread_has (pay21_has hx hn hs ha) pay22_has).mul hx))

theorem pay7_has {v p : FVec Ideal S1x1024 .f32} {f g : ℕ → EReal} (hv : Has v (fun _ b => f b)) (hp : Has p (fun _ b => g b)) :
    Has (k0_pay7 (F := Ideal) v p) (fun _ b => g b + f b) := (hp.cast shapeCasts_S1x1024_S1x1024).add hv
theorem pay8_has {v p : FVec Ideal S1x1024 .f32} {f g : ℕ → EReal} (hv : Has v (fun _ b => f b)) (hp : Has p (fun _ b => g b)) :
    Has (k0_pay8 (F := Ideal) v p) (fun _ b => g b + f b) := (hp.cast shapeCasts_S1x1024_S1x1024).add hv
theorem pay9_has {v p : FVec Ideal S1x1024 .f32} {f g : ℕ → EReal} (hv : Has v (fun _ b => f b)) (hp : Has p (fun _ b => g b)) :
    Has (k0_pay9 (F := Ideal) v p) (fun _ b => g b + f b) := (hp.cast shapeCasts_S1x1024_S1x1024).add hv

theorem pay1_zero : Has (k0_pay1 (F := Ideal)) (fun _ _ => 0) := Has.cast (fun i => zero_f32) shapeCasts_S1024x1024_S1024x1024
theorem pay2_zero : Has (k0_pay2 (F := Ideal)) (fun _ _ => 0) := fun i => zero_f32
theorem pay3_zero : Has (k0_pay3 (F := Ideal)) (fun _ _ => 0) := fun i => zero_f32
theorem pay4_zero : Has (k0_pay4 (F := Ideal)) (fun _ _ => 0) := fun i => zero_f32

/-- One tile of columns added to the gradient of the modulated rows. -/
theorem pay5_has {g : FVec Ideal S1024x1408 .f32} {w : FVec Ideal S1024x1408 .bf16} {G W : ℕ → ℕ → EReal} (ha : Has acc d) (hg : Has g G) (hw : Has w W) :
    Has (k0_pay5 (F := Ideal) acc g w) (fun a b => d a b + ∑ k ∈ Finset.range 1408, G a k * W b k) := Has.of fun a b => by
  unfold k0_pay5
  rw [shapeCast_self, shapeCast_self]
  show acc (ix2 a b) + matmul dot_S1024x1408_S1024x1408_S1024x1024_1_1_0_0_n_n none (truncf .bf16 g bitsLt_bf16_f32) w _ (ix2 a b) = _
  rw [ha, Finset.sum_range]
  refine congrArg (d a b + ·) ?_
  refine (Ideal.matmul_transposedRhs_apply none (truncf .bf16 g bitsLt_bf16_f32) w _ a b).trans ?_
  show Ideal.ofBits .f32 0x00000000#32 + _ = _
  rw [zero_f32, zero_add]
  refine Finset.sum_congr rfl fun k _ => ?_
  show g (ix2 a k) * w (ix2 b k) = _
  rw [hg, hw]
end Tiles

/-! ## What a point leaves, from what the one before left -/

variable {F : FTy → Type} [FloatOps F] (m : (ℓ : Loc nD τ sig) → Buf (Elt F) ℓ) (c : Dev nD)

/-- What the point before `t` left. -/
abbrev prev (t : Fin cfg0.N) := outsAt0 m c (t.val - 1) (Nat.lt_of_le_of_lt (Nat.sub_le _ _) t.isLt)

/-- The scratch read back whole is what it holds. -/
theorem read_scratch (v : Vec F S1024x1024 .f32) : View.read (Elt F) (View.whole cc0_scratch0) ((Memref.isWhole_whole cc0_scratch0).unread v) = v :=
  (Memref.isWhole_whole cc0_scratch0).read_unread v

/-- The first point of a tile of rows begins the sum over columns anew. -/
theorem acc_first (t : Fin cfg0.N) (h : t.val % 3 = 0) : (outsAt0 m c t.val t.isLt).2.2.2.2 = k0_pay5 (k0_pay1 (F := F)) (iblk m c 5 t) (iblk m c 4 t) := by
  by_cases h1 : t.val % 12 = 0
  · rw [outsAt0_A m c t h h1 (by omega)]; frame_out
  · rw [outsAt0_D m c t h h1 (by omega)]; frame_out

/-- A later point adds its columns. -/
theorem acc_rest (t : Fin cfg0.N) (h : ¬t.val % 3 = 0) : (outsAt0 m c t.val t.isLt).2.2.2.2 = k0_pay5 (prev m c t).2.2.2.2 (iblk m c 5 t) (iblk m c 4 t) := by
  by_cases h2 : t.val % 3 = 2
  · rw [outsAt0_C m c t h (by omega) h2]; frame_out; rw [read_scratch]
  · rw [outsAt0_B m c t h (by omega) h2]; frame_out; rw [read_scratch]

theorem dnw_first (t : Fin cfg0.N) (h : t.val % 12 = 0) : (outsAt0 m c t.val t.isLt).2.1 = k0_pay2 (F := F) := by
  rw [outsAt0_A m c t (by omega) h (by omega)]; frame_out
theorem dnw_keep (t : Fin cfg0.N) (h : ¬t.val % 12 = 0) (h2 : ¬t.val % 3 = 2) : (outsAt0 m c t.val t.isLt).2.1 = (prev m c t).2.1 := by
  by_cases h0 : t.val % 3 = 0
  · rw [outsAt0_D m c t h0 h h2]; rfl
  · rw [outsAt0_B m c t h0 h h2]; rfl
theorem dnw_last (t : Fin cfg0.N) (h2 : t.val % 3 = 2) :
    (outsAt0 m c t.val t.isLt).2.1 = k0_pay7 (k0_pay18 (iblk m c 0 t) (iblk m c 2 t) (outsAt0 m c t.val t.isLt).2.2.2.2) (prev m c t).2.1 := by
  rw [acc_rest m c t (by omega), outsAt0_C m c t (by omega) (by omega) h2]; frame_out; rw [read_scratch]
theorem dsc_first (t : Fin cfg0.N) (h : t.val % 12 = 0) : (outsAt0 m c t.val t.isLt).2.2.1 = k0_pay3 (F := F) := by
  rw [outsAt0_A m c t (by omega) h (by omega)]; frame_out
theorem dsc_keep (t : Fin cfg0.N) (h : ¬t.val % 12 = 0) (h2 : ¬t.val % 3 = 2) : (outsAt0 m c t.val t.isLt).2.2.1 = (prev m c t).2.2.1 := by
  by_cases h0 : t.val % 3 = 0
  · rw [outsAt0_D m c t h0 h h2]; rfl
  · rw [outsAt0_B m c t h0 h h2]; rfl
theorem dsc_last (t : Fin cfg0.N) (h2 : t.val % 3 = 2) :
    (outsAt0 m c t.val t.isLt).2.2.1 = k0_pay8 (k0_pay16 (iblk m c 0 t) (iblk m c 1 t) (outsAt0 m c t.val t.isLt).2.2.2.2) (prev m c t).2.2.1 := by
  rw [acc_rest m c t (by omega), outsAt0_C m c t (by omega) (by omega) h2]; frame_out; rw [read_scratch]
theorem dsh_first (t : Fin cfg0.N) (h : t.val % 12 = 0) : (outsAt0 m c t.val t.isLt).2.2.2.1 = k0_pay4 (F := F) := by
  rw [outsAt0_A m c t (by omega) h (by omega)]; frame_out
theorem dsh_keep (t : Fin cfg0.N) (h : ¬t.val % 12 = 0) (h2 : ¬t.val % 3 = 2) : (outsAt0 m c t.val t.isLt).2.2.2.1 = (prev m c t).2.2.2.1 := by
  by_cases h0 : t.val % 3 = 0
  · rw [outsAt0_D m c t h0 h h2]; rfl
  · rw [outsAt0_B m c t h0 h h2]; rfl
theorem dsh_last (t : Fin cfg0.N) (h2 : t.val % 3 = 2) :
    (outsAt0 m c t.val t.isLt).2.2.2.1 = k0_pay9 (k0_pay15 (outsAt0 m c t.val t.isLt).2.2.2.2) (prev m c t).2.2.2.1 := by
  rw [acc_rest m c t (by omega), outsAt0_C m c t (by omega) (by omega) h2]; frame_out; rw [read_scratch]
/-- The last point of a tile of rows writes the tile's gradient. -/
theorem dx_last (t : Fin cfg0.N) (h2 : t.val % 3 = 2) :
    (outsAt0 m c t.val t.isLt).1 = k0_pay6 (iblk m c 0 t) (k0_pay20 (iblk m c 0 t) (iblk m c 1 t) (iblk m c 2 t) (outsAt0 m c t.val t.isLt).2.2.2.2)
      (k0_pay21 (iblk m c 0 t) (iblk m c 1 t) (iblk m c 2 t) (outsAt0 m c t.val t.isLt).2.2.2.2) (k0_pay22 (F := F)) (iblk m c 6 t) := by
  rw [acc_rest m c t (by omega), outsAt0_C m c t (by omega) (by omega) h2]; frame_out; rw [read_scratch]

end Cert.FoxInBwdIdeal.Val

end
-- ==== Proof.FoxBwdVal.lean ====
/- The gradients through the forgetting-attention input projection: what the call leaves in its arrays. -/
module

public import proofs.«01_k».proof.Proof.FoxBwdPoint

@[expose] public section

set_option maxRecDepth 8192

noncomputable section

namespace Cert.FoxInBwdIdeal.Val

open Idealize.ShloMosaic hiding ix2
open Idealize.ShloMosaic.TcCoe Idealize.ShloMosaic.ValueIdx Idealize.ShloMosaic.Tactic
open Idealize.SL Idealize.SL.RA
open Cert.FoxInBwdIdeal Cert.FoxInBwdIdeal.Gen Cert.In
open scoped BigOperators

variable (m : (ℓ : Loc nD τ sig) → Buf (Elt Ideal) ℓ) (c : Dev nD)
variable {X R W G : ℕ → ℕ → EReal} {nw sc : ℕ → EReal}

theorem idx0_0 : ∀ t : Fin cfg0.N, win0_0.index t = ![t.val / 3, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_4 : ∀ t : Fin cfg0.N, win0_4.index t = ![0, t.val % 3] := (by decide +kernel : ∀ t : Fin grid0.N, _)
theorem idx0_5 : ∀ t : Fin cfg0.N, win0_5.index t = ![t.val / 3, t.val % 3] := (by decide +kernel : ∀ t : Fin grid0.N, _)
theorem idx0_6 : ∀ t : Fin cfg0.N, win0_6.index t = ![t.val / 3, 0] := (by decide +kernel : ∀ t : Fin grid0.N, _)
theorem idx0_7 : ∀ t : Fin cfg0.N, win0_7.index t = ![t.val / 3, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)

/-! ## The tiles a point reads -/

theorem blk0_0 (h : Has (R := 4096) (C := 1024) (V m c main_arg0) X) (t : Fin cfg0.N) :
    Has (R := 1024) (C := 1024) (iblk (F := Ideal) m c 0 t) (fun a b => X (1024 * (t.val / 3) + a) b) := Has.of fun a b => by
  blk_simp [iblk]
  refine (h _).trans ?_
  blk_simp [idx0_0 t]
  congr 1 <;> first | rfl | (simp; omega)
theorem blk0_1 (h : Has (R := 1) (C := 1024) (V m c main_v0) (fun _ b => nw b)) (t : Fin cfg0.N) :
    Has (R := 1) (C := 1024) (iblk (F := Ideal) m c 1 t) (fun _ b => nw b) := Has.of fun a b => by
  blk_simp [iblk]
  refine (h _).trans ?_
  blk_simp [idx0_1 t]
theorem blk0_2 (h : Has (R := 1) (C := 1024) (V m c main_arg2) (fun _ b => sc b)) (t : Fin cfg0.N) :
    Has (R := 1) (C := 1024) (iblk (F := Ideal) m c 2 t) (fun _ b => sc b) := Has.of fun a b => by
  blk_simp [iblk]
  refine (h _).trans ?_
  blk_simp [idx0_2 t]
theorem blk0_4 (h : Has (R := 1024) (C := 4224) (V m c main_v1) W) (t : Fin cfg0.N) :
    Has (R := 1024) (C := 1408) (iblk (F := Ideal) m c 4 t) (fun a b => W a (1408 * (t.val % 3) + b)) := Has.of fun a b => by
  blk_simp [iblk]
  refine (h _).trans ?_
  blk_simp [idx0_4 t]
  congr 1 <;> first | rfl | (simp; omega)
theorem blk0_5 (h : Has (R := 4096) (C := 4224) (V m c main_arg5) G) (t : Fin cfg0.N) :
    Has (R := 1024) (C := 1408) (iblk (F := Ideal) m c 5 t) (fun a b => G (1024 * (t.val / 3) + a) (1408 * (t.val % 3) + b)) := Has.of fun a b => by
  blk_simp [iblk]
  refine (h _).trans ?_
  blk_simp [idx0_5 t]
  congr 1 <;> first | rfl | (simp; omega)
theorem blk0_6 (h : Has (R := 4096) (C := 1024) (V m c main_arg6) R) (t : Fin cfg0.N) :
    Has (R := 1024) (C := 1024) (iblk (F := Ideal) m c 6 t) (fun a b => R (1024 * (t.val / 3) + a) b) := Has.of fun a b => by
  blk_simp [iblk]
  refine (h _).trans ?_
  blk_simp [idx0_6 t]
  congr 1 <;> first | rfl | (simp; omega)

/-! ## The gradient of the modulated rows -/

section Acc
variable (hW : Has (R := 1024) (C := 4224) (V m c main_v1) W) (hG : Has (R := 4096) (C := 4224) (V m c main_arg5) G)
include hW hG

/-- The tiles of columns gathered so far. -/
theorem accAt_has : ∀ (n : ℕ) (h : n < cfg0.N), Has (R := 1024) (C := 1024) (outsAt0 (F := Ideal) m c n h).2.2.2.2
    (fun a b => rowRow (1408 * (n % 3 + 1)) G W (1024 * (n / 3) + a) b) := by
  intro n
  induction n with
  | zero =>
    intro h
    have e := acc_first (F := Ideal) m c ⟨0, h⟩ rfl
    dsimp only at e
    rw [e]
    refine (pay5_has pay1_zero (blk0_5 m c hG ⟨0, h⟩) (blk0_4 m c hW ⟨0, h⟩)).congr fun a b _ _ => ?_
    dsimp only
    rw [zero_add]
    unfold rowRow
    refine Finset.sum_congr rfl fun k _ => ?_
    congr 2 <;> simp
  | succ n ih =>
    intro h
    by_cases h0 : (n + 1) % 3 = 0
    · have e := acc_first (F := Ideal) m c ⟨n + 1, h⟩ h0
      dsimp only at e
      rw [e]
      refine (pay5_has pay1_zero (blk0_5 m c hG ⟨n + 1, h⟩) (blk0_4 m c hW ⟨n + 1, h⟩)).congr fun a b _ _ => ?_
      dsimp only
      rw [zero_add, h0]
      unfold rowRow
      refine Finset.sum_congr rfl fun k _ => ?_
      congr 2 <;> simp
    · have e := acc_rest (F := Ideal) m c ⟨n + 1, h⟩ h0
      dsimp only [prev, Nat.add_sub_cancel] at e
      rw [e]
      refine (pay5_has (ih (by omega)) (blk0_5 m c hG ⟨n + 1, h⟩) (blk0_4 m c hW ⟨n + 1, h⟩)).congr fun a b _ _ => ?_
      dsimp only
      rw [show (n + 1) % 3 = n % 3 + 1 by omega, show (n + 1) / 3 = n / 3 by omega]
      exact rowRow_tile 1408 (n % 3 + 1) G W (1024 * (n / 3) + a) b

/-- At the last point of a tile of rows every column is in. -/
theorem accLast_has (t : Fin cfg0.N) (h : t.val % 3 = 2) : Has (R := 1024) (C := 1024) (outsAt0 (F := Ideal) m c t.val t.isLt).2.2.2.2
    (fun a b => rowRow 4224 G W (1024 * (t.val / 3) + a) b) := by
  refine (accAt_has m c hW hG t.val t.isLt).congr fun a b _ _ => ?_
  beta_reduce
  rw [h]
end Acc

/-! ## The gradients of the rows -/

section Rows
variable (hX : Has (R := 4096) (C := 1024) (V m c main_arg0) X) (hn : Has (R := 1) (C := 1024) (V m c main_v0) (fun _ b => nw b))
  (hs : Has (R := 1) (C := 1024) (V m c main_arg2) (fun _ b => sc b)) (hW : Has (R := 1024) (C := 4224) (V m c main_v1) W)
  (hG : Has (R := 4096) (C := 4224) (V m c main_arg5) G)

section
include hX hs hW hG

/-- The gradient of the norm's weight, from the tiles of rows done so far. -/
theorem dnwAt_has : ∀ (n : ℕ) (h : n < cfg0.N), Has (R := 1) (C := 1024) (outsAt0 (F := Ideal) m c n h).2.1
    (fun _ b => dnwOf (1024 * ((n + 1) / 3)) X (rowRow 4224 G W) sc b) := by
  intro n
  induction n with
  | zero =>
    intro h
    have e := dnw_first (F := Ideal) m c ⟨0, h⟩ rfl
    dsimp only at e
    rw [e]
    exact pay2_zero
  | succ n ih =>
    intro h
    have hN : n + 1 < 12 := Nat.lt_of_lt_of_eq h N_0
    by_cases h2 : (n + 1) % 3 = 2
    · have e := dnw_last (F := Ideal) m c ⟨n + 1, h⟩ h2
      dsimp only [prev, Nat.add_sub_cancel] at e
      rw [e]
      refine (pay7_has (pay18_has (blk0_0 m c hX ⟨n + 1, h⟩) (blk0_2 m c hs ⟨n + 1, h⟩) (accLast_has m c hW hG ⟨n + 1, h⟩ h2)) (ih (by omega))).congr fun a b _ _ => ?_
      dsimp only
      rw [show (n + 1) / 3 = n / 3 by omega, show (n + 1 + 1) / 3 = n / 3 + 1 by omega]
      exact dnwOf_tile (n / 3) X (rowRow 4224 G W) sc b
    · have e := dnw_keep (F := Ideal) m c ⟨n + 1, h⟩ (by dsimp only; omega) h2
      dsimp only [prev, Nat.add_sub_cancel] at e
      rw [e]
      refine (ih (by omega)).congr fun a b _ _ => ?_
      beta_reduce
      rw [show (n + 1 + 1) / 3 = (n + 1) / 3 by omega]

/-- The gradient of the norm's weight after the call. -/
theorem arr_dnw : Has (R := 1) (C := 1024) ((dats m 0 c).arrAt 8 cfg0.N) (fun _ b => dnwOf 4096 X (rowRow 4224 G W) sc b) := by
  refine congrFun ((dats m 0 c).arrAt_eq_of_covers 8 (fun i : S1x1024.Idx => dnwOf 4096 X (rowRow 4224 G W) sc (i 1).val) (by decide +kernel) fun t hf y => ?_)
  have h3 := (flush0_8 t).mp hf
  blk_simp
  rw [after0_8]
  refine (dnwAt_has m c hX hs hW hG t.val t.isLt y).trans ?_
  beta_reduce
  rw [show (t.val + 1) / 3 = 4 by have := Nat.lt_of_lt_of_eq t.isLt N_0; omega]
  blk_simp [idx0_8 t]
end

section
include hX hn hW hG

/-- The gradient of the scale, from the tiles of rows done so far. -/
theorem dscAt_has : ∀ (n : ℕ) (h : n < cfg0.N), Has (R := 1) (C := 1024) (outsAt0 (F := Ideal) m c n h).2.2.1
    (fun _ b => dscOf (1024 * ((n + 1) / 3)) X (rowRow 4224 G W) nw b) := by
  intro n
  induction n with
  | zero =>
    intro h
    have e := dsc_first (F := Ideal) m c ⟨0, h⟩ rfl
    dsimp only at e
    rw [e]
    exact pay3_zero
  | succ n ih =>
    intro h
    have hN : n + 1 < 12 := Nat.lt_of_lt_of_eq h N_0
    by_cases h2 : (n + 1) % 3 = 2
    · have e := dsc_last (F := Ideal) m c ⟨n + 1, h⟩ h2
      dsimp only [prev, Nat.add_sub_cancel] at e
      rw [e]
      refine (pay8_has (pay16_has (blk0_0 m c hX ⟨n + 1, h⟩) (blk0_1 m c hn ⟨n + 1, h⟩) (accLast_has m c hW hG ⟨n + 1, h⟩ h2)) (ih (by omega))).congr fun a b _ _ => ?_
      dsimp only
      rw [show (n + 1) / 3 = n / 3 by omega, show (n + 1 + 1) / 3 = n / 3 + 1 by omega]
      exact dscOf_tile (n / 3) X (rowRow 4224 G W) nw b
    · have e := dsc_keep (F := Ideal) m c ⟨n + 1, h⟩ (by dsimp only; omega) h2
      dsimp only [prev, Nat.add_sub_cancel] at e
      rw [e]
      refine (ih (by omega)).congr fun a b _ _ => ?_
      beta_reduce
      rw [show (n + 1 + 1) / 3 = (n + 1) / 3 by omega]

/-- The gradient of the scale after the call. -/
theorem arr_dsc : Has (R := 1) (C := 1024) ((dats m 0 c).arrAt 9 cfg0.N) (fun _ b => dscOf 4096 X (rowRow 4224 G W) nw b) := by
  refine congrFun ((dats m 0 c).arrAt_eq_of_covers 9 (fun i : S1x1024.Idx => dscOf 4096 X (rowRow 4224 G W) nw (i 1).val) (by decide +kernel) fun t hf y => ?_)
  have h3 := (flush0_9 t).mp hf
  blk_simp
  rw [after0_9]
  refine (dscAt_has m c hX hn hW hG t.val t.isLt y).trans ?_
  beta_reduce
  rw [show (t.val + 1) / 3 = 4 by have := Nat.lt_of_lt_of_eq t.isLt N_0; omega]
  blk_simp [idx0_9 t]
end

section
include hW hG

/-- The gradient of the shift, from the tiles of rows done so far. -/
theorem dshAt_has : ∀ (n : ℕ) (h : n < cfg0.N), Has (R := 1) (C := 1024) (outsAt0 (F := Ideal) m c n h).2.2.2.1
    (fun _ b => dshOf (1024 * ((n + 1) / 3)) (rowRow 4224 G W) b) := by
  intro n
  induction n with
  | zero =>
    intro h
    have e := dsh_first (F := Ideal) m c ⟨0, h⟩ rfl
    dsimp only at e
    rw [e]
    exact pay4_zero
  | succ n ih =>
    intro h
    have hN : n + 1 < 12 := Nat.lt_of_lt_of_eq h N_0
    by_cases h2 : (n + 1) % 3 = 2
    · have e := dsh_last (F := Ideal) m c ⟨n + 1, h⟩ h2
      dsimp only [prev, Nat.add_sub_cancel] at e
      rw [e]
      refine (pay9_has (pay15_has (accLast_has m c hW hG ⟨n + 1, h⟩ h2)) (ih (by omega))).congr fun a b _ _ => ?_
      dsimp only
      rw [show (n + 1) / 3 = n / 3 by omega, show (n + 1 + 1) / 3 = n / 3 + 1 by omega]
      exact dshOf_tile (n / 3) (rowRow 4224 G W) b
    · have e := dsh_keep (F := Ideal) m c ⟨n + 1, h⟩ (by dsimp only; omega) h2
      dsimp only [prev, Nat.add_sub_cancel] at e
      rw [e]
      refine (ih (by omega)).congr fun a b _ _ => ?_
      beta_reduce
      rw [show (n + 1 + 1) / 3 = (n + 1) / 3 by omega]

/-- The gradient of the shift after the call. -/
theorem arr_dsh : Has (R := 1) (C := 1024) ((dats m 0 c).arrAt 10 cfg0.N) (fun _ b => dshOf 4096 (rowRow 4224 G W) b) := by
  refine congrFun ((dats m 0 c).arrAt_eq_of_covers 10 (fun i : S1x1024.Idx => dshOf 4096 (rowRow 4224 G W) (i 1).val) (by decide +kernel) fun t hf y => ?_)
  have h3 := (flush0_10 t).mp hf
  blk_simp
  rw [after0_10]
  refine (dshAt_has m c hW hG t.val t.isLt y).trans ?_
  beta_reduce
  rw [show (t.val + 1) / 3 = 4 by have := Nat.lt_of_lt_of_eq t.isLt N_0; omega]
  blk_simp [idx0_10 t]
end

/-- The gradient of the residual stream after the call. -/
theorem arr_dx (hX : Has (R := 4096) (C := 1024) (V m c main_arg0) X) (hn : Has (R := 1) (C := 1024) (V m c main_v0) (fun _ b => nw b))
    (hs : Has (R := 1) (C := 1024) (V m c main_arg2) (fun _ b => sc b)) (hW : Has (R := 1024) (C := 4224) (V m c main_v1) W)
    (hG : Has (R := 4096) (C := 4224) (V m c main_arg5) G) (hR : Has (R := 4096) (C := 1024) (V m c main_arg6) R) :
    Has (R := 4096) (C := 1024) ((dats m 0 c).arrAt 7 cfg0.N) (dxOf X (rowRow 4224 G W) R nw sc) := by
  refine congrFun ((dats m 0 c).arrAt_eq_of_covers 7 (fun i : S4096x1024.Idx => dxOf X (rowRow 4224 G W) R nw sc (i 0).val (i 1).val) (by decide +kernel) fun t hf y => ?_)
  have h3 := (flush0_7 t).mp hf
  blk_simp
  rw [after0_7, dx_last (F := Ideal) m c t h3]
  refine (pay6_has (blk0_0 m c hX t) (blk0_1 m c hn t) (blk0_2 m c hs t) (accLast_has m c hW hG t h3) (blk0_6 m c hR t) y).trans ?_
  rw [dxOf_shift X (rowRow 4224 G W) R nw sc (1024 * (t.val / 3))]
  blk_simp [idx0_7 t]
  congr 1 <;> first | rfl | (simp; omega)
end Rows

end Cert.FoxInBwdIdeal.Val

end
-- ==== Proof.FoxBwdRef.lean ====
/- The reference of the gradients through the forgetting-attention input projection, operation by operation. -/
module

public import proofs.«01_k».proof.Proof.InBwd
public import proofs.«01_k».proof.Proof.Gen.RefFoxInBwdIdeal.Read

@[expose] public section

set_option maxRecDepth 8192

noncomputable section

namespace Cert.RefFoxInBwdIdeal.At

open Idealize.ShloMosaic Idealize.ShloMosaic.ValueIdx
open Cert.RefFoxInBwdIdeal Cert.RefFoxInBwdIdeal.Gen Cert.RefFoxInBwdIdeal.Read Cert.In
open scoped BigOperators

variable {x0 x6 : FVec Ideal S4096x1024 .f32} {x1 : FVec Ideal S1024 .f32} {x2 : FVec Ideal S1x1024 .f32} {x4 : FVec Ideal S1024x4224 .f32} {x5 : FVec Ideal S4096x4224 .f32}
  {X R W G : ℕ → ℕ → EReal} {nw sc : ℕ → EReal}

/-- Each row's mean square, and the small constant. -/
theorem v6_at (hX : Has x0 X) : Has (val_main_v6 (F := Ideal) x0) (fun a _ => rms X a) := by
  intro i
  rw [val_main_v6_apply, val_main_v4_apply, val_main_v2_apply, val_main_v1_apply]
  show Ideal.div (Ideal.ofBits .f32 0x00000000#32 + _) (Ideal.ofBits .f32 0x44800000#32) + Ideal.ofBits .f32 0x358637BD#32 = _
  rw [zero_f32, zero_add]
  beta_reduce
  unfold rms
  rw [Finset.sum_range]
  congr 2
  refine Finset.sum_congr rfl fun k _ => ?_
  rw [val_main_v0_apply, hX]
  rfl

/-- The reciprocal of its root. -/
theorem v7_at (hX : Has x0 X) : Has (val_main_v7 (F := Ideal) x0) (fun a _ => rinv X a) := by
  intro i
  rw [val_main_v7_apply, v6_at hX]
  rfl

/-- The derivative of that reciprocal. -/
theorem v10_at (hX : Has x0 X) : Has (val_main_v10 (F := Ideal) x0) (fun a _ => Ideal.ofBits .f32 0xBF000000#32 * Ideal.div (rinv X a) (rms X a)) := by
  intro i
  rw [val_main_v10_apply, val_main_v8_apply, v7_at hX, v6_at hX]
  rfl

/-- The rows over their root mean squares. -/
theorem v12_at (hX : Has x0 X) : Has (val_main_v12 (F := Ideal) x0) (xn X) := by
  intro i
  rw [val_main_v12_apply, val_main_v11_apply, v7_at hX, hX]
  rfl

/-- The gradient of the modulated rows. -/
theorem v23_at (hW : Has x4 W) (hG : Has x5 G) : Has (val_main_v23 (F := Ideal) x4 x5) (rowRow 4224 G W) := by
  intro i
  rw [val_main_v23_apply]
  unfold rowRow
  rw [Finset.sum_range]
  refine Finset.sum_congr rfl fun k _ => ?_
  rw [hG, hW]

theorem col_25 (i : S1x1024.Idx) : (idx_main_v25 i 0).val = (i 1).val := by
  have h0 : (i 0).val < 1 := (i 0).isLt
  show (i 0).val * 1024 + (i 1).val = _
  omega
theorem col_28 (i : S1x1024.Idx) : (idx_main_v28 i 0).val = (i 1).val := col_25 i
theorem col_33 (i : S1x1024.Idx) : (idx_main_v33 i 0).val = (i 1).val := col_25 i

/-- The gradient of the shift. -/
theorem v25_at (hW : Has x4 W) (hG : Has x5 G) : Has (val_main_v25 (F := Ideal) x4 x5) (fun _ b => dshOf 4096 (rowRow 4224 G W) b) := by
  intro i
  rw [val_main_v25_apply, val_main_v24_apply]
  show Ideal.ofBits .f32 0x00000000#32 + _ = _
  rw [zero_f32, zero_add]
  beta_reduce
  unfold dshOf
  rw [Finset.sum_range]
  refine Finset.sum_congr rfl fun k _ => ?_
  rw [v23_at hW hG]
  exact congrArg (rowRow 4224 G W k.val) (col_25 i)

/-- The gradient of the scale. -/
theorem v28_at (hX : Has x0 X) (hn : ∀ i, x1 i = nw (i 0).val) (hW : Has x4 W) (hG : Has x5 G) :
    Has (val_main_v28 (F := Ideal) x0 x1 x4 x5) (fun _ b => dscOf 4096 X (rowRow 4224 G W) nw b) := by
  intro i
  rw [val_main_v28_apply, val_main_v27_apply]
  show Ideal.ofBits .f32 0x00000000#32 + _ = _
  rw [zero_f32, zero_add]
  beta_reduce
  unfold dscOf
  rw [Finset.sum_range]
  refine Finset.sum_congr rfl fun k _ => ?_
  rw [val_main_v26_apply, val_main_v15_apply, v12_at hX, val_main_v14_apply, val_main_v13_apply, v23_at hW hG, hn]
  show xn X k.val (idx_main_v28 i 0).val * nw (idx_main_v28 i 0).val * rowRow 4224 G W k.val (idx_main_v28 i 0).val = _
  rw [col_28]

/-- The gradient of the normed and weighted rows. -/
theorem v30_at (hs : Has x2 (fun _ b => sc b)) (hW : Has x4 W) (hG : Has x5 G) : Has (val_main_v30 (F := Ideal) x2 x4 x5) (dy (rowRow 4224 G W) sc) := by
  intro i
  rw [val_main_v30_apply, v23_at hW hG, val_main_v29_apply, val_main_v17_apply, hs]
  rfl

/-- The gradient of the norm's weight, as one row. -/
theorem v33_at (hX : Has x0 X) (hs : Has x2 (fun _ b => sc b)) (hW : Has x4 W) (hG : Has x5 G) :
    Has (val_main_v33 (F := Ideal) x0 x2 x4 x5) (fun _ b => dnwOf 4096 X (rowRow 4224 G W) sc b) := by
  intro i
  rw [val_main_v33_apply, val_main_v32_apply]
  show Ideal.ofBits .f32 0x00000000#32 + _ = _
  rw [zero_f32, zero_add]
  beta_reduce
  unfold dnwOf
  rw [Finset.sum_range]
  refine Finset.sum_congr rfl fun k _ => ?_
  rw [val_main_v31_apply, v12_at hX, v30_at hs hW hG]
  show xn X k.val (idx_main_v33 i 0).val * dy (rowRow 4224 G W) sc k.val (idx_main_v33 i 0).val = _
  rw [col_33]

/-- The gradient of the norm's weight. -/
theorem v36_at (hX : Has x0 X) (hs : Has x2 (fun _ b => sc b)) (hW : Has x4 W) (hG : Has x5 G) (i : S1024.Idx) :
    val_main_v36 (F := Ideal) x0 x2 x4 x5 i = dnwOf 4096 X (rowRow 4224 G W) sc (i 0).val := by
  rw [val_main_v36_apply]
  show Ideal.ofBits .f32 0x00000000#32 + _ = _
  rw [zero_f32, zero_add, Fin.sum_univ_one, v33_at hX hs hW hG]

/-- The gradient of the rows over their root mean squares. -/
theorem v35_at (hn : ∀ i, x1 i = nw (i 0).val) (hs : Has x2 (fun _ b => sc b)) (hW : Has x4 W) (hG : Has x5 G) :
    Has (val_main_v35 (F := Ideal) x1 x2 x4 x5) (dv (rowRow 4224 G W) nw sc) := by
  intro i
  rw [val_main_v35_apply, v30_at hs hW hG, val_main_v34_apply, val_main_v13_apply, hn]
  rfl

/-- What the mean square passes back. -/
theorem v47_at (hX : Has x0 X) (hn : ∀ i, x1 i = nw (i 0).val) (hs : Has x2 (fun _ b => sc b)) (hW : Has x4 W) (hG : Has x5 G) :
    Has (val_main_v47 (F := Ideal) x0 x1 x2 x4 x5) (fun a _ => corr X (rowRow 4224 G W) nw sc a) := by
  intro i
  rw [val_main_v47_apply, val_main_v46_apply]
  show Ideal.ofBits .f32 0x00000000#32 + _ = _
  rw [zero_f32, zero_add, Fin.sum_univ_one, val_main_v45_apply, val_main_v43_apply, v10_at hX, val_main_v39_apply, val_main_v38_apply]
  show Ideal.div ((Ideal.ofBits .f32 0x00000000#32 + _) * _) (Ideal.ofBits .f32 0x44800000#32) = _
  rw [zero_f32, zero_add]
  beta_reduce
  unfold corr
  rw [Finset.sum_range]
  congr 2
  refine Finset.sum_congr rfl fun k _ => ?_
  rw [val_main_v37_apply, hX, v35_at hn hs hW hG]
  have e : (idx_main_v39 (idx_main_v46 (idx_main_v47 i) 0) 0).val = (i 0).val := by
    show (i 0).val * 1 + 0 = _
    omega
  show X (idx_main_v39 (idx_main_v46 (idx_main_v47 i) 0) 0).val k.val * dv (rowRow 4224 G W) nw sc (idx_main_v39 (idx_main_v46 (idx_main_v47 i) 0) 0).val k.val = _
  rw [e]

/-- The gradient of the residual stream. -/
theorem v51_at (hX : Has x0 X) (hn : ∀ i, x1 i = nw (i 0).val) (hs : Has x2 (fun _ b => sc b)) (hW : Has x4 W) (hG : Has x5 G) (hR : Has x6 R) :
    Has (val_main_v51 (F := Ideal) x0 x1 x2 x4 x5 x6) (dxOf X (rowRow 4224 G W) R nw sc) := by
  intro i
  rw [val_main_v51_apply, val_main_v49_apply, val_main_v42_apply, val_main_v41_apply, val_main_v40_apply, val_main_v48_apply, val_main_v50_apply,
    v47_at hX hn hs hW hG, v35_at hn hs hW hG, v7_at hX, hX, hR]
  unfold dxOf
  rw [← add_assoc, ← add_assoc]
  rfl

end Cert.RefFoxInBwdIdeal.At

end
-- ==== Proof.FoxBwdAlgebraic.lean ====
/- The gradients through the forgetting-attention input projection: kernel and reference compute the same. -/
module

public import proofs.«01_k».proof.Defs
public import proofs.«01_k».proof.Proof.FoxBwdVal
public import proofs.«01_k».proof.Proof.FoxBwdRef
public import proofs.«01_k».proof.Proof.Gen.FoxInBwdIdeal

@[expose] public section

set_option maxRecDepth 8192

noncomputable section

namespace Cert.FoxInBwdIdeal.Val

open Idealize.ShloMosaic hiding ix1 ix2
open Idealize.ShloMosaic.TcCoe Idealize.ShloMosaic.ValueIdx Idealize.ShloMosaic.Tactic
open Cert.FoxInBwdIdeal Cert.FoxInBwdIdeal.Gen Cert.In

section
variable (m : (ℓ : Loc nD τ sig) → Buf (Elt Ideal) ℓ) (c : Dev nD)
variable {X R W G : ℕ → ℕ → EReal} {nw sc : ℕ → EReal}

/-- The norm's weight as the call reads it: one row. -/
theorem V_n (hn : ∀ i : S1024.Idx, (m (c.tc.loc main_arg1)) i = nw (i 0).val) : Has (R := 1) (C := 1024) (V m c main_v0) (fun _ b => nw b) := by
  have e : V m c main_v0 = broadcastInDim S1x1024 ![1] bcast_S1024_S1x1024_1 (m (c.tc.loc main_arg1)) := by
    show StableHlo.after hostOps0 (fun b => m (c, b)) _ = _
    after_results
  rw [e]
  refine Has.of fun a b => ?_
  refine (broadcastInDim_apply _ bcast_S1024_S1x1024_1 _ (ix2 a b) (ix1 b) (fun z => ?_)).trans (hn _)
  match z with
  | ⟨0, _⟩ => show b.val = if (1024 : Nat) = 1 then 0 else b.val; rw [if_neg (by decide)]

/-- The weight as the call reads it: narrowed, its entries kept. -/
theorem V_W (hW : Has (R := 1024) (C := 4224) (m (c.tc.loc main_arg4)) W) : Has (R := 1024) (C := 4224) (V m c main_v1) W := by
  have e : V m c main_v1 = truncf (F := Ideal) .bf16 (m (c.tc.loc main_arg4)) bitsLt_bf16_f32 := by
    show StableHlo.after hostOps0 (fun b => m (c, b)) _ = _
    after_results
  rw [e]
  exact hW

/-- The gradient of the norm's weight at the end of the program: the row the call leaves, as a vector. -/
theorem tail_v3 : Pipeline.afterTail₀ cfgs (dats m) 0 (V0 m) [hostOps1] c main_v3
    = shapeCast S1024 ((dats m 0 c).arrAt 8 cfg0.N) shapeCasts_S1x1024_S1024 := by
  have e8 : Pipeline.withArrays (cfgs 0).spec c (V0 m c) (fun w => (dats m 0 c).arrAt w (cfgs 0).N) (Proc.devRef .tc main_v2_1) = (dats m 0 c).arrAt 8 cfg0.N :=
    Pipeline.withArrays_arr spec0 launch0.win.arr_inj c _ _ 8
  rw [← e8]
  show StableHlo.after hostOps1 _ _ = _
  after_results
  rfl

theorem row_of {v : FVec Ideal S1x1024 .f32} {f : ℕ → EReal} (h : Has v (fun _ b => f b)) (i : S1024.Idx) :
    shapeCast S1024 v shapeCasts_S1x1024_S1024 i = f (i 0).val :=
  (shapeCast_apply v shapeCasts_S1x1024_S1024 i (ix2 (0 : Fin 1) (⟨(i 0).val, (i 0).isLt⟩ : Fin 1024))
    (by rewrite [Shape.rowMajor_val_one, Shape.rowMajor_val_two]; show 0 * 1024 + (i 0).val = (i 0).val; omega)).trans (h _)
end

end Cert.FoxInBwdIdeal.Val

namespace Cert.FoxBwdAlgebraic

open Idealize.ShloMosaic hiding ix1 ix2
open Idealize.ShloMosaic.TcCoe Idealize.ShloMosaic.ValueIdx Idealize.SL.Sem
open Cert.In

attribute [local instance] Cert.FoxInBwdIdeal.Gen.facts Cert.RefFoxInBwdIdeal.Gen.facts

open Cert.FoxInBwdIdeal Cert.RefFoxInBwdIdeal.Read

/-- The reference's results are the kernel program's, device by device. -/
theorem results (m : (ℓ : Loc nD τ sig) → Buf (Elt Ideal) ℓ) (c : Dev nD) :
    val_main_v51 (F := Ideal) (m (c.tc.loc main_arg0)) (m (c.tc.loc main_arg1)) (m (c.tc.loc main_arg2)) (m (c.tc.loc main_arg4)) (m (c.tc.loc main_arg5)) (m (c.tc.loc main_arg6))
        = (Gen.dats m 0 c).arrAt 7 cfg0.N
    ∧ val_main_v36 (F := Ideal) (m (c.tc.loc main_arg0)) (m (c.tc.loc main_arg2)) (m (c.tc.loc main_arg4)) (m (c.tc.loc main_arg5))
        = Pipeline.afterTail₀ cfgs (Gen.dats m) 0 (Gen.V0 m) [Gen.hostOps1] c main_v3
    ∧ val_main_v28 (F := Ideal) (m (c.tc.loc main_arg0)) (m (c.tc.loc main_arg1)) (m (c.tc.loc main_arg4)) (m (c.tc.loc main_arg5))
        = (Gen.dats m 0 c).arrAt 9 cfg0.N
    ∧ val_main_v25 (F := Ideal) (m (c.tc.loc main_arg4)) (m (c.tc.loc main_arg5))
        = (Gen.dats m 0 c).arrAt 10 cfg0.N := by
  obtain ⟨X, hX⟩ := exists_has (R := 4096) (C := 1024) (m (c.tc.loc main_arg0))
  obtain ⟨n, hn⟩ := exists_row (C := 1024) (m (c.tc.loc main_arg1))
  obtain ⟨s, hs⟩ := exists_one (C := 1024) (m (c.tc.loc main_arg2))
  obtain ⟨W, hW⟩ := exists_has (R := 1024) (C := 4224) (m (c.tc.loc main_arg4))
  obtain ⟨G, hG⟩ := exists_has (R := 4096) (C := 4224) (m (c.tc.loc main_arg5))
  obtain ⟨R, hR⟩ := exists_has (R := 4096) (C := 1024) (m (c.tc.loc main_arg6))
  have kX : Has (R := 4096) (C := 1024) (Gen.V m c main_arg0) X := by rw [Gen.V_main_arg0 m c]; exact hX
  have ks : Has (R := 1) (C := 1024) (Gen.V m c main_arg2) (fun _ b => s b) := by rw [Gen.V_main_arg2 m c]; exact hs
  have kG : Has (R := 4096) (C := 4224) (Gen.V m c main_arg5) G := by rw [Gen.V_main_arg5 m c]; exact hG
  have kR : Has (R := 4096) (C := 1024) (Gen.V m c main_arg6) R := by rw [Gen.V_main_arg6 m c]; exact hR
  have kn := Cert.FoxInBwdIdeal.Val.V_n m c hn
  have kW := Cert.FoxInBwdIdeal.Val.V_W m c hW
  refine ⟨(Cert.RefFoxInBwdIdeal.At.v51_at hX hn hs hW hG hR).eq (Cert.FoxInBwdIdeal.Val.arr_dx m c kX kn ks kW kG kR), funext fun i => ?_,
    (Cert.RefFoxInBwdIdeal.At.v28_at hX hn hW hG).eq (Cert.FoxInBwdIdeal.Val.arr_dsc m c kX kn kW kG), (Cert.RefFoxInBwdIdeal.At.v25_at hW hG).eq (Cert.FoxInBwdIdeal.Val.arr_dsh m c kW kG)⟩
  rw [Cert.FoxInBwdIdeal.Val.tail_v3 m c]
  exact (Cert.RefFoxInBwdIdeal.At.v36_at hX hs hW hG i).trans (Cert.FoxInBwdIdeal.Val.row_of (Cert.FoxInBwdIdeal.Val.arr_dnw m c kX ks kW kG) i).symm

/-- Kernel and reference end with equal results, the arguments unchanged. -/
theorem algebraic : Cert.algebraic_FoxInBwdIdeal_RefFoxInBwdIdeal := by
  intro m g m' g' hp hm
  refine ⟨fun c => (Gen.dats m 0 c).arrAt 7 cfg0.N,
    fun c => Pipeline.afterTail₀ cfgs (Gen.dats m) 0 (Gen.V0 m) [Gen.hostOps1] c main_v3,
    fun c => (Gen.dats m 0 c).arrAt 9 cfg0.N, fun c => (Gen.dats m 0 c).arrAt 10 cfg0.N, ?_, ?_⟩
  · refine (θ_run defs _ _).mono (fun r h c => ?_) (Gen.run_main (F := Ideal) m g)
    exact ⟨(h c).1 7, (h c).2 main_v3 (Pipeline.mem_restRefs_of _ (by decide) (by decide)), (h c).1 9, (h c).1 10,
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c))),
      ((h c).1 3).trans (((Gen.dats m 0 c).arrAt_in 3 rfl _).trans ((Gen.A_eq m c 3).trans (Gen.V_main_arg3 m c))),
      ((h c).2 main_arg4 (Pipeline.mem_restRefs_of main_arg4 (by decide) (by decide))).trans (Gen.W_main_arg4 m (Gen.dats m) c),
      ((h c).1 5).trans (((Gen.dats m 0 c).arrAt_in 5 rfl _).trans ((Gen.A_eq m c 5).trans (Gen.V_main_arg5 m c))),
      ((h c).1 6).trans (((Gen.dats m 0 c).arrAt_in 6 rfl _).trans ((Gen.A_eq m c 6).trans (Gen.V_main_arg6 m c)))⟩
  · refine (θ_run Cert.RefFoxInBwdIdeal.defs _ _).mono (fun r h c => ?_) (Cert.RefFoxInBwdIdeal.Value.run (F := Ideal) m' g')
    obtain ⟨e0, e1, e2, e3, e4, e5, e6⟩ := hm c
    obtain ⟨s0, s1, s2, s3⟩ := results m c
    obtain ⟨h0, h1, h2, h3, h4⟩ := h c
    refine ⟨h0.trans ?_, h1.trans ?_, h2.trans ?_, h3.trans ?_, h4⟩
    · rw [val_main_v51_eq, e0, e1, e2, e4, e5, e6]; exact s0
    · rw [val_main_v36_eq, e0, e2, e4, e5]; exact s1
    · rw [val_main_v28_eq, e0, e1, e4, e5]; exact s2
    · rw [val_main_v25_eq, e4, e5]; exact s3

end Cert.FoxBwdAlgebraic

end
-- ==== Proof.GdnOutBody.lean ====
/- The two calls of the delta-net output projection, one grid point each: what the body leaves in the blocks it writes, from
   what the blocks it reads hold. -/
module

public import proofs.«01_k».proof.Proof.Gen.GdnOutIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 8192

noncomputable section

namespace Cert.GdnOutIdeal.Run

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Cert.GdnOutIdeal.Gen

variable {F : FTy → Type} [FloatOps F]

local notation "𝕄" => MT nD τ sig Unit (Elt F) ℕ (UR sig nD τ) ℕ

/-- The first row tile of a column tile. -/
abbrev isFirst1 (i : grid1.Coords) : Prop := (Scalar.cmpi .ne (Scalar.extui (Scalar.cmpi .eq (BitVec.ofNat 32 (i 1).val) 0#32)) 0#32) = 1#1

/-- The number added under the root. -/
abbrev eps : F .f32 := Scalar.ofBits .f32 0x358637BD#32

/-- The sixteen heads of a block, normed and gated. -/
def out9 (o z : Vec F S256x2048 .f32) (n : Vec F S1x128 .f32) : FVec F S256x2048 .bf16 :=
  k0_pay26 o z (k0_pay1 n)
    (k0_pay2 o z n) (k0_pay3 o z n)
    (k0_pay6 z (k0_pay1 n) (k0_pay4 o) (k0_pay5 o) eps)
    (k0_pay7 o z (k0_pay1 n))
    (k0_pay8 o z (k0_pay1 n))
    (k0_pay11 z (k0_pay1 n) (k0_pay9 o) (k0_pay10 o) eps)
    (k0_pay12 o z (k0_pay1 n))
    (k0_pay13 o z (k0_pay1 n))
    (k0_pay16 z (k0_pay1 n) (k0_pay14 o) (k0_pay15 o) eps)
    (k0_pay17 o z (k0_pay1 n))
    (k0_pay18 o z (k0_pay1 n))
    (k0_pay21 z (k0_pay1 n) (k0_pay19 o) (k0_pay20 o) eps)
    (k0_pay22 o z (k0_pay1 n))
    (k0_pay23 o z (k0_pay1 n))
    (k0_pay24 o) (k0_pay25 o) eps

/-- Their product with the weight. -/
def out8 (o z : Vec F S256x2048 .f32) (n : Vec F S1x128 .f32) (w : Vec F S2048x1024 .bf16) : FVec F S256x1024 .f32 :=
  k0_pay27 o z (k0_pay1 n)
    (k0_pay2 o z n) (k0_pay3 o z n)
    (k0_pay6 z (k0_pay1 n) (k0_pay4 o) (k0_pay5 o) eps)
    (k0_pay7 o z (k0_pay1 n))
    (k0_pay8 o z (k0_pay1 n))
    (k0_pay11 z (k0_pay1 n) (k0_pay9 o) (k0_pay10 o) eps)
    (k0_pay12 o z (k0_pay1 n))
    (k0_pay13 o z (k0_pay1 n))
    (k0_pay16 z (k0_pay1 n) (k0_pay14 o) (k0_pay15 o) eps)
    (k0_pay17 o z (k0_pay1 n))
    (k0_pay18 o z (k0_pay1 n))
    (k0_pay21 z (k0_pay1 n) (k0_pay19 o) (k0_pay20 o) eps)
    (k0_pay22 o z (k0_pay1 n))
    (k0_pay23 o z (k0_pay1 n))
    (k0_pay24 o) (k0_pay25 o) eps w

/-- The residual stream with the gated product added. -/
def out7 (o z : Vec F S256x2048 .f32) (n : Vec F S1x128 .f32) (w : Vec F S2048x1024 .bf16) (x : Vec F S256x1024 .f32) (g : Vec F S1x1024 .f32) : FVec F S256x1024 .f32 :=
  k0_pay28 o z (k0_pay1 n)
    (k0_pay2 o z n) (k0_pay3 o z n)
    (k0_pay6 z (k0_pay1 n) (k0_pay4 o) (k0_pay5 o) eps)
    (k0_pay7 o z (k0_pay1 n))
    (k0_pay8 o z (k0_pay1 n))
    (k0_pay11 z (k0_pay1 n) (k0_pay9 o) (k0_pay10 o) eps)
    (k0_pay12 o z (k0_pay1 n))
    (k0_pay13 o z (k0_pay1 n))
    (k0_pay16 z (k0_pay1 n) (k0_pay14 o) (k0_pay15 o) eps)
    (k0_pay17 o z (k0_pay1 n))
    (k0_pay18 o z (k0_pay1 n))
    (k0_pay21 z (k0_pay1 n) (k0_pay19 o) (k0_pay20 o) eps)
    (k0_pay22 o z (k0_pay1 n))
    (k0_pay23 o z (k0_pay1 n))
    (k0_pay24 o) (k0_pay25 o) eps w x g

set_option maxHeartbeats 6400000 in
/-- The projection's body: it norms and gates the sixteen heads, keeps them, multiplies them by the weight, keeps the product and adds it, gated, to the residual stream. -/
theorem body0 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x128 .f32) (harg3 : arg3.IsWhole) (arg4 : Memref sig .tc .vmem S2048x1024 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x2048 .bf16) (harg9 : arg9.IsWhole)
    (o z : Vec F S256x2048 .f32) (n : Vec F S1x128 .f32) (w : Vec F S2048x1024 .bf16) (x : Vec F S256x1024 .f32) (g : Vec F S1x1024 .f32) (E : Set ℕ) (K : PUnit → sProp 𝕄) :
    iprop(owns (c : Thread nD τ) arg1 fullShare o ∗ owns (c : Thread nD τ) arg2 fullShare z ∗ owns (c : Thread nD τ) arg3 fullShare n ∗ owns (c : Thread nD τ) arg4 fullShare w ∗ owns (c : Thread nD τ) arg5 fullShare x ∗ owns (c : Thread nD τ) arg6 fullShare g ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare o ∗ owns (c : Thread nD τ) arg2 fullShare z ∗ owns (c : Thread nD τ) arg3 fullShare n ∗ owns (c : Thread nD τ) arg4 fullShare w ∗ owns (c : Thread nD τ) arg5 fullShare x ∗ owns (c : Thread nD τ) arg6 fullShare g ∗ owns (c : Thread nD τ) arg7 fullShare (out7 o z n w x g) ∗ owns (c : Thread nD τ) arg8 fullShare (out8 o z n w) ∗ owns (c : Thread nD τ) arg9 fullShare (out9 o z n)) -∗ K ⟨⟩))
      ⊢ wp Idealize.ShloMosaic.frame (wpE (defs₀ (F := F)) Variants.none (c : Thread nD τ) none) E (cc0_gdn_out_fwd i arg1 harg1 arg2 harg2 arg3 harg3 arg4 harg4 arg5 harg5 arg6 harg6 arg7 harg7 arg8 harg8 arg9 harg9) K := by
  simp only [cc0_gdn_out_fwd_eq_skeleton]; unfold cc0_gdn_out_fwd_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_full]
    repeat first | rw [View.readCov_full] | rw [View.readAt_full]
    simp only [Memref.IsWhole.read_unread]
    rfl
  isplitl [H8]
  · iexists _; isplitr; swap; · iexact H8
    ipureintro
    sl_unfold_run_names
    rw [View.read_writes_full]
    repeat first | rw [View.readCov_full] | rw [View.readAt_full]
    simp only [Memref.IsWhole.read_unread]
    rfl
  iexists _; isplitr; swap; · iexact H9
  ipureintro
  sl_unfold_run_names
  rw [View.read_writes_full]
  repeat first | rw [View.readCov_full] | rw [View.readAt_full]
  simp only [Memref.IsWhole.read_unread]
  rfl

set_option maxHeartbeats 1600000 in
/-- The weight gradient's body at the first row tile: its product added to zeros. -/
theorem body1_first (c : Dev nD) (i : grid1.Coords) (arg2 : Memref sig .tc .vmem S1024x2048 .bf16) (harg2 : arg2.IsWhole) (arg3 : Memref sig .tc .vmem S1024x512 .f32) (harg3 : arg3.IsWhole) (arg4 : Memref sig .tc .vmem S2048x512 .f32) (harg4 : arg4.IsWhole) (hc : isFirst1 i)
    (h : Vec F S1024x2048 .bf16) (dp : Vec F S1024x512 .f32) (E : Set ℕ) (K : PUnit → sProp 𝕄) :
    iprop(owns (c : Thread nD τ) arg2 fullShare h ∗ owns (c : Thread nD τ) arg3 fullShare dp ∗ (∃ d, owns (c : Thread nD τ) arg4 fullShare d)
        ∗ (iprop(owns (c : Thread nD τ) arg2 fullShare h ∗ owns (c : Thread nD τ) arg3 fullShare dp ∗ owns (c : Thread nD τ) arg4 fullShare (k1_pay2 k1_pay1 h dp)) -∗ K ⟨⟩))
      ⊢ wp Idealize.ShloMosaic.frame (wpE (defs₀ (F := F)) Variants.none (c : Thread nD τ) none) E (cc1_gdn_dwout i arg2 harg2 arg3 harg3 arg4 harg4) K := by
  simp only [cc1_gdn_dwout_eq_skeleton]; unfold cc1_gdn_dwout_skel
  unfold owns
  iintro ⟨⟨%f2, %hf2, H2⟩, ⟨%f3, %hf3, H3⟩, ⟨%d4, %f4, -, H4⟩, Hk⟩
  obtain rfl := harg2.eq_unread hf2; obtain rfl := harg3.eq_unread hf3
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  sl_unfold_run_names
  rw [View.read_writes_full]
  repeat first | rw [View.readCov_full] | rw [View.readAt_full]
  simp only [Memref.IsWhole.read_unread]

set_option maxHeartbeats 1600000 in
/-- The weight gradient's body at a later row tile: its product added to what is held. -/
theorem body1_rest (c : Dev nD) (i : grid1.Coords) (arg2 : Memref sig .tc .vmem S1024x2048 .bf16) (harg2 : arg2.IsWhole) (arg3 : Memref sig .tc .vmem S1024x512 .f32) (harg3 : arg3.IsWhole) (arg4 : Memref sig .tc .vmem S2048x512 .f32) (harg4 : arg4.IsWhole) (hc : ¬ isFirst1 i)
    (h : Vec F S1024x2048 .bf16) (dp : Vec F S1024x512 .f32) (o : Vec F S2048x512 .f32) (E : Set ℕ) (K : PUnit → sProp 𝕄) :
    iprop(owns (c : Thread nD τ) arg2 fullShare h ∗ owns (c : Thread nD τ) arg3 fullShare dp ∗ owns (c : Thread nD τ) arg4 fullShare o
        ∗ (iprop(owns (c : Thread nD τ) arg2 fullShare h ∗ owns (c : Thread nD τ) arg3 fullShare dp ∗ owns (c : Thread nD τ) arg4 fullShare (k1_pay2 o h dp)) -∗ K ⟨⟩))
      ⊢ wp Idealize.ShloMosaic.frame (wpE (defs₀ (F := F)) Variants.none (c : Thread nD τ) none) E (cc1_gdn_dwout i arg2 harg2 arg3 harg3 arg4 harg4) K := by
  simp only [cc1_gdn_dwout_eq_skeleton]; unfold cc1_gdn_dwout_skel
  unfold owns
  iintro ⟨⟨%f2, %hf2, H2⟩, ⟨%f3, %hf3, H3⟩, ⟨%f4, %hf4, H4⟩, Hk⟩
  obtain rfl := harg2.eq_unread hf2; obtain rfl := harg3.eq_unread hf3; obtain rfl := harg4.eq_unread hf4
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  sl_unfold_run_names
  rw [View.read_writes_full]
  repeat first | rw [View.readCov_full] | rw [View.readAt_full]
  simp only [Memref.IsWhole.read_unread]

end Cert.GdnOutIdeal.Run
end
-- ==== Proof.GdnOutRun0.lean ====
/- The forward call of the delta-net output projection inside the program: its blocks point by point, what each point leaves, and that its body does it. -/
module

public import proofs.«01_k».proof.Proof.GdnOutBody
public import proofs.«01_k».proof.Proof.Gen.GdnOutIdeal.Launch
public import proofs.«01_k».proof.Proof.Gen.GdnOutIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.WordCmp
public import Idealize.ShloMosaic.Lib.ValueIdx
public import Idealize.ShloMosaic.Lib.Pipeline.TableIdle

@[expose] public section

set_option maxRecDepth 16384

noncomputable section

namespace Cert.GdnOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.GdnOutIdeal.Gen

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-- The block of window `w` at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]) t d).trans
    (by unfold Dat.fetched Dat.blockOf iblk0; rw [hA]; rfl)

/-- No block of the projection that the grid reaches is cut at the array's end. -/
theorem clip0_1 : ∀ (t : Fin cfg0.N) a, (cfg0.win 1).clip (cfg0.grid.coords t) a = none :=
  (by decide +kernel : ∀ (t : Fin grid0.N) a, win0_1.clip (grid0.coords t) a = none)
theorem moved0_1 (t : Fin cfg0.N) (j : (cfg0.win 1).block.Idx) : (cfg0.win 1).moved (cfg0.grid.coords t) j = true :=
  ((cfg0.win 1).moved_iff _ j).mpr fun a => by unfold Pipeline.Window.xsize; rw [clip0_1 t a]; exact (j a).isLt
/-- The block of the projection that holds the gates at point `t`, the whole of it. -/
def zblk (c : Dev nD) (t : Fin cfg0.N) : Vec F S256x2048 .f32 :=
  (cfg0.win 1).fill (cfg0.grid.coords t) (fun _ => eps) (iblk0 V c 1 t)
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]

theorem before0_1_of {c : Dev nD} (dat : Dat τ (Elt F) Unit ℕ (UR sig nD τ) ℕ cfg0 c) (hA : dat.A 1 = V c (Pipeline.arrRef spec0 1))
    (hafter : ∀ t, dat.after 1 t = zblk V c t) (t : Fin cfg0.N) (d) : dat.before 1 t d = zblk V c t :=
  (dat.before_in_eq_fetched 1 rfl (fun _ => rfl) (fun t t' _ => funext fun a => (clip0_1 t a).trans (clip0_1 t' a).symm)
      (fun t => by rw [hafter]; unfold zblk; rw [Pipeline.Window.cut_fill]; unfold Dat.blockOf iblk0; rw [hA]) t d).trans
    (by unfold Dat.fetched zblk; rw [fill0_1 t d (fun _ => eps)]; unfold Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]) t d).trans
    (by unfold Dat.fetched Dat.blockOf iblk0; rw [hA]; rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]) t d).trans
    (by unfold Dat.fetched Dat.blockOf iblk0; rw [hA]; rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]) t d).trans
    (by unfold Dat.fetched Dat.blockOf iblk0; rw [hA]; rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]) t d).trans
    (by unfold Dat.fetched Dat.blockOf iblk0; rw [hA]; rfl)

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .bf16 := win0_8.stage (cfg0.slots t 8)
abbrev hs0_8 (t : Fin cfg0.N) : (ms0_8 t).IsWhole := hstage0_8 ((cfg0.slots t 8).cast nbuf0_8)

/-- The pipeline of the call: arrays as found, blocks as the body leaves them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => zblk V c t
    | ⟨2, _⟩ => iblk0 V c 2 t
    | ⟨3, _⟩ => iblk0 V c 3 t
    | ⟨4, _⟩ => iblk0 V c 4 t
    | ⟨5, _⟩ => iblk0 V c 5 t
    | ⟨6, _⟩ => out7 (iblk0 V c 0 t) (zblk V c t) (iblk0 V c 2 t) (iblk0 V c 3 t) (iblk0 V c 4 t) (iblk0 V c 5 t)
    | ⟨7, _⟩ => out8 (iblk0 V c 0 t) (zblk V c t) (iblk0 V c 2 t) (iblk0 V c 3 t)
    | ⟨8, _⟩ => out9 (iblk0 V c 0 t) (zblk V c t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = zblk V c t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out7 (iblk0 V c 0 t) (zblk V c t) (iblk0 V c 2 t) (iblk0 V c 3 t) (iblk0 V c 4 t) (iblk0 V c 5 t) := by dsimp only [dat0]
theorem after0_7 (c : Dev nD) (t : Fin cfg0.N) : (dat0 V c).after 7 t = out8 (iblk0 V c 0 t) (zblk V c t) (iblk0 V c 2 t) (iblk0 V c 3 t) := by dsimp only [dat0]
theorem after0_8 (c : Dev nD) (t : Fin cfg0.N) : (dat0 V c).after 8 t = out9 (iblk0 V c 0 t) (zblk V c t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = zblk V c t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body0 c (grid0.coords t) _ _ _ _ _ _ _ _ _ _ _ _ _ _ _ _ _ _ (iblk0 V c 0 t) (zblk V c t) (iblk0 V c 2 t) (iblk0 V c 3 t) (iblk0 V c 4 t) (iblk0 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.GdnOutIdeal.Run
end
-- ==== Proof.GdnOutRun1.lean ====
/- The weight-gradient call of the delta-net output projection inside the program: its blocks point by point, what each point leaves, and that its body does it. -/
module

public import proofs.«01_k».proof.Proof.GdnOutBody
public import proofs.«01_k».proof.Proof.Gen.GdnOutIdeal.Launch
public import proofs.«01_k».proof.Proof.Gen.GdnOutIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.WordCmp
public import Idealize.ShloMosaic.Lib.ValueIdx
public import Idealize.ShloMosaic.Lib.Pipeline.TableIdle

@[expose] public section

set_option maxRecDepth 16384

noncomputable section

namespace Cert.GdnOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.GdnOutIdeal.Gen

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-- The block of window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]) t d).trans
    (by unfold Dat.fetched Dat.blockOf iblk1; rw [hA]; rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]) t d).trans
    (by unfold Dat.fetched Dat.blockOf iblk1; rw [hA]; rfl)

/-- The first row tile of a column tile. -/
theorem hcond1_0 : ∀ t : Fin cfg1.N, isFirst1 (grid1.coords t) ↔ t.val % 4 = 0 :=
  (fun t => by
    have ht : t.val < 8 := Nat.lt_of_lt_of_eq t.isLt N_1
    have e0 : (grid1.coords t 0).val = t.val / 4 % 2 := Pipeline.Grid.coords_val t 0 (by decide) rfl
    have e1 : (grid1.coords t 1).val = t.val / 1 % 4 := Pipeline.Grid.coords_val t 1 (by decide) rfl
    simp only [isFirst1, e0, e1]
    word_cmp
   : ∀ t : Fin grid1.N, isFirst1 (grid1.coords t) ↔ t.val % 4 = 0)

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .f32 := win1_2.stage (cfg1.slots t 2)
abbrev hs1_2 (t : Fin cfg1.N) : (ms1_2 t).IsWhole := hstage1_2 ((cfg1.slots t 2).cast nbuf1_2)

/-- The weight gradient's block after point `n`: gathered over the four row tiles of a column tile. -/
def gAt (c : Dev nD) : (n : ℕ) → n < cfg1.N → Vec F S2048x512 .f32
  | 0, hn => k1_pay2 k1_pay1 (iblk1 V c 0 ⟨0, hn⟩) (iblk1 V c 1 ⟨0, hn⟩)
  | n + 1, hn => if (n + 1) % 4 = 0 then k1_pay2 k1_pay1 (iblk1 V c 0 ⟨n + 1, hn⟩) (iblk1 V c 1 ⟨n + 1, hn⟩)
      else k1_pay2 (gAt c n (Nat.lt_of_succ_lt hn)) (iblk1 V c 0 ⟨n + 1, hn⟩) (iblk1 V c 1 ⟨n + 1, hn⟩)

theorem gAt_first (c : Dev nD) (t : Fin cfg1.N) (h0 : t.val % 4 = 0) : gAt V c t.val t.isLt = k1_pay2 k1_pay1 (iblk1 V c 0 t) (iblk1 V c 1 t) := by
  obtain ⟨n, hn⟩ := t
  cases n with
  | zero => rfl
  | succ n => exact (if_pos h0).trans rfl

theorem gAt_rest (c : Dev nD) (t : Fin cfg1.N) (h0 : ¬t.val % 4 = 0) :
    gAt V c t.val t.isLt = k1_pay2 (gAt V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-- The pipeline of the call: arrays as found, blocks as said above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2_B (c : Dev nD) (t : Fin cfg1.N) (h0 : ¬t.val % 4 = 0) (d) :
    (dat1 V c).before 2 t d = gAt V c (t.val - 1) (Nat.lt_of_le_of_lt (Nat.sub_le _ _) t.isLt) := by
  have hN : t.val < 8 := lt_of_lt_of_eq t.isLt (show cfg1.N = 8 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 8 := lt_of_lt_of_eq t.isLt (show cfg1.N = 8 from N_1)
  by_cases h0 : t.val % 4 = 0
  · rw [gAt_first V c t h0]
    iintro ⟨HΦ, Ho, ⟨%d0, H0⟩, ⟨%d1, H1⟩, ⟨%d2, H2⟩⟩
    iapply (body1_first c (grid1.coords t) _ _ _ _ _ _ ((hcond1_0 t).mpr h0) (iblk1 V c 0 t) (iblk1 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [gAt_rest V c t h0]
    simp only [before1_2_B V c t h0]
    iintro ⟨HΦ, Ho, ⟨%d0, H0⟩, ⟨%d1, H1⟩, ⟨%d2, H2⟩⟩
    iapply (body1_rest c (grid1.coords t) _ _ _ _ _ _ (fun h => h0 ((hcond1_0 t).mp h)) (iblk1 V c 0 t) (iblk1 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.GdnOutIdeal.Run
end
-- ==== Proof.GdnOutRun.lean ====
/- The delta-net output projection, the whole program run: what every buffer holds at the end, from any memory, and that it ends with every counter at zero. -/
module

public import proofs.«01_k».proof.Proof.GdnOutRun0
public import proofs.«01_k».proof.Proof.GdnOutRun1

@[expose] public section

set_option maxRecDepth 16384

noncomputable section

namespace Cert.GdnOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.GdnOutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)
theorem hostOps1_fresh : (hostOps1 : List (HloOp τ sig (Elt F))).Forall fun op => op.fresh = ∅ := by
  simp only [List.Forall]; repeat' constructor
abbrev hostOps1_W : List (Ref sig .tc) := [main_v3, main_v4]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The call as a step of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a step of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory the program ends, every buffer of the core at the last of the contents above and every counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame of the program: it ends, its arguments unchanged and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  (θ_run defs _ _).mono (fun _ h => ⟨fun c =>
    have a := fun q hq => h.1 c _ (mem_uc q hq)
    ⟨(a main_arg0 (by decide)).trans (W4_main_arg0 m ρ c),
     (a main_arg1 (by decide)).trans (W4_main_arg1 m ρ c),
     (a main_arg2 (by decide)).trans (W4_main_arg2 m ρ c),
     (a main_arg3 (by decide)).trans (W4_main_arg3 m ρ c),
     (a main_arg4 (by decide)).trans (W4_main_arg4 m ρ c),
     (a main_arg5 (by decide)).trans (W4_main_arg5 m ρ c),
     (a main_arg6 (by decide)).trans (W4_main_arg6 m ρ c)⟩, h.2⟩) (run_main m ρ)

end Cert.GdnOutIdeal.Run
end
-- ==== Proof.GdnOutFrames.lean ====
/- The delta-net output projection and the gradient of its weight: the frames of the programs. -/
module

public import proofs.«01_k».proof.Defs
public import proofs.«01_k».proof.Proof.GdnOutRun
public import proofs.«01_k».proof.Proof.Gen.GdnOut
public import proofs.«01_k».proof.Proof.Gen.RefGdnOutIdeal.Run

@[expose] public section

noncomputable section

namespace Cert.GdnOutFrames

open Idealize.ShloMosaic Idealize.SL.Sem

open Cert.GdnOut in
/-- What the frame of the printed kernel says. -/
def Says : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0)

open Cert.GdnOutIdeal in
/-- What the frame of the idealized kernel says over bit patterns. -/
def SaysIdeal : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0)

/-- The two say the same: the texts agree. -/
theorem says_eq : Says = SaysIdeal := by sl_kernel_rfl

/-- The printed kernel ends, arguments unchanged and counters at zero. -/
theorem kernel : Cert.quiescent_GdnOut := fun m ρ _ =>
  (cast says_eq.symm (fun m ρ => Cert.GdnOutIdeal.Run.frame (F := Bits) m ρ : SaysIdeal) : Says) m ρ

/-- The idealized kernel ends, arguments unchanged and counters at zero. -/
theorem kernelIdeal : Cert.quiescent_GdnOutIdeal := fun m ρ _ => Cert.GdnOutIdeal.Run.frame (F := Ideal) m ρ

/-- No operation was rewritten. -/
theorem preserves : Cert.preserves_GdnOut_GdnOutIdeal := trivial

/-- The reference ends, arguments unchanged and counters at zero. -/
theorem reference : Cert.quiescent_RefGdnOutIdeal := fun m ρ _ =>
  (θ_run Cert.RefGdnOutIdeal.defs _ _).mono (fun r h => ⟨fun c => (h c).2.2, sem_eq_zero_of_no_sems (by decide) r.2⟩)
    (Cert.RefGdnOutIdeal.Value.run (F := Ideal) m ρ)

end Cert.GdnOutFrames

end
-- ==== Proof.GdnOutHeads.lean ====
/- The heads of the delta-net output: the norm of a head, its gate, and matrices cut apart and put side by side. -/
module

public import proofs.«01_k».proof.Proof.In
public import Idealize.ShloMosaic.Lib.Pipeline.Value

@[expose] public section

noncomputable section

namespace Cert.GdnOut

open Idealize.ShloMosaic Idealize.ShloMosaic.ValueIdx Cert.In
open scoped BigOperators

/-- The reciprocal of the root of the mean square of a row of 128. -/
def hinv (o : ℕ → ℕ → EReal) (a : ℕ) : EReal :=
  Ideal.rsqrt (Ideal.div (∑ k ∈ Finset.range 128, o a k * o a k) (Ideal.ofBits .f32 0x43000000#32) + Ideal.ofBits .f32 0x358637BD#32)

/-- A head normed and weighted, times its gate's `z · logistic z`. -/
def gated (o : ℕ → ℕ → EReal) (nw : ℕ → EReal) (z : ℕ → ℕ → EReal) (a b : ℕ) : EReal :=
  o a b * hinv o a * nw b * (z a b * Ideal.logistic (z a b))

/-- Heads of 128 columns side by side, each normed and gated by itself. -/
def heads (o : ℕ → ℕ → EReal) (nw : ℕ → EReal) (z : ℕ → ℕ → EReal) (a j : ℕ) : EReal :=
  gated (fun a b => o a (128 * (j / 128) + b)) nw (fun a b => z a (128 * (j / 128) + b)) a (j % 128)

/-- Column `b` of head `p`. -/
theorem heads_at (o : ℕ → ℕ → EReal) (nw : ℕ → EReal) (z : ℕ → ℕ → EReal) (a p b : ℕ) (hb : b < 128) :
    heads o nw z a (128 * p + b) = gated (fun a b => o a (128 * p + b)) nw (fun a b => z a (128 * p + b)) a b := by
  unfold heads
  rw [show (128 * p + b) / 128 = p by omega, show (128 * p + b) % 128 = b by omega]

/-- A head of a row reads that row alone. -/
theorem heads_shift (o : ℕ → ℕ → EReal) (nw : ℕ → EReal) (z : ℕ → ℕ → EReal) (p a j : ℕ) :
    heads (fun a b => o (p + a) b) nw (fun a b => z (p + a) b) a j = heads o nw z (p + a) j := rfl

/-- The logistic of every entry. -/
theorem _root_.Cert.In.Has.logistic {R C : ℕ} {x : FVec Ideal ⟨2, ![R, C]⟩ .f32} {f : ℕ → ℕ → EReal} (hx : Has x f) :
    Has (logistic x) (fun a b => Ideal.logistic (f a b)) := fun i => by
  show Ideal.logistic (x i) = _
  rw [hx i]

/-- Columns cut out. -/
theorem _root_.Cert.In.Has.cut {R C D : ℕ} {x : (⟨2, ![R, C]⟩ : Shape).Idx → EReal} {f : ℕ → ℕ → EReal} (hx : Has x f) (p : ℕ)
    (h : (⟨2, ![R, C]⟩ : Shape).Slices ![0, p] ⟨2, ![R, D]⟩) (hp : p + D ≤ C) :
    Has (extractStridedSlice ⟨2, ![R, D]⟩ ![0, p] x h) (fun a b => f a (p + b)) := Has.of fun a b => by
  refine (extractStridedSlice_apply ![0, p] x h (ix2 a b) (ix2 a ⟨p + b.val, by have := b.isLt; omega⟩) (fun z => ?_)).trans (hx _)
  match z with
  | ⟨0, _⟩ => show a.val = 0 + a.val; omega
  | ⟨1, _⟩ => rfl

/-- Matrices of 128 columns put side by side. -/
theorem beside_has {R N C : ℕ} (x : Fin N → (⟨2, ![R, 128]⟩ : Shape).Idx → EReal) {f : ℕ → ℕ → EReal}
    (hx : ∀ n, Has (x n) (fun a b => f a (128 * n.val + b))) (hC : C = 128 * N)
    (h : Shape.Concatenates ((List.ofFn fun n : Fin N => (⟨⟨2, ![R, 128]⟩, x n⟩ : (s : Shape) × (s.Idx → EReal))).map (·.1)) ⟨2, ![R, C]⟩ (1 : Fin 2)) :
    Has (concatenate ⟨2, ![R, C]⟩ (1 : Fin 2) (List.ofFn fun n : Fin N => (⟨⟨2, ![R, 128]⟩, x n⟩ : (s : Shape) × (s.Idx → EReal))) h) f := Has.of fun a j => by
  have hj := j.isLt
  refine (concatenate_ofFn_apply (t := ⟨2, ![R, C]⟩) (s₁ := ⟨2, ![R, 128]⟩) (1 : Fin 2) x h rfl 128 rfl (ix2 a j) ⟨j.val / 128, by omega⟩ rfl
    (ix2 a ⟨j.val % 128, by omega⟩) rfl (fun b hb => ?_)).trans ?_
  · match b with
    | ⟨0, _⟩ => rfl
    | ⟨1, _⟩ => exact absurd rfl hb
  · refine (hx _ _).trans ?_
    show f a.val (128 * (j.val / 128) + j.val % 128) = f a.val j.val
    rw [Nat.div_add_mod]

end Cert.GdnOut

end
-- ==== Proof.GdnOutVal.lean ====
/- The delta-net output projection and the gradient of its weight: what the two calls leave in their arrays. -/
module

public import proofs.«01_k».proof.Proof.GdnOutHeads
public import proofs.«01_k».proof.Proof.GdnOutRun
public import Idealize.ShloMosaic.Lib.Pipeline.ValueKit
public import Idealize.ShloMosaic.Lib.Pipeline.Value

@[expose] public section

set_option maxRecDepth 8192

noncomputable section

namespace Cert.GdnOutIdeal.Val

open Idealize.ShloMosaic hiding ix2
open Idealize.ShloMosaic.TcCoe Idealize.ShloMosaic.ValueIdx Idealize.ShloMosaic.Tactic
open Idealize.SL Idealize.SL.RA
open Cert.GdnOutIdeal Cert.GdnOutIdeal.Gen Cert.In Cert.GdnOut
open scoped BigOperators

/-! ## The two products -/

theorem nn_apply (lhs : FVec Ideal S256x2048 .bf16) (rhs : FVec Ideal S2048x1024 .bf16) (acc : FVec Ideal S256x1024 .f32) (r : Fin 256) (c : Fin 1024) :
    matmul dot_S256x2048_S2048x1024_S256x1024_1_0_0_1_n_n none lhs rhs acc (ix2 r c) = acc (ix2 r c) + ∑ k : Fin 2048, lhs (ix2 r k) * rhs (ix2 k c) :=
  Ideal.matmul_plain_apply none lhs rhs acc r c

theorem tn_apply (lhs : FVec Ideal S1024x2048 .bf16) (rhs : FVec Ideal S1024x512 .bf16) (acc : FVec Ideal S2048x512 .f32) (r : Fin 2048) (c : Fin 512) :
    matmul dot_S1024x2048_S1024x512_S2048x512_0_0_1_1_n_n none lhs rhs acc (ix2 r c) = acc (ix2 r c) + ∑ k : Fin 1024, lhs (ix2 k r) * rhs (ix2 k c) := by
  have hr : (dot_S1024x2048_S1024x512_S2048x512_0_0_1_1_n_n).contr.rank = 1 := rfl
  have hs : (dot_S1024x2048_S1024x512_S2048x512_0_0_1_1_n_n).contr.size ⟨0, by rw [hr]; exact Nat.one_pos⟩ = 1024 := rfl
  show FloatOps.matmul _ _ _ _ _ _ = _
  rw [Ideal.matmul_apply, ← Equiv.sum_comp (contrEquiv1 _ 1024 hr hs).symm]
  refine congrArg (acc (ix2 r c) + ·) (Finset.sum_congr rfl fun k _ => ?_)
  have hk := contrEquiv1_symm_val _ 1024 hr hs k
  have el : (dot_S1024x2048_S1024x512_S2048x512_0_0_1_1_n_n).lhsIdx (ix2 r c) ((contrEquiv1 _ 1024 hr hs).symm k) = ix2 k r := by
    funext a; apply Fin.ext
    match a with
    | ⟨0, _⟩ => exact hk
    | ⟨1, _⟩ => rfl
  have er : (dot_S1024x2048_S1024x512_S2048x512_0_0_1_1_n_n).rhsIdx (ix2 r c) ((contrEquiv1 _ 1024 hr hs).symm k) = ix2 k c := by
    funext a; apply Fin.ext
    match a with
    | ⟨0, _⟩ => exact hk
    | ⟨1, _⟩ => rfl
  rw [el, er]

/-! ## What a grid point computes -/

/-- The sum of the squares along a row, over 128. -/
theorem mean_has {s : FVec Ideal S256x128 .f32} {f : ℕ → ℕ → EReal} (hs : Has s f) :
    Has (divf (shapeCast S256x1 (multiReduction (F := Ideal) .add [1] S256 (mulf s s) 0x00000000#32 reduces_S256x128_S256 (.inl rfl) rfl) shapeCasts_S256_S256x1) (broadcast S256x1 (Scalar.ofBits (F := Ideal) .f32 0x43000000#32)))
      (fun a _ => Ideal.div (∑ k ∈ Finset.range 128, f a k * f a k) (Ideal.ofBits .f32 0x43000000#32)) :=
  ((hs.mul hs).rowSum _ reduces_S256x128_S256 (.inl rfl) rfl shapeCasts_S256_S256x1).div (has_splat _)

/-- A head normed, weighted and gated, from its mean square. -/
theorem gate_has {s z : FVec Ideal S256x128 .f32} {n : FVec Ideal S1x128 .f32} {q : FVec Ideal S256x1 .f32} {f g : ℕ → ℕ → EReal} {nw : ℕ → EReal}
    (hs : Has s f) (hz : Has z g) (hn : Has n (fun _ b => nw b)) (hq : Has q (fun a _ => Ideal.div (∑ k ∈ Finset.range 128, f a k * f a k) (Ideal.ofBits .f32 0x43000000#32))) :
    Has (mulf (mulf (mulf s (broadcastTo S256x128 (rsqrt (addf q (broadcast S256x1 (Run.eps (F := Ideal))))) broadcasts_S256x1_S256x128)) (broadcastTo S256x128 n broadcasts_S1x128_S256x128)) (mulf z (logistic z)))
      (gated f nw g) :=
  ((hs.mul ((hq.add (has_splat _)).rsqrt.col broadcasts_S256x1_S256x128)).mul (hn.row broadcasts_S1x128_S256x128)).mul (hz.mul hz.logistic)

section Heads
variable {o z : FVec Ideal S256x2048 .f32} {n : FVec Ideal S1x128 .f32} {O Z : ℕ → ℕ → EReal} {nw : ℕ → EReal}
  (ho : Has o O) (hz : Has z Z) (hn : Has n (fun _ b => nw b))
include ho hz hn

/-- A head cut out of the block, normed, weighted and gated. -/
theorem head_has (p : ℕ) (hp : p + 128 ≤ 2048) (h : S256x2048.Slices ![0, p] S256x128) :
    Has (mulf (mulf (mulf (extractStridedSlice S256x128 ![0, p] o h) (broadcastTo S256x128 (rsqrt (addf (divf (shapeCast S256x1 (multiReduction (F := Ideal) .add [1] S256 (mulf (extractStridedSlice S256x128 ![0, p] o h) (extractStridedSlice S256x128 ![0, p] o h)) 0x00000000#32 reduces_S256x128_S256 (.inl rfl) rfl) shapeCasts_S256_S256x1) (broadcast S256x1 (Scalar.ofBits (F := Ideal) .f32 0x43000000#32))) (broadcast S256x1 (Run.eps (F := Ideal))))) broadcasts_S256x1_S256x128)) (broadcastTo S256x128 n broadcasts_S1x128_S256x128)) (mulf (extractStridedSlice S256x128 ![0, p] z h) (logistic (extractStridedSlice S256x128 ![0, p] z h))))
      (gated (fun a b => O a (p + b)) nw (fun a b => Z a (p + b))) :=
  gate_has (ho.cut p h hp) (hz.cut p h hp) hn (mean_has (ho.cut p h hp))

/-- The sixteen heads side by side. -/
theorem out9_has : Has (Run.out9 (F := Ideal) o z n) (heads O nw Z) := by
  have hn' : Has (k0_pay1 (F := Ideal) n) (fun _ b => nw b) := hn.cast shapeCasts_S1x128_S1x128
  unfold Run.out9 k0_pay26
  refine Has.trunc (beside_has (N := 16) ![_, _, _, _, _, _, _, _, _, _, _, _, _, _, _, _] (fun k => ?_) rfl _) bitsLt_bf16_f32
  match k with
  | ⟨0, _⟩ => exact (head_has ho hz hn' 0 (by decide) slices_S256x2048_o0_0_S256x128).congr fun a b _ hb => (heads_at O nw Z a 0 b hb).symm
  | ⟨1, _⟩ => exact (head_has ho hz hn' 128 (by decide) slices_S256x2048_o0_128_S256x128).congr fun a b _ hb => (heads_at O nw Z a 1 b hb).symm
  | ⟨2, _⟩ => exact (head_has ho hz hn' 256 (by decide) slices_S256x2048_o0_256_S256x128).congr fun a b _ hb => (heads_at O nw Z a 2 b hb).symm
  | ⟨3, _⟩ => exact (head_has ho hz hn' 384 (by decide) slices_S256x2048_o0_384_S256x128).congr fun a b _ hb => (heads_at O nw Z a 3 b hb).symm
  | ⟨4, _⟩ => exact (head_has ho hz hn' 512 (by decide) slices_S256x2048_o0_512_S256x128).congr fun a b _ hb => (heads_at O nw Z a 4 b hb).symm
  | ⟨5, _⟩ => exact (head_has ho hz hn' 640 (by decide) slices_S256x2048_o0_640_S256x128).congr fun a b _ hb => (heads_at O nw Z a 5 b hb).symm
  | ⟨6, _⟩ => exact (head_has ho hz hn' 768 (by decide) slices_S256x2048_o0_768_S256x128).congr fun a b _ hb => (heads_at O nw Z a 6 b hb).symm
  | ⟨7, _⟩ => exact (head_has ho hz hn' 896 (by decide) slices_S256x2048_o0_896_S256x128).congr fun a b _ hb => (heads_at O nw Z a 7 b hb).symm
  | ⟨8, _⟩ => exact (head_has ho hz hn' 1024 (by decide) slices_S256x2048_o0_1024_S256x128).congr fun a b _ hb => (heads_at O nw Z a 8 b hb).symm
  | ⟨9, _⟩ => exact (head_has ho hz hn' 1152 (by decide) slices_S256x2048_o0_1152_S256x128).congr fun a b _ hb => (heads_at O nw Z a 9 b hb).symm
  | ⟨10, _⟩ => exact (head_has ho hz hn' 1280 (by decide) slices_S256x2048_o0_1280_S256x128).congr fun a b _ hb => (heads_at O nw Z a 10 b hb).symm
  | ⟨11, _⟩ => exact (head_has ho hz hn' 1408 (by decide) slices_S256x2048_o0_1408_S256x128).congr fun a b _ hb => (heads_at O nw Z a 11 b hb).symm
  | ⟨12, _⟩ => exact (head_has ho hz hn' 1536 (by decide) slices_S256x2048_o0_1536_S256x128).congr fun a b _ hb => (heads_at O nw Z a 12 b hb).symm
  | ⟨13, _⟩ => exact (head_has ho hz hn' 1664 (by decide) slices_S256x2048_o0_1664_S256x128).congr fun a b _ hb => (heads_at O nw Z a 13 b hb).symm
  | ⟨14, _⟩ => exact (head_has ho hz hn' 1792 (by decide) slices_S256x2048_o0_1792_S256x128).congr fun a b _ hb => (heads_at O nw Z a 14 b hb).symm
  | ⟨15, _⟩ => exact (head_has ho hz hn' 1920 (by decide) slices_S256x2048_o0_1920_S256x128).congr fun a b _ hb => (heads_at O nw Z a 15 b hb).symm
  | ⟨k + 16, hk⟩ => exact absurd hk (by omega)

/-- Their product with the weight. -/
theorem out8_has {w : FVec Ideal S2048x1024 .bf16} {W : ℕ → ℕ → EReal} (hw : Has w W) : Has (Run.out8 (F := Ideal) o z n w) (rowCol 2048 (heads O nw Z) W) := Has.of fun a b => by
  have h9 := out9_has ho hz hn
  show matmul dot_S256x2048_S2048x1024_S256x1024_1_0_0_1_n_n none (Run.out9 (F := Ideal) o z n) (shapeCast S2048x1024 w shapeCasts_S2048x1024_S2048x1024) _ (ix2 a b) = _
  rw [shapeCast_self, nn_apply]
  unfold rowCol
  rw [Finset.sum_range]
  show Ideal.ofBits .f32 0x00000000#32 + _ = _
  rw [zero_f32, zero_add]
  exact Finset.sum_congr rfl fun k _ => by rw [h9, hw]

/-- The residual stream with the gated product added. -/
theorem out7_has {w : FVec Ideal S2048x1024 .bf16} {x : FVec Ideal S256x1024 .f32} {g : FVec Ideal S1x1024 .f32} {W X : ℕ → ℕ → EReal} {gt : ℕ → EReal}
    (hw : Has w W) (hx : Has x X) (hg : Has g (fun _ b => gt b)) :
    Has (Run.out7 (F := Ideal) o z n w x g) (fun a b => X a b + gt b * rowCol 2048 (heads O nw Z) W a b) :=
  hx.add ((hg.row broadcasts_S1x1024_S256x1024).mul (out8_has ho hz hn hw))
end Heads

/-- One tile of rows added to the gradient of the weight. -/
theorem add_has {acc : FVec Ideal S2048x512 .f32} {x : FVec Ideal S1024x2048 .bf16} {y : FVec Ideal S1024x512 .f32} {e f g : ℕ → ℕ → EReal} (ha : Has acc e) (hx : Has x f) (hy : Has y g) :
    Has (k1_pay2 (F := Ideal) acc x y) (fun a b => e a b + ∑ k ∈ Finset.range 1024, f k a * g k b) := Has.of fun a b => by
  unfold k1_pay2
  rw [shapeCast_self, shapeCast_self, shapeCast_self]
  show acc (ix2 a b) + matmul dot_S1024x2048_S1024x512_S2048x512_0_0_1_1_n_n none x (truncf .bf16 y bitsLt_bf16_f32) _ (ix2 a b) = _
  rw [tn_apply, Finset.sum_range, ha]
  refine congrArg (e a b + ·) ?_
  show Ideal.ofBits .f32 0x00000000#32 + _ = _
  rw [zero_f32, zero_add]
  refine Finset.sum_congr rfl fun k _ => ?_
  show x (ix2 k a) * y (ix2 k b) = _
  rw [hx, hy]

/-- The gradient of the weight begins at zero. -/
theorem pay1_zero : Has (k1_pay1 (F := Ideal)) (fun _ _ => 0) := fun i => zero_f32

/-! ## The arrays of the first call -/

variable (V : (c : Dev nD) → (b : Ref sig .tc) → Buf (Elt Ideal) (c.tc.loc b))

theorem idx0_0 : ∀ t : Fin cfg0.N, win0_0.index t = ![t.val, 0] := (by decide +kernel : ∀ t : Fin grid0.N, _)
theorem idx0_1 : ∀ t : Fin cfg0.N, win0_1.index t = ![t.val, 2] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val, 0] := (by decide +kernel : ∀ t : Fin grid0.N, _)
theorem idx0_8 : ∀ t : Fin cfg0.N, win0_8.index t = ![t.val, 0] := (by decide +kernel : ∀ t : Fin grid0.N, _)
theorem idx1_0 : ∀ t : Fin cfg1.N, win1_0.index t = ![t.val % 4, 0] := (by decide +kernel : ∀ t : Fin grid1.N, _)
theorem idx1_1 : ∀ t : Fin cfg1.N, win1_1.index t = ![t.val % 4, t.val / 4] := (by decide +kernel : ∀ t : Fin grid1.N, _)
theorem idx1_2 : ∀ t : Fin cfg1.N, win1_2.index t = ![0, t.val / 4] := (by decide +kernel : ∀ t : Fin grid1.N, _)
theorem last1 : ∀ t : Fin cfg1.N, win1_2.flush t = true → t.val % 4 = 3 := (by decide +kernel : ∀ t : Fin grid1.N, _)

section First
variable {O A W X : ℕ → ℕ → EReal} {nw gt : ℕ → EReal} (c : Dev nD)

theorem blk0_0 (h : Has (R := 4096) (C := 2048) (V c main_arg0) O) (t : Fin cfg0.N) :
    Has (R := 256) (C := 2048) (Run.iblk0 (F := Ideal) V c 0 t) (fun a b => O (256 * t.val + a) b) := Has.of fun a b => by
  blk_simp [Run.iblk0]
  refine (h _).trans ?_
  blk_simp [idx0_0 t]
  congr 1 <;> first | rfl | (simp; omega)
theorem blk0_1 (h : Has (R := 4096) (C := 6400) (V c main_arg1) A) (t : Fin cfg0.N) :
    Has (R := 256) (C := 2048) (Run.zblk (F := Ideal) V c t) (fun a b => A (256 * t.val + a) (4096 + b)) := Has.of fun a b => by
  unfold Run.zblk Pipeline.Window.fill
  rw [dif_pos (Run.moved0_1 t _)]
  blk_simp [Run.iblk0]
  refine (h _).trans ?_
  blk_simp [idx0_1 t]
  congr 1 <;> first | rfl | (simp; omega)
theorem blk0_2 (h : Has (R := 1) (C := 128) (V c main_v0) (fun _ b => nw b)) (t : Fin cfg0.N) :
    Has (R := 1) (C := 128) (Run.iblk0 (F := Ideal) V c 2 t) (fun _ b => nw b) := Has.of fun a b => by
  blk_simp [Run.iblk0]
  refine (h _).trans ?_
  blk_simp [idx0_2 t]
theorem blk0_3 (h : Has (R := 2048) (C := 1024) (V c main_v1) W) (t : Fin cfg0.N) :
    Has (R := 2048) (C := 1024) (Run.iblk0 (F := Ideal) V c 3 t) W := Has.of fun a b => by
  blk_simp [Run.iblk0]
  refine (h _).trans ?_
  blk_simp [idx0_3 t]
theorem blk0_4 (h : Has (R := 4096) (C := 1024) (V c main_arg4) X) (t : Fin cfg0.N) :
    Has (R := 256) (C := 1024) (Run.iblk0 (F := Ideal) V c 4 t) (fun a b => X (256 * t.val + a) b) := Has.of fun a b => by
  blk_simp [Run.iblk0]
  refine (h _).trans ?_
  blk_simp [idx0_4 t]
  congr 1 <;> first | rfl | (simp; omega)
theorem blk0_5 (h : Has (R := 1) (C := 1024) (V c main_arg5) (fun _ b => gt b)) (t : Fin cfg0.N) :
    Has (R := 1) (C := 1024) (Run.iblk0 (F := Ideal) V c 5 t) (fun _ b => gt b) := Has.of fun a b => by
  blk_simp [Run.iblk0]
  refine (h _).trans ?_
  blk_simp [idx0_5 t]

variable (hO : Has (R := 4096) (C := 2048) (V c main_arg0) O) (hA : Has (R := 4096) (C := 6400) (V c main_arg1) A) (hn : Has (R := 1) (C := 128) (V c main_v0) (fun _ b => nw b))
include hO hA hn

/-- The normed, gated heads after the call. -/
theorem arr0_8 : Has (R := 4096) (C := 2048) ((Run.dat0 (F := Ideal) V c).arrAt 8 cfg0.N) (heads O nw (fun a b => A a (4096 + b))) := by
  refine congrFun ((Run.dat0 (F := Ideal) V c).arrAt_eq_of_covers 8 (fun i : S4096x2048.Idx => heads O nw (fun a b => A a (4096 + b)) (i 0).val (i 1).val) (by decide +kernel) fun t hf y => ?_)
  blk_simp
  rw [Run.after0_8]
  refine (out9_has (blk0_0 V c hO t) (blk0_1 V c hA t) (blk0_2 V c hn t) y).trans ?_
  beta_reduce
  have e0 : win0_8.index t 0 * 256 + (y 0).val = 256 * t.val + (y 0).val := by rw [idx0_8 t]; simp; omega
  have e1 : win0_8.index t 1 * 2048 + (y 1).val = (y 1).val := by rw [idx0_8 t]; simp
  rw [e0, e1]
  rfl

/-- The residual stream after the call. -/
theorem arr0_6 (hW : Has (R := 2048) (C := 1024) (V c main_v1) W) (hX : Has (R := 4096) (C := 1024) (V c main_arg4) X) (hg : Has (R := 1) (C := 1024) (V c main_arg5) (fun _ b => gt b)) :
    Has (R := 4096) (C := 1024) ((Run.dat0 (F := Ideal) V c).arrAt 6 cfg0.N) (fun a b => X a b + gt b * rowCol 2048 (heads O nw (fun a b => A a (4096 + b))) W a b) := by
  refine congrFun ((Run.dat0 (F := Ideal) V c).arrAt_eq_of_covers 6 (fun i : S4096x1024.Idx => X (i 0).val (i 1).val + gt (i 1).val * rowCol 2048 (heads O nw (fun a b => A a (4096 + b))) W (i 0).val (i 1).val) (by decide +kernel) fun t hf y => ?_)
  blk_simp
  rw [Run.after0_6]
  refine (out7_has (blk0_0 V c hO t) (blk0_1 V c hA t) (blk0_2 V c hn t) (blk0_3 V c hW t) (blk0_4 V c hX t) (blk0_5 V c hg t) y).trans ?_
  beta_reduce
  have e0 : win0_6.index t 0 * 256 + (y 0).val = 256 * t.val + (y 0).val := by rw [idx0_6 t]; simp; omega
  have e1 : win0_6.index t 1 * 1024 + (y 1).val = (y 1).val := by rw [idx0_6 t]; simp
  rw [e0, e1]
  rfl
end First

/-! ## The array of the second call -/

section Second
variable {H G : ℕ → ℕ → EReal} (c : Dev nD)

theorem blk1_0 (hH : Has (R := 4096) (C := 2048) (V c main_v2_2) H) (t : Fin cfg1.N) :
    Has (R := 1024) (C := 2048) (Run.iblk1 (F := Ideal) V c 0 t) (fun a b => H (1024 * (t.val % 4) + a) b) := Has.of fun a b => by
  blk_simp [Run.iblk1]
  refine (hH _).trans ?_
  blk_simp [idx1_0 t]
  congr 1 <;> first | rfl | (simp; omega)
theorem blk1_1 (hG : Has (R := 4096) (C := 1024) (V c main_v4) G) (t : Fin cfg1.N) :
    Has (R := 1024) (C := 512) (Run.iblk1 (F := Ideal) V c 1 t) (fun a b => G (1024 * (t.val % 4) + a) (512 * (t.val / 4) + b)) := Has.of fun a b => by
  blk_simp [Run.iblk1]
  refine (hG _).trans ?_
  blk_simp [idx1_1 t]
  congr 1 <;> first | rfl | (simp; omega)

variable (hH : Has (R := 4096) (C := 2048) (V c main_v2_2) H) (hG : Has (R := 4096) (C := 1024) (V c main_v4) G)
include hH hG

/-- The tiles of rows gathered so far. -/
theorem gAt_has : ∀ (n : ℕ) (h : n < cfg1.N), Has (R := 2048) (C := 512) (Run.gAt (F := Ideal) V c n h)
    (fun a b => ∑ k ∈ Finset.range (1024 * (n % 4 + 1)), H k a * G k (512 * (n / 4) + b)) := by
  intro n
  induction n with
  | zero =>
    intro h
    have e := Run.gAt_first (F := Ideal) V c ⟨0, h⟩ rfl
    dsimp only at e
    rw [e]
    refine (add_has pay1_zero (blk1_0 V c hH ⟨0, h⟩) (blk1_1 V c hG ⟨0, h⟩)).congr fun a b _ _ => ?_
    rw [zero_add]
    refine Finset.sum_congr rfl fun k _ => ?_
    congr 2 <;> simp
  | succ n ih =>
    intro h
    by_cases h0 : (n + 1) % 4 = 0
    · have e := Run.gAt_first (F := Ideal) V c ⟨n + 1, h⟩ h0
      dsimp only at e
      rw [e]
      refine (add_has pay1_zero (blk1_0 V c hH ⟨n + 1, h⟩) (blk1_1 V c hG ⟨n + 1, h⟩)).congr fun a b _ _ => ?_
      dsimp only
      rw [zero_add, h0]
      refine Finset.sum_congr rfl fun k _ => ?_
      congr 2 <;> simp
    · have e := Run.gAt_rest (F := Ideal) V c ⟨n + 1, h⟩ h0
      dsimp only [Nat.add_sub_cancel] at e
      rw [e]
      refine (add_has (ih (by omega)) (blk1_0 V c hH ⟨n + 1, h⟩) (blk1_1 V c hG ⟨n + 1, h⟩)).congr fun a b _ _ => ?_
      dsimp only
      rw [show (n + 1) % 4 = n % 4 + 1 by omega, show (n + 1) / 4 = n / 4 by omega]
      exact sum_tiles (fun k => H k a * G k (512 * (n / 4) + b)) (n % 4 + 1) 1024

/-- The gradient of the weight after the call. -/
theorem arr1_2 : Has (R := 2048) (C := 1024) ((Run.dat1 (F := Ideal) V c).arrAt 2 cfg1.N) (colCol 4096 H G) := by
  refine congrFun ((Run.dat1 (F := Ideal) V c).arrAt_eq_of_covers 2 (fun i : S2048x1024.Idx => colCol 4096 H G (i 0).val (i 1).val) (by decide +kernel) fun t hf y => ?_)
  have h3 := last1 t hf
  blk_simp
  rw [Run.after1_2]
  refine (gAt_has V c hH hG t.val t.isLt y).trans ?_
  beta_reduce
  rw [h3]
  blk_simp [idx1_2 t]
  unfold colCol
  refine Finset.sum_congr rfl fun k _ => ?_
  congr 2 <;> first | rfl | (simp; omega)
end Second

end Cert.GdnOutIdeal.Val

end
-- ==== Proof.GdnOutRef.lean ====
/- The reference of the delta-net output projection, operation by operation. -/
module

public import proofs.«01_k».proof.Proof.GdnOutHeads
public import proofs.«01_k».proof.Proof.Gen.RefGdnOutIdeal.Read

@[expose] public section

set_option maxRecDepth 8192

noncomputable section

namespace Cert.RefGdnOutIdeal.At

open Idealize.ShloMosaic Idealize.ShloMosaic.ValueIdx
open Cert.RefGdnOutIdeal Cert.RefGdnOutIdeal.Gen Cert.RefGdnOutIdeal.Read Cert.In Cert.GdnOut
open scoped BigOperators

variable {x0 : FVec Ideal S4096x2048 .f32} {x1 : FVec Ideal S4096x6400 .f32} {x2 : FVec Ideal S128 .f32} {x3 : FVec Ideal S2048x1024 .f32} {x4 x6 : FVec Ideal S4096x1024 .f32} {x5 : FVec Ideal S1x1024 .f32}
  {O A W X D : ℕ → ℕ → EReal} {nw gt : ℕ → EReal}

theorem one_f32 : Ideal.ofBits .f32 0x3F800000#32 = 1 := by
  simp [Ideal.ofBits, Ideal.ieee, -EReal.coe_mul]; norm_num

/-- The rows as heads. -/
theorem v3_at (hO : Has x0 O) (i : S4096x16x128.Idx) : val_main_v3 (F := Ideal) x0 i = O (i 0).val (128 * (i 1).val + (i 2).val) := by
  have h1 : (i 1).val < 16 := (i 1).isLt
  have h2 : (i 2).val < 128 := (i 2).isLt
  rw [val_main_v3_apply, hO]
  show O ((((i 0).val * 16 + (i 1).val) * 128 + (i 2).val) / 2048) ((((i 0).val * 16 + (i 1).val) * 128 + (i 2).val) % 2048) = _
  congr 1 <;> omega

/-- The gates as heads. -/
theorem v1_at (hA : Has x1 A) (i : S4096x16x128.Idx) : val_main_v1 (F := Ideal) x1 i = A (i 0).val (4096 + (128 * (i 1).val + (i 2).val)) := by
  have h1 : (i 1).val < 16 := (i 1).isLt
  have h2 : (i 2).val < 128 := (i 2).isLt
  rw [val_main_v1_apply, val_main_v0_apply, hA]
  show A ((((i 0).val * 16 + (i 1).val) * 128 + (i 2).val) / 2048) (4096 + (((i 0).val * 16 + (i 1).val) * 128 + (i 2).val) % 2048) = _
  congr 1 <;> omega

/-- A gate times its logistic. -/
theorem v2_at (hA : Has x1 A) (i : S4096x16x128.Idx) : val_main_v2 (F := Ideal) x1 i
    = A (i 0).val (4096 + (128 * (i 1).val + (i 2).val)) * Ideal.logistic (A (i 0).val (4096 + (128 * (i 1).val + (i 2).val))) := by
  rw [val_main_v2_apply, val_main_call0_v5_apply, val_main_call0_v4_apply, val_main_call0_cst_0_apply, val_main_call0_v3_apply, val_main_call0_v2_apply,
    val_main_call0_cst_apply, val_main_call0_v1_apply, val_main_call0_v0_apply, v1_at hA]
  show _ * Ideal.div (Ideal.ofBits .f32 0x3F800000#32) (Ideal.ofBits .f32 0x3F800000#32 + _) = _
  rw [one_f32]
  rfl

/-- The reciprocal of the root of each head's mean square. -/
theorem v11_at (hO : Has x0 O) (i : S4096x16x1.Idx) : val_main_v11 (F := Ideal) x0 i = hinv (fun a b => O a (128 * (i 1).val + b)) (i 0).val := by
  rw [val_main_v11_apply, val_main_v10_apply, val_main_v9_apply, val_main_v8_apply, val_main_v6_apply, val_main_v5_apply]
  show Ideal.rsqrt (Ideal.div (Ideal.ofBits .f32 0x00000000#32 + _) (Ideal.ofBits .f32 0x43000000#32) + Ideal.ofBits .f32 0x358637BD#32) = _
  rw [zero_f32, zero_add]
  beta_reduce
  unfold hinv
  rw [Finset.sum_range]
  congr 3
  refine Finset.sum_congr rfl fun k _ => ?_
  rw [val_main_v4_apply, v3_at hO]
  rfl

/-- The normed, gated heads. -/
theorem v18_at (hO : Has x0 O) (hA : Has x1 A) (hn : ∀ i, x2 i = nw (i 0).val) : Has (val_main_v18 (F := Ideal) x0 x1 x2) (heads O nw (fun a b => A a (4096 + b))) := by
  intro i
  have h0 : (i 0).val < 4096 := (i 0).isLt
  have h1 : (i 1).val < 2048 := (i 1).isLt
  rw [val_main_v18_apply, val_main_v17_apply, val_main_v16_apply, val_main_v15_apply, val_main_v14_apply, val_main_v13_apply, val_main_v12_apply, v11_at hO, v3_at hO, v2_at hA, hn]
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  show gated (fun a b => O a (128 * (((i 0).val * 2048 + (i 1).val) / 128 % 16) + b)) nw (fun a b => A a (4096 + (128 * (((i 0).val * 2048 + (i 1).val) / 128 % 16) + b)))
    (((i 0).val * 2048 + (i 1).val) / 2048) (((i 0).val * 2048 + (i 1).val) % 128) = _
  rw [e0, e1, e2]
  rfl

/-- The residual stream with the gated product added. -/
theorem v22_at (hO : Has x0 O) (hA : Has x1 A) (hn : ∀ i, x2 i = nw (i 0).val) (hW : Has x3 W) (hX : Has x4 X) (hg : Has x5 (fun _ b => gt b)) :
    Has (val_main_v22 (F := Ideal) x0 x1 x2 x3 x4 x5) (fun a b => X a b + gt b * rowCol 2048 (heads O nw (fun a b => A a (4096 + b))) W a b) := by
  intro i
  rw [val_main_v22_apply, val_main_v21_apply, val_main_v20_apply, val_main_v19_apply, hX, hg]
  beta_reduce
  unfold rowCol
  rw [Finset.sum_range]
  show _ + _ * _ = _ + _ * _
  refine congrArg (fun s => _ + _ * s) (Finset.sum_congr rfl fun k _ => ?_)
  rw [v18_at hO hA hn, hW]

/-- The gradient of the weight. -/
theorem v26_at (hO : Has x0 O) (hA : Has x1 A) (hn : ∀ i, x2 i = nw (i 0).val) (hg : Has x5 (fun _ b => gt b)) (hD : Has x6 D) :
    Has (val_main_v26 (F := Ideal) x0 x1 x2 x5 x6) (colCol 4096 (heads O nw (fun a b => A a (4096 + b))) (fun a b => D a b * gt b)) := by
  intro i
  rw [val_main_v26_apply, val_main_v25_apply]
  unfold colCol
  rw [Finset.sum_range]
  refine Finset.sum_congr rfl fun k _ => ?_
  rw [mul_comm, v18_at hO hA hn, val_main_v24_apply, val_main_v23_apply, hD, hg]
  exact (fun x y z : EReal => by rw [mul_comm y] : ∀ x y z : EReal, x * (y * z) = x * (z * y)) _ _ _

end Cert.RefGdnOutIdeal.At

end
-- ==== Proof.GdnOutAlgebraic.lean ====
/- The delta-net output projection and the gradient of its weight: kernel and reference compute the same. -/
module

public import proofs.«01_k».proof.Defs
public import proofs.«01_k».proof.Proof.GdnOutVal
public import proofs.«01_k».proof.Proof.GdnOutRef
public import proofs.«01_k».proof.Proof.Gen.GdnOutIdeal

@[expose] public section

set_option maxRecDepth 8192

noncomputable section

namespace Cert.GdnOutIdeal.Val

open Idealize.ShloMosaic hiding ix1 ix2
open Idealize.ShloMosaic.TcCoe Idealize.ShloMosaic.ValueIdx Idealize.ShloMosaic.Tactic
open Cert.GdnOutIdeal Cert.GdnOutIdeal.Gen Cert.GdnOutIdeal.Run Cert.In Cert.GdnOut

section
variable (m : (ℓ : Loc nD τ sig) → Buf (Elt Ideal) ℓ) (ρ : Dev nD → PrngReg) (c : Dev nD)
variable {O A W X D : ℕ → ℕ → EReal} {nw gt : ℕ → EReal}

/-- The norm's weight as the call reads it: one row. -/
theorem V1_n (hn : ∀ i : S128.Idx, (m (c.tc.loc main_arg2)) i = nw (i 0).val) : Has (R := 1) (C := 128) (V1 m ρ c main_v0) (fun _ b => nw b) := by
  have e : V1 m ρ c main_v0 = broadcastInDim S1x128 ![1] bcast_S128_S1x128_1 (m (c.tc.loc main_arg2)) := by
    show StableHlo.after hostOps0 (W0 m ρ c) _ = _
    after_results
  rw [e]
  refine Has.of fun a b => ?_
  refine (broadcastInDim_apply _ bcast_S128_S1x128_1 _ (ix2 a b) (ix1 b) (fun z => ?_)).trans (hn _)
  match z with
  | ⟨0, _⟩ => show b.val = if (128 : Nat) = 1 then 0 else b.val; rw [if_neg (by decide)]

/-- The weight as the call reads it: narrowed, its entries kept. -/
theorem V1_W (hW : Has (R := 2048) (C := 1024) (m (c.tc.loc main_arg3)) W) : Has (R := 2048) (C := 1024) (V1 m ρ c main_v1) W := by
  have e : V1 m ρ c main_v1 = truncf (F := Ideal) .bf16 (m (c.tc.loc main_arg3)) bitsLt_bf16_f32 := by
    show StableHlo.after hostOps0 (W0 m ρ c) _ = _
    after_results
  rw [e]
  exact hW

/-- The gradient of the product, as the host makes it. -/
theorem V3_dy (hg : Has (R := 1) (C := 1024) (m (c.tc.loc main_arg5)) (fun _ b => gt b)) (hD : Has (R := 4096) (C := 1024) (m (c.tc.loc main_arg6)) D) :
    Has (R := 4096) (C := 1024) (V3 m ρ c main_v4) (fun a b => D a b * gt b) := by
  have e : V3 m ρ c main_v4 = mulf (F := Ideal) (φ := .f32) (W2 m ρ c main_arg6) (broadcastInDim S4096x1024 ![0, 1] bcast_S1x1024_S4096x1024_0_1 (W2 m ρ c main_arg5)) := by
    show StableHlo.after hostOps1 (W2 m ρ c) _ = _
    after_results
  rw [e, W2_args m ρ c main_arg6 (by decide), W2_args m ρ c main_arg5 (by decide)]
  refine Has.mul hD (Has.of fun a b => ?_)
  refine (broadcastInDim_apply _ bcast_S1x1024_S4096x1024_0_1 _ (ix2 a b) (ix2 0 b) (fun z => ?_)).trans (hg _)
  match z with
  | ⟨0, _⟩ => show 0 = if (1 : Nat) = 1 then 0 else a.val; rw [if_pos rfl]
  | ⟨1, _⟩ => show b.val = if (1024 : Nat) = 1 then 0 else b.val; rw [if_neg (by decide)]

variable (hO : Has (R := 4096) (C := 2048) (m (c.tc.loc main_arg0)) O) (hA : Has (R := 4096) (C := 6400) (m (c.tc.loc main_arg1)) A) (hn : ∀ i : S128.Idx, (m (c.tc.loc main_arg2)) i = nw (i 0).val)
  (hg : Has (R := 1) (C := 1024) (m (c.tc.loc main_arg5)) (fun _ b => gt b))

include hO hA hn hg

/-- The residual stream at the end of the program. -/
theorem res_xn (hW : Has (R := 2048) (C := 1024) (m (c.tc.loc main_arg3)) W) (hX : Has (R := 4096) (C := 1024) (m (c.tc.loc main_arg4)) X) :
    Has (R := 4096) (C := 1024) (W4 m ρ c main_v2_0) (fun a b => X a b + gt b * rowCol 2048 (heads O nw (fun a b => A a (4096 + b))) W a b) := by
  have e := ((W4_of m ρ c main_v2_0 (by decide)).trans (W3_of m ρ c main_v2_0 (by decide))).trans (W2_arr m ρ c 6)
  exact fun i => (congrFun e i).trans (arr0_6 (V1 m ρ) c (fun j => (congrFun (W1_args m ρ c main_arg0 (by decide)) j).trans (hO j)) (fun j => (congrFun (W1_args m ρ c main_arg1 (by decide)) j).trans (hA j)) (V1_n m ρ c hn) (V1_W m ρ c hW)
    (fun j => (congrFun (W1_args m ρ c main_arg4 (by decide)) j).trans (hX j)) (fun j => (congrFun (W1_args m ρ c main_arg5 (by decide)) j).trans (hg j)) i)

/-- The gradient of the weight at the end of the program. -/
theorem res_dW (hD : Has (R := 4096) (C := 1024) (m (c.tc.loc main_arg6)) D) :
    Has (R := 2048) (C := 1024) (W4 m ρ c main_v5) (colCol 4096 (heads O nw (fun a b => A a (4096 + b))) (fun a b => D a b * gt b)) := by
  have e8 := (W3_of m ρ c main_v2_2 (by decide)).trans (W2_arr m ρ c 8)
  have h8 : Has (R := 4096) (C := 2048) (V3 m ρ c main_v2_2) (heads O nw (fun a b => A a (4096 + b))) := fun i => (congrFun e8 i).trans
    (arr0_8 (V1 m ρ) c (fun j => (congrFun (W1_args m ρ c main_arg0 (by decide)) j).trans (hO j)) (fun j => (congrFun (W1_args m ρ c main_arg1 (by decide)) j).trans (hA j)) (V1_n m ρ c hn) i)
  exact fun i => (congrFun (W4_arr m ρ c 2) i).trans (arr1_2 (V3 m ρ) c h8 (V3_dy m ρ c hg hD) i)
end

end Cert.GdnOutIdeal.Val

namespace Cert.GdnOutAlgebraic

open Idealize.ShloMosaic hiding ix1 ix2
open Idealize.ShloMosaic.TcCoe Idealize.ShloMosaic.ValueIdx Idealize.SL.Sem
open Cert.In

attribute [local instance] Cert.GdnOutIdeal.Gen.facts Cert.RefGdnOutIdeal.Gen.facts

open Cert.GdnOutIdeal Cert.RefGdnOutIdeal.Read

/-- The reference's results are the kernel program's, device by device. -/
theorem results (m : (ℓ : Loc nD τ sig) → Buf (Elt Ideal) ℓ) (g : Dev nD → PrngReg) (c : Dev nD) :
    val_main_v22 (F := Ideal) (m (c.tc.loc main_arg0)) (m (c.tc.loc main_arg1)) (m (c.tc.loc main_arg2)) (m (c.tc.loc main_arg3)) (m (c.tc.loc main_arg4)) (m (c.tc.loc main_arg5))
        = Run.W4 m g c main_v2_0
    ∧ val_main_v26 (F := Ideal) (m (c.tc.loc main_arg0)) (m (c.tc.loc main_arg1)) (m (c.tc.loc main_arg2)) (m (c.tc.loc main_arg5)) (m (c.tc.loc main_arg6))
        = Run.W4 m g c main_v5 := by
  obtain ⟨O, hO⟩ := exists_has (R := 4096) (C := 2048) (m (c.tc.loc main_arg0))
  obtain ⟨A, hA⟩ := exists_has (R := 4096) (C := 6400) (m (c.tc.loc main_arg1))
  obtain ⟨nw, hn⟩ := exists_row (C := 128) (m (c.tc.loc main_arg2))
  obtain ⟨W, hW⟩ := exists_has (R := 2048) (C := 1024) (m (c.tc.loc main_arg3))
  obtain ⟨X, hX⟩ := exists_has (R := 4096) (C := 1024) (m (c.tc.loc main_arg4))
  obtain ⟨gt, hg⟩ := exists_one (C := 1024) (m (c.tc.loc main_arg5))
  obtain ⟨D, hD⟩ := exists_has (R := 4096) (C := 1024) (m (c.tc.loc main_arg6))
  exact ⟨(Cert.RefGdnOutIdeal.At.v22_at hO hA hn hW hX hg).eq (Cert.GdnOutIdeal.Val.res_xn m g c hO hA hn hg hW hX),
    (Cert.RefGdnOutIdeal.At.v26_at hO hA hn hg hD).eq (Cert.GdnOutIdeal.Val.res_dW m g c hO hA hn hg hD)⟩

/-- Kernel and reference end with equal results, the arguments unchanged. -/
theorem algebraic : Cert.algebraic_GdnOutIdeal_RefGdnOutIdeal := by
  intro m g m' g' hp hm
  refine ⟨fun c => Run.W4 m g c main_v2_0, fun c => Run.W4 m g c main_v5, ?_, ?_⟩
  · refine (θ_run defs _ _).mono (fun r h c => ?_) (Run.run_main (F := Ideal) m g)
    have a := fun q hq => h.1 c _ (Run.mem_uc q hq)
    exact ⟨a _ (by decide), a _ (by decide),
      (a _ (by decide)).trans (Run.W4_main_arg0 m g c),
      (a _ (by decide)).trans (Run.W4_main_arg1 m g c),
      (a _ (by decide)).trans (Run.W4_main_arg2 m g c),
      (a _ (by decide)).trans (Run.W4_main_arg3 m g c),
      (a _ (by decide)).trans (Run.W4_main_arg4 m g c),
      (a _ (by decide)).trans (Run.W4_main_arg5 m g c),
      (a _ (by decide)).trans (Run.W4_main_arg6 m g c)⟩
  · refine (θ_run Cert.RefGdnOutIdeal.defs _ _).mono (fun r h c => ?_) (Cert.RefGdnOutIdeal.Value.run (F := Ideal) m' g')
    obtain ⟨e0, e1, e2, e3, e4, e5, e6⟩ := hm c
    obtain ⟨s0, s1⟩ := results m g c
    obtain ⟨h0, h1, h2⟩ := h c
    refine ⟨h0.trans ?_, h1.trans ?_, h2⟩
    · rw [val_main_v22_eq, e0, e1, e2, e3, e4, e5]; exact s0
    · rw [val_main_v26_eq, e0, e1, e2, e5, e6]; exact s1

end Cert.GdnOutAlgebraic

end
-- ==== Proof.LossFrames.lean ====
/- The loss and its gradients: the frames of the programs. -/
module

public import proofs.«01_k».proof.Defs
public import proofs.«01_k».proof.Proof.Gen.Loss
public import proofs.«01_k».proof.Proof.Gen.LossIdeal.Frame
public import proofs.«01_k».proof.Proof.Gen.RefLossIdeal.Run

@[expose] public section

noncomputable section

namespace Cert.LossFrames

open Idealize.ShloMosaic Idealize.SL.Sem

open Cert.Loss in
/-- What the frame of the printed kernel says. -/
def Says : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0)

open Cert.LossIdeal in
/-- What the frame of the idealized kernel says over bit patterns. -/
def SaysIdeal : Prop := ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0)

/-- The two say the same: the texts agree. -/
theorem says_eq : Says = SaysIdeal := by sl_kernel_rfl

/-- The printed kernel ends, arguments unchanged and counters at zero. -/
theorem kernel : Cert.quiescent_Loss := fun m ρ _ =>
  (cast says_eq.symm (fun m ρ => Cert.LossIdeal.Gen.frame (F := Bits) m ρ : SaysIdeal) : Says) m ρ

/-- The idealized kernel ends, arguments unchanged and counters at zero. -/
theorem kernelIdeal : Cert.quiescent_LossIdeal := fun m ρ _ => Cert.LossIdeal.Gen.frame (F := Ideal) m ρ

/-- No operation was rewritten. -/
theorem preserves : Cert.preserves_Loss_LossIdeal := trivial

/-- The reference ends, arguments unchanged and counters at zero. -/
theorem reference : Cert.quiescent_RefLossIdeal := fun m ρ _ =>
  (θ_run Cert.RefLossIdeal.defs _ _).mono (fun r h => ⟨fun c => (h c).2.2.2, sem_eq_zero_of_no_sems (by decide) r.2⟩)
    (Cert.RefLossIdeal.Value.run (F := Ideal) m ρ)

end Cert.LossFrames

end
-- ==== Proof.AdamFrames.lean ====
/- The optimiser's step: the frames of the programs, and the step from the printed to the idealized kernels. -/
module

public import proofs.«01_k».proof.Defs
public import proofs.«01_k».proof.Proof.Gen.AdamGdnIn
public import proofs.«01_k».proof.Proof.Gen.AdamGdnIn.Frame
public import proofs.«01_k».proof.Proof.Gen.AdamGdnInIdeal.Frame
public import proofs.«01_k».proof.Proof.Gen.RefAdamGdnInIdeal.Run
public import proofs.«01_k».proof.Proof.Gen.AdamGdnOut
public import proofs.«01_k».proof.Proof.Gen.AdamGdnOut.Frame
public import proofs.«01_k».proof.Proof.Gen.AdamGdnOutIdeal.Frame
public import proofs.«01_k».proof.Proof.Gen.RefAdamGdnOutIdeal.Run
public import proofs.«01_k».proof.Proof.Gen.AdamFoxIn
public import proofs.«01_k».proof.Proof.Gen.AdamFoxIn.Frame
public import proofs.«01_k».proof.Proof.Gen.AdamFoxInIdeal.Frame
public import proofs.«01_k».proof.Proof.Gen.RefAdamFoxInIdeal.Run
public import proofs.«01_k».proof.Proof.Gen.AdamFoxOut
public import proofs.«01_k».proof.Proof.Gen.AdamFoxOut.Frame
public import proofs.«01_k».proof.Proof.Gen.AdamFoxOutIdeal.Frame
public import proofs.«01_k».proof.Proof.Gen.RefAdamFoxOutIdeal.Run
public import proofs.«01_k».proof.Proof.Gen.AdamConv
public import proofs.«01_k».proof.Proof.Gen.AdamConv.Frame
public import proofs.«01_k».proof.Proof.Gen.AdamConvIdeal.Frame
public import proofs.«01_k».proof.Proof.Gen.RefAdamConvIdeal.Run
public import proofs.«01_k».proof.Proof.Gen.AdamSmall
public import proofs.«01_k».proof.Proof.Gen.AdamSmall.Frame
public import proofs.«01_k».proof.Proof.Gen.AdamSmallIdeal.Frame
public import proofs.«01_k».proof.Proof.Gen.RefAdamSmallIdeal.Run
public import proofs.«01_k».proof.Proof.Gen.AdamAda
public import proofs.«01_k».proof.Proof.Gen.AdamAda.Frame
public import proofs.«01_k».proof.Proof.Gen.AdamAdaIdeal.Frame
public import proofs.«01_k».proof.Proof.Gen.RefAdamAdaIdeal.Run

@[expose] public section

noncomputable section

namespace Cert.AdamFrames

open Idealize.ShloMosaic Idealize.SL.Sem

/-- Of the delta-net input weight: the two kernels and the reference end, arguments unchanged and counters at zero, and each named constant is the
    word it replaces up to the value the table gives it. -/
theorem gdnIn : Cert.quiescent_AdamGdnIn ∧ Cert.quiescent_AdamGdnInIdeal ∧ Cert.quiescent_RefAdamGdnInIdeal ∧ Cert.preserves_AdamGdnIn_AdamGdnInIdeal :=
  ⟨fun m ρ _ => Cert.AdamGdnIn.Gen.frame (F := Bits) m ρ, fun m ρ _ => Cert.AdamGdnInIdeal.Gen.frame (F := Ideal) m ρ,
    fun m ρ _ => (θ_run Cert.RefAdamGdnInIdeal.defs _ _).mono (fun r h => ⟨fun c => (h c).2.2.2.2, sem_eq_zero_of_no_sems (by decide) r.2⟩)
      (Cert.RefAdamGdnInIdeal.Value.run (F := Ideal) m ρ),
    ⟨⟨rfl, fun _ => rfl, rfl⟩, ⟨rfl, fun _ => rfl, rfl⟩⟩⟩

/-- Of the delta-net output weight: the two kernels and the reference end, arguments unchanged and counters at zero, and each named constant is the
    word it replaces up to the value the table gives it. -/
theorem gdnOut : Cert.quiescent_AdamGdnOut ∧ Cert.quiescent_AdamGdnOutIdeal ∧ Cert.quiescent_RefAdamGdnOutIdeal ∧ Cert.preserves_AdamGdnOut_AdamGdnOutIdeal :=
  ⟨fun m ρ _ => Cert.AdamGdnOut.Gen.frame (F := Bits) m ρ, fun m ρ _ => Cert.AdamGdnOutIdeal.Gen.frame (F := Ideal) m ρ,
    fun m ρ _ => (θ_run Cert.RefAdamGdnOutIdeal.defs _ _).mono (fun r h => ⟨fun c => (h c).2.2.2.2, sem_eq_zero_of_no_sems (by decide) r.2⟩)
      (Cert.RefAdamGdnOutIdeal.Value.run (F := Ideal) m ρ),
    ⟨⟨rfl, fun _ => rfl, rfl⟩, ⟨rfl, fun _ => rfl, rfl⟩⟩⟩

/-- Of the forgetting attention's input weight: the two kernels and the reference end, arguments unchanged and counters at zero, and each named constant is the
    word it replaces up to the value the table gives it. -/
theorem foxIn : Cert.quiescent_AdamFoxIn ∧ Cert.quiescent_AdamFoxInIdeal ∧ Cert.quiescent_RefAdamFoxInIdeal ∧ Cert.preserves_AdamFoxIn_AdamFoxInIdeal :=
  ⟨fun m ρ _ => Cert.AdamFoxIn.Gen.frame (F := Bits) m ρ, fun m ρ _ => Cert.AdamFoxInIdeal.Gen.frame (F := Ideal) m ρ,
    fun m ρ _ => (θ_run Cert.RefAdamFoxInIdeal.defs _ _).mono (fun r h => ⟨fun c => (h c).2.2.2.2, sem_eq_zero_of_no_sems (by decide) r.2⟩)
      (Cert.RefAdamFoxInIdeal.Value.run (F := Ideal) m ρ),
    ⟨⟨rfl, fun _ => rfl, rfl⟩, ⟨rfl, fun _ => rfl, rfl⟩⟩⟩

/-- Of the forgetting attention's output weight: the two kernels and the reference end, arguments unchanged and counters at zero, and each named constant is the
    word it replaces up to the value the table gives it. -/
theorem foxOut : Cert.quiescent_AdamFoxOut ∧ Cert.quiescent_AdamFoxOutIdeal ∧ Cert.quiescent_RefAdamFoxOutIdeal ∧ Cert.preserves_AdamFoxOut_AdamFoxOutIdeal :=
  ⟨fun m ρ _ => Cert.AdamFoxOut.Gen.frame (F := Bits) m ρ, fun m ρ _ => Cert.AdamFoxOutIdeal.Gen.frame (F := Ideal) m ρ,
    fun m ρ _ => (θ_run Cert.RefAdamFoxOutIdeal.defs _ _).mono (fun r h => ⟨fun c => (h c).2.2.2.2, sem_eq_zero_of_no_sems (by decide) r.2⟩)
      (Cert.RefAdamFoxOutIdeal.Value.run (F := Ideal) m ρ),
    ⟨⟨rfl, fun _ => rfl, rfl⟩, ⟨rfl, fun _ => rfl, rfl⟩⟩⟩

/-- Of the delta-net's convolution weight: the two kernels and the reference end, arguments unchanged and counters at zero, and each named constant is the
    word it replaces up to the value the table gives it. -/
theorem conv : Cert.quiescent_AdamConv ∧ Cert.quiescent_AdamConvIdeal ∧ Cert.quiescent_RefAdamConvIdeal ∧ Cert.preserves_AdamConv_AdamConvIdeal :=
  ⟨fun m ρ _ => Cert.AdamConv.Gen.frame (F := Bits) m ρ, fun m ρ _ => Cert.AdamConvIdeal.Gen.frame (F := Ideal) m ρ,
    fun m ρ _ => (θ_run Cert.RefAdamConvIdeal.defs _ _).mono (fun r h => ⟨fun c => (h c).2.2.2.2, sem_eq_zero_of_no_sems (by decide) r.2⟩)
      (Cert.RefAdamConvIdeal.Value.run (F := Ideal) m ρ),
    ⟨⟨rfl, fun _ => rfl, rfl⟩, ⟨rfl, fun _ => rfl, rfl⟩⟩⟩

/-- Of the small weights: the two kernels and the reference end, arguments unchanged and counters at zero, and each named constant is the
    word it replaces up to the value the table gives it. -/
theorem small : Cert.quiescent_AdamSmall ∧ Cert.quiescent_AdamSmallIdeal ∧ Cert.quiescent_RefAdamSmallIdeal ∧ Cert.preserves_AdamSmall_AdamSmallIdeal :=
  ⟨fun m ρ _ => Cert.AdamSmall.Gen.frame (F := Bits) m ρ, fun m ρ _ => Cert.AdamSmallIdeal.Gen.frame (F := Ideal) m ρ,
    fun m ρ _ => (θ_run Cert.RefAdamSmallIdeal.defs _ _).mono (fun r h => ⟨fun c => (h c).2.2.2.2, sem_eq_zero_of_no_sems (by decide) r.2⟩)
      (Cert.RefAdamSmallIdeal.Value.run (F := Ideal) m ρ),
    ⟨⟨rfl, fun _ => rfl, rfl⟩, ⟨rfl, fun _ => rfl, rfl⟩⟩⟩

/-- Of the weight of adaLN's condition: the two kernels and the reference end, arguments unchanged and counters at zero, and each named constant is the
    word it replaces up to the value the table gives it. -/
theorem ada : Cert.quiescent_AdamAda ∧ Cert.quiescent_AdamAdaIdeal ∧ Cert.quiescent_RefAdamAdaIdeal ∧ Cert.preserves_AdamAda_AdamAdaIdeal :=
  ⟨fun m ρ _ => Cert.AdamAda.Gen.frame (F := Bits) m ρ, fun m ρ _ => Cert.AdamAdaIdeal.Gen.frame (F := Ideal) m ρ,
    fun m ρ _ => (θ_run Cert.RefAdamAdaIdeal.defs _ _).mono (fun r h => ⟨fun c => (h c).2.2.2.2, sem_eq_zero_of_no_sems (by decide) r.2⟩)
      (Cert.RefAdamAdaIdeal.Value.run (F := Ideal) m ρ),
    ⟨⟨rfl, fun _ => rfl, rfl⟩, ⟨rfl, fun _ => rfl, rfl⟩⟩⟩

end Cert.AdamFrames

end
-- ==== Proof.Adam.lean ====
/- The optimiser's step over the extended reals: the devices' gradients added up, the moments, and the step. -/
module

public import proofs.«01_k».proof.Proof.In
public import Idealize.ShloMosaic.Lib.Pipeline.ValueKit

@[expose] public section

set_option maxRecDepth 8192

noncomputable section

namespace Cert.OptStep

open Idealize.ShloMosaic hiding ix3
open Idealize.ShloMosaic.ValueIdx Cert.In
open scoped BigOperators

/-! ## Entry by entry -/

/-- The first moment after the step. -/
def mom (g m : EReal) : EReal := Ideal.ofBits .f32 0x3F666666#32 * m + Ideal.ofBits .f32 0x3DCCCCCD#32 * g

/-- The second moment after the step. -/
def vel (g v : EReal) : EReal := Ideal.ofBits .f32 0x3F7FBE77#32 * v + Ideal.ofBits .f32 0x3A83126F#32 * (g * g)

/-- The step: the first moment over the root of the second, both freed of their bias, and the weight's decay. -/
def step (g w m v : EReal) : EReal :=
  Ideal.ofBits .f32 0xBA83126F#32 * (Ideal.div (Ideal.div (mom g m) (Ideal.ofBits .f32 0x3F26BD02#32))
      (Ideal.sqrt (Ideal.div (vel g v) (Ideal.ofBits .f32 0x3C231ACC#32)) + Ideal.ofBits .f32 0x322BCC77#32)
    + Ideal.ofBits .f32 0x3C23D70A#32 * w)

theorem bias_m : Ideal.ofBits .f32 0x3F26BD02#32 = ((5463681 / 8388608 : ℝ) : EReal) := by
  simp [Ideal.ofBits, Ideal.ieee, -EReal.coe_mul]
  norm_num
theorem bias_v : Ideal.ofBits .f32 0x3C231ACC#32 = ((2672307 / 268435456 : ℝ) : EReal) := by
  simp [Ideal.ofBits, Ideal.ieee, -EReal.coe_mul]
  norm_num

/-- Times the reciprocal of the first moment's bias is over that bias. -/
theorem div_bias_m (x : EReal) : x * (((5463681 / 8388608)⁻¹ : ℝ) : EReal) = Ideal.div x (Ideal.ofBits .f32 0x3F26BD02#32) := by
  rw [bias_m, Ideal.div_coe (by norm_num), one_div]
/-- The same of the second moment's. -/
theorem div_bias_v (x : EReal) : x * (((2672307 / 268435456)⁻¹ : ℝ) : EReal) = Ideal.div x (Ideal.ofBits .f32 0x3C231ACC#32) := by
  rw [bias_v, Ideal.div_coe (by norm_num), one_div]

/-! ## Stacks of matrices -/

/-- The stack `x` holds `P`, matrix by matrix. -/
def Stack {N R C : ℕ} (x : (⟨3, ![N, R, C]⟩ : Shape).Idx → EReal) (P : ℕ → ℕ → ℕ → EReal) : Prop :=
  ∀ i, x i = P (i 0).val (i 1).val (i 2).val

/-- It is enough to look at the three coordinates. -/
theorem Stack.of {N R C : ℕ} {x : (⟨3, ![N, R, C]⟩ : Shape).Idx → EReal} {P : ℕ → ℕ → ℕ → EReal}
    (h : ∀ (s : Fin N) (a : Fin R) (b : Fin C), x (ix3 s a b) = P s.val a.val b.val) : Stack x P := fun i => by
  rw [← h (i 0) (i 1) (i 2)]
  refine congrArg x (funext fun a => ?_)
  match a with
  | ⟨0, _⟩ => rfl
  | ⟨1, _⟩ => rfl
  | ⟨2, _⟩ => rfl

/-- Every stack holds something. -/
theorem exists_stack {N R C : ℕ} (x : (⟨3, ![N, R, C]⟩ : Shape).Idx → EReal) : ∃ P, Stack x P := by
  classical
  refine ⟨fun s a b => if h : s < N ∧ a < R ∧ b < C then x (ix3 ⟨s, h.1⟩ ⟨a, h.2.1⟩ ⟨b, h.2.2⟩) else 0, Stack.of fun s a b => ?_⟩
  rw [dif_pos ⟨s.isLt, a.isLt, b.isLt⟩]

/-- The matrices of a stack added up. -/
def total (n : ℕ) (P : ℕ → ℕ → ℕ → EReal) (a b : ℕ) : EReal := ∑ s ∈ Finset.range n, P s a b

/-- The rows from `k` on. -/
def down (k : ℕ) (f : ℕ → ℕ → EReal) (a b : ℕ) : EReal := f (k + a) b

/-- A matrix written as a function of its index. -/
def table {R C : ℕ} (f : ℕ → ℕ → EReal) (i : (⟨2, ![R, C]⟩ : Shape).Idx) : EReal := f (i 0).val (i 1).val

/-- The matrices of the moments and of the steps. -/
def moms (G M : ℕ → ℕ → EReal) (a b : ℕ) : EReal := mom (G a b) (M a b)
@[inherit_doc moms] def vels (G V : ℕ → ℕ → EReal) (a b : ℕ) : EReal := vel (G a b) (V a b)
@[inherit_doc moms] def steps (G W M V : ℕ → ℕ → EReal) (a b : ℕ) : EReal := step (G a b) (W a b) (M a b) (V a b)

section
variable {R C : ℕ}

theorem Has.table {x : (⟨2, ![R, C]⟩ : Shape).Idx → EReal} {f : ℕ → ℕ → EReal} (h : x = table f) : Has x f := congrFun h

/-- The four results of the optimiser: the summed gradients `g`, the steps `d`, and the new moments `p` and `q`. -/
structure Outcome (G W M V : ℕ → ℕ → EReal) (g d p q : (⟨2, ![R, C]⟩ : Shape).Idx → EReal) : Prop where
  sum : Has g G
  step : Has d (steps G W M V)
  fst : Has p (moms G M)
  snd : Has q (vels G V)

/-- What holds the same is equal. -/
theorem Outcome.same {G W M V : ℕ → ℕ → EReal} {g d p q g' d' p' q' : (⟨2, ![R, C]⟩ : Shape).Idx → EReal} (h : Outcome G W M V g d p q)
    (h' : Outcome G W M V g' d' p' q') : g = g' ∧ d = d' ∧ p = p' ∧ q = q' :=
  ⟨h.sum.eq h'.sum, h.step.eq h'.step, h.fst.eq h'.fst, h.snd.eq h'.snd⟩

/-! ## The kernel's operations -/

/-- A widening of the format keeps the entries. -/
theorem Has.widen {x : FVec Ideal ⟨2, ![R, C]⟩ .bf16} {f : ℕ → ℕ → EReal} (hx : Has x f) (h : FTy.bf16.bits < FTy.f32.bits) :
    Has (extf .f32 x h) f := fun i => hx i

/-- A load of a whole matrix is the matrix. -/
theorem whole (inb : ∀ a, (![0, 0] : Fin 2 → ℕ) a + (⟨2, ![R, C]⟩ : Shape).size a ≤ (⟨2, ![R, C]⟩ : Shape).size a) (y : FVec Ideal ⟨2, ![R, C]⟩ .f32) :
    View.ld (Val := Elt Ideal) (e' := .f32) y (Rect.unit (s := ⟨2, ![R, C]⟩) ![0, 0] (⟨2, ![R, C]⟩ : Shape).size inb) = y :=
  View.ld_unit_lit (Val := Elt Ideal) (e := .f32) _ y (fun a => match a with | ⟨0, _⟩ => rfl | ⟨1, _⟩ => rfl)

/-- A store of a whole matrix leaves the matrix. -/
theorem keep (inb : ∀ a, (![0, 0] : Fin 2 → ℕ) a + (⟨2, ![R, C]⟩ : Shape).size a ≤ (⟨2, ![R, C]⟩ : Shape).size a) (y : FVec Ideal ⟨2, ![R, C]⟩ .f32) :
    View.canon (Val := Elt Ideal) (e := .f32) [⟨Rect.unit (s := ⟨2, ![R, C]⟩) ![0, 0] (⟨2, ![R, C]⟩ : Shape).size inb, y⟩] = y :=
  View.canon_cons_unit_lit _ _ _ (fun a => match a with | ⟨0, _⟩ => rfl | ⟨1, _⟩ => rfl)

/-- One matrix of a stack. -/
theorem Stack.part {N : ℕ} {x : FVec Ideal ⟨3, ![N, R, C]⟩ .f32} {P : ℕ → ℕ → ℕ → EReal} (h : Stack x P) (s : ℕ)
    (inb : ∀ a, (![s, 0, 0] : Fin 3 → ℕ) a + (⟨3, ![1, R, C]⟩ : Shape).size a ≤ (⟨3, ![N, R, C]⟩ : Shape).size a)
    (hc : (⟨3, ![1, R, C]⟩ : Shape).ShapeCasts ⟨2, ![R, C]⟩) :
    Has (shapeCast ⟨2, ![R, C]⟩ (View.ld (Val := Elt Ideal) (e' := .f32) x (Rect.unit (s := ⟨3, ![N, R, C]⟩) ![s, 0, 0] (⟨3, ![1, R, C]⟩ : Shape).size inb)) hc : FVec Ideal ⟨2, ![R, C]⟩ .f32) (P s) :=
  Has.of fun a b => by
    refine (shapeCast_1ab_ab_apply (α := EReal) _ hc a b).trans ?_
    refine (h ((Rect.unit (s := ⟨3, ![N, R, C]⟩) ![s, 0, 0] (⟨3, ![1, R, C]⟩ : Shape).size inb).idx (ix3 0 a b))).trans ?_
    show P (s + 1 * 0) (0 + 1 * a.val) (0 + 1 * b.val) = _
    rw [Nat.mul_zero, Nat.add_zero, Nat.zero_add, Nat.zero_add, Nat.one_mul, Nat.one_mul]

/-- One matrix of a stack in the narrow format, widened. -/
theorem Stack.wide {N : ℕ} {x : FVec Ideal ⟨3, ![N, R, C]⟩ .bf16} {P : ℕ → ℕ → ℕ → EReal} (h : Stack x P) (s : ℕ)
    (inb : ∀ a, (![s, 0, 0] : Fin 3 → ℕ) a + (⟨3, ![1, R, C]⟩ : Shape).size a ≤ (⟨3, ![N, R, C]⟩ : Shape).size a)
    (hc : (⟨3, ![1, R, C]⟩ : Shape).ShapeCasts ⟨2, ![R, C]⟩) (hb : FTy.bf16.bits < FTy.f32.bits) :
    Has (extf .f32 (shapeCast ⟨2, ![R, C]⟩ (View.ld (Val := Elt Ideal) (e' := .bf16) x (Rect.unit (s := ⟨3, ![N, R, C]⟩) ![s, 0, 0] (⟨3, ![1, R, C]⟩ : Shape).size inb)) hc : FVec Ideal ⟨2, ![R, C]⟩ .bf16) hb) (P s) :=
  Has.widen (Stack.part (x := x) h s inb hc) hb

/-- Eight matrices added up one after the other. -/
theorem has_total {x0 x1 x2 x3 x4 x5 x6 x7 : FVec Ideal ⟨2, ![R, C]⟩ .f32} {P : ℕ → ℕ → ℕ → EReal} (h0 : Has x0 (P 0)) (h1 : Has x1 (P 1)) (h2 : Has x2 (P 2))
    (h3 : Has x3 (P 3)) (h4 : Has x4 (P 4)) (h5 : Has x5 (P 5)) (h6 : Has x6 (P 6)) (h7 : Has x7 (P 7)) :
    Has (addf (addf (addf (addf (addf (addf (addf x0 x1) x2) x3) x4) x5) x6) x7) (total 8 P) :=
  (((((((h0.add h1).add h2).add h3).add h4).add h5).add h6).add h7).congr fun a b _ _ => by
    simp only [total, Finset.sum_range_succ, Finset.sum_range_zero, zero_add]

/-- One matrix is the sum of a stack of one. -/
theorem has_total_one {x : FVec Ideal ⟨2, ![R, C]⟩ .f32} {P : ℕ → ℕ → ℕ → EReal} (h : Has x (P 0)) : Has x (total 1 P) :=
  h.congr fun a b _ _ => by simp only [total, Finset.sum_range_succ, Finset.sum_range_zero, zero_add]

/-- The root, entry by entry. -/
theorem has_sqrt {x : FVec Ideal ⟨2, ![R, C]⟩ .f32} {X : ℕ → ℕ → EReal} (hx : Has x X) : Has (sqrt x) (fun a b => Ideal.sqrt (X a b)) := fun i => by
  show Ideal.sqrt (x i) = _
  rw [hx i]

variable {g w m v : FVec Ideal ⟨2, ![R, C]⟩ .f32} {G W M V : ℕ → ℕ → EReal} (hg : Has g G) (hw : Has w W) (hm : Has m M) (hv : Has v V)

include hg hm in
/-- A matrix of first moments. -/
theorem has_mom : Has (addf (mulf (broadcast ⟨2, ![R, C]⟩ (Scalar.ofBits .f32 0x3F666666#32)) m) (mulf (broadcast ⟨2, ![R, C]⟩ (Scalar.ofBits .f32 0x3DCCCCCD#32)) g))
    (moms G M) := ((has_splat _).mul hm).add ((has_splat _).mul hg)

include hg hv in
/-- A matrix of second moments. -/
theorem has_vel : Has (addf (mulf (broadcast ⟨2, ![R, C]⟩ (Scalar.ofBits .f32 0x3F7FBE77#32)) v)
      (mulf (broadcast ⟨2, ![R, C]⟩ (Scalar.ofBits .f32 0x3A83126F#32)) (mulf g g)))
    (vels G V) := ((has_splat _).mul hv).add ((has_splat _).mul (hg.mul hg))

include hw in
/-- A matrix of steps, made with the reciprocals of the biases. -/
theorem has_step {p q : FVec Ideal ⟨2, ![R, C]⟩ .f32} (hp : Has p (moms G M)) (hq : Has q (vels G V))
    {c d : EReal} (hc : c = (((5463681 / 8388608)⁻¹ : ℝ) : EReal)) (hd : d = (((2672307 / 268435456)⁻¹ : ℝ) : EReal)) :
    Has (mulf (broadcast ⟨2, ![R, C]⟩ (Scalar.ofBits .f32 0xBA83126F#32)) (addf (divf (mulf p (broadcast ⟨2, ![R, C]⟩ (c : Ideal .f32)))
        (addf (sqrt (mulf q (broadcast ⟨2, ![R, C]⟩ (d : Ideal .f32)))) (broadcast ⟨2, ![R, C]⟩ (Scalar.ofBits .f32 0x322BCC77#32))))
        (mulf (broadcast ⟨2, ![R, C]⟩ (Scalar.ofBits .f32 0x3C23D70A#32)) w)))
      (steps G W M V) := by
  subst hc hd
  refine ((has_splat _).mul (((hp.mul (has_splat _)).div ((has_sqrt (hq.mul (has_splat _))).add (has_splat _))).add ((has_splat _).mul hw))).congr fun a b _ _ => ?_
  beta_reduce
  rw [div_bias_m, div_bias_v]
  rfl

/-! ## The reference's operations -/

/-- A number spread over a matrix. -/
theorem has_spread (u : BitVec 32) (hb : (⟨0, ![]⟩ : Shape).BroadcastsInDim ⟨2, ![R, C]⟩ ![]) :
    Has (broadcastInDim ⟨2, ![R, C]⟩ ![] hb (constant (F := Ideal) ⟨0, ![]⟩ .f32 u)) (fun _ _ => Ideal.ofBits .f32 u) := fun i =>
  broadcastInDim_apply _ hb _ i (fun a => a.elim0) (fun a => a.elim0)

/-- The matrices of a stack added up at once. -/
theorem has_reduce {N : ℕ} {x : FVec Ideal ⟨3, ![N, R, C]⟩ .f32} {P : ℕ → ℕ → ℕ → EReal} (h : Stack x P)
    (hr : (⟨3, ![N, R, C]⟩ : Shape).ReducesTo [0] ⟨2, ![R, C]⟩) (hs : 0 < (⟨0, ![]⟩ : Shape).numel) :
    Has (Host.reduceAdd x (constant (F := Ideal) ⟨0, ![]⟩ .f32 0x00000000#32) hr hs) (total N P) := fun i => by
  simp only [Host.reduceAdd, Ideal.hostReduceAdd_def]
  rw [Ideal.hostReduceAdd_single hr ⟨hr.1, Nat.two_pos, hr.2⟩]
  show Ideal.ofBits .f32 0x00000000#32 + _ = _
  rw [zero_f32, zero_add, total, Finset.sum_range]
  exact Finset.sum_congr rfl fun k _ => h _

include hg hw hm hv in
/-- The reference's results. -/
theorem plain (hb : (⟨0, ![]⟩ : Shape).BroadcastsInDim ⟨2, ![R, C]⟩ ![]) :
    let k (u : BitVec 32) : FVec Ideal ⟨2, ![R, C]⟩ .f32 := broadcastInDim ⟨2, ![R, C]⟩ ![] hb (constant (F := Ideal) ⟨0, ![]⟩ .f32 u)
    let p := addf (mulf (k 0x3F666666#32) m) (mulf (k 0x3DCCCCCD#32) g)
    let q := addf (mulf (k 0x3F7FBE77#32) v) (mulf (k 0x3A83126F#32) (mulf g g))
    Outcome G W M V g (mulf (k 0xBA83126F#32) (addf (Host.divf (Host.divf p (k 0x3F26BD02#32))
      (addf (Host.sqrt (Host.divf q (k 0x3C231ACC#32))) (k 0x322BCC77#32))) (mulf (k 0x3C23D70A#32) w))) p q := by
  intro k p q
  have hk : ∀ u, Has (k u) (fun _ _ => Ideal.ofBits .f32 u) := fun u => has_spread u hb
  have hp : Has p (moms G M) := ((hk _).mul hm).add ((hk _).mul hg)
  have hq : Has q (vels G V) := ((hk _).mul hv).add ((hk _).mul (hg.mul hg))
  exact ⟨hg, (hk _).mul (((hp.div (hk _)).div ((has_sqrt (hq.div (hk _))).add (hk _))).add ((hk _).mul hw)), hp, hq⟩

/-- The reference's results are arrays that hold, whatever the arguments hold, the optimiser's results of them. -/
theorem plain_eq {N : ℕ} {x : FVec Ideal ⟨3, ![N, R, C]⟩ .f32} {a b c d : (⟨2, ![R, C]⟩ : Shape).Idx → EReal}
    (h : ∀ P W M V, Stack x P → Has w W → Has m M → Has v V → Outcome (total N P) W M V a b c d)
    (hr : (⟨3, ![N, R, C]⟩ : Shape).ReducesTo [0] ⟨2, ![R, C]⟩) (hs : 0 < (⟨0, ![]⟩ : Shape).numel) (hb : (⟨0, ![]⟩ : Shape).BroadcastsInDim ⟨2, ![R, C]⟩ ![]) :
    let k (u : BitVec 32) : FVec Ideal ⟨2, ![R, C]⟩ .f32 := broadcastInDim ⟨2, ![R, C]⟩ ![] hb (constant (F := Ideal) ⟨0, ![]⟩ .f32 u)
    let g := Host.reduceAdd x (constant (F := Ideal) ⟨0, ![]⟩ .f32 0x00000000#32) hr hs
    let p := addf (mulf (k 0x3F666666#32) m) (mulf (k 0x3DCCCCCD#32) g)
    let q := addf (mulf (k 0x3F7FBE77#32) v) (mulf (k 0x3A83126F#32) (mulf g g))
    g = a ∧ mulf (k 0xBA83126F#32) (addf (Host.divf (Host.divf p (k 0x3F26BD02#32))
      (addf (Host.sqrt (Host.divf q (k 0x3C231ACC#32))) (k 0x322BCC77#32))) (mulf (k 0x3C23D70A#32) w)) = b ∧ p = c ∧ q = d := by
  obtain ⟨P, hP⟩ := exists_stack x
  obtain ⟨W, hW⟩ := exists_has w
  obtain ⟨M, hM⟩ := exists_has m
  obtain ⟨V, hV⟩ := exists_has v
  exact (plain (has_reduce hP hr hs) hW hM hV hb).same (h P W M V hP hW hM hV)
end

end Cert.OptStep

end
-- ==== Proof.AdamGdnIn.lean ====
/- The optimiser's step of the delta-net input weight. -/
module

public import proofs.«01_k».proof.Defs
public import proofs.«01_k».proof.Proof.Adam
public import proofs.«01_k».proof.Proof.Gen.AdamGdnInIdeal
public import proofs.«01_k».proof.Proof.Gen.AdamGdnInIdeal.Frame
public import proofs.«01_k».proof.Proof.Gen.RefAdamGdnInIdeal
public import proofs.«01_k».proof.Proof.Gen.RefAdamGdnInIdeal.Run

@[expose] public section

set_option maxRecDepth 8192

noncomputable section

namespace Cert.AdamGdnInIdeal.Val

open Idealize.ShloMosaic hiding ix2
open Idealize.ShloMosaic.TcCoe Idealize.ShloMosaic.ValueIdx Idealize.ShloMosaic.Tactic Idealize.SL Idealize.SL.RA Idealize.SL.Sem
open Cert.AdamGdnInIdeal Cert.AdamGdnInIdeal.Gen Cert.In Cert.OptStep

/-- What the body leaves, from the tiles it reads. -/
theorem tile {x : FVec Ideal S8x256x772 .bf16} {w m v : FVec Ideal S256x772 .f32} {P : ℕ → ℕ → ℕ → EReal} {W M V : ℕ → ℕ → EReal}
    (hx : Stack x P) (hw : Has w W) (hm : Has m M) (hv : Has v V) :
    Outcome (total 8 P) W M V (out0_4 (F := Ideal) x w m v) (out0_5 (F := Ideal) x w m v) (out0_6 (F := Ideal) x w m v) (out0_7 (F := Ideal) x w m v) := by
  have g : Has (k0_pay5 (F := Ideal) x w m v) (total 8 P) := has_total (hx.wide 0 _ _ _) (hx.wide 1 _ _ _) (hx.wide 2 _ _ _) (hx.wide 3 _ _ _) (hx.wide 4 _ _ _) (hx.wide 5 _ _ _) (hx.wide 6 _ _ _) (hx.wide 7 _ _ _)
  unfold out0_4 out0_5 out0_6 out0_7
  rw [keep, keep, keep, keep, whole, whole, whole]
  exact ⟨g, has_step hw (has_mom g hm) (has_vel g hv) rfl rfl, has_mom g hm, has_vel g hv⟩

/-- Where the tiles of a point lie. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable {m : (ℓ : Loc nD τ sig) → Buf (Elt Ideal) ℓ} {c : Dev nD} {P : ℕ → ℕ → ℕ → EReal} {W M U : ℕ → ℕ → EReal}
  (hP : Stack (N := 8) (R := 2048) (C := 772) (V m c main_arg0) P) (hW : Has (R := 2048) (C := 772) (V m c main_arg1) W)
  (hM : Has (R := 2048) (C := 772) (V m c main_arg2) M) (hU : Has (R := 2048) (C := 772) (V m c main_arg3) U)

include hP hW hM hU in
/-- What the body leaves at a point: the results of the rows from the point's first row on. -/
theorem point (t : Fin cfg0.N) (k : ℕ) (hk : k = 256 * t.val) : Outcome (R := 256) (C := 772) (total 8 fun s => down k (P s)) (down k W) (down k M) (down k U)
    ((dats m 0 c).after 4 t) ((dats m 0 c).after 5 t) ((dats m 0 c).after 6 t) ((dats m 0 c).after 7 t) := by
  obtain ⟨i0, i1, i2, i3, -⟩ := idx t
  have ht := lt_of_lt_of_eq t.isLt N_0
  rw [after0_4, after0_5, after0_6, after0_7]
  refine tile (Stack.of fun s a b => ?_) (Has.of fun a b => ?_) (Has.of fun a b => ?_) (Has.of fun a b => ?_) <;> blk_simp [iblk]
  · refine (hP _).trans ?_; blk_simp [i0]; exact congrArg₂ (P _) (by first | rfl | omega | (simp <;> omega)) (by first | rfl | (simp <;> omega))
  · refine (hW _).trans ?_; blk_simp [i1]; exact congrArg₂ W (by first | rfl | omega | (simp <;> omega)) (by first | rfl | (simp <;> omega))
  · refine (hM _).trans ?_; blk_simp [i2]; exact congrArg₂ M (by first | rfl | omega | (simp <;> omega)) (by first | rfl | (simp <;> omega))
  · refine (hU _).trans ?_; blk_simp [i3]; exact congrArg₂ U (by first | rfl | omega | (simp <;> omega)) (by first | rfl | (simp <;> omega))

include hP hW hM hU in
/-- What the call leaves in its arrays. -/
theorem arrays : Outcome (R := 2048) (C := 772) (total 8 P) W M U
    ((dats m 0 c).arrAt 4 cfg0.N) ((dats m 0 c).arrAt 5 cfg0.N) ((dats m 0 c).arrAt 6 cfg0.N) ((dats m 0 c).arrAt 7 cfg0.N) := by
  have o := fun t => point hP hW hM hU t _ rfl
  refine ⟨Has.table ((dats m 0 c).arrAt_eq_of_covers 4 (table (total 8 P)) (by decide +kernel) fun t hf y => ?_),
    Has.table ((dats m 0 c).arrAt_eq_of_covers 5 (table (steps (total 8 P) W M U)) (by decide +kernel) fun t hf y => ?_),
    Has.table ((dats m 0 c).arrAt_eq_of_covers 6 (table (moms (total 8 P) M)) (by decide +kernel) fun t hf y => ?_),
    Has.table ((dats m 0 c).arrAt_eq_of_covers 7 (table (vels (total 8 P) U)) (by decide +kernel) fun t hf y => ?_)⟩
    <;> obtain ⟨-, -, -, -, i4, i5, i6, i7⟩ := idx t <;> unfold table <;> blk_simp
  · refine ((o t).sum y).trans ?_; blk_simp [i4]; exact congrArg₂ (total 8 P) (by first | rfl | omega | (simp <;> omega)) (by first | rfl | (simp <;> omega))
  · refine ((o t).step y).trans ?_; blk_simp [i5]; exact congrArg₂ (steps (total 8 P) W M U) (by first | rfl | omega | (simp <;> omega)) (by first | rfl | (simp <;> omega))
  · refine ((o t).fst y).trans ?_; blk_simp [i6]; exact congrArg₂ (moms (total 8 P) M) (by first | rfl | omega | (simp <;> omega)) (by first | rfl | (simp <;> omega))
  · refine ((o t).snd y).trans ?_; blk_simp [i7]; exact congrArg₂ (vels (total 8 P) U) (by first | rfl | omega | (simp <;> omega)) (by first | rfl | (simp <;> omega))

/-- Kernel and reference end with equal results, the arguments unchanged. -/
theorem algebraic : Cert.algebraic_AdamGdnInIdeal_RefAdamGdnInIdeal := by
  intro m g m' g' hp hm
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · refine (θ_run defs _ _).mono (fun r h c => ?_) (run_main (F := Ideal) m g)
    have a := fun w hw => ((h c).1 w).trans (((dats m 0 c).arrAt_in w hw _).trans (A_eq m c w))
    exact ⟨(h c).1 4, (h c).1 5, (h c).1 6, (h c).1 7, a 0 rfl, a 1 rfl, a 2 rfl, a 3 rfl⟩
  · refine (θ_run Cert.RefAdamGdnInIdeal.defs _ _).mono (fun r h c => ?_) (Cert.RefAdamGdnInIdeal.Value.run (F := Ideal) m' g')
    obtain ⟨e0, e1, e2, e3⟩ := hm c
    obtain ⟨h0, h1, h2, h3, h4⟩ := h c
    rw [e0] at h0; rw [e0, e1, e2, e3] at h1; rw [e0, e2] at h2; rw [e0, e3] at h3
    obtain ⟨s0, s1, s2, s3⟩ := plain_eq (N := 8) (R := 2048) (C := 772) (fun _ _ _ _ => arrays (m := m) (c := c)) (by decide) (by decide) (by decide)
    exact ⟨h0.trans s0, h1.trans s1, h2.trans s2, h3.trans s3, h4⟩

end Cert.AdamGdnInIdeal.Val

end
-- ==== Proof.AdamGdnOut.lean ====
/- The optimiser's step of the delta-net output weight. -/
module

public import proofs.«01_k».proof.Defs
public import proofs.«01_k».proof.Proof.Adam
public import proofs.«01_k».proof.Proof.Gen.AdamGdnOutIdeal
public import proofs.«01_k».proof.Proof.Gen.AdamGdnOutIdeal.Frame
public import proofs.«01_k».proof.Proof.Gen.RefAdamGdnOutIdeal
public import proofs.«01_k».proof.Proof.Gen.RefAdamGdnOutIdeal.Run

@[expose] public section

set_option maxRecDepth 8192

noncomputable section

namespace Cert.AdamGdnOutIdeal.Val

open Idealize.ShloMosaic hiding ix2
open Idealize.ShloMosaic.TcCoe Idealize.ShloMosaic.ValueIdx Idealize.ShloMosaic.Tactic Idealize.SL Idealize.SL.RA Idealize.SL.Sem
open Cert.AdamGdnOutIdeal Cert.AdamGdnOutIdeal.Gen Cert.In Cert.OptStep

/-- What the body leaves, from the tiles it reads. -/
theorem tile {x : FVec Ideal S8x256x1024 .bf16} {w m v : FVec Ideal S256x1024 .f32} {P : ℕ → ℕ → ℕ → EReal} {W M V : ℕ → ℕ → EReal}
    (hx : Stack x P) (hw : Has w W) (hm : Has m M) (hv : Has v V) :
    Outcome (total 8 P) W M V (out0_4 (F := Ideal) x w m v) (out0_5 (F := Ideal) x w m v) (out0_6 (F := Ideal) x w m v) (out0_7 (F := Ideal) x w m v) := by
  have g : Has (k0_pay5 (F := Ideal) x w m v) (total 8 P) := has_total (hx.wide 0 _ _ _) (hx.wide 1 _ _ _) (hx.wide 2 _ _ _) (hx.wide 3 _ _ _) (hx.wide 4 _ _ _) (hx.wide 5 _ _ _) (hx.wide 6 _ _ _) (hx.wide 7 _ _ _)
  unfold out0_4 out0_5 out0_6 out0_7
  rw [keep, keep, keep, keep, whole, whole, whole]
  exact ⟨g, has_step hw (has_mom g hm) (has_vel g hv) rfl rfl, has_mom g hm, has_vel g hv⟩

/-- Where the tiles of a point lie. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable {m : (ℓ : Loc nD τ sig) → Buf (Elt Ideal) ℓ} {c : Dev nD} {P : ℕ → ℕ → ℕ → EReal} {W M U : ℕ → ℕ → EReal}
  (hP : Stack (N := 8) (R := 512) (C := 1024) (V m c main_arg0) P) (hW : Has (R := 512) (C := 1024) (V m c main_arg1) W)
  (hM : Has (R := 512) (C := 1024) (V m c main_arg2) M) (hU : Has (R := 512) (C := 1024) (V m c main_arg3) U)

include hP hW hM hU in
/-- What the body leaves at a point: the results of the rows from the point's first row on. -/
theorem point (t : Fin cfg0.N) (k : ℕ) (hk : k = 256 * t.val) : Outcome (R := 256) (C := 1024) (total 8 fun s => down k (P s)) (down k W) (down k M) (down k U)
    ((dats m 0 c).after 4 t) ((dats m 0 c).after 5 t) ((dats m 0 c).after 6 t) ((dats m 0 c).after 7 t) := by
  obtain ⟨i0, i1, i2, i3, -⟩ := idx t
  have ht := lt_of_lt_of_eq t.isLt N_0
  rw [after0_4, after0_5, after0_6, after0_7]
  refine tile (Stack.of fun s a b => ?_) (Has.of fun a b => ?_) (Has.of fun a b => ?_) (Has.of fun a b => ?_) <;> blk_simp [iblk]
  · refine (hP _).trans ?_; blk_simp [i0]; exact congrArg₂ (P _) (by first | rfl | omega | (simp <;> omega)) (by first | rfl | (simp <;> omega))
  · refine (hW _).trans ?_; blk_simp [i1]; exact congrArg₂ W (by first | rfl | omega | (simp <;> omega)) (by first | rfl | (simp <;> omega))
  · refine (hM _).trans ?_; blk_simp [i2]; exact congrArg₂ M (by first | rfl | omega | (simp <;> omega)) (by first | rfl | (simp <;> omega))
  · refine (hU _).trans ?_; blk_simp [i3]; exact congrArg₂ U (by first | rfl | omega | (simp <;> omega)) (by first | rfl | (simp <;> omega))

include hP hW hM hU in
/-- What the call leaves in its arrays. -/
theorem arrays : Outcome (R := 512) (C := 1024) (total 8 P) W M U
    ((dats m 0 c).arrAt 4 cfg0.N) ((dats m 0 c).arrAt 5 cfg0.N) ((dats m 0 c).arrAt 6 cfg0.N) ((dats m 0 c).arrAt 7 cfg0.N) := by
  have o := fun t => point hP hW hM hU t _ rfl
  refine ⟨Has.table ((dats m 0 c).arrAt_eq_of_covers 4 (table (total 8 P)) (by decide +kernel) fun t hf y => ?_),
    Has.table ((dats m 0 c).arrAt_eq_of_covers 5 (table (steps (total 8 P) W M U)) (by decide +kernel) fun t hf y => ?_),
    Has.table ((dats m 0 c).arrAt_eq_of_covers 6 (table (moms (total 8 P) M)) (by decide +kernel) fun t hf y => ?_),
    Has.table ((dats m 0 c).arrAt_eq_of_covers 7 (table (vels (total 8 P) U)) (by decide +kernel) fun t hf y => ?_)⟩
    <;> obtain ⟨-, -, -, -, i4, i5, i6, i7⟩ := idx t <;> unfold table <;> blk_simp
  · refine ((o t).sum y).trans ?_; blk_simp [i4]; exact congrArg₂ (total 8 P) (by first | rfl | omega | (simp <;> omega)) (by first | rfl | (simp <;> omega))
  · refine ((o t).step y).trans ?_; blk_simp [i5]; exact congrArg₂ (steps (total 8 P) W M U) (by first | rfl | omega | (simp <;> omega)) (by first | rfl | (simp <;> omega))
  · refine ((o t).fst y).trans ?_; blk_simp [i6]; exact congrArg₂ (moms (total 8 P) M) (by first | rfl | omega | (simp <;> omega)) (by first | rfl | (simp <;> omega))
  · refine ((o t).snd y).trans ?_; blk_simp [i7]; exact congrArg₂ (vels (total 8 P) U) (by first | rfl | omega | (simp <;> omega)) (by first | rfl | (simp <;> omega))

/-- Kernel and reference end with equal results, the arguments unchanged. -/
theorem algebraic : Cert.algebraic_AdamGdnOutIdeal_RefAdamGdnOutIdeal := by
  intro m g m' g' hp hm
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · refine (θ_run defs _ _).mono (fun r h c => ?_) (run_main (F := Ideal) m g)
    have a := fun w hw => ((h c).1 w).trans (((dats m 0 c).arrAt_in w hw _).trans (A_eq m c w))
    exact ⟨(h c).1 4, (h c).1 5, (h c).1 6, (h c).1 7, a 0 rfl, a 1 rfl, a 2 rfl, a 3 rfl⟩
  · refine (θ_run Cert.RefAdamGdnOutIdeal.defs _ _).mono (fun r h c => ?_) (Cert.RefAdamGdnOutIdeal.Value.run (F := Ideal) m' g')
    obtain ⟨e0, e1, e2, e3⟩ := hm c
    obtain ⟨h0, h1, h2, h3, h4⟩ := h c
    rw [e0] at h0; rw [e0, e1, e2, e3] at h1; rw [e0, e2] at h2; rw [e0, e3] at h3
    obtain ⟨s0, s1, s2, s3⟩ := plain_eq (N := 8) (R := 512) (C := 1024) (fun _ _ _ _ => arrays (m := m) (c := c)) (by decide) (by decide) (by decide)
    exact ⟨h0.trans s0, h1.trans s1, h2.trans s2, h3.trans s3, h4⟩

end Cert.AdamGdnOutIdeal.Val

end
-- ==== Proof.AdamFoxIn.lean ====
/- The optimiser's step of the forgetting attention's input weight. -/
module

public import proofs.«01_k».proof.Defs
public import proofs.«01_k».proof.Proof.Adam
public import proofs.«01_k».proof.Proof.Gen.AdamFoxInIdeal
public import proofs.«01_k».proof.Proof.Gen.AdamFoxInIdeal.Frame
public import proofs.«01_k».proof.Proof.Gen.RefAdamFoxInIdeal
public import proofs.«01_k».proof.Proof.Gen.RefAdamFoxInIdeal.Run

@[expose] public section

set_option maxRecDepth 8192

noncomputable section

namespace Cert.AdamFoxInIdeal.Val

open Idealize.ShloMosaic hiding ix2
open Idealize.ShloMosaic.TcCoe Idealize.ShloMosaic.ValueIdx Idealize.ShloMosaic.Tactic Idealize.SL Idealize.SL.RA Idealize.SL.Sem
open Cert.AdamFoxInIdeal Cert.AdamFoxInIdeal.Gen Cert.In Cert.OptStep

/-- What the body leaves, from the tiles it reads. -/
theorem tile {x : FVec Ideal S8x256x514 .bf16} {w m v : FVec Ideal S256x514 .f32} {P : ℕ → ℕ → ℕ → EReal} {W M V : ℕ → ℕ → EReal}
    (hx : Stack x P) (hw : Has w W) (hm : Has m M) (hv : Has v V) :
    Outcome (total 8 P) W M V (out0_4 (F := Ideal) x w m v) (out0_5 (F := Ideal) x w m v) (out0_6 (F := Ideal) x w m v) (out0_7 (F := Ideal) x w m v) := by
  have g : Has (k0_pay5 (F := Ideal) x w m v) (total 8 P) := has_total (hx.wide 0 _ _ _) (hx.wide 1 _ _ _) (hx.wide 2 _ _ _) (hx.wide 3 _ _ _) (hx.wide 4 _ _ _) (hx.wide 5 _ _ _) (hx.wide 6 _ _ _) (hx.wide 7 _ _ _)
  unfold out0_4 out0_5 out0_6 out0_7
  rw [keep, keep, keep, keep, whole, whole, whole]
  exact ⟨g, has_step hw (has_mom g hm) (has_vel g hv) rfl rfl, has_mom g hm, has_vel g hv⟩

/-- Where the tiles of a point lie. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable {m : (ℓ : Loc nD τ sig) → Buf (Elt Ideal) ℓ} {c : Dev nD} {P : ℕ → ℕ → ℕ → EReal} {W M U : ℕ → ℕ → EReal}
  (hP : Stack (N := 8) (R := 2048) (C := 514) (V m c main_arg0) P) (hW : Has (R := 2048) (C := 514) (V m c main_arg1) W)
  (hM : Has (R := 2048) (C := 514) (V m c main_arg2) M) (hU : Has (R := 2048) (C := 514) (V m c main_arg3) U)

include hP hW hM hU in
/-- What the body leaves at a point: the results of the rows from the point's first row on. -/
theorem point (t : Fin cfg0.N) (k : ℕ) (hk : k = 256 * t.val) : Outcome (R := 256) (C := 514) (total 8 fun s => down k (P s)) (down k W) (down k M) (down k U)
    ((dats m 0 c).after 4 t) ((dats m 0 c).after 5 t) ((dats m 0 c).after 6 t) ((dats m 0 c).after 7 t) := by
  obtain ⟨i0, i1, i2, i3, -⟩ := idx t
  have ht := lt_of_lt_of_eq t.isLt N_0
  rw [after0_4, after0_5, after0_6, after0_7]
  refine tile (Stack.of fun s a b => ?_) (Has.of fun a b => ?_) (Has.of fun a b => ?_) (Has.of fun a b => ?_) <;> blk_simp [iblk]
  · refine (hP _).trans ?_; blk_simp [i0]; exact congrArg₂ (P _) (by first | rfl | omega | (simp <;> omega)) (by first | rfl | (simp <;> omega))
  · refine (hW _).trans ?_; blk_simp [i1]; exact congrArg₂ W (by first | rfl | omega | (simp <;> omega)) (by first | rfl | (simp <;> omega))
  · refine (hM _).trans ?_; blk_simp [i2]; exact congrArg₂ M (by first | rfl | omega | (simp <;> omega)) (by first | rfl | (simp <;> omega))
  · refine (hU _).trans ?_; blk_simp [i3]; exact congrArg₂ U (by first | rfl | omega | (simp <;> omega)) (by first | rfl | (simp <;> omega))

include hP hW hM hU in
/-- What the call leaves in its arrays. -/
theorem arrays : Outcome (R := 2048) (C := 514) (total 8 P) W M U
    ((dats m 0 c).arrAt 4 cfg0.N) ((dats m 0 c).arrAt 5 cfg0.N) ((dats m 0 c).arrAt 6 cfg0.N) ((dats m 0 c).arrAt 7 cfg0.N) := by
  have o := fun t => point hP hW hM hU t _ rfl
  refine ⟨Has.table ((dats m 0 c).arrAt_eq_of_covers 4 (table (total 8 P)) (by decide +kernel) fun t hf y => ?_),
    Has.table ((dats m 0 c).arrAt_eq_of_covers 5 (table (steps (total 8 P) W M U)) (by decide +kernel) fun t hf y => ?_),
    Has.table ((dats m 0 c).arrAt_eq_of_covers 6 (table (moms (total 8 P) M)) (by decide +kernel) fun t hf y => ?_),
    Has.table ((dats m 0 c).arrAt_eq_of_covers 7 (table (vels (total 8 P) U)) (by decide +kernel) fun t hf y => ?_)⟩
    <;> obtain ⟨-, -, -, -, i4, i5, i6, i7⟩ := idx t <;> unfold table <;> blk_simp
  · refine ((o t).sum y).trans ?_; blk_simp [i4]; exact congrArg₂ (total 8 P) (by first | rfl | omega | (simp <;> omega)) (by first | rfl | (simp <;> omega))
  · refine ((o t).step y).trans ?_; blk_simp [i5]; exact congrArg₂ (steps (total 8 P) W M U) (by first | rfl | omega | (simp <;> omega)) (by first | rfl | (simp <;> omega))
  · refine ((o t).fst y).trans ?_; blk_simp [i6]; exact congrArg₂ (moms (total 8 P) M) (by first | rfl | omega | (simp <;> omega)) (by first | rfl | (simp <;> omega))
  · refine ((o t).snd y).trans ?_; blk_simp [i7]; exact congrArg₂ (vels (total 8 P) U) (by first | rfl | omega | (simp <;> omega)) (by first | rfl | (simp <;> omega))

/-- Kernel and reference end with equal results, the arguments unchanged. -/
theorem algebraic : Cert.algebraic_AdamFoxInIdeal_RefAdamFoxInIdeal := by
  intro m g m' g' hp hm
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · refine (θ_run defs _ _).mono (fun r h c => ?_) (run_main (F := Ideal) m g)
    have a := fun w hw => ((h c).1 w).trans (((dats m 0 c).arrAt_in w hw _).trans (A_eq m c w))
    exact ⟨(h c).1 4, (h c).1 5, (h c).1 6, (h c).1 7, a 0 rfl, a 1 rfl, a 2 rfl, a 3 rfl⟩
  · refine (θ_run Cert.RefAdamFoxInIdeal.defs _ _).mono (fun r h c => ?_) (Cert.RefAdamFoxInIdeal.Value.run (F := Ideal) m' g')
    obtain ⟨e0, e1, e2, e3⟩ := hm c
    obtain ⟨h0, h1, h2, h3, h4⟩ := h c
    rw [e0] at h0; rw [e0, e1, e2, e3] at h1; rw [e0, e2] at h2; rw [e0, e3] at h3
    obtain ⟨s0, s1, s2, s3⟩ := plain_eq (N := 8) (R := 2048) (C := 514) (fun _ _ _ _ => arrays (m := m) (c := c)) (by decide) (by decide) (by decide)
    exact ⟨h0.trans s0, h1.trans s1, h2.trans s2, h3.trans s3, h4⟩

end Cert.AdamFoxInIdeal.Val

end
-- ==== Proof.AdamFoxOut.lean ====
/- The optimiser's step of the forgetting attention's output weight. -/
module

public import proofs.«01_k».proof.Defs
public import proofs.«01_k».proof.Proof.Adam
public import proofs.«01_k».proof.Proof.Gen.AdamFoxOutIdeal
public import proofs.«01_k».proof.Proof.Gen.AdamFoxOutIdeal.Frame
public import proofs.«01_k».proof.Proof.Gen.RefAdamFoxOutIdeal
public import proofs.«01_k».proof.Proof.Gen.RefAdamFoxOutIdeal.Run

@[expose] public section

set_option maxRecDepth 8192

noncomputable section

namespace Cert.AdamFoxOutIdeal.Val

open Idealize.ShloMosaic hiding ix2
open Idealize.ShloMosaic.TcCoe Idealize.ShloMosaic.ValueIdx Idealize.ShloMosaic.Tactic Idealize.SL Idealize.SL.RA Idealize.SL.Sem
open Cert.AdamFoxOutIdeal Cert.AdamFoxOutIdeal.Gen Cert.In Cert.OptStep

/-- What the body leaves, from the tiles it reads. -/
theorem tile {x : FVec Ideal S8x256x1024 .bf16} {w m v : FVec Ideal S256x1024 .f32} {P : ℕ → ℕ → ℕ → EReal} {W M V : ℕ → ℕ → EReal}
    (hx : Stack x P) (hw : Has w W) (hm : Has m M) (hv : Has v V) :
    Outcome (total 8 P) W M V (out0_4 (F := Ideal) x w m v) (out0_5 (F := Ideal) x w m v) (out0_6 (F := Ideal) x w m v) (out0_7 (F := Ideal) x w m v) := by
  have g : Has (k0_pay5 (F := Ideal) x w m v) (total 8 P) := has_total (hx.wide 0 _ _ _) (hx.wide 1 _ _ _) (hx.wide 2 _ _ _) (hx.wide 3 _ _ _) (hx.wide 4 _ _ _) (hx.wide 5 _ _ _) (hx.wide 6 _ _ _) (hx.wide 7 _ _ _)
  unfold out0_4 out0_5 out0_6 out0_7
  rw [keep, keep, keep, keep, whole, whole, whole]
  exact ⟨g, has_step hw (has_mom g hm) (has_vel g hv) rfl rfl, has_mom g hm, has_vel g hv⟩

/-- Where the tiles of a point lie. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable {m : (ℓ : Loc nD τ sig) → Buf (Elt Ideal) ℓ} {c : Dev nD} {P : ℕ → ℕ → ℕ → EReal} {W M U : ℕ → ℕ → EReal}
  (hP : Stack (N := 8) (R := 256) (C := 1024) (V m c main_arg0) P) (hW : Has (R := 256) (C := 1024) (V m c main_arg1) W)
  (hM : Has (R := 256) (C := 1024) (V m c main_arg2) M) (hU : Has (R := 256) (C := 1024) (V m c main_arg3) U)

include hP hW hM hU in
/-- What the body leaves at a point: the results of the rows from the point's first row on. -/
theorem point (t : Fin cfg0.N) (k : ℕ) (hk : k = 256 * t.val) : Outcome (R := 256) (C := 1024) (total 8 fun s => down k (P s)) (down k W) (down k M) (down k U)
    ((dats m 0 c).after 4 t) ((dats m 0 c).after 5 t) ((dats m 0 c).after 6 t) ((dats m 0 c).after 7 t) := by
  obtain ⟨i0, i1, i2, i3, -⟩ := idx t
  have ht := lt_of_lt_of_eq t.isLt N_0
  rw [after0_4, after0_5, after0_6, after0_7]
  refine tile (Stack.of fun s a b => ?_) (Has.of fun a b => ?_) (Has.of fun a b => ?_) (Has.of fun a b => ?_) <;> blk_simp [iblk]
  · refine (hP _).trans ?_; blk_simp [i0]; exact congrArg₂ (P _) (by first | rfl | omega | (simp <;> omega)) (by first | rfl | (simp <;> omega))
  · refine (hW _).trans ?_; blk_simp [i1]; exact congrArg₂ W (by first | rfl | omega | (simp <;> omega)) (by first | rfl | (simp <;> omega))
  · refine (hM _).trans ?_; blk_simp [i2]; exact congrArg₂ M (by first | rfl | omega | (simp <;> omega)) (by first | rfl | (simp <;> omega))
  · refine (hU _).trans ?_; blk_simp [i3]; exact congrArg₂ U (by first | rfl | omega | (simp <;> omega)) (by first | rfl | (simp <;> omega))

include hP hW hM hU in
/-- What the call leaves in its arrays. -/
theorem arrays : Outcome (R := 256) (C := 1024) (total 8 P) W M U
    ((dats m 0 c).arrAt 4 cfg0.N) ((dats m 0 c).arrAt 5 cfg0.N) ((dats m 0 c).arrAt 6 cfg0.N) ((dats m 0 c).arrAt 7 cfg0.N) := by
  have o := fun t => point hP hW hM hU t _ rfl
  refine ⟨Has.table ((dats m 0 c).arrAt_eq_of_covers 4 (table (total 8 P)) (by decide +kernel) fun t hf y => ?_),
    Has.table ((dats m 0 c).arrAt_eq_of_covers 5 (table (steps (total 8 P) W M U)) (by decide +kernel) fun t hf y => ?_),
    Has.table ((dats m 0 c).arrAt_eq_of_covers 6 (table (moms (total 8 P) M)) (by decide +kernel) fun t hf y => ?_),
    Has.table ((dats m 0 c).arrAt_eq_of_covers 7 (table (vels (total 8 P) U)) (by decide +kernel) fun t hf y => ?_)⟩
    <;> obtain ⟨-, -, -, -, i4, i5, i6, i7⟩ := idx t <;> unfold table <;> blk_simp
  · refine ((o t).sum y).trans ?_; blk_simp [i4]; exact congrArg₂ (total 8 P) (by first | rfl | omega | (simp <;> omega)) (by first | rfl | (simp <;> omega))
  · refine ((o t).step y).trans ?_; blk_simp [i5]; exact congrArg₂ (steps (total 8 P) W M U) (by first | rfl | omega | (simp <;> omega)) (by first | rfl | (simp <;> omega))
  · refine ((o t).fst y).trans ?_; blk_simp [i6]; exact congrArg₂ (moms (total 8 P) M) (by first | rfl | omega | (simp <;> omega)) (by first | rfl | (simp <;> omega))
  · refine ((o t).snd y).trans ?_; blk_simp [i7]; exact congrArg₂ (vels (total 8 P) U) (by first | rfl | omega | (simp <;> omega)) (by first | rfl | (simp <;> omega))

/-- Kernel and reference end with equal results, the arguments unchanged. -/
theorem algebraic : Cert.algebraic_AdamFoxOutIdeal_RefAdamFoxOutIdeal := by
  intro m g m' g' hp hm
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · refine (θ_run defs _ _).mono (fun r h c => ?_) (run_main (F := Ideal) m g)
    have a := fun w hw => ((h c).1 w).trans (((dats m 0 c).arrAt_in w hw _).trans (A_eq m c w))
    exact ⟨(h c).1 4, (h c).1 5, (h c).1 6, (h c).1 7, a 0 rfl, a 1 rfl, a 2 rfl, a 3 rfl⟩
  · refine (θ_run Cert.RefAdamFoxOutIdeal.defs _ _).mono (fun r h c => ?_) (Cert.RefAdamFoxOutIdeal.Value.run (F := Ideal) m' g')
    obtain ⟨e0, e1, e2, e3⟩ := hm c
    obtain ⟨h0, h1, h2, h3, h4⟩ := h c
    rw [e0] at h0; rw [e0, e1, e2, e3] at h1; rw [e0, e2] at h2; rw [e0, e3] at h3
    obtain ⟨s0, s1, s2, s3⟩ := plain_eq (N := 8) (R := 256) (C := 1024) (fun _ _ _ _ => arrays (m := m) (c := c)) (by decide) (by decide) (by decide)
    exact ⟨h0.trans s0, h1.trans s1, h2.trans s2, h3.trans s3, h4⟩

end Cert.AdamFoxOutIdeal.Val

end
-- ==== Proof.AdamConv.lean ====
/- The optimiser's step of the delta-net's convolution weight. -/
module

public import proofs.«01_k».proof.Defs
public import proofs.«01_k».proof.Proof.Adam
public import proofs.«01_k».proof.Proof.Gen.AdamConvIdeal
public import proofs.«01_k».proof.Proof.Gen.AdamConvIdeal.Frame
public import proofs.«01_k».proof.Proof.Gen.RefAdamConvIdeal
public import proofs.«01_k».proof.Proof.Gen.RefAdamConvIdeal.Run

@[expose] public section

set_option maxRecDepth 8192

noncomputable section

namespace Cert.AdamConvIdeal.Val

open Idealize.ShloMosaic hiding ix2
open Idealize.ShloMosaic.TcCoe Idealize.ShloMosaic.ValueIdx Idealize.ShloMosaic.Tactic Idealize.SL Idealize.SL.RA Idealize.SL.Sem
open Cert.AdamConvIdeal Cert.AdamConvIdeal.Gen Cert.In Cert.OptStep

/-- What the body leaves, from the tiles it reads. -/
theorem tile {x : FVec Ideal S8x8x512 .f32} {w m v : FVec Ideal S8x512 .f32} {P : ℕ → ℕ → ℕ → EReal} {W M V : ℕ → ℕ → EReal}
    (hx : Stack x P) (hw : Has w W) (hm : Has m M) (hv : Has v V) :
    Outcome (total 8 P) W M V (out0_4 (F := Ideal) x w m v) (out0_5 (F := Ideal) x w m v) (out0_6 (F := Ideal) x w m v) (out0_7 (F := Ideal) x w m v) := by
  have g : Has (k0_pay5 (F := Ideal) x w m v) (total 8 P) := has_total (hx.part 0 _ _) (hx.part 1 _ _) (hx.part 2 _ _) (hx.part 3 _ _) (hx.part 4 _ _) (hx.part 5 _ _) (hx.part 6 _ _) (hx.part 7 _ _)
  unfold out0_4 out0_5 out0_6 out0_7 k0_pay6
  rw [keep, keep, keep, keep, whole, whole, whole]
  exact ⟨g, has_step hw (has_mom g hm) (has_vel g hv) rfl rfl, has_mom g hm, has_vel g hv⟩

/-- Where the tiles of a point lie. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable {m : (ℓ : Loc nD τ sig) → Buf (Elt Ideal) ℓ} {c : Dev nD} {P : ℕ → ℕ → ℕ → EReal} {W M U : ℕ → ℕ → EReal}
  (hP : Stack (N := 8) (R := 8) (C := 512) (V m c main_arg0) P) (hW : Has (R := 8) (C := 512) (V m c main_arg1) W)
  (hM : Has (R := 8) (C := 512) (V m c main_arg2) M) (hU : Has (R := 8) (C := 512) (V m c main_arg3) U)

include hP hW hM hU in
/-- What the body leaves at a point: the results of the rows from the point's first row on. -/
theorem point (t : Fin cfg0.N) (k : ℕ) (hk : k = 8 * t.val) : Outcome (R := 8) (C := 512) (total 8 fun s => down k (P s)) (down k W) (down k M) (down k U)
    ((dats m 0 c).after 4 t) ((dats m 0 c).after 5 t) ((dats m 0 c).after 6 t) ((dats m 0 c).after 7 t) := by
  obtain ⟨i0, i1, i2, i3, -⟩ := idx t
  have ht := lt_of_lt_of_eq t.isLt N_0
  rw [after0_4, after0_5, after0_6, after0_7]
  refine tile (Stack.of fun s a b => ?_) (Has.of fun a b => ?_) (Has.of fun a b => ?_) (Has.of fun a b => ?_) <;> blk_simp [iblk]
  · refine (hP _).trans ?_; blk_simp [i0]; exact congrArg₂ (P _) (by first | rfl | omega | (simp <;> omega)) (by first | rfl | (simp <;> omega))
  · refine (hW _).trans ?_; blk_simp [i1]; exact congrArg₂ W (by first | rfl | omega | (simp <;> omega)) (by first | rfl | (simp <;> omega))
  · refine (hM _).trans ?_; blk_simp [i2]; exact congrArg₂ M (by first | rfl | omega | (simp <;> omega)) (by first | rfl | (simp <;> omega))
  · refine (hU _).trans ?_; blk_simp [i3]; exact congrArg₂ U (by first | rfl | omega | (simp <;> omega)) (by first | rfl | (simp <;> omega))

include hP hW hM hU in
/-- What the call leaves in its arrays. -/
theorem arrays : Outcome (R := 8) (C := 512) (total 8 P) W M U
    ((dats m 0 c).arrAt 4 cfg0.N) ((dats m 0 c).arrAt 5 cfg0.N) ((dats m 0 c).arrAt 6 cfg0.N) ((dats m 0 c).arrAt 7 cfg0.N) := by
  have o := fun t => point hP hW hM hU t _ rfl
  refine ⟨Has.table ((dats m 0 c).arrAt_eq_of_covers 4 (table (total 8 P)) (by decide +kernel) fun t hf y => ?_),
    Has.table ((dats m 0 c).arrAt_eq_of_covers 5 (table (steps (total 8 P) W M U)) (by decide +kernel) fun t hf y => ?_),
    Has.table ((dats m 0 c).arrAt_eq_of_covers 6 (table (moms (total 8 P) M)) (by decide +kernel) fun t hf y => ?_),
    Has.table ((dats m 0 c).arrAt_eq_of_covers 7 (table (vels (total 8 P) U)) (by decide +kernel) fun t hf y => ?_)⟩
    <;> obtain ⟨-, -, -, -, i4, i5, i6, i7⟩ := idx t <;> unfold table <;> blk_simp
  · refine ((o t).sum y).trans ?_; blk_simp [i4]; exact congrArg₂ (total 8 P) (by first | rfl | omega | (simp <;> omega)) (by first | rfl | (simp <;> omega))
  · refine ((o t).step y).trans ?_; blk_simp [i5]; exact congrArg₂ (steps (total 8 P) W M U) (by first | rfl | omega | (simp <;> omega)) (by first | rfl | (simp <;> omega))
  · refine ((o t).fst y).trans ?_; blk_simp [i6]; exact congrArg₂ (moms (total 8 P) M) (by first | rfl | omega | (simp <;> omega)) (by first | rfl | (simp <;> omega))
  · refine ((o t).snd y).trans ?_; blk_simp [i7]; exact congrArg₂ (vels (total 8 P) U) (by first | rfl | omega | (simp <;> omega)) (by first | rfl | (simp <;> omega))

/-- Kernel and reference end with equal results, the arguments unchanged. -/
theorem algebraic : Cert.algebraic_AdamConvIdeal_RefAdamConvIdeal := by
  intro m g m' g' hp hm
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · refine (θ_run defs _ _).mono (fun r h c => ?_) (run_main (F := Ideal) m g)
    have a := fun w hw => ((h c).1 w).trans (((dats m 0 c).arrAt_in w hw _).trans (A_eq m c w))
    exact ⟨(h c).1 4, (h c).1 5, (h c).1 6, (h c).1 7, a 0 rfl, a 1 rfl, a 2 rfl, a 3 rfl⟩
  · refine (θ_run Cert.RefAdamConvIdeal.defs _ _).mono (fun r h c => ?_) (Cert.RefAdamConvIdeal.Value.run (F := Ideal) m' g')
    obtain ⟨e0, e1, e2, e3⟩ := hm c
    obtain ⟨h0, h1, h2, h3, h4⟩ := h c
    rw [e0] at h0; rw [e0, e1, e2, e3] at h1; rw [e0, e2] at h2; rw [e0, e3] at h3
    obtain ⟨s0, s1, s2, s3⟩ := plain_eq (N := 8) (R := 8) (C := 512) (fun _ _ _ _ => arrays (m := m) (c := c)) (by decide) (by decide) (by decide)
    exact ⟨h0.trans s0, h1.trans s1, h2.trans s2, h3.trans s3, h4⟩

end Cert.AdamConvIdeal.Val

end
-- ==== Proof.AdamSmall.lean ====
/- The optimiser's step of the small weights packed together. -/
module

public import proofs.«01_k».proof.Defs
public import proofs.«01_k».proof.Proof.Adam
public import proofs.«01_k».proof.Proof.Gen.AdamSmallIdeal
public import proofs.«01_k».proof.Proof.Gen.AdamSmallIdeal.Frame
public import proofs.«01_k».proof.Proof.Gen.RefAdamSmallIdeal
public import proofs.«01_k».proof.Proof.Gen.RefAdamSmallIdeal.Run

@[expose] public section

set_option maxRecDepth 8192

noncomputable section

namespace Cert.AdamSmallIdeal.Val

open Idealize.ShloMosaic hiding ix2
open Idealize.ShloMosaic.TcCoe Idealize.ShloMosaic.ValueIdx Idealize.ShloMosaic.Tactic Idealize.SL Idealize.SL.RA Idealize.SL.Sem
open Cert.AdamSmallIdeal Cert.AdamSmallIdeal.Gen Cert.In Cert.OptStep

/-- What the body leaves, from the tiles it reads. -/
theorem tile {x : FVec Ideal S8x144x128 .f32} {w m v : FVec Ideal S144x128 .f32} {P : ℕ → ℕ → ℕ → EReal} {W M V : ℕ → ℕ → EReal}
    (hx : Stack x P) (hw : Has w W) (hm : Has m M) (hv : Has v V) :
    Outcome (total 8 P) W M V (out0_4 (F := Ideal) x w m v) (out0_5 (F := Ideal) x w m v) (out0_6 (F := Ideal) x w m v) (out0_7 (F := Ideal) x w m v) := by
  have g : Has (k0_pay5 (F := Ideal) x w m v) (total 8 P) := has_total (hx.part 0 _ _) (hx.part 1 _ _) (hx.part 2 _ _) (hx.part 3 _ _) (hx.part 4 _ _) (hx.part 5 _ _) (hx.part 6 _ _) (hx.part 7 _ _)
  unfold out0_4 out0_5 out0_6 out0_7 k0_pay6
  rw [keep, keep, keep, keep, whole, whole, whole]
  exact ⟨g, has_step hw (has_mom g hm) (has_vel g hv) rfl rfl, has_mom g hm, has_vel g hv⟩

/-- Where the tiles of a point lie. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable {m : (ℓ : Loc nD τ sig) → Buf (Elt Ideal) ℓ} {c : Dev nD} {P : ℕ → ℕ → ℕ → EReal} {W M U : ℕ → ℕ → EReal}
  (hP : Stack (N := 8) (R := 144) (C := 128) (V m c main_arg0) P) (hW : Has (R := 144) (C := 128) (V m c main_arg1) W)
  (hM : Has (R := 144) (C := 128) (V m c main_arg2) M) (hU : Has (R := 144) (C := 128) (V m c main_arg3) U)

include hP hW hM hU in
/-- What the body leaves at a point: the results of the rows from the point's first row on. -/
theorem point (t : Fin cfg0.N) (k : ℕ) (hk : k = 144 * t.val) : Outcome (R := 144) (C := 128) (total 8 fun s => down k (P s)) (down k W) (down k M) (down k U)
    ((dats m 0 c).after 4 t) ((dats m 0 c).after 5 t) ((dats m 0 c).after 6 t) ((dats m 0 c).after 7 t) := by
  obtain ⟨i0, i1, i2, i3, -⟩ := idx t
  have ht := lt_of_lt_of_eq t.isLt N_0
  rw [after0_4, after0_5, after0_6, after0_7]
  refine tile (Stack.of fun s a b => ?_) (Has.of fun a b => ?_) (Has.of fun a b => ?_) (Has.of fun a b => ?_) <;> blk_simp [iblk]
  · refine (hP _).trans ?_; blk_simp [i0]; exact congrArg₂ (P _) (by first | rfl | omega | (simp <;> omega)) (by first | rfl | (simp <;> omega))
  · refine (hW _).trans ?_; blk_simp [i1]; exact congrArg₂ W (by first | rfl | omega | (simp <;> omega)) (by first | rfl | (simp <;> omega))
  · refine (hM _).trans ?_; blk_simp [i2]; exact congrArg₂ M (by first | rfl | omega | (simp <;> omega)) (by first | rfl | (simp <;> omega))
  · refine (hU _).trans ?_; blk_simp [i3]; exact congrArg₂ U (by first | rfl | omega | (simp <;> omega)) (by first | rfl | (simp <;> omega))

include hP hW hM hU in
/-- What the call leaves in its arrays. -/
theorem arrays : Outcome (R := 144) (C := 128) (total 8 P) W M U
    ((dats m 0 c).arrAt 4 cfg0.N) ((dats m 0 c).arrAt 5 cfg0.N) ((dats m 0 c).arrAt 6 cfg0.N) ((dats m 0 c).arrAt 7 cfg0.N) := by
  have o := fun t => point hP hW hM hU t _ rfl
  refine ⟨Has.table ((dats m 0 c).arrAt_eq_of_covers 4 (table (total 8 P)) (by decide +kernel) fun t hf y => ?_),
    Has.table ((dats m 0 c).arrAt_eq_of_covers 5 (table (steps (total 8 P) W M U)) (by decide +kernel) fun t hf y => ?_),
    Has.table ((dats m 0 c).arrAt_eq_of_covers 6 (table (moms (total 8 P) M)) (by decide +kernel) fun t hf y => ?_),
    Has.table ((dats m 0 c).arrAt_eq_of_covers 7 (table (vels (total 8 P) U)) (by decide +kernel) fun t hf y => ?_)⟩
    <;> obtain ⟨-, -, -, -, i4, i5, i6, i7⟩ := idx t <;> unfold table <;> blk_simp
  · refine ((o t).sum y).trans ?_; blk_simp [i4]; exact congrArg₂ (total 8 P) (by first | rfl | omega | (simp <;> omega)) (by first | rfl | (simp <;> omega))
  · refine ((o t).step y).trans ?_; blk_simp [i5]; exact congrArg₂ (steps (total 8 P) W M U) (by first | rfl | omega | (simp <;> omega)) (by first | rfl | (simp <;> omega))
  · refine ((o t).fst y).trans ?_; blk_simp [i6]; exact congrArg₂ (moms (total 8 P) M) (by first | rfl | omega | (simp <;> omega)) (by first | rfl | (simp <;> omega))
  · refine ((o t).snd y).trans ?_; blk_simp [i7]; exact congrArg₂ (vels (total 8 P) U) (by first | rfl | omega | (simp <;> omega)) (by first | rfl | (simp <;> omega))

/-- Kernel and reference end with equal results, the arguments unchanged. -/
theorem algebraic : Cert.algebraic_AdamSmallIdeal_RefAdamSmallIdeal := by
  intro m g m' g' hp hm
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · refine (θ_run defs _ _).mono (fun r h c => ?_) (run_main (F := Ideal) m g)
    have a := fun w hw => ((h c).1 w).trans (((dats m 0 c).arrAt_in w hw _).trans (A_eq m c w))
    exact ⟨(h c).1 4, (h c).1 5, (h c).1 6, (h c).1 7, a 0 rfl, a 1 rfl, a 2 rfl, a 3 rfl⟩
  · refine (θ_run Cert.RefAdamSmallIdeal.defs _ _).mono (fun r h c => ?_) (Cert.RefAdamSmallIdeal.Value.run (F := Ideal) m' g')
    obtain ⟨e0, e1, e2, e3⟩ := hm c
    obtain ⟨h0, h1, h2, h3, h4⟩ := h c
    rw [e0] at h0; rw [e0, e1, e2, e3] at h1; rw [e0, e2] at h2; rw [e0, e3] at h3
    obtain ⟨s0, s1, s2, s3⟩ := plain_eq (N := 8) (R := 144) (C := 128) (fun _ _ _ _ => arrays (m := m) (c := c)) (by decide) (by decide) (by decide)
    exact ⟨h0.trans s0, h1.trans s1, h2.trans s2, h3.trans s3, h4⟩

end Cert.AdamSmallIdeal.Val

end
-- ==== Proof.AdamAda.lean ====
/- The optimiser's step of the weight of adaLN's condition. -/
module

public import proofs.«01_k».proof.Defs
public import proofs.«01_k».proof.Proof.Adam
public import proofs.«01_k».proof.Proof.Gen.AdamAdaIdeal
public import proofs.«01_k».proof.Proof.Gen.AdamAdaIdeal.Frame
public import proofs.«01_k».proof.Proof.Gen.RefAdamAdaIdeal
public import proofs.«01_k».proof.Proof.Gen.RefAdamAdaIdeal.Run

@[expose] public section

set_option maxRecDepth 8192

noncomputable section

namespace Cert.AdamAdaIdeal.Val

open Idealize.ShloMosaic hiding ix2
open Idealize.ShloMosaic.TcCoe Idealize.ShloMosaic.ValueIdx Idealize.ShloMosaic.Tactic Idealize.SL Idealize.SL.RA Idealize.SL.Sem
open Cert.AdamAdaIdeal Cert.AdamAdaIdeal.Gen Cert.In Cert.OptStep

/-- What the body leaves, from the tiles it reads. -/
theorem tile {x : FVec Ideal S1x512x384 .f32} {w m v : FVec Ideal S512x384 .f32} {P : ℕ → ℕ → ℕ → EReal} {W M V : ℕ → ℕ → EReal}
    (hx : Stack x P) (hw : Has w W) (hm : Has m M) (hv : Has v V) :
    Outcome (total 1 P) W M V (out0_4 (F := Ideal) x w m v) (out0_5 (F := Ideal) x w m v) (out0_6 (F := Ideal) x w m v) (out0_7 (F := Ideal) x w m v) := by
  have g : Has (k0_pay1 (F := Ideal) (View.ld (Val := Elt Ideal) (e' := .f32) x r0_0)) (total 1 P) := has_total_one (hx.part 0 _ _)
  unfold out0_4 out0_5 out0_6 out0_7
  rw [keep, keep, keep, keep, whole, whole, whole]
  exact ⟨g, has_step hw (has_mom g hm) (has_vel g hv) rfl rfl, has_mom g hm, has_vel g hv⟩

/-- Where the tiles of a point lie. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable {m : (ℓ : Loc nD τ sig) → Buf (Elt Ideal) ℓ} {c : Dev nD} {P : ℕ → ℕ → ℕ → EReal} {W M U : ℕ → ℕ → EReal}
  (hP : Stack (N := 1) (R := 4096) (C := 384) (V m c main_arg0) P) (hW : Has (R := 4096) (C := 384) (V m c main_arg1) W)
  (hM : Has (R := 4096) (C := 384) (V m c main_arg2) M) (hU : Has (R := 4096) (C := 384) (V m c main_arg3) U)

include hP hW hM hU in
/-- What the body leaves at a point: the results of the rows from the point's first row on. -/
theorem point (t : Fin cfg0.N) (k : ℕ) (hk : k = 512 * t.val) : Outcome (R := 512) (C := 384) (total 1 fun s => down k (P s)) (down k W) (down k M) (down k U)
    ((dats m 0 c).after 4 t) ((dats m 0 c).after 5 t) ((dats m 0 c).after 6 t) ((dats m 0 c).after 7 t) := by
  obtain ⟨i0, i1, i2, i3, -⟩ := idx t
  have ht := lt_of_lt_of_eq t.isLt N_0
  rw [after0_4, after0_5, after0_6, after0_7]
  refine tile (Stack.of fun s a b => ?_) (Has.of fun a b => ?_) (Has.of fun a b => ?_) (Has.of fun a b => ?_) <;> blk_simp [iblk]
  · refine (hP _).trans ?_; blk_simp [i0]; exact congrArg₂ (P _) (by first | rfl | omega | (simp <;> omega)) (by first | rfl | (simp <;> omega))
  · refine (hW _).trans ?_; blk_simp [i1]; exact congrArg₂ W (by first | rfl | omega | (simp <;> omega)) (by first | rfl | (simp <;> omega))
  · refine (hM _).trans ?_; blk_simp [i2]; exact congrArg₂ M (by first | rfl | omega | (simp <;> omega)) (by first | rfl | (simp <;> omega))
  · refine (hU _).trans ?_; blk_simp [i3]; exact congrArg₂ U (by first | rfl | omega | (simp <;> omega)) (by first | rfl | (simp <;> omega))

include hP hW hM hU in
/-- What the call leaves in its arrays. -/
theorem arrays : Outcome (R := 4096) (C := 384) (total 1 P) W M U
    ((dats m 0 c).arrAt 4 cfg0.N) ((dats m 0 c).arrAt 5 cfg0.N) ((dats m 0 c).arrAt 6 cfg0.N) ((dats m 0 c).arrAt 7 cfg0.N) := by
  have o := fun t => point hP hW hM hU t _ rfl
  refine ⟨Has.table ((dats m 0 c).arrAt_eq_of_covers 4 (table (total 1 P)) (by decide +kernel) fun t hf y => ?_),
    Has.table ((dats m 0 c).arrAt_eq_of_covers 5 (table (steps (total 1 P) W M U)) (by decide +kernel) fun t hf y => ?_),
    Has.table ((dats m 0 c).arrAt_eq_of_covers 6 (table (moms (total 1 P) M)) (by decide +kernel) fun t hf y => ?_),
    Has.table ((dats m 0 c).arrAt_eq_of_covers 7 (table (vels (total 1 P) U)) (by decide +kernel) fun t hf y => ?_)⟩
    <;> obtain ⟨-, -, -, -, i4, i5, i6, i7⟩ := idx t <;> unfold table <;> blk_simp
  · refine ((o t).sum y).trans ?_; blk_simp [i4]; exact congrArg₂ (total 1 P) (by first | rfl | omega | (simp <;> omega)) (by first | rfl | (simp <;> omega))
  · refine ((o t).step y).trans ?_; blk_simp [i5]; exact congrArg₂ (steps (total 1 P) W M U) (by first | rfl | omega | (simp <;> omega)) (by first | rfl | (simp <;> omega))
  · refine ((o t).fst y).trans ?_; blk_simp [i6]; exact congrArg₂ (moms (total 1 P) M) (by first | rfl | omega | (simp <;> omega)) (by first | rfl | (simp <;> omega))
  · refine ((o t).snd y).trans ?_; blk_simp [i7]; exact congrArg₂ (vels (total 1 P) U) (by first | rfl | omega | (simp <;> omega)) (by first | rfl | (simp <;> omega))

/-- Kernel and reference end with equal results, the arguments unchanged. -/
theorem algebraic : Cert.algebraic_AdamAdaIdeal_RefAdamAdaIdeal := by
  intro m g m' g' hp hm
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · refine (θ_run defs _ _).mono (fun r h c => ?_) (run_main (F := Ideal) m g)
    have a := fun w hw => ((h c).1 w).trans (((dats m 0 c).arrAt_in w hw _).trans (A_eq m c w))
    exact ⟨(h c).1 4, (h c).1 5, (h c).1 6, (h c).1 7, a 0 rfl, a 1 rfl, a 2 rfl, a 3 rfl⟩
  · refine (θ_run Cert.RefAdamAdaIdeal.defs _ _).mono (fun r h c => ?_) (Cert.RefAdamAdaIdeal.Value.run (F := Ideal) m' g')
    obtain ⟨e0, e1, e2, e3⟩ := hm c
    obtain ⟨h0, h1, h2, h3, h4⟩ := h c
    rw [e0] at h0; rw [e0, e1, e2, e3] at h1; rw [e0, e2] at h2; rw [e0, e3] at h3
    obtain ⟨s0, s1, s2, s3⟩ := plain_eq (N := 1) (R := 4096) (C := 384) (fun _ _ _ _ => arrays (m := m) (c := c)) (by decide) (by decide) (by decide)
    exact ⟨h0.trans s0, h1.trans s1, h2.trans s2, h3.trans s3, h4⟩

end Cert.AdamAdaIdeal.Val

end
-- ==== Proof.LossHead.lean ====
/- The last norm, the loss of its rows and the gradients of both, over the extended reals. -/
module

public import proofs.«01_k».proof.Proof.InBwd

@[expose] public section

set_option maxRecDepth 8192

noncomputable section

namespace Cert.In

open Idealize.ShloMosaic Idealize.ShloMosaic.ValueIdx
open scoped BigOperators

/-- One half. -/
abbrev half : EReal := Ideal.ofBits .f32 0x3F000000#32

/-- One over the number of features. -/
abbrev inv1024 : EReal := Ideal.ofBits .f32 0x3A800000#32

theorem half_eq : half = ((2⁻¹ : ℝ) : EReal) := by
  simp [half, Ideal.ofBits, Ideal.ieee]
  norm_cast
  try norm_num
theorem inv1024_eq : inv1024 = ((1024⁻¹ : ℝ) : EReal) := by
  simp [inv1024, Ideal.ofBits, Ideal.ieee]
  norm_cast
  try norm_num
theorem f32_1024 : Ideal.ofBits .f32 0x44800000#32 = ((1024 : ℝ) : EReal) := by
  simp [Ideal.ofBits, Ideal.ieee]
  norm_cast
  try norm_num
theorem f32_two : Ideal.ofBits .f32 0x40000000#32 = ((2 : ℝ) : EReal) := by
  simp [Ideal.ofBits, Ideal.ieee]
  norm_cast
  try norm_num
theorem f32_one : Ideal.ofBits .f32 0x3F800000#32 = ((1 : ℝ) : EReal) := by
  simp [Ideal.ofBits, Ideal.ieee, -EReal.coe_mul]
  norm_num

/-- Over 1024 is times its inverse. -/
theorem div_1024 (x : EReal) : Ideal.div x (Ideal.ofBits .f32 0x44800000#32) = x * inv1024 := by
  rw [f32_1024, inv1024_eq, Ideal.div, if_neg (by norm_cast), EReal.coe_inv]

/-- The gradient of half a mean square: the entry over the number of features. -/
theorem half_mean_sq (x : EReal) :
    Ideal.div (half * Ideal.ofBits .f32 0x3F800000#32) (Ideal.ofBits .f32 0x44800000#32) * (Ideal.ofBits .f32 0x40000000#32 * x) = x * inv1024 := by
  rw [div_1024, half_eq, f32_one, f32_two, inv1024_eq, ← mul_assoc, ← EReal.coe_mul, ← EReal.coe_mul, ← EReal.coe_mul, mul_comm x]
  norm_num

/-- The normed and weighted row less the target. -/
def err (x : ℕ → ℕ → EReal) (w : ℕ → EReal) (y : ℕ → ℕ → EReal) (t k : ℕ) : EReal := xn x t k * w k - y t k

/-- The gradient of the loss in a normed and weighted row. -/
def dout (x : ℕ → ℕ → EReal) (w : ℕ → EReal) (y : ℕ → ℕ → EReal) (t k : ℕ) : EReal := err x w y t k * inv1024

/-- The loss of `n` rows: half the sum of their mean squares. -/
def lossOf (n : ℕ) (x : ℕ → ℕ → EReal) (w : ℕ → EReal) (y : ℕ → ℕ → EReal) : EReal :=
  half * ∑ t ∈ Finset.range n, (∑ k ∈ Finset.range 1024, err x w y t k * err x w y t k) * inv1024

/-- The gradient of the norm's weight, from `n` rows. -/
def dwOf (n : ℕ) (x : ℕ → ℕ → EReal) (w : ℕ → EReal) (y : ℕ → ℕ → EReal) (k : ℕ) : EReal := ∑ t ∈ Finset.range n, xn x t k * dout x w y t k

/-- The gradient of a row over its root mean square. -/
def dxn (x : ℕ → ℕ → EReal) (w : ℕ → EReal) (y : ℕ → ℕ → EReal) (t k : ℕ) : EReal := dout x w y t k * w k

/-- What the mean square passes back to each entry of its row, but for the entry. -/
def back (x : ℕ → ℕ → EReal) (w : ℕ → EReal) (y : ℕ → ℕ → EReal) (t : ℕ) : EReal :=
  Ideal.div ((∑ k ∈ Finset.range 1024, x t k * dxn x w y t k) * (Ideal.ofBits .f32 0xBF000000#32 * Ideal.div (rinv x t) (rms x t)))
    (Ideal.ofBits .f32 0x44800000#32)

/-- The gradient of the rows. -/
def dlast (x : ℕ → ℕ → EReal) (w : ℕ → EReal) (y : ℕ → ℕ → EReal) (t k : ℕ) : EReal :=
  dxn x w y t k * rinv x t + x t k * back x w y t + back x w y t * x t k

/-- A tile of rows more. -/
theorem lossOf_tile (n : ℕ) (x : ℕ → ℕ → EReal) (w : ℕ → EReal) (y : ℕ → ℕ → EReal) :
    lossOf (512 * n) x w y + lossOf 512 (fun a b => x (512 * n + a) b) w (fun a b => y (512 * n + a) b) = lossOf (512 * (n + 1)) x w y := by
  unfold lossOf
  rw [half_eq, ← EReal.left_distrib_of_nonneg_of_ne_top (EReal.coe_nonneg.mpr (by norm_num)) (EReal.coe_ne_top _)]
  exact congrArg _ (sum_tiles (fun t => (∑ k ∈ Finset.range 1024, err x w y t k * err x w y t k) * inv1024) n 512)
theorem dwOf_tile (n : ℕ) (x : ℕ → ℕ → EReal) (w : ℕ → EReal) (y : ℕ → ℕ → EReal) (k : ℕ) :
    dwOf (512 * n) x w y k + dwOf 512 (fun a b => x (512 * n + a) b) w (fun a b => y (512 * n + a) b) k = dwOf (512 * (n + 1)) x w y k :=
  sum_tiles (fun t => xn x t k * dout x w y t k) n 512

/-- A row's gradient reads that row alone. -/
theorem dlast_shift (x : ℕ → ℕ → EReal) (w : ℕ → EReal) (y : ℕ → ℕ → EReal) (p t k : ℕ) :
    dlast (fun a b => x (p + a) b) w (fun a b => y (p + a) b) t k = dlast x w y (p + t) k := rfl

/-- The difference, entry by entry. -/
theorem Has.sub {R C : ℕ} {φ : FTy} {x y : FVec Ideal ⟨2, ![R, C]⟩ φ} {f g : ℕ → ℕ → EReal} (hx : Has x f) (hy : Has y g) :
    Has (subf x y) (fun a b => f a b - g a b) := fun i => by
  show x i - y i = _
  rw [hx i, hy i]

/-- A sum over the entries of a vector. -/
theorem sum_vec {n : ℕ} (x : (⟨1, ![n]⟩ : Shape).Idx → EReal) {f : ℕ → EReal} (h : ∀ i, x i = f (i 0).val) :
    ∑ i, x i = ∑ k ∈ Finset.range n, f k := by
  rw [Finset.sum_range]
  refine Fintype.sum_bijective (fun i => i 0) ⟨fun i j e => funext fun a => ?_, fun k => ⟨ix1 k, rfl⟩⟩ _ _ h
  match a with
  | ⟨0, _⟩ => exact e

end Cert.In

end
-- ==== Proof.LossPoint.lean ====
/- The loss and its gradients: what a grid point computes. -/
module

public import proofs.«01_k».proof.Proof.LossHead
public import proofs.«01_k».proof.Proof.Gen.LossIdeal.Frame
public import Idealize.ShloMosaic.Lib.Pipeline.ValueKit

@[expose] public section

set_option maxRecDepth 8192

noncomputable section

namespace Cert.LossIdeal.Val

open Idealize.ShloMosaic hiding ix2
open Idealize.ShloMosaic.TcCoe Idealize.ShloMosaic.ValueIdx Idealize.ShloMosaic.Tactic
open Idealize.SL Idealize.SL.RA
open Cert.LossIdeal Cert.LossIdeal.Gen Cert.In
open scoped BigOperators

/-! ## What is computed from tiles -/

section Tiles
variable {x y : FVec Ideal S512x1024 .f32} {n : FVec Ideal S1x1024 .f32} {X Y : ℕ → ℕ → EReal} {w : ℕ → EReal}
variable (hx : Has x X) (hn : Has n (fun _ b => w b)) (hy : Has y Y)

section
include hx

theorem pay7_has : Has (k0_pay7 (F := Ideal) x) (fun a _ => rms X a) :=
  ((((hx.mul hx).rowSum _ reduces_S512x1024_S512 (.inl rfl) rfl shapeCasts_S512_S512x1).div (has_splat _)).add (has_splat _))

theorem pay8_has : Has (k0_pay8 (F := Ideal) x) (fun a _ => rinv X a) := (pay7_has hx).rsqrt

theorem pay9_has : Has (k0_pay9 (F := Ideal) x) (fun a _ => Ideal.ofBits .f32 0xBF000000#32 * Ideal.div (rinv X a) (rms X a)) :=
  (has_splat _).mul ((pay8_has hx).div (pay7_has hx))

theorem pay10_has : Has (k0_pay10 (F := Ideal) x) (xn X) := hx.mul ((pay8_has hx).col broadcasts_S512x1_S512x1024)

include hn hy

theorem pay11_has : Has (k0_pay11 (F := Ideal) x n y) (err X w Y) :=
  ((pay10_has hx).mul ((hn.cast shapeCasts_S1x1024_S1x1024).row broadcasts_S1x1024_S512x1024)).sub hy

theorem pay1_has : Has (k0_pay1 (F := Ideal) (k0_pay11 x n y)) (dout X w Y) := (pay11_has hx hn hy).mul (has_splat _)

/-- The loss with a tile of rows more. -/
theorem pay12_has {p : FVec Ideal S1x128 .f32} {l : EReal} (hp : Has p (fun _ _ => l)) :
    Has (k0_pay12 (F := Ideal) x n y p) (fun _ _ => l + lossOf 512 X w Y) :=
  (hp.cast shapeCasts_S1x128_S1x128).add (((has_splat _).mul
    ((((((pay11_has hx hn hy).mul (pay11_has hx hn hy)).rowSum _ reduces_S512x1024_S512 (.inl rfl) rfl shapeCasts_S512_S512x1).mul (has_splat _)).colSum _
      reduces_S512x1_S1 (.inl rfl) rfl shapeCasts_S1_S1x1))).col broadcasts_S1x1_S1x128)

/-- The gradient of the norm's weight with a tile of rows more. -/
theorem pay3_has {p : FVec Ideal S1x1024 .f32} {f : ℕ → EReal} (hp : Has p (fun _ b => f b)) :
    Has (k0_pay3 (F := Ideal) (k0_pay10 x) (k0_pay11 x n y) p) (fun _ b => f b + dwOf 512 X w Y b) :=
  (hp.cast shapeCasts_S1x1024_S1x1024).add (((pay10_has hx).mul (pay1_has hx hn hy)).colSum _ reduces_S512x1024_S1024 (.inl rfl) rfl shapeCasts_S1024_S1x1024)

theorem dxn_has : Has (mulf (k0_pay1 (F := Ideal) (k0_pay11 x n y)) (broadcastTo S512x1024 (k0_pay6 n) broadcasts_S1x1024_S512x1024)) (dxn X w Y) :=
  (pay1_has hx hn hy).mul ((hn.cast shapeCasts_S1x1024_S1x1024).row broadcasts_S1x1024_S512x1024)

/-- The gradient of a tile of rows. -/
theorem pay2_has : Has (k0_pay2 (F := Ideal) x (k0_pay6 n) (k0_pay8 x) (k0_pay9 x) (k0_pay11 x n y)) (dlast X w Y) := by
  have hd := dxn_has hx hn hy
  have hb := ((((((hx.mul hd).rowSum 0x00000000#32 reduces_S512x1024_S512 (.inl rfl) rfl shapeCasts_S512_S512x1).mul (pay9_has hx)).div
    (has_splat (Ideal.ofBits .f32 0x44800000#32))).rowSum 0x00000000#32 reduces_S512x1_S512 (.inl rfl) rfl shapeCasts_S512_S512x1).col broadcasts_S512x1_S512x1024).congr
      (g := fun a _ => back X w Y a) fun a b _ _ => by
        beta_reduce
        rw [Finset.sum_range_one]
        rfl
  exact ((hd.mul ((pay8_has hx).col broadcasts_S512x1_S512x1024)).add (hx.mul hb)).add (hb.mul hx)
end

theorem pay4_zero : Has (k0_pay4 (F := Ideal)) (fun _ _ => 0) := fun i => zero_f32
theorem pay5_zero : Has (k0_pay5 (F := Ideal)) (fun _ _ => 0) := fun i => zero_f32
end Tiles

/-! ## What a point leaves, from what the one before left -/

variable {F : FTy → Type} [FloatOps F] (m : (ℓ : Loc nD τ sig) → Buf (Elt F) ℓ) (c : Dev nD)

/-- What the point before `t` left. -/
abbrev prev (t : Fin cfg0.N) := outsAt0 m c (t.val - 1) (Nat.lt_of_le_of_lt (Nat.sub_le _ _) t.isLt)

theorem loss_first (t : Fin cfg0.N) (h : t.val % 8 = 0) : (outsAt0 m c t.val t.isLt).1 = k0_pay12 (iblk m c 0 t) (iblk m c 1 t) (iblk m c 2 t) (k0_pay4 (F := F)) := by
  rw [outsAt0_A m c t h]; frame_out
theorem loss_rest (t : Fin cfg0.N) (h : ¬t.val % 8 = 0) : (outsAt0 m c t.val t.isLt).1 = k0_pay12 (iblk m c 0 t) (iblk m c 1 t) (iblk m c 2 t) (prev m c t).1 := by
  rw [outsAt0_B m c t h]; frame_out
theorem dw_first (t : Fin cfg0.N) (h : t.val % 8 = 0) :
    (outsAt0 m c t.val t.isLt).2.2 = k0_pay3 (k0_pay10 (iblk m c 0 t)) (k0_pay11 (iblk m c 0 t) (iblk m c 1 t) (iblk m c 2 t)) (k0_pay5 (F := F)) := by
  rw [outsAt0_A m c t h]; frame_out
theorem dw_rest (t : Fin cfg0.N) (h : ¬t.val % 8 = 0) :
    (outsAt0 m c t.val t.isLt).2.2 = k0_pay3 (k0_pay10 (iblk m c 0 t)) (k0_pay11 (iblk m c 0 t) (iblk m c 1 t) (iblk m c 2 t)) (prev m c t).2.2 := by
  rw [outsAt0_B m c t h]; frame_out
/-- Every point writes the gradient of its rows. -/
theorem dx_each (t : Fin cfg0.N) : (outsAt0 m c t.val t.isLt).2.1 = k0_pay2 (iblk m c 0 t) (k0_pay6 (iblk m c 1 t)) (k0_pay8 (iblk m c 0 t)) (k0_pay9 (iblk m c 0 t))
    (k0_pay11 (iblk m c 0 t) (iblk m c 1 t) (iblk m c 2 t)) := by
  by_cases h : t.val % 8 = 0
  · rw [outsAt0_A m c t h]; frame_out
  · rw [outsAt0_B m c t h]; frame_out

end Cert.LossIdeal.Val

end
-- ==== Proof.LossVal.lean ====
/- The loss and its gradients: what the call leaves in its arrays. -/
module

public import proofs.«01_k».proof.Proof.LossPoint

@[expose] public section

set_option maxRecDepth 8192

noncomputable section

namespace Cert.LossIdeal.Val

open Idealize.ShloMosaic hiding ix2
open Idealize.ShloMosaic.TcCoe Idealize.ShloMosaic.ValueIdx Idealize.ShloMosaic.Tactic
open Idealize.SL Idealize.SL.RA
open Cert.LossIdeal Cert.LossIdeal.Gen Cert.In

variable (m : (ℓ : Loc nD τ sig) → Buf (Elt Ideal) ℓ) (c : Dev nD)
variable {X Y : ℕ → ℕ → EReal} {w : ℕ → EReal}

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![0, 0] := (by decide +kernel : ∀ t : Fin grid0.N, _)

/-! ## The tiles a point reads -/

theorem blk0_0 (h : Has (R := 4096) (C := 1024) (V m c main_arg0) X) (t : Fin cfg0.N) :
    Has (R := 512) (C := 1024) (iblk (F := Ideal) m c 0 t) (fun a b => X (512 * t.val + a) b) := Has.of fun a b => by
  blk_simp [iblk]
  refine (h _).trans ?_
  blk_simp [idx0_0 t]
  congr 1 <;> first | rfl | (simp; omega)
theorem blk0_1 (h : Has (R := 1) (C := 1024) (V m c main_v0) (fun _ b => w b)) (t : Fin cfg0.N) :
    Has (R := 1) (C := 1024) (iblk (F := Ideal) m c 1 t) (fun _ b => w b) := Has.of fun a b => by
  blk_simp [iblk]
  refine (h _).trans ?_
  blk_simp [idx0_1 t]
theorem blk0_2 (h : Has (R := 4096) (C := 1024) (V m c main_arg2) Y) (t : Fin cfg0.N) :
    Has (R := 512) (C := 1024) (iblk (F := Ideal) m c 2 t) (fun a b => Y (512 * t.val + a) b) := Has.of fun a b => by
  blk_simp [iblk]
  refine (h _).trans ?_
  blk_simp [idx0_2 t]
  congr 1 <;> first | rfl | (simp; omega)

section
variable (hX : Has (R := 4096) (C := 1024) (V m c main_arg0) X) (hw : Has (R := 1) (C := 1024) (V m c main_v0) (fun _ b => w b))
  (hY : Has (R := 4096) (C := 1024) (V m c main_arg2) Y)
include hX hw hY

/-- The loss and the gradient of the norm's weight, from the tiles of rows done so far. -/
theorem sums_has : ∀ (n : ℕ) (h : n < cfg0.N), Has (R := 1) (C := 128) (outsAt0 (F := Ideal) m c n h).1 (fun _ _ => lossOf (512 * (n + 1)) X w Y)
    ∧ Has (R := 1) (C := 1024) (outsAt0 (F := Ideal) m c n h).2.2 (fun _ b => dwOf (512 * (n + 1)) X w Y b) := by
  intro n
  induction n with
  | zero =>
    intro h
    have e := loss_first (F := Ideal) m c ⟨0, h⟩ rfl
    have e' := dw_first (F := Ideal) m c ⟨0, h⟩ rfl
    dsimp only at e e'
    rw [e, e']
    refine ⟨(pay12_has (blk0_0 m c hX ⟨0, h⟩) (blk0_1 m c hw ⟨0, h⟩) (blk0_2 m c hY ⟨0, h⟩) pay4_zero).congr fun a b _ _ => ?_,
      (pay3_has (blk0_0 m c hX ⟨0, h⟩) (blk0_1 m c hw ⟨0, h⟩) (blk0_2 m c hY ⟨0, h⟩) pay5_zero).congr fun a b _ _ => ?_⟩
    · dsimp only
      simp only [zero_add, Nat.mul_zero]
    · dsimp only
      simp only [zero_add, Nat.mul_zero]
  | succ n ih =>
    intro h
    have hN : n + 1 < 8 := Nat.lt_of_lt_of_eq h N_0
    have e := loss_rest (F := Ideal) m c ⟨n + 1, h⟩ (by dsimp only; omega)
    have e' := dw_rest (F := Ideal) m c ⟨n + 1, h⟩ (by dsimp only; omega)
    dsimp only [prev, Nat.add_sub_cancel] at e e'
    rw [e, e']
    exact ⟨(pay12_has (blk0_0 m c hX ⟨n + 1, h⟩) (blk0_1 m c hw ⟨n + 1, h⟩) (blk0_2 m c hY ⟨n + 1, h⟩) (ih (by omega)).1).congr fun a b _ _ => lossOf_tile (n + 1) X w Y,
      (pay3_has (blk0_0 m c hX ⟨n + 1, h⟩) (blk0_1 m c hw ⟨n + 1, h⟩) (blk0_2 m c hY ⟨n + 1, h⟩) (ih (by omega)).2).congr fun a b _ _ => dwOf_tile (n + 1) X w Y b⟩

/-- The loss after the call, in every lane of its row. -/
theorem arr_loss : Has (R := 1) (C := 128) ((dats m 0 c).arrAt 3 cfg0.N) (fun _ _ => lossOf 4096 X w Y) := by
  refine congrFun ((dats m 0 c).arrAt_eq_of_covers 3 (fun i : S1x128.Idx => lossOf 4096 X w Y) (by decide +kernel) fun t hf y => ?_)
  have h7 := (flush0_3 t).mp hf
  blk_simp
  rw [after0_3]
  refine ((sums_has m c hX hw hY t.val t.isLt).1 y).trans ?_
  beta_reduce
  rw [show t.val + 1 = 8 by have := Nat.lt_of_lt_of_eq t.isLt N_0; omega]

/-- The gradient of the norm's weight after the call. -/
theorem arr_dw : Has (R := 1) (C := 1024) ((dats m 0 c).arrAt 5 cfg0.N) (fun _ b => dwOf 4096 X w Y b) := by
  refine congrFun ((dats m 0 c).arrAt_eq_of_covers 5 (fun i : S1x1024.Idx => dwOf 4096 X w Y (i 1).val) (by decide +kernel) fun t hf y => ?_)
  have h7 := (flush0_5 t).mp hf
  blk_simp
  rw [after0_5]
  refine ((sums_has m c hX hw hY t.val t.isLt).2 y).trans ?_
  beta_reduce
  rw [show t.val + 1 = 8 by have := Nat.lt_of_lt_of_eq t.isLt N_0; omega]
  blk_simp [idx0_5 t]

/-- The gradient of the rows after the call. -/
theorem arr_dx : Has (R := 4096) (C := 1024) ((dats m 0 c).arrAt 4 cfg0.N) (dlast X w Y) := by
  refine congrFun ((dats m 0 c).arrAt_eq_of_covers 4 (fun i : S4096x1024.Idx => dlast X w Y (i 0).val (i 1).val) (by decide +kernel) fun t hf y => ?_)
  blk_simp
  rw [after0_4, dx_each (F := Ideal) m c t]
  refine (pay2_has (blk0_0 m c hX t) (blk0_1 m c hw t) (blk0_2 m c hY t) y).trans ?_
  rw [dlast_shift X w Y (512 * t.val)]
  blk_simp [idx0_4 t]
  congr 1 <;> first | rfl | (simp; omega)
end

end Cert.LossIdeal.Val

end
-- ==== Proof.LossRef.lean ====
/- The reference of the loss and its gradients, operation by operation. -/
module

public import proofs.«01_k».proof.Proof.LossHead
public import proofs.«01_k».proof.Proof.Gen.RefLossIdeal.Read

@[expose] public section

set_option maxRecDepth 8192

noncomputable section

namespace Cert.RefLossIdeal.At

open Idealize.ShloMosaic Idealize.ShloMosaic.ValueIdx
open Cert.RefLossIdeal Cert.RefLossIdeal.Gen Cert.RefLossIdeal.Read Cert.In
open scoped BigOperators

variable {x0 x2 : FVec Ideal S4096x1024 .f32} {x1 : FVec Ideal S1024 .f32} {X Y : ℕ → ℕ → EReal} {w : ℕ → EReal}
variable (hX : Has x0 X) (hw : ∀ i, x1 i = w (i 0).val) (hY : Has x2 Y)

section
include hX

/-- Each row's mean square, and the small constant. -/
theorem v6_at : Has (val_main_v6 (F := Ideal) x0) (fun a _ => rms X a) := by
  intro i
  rw [val_main_v6_apply, val_main_v4_apply, val_main_v2_apply, val_main_v1_apply]
  show Ideal.div (Ideal.ofBits .f32 0x00000000#32 + _) (Ideal.ofBits .f32 0x44800000#32) + Ideal.ofBits .f32 0x358637BD#32 = _
  rw [zero_f32, zero_add]
  beta_reduce
  unfold rms
  rw [Finset.sum_range]
  congr 2
  refine Finset.sum_congr rfl fun k _ => ?_
  rw [val_main_v0_apply, hX]
  rfl

/-- The reciprocal of its root. -/
theorem v7_at : Has (val_main_v7 (F := Ideal) x0) (fun a _ => rinv X a) := by
  intro i
  rw [val_main_v7_apply, v6_at hX]
  rfl

/-- The derivative of that reciprocal. -/
theorem v10_at : Has (val_main_v10 (F := Ideal) x0) (fun a _ => Ideal.ofBits .f32 0xBF000000#32 * Ideal.div (rinv X a) (rms X a)) := by
  intro i
  rw [val_main_v10_apply, val_main_v8_apply, v7_at hX, v6_at hX]
  rfl

/-- The rows over their root mean squares. -/
theorem v12_at : Has (val_main_v12 (F := Ideal) x0) (xn X) := by
  intro i
  rw [val_main_v12_apply, val_main_v11_apply, v7_at hX, hX]
  rfl

include hw hY

/-- The rows less the targets. -/
theorem v16_at : Has (val_main_v16 (F := Ideal) x0 x1 x2) (err X w Y) := by
  intro i
  rw [val_main_v16_apply, val_main_v15_apply, v12_at hX, val_main_v14_apply, val_main_v13_apply, hw, hY]
  rfl

/-- The gradient of the loss in them. -/
theorem v30_at : Has (val_main_v30 (F := Ideal) x0 x1 x2) (dout X w Y) := by
  intro i
  rw [val_main_v30_apply, val_main_v19_apply, v16_at hX hw hY]
  exact half_mean_sq _

/-- Each row's mean square error. -/
theorem v22_at (i : S4096.Idx) : val_main_v22 (F := Ideal) x0 x1 x2 i = (∑ k ∈ Finset.range 1024, err X w Y (i 0).val k * err X w Y (i 0).val k) * inv1024 := by
  rw [val_main_v22_apply, val_main_v20_apply]
  show Ideal.div (Ideal.ofBits .f32 0x00000000#32 + _) (Ideal.ofBits .f32 0x44800000#32) = _
  rw [zero_f32, zero_add, div_1024, Finset.sum_range]
  refine congrArg (· * inv1024) (Finset.sum_congr rfl fun k _ => ?_)
  rw [val_main_v17_apply, v16_at hX hw hY]
  rfl

/-- The loss. -/
theorem v24_at (i : S_.Idx) : val_main_v24 (F := Ideal) x0 x1 x2 i = lossOf 4096 X w Y := by
  rw [val_main_v24_apply, val_main_v23_apply]
  show half * (Ideal.ofBits .f32 0x00000000#32 + _) = _
  rw [zero_f32, zero_add]
  exact congrArg (half * ·) (sum_vec _ (v22_at hX hw hY))

/-- The gradient of the norm's weight. -/
theorem v36_at (i : S1024.Idx) : val_main_v36 (F := Ideal) x0 x1 x2 i = dwOf 4096 X w Y (i 0).val := by
  rw [val_main_v36_apply]
  show Ideal.ofBits .f32 0x00000000#32 + _ = _
  rw [zero_f32, zero_add, Fin.sum_univ_one, val_main_v33_apply, val_main_v32_apply]
  show Ideal.ofBits .f32 0x00000000#32 + _ = _
  rw [zero_f32, zero_add]
  unfold dwOf
  rw [Finset.sum_range]
  refine Finset.sum_congr rfl fun k _ => ?_
  rw [val_main_v31_apply, v12_at hX, v30_at hX hw hY]
  have e : (idx_main_v33 (idx_main_v36 i 0) 0).val = (i 0).val := by
    show 0 * 1024 + (i 0).val = _
    omega
  show xn X k.val (idx_main_v33 (idx_main_v36 i 0) 0).val * dout X w Y k.val (idx_main_v33 (idx_main_v36 i 0) 0).val = _
  rw [e]

/-- The gradient of the rows over their root mean squares. -/
theorem v35_at : Has (val_main_v35 (F := Ideal) x0 x1 x2) (dxn X w Y) := by
  intro i
  rw [val_main_v35_apply, v30_at hX hw hY, val_main_v34_apply, val_main_v13_apply, hw]
  rfl

/-- What the mean square passes back. -/
theorem v46_at : Has (val_main_v46 (F := Ideal) x0 x1 x2) (fun a _ => back X w Y a) := by
  intro i
  rw [val_main_v46_apply, val_main_v45_apply]
  show Ideal.ofBits .f32 0x00000000#32 + _ = _
  rw [zero_f32, zero_add, Fin.sum_univ_one, val_main_v44_apply, val_main_v42_apply, v10_at hX, val_main_v39_apply, val_main_v38_apply]
  show Ideal.div ((Ideal.ofBits .f32 0x00000000#32 + _) * _) (Ideal.ofBits .f32 0x44800000#32) = _
  rw [zero_f32, zero_add]
  beta_reduce
  unfold back
  rw [Finset.sum_range]
  congr 2
  refine Finset.sum_congr rfl fun k _ => ?_
  rw [val_main_v37_apply, hX, v35_at hX hw hY]
  have e : (idx_main_v38 (idx_main_v39 (idx_main_v45 (idx_main_v46 i) 0)) k 0).val = (i 0).val := by
    show (i 0).val * 1 + 0 = _
    omega
  show X (idx_main_v38 (idx_main_v39 (idx_main_v45 (idx_main_v46 i) 0)) k 0).val k.val * dxn X w Y (idx_main_v38 (idx_main_v39 (idx_main_v45 (idx_main_v46 i) 0)) k 0).val k.val = _
  rw [e]

/-- The gradient of the rows. -/
theorem v50_at : Has (val_main_v50 (F := Ideal) x0 x1 x2) (dlast X w Y) := by
  intro i
  rw [val_main_v50_apply, val_main_v48_apply, val_main_v41_apply, val_main_v40_apply, val_main_v47_apply, val_main_v49_apply,
    v46_at hX hw hY, v35_at hX hw hY, v7_at hX, hX]
  rfl
end

end Cert.RefLossIdeal.At

end
-- ==== Proof.LossAlgebraic.lean ====
/- The loss and its gradients: kernel and reference compute the same. -/
module

public import proofs.«01_k».proof.Defs
public import proofs.«01_k».proof.Proof.LossVal
public import proofs.«01_k».proof.Proof.LossRef
public import proofs.«01_k».proof.Proof.Gen.LossIdeal

@[expose] public section

set_option maxRecDepth 8192

noncomputable section

namespace Cert.LossIdeal.Val

open Idealize.ShloMosaic hiding ix1 ix2
open Idealize.ShloMosaic.TcCoe Idealize.ShloMosaic.ValueIdx Idealize.ShloMosaic.Tactic
open Cert.LossIdeal Cert.LossIdeal.Gen Cert.In

section
variable (m : (ℓ : Loc nD τ sig) → Buf (Elt Ideal) ℓ) (c : Dev nD)

/-- The norm's weight as the call reads it: one row. -/
theorem V_w {w : ℕ → EReal} (hw : ∀ i : S1024.Idx, (m (c.tc.loc main_arg1)) i = w (i 0).val) : Has (R := 1) (C := 1024) (V m c main_v0) (fun _ b => w b) := by
  have e : V m c main_v0 = broadcastInDim S1x1024 ![1] bcast_S1024_S1x1024_1 (m (c.tc.loc main_arg1)) := by
    show StableHlo.after hostOps0 (fun b => m (c, b)) _ = _
    after_results
  rw [e]
  refine Has.of fun a b => ?_
  refine (broadcastInDim_apply _ bcast_S1024_S1x1024_1 _ (ix2 a b) (ix1 b) (fun z => ?_)).trans (hw _)
  match z with
  | ⟨0, _⟩ => show b.val = if (1024 : Nat) = 1 then 0 else b.val; rw [if_neg (by decide)]

/-- The loss at the end of the program: one lane of the row the call leaves. -/
theorem tail_loss {l : EReal} (h : Has (R := 1) (C := 128) ((dats m 0 c).arrAt 3 cfg0.N) (fun _ _ => l)) (i : S_.Idx) :
    Pipeline.afterTail₀ cfgs (dats m) 0 (V0 m) [hostOps1] c main_v3 i = l := by
  have e3 : Pipeline.withArrays (cfgs 0).spec c (V0 m c) (fun w => (dats m 0 c).arrAt w (cfgs 0).N) (Proc.devRef .tc main_v1_0) = (dats m 0 c).arrAt 3 cfg0.N :=
    Pipeline.withArrays_arr spec0 launch0.win.arr_inj c _ _ 3
  have e : Pipeline.afterTail₀ cfgs (dats m) 0 (V0 m) [hostOps1] c main_v3
      = shapeCast S_ (extractStridedSlice S1x1 ![0, 0] ((dats m 0 c).arrAt 3 cfg0.N) slices_S1x128_S1x1_0_0) shapeCasts_S1x1_S_ := by
    rw [← e3]
    show StableHlo.after hostOps1 _ _ = _
    after_results
    rfl
  rw [e]
  exact h _

/-- The gradient of the norm's weight at the end of the program: the row the call leaves, as a vector. -/
theorem tail_dw {f : ℕ → EReal} (h : Has (R := 1) (C := 1024) ((dats m 0 c).arrAt 5 cfg0.N) (fun _ b => f b)) (i : S1024.Idx) :
    Pipeline.afterTail₀ cfgs (dats m) 0 (V0 m) [hostOps1] c main_v4 i = f (i 0).val := by
  have e5 : Pipeline.withArrays (cfgs 0).spec c (V0 m c) (fun w => (dats m 0 c).arrAt w (cfgs 0).N) (Proc.devRef .tc main_v1_2) = (dats m 0 c).arrAt 5 cfg0.N :=
    Pipeline.withArrays_arr spec0 launch0.win.arr_inj c _ _ 5
  have e : Pipeline.afterTail₀ cfgs (dats m) 0 (V0 m) [hostOps1] c main_v4 = shapeCast S1024 ((dats m 0 c).arrAt 5 cfg0.N) shapeCasts_S1x1024_S1024 := by
    rw [← e5]
    show StableHlo.after hostOps1 _ _ = _
    after_results
    rfl
  rw [e]
  exact (shapeCast_apply _ shapeCasts_S1x1024_S1024 i (ix2 (0 : Fin 1) (⟨(i 0).val, (i 0).isLt⟩ : Fin 1024))
    (by rewrite [Shape.rowMajor_val_one, Shape.rowMajor_val_two]; show 0 * 1024 + (i 0).val = (i 0).val; omega)).trans (h _)
end

end Cert.LossIdeal.Val

namespace Cert.LossAlgebraic

open Idealize.ShloMosaic hiding ix1 ix2
open Idealize.ShloMosaic.TcCoe Idealize.ShloMosaic.ValueIdx Idealize.SL.Sem
open Cert.In

attribute [local instance] Cert.LossIdeal.Gen.facts Cert.RefLossIdeal.Gen.facts

open Cert.LossIdeal Cert.RefLossIdeal.Read

/-- The reference's results are the kernel program's, device by device. -/
theorem results (m : (ℓ : Loc nD τ sig) → Buf (Elt Ideal) ℓ) (c : Dev nD) :
    val_main_v24 (F := Ideal) (m (c.tc.loc main_arg0)) (m (c.tc.loc main_arg1)) (m (c.tc.loc main_arg2))
        = Pipeline.afterTail₀ cfgs (Gen.dats m) 0 (Gen.V0 m) [Gen.hostOps1] c main_v3
    ∧ val_main_v50 (F := Ideal) (m (c.tc.loc main_arg0)) (m (c.tc.loc main_arg1)) (m (c.tc.loc main_arg2)) = (Gen.dats m 0 c).arrAt 4 cfg0.N
    ∧ val_main_v36 (F := Ideal) (m (c.tc.loc main_arg0)) (m (c.tc.loc main_arg1)) (m (c.tc.loc main_arg2))
        = Pipeline.afterTail₀ cfgs (Gen.dats m) 0 (Gen.V0 m) [Gen.hostOps1] c main_v4 := by
  obtain ⟨X, hX⟩ := exists_has (R := 4096) (C := 1024) (m (c.tc.loc main_arg0))
  obtain ⟨w, hw⟩ := exists_row (C := 1024) (m (c.tc.loc main_arg1))
  obtain ⟨Y, hY⟩ := exists_has (R := 4096) (C := 1024) (m (c.tc.loc main_arg2))
  have kX : Has (R := 4096) (C := 1024) (Gen.V m c main_arg0) X := by rw [Gen.V_main_arg0 m c]; exact hX
  have kY : Has (R := 4096) (C := 1024) (Gen.V m c main_arg2) Y := by rw [Gen.V_main_arg2 m c]; exact hY
  have kw := Cert.LossIdeal.Val.V_w m c hw
  exact ⟨funext fun i => (Cert.RefLossIdeal.At.v24_at hX hw hY i).trans (Cert.LossIdeal.Val.tail_loss m c (Cert.LossIdeal.Val.arr_loss m c kX kw kY) i).symm,
    (Cert.RefLossIdeal.At.v50_at hX hw hY).eq (Cert.LossIdeal.Val.arr_dx m c kX kw kY),
    funext fun i => (Cert.RefLossIdeal.At.v36_at hX hw hY i).trans (Cert.LossIdeal.Val.tail_dw m c (Cert.LossIdeal.Val.arr_dw m c kX kw kY) i).symm⟩

/-- Kernel and reference end with equal results, the arguments unchanged. -/
theorem algebraic : Cert.algebraic_LossIdeal_RefLossIdeal := by
  intro m g m' g' hp hm
  refine ⟨fun c => Pipeline.afterTail₀ cfgs (Gen.dats m) 0 (Gen.V0 m) [Gen.hostOps1] c main_v3, fun c => (Gen.dats m 0 c).arrAt 4 cfg0.N,
    fun c => Pipeline.afterTail₀ cfgs (Gen.dats m) 0 (Gen.V0 m) [Gen.hostOps1] c main_v4, ?_, ?_⟩
  · refine (θ_run defs _ _).mono (fun r h c => ?_) (Gen.run_main (F := Ideal) m g)
    exact ⟨(h c).2 main_v3 (Pipeline.mem_restRefs_of _ (by decide) (by decide)), (h c).1 4, (h c).2 main_v4 (Pipeline.mem_restRefs_of _ (by decide) (by decide)),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c)))⟩
  · refine (θ_run Cert.RefLossIdeal.defs _ _).mono (fun r h c => ?_) (Cert.RefLossIdeal.Value.run (F := Ideal) m' g')
    obtain ⟨e0, e1, e2⟩ := hm c
    obtain ⟨s0, s1, s2⟩ := results m c
    obtain ⟨h0, h1, h2, h3⟩ := h c
    refine ⟨h0.trans ?_, h1.trans ?_, h2.trans ?_, h3⟩
    · rw [val_main_v24_eq, e0, e1, e2]; exact s0
    · rw [val_main_v50_eq, e0, e1, e2]; exact s1
    · rw [val_main_v36_eq, e0, e1, e2]; exact s2

end Cert.LossAlgebraic

end
-- ==== Proof.lean ====
/- The claims of this certificate, proved. -/
module

public import proofs.«01_k».proof.Defs
public import proofs.«01_k».proof.Proof.Frames
public import proofs.«01_k».proof.Proof.Algebraic
public import proofs.«01_k».proof.Proof.Gen.ReferenceIdeal.Run
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.GdnFrames
public import proofs.«01_k».proof.Proof.GdnAlgebraic
public import proofs.«01_k».proof.Proof.GdnBwdFrames
public import proofs.«01_k».proof.Proof.GdnBwdAlgebraic
public import proofs.«01_k».proof.Proof.Gen.GdnIn
public import proofs.«01_k».proof.Proof.Gen.GdnInIdeal
public import proofs.«01_k».proof.Proof.Gen.GdnInBwd
public import proofs.«01_k».proof.Proof.Gen.GdnInBwdIdeal
public import proofs.«01_k».proof.Proof.Gen.RefGdnInIdeal
public import proofs.«01_k».proof.Proof.Gen.RefGdnInBwdIdeal
public import proofs.«01_k».proof.Proof.Gen.GdnInBwdIdeal.Frame
public import proofs.«01_k».proof.Proof.Gen.RefGdnInIdeal.Run
public import proofs.«01_k».proof.Proof.Gen.RefGdnInIdeal.Read
public import proofs.«01_k».proof.Proof.Gen.RefGdnInBwdIdeal.Run
public import proofs.«01_k».proof.Proof.Gen.RefGdnInBwdIdeal.Read
public import proofs.«01_k».proof.Proof.FoxFrames
public import proofs.«01_k».proof.Proof.FoxAlgebraic
public import proofs.«01_k».proof.Proof.FoxBwdFrames
public import proofs.«01_k».proof.Proof.FoxBwdAlgebraic
public import proofs.«01_k».proof.Proof.Gen.FoxIn
public import proofs.«01_k».proof.Proof.Gen.FoxInIdeal
public import proofs.«01_k».proof.Proof.Gen.FoxInBwd
public import proofs.«01_k».proof.Proof.Gen.FoxInBwdIdeal
public import proofs.«01_k».proof.Proof.Gen.RefFoxInIdeal
public import proofs.«01_k».proof.Proof.Gen.RefFoxInBwdIdeal
public import proofs.«01_k».proof.Proof.Gen.FoxInBwdIdeal.Frame
public import proofs.«01_k».proof.Proof.Gen.RefFoxInIdeal.Run
public import proofs.«01_k».proof.Proof.Gen.RefFoxInIdeal.Read
public import proofs.«01_k».proof.Proof.Gen.RefFoxInBwdIdeal.Run
public import proofs.«01_k».proof.Proof.Gen.RefFoxInBwdIdeal.Read
public import proofs.«01_k».proof.Proof.GdnOutFrames
public import proofs.«01_k».proof.Proof.GdnOutAlgebraic
public import proofs.«01_k».proof.Proof.Gen.GdnOut
public import proofs.«01_k».proof.Proof.Gen.GdnOutIdeal
public import proofs.«01_k».proof.Proof.Gen.RefGdnOutIdeal
public import proofs.«01_k».proof.Proof.Gen.RefGdnOutIdeal.Run
public import proofs.«01_k».proof.Proof.Gen.RefGdnOutIdeal.Read
public import proofs.«01_k».proof.Proof.LossFrames
public import proofs.«01_k».proof.Proof.AdamFrames
public import proofs.«01_k».proof.Proof.AdamGdnIn
public import proofs.«01_k».proof.Proof.AdamGdnOut
public import proofs.«01_k».proof.Proof.AdamFoxIn
public import proofs.«01_k».proof.Proof.AdamFoxOut
public import proofs.«01_k».proof.Proof.AdamConv
public import proofs.«01_k».proof.Proof.AdamSmall
public import proofs.«01_k».proof.Proof.AdamAda
public import proofs.«01_k».proof.Proof.Gen.AdamGdnIn
public import proofs.«01_k».proof.Proof.Gen.AdamGdnIn.Frame
public import proofs.«01_k».proof.Proof.Gen.AdamGdnInIdeal
public import proofs.«01_k».proof.Proof.Gen.AdamGdnInIdeal.Frame
public import proofs.«01_k».proof.Proof.Gen.RefAdamGdnInIdeal
public import proofs.«01_k».proof.Proof.Gen.RefAdamGdnInIdeal.Run
public import proofs.«01_k».proof.Proof.Gen.AdamGdnOut
public import proofs.«01_k».proof.Proof.Gen.AdamGdnOut.Frame
public import proofs.«01_k».proof.Proof.Gen.AdamGdnOutIdeal
public import proofs.«01_k».proof.Proof.Gen.AdamGdnOutIdeal.Frame
public import proofs.«01_k».proof.Proof.Gen.RefAdamGdnOutIdeal
public import proofs.«01_k».proof.Proof.Gen.RefAdamGdnOutIdeal.Run
public import proofs.«01_k».proof.Proof.Gen.AdamFoxIn
public import proofs.«01_k».proof.Proof.Gen.AdamFoxIn.Frame
public import proofs.«01_k».proof.Proof.Gen.AdamFoxInIdeal
public import proofs.«01_k».proof.Proof.Gen.AdamFoxInIdeal.Frame
public import proofs.«01_k».proof.Proof.Gen.RefAdamFoxInIdeal
public import proofs.«01_k».proof.Proof.Gen.RefAdamFoxInIdeal.Run
public import proofs.«01_k».proof.Proof.Gen.AdamFoxOut
public import proofs.«01_k».proof.Proof.Gen.AdamFoxOut.Frame
public import proofs.«01_k».proof.Proof.Gen.AdamFoxOutIdeal
public import proofs.«01_k».proof.Proof.Gen.AdamFoxOutIdeal.Frame
public import proofs.«01_k».proof.Proof.Gen.RefAdamFoxOutIdeal
public import proofs.«01_k».proof.Proof.Gen.RefAdamFoxOutIdeal.Run
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.RefAdamConvIdeal
public import proofs.«01_k».proof.Proof.Gen.RefAdamConvIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.RefAdamSmallIdeal
public import proofs.«01_k».proof.Proof.Gen.RefAdamSmallIdeal.Run
public import proofs.«01_k».proof.Proof.Gen.AdamAda
public import proofs.«01_k».proof.Proof.Gen.AdamAda.Frame
public import proofs.«01_k».proof.Proof.Gen.AdamAdaIdeal
public import proofs.«01_k».proof.Proof.Gen.AdamAdaIdeal.Frame
public import proofs.«01_k».proof.Proof.Gen.RefAdamAdaIdeal
public import proofs.«01_k».proof.Proof.Gen.RefAdamAdaIdeal.Run
public import proofs.«01_k».proof.Proof.LossAlgebraic
public import proofs.«01_k».proof.Proof.Gen.Loss
public import proofs.«01_k».proof.Proof.Gen.LossIdeal
public import proofs.«01_k».proof.Proof.Gen.LossIdeal.Frame
public import proofs.«01_k».proof.Proof.Gen.RefLossIdeal
public import proofs.«01_k».proof.Proof.Gen.RefLossIdeal.Run
public import proofs.«01_k».proof.Proof.Gen.RefLossIdeal.Read

@[expose] public section

noncomputable section

namespace Cert.Proof

open Idealize.ShloMosaic Idealize.SL.Sem

/-- The whole claim: the frames, the step from the printed to the idealized kernel, and the equal results. -/
theorem claim : Cert.Claim :=
  ⟨Cert.Kernel.Gen.facts, Cert.KernelIdeal.Gen.facts, Cert.ReferenceIdeal.Gen.facts, Cert.GdnIn.Gen.facts,
    Cert.GdnInIdeal.Gen.facts, Cert.RefGdnInIdeal.Gen.facts, Cert.GdnInBwd.Gen.facts, Cert.GdnInBwdIdeal.Gen.facts,
    Cert.RefGdnInBwdIdeal.Gen.facts, Cert.FoxIn.Gen.facts, Cert.FoxInIdeal.Gen.facts, Cert.RefFoxInIdeal.Gen.facts,
    Cert.FoxInBwd.Gen.facts, Cert.FoxInBwdIdeal.Gen.facts, Cert.RefFoxInBwdIdeal.Gen.facts,
    Cert.GdnOut.Gen.facts, Cert.GdnOutIdeal.Gen.facts, Cert.RefGdnOutIdeal.Gen.facts,
    Cert.Loss.Gen.facts, Cert.LossIdeal.Gen.facts, Cert.RefLossIdeal.Gen.facts,
    Cert.AdamGdnIn.Gen.facts, Cert.AdamGdnInIdeal.Gen.facts, Cert.RefAdamGdnInIdeal.Gen.facts,
    Cert.AdamGdnOut.Gen.facts, Cert.AdamGdnOutIdeal.Gen.facts, Cert.RefAdamGdnOutIdeal.Gen.facts,
    Cert.AdamFoxIn.Gen.facts, Cert.AdamFoxInIdeal.Gen.facts, Cert.RefAdamFoxInIdeal.Gen.facts,
    Cert.AdamFoxOut.Gen.facts, Cert.AdamFoxOutIdeal.Gen.facts, Cert.RefAdamFoxOutIdeal.Gen.facts,
    Cert.AdamConv.Gen.facts, Cert.AdamConvIdeal.Gen.facts, Cert.RefAdamConvIdeal.Gen.facts,
    Cert.AdamSmall.Gen.facts, Cert.AdamSmallIdeal.Gen.facts, Cert.RefAdamSmallIdeal.Gen.facts,
    Cert.AdamAda.Gen.facts, Cert.AdamAdaIdeal.Gen.facts, Cert.RefAdamAdaIdeal.Gen.facts,
    Cert.Pre_finite.Gen.facts,
    Cert.Frames.kernel, Cert.Frames.kernelIdeal, Cert.Frames.kernelIdeal_pre, Cert.Frames.reference,
    Cert.Frames.reference_pre, Cert.GdnFrames.kernel, Cert.GdnFrames.kernelIdeal, Cert.GdnFrames.reference,
    Cert.GdnBwdFrames.kernel, Cert.GdnBwdFrames.kernelIdeal, Cert.GdnBwdFrames.reference, Cert.FoxFrames.kernel,
    Cert.FoxFrames.kernelIdeal, Cert.FoxFrames.reference, Cert.FoxBwdFrames.kernel, Cert.FoxBwdFrames.kernelIdeal,
    Cert.FoxBwdFrames.reference, Cert.GdnOutFrames.kernel, Cert.GdnOutFrames.kernelIdeal, Cert.GdnOutFrames.reference,
    Cert.LossFrames.kernel, Cert.LossFrames.kernelIdeal, Cert.LossFrames.reference,
    Cert.AdamFrames.gdnIn.1, Cert.AdamFrames.gdnIn.2.1, Cert.AdamFrames.gdnIn.2.2.1,
    Cert.AdamFrames.gdnOut.1, Cert.AdamFrames.gdnOut.2.1, Cert.AdamFrames.gdnOut.2.2.1,
    Cert.AdamFrames.foxIn.1, Cert.AdamFrames.foxIn.2.1, Cert.AdamFrames.foxIn.2.2.1,
    Cert.AdamFrames.foxOut.1, Cert.AdamFrames.foxOut.2.1, Cert.AdamFrames.foxOut.2.2.1,
    Cert.AdamFrames.conv.1, Cert.AdamFrames.conv.2.1, Cert.AdamFrames.conv.2.2.1,
    Cert.AdamFrames.small.1, Cert.AdamFrames.small.2.1, Cert.AdamFrames.small.2.2.1,
    Cert.AdamFrames.ada.1, Cert.AdamFrames.ada.2.1, Cert.AdamFrames.ada.2.2.1,
    Cert.Frames.preserves, Cert.Algebraic.algebraic, Cert.GdnFrames.preserves,
    Cert.GdnAlgebraic.algebraic, Cert.GdnBwdFrames.preserves, Cert.GdnBwdAlgebraic.algebraic, Cert.FoxFrames.preserves,
    Cert.FoxAlgebraic.algebraic, Cert.FoxBwdFrames.preserves, Cert.FoxBwdAlgebraic.algebraic,
    Cert.GdnOutFrames.preserves, Cert.GdnOutAlgebraic.algebraic, Cert.LossFrames.preserves, Cert.LossAlgebraic.algebraic,
    Cert.AdamFrames.gdnIn.2.2.2, Cert.AdamGdnInIdeal.Val.algebraic,
    Cert.AdamFrames.gdnOut.2.2.2, Cert.AdamGdnOutIdeal.Val.algebraic,
    Cert.AdamFrames.foxIn.2.2.2, Cert.AdamFoxInIdeal.Val.algebraic,
    Cert.AdamFrames.foxOut.2.2.2, Cert.AdamFoxOutIdeal.Val.algebraic,
    Cert.AdamFrames.conv.2.2.2, Cert.AdamConvIdeal.Val.algebraic,
    Cert.AdamFrames.small.2.2.2, Cert.AdamSmallIdeal.Val.algebraic,
    Cert.AdamFrames.ada.2.2.2, Cert.AdamAdaIdeal.Val.algebraic⟩

end Cert.Proof

end
